-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DWff2 (m : (ℓ : Loc Cert.DWff2.nD Cert.DWff2.τ Cert.DWff2.sig) → Buf (Elt Bits) ℓ) : Prop :=
  True

def Pre_DWff2Ideal (m : (ℓ : Loc Cert.DWff2Ideal.nD Cert.DWff2Ideal.τ Cert.DWff2Ideal.sig) → Buf (Elt Ideal) ℓ) : Prop :=
  True

def Pre_DWff2RefIdeal (m : (ℓ : Loc Cert.DWff2RefIdeal.nD Cert.DWff2RefIdeal.τ Cert.DWff2RefIdeal.sig) → Buf (Elt Ideal) ℓ) : Prop :=
  True

def Pre_DAff (m : (ℓ : Loc Cert.DAff.nD Cert.DAff.τ Cert.DAff.sig) → Buf (Elt Bits) ℓ) : Prop :=
  True

def Pre_DAffIdeal (m : (ℓ : Loc Cert.DAffIdeal.nD Cert.DAffIdeal.τ Cert.DAffIdeal.sig) → Buf (Elt Ideal) ℓ) : Prop :=
  True

def Pre_DAffRefIdeal (m : (ℓ : Loc Cert.DAffRefIdeal.nD Cert.DAffRefIdeal.τ Cert.DAffRefIdeal.sig) → Buf (Elt Ideal) ℓ) : Prop :=
  True

def Pre_DWff1 (m : (ℓ : Loc Cert.DWff1.nD Cert.DWff1.τ Cert.DWff1.sig) → Buf (Elt Bits) ℓ) : Prop :=
  True

def Pre_DWff1Ideal (m : (ℓ : Loc Cert.DWff1Ideal.nD Cert.DWff1Ideal.τ Cert.DWff1Ideal.sig) → Buf (Elt Ideal) ℓ) : Prop :=
  True

def Pre_DWff1RefIdeal (m : (ℓ : Loc Cert.DWff1RefIdeal.nD Cert.DWff1RefIdeal.τ Cert.DWff1RefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_DWout (m : (ℓ : Loc Cert.DWout.nD Cert.DWout.τ Cert.DWout.sig) → Buf (Elt Bits) ℓ) : Prop :=
  True

def Pre_DWoutIdeal (m : (ℓ : Loc Cert.DWoutIdeal.nD Cert.DWoutIdeal.τ Cert.DWoutIdeal.sig) → Buf (Elt Ideal) ℓ) : Prop :=
  True

def Pre_DWoutRefIdeal (m : (ℓ : Loc Cert.DWoutRefIdeal.nD Cert.DWoutRefIdeal.τ Cert.DWoutRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DWpleGate (m : (ℓ : Loc Cert.DWpleGate.nD Cert.DWpleGate.τ Cert.DWpleGate.sig) → Buf (Elt Bits) ℓ) : Prop :=
  True

def Pre_DWpleGateIdeal (m : (ℓ : Loc Cert.DWpleGateIdeal.nD Cert.DWpleGateIdeal.τ Cert.DWpleGateIdeal.sig) → Buf (Elt Ideal) ℓ) : Prop :=
  True

def Pre_DWpleGateRefIdeal (m : (ℓ : Loc Cert.DWpleGateRefIdeal.nD Cert.DWpleGateRefIdeal.τ Cert.DWpleGateRefIdeal.sig) → Buf (Elt Ideal) ℓ) : Prop :=
  True

def Pre_DH3 (m : (ℓ : Loc Cert.DH3.nD Cert.DH3.τ Cert.DH3.sig) → Buf (Elt Bits) ℓ) : Prop :=
  True

def Pre_DH3Ideal (m : (ℓ : Loc Cert.DH3Ideal.nD Cert.DH3Ideal.τ Cert.DH3Ideal.sig) → Buf (Elt Ideal) ℓ) : Prop :=
  True

def Pre_DH3RefIdeal (m : (ℓ : Loc Cert.DH3RefIdeal.nD Cert.DH3RefIdeal.τ Cert.DH3RefIdeal.sig) → Buf (Elt Ideal) ℓ) : Prop :=
  True

def Pre_DWple (m : (ℓ : Loc Cert.DWple.nD Cert.DWple.τ Cert.DWple.sig) → Buf (Elt Bits) ℓ) : Prop :=
  True

def Pre_DWpleIdeal (m : (ℓ : Loc Cert.DWpleIdeal.nD Cert.DWpleIdeal.τ Cert.DWpleIdeal.sig) → Buf (Elt Ideal) ℓ) : Prop :=
  True

def Pre_DWpleRefIdeal (m : (ℓ : Loc Cert.DWpleRefIdeal.nD Cert.DWpleRefIdeal.τ Cert.DWpleRefIdeal.sig) → Buf (Elt Ideal) ℓ) : Prop :=
  True

def Pre_DWbranch (m : (ℓ : Loc Cert.DWbranch.nD Cert.DWbranch.τ Cert.DWbranch.sig) → Buf (Elt Bits) ℓ) : Prop :=
  True

def Pre_DWbranchIdeal (m : (ℓ : Loc Cert.DWbranchIdeal.nD Cert.DWbranchIdeal.τ Cert.DWbranchIdeal.sig) → Buf (Elt Ideal) ℓ) : Prop :=
  True

def Pre_DWbranchRefIdeal (m : (ℓ : Loc Cert.DWbranchRefIdeal.nD Cert.DWbranchRefIdeal.τ Cert.DWbranchRefIdeal.sig) → Buf (Elt Ideal) ℓ) : Prop :=
  True

def Pre_DWbranch3 (m : (ℓ : Loc Cert.DWbranch3.nD Cert.DWbranch3.τ Cert.DWbranch3.sig) → Buf (Elt Bits) ℓ) : Prop :=
  True

def Pre_DWbranch3Ideal (m : (ℓ : Loc Cert.DWbranch3Ideal.nD Cert.DWbranch3Ideal.τ Cert.DWbranch3Ideal.sig) → Buf (Elt Ideal) ℓ) : Prop :=
  True

def Pre_DWbranch3RefIdeal (m : (ℓ : Loc Cert.DWbranch3RefIdeal.nD Cert.DWbranch3RefIdeal.τ Cert.DWbranch3RefIdeal.sig) → Buf (Elt Ideal) ℓ) : Prop :=
  True

def Pre_DWbranch0 (m : (ℓ : Loc Cert.DWbranch0.nD Cert.DWbranch0.τ Cert.DWbranch0.sig) → Buf (Elt Bits) ℓ) : Prop :=
  True

def Pre_DWbranch0Ideal (m : (ℓ : Loc Cert.DWbranch0Ideal.nD Cert.DWbranch0Ideal.τ Cert.DWbranch0Ideal.sig) → Buf (Elt Ideal) ℓ) : Prop :=
  True

def Pre_DWbranch0RefIdeal (m : (ℓ : Loc Cert.DWbranch0RefIdeal.nD Cert.DWbranch0RefIdeal.τ Cert.DWbranch0RefIdeal.sig) → Buf (Elt Ideal) ℓ) : Prop :=
  True

def Pre_DYa (m : (ℓ : Loc Cert.DYa.nD Cert.DYa.τ Cert.DYa.sig) → Buf (Elt Bits) ℓ) : Prop :=
  True

def Pre_DYaIdeal (m : (ℓ : Loc Cert.DYaIdeal.nD Cert.DYaIdeal.τ Cert.DYaIdeal.sig) → Buf (Elt Ideal) ℓ) : Prop :=
  True

def Pre_DYaRefIdeal (m : (ℓ : Loc Cert.DYaRefIdeal.nD Cert.DYaRefIdeal.τ Cert.DYaRefIdeal.sig) → Buf (Elt Ideal) ℓ) : Prop :=
  True

def Pre_DYc (m : (ℓ : Loc Cert.DYc.nD Cert.DYc.τ Cert.DYc.sig) → Buf (Elt Bits) ℓ) : Prop :=
  True

def Pre_DYcIdeal (m : (ℓ : Loc Cert.DYcIdeal.nD Cert.DYcIdeal.τ Cert.DYcIdeal.sig) → Buf (Elt Ideal) ℓ) : Prop :=
  True

def Pre_DYcRefIdeal (m : (ℓ : Loc Cert.DYcRefIdeal.nD Cert.DYcRefIdeal.τ Cert.DYcRefIdeal.sig) → Buf (Elt Ideal) ℓ) : Prop :=
  True

def Pre_DYb (m : (ℓ : Loc Cert.DYb.nD Cert.DYb.τ Cert.DYb.sig) → Buf (Elt Bits) ℓ) : Prop :=
  True

def Pre_DYbIdeal (m : (ℓ : Loc Cert.DYbIdeal.nD Cert.DYbIdeal.τ Cert.DYbIdeal.sig) → Buf (Elt Ideal) ℓ) : Prop :=
  True

def Pre_DYbRefIdeal (m : (ℓ : Loc Cert.DYbRefIdeal.nD Cert.DYbRefIdeal.τ Cert.DYbRefIdeal.sig) → Buf (Elt Ideal) ℓ) : Prop :=
  True

def Pre_DWin (m : (ℓ : Loc Cert.DWin.nD Cert.DWin.τ Cert.DWin.sig) → Buf (Elt Bits) ℓ) : Prop :=
  True

def Pre_DWinIdeal (m : (ℓ : Loc Cert.DWinIdeal.nD Cert.DWinIdeal.τ Cert.DWinIdeal.sig) → Buf (Elt Ideal) ℓ) : Prop :=
  True

def Pre_DWinRefIdeal (m : (ℓ : Loc Cert.DWinRefIdeal.nD Cert.DWinRefIdeal.τ Cert.DWinRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DWuq (m : (ℓ : Loc Cert.DWuq.nD Cert.DWuq.τ Cert.DWuq.sig) → Buf (Elt Bits) ℓ) : Prop :=
  True

def Pre_DWuqIdeal (m : (ℓ : Loc Cert.DWuqIdeal.nD Cert.DWuqIdeal.τ Cert.DWuqIdeal.sig) → Buf (Elt Ideal) ℓ) : Prop :=
  True

def Pre_DWuqRefIdeal (m : (ℓ : Loc Cert.DWuqRefIdeal.nD Cert.DWuqRefIdeal.τ Cert.DWuqRefIdeal.sig) → Buf (Elt Ideal) ℓ) : Prop :=
  True

def Pre_DCqn (m : (ℓ : Loc Cert.DCqn.nD Cert.DCqn.τ Cert.DCqn.sig) → Buf (Elt Bits) ℓ) : Prop :=
  True

def Pre_DCqnIdeal (m : (ℓ : Loc Cert.DCqnIdeal.nD Cert.DCqnIdeal.τ Cert.DCqnIdeal.sig) → Buf (Elt Ideal) ℓ) : Prop :=
  True

def Pre_DCqnRefIdeal (m : (ℓ : Loc Cert.DCqnRefIdeal.nD Cert.DCqnRefIdeal.τ Cert.DCqnRefIdeal.sig) → Buf (Elt Ideal) ℓ) : Prop :=
  True

def Pre_DWukv (m : (ℓ : Loc Cert.DWukv.nD Cert.DWukv.τ Cert.DWukv.sig) → Buf (Elt Bits) ℓ) : Prop :=
  True

def Pre_DWukvIdeal (m : (ℓ : Loc Cert.DWukvIdeal.nD Cert.DWukvIdeal.τ Cert.DWukvIdeal.sig) → Buf (Elt Ideal) ℓ) : Prop :=
  True

def Pre_DWukvRefIdeal (m : (ℓ : Loc Cert.DWukvRefIdeal.nD Cert.DWukvRefIdeal.τ Cert.DWukvRefIdeal.sig) → Buf (Elt Ideal) ℓ) : Prop :=
  True

def Pre_DCkvn (m : (ℓ : Loc Cert.DCkvn.nD Cert.DCkvn.τ Cert.DCkvn.sig) → Buf (Elt Bits) ℓ) : Prop :=
  True

def Pre_DCkvnIdeal (m : (ℓ : Loc Cert.DCkvnIdeal.nD Cert.DCkvnIdeal.τ Cert.DCkvnIdeal.sig) → Buf (Elt Ideal) ℓ) : Prop :=
  True

def Pre_DCkvnRefIdeal (m : (ℓ : Loc Cert.DCkvnRefIdeal.nD Cert.DCkvnRefIdeal.τ Cert.DCkvnRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_BranchMerge (m : (ℓ : Loc Cert.BranchMerge.nD Cert.BranchMerge.τ Cert.BranchMerge.sig) → Buf (Elt Bits) ℓ) : Prop :=
  True

def Pre_BranchMergeIdeal (m : (ℓ : Loc Cert.BranchMergeIdeal.nD Cert.BranchMergeIdeal.τ Cert.BranchMergeIdeal.sig) → Buf (Elt Ideal) ℓ) : Prop :=
  True

def Pre_BranchMergeRefIdeal (m : (ℓ : Loc Cert.BranchMergeRefIdeal.nD Cert.BranchMergeRefIdeal.τ Cert.BranchMergeRefIdeal.sig) → Buf (Elt Ideal) ℓ) : Prop :=
  True

def Pre_DWpool (m : (ℓ : Loc Cert.DWpool.nD Cert.DWpool.τ Cert.DWpool.sig) → Buf (Elt Bits) ℓ) : Prop :=
  True

def Pre_DWpoolIdeal (m : (ℓ : Loc Cert.DWpoolIdeal.nD Cert.DWpoolIdeal.τ Cert.DWpoolIdeal.sig) → Buf (Elt Ideal) ℓ) : Prop :=
  True

def Pre_DWpoolRefIdeal (m : (ℓ : Loc Cert.DWpoolRefIdeal.nD Cert.DWpoolRefIdeal.τ Cert.DWpoolRefIdeal.sig) → Buf (Elt Ideal) ℓ) : Prop :=
  True

def Pre_DPoolD (m : (ℓ : Loc Cert.DPoolD.nD Cert.DPoolD.τ Cert.DPoolD.sig) → Buf (Elt Bits) ℓ) : Prop :=
  True

def Pre_DPoolDIdeal (m : (ℓ : Loc Cert.DPoolDIdeal.nD Cert.DPoolDIdeal.τ Cert.DPoolDIdeal.sig) → Buf (Elt Ideal) ℓ) : Prop :=
  True

def Pre_DPoolDRefIdeal (m : (ℓ : Loc Cert.DPoolDRefIdeal.nD Cert.DPoolDRefIdeal.τ Cert.DPoolDRefIdeal.sig) → Buf (Elt Ideal) ℓ) : Prop :=
  True

def Pre_DLruW (m : (ℓ : Loc Cert.DLruW.nD Cert.DLruW.τ Cert.DLruW.sig) → Buf (Elt Bits) ℓ) : Prop :=
  True

def Pre_DLruWIdeal (m : (ℓ : Loc Cert.DLruWIdeal.nD Cert.DLruWIdeal.τ Cert.DLruWIdeal.sig) → Buf (Elt Ideal) ℓ) : Prop :=
  True

def Pre_DLruWRefIdeal (m : (ℓ : Loc Cert.DLruWRefIdeal.nD Cert.DLruWRefIdeal.τ Cert.DLruWRefIdeal.sig) → Buf (Elt Ideal) ℓ) : Prop :=
  True

def Pre_PoolMm (m : (ℓ : Loc Cert.PoolMm.nD Cert.PoolMm.τ Cert.PoolMm.sig) → Buf (Elt Bits) ℓ) : Prop :=
  True

def Pre_PoolMmIdeal (m : (ℓ : Loc Cert.PoolMmIdeal.nD Cert.PoolMmIdeal.τ Cert.PoolMmIdeal.sig) → Buf (Elt Ideal) ℓ) : Prop :=
  True

def Pre_PoolMmRefIdeal (m : (ℓ : Loc Cert.PoolMmRefIdeal.nD Cert.PoolMmRefIdeal.τ Cert.PoolMmRefIdeal.sig) → Buf (Elt Ideal) ℓ) : Prop :=
  True

def Pre_LruMm (m : (ℓ : Loc Cert.LruMm.nD Cert.LruMm.τ Cert.LruMm.sig) → Buf (Elt Bits) ℓ) : Prop :=
  True

def Pre_LruMmIdeal (m : (ℓ : Loc Cert.LruMmIdeal.nD Cert.LruMmIdeal.τ Cert.LruMmIdeal.sig) → Buf (Elt Ideal) ℓ) : Prop :=
  True

def Pre_LruMmRefIdeal (m : (ℓ : Loc Cert.LruMmRefIdeal.nD Cert.LruMmRefIdeal.τ Cert.LruMmRefIdeal.sig) → Buf (Elt Ideal) ℓ) : Prop :=
  True

def Pre_DXc (m : (ℓ : Loc Cert.DXc.nD Cert.DXc.τ Cert.DXc.sig) → Buf (Elt Bits) ℓ) : Prop :=
  True

def Pre_DXcIdeal (m : (ℓ : Loc Cert.DXcIdeal.nD Cert.DXcIdeal.τ Cert.DXcIdeal.sig) → Buf (Elt Ideal) ℓ) : Prop :=
  True

def Pre_DXcRefIdeal (m : (ℓ : Loc Cert.DXcRefIdeal.nD Cert.DXcRefIdeal.τ Cert.DXcRefIdeal.sig) → Buf (Elt Ideal) ℓ) : Prop :=
  True

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_finite_scores [hPre_finite_scores : Cert.Pre_finite_scores.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_finite_scores.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))) = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_finite_scores [hPre_finite_scores : Cert.Pre_finite_scores.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_finite_scores.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))) = (fun _ => 1#1)

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_PleEmb (m : (ℓ : Loc Cert.PleEmb.nD Cert.PleEmb.τ Cert.PleEmb.sig) → Buf (Elt Bits) ℓ) : Prop :=
  True

def Pre_PleEmbIdeal (m : (ℓ : Loc Cert.PleEmbIdeal.nD Cert.PleEmbIdeal.τ Cert.PleEmbIdeal.sig) → Buf (Elt Ideal) ℓ) : Prop :=
  True

def Pre_PleEmbRefIdeal (m : (ℓ : Loc Cert.PleEmbRefIdeal.nD Cert.PleEmbRefIdeal.τ Cert.PleEmbRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DWff2 [hDWff2 : Cert.DWff2.Facts] : Prop :=
  ∀ (m : (ℓ : Loc Cert.DWff2.nD Cert.DWff2.τ Cert.DWff2.sig) → Buf (Elt Bits) ℓ) (g : Dev Cert.DWff2.nD → PrngReg), Pre_DWff2 m →
    θ_run (Cert.DWff2.defs (F := Bits)) (onTc (τ := Cert.DWff2.τ) (Cert.DWff2.main (F := Bits))) ⟨m, fun _ => 0, g⟩ (fun r => (∀ c : Dev Cert.DWff2.nD,
      r.2.mem ((c.tc : Thread Cert.DWff2.nD Cert.DWff2.τ).loc Cert.DWff2.main_arg0) = m ((c.tc : Thread Cert.DWff2.nD Cert.DWff2.τ).loc Cert.DWff2.main_arg0)
      ∧ r.2.mem ((c.tc : Thread Cert.DWff2.nD Cert.DWff2.τ).loc Cert.DWff2.main_arg1) = m ((c.tc : Thread Cert.DWff2.nD Cert.DWff2.τ).loc Cert.DWff2.main_arg1)
      ∧ r.2.mem ((c.tc : Thread Cert.DWff2.nD Cert.DWff2.τ).loc Cert.DWff2.main_arg2) = m ((c.tc : Thread Cert.DWff2.nD Cert.DWff2.τ).loc Cert.DWff2.main_arg2))
      ∧ r.2.sem = fun _ => 0)

def quiescent_DWff2Ideal [hDWff2Ideal : Cert.DWff2Ideal.Facts] : Prop :=
  ∀ (m : (ℓ : Loc Cert.DWff2Ideal.nD Cert.DWff2Ideal.τ Cert.DWff2Ideal.sig) → Buf (Elt Ideal) ℓ) (g : Dev Cert.DWff2Ideal.nD → PrngReg), Pre_DWff2Ideal m →
    θ_run (Cert.DWff2Ideal.defs (F := Ideal)) (onTc (τ := Cert.DWff2Ideal.τ) (Cert.DWff2Ideal.main (F := Ideal))) ⟨m, fun _ => 0, g⟩ (fun r => (∀ c : Dev Cert.DWff2Ideal.nD,
      r.2.mem ((c.tc : Thread Cert.DWff2Ideal.nD Cert.DWff2Ideal.τ).loc Cert.DWff2Ideal.main_arg0) = m ((c.tc : Thread Cert.DWff2Ideal.nD Cert.DWff2Ideal.τ).loc Cert.DWff2Ideal.main_arg0)
      ∧ r.2.mem ((c.tc : Thread Cert.DWff2Ideal.nD Cert.DWff2Ideal.τ).loc Cert.DWff2Ideal.main_arg1) = m ((c.tc : Thread Cert.DWff2Ideal.nD Cert.DWff2Ideal.τ).loc Cert.DWff2Ideal.main_arg1)
      ∧ r.2.mem ((c.tc : Thread Cert.DWff2Ideal.nD Cert.DWff2Ideal.τ).loc Cert.DWff2Ideal.main_arg2) = m ((c.tc : Thread Cert.DWff2Ideal.nD Cert.DWff2Ideal.τ).loc Cert.DWff2Ideal.main_arg2))
      ∧ r.2.sem = fun _ => 0)

def quiescent_DWff2RefIdeal [hDWff2RefIdeal : Cert.DWff2RefIdeal.Facts] : Prop :=
  ∀ (m : (ℓ : Loc Cert.DWff2RefIdeal.nD Cert.DWff2RefIdeal.τ Cert.DWff2RefIdeal.sig) → Buf (Elt Ideal) ℓ) (g : Dev Cert.DWff2RefIdeal.nD → PrngReg), Pre_DWff2RefIdeal m →
    θ_run (Cert.DWff2RefIdeal.defs (F := Ideal)) (onTc (τ := Cert.DWff2RefIdeal.τ) (Cert.DWff2RefIdeal.main (F := Ideal))) ⟨m, fun _ => 0, g⟩ (fun r => (∀ c : Dev Cert.DWff2RefIdeal.nD,
      r.2.mem ((c.tc : Thread Cert.DWff2RefIdeal.nD Cert.DWff2RefIdeal.τ).loc Cert.DWff2RefIdeal.main_arg0) = m ((c.tc : Thread Cert.DWff2RefIdeal.nD Cert.DWff2RefIdeal.τ).loc Cert.DWff2RefIdeal.main_arg0)
      ∧ r.2.mem ((c.tc : Thread Cert.DWff2RefIdeal.nD Cert.DWff2RefIdeal.τ).loc Cert.DWff2RefIdeal.main_arg1) = m ((c.tc : Thread Cert.DWff2RefIdeal.nD Cert.DWff2RefIdeal.τ).loc Cert.DWff2RefIdeal.main_arg1)
      ∧ r.2.mem ((c.tc : Thread Cert.DWff2RefIdeal.nD Cert.DWff2RefIdeal.τ).loc Cert.DWff2RefIdeal.main_arg2) = m ((c.tc : Thread Cert.DWff2RefIdeal.nD Cert.DWff2RefIdeal.τ).loc Cert.DWff2RefIdeal.main_arg2))
      ∧ r.2.sem = fun _ => 0)

def quiescent_DAff [hDAff : Cert.DAff.Facts] : Prop :=
  ∀ (m : (ℓ : Loc Cert.DAff.nD Cert.DAff.τ Cert.DAff.sig) → Buf (Elt Bits) ℓ) (g : Dev Cert.DAff.nD → PrngReg), Pre_DAff m →
    θ_run (Cert.DAff.defs (F := Bits)) (onTc (τ := Cert.DAff.τ) (Cert.DAff.main (F := Bits))) ⟨m, fun _ => 0, g⟩ (fun r => (∀ c : Dev Cert.DAff.nD,
      r.2.mem ((c.tc : Thread Cert.DAff.nD Cert.DAff.τ).loc Cert.DAff.main_arg0) = m ((c.tc : Thread Cert.DAff.nD Cert.DAff.τ).loc Cert.DAff.main_arg0)
      ∧ r.2.mem ((c.tc : Thread Cert.DAff.nD Cert.DAff.τ).loc Cert.DAff.main_arg1) = m ((c.tc : Thread Cert.DAff.nD Cert.DAff.τ).loc Cert.DAff.main_arg1)
      ∧ r.2.mem ((c.tc : Thread Cert.DAff.nD Cert.DAff.τ).loc Cert.DAff.main_arg2) = m ((c.tc : Thread Cert.DAff.nD Cert.DAff.τ).loc Cert.DAff.main_arg2))
      ∧ r.2.sem = fun _ => 0)

def quiescent_DAffIdeal [hDAffIdeal : Cert.DAffIdeal.Facts] : Prop :=
  ∀ (m : (ℓ : Loc Cert.DAffIdeal.nD Cert.DAffIdeal.τ Cert.DAffIdeal.sig) → Buf (Elt Ideal) ℓ) (g : Dev Cert.DAffIdeal.nD → PrngReg), Pre_DAffIdeal m →
    θ_run (Cert.DAffIdeal.defs (F := Ideal)) (onTc (τ := Cert.DAffIdeal.τ) (Cert.DAffIdeal.main (F := Ideal))) ⟨m, fun _ => 0, g⟩ (fun r => (∀ c : Dev Cert.DAffIdeal.nD,
      r.2.mem ((c.tc : Thread Cert.DAffIdeal.nD Cert.DAffIdeal.τ).loc Cert.DAffIdeal.main_arg0) = m ((c.tc : Thread Cert.DAffIdeal.nD Cert.DAffIdeal.τ).loc Cert.DAffIdeal.main_arg0)
      ∧ r.2.mem ((c.tc : Thread Cert.DAffIdeal.nD Cert.DAffIdeal.τ).loc Cert.DAffIdeal.main_arg1) = m ((c.tc : Thread Cert.DAffIdeal.nD Cert.DAffIdeal.τ).loc Cert.DAffIdeal.main_arg1)
      ∧ r.2.mem ((c.tc : Thread Cert.DAffIdeal.nD Cert.DAffIdeal.τ).loc Cert.DAffIdeal.main_arg2) = m ((c.tc : Thread Cert.DAffIdeal.nD Cert.DAffIdeal.τ).loc Cert.DAffIdeal.main_arg2))
      ∧ r.2.sem = fun _ => 0)

def quiescent_DAffRefIdeal [hDAffRefIdeal : Cert.DAffRefIdeal.Facts] : Prop :=
  ∀ (m : (ℓ : Loc Cert.DAffRefIdeal.nD Cert.DAffRefIdeal.τ Cert.DAffRefIdeal.sig) → Buf (Elt Ideal) ℓ) (g : Dev Cert.DAffRefIdeal.nD → PrngReg), Pre_DAffRefIdeal m →
    θ_run (Cert.DAffRefIdeal.defs (F := Ideal)) (onTc (τ := Cert.DAffRefIdeal.τ) (Cert.DAffRefIdeal.main (F := Ideal))) ⟨m, fun _ => 0, g⟩ (fun r => (∀ c : Dev Cert.DAffRefIdeal.nD,
      r.2.mem ((c.tc : Thread Cert.DAffRefIdeal.nD Cert.DAffRefIdeal.τ).loc Cert.DAffRefIdeal.main_arg0) = m ((c.tc : Thread Cert.DAffRefIdeal.nD Cert.DAffRefIdeal.τ).loc Cert.DAffRefIdeal.main_arg0)
      ∧ r.2.mem ((c.tc : Thread Cert.DAffRefIdeal.nD Cert.DAffRefIdeal.τ).loc Cert.DAffRefIdeal.main_arg1) = m ((c.tc : Thread Cert.DAffRefIdeal.nD Cert.DAffRefIdeal.τ).loc Cert.DAffRefIdeal.main_arg1)
      ∧ r.2.mem ((c.tc : Thread Cert.DAffRefIdeal.nD Cert.DAffRefIdeal.τ).loc Cert.DAffRefIdeal.main_arg2) = m ((c.tc : Thread Cert.DAffRefIdeal.nD Cert.DAffRefIdeal.τ).loc Cert.DAffRefIdeal.main_arg2))
      ∧ r.2.sem = fun _ => 0)

def quiescent_DWff1 [hDWff1 : Cert.DWff1.Facts] : Prop :=
  ∀ (m : (ℓ : Loc Cert.DWff1.nD Cert.DWff1.τ Cert.DWff1.sig) → Buf (Elt Bits) ℓ) (g : Dev Cert.DWff1.nD → PrngReg), Pre_DWff1 m →
    θ_run (Cert.DWff1.defs (F := Bits)) (onTc (τ := Cert.DWff1.τ) (Cert.DWff1.main (F := Bits))) ⟨m, fun _ => 0, g⟩ (fun r => (∀ c : Dev Cert.DWff1.nD,
      r.2.mem ((c.tc : Thread Cert.DWff1.nD Cert.DWff1.τ).loc Cert.DWff1.main_arg0) = m ((c.tc : Thread Cert.DWff1.nD Cert.DWff1.τ).loc Cert.DWff1.main_arg0)
      ∧ r.2.mem ((c.tc : Thread Cert.DWff1.nD Cert.DWff1.τ).loc Cert.DWff1.main_arg1) = m ((c.tc : Thread Cert.DWff1.nD Cert.DWff1.τ).loc Cert.DWff1.main_arg1)
      ∧ r.2.mem ((c.tc : Thread Cert.DWff1.nD Cert.DWff1.τ).loc Cert.DWff1.main_arg2) = m ((c.tc : Thread Cert.DWff1.nD Cert.DWff1.τ).loc Cert.DWff1.main_arg2))
      ∧ r.2.sem = fun _ => 0)

def quiescent_DWff1Ideal [hDWff1Ideal : Cert.DWff1Ideal.Facts] : Prop :=
  ∀ (m : (ℓ : Loc Cert.DWff1Ideal.nD Cert.DWff1Ideal.τ Cert.DWff1Ideal.sig) → Buf (Elt Ideal) ℓ) (g : Dev Cert.DWff1Ideal.nD → PrngReg), Pre_DWff1Ideal m →
    θ_run (Cert.DWff1Ideal.defs (F := Ideal)) (onTc (τ := Cert.DWff1Ideal.τ) (Cert.DWff1Ideal.main (F := Ideal))) ⟨m, fun _ => 0, g⟩ (fun r => (∀ c : Dev Cert.DWff1Ideal.nD,
      r.2.mem ((c.tc : Thread Cert.DWff1Ideal.nD Cert.DWff1Ideal.τ).loc Cert.DWff1Ideal.main_arg0) = m ((c.tc : Thread Cert.DWff1Ideal.nD Cert.DWff1Ideal.τ).loc Cert.DWff1Ideal.main_arg0)
      ∧ r.2.mem ((c.tc : Thread Cert.DWff1Ideal.nD Cert.DWff1Ideal.τ).loc Cert.DWff1Ideal.main_arg1) = m ((c.tc : Thread Cert.DWff1Ideal.nD Cert.DWff1Ideal.τ).loc Cert.DWff1Ideal.main_arg1)
      ∧ r.2.mem ((c.tc : Thread Cert.DWff1Ideal.nD Cert.DWff1Ideal.τ).loc Cert.DWff1Ideal.main_arg2) = m ((c.tc : Thread Cert.DWff1Ideal.nD Cert.DWff1Ideal.τ).loc Cert.DWff1Ideal.main_arg2))
      ∧ r.2.sem = fun _ => 0)

def quiescent_DWff1RefIdeal [hDWff1RefIdeal : Cert.DWff1RefIdeal.Facts] : Prop :=
  ∀ (m : (ℓ : Loc Cert.DWff1RefIdeal.nD Cert.DWff1RefIdeal.τ Cert.DWff1RefIdeal.sig) → Buf (Elt Ideal) ℓ) (g : Dev Cert.DWff1RefIdeal.nD → PrngReg), Pre_DWff1RefIdeal m →
    θ_run (Cert.DWff1RefIdeal.defs (F := Ideal)) (onTc (τ := Cert.DWff1RefIdeal.τ) (Cert.DWff1RefIdeal.main (F := Ideal))) ⟨m, fun _ => 0, g⟩ (fun r => (∀ c : Dev Cert.DWff1RefIdeal.nD,
      r.2.mem ((c.tc : Thread Cert.DWff1RefIdeal.nD Cert.DWff1RefIdeal.τ).loc Cert.DWff1RefIdeal.main_arg0) = m ((c.tc : Thread Cert.DWff1RefIdeal.nD Cert.DWff1RefIdeal.τ).loc Cert.DWff1RefIdeal.main_arg0)
      ∧ r.2.mem ((c.tc : Thread Cert.DWff1RefIdeal.nD Cert.DWff1RefIdeal.τ).loc Cert.DWff1RefIdeal.main_arg1) = m ((c.tc : Thread Cert.DWff1RefIdeal.nD Cert.DWff1RefIdeal.τ).loc Cert.DWff1RefIdeal.main_arg1)
      ∧ r.2.mem ((c.tc : Thread Cert.DWff1RefIdeal.nD Cert.DWff1RefIdeal.τ).loc Cert.DWff1RefIdeal.main_arg2) = m ((c.tc : Thread Cert.DWff1RefIdeal.nD Cert.DWff1RefIdeal.τ).loc Cert.DWff1RefIdeal.main_arg2))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1)
      ∧ r.2.mem ((c.tc : Thread Cert.DH2.nD Cert.DH2.τ).loc Cert.DH2.main_arg2) = m ((c.tc : Thread Cert.DH2.nD Cert.DH2.τ).loc Cert.DH2.main_arg2))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
      ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1)
      ∧ r.2.mem ((c.tc : Thread Cert.DH2RefIdeal.nD Cert.DH2RefIdeal.τ).loc Cert.DH2RefIdeal.main_arg2) = m ((c.tc : Thread Cert.DH2RefIdeal.nD Cert.DH2RefIdeal.τ).loc Cert.DH2RefIdeal.main_arg2))
      ∧ r.2.sem = fun _ => 0)

def quiescent_DWout [hDWout : Cert.DWout.Facts] : Prop :=
  ∀ (m : (ℓ : Loc Cert.DWout.nD Cert.DWout.τ Cert.DWout.sig) → Buf (Elt Bits) ℓ) (g : Dev Cert.DWout.nD → PrngReg), Pre_DWout m →
    θ_run (Cert.DWout.defs (F := Bits)) (onTc (τ := Cert.DWout.τ) (Cert.DWout.main (F := Bits))) ⟨m, fun _ => 0, g⟩ (fun r => (∀ c : Dev Cert.DWout.nD,
      r.2.mem ((c.tc : Thread Cert.DWout.nD Cert.DWout.τ).loc Cert.DWout.main_arg0) = m ((c.tc : Thread Cert.DWout.nD Cert.DWout.τ).loc Cert.DWout.main_arg0)
      ∧ r.2.mem ((c.tc : Thread Cert.DWout.nD Cert.DWout.τ).loc Cert.DWout.main_arg1) = m ((c.tc : Thread Cert.DWout.nD Cert.DWout.τ).loc Cert.DWout.main_arg1)
      ∧ r.2.mem ((c.tc : Thread Cert.DWout.nD Cert.DWout.τ).loc Cert.DWout.main_arg2) = m ((c.tc : Thread Cert.DWout.nD Cert.DWout.τ).loc Cert.DWout.main_arg2))
      ∧ r.2.sem = fun _ => 0)

def quiescent_DWoutIdeal [hDWoutIdeal : Cert.DWoutIdeal.Facts] : Prop :=
  ∀ (m : (ℓ : Loc Cert.DWoutIdeal.nD Cert.DWoutIdeal.τ Cert.DWoutIdeal.sig) → Buf (Elt Ideal) ℓ) (g : Dev Cert.DWoutIdeal.nD → PrngReg), Pre_DWoutIdeal m →
    θ_run (Cert.DWoutIdeal.defs (F := Ideal)) (onTc (τ := Cert.DWoutIdeal.τ) (Cert.DWoutIdeal.main (F := Ideal))) ⟨m, fun _ => 0, g⟩ (fun r => (∀ c : Dev Cert.DWoutIdeal.nD,
      r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
      ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1)
      ∧ r.2.mem ((c.tc : Thread Cert.DWoutIdeal.nD Cert.DWoutIdeal.τ).loc Cert.DWoutIdeal.main_arg2) = m ((c.tc : Thread Cert.DWoutIdeal.nD Cert.DWoutIdeal.τ).loc Cert.DWoutIdeal.main_arg2))
      ∧ r.2.sem = fun _ => 0)

def quiescent_DWoutRefIdeal [hDWoutRefIdeal : Cert.DWoutRefIdeal.Facts] : Prop :=
  ∀ (m : (ℓ : Loc Cert.DWoutRefIdeal.nD Cert.DWoutRefIdeal.τ Cert.DWoutRefIdeal.sig) → Buf (Elt Ideal) ℓ) (g : Dev Cert.DWoutRefIdeal.nD → PrngReg), Pre_DWoutRefIdeal m →
    θ_run (Cert.DWoutRefIdeal.defs (F := Ideal)) (onTc (τ := Cert.DWoutRefIdeal.τ) (Cert.DWoutRefIdeal.main (F := Ideal))) ⟨m, fun _ => 0, g⟩ (fun r => (∀ c : Dev Cert.DWoutRefIdeal.nD,
      r.2.mem ((c.tc : Thread Cert.DWoutRefIdeal.nD Cert.DWoutRefIdeal.τ).loc Cert.DWoutRefIdeal.main_arg0) = m ((c.tc : Thread Cert.DWoutRefIdeal.nD Cert.DWoutRefIdeal.τ).loc Cert.DWoutRefIdeal.main_arg0)
      ∧ r.2.mem ((c.tc : Thread Cert.DWoutRefIdeal.nD Cert.DWoutRefIdeal.τ).loc Cert.DWoutRefIdeal.main_arg1) = m ((c.tc : Thread Cert.DWoutRefIdeal.nD Cert.DWoutRefIdeal.τ).loc Cert.DWoutRefIdeal.main_arg1)
      ∧ r.2.mem ((c.tc : Thread Cert.DWoutRefIdeal.nD Cert.DWoutRefIdeal.τ).loc Cert.DWoutRefIdeal.main_arg2) = m ((c.tc : Thread Cert.DWoutRefIdeal.nD Cert.DWoutRefIdeal.τ).loc Cert.DWoutRefIdeal.main_arg2))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1)
      ∧ r.2.mem ((c.tc : Thread Cert.DMerged.nD Cert.DMerged.τ).loc Cert.DMerged.main_arg2) = m ((c.tc : Thread Cert.DMerged.nD Cert.DMerged.τ).loc Cert.DMerged.main_arg2))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1)
      ∧ r.2.mem ((c.tc : Thread Cert.DMergedIdeal.nD Cert.DMergedIdeal.τ).loc Cert.DMergedIdeal.main_arg2) = m ((c.tc : Thread Cert.DMergedIdeal.nD Cert.DMergedIdeal.τ).loc Cert.DMergedIdeal.main_arg2))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1)
      ∧ r.2.mem ((c.tc : Thread Cert.DMergedRefIdeal.nD Cert.DMergedRefIdeal.τ).loc Cert.DMergedRefIdeal.main_arg2) = m ((c.tc : Thread Cert.DMergedRefIdeal.nD Cert.DMergedRefIdeal.τ).loc Cert.DMergedRefIdeal.main_arg2))
      ∧ r.2.sem = fun _ => 0)

def quiescent_DWpleGate [hDWpleGate : Cert.DWpleGate.Facts] : Prop :=
  ∀ (m : (ℓ : Loc Cert.DWpleGate.nD Cert.DWpleGate.τ Cert.DWpleGate.sig) → Buf (Elt Bits) ℓ) (g : Dev Cert.DWpleGate.nD → PrngReg), Pre_DWpleGate m →
    θ_run (Cert.DWpleGate.defs (F := Bits)) (onTc (τ := Cert.DWpleGate.τ) (Cert.DWpleGate.main (F := Bits))) ⟨m, fun _ => 0, g⟩ (fun r => (∀ c : Dev Cert.DWpleGate.nD,
      r.2.mem ((c.tc : Thread Cert.DWpleGate.nD Cert.DWpleGate.τ).loc Cert.DWpleGate.main_arg0) = m ((c.tc : Thread Cert.DWpleGate.nD Cert.DWpleGate.τ).loc Cert.DWpleGate.main_arg0)
      ∧ r.2.mem ((c.tc : Thread Cert.DWpleGate.nD Cert.DWpleGate.τ).loc Cert.DWpleGate.main_arg1) = m ((c.tc : Thread Cert.DWpleGate.nD Cert.DWpleGate.τ).loc Cert.DWpleGate.main_arg1)
      ∧ r.2.mem ((c.tc : Thread Cert.DWpleGate.nD Cert.DWpleGate.τ).loc Cert.DWpleGate.main_arg2) = m ((c.tc : Thread Cert.DWpleGate.nD Cert.DWpleGate.τ).loc Cert.DWpleGate.main_arg2))
      ∧ r.2.sem = fun _ => 0)

def quiescent_DWpleGateIdeal [hDWpleGateIdeal : Cert.DWpleGateIdeal.Facts] : Prop :=
  ∀ (m : (ℓ : Loc Cert.DWpleGateIdeal.nD Cert.DWpleGateIdeal.τ Cert.DWpleGateIdeal.sig) → Buf (Elt Ideal) ℓ) (g : Dev Cert.DWpleGateIdeal.nD → PrngReg), Pre_DWpleGateIdeal m →
    θ_run (Cert.DWpleGateIdeal.defs (F := Ideal)) (onTc (τ := Cert.DWpleGateIdeal.τ) (Cert.DWpleGateIdeal.main (F := Ideal))) ⟨m, fun _ => 0, g⟩ (fun r => (∀ c : Dev Cert.DWpleGateIdeal.nD,
      r.2.mem ((c.tc : Thread Cert.DWpleGateIdeal.nD Cert.DWpleGateIdeal.τ).loc Cert.DWpleGateIdeal.main_arg0) = m ((c.tc : Thread Cert.DWpleGateIdeal.nD Cert.DWpleGateIdeal.τ).loc Cert.DWpleGateIdeal.main_arg0)
      ∧ r.2.mem ((c.tc : Thread Cert.DWpleGateIdeal.nD Cert.DWpleGateIdeal.τ).loc Cert.DWpleGateIdeal.main_arg1) = m ((c.tc : Thread Cert.DWpleGateIdeal.nD Cert.DWpleGateIdeal.τ).loc Cert.DWpleGateIdeal.main_arg1)
      ∧ r.2.mem ((c.tc : Thread Cert.DWpleGateIdeal.nD Cert.DWpleGateIdeal.τ).loc Cert.DWpleGateIdeal.main_arg2) = m ((c.tc : Thread Cert.DWpleGateIdeal.nD Cert.DWpleGateIdeal.τ).loc Cert.DWpleGateIdeal.main_arg2))
      ∧ r.2.sem = fun _ => 0)

def quiescent_DWpleGateRefIdeal [hDWpleGateRefIdeal : Cert.DWpleGateRefIdeal.Facts] : Prop :=
  ∀ (m : (ℓ : Loc Cert.DWpleGateRefIdeal.nD Cert.DWpleGateRefIdeal.τ Cert.DWpleGateRefIdeal.sig) → Buf (Elt Ideal) ℓ) (g : Dev Cert.DWpleGateRefIdeal.nD → PrngReg), Pre_DWpleGateRefIdeal m →
    θ_run (Cert.DWpleGateRefIdeal.defs (F := Ideal)) (onTc (τ := Cert.DWpleGateRefIdeal.τ) (Cert.DWpleGateRefIdeal.main (F := Ideal))) ⟨m, fun _ => 0, g⟩ (fun r => (∀ c : Dev Cert.DWpleGateRefIdeal.nD,
      r.2.mem ((c.tc : Thread Cert.DWpleGateRefIdeal.nD Cert.DWpleGateRefIdeal.τ).loc Cert.DWpleGateRefIdeal.main_arg0) = m ((c.tc : Thread Cert.DWpleGateRefIdeal.nD Cert.DWpleGateRefIdeal.τ).loc Cert.DWpleGateRefIdeal.main_arg0)
      ∧ r.2.mem ((c.tc : Thread Cert.DWpleGateRefIdeal.nD Cert.DWpleGateRefIdeal.τ).loc Cert.DWpleGateRefIdeal.main_arg1) = m ((c.tc : Thread Cert.DWpleGateRefIdeal.nD Cert.DWpleGateRefIdeal.τ).loc Cert.DWpleGateRefIdeal.main_arg1)
      ∧ r.2.mem ((c.tc : Thread Cert.DWpleGateRefIdeal.nD Cert.DWpleGateRefIdeal.τ).loc Cert.DWpleGateRefIdeal.main_arg2) = m ((c.tc : Thread Cert.DWpleGateRefIdeal.nD Cert.DWpleGateRefIdeal.τ).loc Cert.DWpleGateRefIdeal.main_arg2))
      ∧ r.2.sem = fun _ => 0)

def quiescent_DH3 [hDH3 : Cert.DH3.Facts] : Prop :=
  ∀ (m : (ℓ : Loc Cert.DH3.nD Cert.DH3.τ Cert.DH3.sig) → Buf (Elt Bits) ℓ) (g : Dev Cert.DH3.nD → PrngReg), Pre_DH3 m →
    θ_run (Cert.DH3.defs (F := Bits)) (onTc (τ := Cert.DH3.τ) (Cert.DH3.main (F := Bits))) ⟨m, fun _ => 0, g⟩ (fun r => (∀ c : Dev Cert.DH3.nD,
      r.2.mem ((c.tc : Thread Cert.DH3.nD Cert.DH3.τ).loc Cert.DH3.main_arg0) = m ((c.tc : Thread Cert.DH3.nD Cert.DH3.τ).loc Cert.DH3.main_arg0)
      ∧ r.2.mem ((c.tc : Thread Cert.DH3.nD Cert.DH3.τ).loc Cert.DH3.main_arg1) = m ((c.tc : Thread Cert.DH3.nD Cert.DH3.τ).loc Cert.DH3.main_arg1)
      ∧ r.2.mem ((c.tc : Thread Cert.DH3.nD Cert.DH3.τ).loc Cert.DH3.main_arg2) = m ((c.tc : Thread Cert.DH3.nD Cert.DH3.τ).loc Cert.DH3.main_arg2))
      ∧ r.2.sem = fun _ => 0)

def quiescent_DH3Ideal [hDH3Ideal : Cert.DH3Ideal.Facts] : Prop :=
  ∀ (m : (ℓ : Loc Cert.DH3Ideal.nD Cert.DH3Ideal.τ Cert.DH3Ideal.sig) → Buf (Elt Ideal) ℓ) (g : Dev Cert.DH3Ideal.nD → PrngReg), Pre_DH3Ideal m →
    θ_run (Cert.DH3Ideal.defs (F := Ideal)) (onTc (τ := Cert.DH3Ideal.τ) (Cert.DH3Ideal.main (F := Ideal))) ⟨m, fun _ => 0, g⟩ (fun r => (∀ c : Dev Cert.DH3Ideal.nD,
      r.2.mem ((c.tc : Thread Cert.DH3Ideal.nD Cert.DH3Ideal.τ).loc Cert.DH3Ideal.main_arg0) = m ((c.tc : Thread Cert.DH3Ideal.nD Cert.DH3Ideal.τ).loc Cert.DH3Ideal.main_arg0)
      ∧ r.2.mem ((c.tc : Thread Cert.DH3Ideal.nD Cert.DH3Ideal.τ).loc Cert.DH3Ideal.main_arg1) = m ((c.tc : Thread Cert.DH3Ideal.nD Cert.DH3Ideal.τ).loc Cert.DH3Ideal.main_arg1)
      ∧ r.2.mem ((c.tc : Thread Cert.DH3Ideal.nD Cert.DH3Ideal.τ).loc Cert.DH3Ideal.main_arg2) = m ((c.tc : Thread Cert.DH3Ideal.nD Cert.DH3Ideal.τ).loc Cert.DH3Ideal.main_arg2))
      ∧ r.2.sem = fun _ => 0)

def quiescent_DH3RefIdeal [hDH3RefIdeal : Cert.DH3RefIdeal.Facts] : Prop :=
  ∀ (m : (ℓ : Loc Cert.DH3RefIdeal.nD Cert.DH3RefIdeal.τ Cert.DH3RefIdeal.sig) → Buf (Elt Ideal) ℓ) (g : Dev Cert.DH3RefIdeal.nD → PrngReg), Pre_DH3RefIdeal m →
    θ_run (Cert.DH3RefIdeal.defs (F := Ideal)) (onTc (τ := Cert.DH3RefIdeal.τ) (Cert.DH3RefIdeal.main (F := Ideal))) ⟨m, fun _ => 0, g⟩ (fun r => (∀ c : Dev Cert.DH3RefIdeal.nD,
      r.2.mem ((c.tc : Thread Cert.DH3RefIdeal.nD Cert.DH3RefIdeal.τ).loc Cert.DH3RefIdeal.main_arg0) = m ((c.tc : Thread Cert.DH3RefIdeal.nD Cert.DH3RefIdeal.τ).loc Cert.DH3RefIdeal.main_arg0)
      ∧ r.2.mem ((c.tc : Thread Cert.DH3RefIdeal.nD Cert.DH3RefIdeal.τ).loc Cert.DH3RefIdeal.main_arg1) = m ((c.tc : Thread Cert.DH3RefIdeal.nD Cert.DH3RefIdeal.τ).loc Cert.DH3RefIdeal.main_arg1)
      ∧ r.2.mem ((c.tc : Thread Cert.DH3RefIdeal.nD Cert.DH3RefIdeal.τ).loc Cert.DH3RefIdeal.main_arg2) = m ((c.tc : Thread Cert.DH3RefIdeal.nD Cert.DH3RefIdeal.τ).loc Cert.DH3RefIdeal.main_arg2))
      ∧ r.2.sem = fun _ => 0)

def quiescent_DWple [hDWple : Cert.DWple.Facts] : Prop :=
  ∀ (m : (ℓ : Loc Cert.DWple.nD Cert.DWple.τ Cert.DWple.sig) → Buf (Elt Bits) ℓ) (g : Dev Cert.DWple.nD → PrngReg), Pre_DWple m →
    θ_run (Cert.DWple.defs (F := Bits)) (onTc (τ := Cert.DWple.τ) (Cert.DWple.main (F := Bits))) ⟨m, fun _ => 0, g⟩ (fun r => (∀ c : Dev Cert.DWple.nD,
      r.2.mem ((c.tc : Thread Cert.DWple.nD Cert.DWple.τ).loc Cert.DWple.main_arg0) = m ((c.tc : Thread Cert.DWple.nD Cert.DWple.τ).loc Cert.DWple.main_arg0)
      ∧ r.2.mem ((c.tc : Thread Cert.DWple.nD Cert.DWple.τ).loc Cert.DWple.main_arg1) = m ((c.tc : Thread Cert.DWple.nD Cert.DWple.τ).loc Cert.DWple.main_arg1)
      ∧ r.2.mem ((c.tc : Thread Cert.DWple.nD Cert.DWple.τ).loc Cert.DWple.main_arg2) = m ((c.tc : Thread Cert.DWple.nD Cert.DWple.τ).loc Cert.DWple.main_arg2))
      ∧ r.2.sem = fun _ => 0)

def quiescent_DWpleIdeal [hDWpleIdeal : Cert.DWpleIdeal.Facts] : Prop :=
  ∀ (m : (ℓ : Loc Cert.DWpleIdeal.nD Cert.DWpleIdeal.τ Cert.DWpleIdeal.sig) → Buf (Elt Ideal) ℓ) (g : Dev Cert.DWpleIdeal.nD → PrngReg), Pre_DWpleIdeal m →
    θ_run (Cert.DWpleIdeal.defs (F := Ideal)) (onTc (τ := Cert.DWpleIdeal.τ) (Cert.DWpleIdeal.main (F := Ideal))) ⟨m, fun _ => 0, g⟩ (fun r => (∀ c : Dev Cert.DWpleIdeal.nD,
      r.2.mem ((c.tc : Thread Cert.DWpleIdeal.nD Cert.DWpleIdeal.τ).loc Cert.DWpleIdeal.main_arg0) = m ((c.tc : Thread Cert.DWpleIdeal.nD Cert.DWpleIdeal.τ).loc Cert.DWpleIdeal.main_arg0)
      ∧ r.2.mem ((c.tc : Thread Cert.DWpleIdeal.nD Cert.DWpleIdeal.τ).loc Cert.DWpleIdeal.main_arg1) = m ((c.tc : Thread Cert.DWpleIdeal.nD Cert.DWpleIdeal.τ).loc Cert.DWpleIdeal.main_arg1)
      ∧ r.2.mem ((c.tc : Thread Cert.DWpleIdeal.nD Cert.DWpleIdeal.τ).loc Cert.DWpleIdeal.main_arg2) = m ((c.tc : Thread Cert.DWpleIdeal.nD Cert.DWpleIdeal.τ).loc Cert.DWpleIdeal.main_arg2))
      ∧ r.2.sem = fun _ => 0)

def quiescent_DWpleRefIdeal [hDWpleRefIdeal : Cert.DWpleRefIdeal.Facts] : Prop :=
  ∀ (m : (ℓ : Loc Cert.DWpleRefIdeal.nD Cert.DWpleRefIdeal.τ Cert.DWpleRefIdeal.sig) → Buf (Elt Ideal) ℓ) (g : Dev Cert.DWpleRefIdeal.nD → PrngReg), Pre_DWpleRefIdeal m →
    θ_run (Cert.DWpleRefIdeal.defs (F := Ideal)) (onTc (τ := Cert.DWpleRefIdeal.τ) (Cert.DWpleRefIdeal.main (F := Ideal))) ⟨m, fun _ => 0, g⟩ (fun r => (∀ c : Dev Cert.DWpleRefIdeal.nD,
      r.2.mem ((c.tc : Thread Cert.DWpleRefIdeal.nD Cert.DWpleRefIdeal.τ).loc Cert.DWpleRefIdeal.main_arg0) = m ((c.tc : Thread Cert.DWpleRefIdeal.nD Cert.DWpleRefIdeal.τ).loc Cert.DWpleRefIdeal.main_arg0)
      ∧ r.2.mem ((c.tc : Thread Cert.DWpleRefIdeal.nD Cert.DWpleRefIdeal.τ).loc Cert.DWpleRefIdeal.main_arg1) = m ((c.tc : Thread Cert.DWpleRefIdeal.nD Cert.DWpleRefIdeal.τ).loc Cert.DWpleRefIdeal.main_arg1)
      ∧ r.2.mem ((c.tc : Thread Cert.DWpleRefIdeal.nD Cert.DWpleRefIdeal.τ).loc Cert.DWpleRefIdeal.main_arg2) = m ((c.tc : Thread Cert.DWpleRefIdeal.nD Cert.DWpleRefIdeal.τ).loc Cert.DWpleRefIdeal.main_arg2))
      ∧ r.2.sem = fun _ => 0)

def quiescent_DWbranch [hDWbranch : Cert.DWbranch.Facts] : Prop :=
  ∀ (m : (ℓ : Loc Cert.DWbranch.nD Cert.DWbranch.τ Cert.DWbranch.sig) → Buf (Elt Bits) ℓ) (g : Dev Cert.DWbranch.nD → PrngReg), Pre_DWbranch m →
    θ_run (Cert.DWbranch.defs (F := Bits)) (onTc (τ := Cert.DWbranch.τ) (Cert.DWbranch.main (F := Bits))) ⟨m, fun _ => 0, g⟩ (fun r => (∀ c : Dev Cert.DWbranch.nD,
      r.2.mem ((c.tc : Thread Cert.DWbranch.nD Cert.DWbranch.τ).loc Cert.DWbranch.main_arg0) = m ((c.tc : Thread Cert.DWbranch.nD Cert.DWbranch.τ).loc Cert.DWbranch.main_arg0)
      ∧ r.2.mem ((c.tc : Thread Cert.DWbranch.nD Cert.DWbranch.τ).loc Cert.DWbranch.main_arg1) = m ((c.tc : Thread Cert.DWbranch.nD Cert.DWbranch.τ).loc Cert.DWbranch.main_arg1)
      ∧ r.2.mem ((c.tc : Thread Cert.DWbranch.nD Cert.DWbranch.τ).loc Cert.DWbranch.main_arg2) = m ((c.tc : Thread Cert.DWbranch.nD Cert.DWbranch.τ).loc Cert.DWbranch.main_arg2))
      ∧ r.2.sem = fun _ => 0)

def quiescent_DWbranchIdeal [hDWbranchIdeal : Cert.DWbranchIdeal.Facts] : Prop :=
  ∀ (m : (ℓ : Loc Cert.DWbranchIdeal.nD Cert.DWbranchIdeal.τ Cert.DWbranchIdeal.sig) → Buf (Elt Ideal) ℓ) (g : Dev Cert.DWbranchIdeal.nD → PrngReg), Pre_DWbranchIdeal m →
    θ_run (Cert.DWbranchIdeal.defs (F := Ideal)) (onTc (τ := Cert.DWbranchIdeal.τ) (Cert.DWbranchIdeal.main (F := Ideal))) ⟨m, fun _ => 0, g⟩ (fun r => (∀ c : Dev Cert.DWbranchIdeal.nD,
      r.2.mem ((c.tc : Thread Cert.DWbranchIdeal.nD Cert.DWbranchIdeal.τ).loc Cert.DWbranchIdeal.main_arg0) = m ((c.tc : Thread Cert.DWbranchIdeal.nD Cert.DWbranchIdeal.τ).loc Cert.DWbranchIdeal.main_arg0)
      ∧ r.2.mem ((c.tc : Thread Cert.DWbranchIdeal.nD Cert.DWbranchIdeal.τ).loc Cert.DWbranchIdeal.main_arg1) = m ((c.tc : Thread Cert.DWbranchIdeal.nD Cert.DWbranchIdeal.τ).loc Cert.DWbranchIdeal.main_arg1)
      ∧ r.2.mem ((c.tc : Thread Cert.DWbranchIdeal.nD Cert.DWbranchIdeal.τ).loc Cert.DWbranchIdeal.main_arg2) = m ((c.tc : Thread Cert.DWbranchIdeal.nD Cert.DWbranchIdeal.τ).loc Cert.DWbranchIdeal.main_arg2))
      ∧ r.2.sem = fun _ => 0)

def quiescent_DWbranchRefIdeal [hDWbranchRefIdeal : Cert.DWbranchRefIdeal.Facts] : Prop :=
  ∀ (m : (ℓ : Loc Cert.DWbranchRefIdeal.nD Cert.DWbranchRefIdeal.τ Cert.DWbranchRefIdeal.sig) → Buf (Elt Ideal) ℓ) (g : Dev Cert.DWbranchRefIdeal.nD → PrngReg), Pre_DWbranchRefIdeal m →
    θ_run (Cert.DWbranchRefIdeal.defs (F := Ideal)) (onTc (τ := Cert.DWbranchRefIdeal.τ) (Cert.DWbranchRefIdeal.main (F := Ideal))) ⟨m, fun _ => 0, g⟩ (fun r => (∀ c : Dev Cert.DWbranchRefIdeal.nD,
      r.2.mem ((c.tc : Thread Cert.DWbranchRefIdeal.nD Cert.DWbranchRefIdeal.τ).loc Cert.DWbranchRefIdeal.main_arg0) = m ((c.tc : Thread Cert.DWbranchRefIdeal.nD Cert.DWbranchRefIdeal.τ).loc Cert.DWbranchRefIdeal.main_arg0)
      ∧ r.2.mem ((c.tc : Thread Cert.DWbranchRefIdeal.nD Cert.DWbranchRefIdeal.τ).loc Cert.DWbranchRefIdeal.main_arg1) = m ((c.tc : Thread Cert.DWbranchRefIdeal.nD Cert.DWbranchRefIdeal.τ).loc Cert.DWbranchRefIdeal.main_arg1)
      ∧ r.2.mem ((c.tc : Thread Cert.DWbranchRefIdeal.nD Cert.DWbranchRefIdeal.τ).loc Cert.DWbranchRefIdeal.main_arg2) = m ((c.tc : Thread Cert.DWbranchRefIdeal.nD Cert.DWbranchRefIdeal.τ).loc Cert.DWbranchRefIdeal.main_arg2))
      ∧ r.2.sem = fun _ => 0)

def quiescent_DWbranch3 [hDWbranch3 : Cert.DWbranch3.Facts] : Prop :=
  ∀ (m : (ℓ : Loc Cert.DWbranch3.nD Cert.DWbranch3.τ Cert.DWbranch3.sig) → Buf (Elt Bits) ℓ) (g : Dev Cert.DWbranch3.nD → PrngReg), Pre_DWbranch3 m →
    θ_run (Cert.DWbranch3.defs (F := Bits)) (onTc (τ := Cert.DWbranch3.τ) (Cert.DWbranch3.main (F := Bits))) ⟨m, fun _ => 0, g⟩ (fun r => (∀ c : Dev Cert.DWbranch3.nD,
      r.2.mem ((c.tc : Thread Cert.DWbranch3.nD Cert.DWbranch3.τ).loc Cert.DWbranch3.main_arg0) = m ((c.tc : Thread Cert.DWbranch3.nD Cert.DWbranch3.τ).loc Cert.DWbranch3.main_arg0)
      ∧ r.2.mem ((c.tc : Thread Cert.DWbranch3.nD Cert.DWbranch3.τ).loc Cert.DWbranch3.main_arg1) = m ((c.tc : Thread Cert.DWbranch3.nD Cert.DWbranch3.τ).loc Cert.DWbranch3.main_arg1)
      ∧ r.2.mem ((c.tc : Thread Cert.DWbranch3.nD Cert.DWbranch3.τ).loc Cert.DWbranch3.main_arg2) = m ((c.tc : Thread Cert.DWbranch3.nD Cert.DWbranch3.τ).loc Cert.DWbranch3.main_arg2))
      ∧ r.2.sem = fun _ => 0)

def quiescent_DWbranch3Ideal [hDWbranch3Ideal : Cert.DWbranch3Ideal.Facts] : Prop :=
  ∀ (m : (ℓ : Loc Cert.DWbranch3Ideal.nD Cert.DWbranch3Ideal.τ Cert.DWbranch3Ideal.sig) → Buf (Elt Ideal) ℓ) (g : Dev Cert.DWbranch3Ideal.nD → PrngReg), Pre_DWbranch3Ideal m →
    θ_run (Cert.DWbranch3Ideal.defs (F := Ideal)) (onTc (τ := Cert.DWbranch3Ideal.τ) (Cert.DWbranch3Ideal.main (F := Ideal))) ⟨m, fun _ => 0, g⟩ (fun r => (∀ c : Dev Cert.DWbranch3Ideal.nD,
      r.2.mem ((c.tc : Thread Cert.DWbranch3Ideal.nD Cert.DWbranch3Ideal.τ).loc Cert.DWbranch3Ideal.main_arg0) = m ((c.tc : Thread Cert.DWbranch3Ideal.nD Cert.DWbranch3Ideal.τ).loc Cert.DWbranch3Ideal.main_arg0)
      ∧ r.2.mem ((c.tc : Thread Cert.DWbranch3Ideal.nD Cert.DWbranch3Ideal.τ).loc Cert.DWbranch3Ideal.main_arg1) = m ((c.tc : Thread Cert.DWbranch3Ideal.nD Cert.DWbranch3Ideal.τ).loc Cert.DWbranch3Ideal.main_arg1)
      ∧ r.2.mem ((c.tc : Thread Cert.DWbranch3Ideal.nD Cert.DWbranch3Ideal.τ).loc Cert.DWbranch3Ideal.main_arg2) = m ((c.tc : Thread Cert.DWbranch3Ideal.nD Cert.DWbranch3Ideal.τ).loc Cert.DWbranch3Ideal.main_arg2))
      ∧ r.2.sem = fun _ => 0)

def quiescent_DWbranch3RefIdeal [hDWbranch3RefIdeal : Cert.DWbranch3RefIdeal.Facts] : Prop :=
  ∀ (m : (ℓ : Loc Cert.DWbranch3RefIdeal.nD Cert.DWbranch3RefIdeal.τ Cert.DWbranch3RefIdeal.sig) → Buf (Elt Ideal) ℓ) (g : Dev Cert.DWbranch3RefIdeal.nD → PrngReg), Pre_DWbranch3RefIdeal m →
    θ_run (Cert.DWbranch3RefIdeal.defs (F := Ideal)) (onTc (τ := Cert.DWbranch3RefIdeal.τ) (Cert.DWbranch3RefIdeal.main (F := Ideal))) ⟨m, fun _ => 0, g⟩ (fun r => (∀ c : Dev Cert.DWbranch3RefIdeal.nD,
      r.2.mem ((c.tc : Thread Cert.DWbranch3RefIdeal.nD Cert.DWbranch3RefIdeal.τ).loc Cert.DWbranch3RefIdeal.main_arg0) = m ((c.tc : Thread Cert.DWbranch3RefIdeal.nD Cert.DWbranch3RefIdeal.τ).loc Cert.DWbranch3RefIdeal.main_arg0)
      ∧ r.2.mem ((c.tc : Thread Cert.DWbranch3RefIdeal.nD Cert.DWbranch3RefIdeal.τ).loc Cert.DWbranch3RefIdeal.main_arg1) = m ((c.tc : Thread Cert.DWbranch3RefIdeal.nD Cert.DWbranch3RefIdeal.τ).loc Cert.DWbranch3RefIdeal.main_arg1)
      ∧ r.2.mem ((c.tc : Thread Cert.DWbranch3RefIdeal.nD Cert.DWbranch3RefIdeal.τ).loc Cert.DWbranch3RefIdeal.main_arg2) = m ((c.tc : Thread Cert.DWbranch3RefIdeal.nD Cert.DWbranch3RefIdeal.τ).loc Cert.DWbranch3RefIdeal.main_arg2))
      ∧ r.2.sem = fun _ => 0)

def quiescent_DWbranch0 [hDWbranch0 : Cert.DWbranch0.Facts] : Prop :=
  ∀ (m : (ℓ : Loc Cert.DWbranch0.nD Cert.DWbranch0.τ Cert.DWbranch0.sig) → Buf (Elt Bits) ℓ) (g : Dev Cert.DWbranch0.nD → PrngReg), Pre_DWbranch0 m →
    θ_run (Cert.DWbranch0.defs (F := Bits)) (onTc (τ := Cert.DWbranch0.τ) (Cert.DWbranch0.main (F := Bits))) ⟨m, fun _ => 0, g⟩ (fun r => (∀ c : Dev Cert.DWbranch0.nD,
      r.2.mem ((c.tc : Thread Cert.DWbranch0.nD Cert.DWbranch0.τ).loc Cert.DWbranch0.main_arg0) = m ((c.tc : Thread Cert.DWbranch0.nD Cert.DWbranch0.τ).loc Cert.DWbranch0.main_arg0)
      ∧ r.2.mem ((c.tc : Thread Cert.DWbranch0.nD Cert.DWbranch0.τ).loc Cert.DWbranch0.main_arg1) = m ((c.tc : Thread Cert.DWbranch0.nD Cert.DWbranch0.τ).loc Cert.DWbranch0.main_arg1)
      ∧ r.2.mem ((c.tc : Thread Cert.DWbranch0.nD Cert.DWbranch0.τ).loc Cert.DWbranch0.main_arg2) = m ((c.tc : Thread Cert.DWbranch0.nD Cert.DWbranch0.τ).loc Cert.DWbranch0.main_arg2))
      ∧ r.2.sem = fun _ => 0)

def quiescent_DWbranch0Ideal [hDWbranch0Ideal : Cert.DWbranch0Ideal.Facts] : Prop :=
  ∀ (m : (ℓ : Loc Cert.DWbranch0Ideal.nD Cert.DWbranch0Ideal.τ Cert.DWbranch0Ideal.sig) → Buf (Elt Ideal) ℓ) (g : Dev Cert.DWbranch0Ideal.nD → PrngReg), Pre_DWbranch0Ideal m →
    θ_run (Cert.DWbranch0Ideal.defs (F := Ideal)) (onTc (τ := Cert.DWbranch0Ideal.τ) (Cert.DWbranch0Ideal.main (F := Ideal))) ⟨m, fun _ => 0, g⟩ (fun r => (∀ c : Dev Cert.DWbranch0Ideal.nD,
      r.2.mem ((c.tc : Thread Cert.DWbranch0Ideal.nD Cert.DWbranch0Ideal.τ).loc Cert.DWbranch0Ideal.main_arg0) = m ((c.tc : Thread Cert.DWbranch0Ideal.nD Cert.DWbranch0Ideal.τ).loc Cert.DWbranch0Ideal.main_arg0)
      ∧ r.2.mem ((c.tc : Thread Cert.DWbranch0Ideal.nD Cert.DWbranch0Ideal.τ).loc Cert.DWbranch0Ideal.main_arg1) = m ((c.tc : Thread Cert.DWbranch0Ideal.nD Cert.DWbranch0Ideal.τ).loc Cert.DWbranch0Ideal.main_arg1)
      ∧ r.2.mem ((c.tc : Thread Cert.DWbranch0Ideal.nD Cert.DWbranch0Ideal.τ).loc Cert.DWbranch0Ideal.main_arg2) = m ((c.tc : Thread Cert.DWbranch0Ideal.nD Cert.DWbranch0Ideal.τ).loc Cert.DWbranch0Ideal.main_arg2))
      ∧ r.2.sem = fun _ => 0)

def quiescent_DWbranch0RefIdeal [hDWbranch0RefIdeal : Cert.DWbranch0RefIdeal.Facts] : Prop :=
  ∀ (m : (ℓ : Loc Cert.DWbranch0RefIdeal.nD Cert.DWbranch0RefIdeal.τ Cert.DWbranch0RefIdeal.sig) → Buf (Elt Ideal) ℓ) (g : Dev Cert.DWbranch0RefIdeal.nD → PrngReg), Pre_DWbranch0RefIdeal m →
    θ_run (Cert.DWbranch0RefIdeal.defs (F := Ideal)) (onTc (τ := Cert.DWbranch0RefIdeal.τ) (Cert.DWbranch0RefIdeal.main (F := Ideal))) ⟨m, fun _ => 0, g⟩ (fun r => (∀ c : Dev Cert.DWbranch0RefIdeal.nD,
      r.2.mem ((c.tc : Thread Cert.DWbranch0RefIdeal.nD Cert.DWbranch0RefIdeal.τ).loc Cert.DWbranch0RefIdeal.main_arg0) = m ((c.tc : Thread Cert.DWbranch0RefIdeal.nD Cert.DWbranch0RefIdeal.τ).loc Cert.DWbranch0RefIdeal.main_arg0)
      ∧ r.2.mem ((c.tc : Thread Cert.DWbranch0RefIdeal.nD Cert.DWbranch0RefIdeal.τ).loc Cert.DWbranch0RefIdeal.main_arg1) = m ((c.tc : Thread Cert.DWbranch0RefIdeal.nD Cert.DWbranch0RefIdeal.τ).loc Cert.DWbranch0RefIdeal.main_arg1)
      ∧ r.2.mem ((c.tc : Thread Cert.DWbranch0RefIdeal.nD Cert.DWbranch0RefIdeal.τ).loc Cert.DWbranch0RefIdeal.main_arg2) = m ((c.tc : Thread Cert.DWbranch0RefIdeal.nD Cert.DWbranch0RefIdeal.τ).loc Cert.DWbranch0RefIdeal.main_arg2))
      ∧ r.2.sem = fun _ => 0)

def quiescent_DYa [hDYa : Cert.DYa.Facts] : Prop :=
  ∀ (m : (ℓ : Loc Cert.DYa.nD Cert.DYa.τ Cert.DYa.sig) → Buf (Elt Bits) ℓ) (g : Dev Cert.DYa.nD → PrngReg), Pre_DYa m →
    θ_run (Cert.DYa.defs (F := Bits)) (onTc (τ := Cert.DYa.τ) (Cert.DYa.main (F := Bits))) ⟨m, fun _ => 0, g⟩ (fun r => (∀ c : Dev Cert.DYa.nD,
      r.2.mem ((c.tc : Thread Cert.DYa.nD Cert.DYa.τ).loc Cert.DYa.main_arg0) = m ((c.tc : Thread Cert.DYa.nD Cert.DYa.τ).loc Cert.DYa.main_arg0)
      ∧ r.2.mem ((c.tc : Thread Cert.DYa.nD Cert.DYa.τ).loc Cert.DYa.main_arg1) = m ((c.tc : Thread Cert.DYa.nD Cert.DYa.τ).loc Cert.DYa.main_arg1)
      ∧ r.2.mem ((c.tc : Thread Cert.DYa.nD Cert.DYa.τ).loc Cert.DYa.main_arg2) = m ((c.tc : Thread Cert.DYa.nD Cert.DYa.τ).loc Cert.DYa.main_arg2))
      ∧ r.2.sem = fun _ => 0)

def quiescent_DYaIdeal [hDYaIdeal : Cert.DYaIdeal.Facts] : Prop :=
  ∀ (m : (ℓ : Loc Cert.DYaIdeal.nD Cert.DYaIdeal.τ Cert.DYaIdeal.sig) → Buf (Elt Ideal) ℓ) (g : Dev Cert.DYaIdeal.nD → PrngReg), Pre_DYaIdeal m →
    θ_run (Cert.DYaIdeal.defs (F := Ideal)) (onTc (τ := Cert.DYaIdeal.τ) (Cert.DYaIdeal.main (F := Ideal))) ⟨m, fun _ => 0, g⟩ (fun r => (∀ c : Dev Cert.DYaIdeal.nD,
      r.2.mem ((c.tc : Thread Cert.DYaIdeal.nD Cert.DYaIdeal.τ).loc Cert.DYaIdeal.main_arg0) = m ((c.tc : Thread Cert.DYaIdeal.nD Cert.DYaIdeal.τ).loc Cert.DYaIdeal.main_arg0)
      ∧ r.2.mem ((c.tc : Thread Cert.DYaIdeal.nD Cert.DYaIdeal.τ).loc Cert.DYaIdeal.main_arg1) = m ((c.tc : Thread Cert.DYaIdeal.nD Cert.DYaIdeal.τ).loc Cert.DYaIdeal.main_arg1)
      ∧ r.2.mem ((c.tc : Thread Cert.DYaIdeal.nD Cert.DYaIdeal.τ).loc Cert.DYaIdeal.main_arg2) = m ((c.tc : Thread Cert.DYaIdeal.nD Cert.DYaIdeal.τ).loc Cert.DYaIdeal.main_arg2))
      ∧ r.2.sem = fun _ => 0)

def quiescent_DYaRefIdeal [hDYaRefIdeal : Cert.DYaRefIdeal.Facts] : Prop :=
  ∀ (m : (ℓ : Loc Cert.DYaRefIdeal.nD Cert.DYaRefIdeal.τ Cert.DYaRefIdeal.sig) → Buf (Elt Ideal) ℓ) (g : Dev Cert.DYaRefIdeal.nD → PrngReg), Pre_DYaRefIdeal m →
    θ_run (Cert.DYaRefIdeal.defs (F := Ideal)) (onTc (τ := Cert.DYaRefIdeal.τ) (Cert.DYaRefIdeal.main (F := Ideal))) ⟨m, fun _ => 0, g⟩ (fun r => (∀ c : Dev Cert.DYaRefIdeal.nD,
      r.2.mem ((c.tc : Thread Cert.DYaRefIdeal.nD Cert.DYaRefIdeal.τ).loc Cert.DYaRefIdeal.main_arg0) = m ((c.tc : Thread Cert.DYaRefIdeal.nD Cert.DYaRefIdeal.τ).loc Cert.DYaRefIdeal.main_arg0)
      ∧ r.2.mem ((c.tc : Thread Cert.DYaRefIdeal.nD Cert.DYaRefIdeal.τ).loc Cert.DYaRefIdeal.main_arg1) = m ((c.tc : Thread Cert.DYaRefIdeal.nD Cert.DYaRefIdeal.τ).loc Cert.DYaRefIdeal.main_arg1)
      ∧ r.2.mem ((c.tc : Thread Cert.DYaRefIdeal.nD Cert.DYaRefIdeal.τ).loc Cert.DYaRefIdeal.main_arg2) = m ((c.tc : Thread Cert.DYaRefIdeal.nD Cert.DYaRefIdeal.τ).loc Cert.DYaRefIdeal.main_arg2))
      ∧ r.2.sem = fun _ => 0)

def quiescent_DYc [hDYc : Cert.DYc.Facts] : Prop :=
  ∀ (m : (ℓ : Loc Cert.DYc.nD Cert.DYc.τ Cert.DYc.sig) → Buf (Elt Bits) ℓ) (g : Dev Cert.DYc.nD → PrngReg), Pre_DYc m →
    θ_run (Cert.DYc.defs (F := Bits)) (onTc (τ := Cert.DYc.τ) (Cert.DYc.main (F := Bits))) ⟨m, fun _ => 0, g⟩ (fun r => (∀ c : Dev Cert.DYc.nD,
      r.2.mem ((c.tc : Thread Cert.DYc.nD Cert.DYc.τ).loc Cert.DYc.main_arg0) = m ((c.tc : Thread Cert.DYc.nD Cert.DYc.τ).loc Cert.DYc.main_arg0)
      ∧ r.2.mem ((c.tc : Thread Cert.DYc.nD Cert.DYc.τ).loc Cert.DYc.main_arg1) = m ((c.tc : Thread Cert.DYc.nD Cert.DYc.τ).loc Cert.DYc.main_arg1)
      ∧ r.2.mem ((c.tc : Thread Cert.DYc.nD Cert.DYc.τ).loc Cert.DYc.main_arg2) = m ((c.tc : Thread Cert.DYc.nD Cert.DYc.τ).loc Cert.DYc.main_arg2))
      ∧ r.2.sem = fun _ => 0)

def quiescent_DYcIdeal [hDYcIdeal : Cert.DYcIdeal.Facts] : Prop :=
  ∀ (m : (ℓ : Loc Cert.DYcIdeal.nD Cert.DYcIdeal.τ Cert.DYcIdeal.sig) → Buf (Elt Ideal) ℓ) (g : Dev Cert.DYcIdeal.nD → PrngReg), Pre_DYcIdeal m →
    θ_run (Cert.DYcIdeal.defs (F := Ideal)) (onTc (τ := Cert.DYcIdeal.τ) (Cert.DYcIdeal.main (F := Ideal))) ⟨m, fun _ => 0, g⟩ (fun r => (∀ c : Dev Cert.DYcIdeal.nD,
      r.2.mem ((c.tc : Thread Cert.DYcIdeal.nD Cert.DYcIdeal.τ).loc Cert.DYcIdeal.main_arg0) = m ((c.tc : Thread Cert.DYcIdeal.nD Cert.DYcIdeal.τ).loc Cert.DYcIdeal.main_arg0)
      ∧ r.2.mem ((c.tc : Thread Cert.DYcIdeal.nD Cert.DYcIdeal.τ).loc Cert.DYcIdeal.main_arg1) = m ((c.tc : Thread Cert.DYcIdeal.nD Cert.DYcIdeal.τ).loc Cert.DYcIdeal.main_arg1)
      ∧ r.2.mem ((c.tc : Thread Cert.DYcIdeal.nD Cert.DYcIdeal.τ).loc Cert.DYcIdeal.main_arg2) = m ((c.tc : Thread Cert.DYcIdeal.nD Cert.DYcIdeal.τ).loc Cert.DYcIdeal.main_arg2))
      ∧ r.2.sem = fun _ => 0)

def quiescent_DYcRefIdeal [hDYcRefIdeal : Cert.DYcRefIdeal.Facts] : Prop :=
  ∀ (m : (ℓ : Loc Cert.DYcRefIdeal.nD Cert.DYcRefIdeal.τ Cert.DYcRefIdeal.sig) → Buf (Elt Ideal) ℓ) (g : Dev Cert.DYcRefIdeal.nD → PrngReg), Pre_DYcRefIdeal m →
    θ_run (Cert.DYcRefIdeal.defs (F := Ideal)) (onTc (τ := Cert.DYcRefIdeal.τ) (Cert.DYcRefIdeal.main (F := Ideal))) ⟨m, fun _ => 0, g⟩ (fun r => (∀ c : Dev Cert.DYcRefIdeal.nD,
      r.2.mem ((c.tc : Thread Cert.DYcRefIdeal.nD Cert.DYcRefIdeal.τ).loc Cert.DYcRefIdeal.main_arg0) = m ((c.tc : Thread Cert.DYcRefIdeal.nD Cert.DYcRefIdeal.τ).loc Cert.DYcRefIdeal.main_arg0)
      ∧ r.2.mem ((c.tc : Thread Cert.DYcRefIdeal.nD Cert.DYcRefIdeal.τ).loc Cert.DYcRefIdeal.main_arg1) = m ((c.tc : Thread Cert.DYcRefIdeal.nD Cert.DYcRefIdeal.τ).loc Cert.DYcRefIdeal.main_arg1)
      ∧ r.2.mem ((c.tc : Thread Cert.DYcRefIdeal.nD Cert.DYcRefIdeal.τ).loc Cert.DYcRefIdeal.main_arg2) = m ((c.tc : Thread Cert.DYcRefIdeal.nD Cert.DYcRefIdeal.τ).loc Cert.DYcRefIdeal.main_arg2))
      ∧ r.2.sem = fun _ => 0)

def quiescent_DYb [hDYb : Cert.DYb.Facts] : Prop :=
  ∀ (m : (ℓ : Loc Cert.DYb.nD Cert.DYb.τ Cert.DYb.sig) → Buf (Elt Bits) ℓ) (g : Dev Cert.DYb.nD → PrngReg), Pre_DYb m →
    θ_run (Cert.DYb.defs (F := Bits)) (onTc (τ := Cert.DYb.τ) (Cert.DYb.main (F := Bits))) ⟨m, fun _ => 0, g⟩ (fun r => (∀ c : Dev Cert.DYb.nD,
      r.2.mem ((c.tc : Thread Cert.DYb.nD Cert.DYb.τ).loc Cert.DYb.main_arg0) = m ((c.tc : Thread Cert.DYb.nD Cert.DYb.τ).loc Cert.DYb.main_arg0)
      ∧ r.2.mem ((c.tc : Thread Cert.DYb.nD Cert.DYb.τ).loc Cert.DYb.main_arg1) = m ((c.tc : Thread Cert.DYb.nD Cert.DYb.τ).loc Cert.DYb.main_arg1)
      ∧ r.2.mem ((c.tc : Thread Cert.DYb.nD Cert.DYb.τ).loc Cert.DYb.main_arg2) = m ((c.tc : Thread Cert.DYb.nD Cert.DYb.τ).loc Cert.DYb.main_arg2))
      ∧ r.2.sem = fun _ => 0)

def quiescent_DYbIdeal [hDYbIdeal : Cert.DYbIdeal.Facts] : Prop :=
  ∀ (m : (ℓ : Loc Cert.DYbIdeal.nD Cert.DYbIdeal.τ Cert.DYbIdeal.sig) → Buf (Elt Ideal) ℓ) (g : Dev Cert.DYbIdeal.nD → PrngReg), Pre_DYbIdeal m →
    θ_run (Cert.DYbIdeal.defs (F := Ideal)) (onTc (τ := Cert.DYbIdeal.τ) (Cert.DYbIdeal.main (F := Ideal))) ⟨m, fun _ => 0, g⟩ (fun r => (∀ c : Dev Cert.DYbIdeal.nD,
      r.2.mem ((c.tc : Thread Cert.DYbIdeal.nD Cert.DYbIdeal.τ).loc Cert.DYbIdeal.main_arg0) = m ((c.tc : Thread Cert.DYbIdeal.nD Cert.DYbIdeal.τ).loc Cert.DYbIdeal.main_arg0)
      ∧ r.2.mem ((c.tc : Thread Cert.DYbIdeal.nD Cert.DYbIdeal.τ).loc Cert.DYbIdeal.main_arg1) = m ((c.tc : Thread Cert.DYbIdeal.nD Cert.DYbIdeal.τ).loc Cert.DYbIdeal.main_arg1)
      ∧ r.2.mem ((c.tc : Thread Cert.DYbIdeal.nD Cert.DYbIdeal.τ).loc Cert.DYbIdeal.main_arg2) = m ((c.tc : Thread Cert.DYbIdeal.nD Cert.DYbIdeal.τ).loc Cert.DYbIdeal.main_arg2))
      ∧ r.2.sem = fun _ => 0)

def quiescent_DYbRefIdeal [hDYbRefIdeal : Cert.DYbRefIdeal.Facts] : Prop :=
  ∀ (m : (ℓ : Loc Cert.DYbRefIdeal.nD Cert.DYbRefIdeal.τ Cert.DYbRefIdeal.sig) → Buf (Elt Ideal) ℓ) (g : Dev Cert.DYbRefIdeal.nD → PrngReg), Pre_DYbRefIdeal m →
    θ_run (Cert.DYbRefIdeal.defs (F := Ideal)) (onTc (τ := Cert.DYbRefIdeal.τ) (Cert.DYbRefIdeal.main (F := Ideal))) ⟨m, fun _ => 0, g⟩ (fun r => (∀ c : Dev Cert.DYbRefIdeal.nD,
      r.2.mem ((c.tc : Thread Cert.DYbRefIdeal.nD Cert.DYbRefIdeal.τ).loc Cert.DYbRefIdeal.main_arg0) = m ((c.tc : Thread Cert.DYbRefIdeal.nD Cert.DYbRefIdeal.τ).loc Cert.DYbRefIdeal.main_arg0)
      ∧ r.2.mem ((c.tc : Thread Cert.DYbRefIdeal.nD Cert.DYbRefIdeal.τ).loc Cert.DYbRefIdeal.main_arg1) = m ((c.tc : Thread Cert.DYbRefIdeal.nD Cert.DYbRefIdeal.τ).loc Cert.DYbRefIdeal.main_arg1)
      ∧ r.2.mem ((c.tc : Thread Cert.DYbRefIdeal.nD Cert.DYbRefIdeal.τ).loc Cert.DYbRefIdeal.main_arg2) = m ((c.tc : Thread Cert.DYbRefIdeal.nD Cert.DYbRefIdeal.τ).loc Cert.DYbRefIdeal.main_arg2))
      ∧ r.2.sem = fun _ => 0)

def quiescent_DWin [hDWin : Cert.DWin.Facts] : Prop :=
  ∀ (m : (ℓ : Loc Cert.DWin.nD Cert.DWin.τ Cert.DWin.sig) → Buf (Elt Bits) ℓ) (g : Dev Cert.DWin.nD → PrngReg), Pre_DWin m →
    θ_run (Cert.DWin.defs (F := Bits)) (onTc (τ := Cert.DWin.τ) (Cert.DWin.main (F := Bits))) ⟨m, fun _ => 0, g⟩ (fun r => (∀ c : Dev Cert.DWin.nD,
      r.2.mem ((c.tc : Thread Cert.DWin.nD Cert.DWin.τ).loc Cert.DWin.main_arg0) = m ((c.tc : Thread Cert.DWin.nD Cert.DWin.τ).loc Cert.DWin.main_arg0)
      ∧ r.2.mem ((c.tc : Thread Cert.DWin.nD Cert.DWin.τ).loc Cert.DWin.main_arg1) = m ((c.tc : Thread Cert.DWin.nD Cert.DWin.τ).loc Cert.DWin.main_arg1)
      ∧ r.2.mem ((c.tc : Thread Cert.DWin.nD Cert.DWin.τ).loc Cert.DWin.main_arg2) = m ((c.tc : Thread Cert.DWin.nD Cert.DWin.τ).loc Cert.DWin.main_arg2))
      ∧ r.2.sem = fun _ => 0)

def quiescent_DWinIdeal [hDWinIdeal : Cert.DWinIdeal.Facts] : Prop :=
  ∀ (m : (ℓ : Loc Cert.DWinIdeal.nD Cert.DWinIdeal.τ Cert.DWinIdeal.sig) → Buf (Elt Ideal) ℓ) (g : Dev Cert.DWinIdeal.nD → PrngReg), Pre_DWinIdeal m →
    θ_run (Cert.DWinIdeal.defs (F := Ideal)) (onTc (τ := Cert.DWinIdeal.τ) (Cert.DWinIdeal.main (F := Ideal))) ⟨m, fun _ => 0, g⟩ (fun r => (∀ c : Dev Cert.DWinIdeal.nD,
      r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
      ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1)
      ∧ r.2.mem ((c.tc : Thread Cert.DWinIdeal.nD Cert.DWinIdeal.τ).loc Cert.DWinIdeal.main_arg2) = m ((c.tc : Thread Cert.DWinIdeal.nD Cert.DWinIdeal.τ).loc Cert.DWinIdeal.main_arg2))
      ∧ r.2.sem = fun _ => 0)

def quiescent_DWinRefIdeal [hDWinRefIdeal : Cert.DWinRefIdeal.Facts] : Prop :=
  ∀ (m : (ℓ : Loc Cert.DWinRefIdeal.nD Cert.DWinRefIdeal.τ Cert.DWinRefIdeal.sig) → Buf (Elt Ideal) ℓ) (g : Dev Cert.DWinRefIdeal.nD → PrngReg), Pre_DWinRefIdeal m →
    θ_run (Cert.DWinRefIdeal.defs (F := Ideal)) (onTc (τ := Cert.DWinRefIdeal.τ) (Cert.DWinRefIdeal.main (F := Ideal))) ⟨m, fun _ => 0, g⟩ (fun r => (∀ c : Dev Cert.DWinRefIdeal.nD,
      r.2.mem ((c.tc : Thread Cert.DWinRefIdeal.nD Cert.DWinRefIdeal.τ).loc Cert.DWinRefIdeal.main_arg0) = m ((c.tc : Thread Cert.DWinRefIdeal.nD Cert.DWinRefIdeal.τ).loc Cert.DWinRefIdeal.main_arg0)
      ∧ r.2.mem ((c.tc : Thread Cert.DWinRefIdeal.nD Cert.DWinRefIdeal.τ).loc Cert.DWinRefIdeal.main_arg1) = m ((c.tc : Thread Cert.DWinRefIdeal.nD Cert.DWinRefIdeal.τ).loc Cert.DWinRefIdeal.main_arg1)
      ∧ r.2.mem ((c.tc : Thread Cert.DWinRefIdeal.nD Cert.DWinRefIdeal.τ).loc Cert.DWinRefIdeal.main_arg2) = m ((c.tc : Thread Cert.DWinRefIdeal.nD Cert.DWinRefIdeal.τ).loc Cert.DWinRefIdeal.main_arg2))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1)
      ∧ r.2.mem ((c.tc : Thread Cert.DH.nD Cert.DH.τ).loc Cert.DH.main_arg2) = m ((c.tc : Thread Cert.DH.nD Cert.DH.τ).loc Cert.DH.main_arg2))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1)
      ∧ r.2.mem ((c.tc : Thread Cert.DHRefIdeal.nD Cert.DHRefIdeal.τ).loc Cert.DHRefIdeal.main_arg2) = m ((c.tc : Thread Cert.DHRefIdeal.nD Cert.DHRefIdeal.τ).loc Cert.DHRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_DWuq [hDWuq : Cert.DWuq.Facts] : Prop :=
  ∀ (m : (ℓ : Loc Cert.DWuq.nD Cert.DWuq.τ Cert.DWuq.sig) → Buf (Elt Bits) ℓ) (g : Dev Cert.DWuq.nD → PrngReg), Pre_DWuq m →
    θ_run (Cert.DWuq.defs (F := Bits)) (onTc (τ := Cert.DWuq.τ) (Cert.DWuq.main (F := Bits))) ⟨m, fun _ => 0, g⟩ (fun r => (∀ c : Dev Cert.DWuq.nD,
      r.2.mem ((c.tc : Thread Cert.DWuq.nD Cert.DWuq.τ).loc Cert.DWuq.main_arg0) = m ((c.tc : Thread Cert.DWuq.nD Cert.DWuq.τ).loc Cert.DWuq.main_arg0)
      ∧ r.2.mem ((c.tc : Thread Cert.DWuq.nD Cert.DWuq.τ).loc Cert.DWuq.main_arg1) = m ((c.tc : Thread Cert.DWuq.nD Cert.DWuq.τ).loc Cert.DWuq.main_arg1)
      ∧ r.2.mem ((c.tc : Thread Cert.DWuq.nD Cert.DWuq.τ).loc Cert.DWuq.main_arg2) = m ((c.tc : Thread Cert.DWuq.nD Cert.DWuq.τ).loc Cert.DWuq.main_arg2))
      ∧ r.2.sem = fun _ => 0)

def quiescent_DWuqIdeal [hDWuqIdeal : Cert.DWuqIdeal.Facts] : Prop :=
  ∀ (m : (ℓ : Loc Cert.DWuqIdeal.nD Cert.DWuqIdeal.τ Cert.DWuqIdeal.sig) → Buf (Elt Ideal) ℓ) (g : Dev Cert.DWuqIdeal.nD → PrngReg), Pre_DWuqIdeal m →
    θ_run (Cert.DWuqIdeal.defs (F := Ideal)) (onTc (τ := Cert.DWuqIdeal.τ) (Cert.DWuqIdeal.main (F := Ideal))) ⟨m, fun _ => 0, g⟩ (fun r => (∀ c : Dev Cert.DWuqIdeal.nD,
      r.2.mem ((c.tc : Thread Cert.DWuqIdeal.nD Cert.DWuqIdeal.τ).loc Cert.DWuqIdeal.main_arg0) = m ((c.tc : Thread Cert.DWuqIdeal.nD Cert.DWuqIdeal.τ).loc Cert.DWuqIdeal.main_arg0)
      ∧ r.2.mem ((c.tc : Thread Cert.DWuqIdeal.nD Cert.DWuqIdeal.τ).loc Cert.DWuqIdeal.main_arg1) = m ((c.tc : Thread Cert.DWuqIdeal.nD Cert.DWuqIdeal.τ).loc Cert.DWuqIdeal.main_arg1)
      ∧ r.2.mem ((c.tc : Thread Cert.DWuqIdeal.nD Cert.DWuqIdeal.τ).loc Cert.DWuqIdeal.main_arg2) = m ((c.tc : Thread Cert.DWuqIdeal.nD Cert.DWuqIdeal.τ).loc Cert.DWuqIdeal.main_arg2))
      ∧ r.2.sem = fun _ => 0)

def quiescent_DWuqRefIdeal [hDWuqRefIdeal : Cert.DWuqRefIdeal.Facts] : Prop :=
  ∀ (m : (ℓ : Loc Cert.DWuqRefIdeal.nD Cert.DWuqRefIdeal.τ Cert.DWuqRefIdeal.sig) → Buf (Elt Ideal) ℓ) (g : Dev Cert.DWuqRefIdeal.nD → PrngReg), Pre_DWuqRefIdeal m →
    θ_run (Cert.DWuqRefIdeal.defs (F := Ideal)) (onTc (τ := Cert.DWuqRefIdeal.τ) (Cert.DWuqRefIdeal.main (F := Ideal))) ⟨m, fun _ => 0, g⟩ (fun r => (∀ c : Dev Cert.DWuqRefIdeal.nD,
      r.2.mem ((c.tc : Thread Cert.DWuqRefIdeal.nD Cert.DWuqRefIdeal.τ).loc Cert.DWuqRefIdeal.main_arg0) = m ((c.tc : Thread Cert.DWuqRefIdeal.nD Cert.DWuqRefIdeal.τ).loc Cert.DWuqRefIdeal.main_arg0)
      ∧ r.2.mem ((c.tc : Thread Cert.DWuqRefIdeal.nD Cert.DWuqRefIdeal.τ).loc Cert.DWuqRefIdeal.main_arg1) = m ((c.tc : Thread Cert.DWuqRefIdeal.nD Cert.DWuqRefIdeal.τ).loc Cert.DWuqRefIdeal.main_arg1)
      ∧ r.2.mem ((c.tc : Thread Cert.DWuqRefIdeal.nD Cert.DWuqRefIdeal.τ).loc Cert.DWuqRefIdeal.main_arg2) = m ((c.tc : Thread Cert.DWuqRefIdeal.nD Cert.DWuqRefIdeal.τ).loc Cert.DWuqRefIdeal.main_arg2))
      ∧ r.2.sem = fun _ => 0)

def quiescent_DCqn [hDCqn : Cert.DCqn.Facts] : Prop :=
  ∀ (m : (ℓ : Loc Cert.DCqn.nD Cert.DCqn.τ Cert.DCqn.sig) → Buf (Elt Bits) ℓ) (g : Dev Cert.DCqn.nD → PrngReg), Pre_DCqn m →
    θ_run (Cert.DCqn.defs (F := Bits)) (onTc (τ := Cert.DCqn.τ) (Cert.DCqn.main (F := Bits))) ⟨m, fun _ => 0, g⟩ (fun r => (∀ c : Dev Cert.DCqn.nD,
      r.2.mem ((c.tc : Thread Cert.DCqn.nD Cert.DCqn.τ).loc Cert.DCqn.main_arg0) = m ((c.tc : Thread Cert.DCqn.nD Cert.DCqn.τ).loc Cert.DCqn.main_arg0)
      ∧ r.2.mem ((c.tc : Thread Cert.DCqn.nD Cert.DCqn.τ).loc Cert.DCqn.main_arg1) = m ((c.tc : Thread Cert.DCqn.nD Cert.DCqn.τ).loc Cert.DCqn.main_arg1)
      ∧ r.2.mem ((c.tc : Thread Cert.DCqn.nD Cert.DCqn.τ).loc Cert.DCqn.main_arg2) = m ((c.tc : Thread Cert.DCqn.nD Cert.DCqn.τ).loc Cert.DCqn.main_arg2))
      ∧ r.2.sem = fun _ => 0)

def quiescent_DCqnIdeal [hDCqnIdeal : Cert.DCqnIdeal.Facts] : Prop :=
  ∀ (m : (ℓ : Loc Cert.DCqnIdeal.nD Cert.DCqnIdeal.τ Cert.DCqnIdeal.sig) → Buf (Elt Ideal) ℓ) (g : Dev Cert.DCqnIdeal.nD → PrngReg), Pre_DCqnIdeal m →
    θ_run (Cert.DCqnIdeal.defs (F := Ideal)) (onTc (τ := Cert.DCqnIdeal.τ) (Cert.DCqnIdeal.main (F := Ideal))) ⟨m, fun _ => 0, g⟩ (fun r => (∀ c : Dev Cert.DCqnIdeal.nD,
      r.2.mem ((c.tc : Thread Cert.DCqnIdeal.nD Cert.DCqnIdeal.τ).loc Cert.DCqnIdeal.main_arg0) = m ((c.tc : Thread Cert.DCqnIdeal.nD Cert.DCqnIdeal.τ).loc Cert.DCqnIdeal.main_arg0)
      ∧ r.2.mem ((c.tc : Thread Cert.DCqnIdeal.nD Cert.DCqnIdeal.τ).loc Cert.DCqnIdeal.main_arg1) = m ((c.tc : Thread Cert.DCqnIdeal.nD Cert.DCqnIdeal.τ).loc Cert.DCqnIdeal.main_arg1)
      ∧ r.2.mem ((c.tc : Thread Cert.DCqnIdeal.nD Cert.DCqnIdeal.τ).loc Cert.DCqnIdeal.main_arg2) = m ((c.tc : Thread Cert.DCqnIdeal.nD Cert.DCqnIdeal.τ).loc Cert.DCqnIdeal.main_arg2))
      ∧ r.2.sem = fun _ => 0)

def quiescent_DCqnRefIdeal [hDCqnRefIdeal : Cert.DCqnRefIdeal.Facts] : Prop :=
  ∀ (m : (ℓ : Loc Cert.DCqnRefIdeal.nD Cert.DCqnRefIdeal.τ Cert.DCqnRefIdeal.sig) → Buf (Elt Ideal) ℓ) (g : Dev Cert.DCqnRefIdeal.nD → PrngReg), Pre_DCqnRefIdeal m →
    θ_run (Cert.DCqnRefIdeal.defs (F := Ideal)) (onTc (τ := Cert.DCqnRefIdeal.τ) (Cert.DCqnRefIdeal.main (F := Ideal))) ⟨m, fun _ => 0, g⟩ (fun r => (∀ c : Dev Cert.DCqnRefIdeal.nD,
      r.2.mem ((c.tc : Thread Cert.DCqnRefIdeal.nD Cert.DCqnRefIdeal.τ).loc Cert.DCqnRefIdeal.main_arg0) = m ((c.tc : Thread Cert.DCqnRefIdeal.nD Cert.DCqnRefIdeal.τ).loc Cert.DCqnRefIdeal.main_arg0)
      ∧ r.2.mem ((c.tc : Thread Cert.DCqnRefIdeal.nD Cert.DCqnRefIdeal.τ).loc Cert.DCqnRefIdeal.main_arg1) = m ((c.tc : Thread Cert.DCqnRefIdeal.nD Cert.DCqnRefIdeal.τ).loc Cert.DCqnRefIdeal.main_arg1)
      ∧ r.2.mem ((c.tc : Thread Cert.DCqnRefIdeal.nD Cert.DCqnRefIdeal.τ).loc Cert.DCqnRefIdeal.main_arg2) = m ((c.tc : Thread Cert.DCqnRefIdeal.nD Cert.DCqnRefIdeal.τ).loc Cert.DCqnRefIdeal.main_arg2))
      ∧ r.2.sem = fun _ => 0)

def quiescent_DWukv [hDWukv : Cert.DWukv.Facts] : Prop :=
  ∀ (m : (ℓ : Loc Cert.DWukv.nD Cert.DWukv.τ Cert.DWukv.sig) → Buf (Elt Bits) ℓ) (g : Dev Cert.DWukv.nD → PrngReg), Pre_DWukv m →
    θ_run (Cert.DWukv.defs (F := Bits)) (onTc (τ := Cert.DWukv.τ) (Cert.DWukv.main (F := Bits))) ⟨m, fun _ => 0, g⟩ (fun r => (∀ c : Dev Cert.DWukv.nD,
      r.2.mem ((c.tc : Thread Cert.DWukv.nD Cert.DWukv.τ).loc Cert.DWukv.main_arg0) = m ((c.tc : Thread Cert.DWukv.nD Cert.DWukv.τ).loc Cert.DWukv.main_arg0)
      ∧ r.2.mem ((c.tc : Thread Cert.DWukv.nD Cert.DWukv.τ).loc Cert.DWukv.main_arg1) = m ((c.tc : Thread Cert.DWukv.nD Cert.DWukv.τ).loc Cert.DWukv.main_arg1)
      ∧ r.2.mem ((c.tc : Thread Cert.DWukv.nD Cert.DWukv.τ).loc Cert.DWukv.main_arg2) = m ((c.tc : Thread Cert.DWukv.nD Cert.DWukv.τ).loc Cert.DWukv.main_arg2))
      ∧ r.2.sem = fun _ => 0)

def quiescent_DWukvIdeal [hDWukvIdeal : Cert.DWukvIdeal.Facts] : Prop :=
  ∀ (m : (ℓ : Loc Cert.DWukvIdeal.nD Cert.DWukvIdeal.τ Cert.DWukvIdeal.sig) → Buf (Elt Ideal) ℓ) (g : Dev Cert.DWukvIdeal.nD → PrngReg), Pre_DWukvIdeal m →
    θ_run (Cert.DWukvIdeal.defs (F := Ideal)) (onTc (τ := Cert.DWukvIdeal.τ) (Cert.DWukvIdeal.main (F := Ideal))) ⟨m, fun _ => 0, g⟩ (fun r => (∀ c : Dev Cert.DWukvIdeal.nD,
      r.2.mem ((c.tc : Thread Cert.DWukvIdeal.nD Cert.DWukvIdeal.τ).loc Cert.DWukvIdeal.main_arg0) = m ((c.tc : Thread Cert.DWukvIdeal.nD Cert.DWukvIdeal.τ).loc Cert.DWukvIdeal.main_arg0)
      ∧ r.2.mem ((c.tc : Thread Cert.DWukvIdeal.nD Cert.DWukvIdeal.τ).loc Cert.DWukvIdeal.main_arg1) = m ((c.tc : Thread Cert.DWukvIdeal.nD Cert.DWukvIdeal.τ).loc Cert.DWukvIdeal.main_arg1)
      ∧ r.2.mem ((c.tc : Thread Cert.DWukvIdeal.nD Cert.DWukvIdeal.τ).loc Cert.DWukvIdeal.main_arg2) = m ((c.tc : Thread Cert.DWukvIdeal.nD Cert.DWukvIdeal.τ).loc Cert.DWukvIdeal.main_arg2))
      ∧ r.2.sem = fun _ => 0)

def quiescent_DWukvRefIdeal [hDWukvRefIdeal : Cert.DWukvRefIdeal.Facts] : Prop :=
  ∀ (m : (ℓ : Loc Cert.DWukvRefIdeal.nD Cert.DWukvRefIdeal.τ Cert.DWukvRefIdeal.sig) → Buf (Elt Ideal) ℓ) (g : Dev Cert.DWukvRefIdeal.nD → PrngReg), Pre_DWukvRefIdeal m →
    θ_run (Cert.DWukvRefIdeal.defs (F := Ideal)) (onTc (τ := Cert.DWukvRefIdeal.τ) (Cert.DWukvRefIdeal.main (F := Ideal))) ⟨m, fun _ => 0, g⟩ (fun r => (∀ c : Dev Cert.DWukvRefIdeal.nD,
      r.2.mem ((c.tc : Thread Cert.DWukvRefIdeal.nD Cert.DWukvRefIdeal.τ).loc Cert.DWukvRefIdeal.main_arg0) = m ((c.tc : Thread Cert.DWukvRefIdeal.nD Cert.DWukvRefIdeal.τ).loc Cert.DWukvRefIdeal.main_arg0)
      ∧ r.2.mem ((c.tc : Thread Cert.DWukvRefIdeal.nD Cert.DWukvRefIdeal.τ).loc Cert.DWukvRefIdeal.main_arg1) = m ((c.tc : Thread Cert.DWukvRefIdeal.nD Cert.DWukvRefIdeal.τ).loc Cert.DWukvRefIdeal.main_arg1)
      ∧ r.2.mem ((c.tc : Thread Cert.DWukvRefIdeal.nD Cert.DWukvRefIdeal.τ).loc Cert.DWukvRefIdeal.main_arg2) = m ((c.tc : Thread Cert.DWukvRefIdeal.nD Cert.DWukvRefIdeal.τ).loc Cert.DWukvRefIdeal.main_arg2))
      ∧ r.2.sem = fun _ => 0)

def quiescent_DCkvn [hDCkvn : Cert.DCkvn.Facts] : Prop :=
  ∀ (m : (ℓ : Loc Cert.DCkvn.nD Cert.DCkvn.τ Cert.DCkvn.sig) → Buf (Elt Bits) ℓ) (g : Dev Cert.DCkvn.nD → PrngReg), Pre_DCkvn m →
    θ_run (Cert.DCkvn.defs (F := Bits)) (onTc (τ := Cert.DCkvn.τ) (Cert.DCkvn.main (F := Bits))) ⟨m, fun _ => 0, g⟩ (fun r => (∀ c : Dev Cert.DCkvn.nD,
      r.2.mem ((c.tc : Thread Cert.DCkvn.nD Cert.DCkvn.τ).loc Cert.DCkvn.main_arg0) = m ((c.tc : Thread Cert.DCkvn.nD Cert.DCkvn.τ).loc Cert.DCkvn.main_arg0)
      ∧ r.2.mem ((c.tc : Thread Cert.DCkvn.nD Cert.DCkvn.τ).loc Cert.DCkvn.main_arg1) = m ((c.tc : Thread Cert.DCkvn.nD Cert.DCkvn.τ).loc Cert.DCkvn.main_arg1)
      ∧ r.2.mem ((c.tc : Thread Cert.DCkvn.nD Cert.DCkvn.τ).loc Cert.DCkvn.main_arg2) = m ((c.tc : Thread Cert.DCkvn.nD Cert.DCkvn.τ).loc Cert.DCkvn.main_arg2))
      ∧ r.2.sem = fun _ => 0)

def quiescent_DCkvnIdeal [hDCkvnIdeal : Cert.DCkvnIdeal.Facts] : Prop :=
  ∀ (m : (ℓ : Loc Cert.DCkvnIdeal.nD Cert.DCkvnIdeal.τ Cert.DCkvnIdeal.sig) → Buf (Elt Ideal) ℓ) (g : Dev Cert.DCkvnIdeal.nD → PrngReg), Pre_DCkvnIdeal m →
    θ_run (Cert.DCkvnIdeal.defs (F := Ideal)) (onTc (τ := Cert.DCkvnIdeal.τ) (Cert.DCkvnIdeal.main (F := Ideal))) ⟨m, fun _ => 0, g⟩ (fun r => (∀ c : Dev Cert.DCkvnIdeal.nD,
      r.2.mem ((c.tc : Thread Cert.DCkvnIdeal.nD Cert.DCkvnIdeal.τ).loc Cert.DCkvnIdeal.main_arg0) = m ((c.tc : Thread Cert.DCkvnIdeal.nD Cert.DCkvnIdeal.τ).loc Cert.DCkvnIdeal.main_arg0)
      ∧ r.2.mem ((c.tc : Thread Cert.DCkvnIdeal.nD Cert.DCkvnIdeal.τ).loc Cert.DCkvnIdeal.main_arg1) = m ((c.tc : Thread Cert.DCkvnIdeal.nD Cert.DCkvnIdeal.τ).loc Cert.DCkvnIdeal.main_arg1)
      ∧ r.2.mem ((c.tc : Thread Cert.DCkvnIdeal.nD Cert.DCkvnIdeal.τ).loc Cert.DCkvnIdeal.main_arg2) = m ((c.tc : Thread Cert.DCkvnIdeal.nD Cert.DCkvnIdeal.τ).loc Cert.DCkvnIdeal.main_arg2))
      ∧ r.2.sem = fun _ => 0)

def quiescent_DCkvnRefIdeal [hDCkvnRefIdeal : Cert.DCkvnRefIdeal.Facts] : Prop :=
  ∀ (m : (ℓ : Loc Cert.DCkvnRefIdeal.nD Cert.DCkvnRefIdeal.τ Cert.DCkvnRefIdeal.sig) → Buf (Elt Ideal) ℓ) (g : Dev Cert.DCkvnRefIdeal.nD → PrngReg), Pre_DCkvnRefIdeal m →
    θ_run (Cert.DCkvnRefIdeal.defs (F := Ideal)) (onTc (τ := Cert.DCkvnRefIdeal.τ) (Cert.DCkvnRefIdeal.main (F := Ideal))) ⟨m, fun _ => 0, g⟩ (fun r => (∀ c : Dev Cert.DCkvnRefIdeal.nD,
      r.2.mem ((c.tc : Thread Cert.DCkvnRefIdeal.nD Cert.DCkvnRefIdeal.τ).loc Cert.DCkvnRefIdeal.main_arg0) = m ((c.tc : Thread Cert.DCkvnRefIdeal.nD Cert.DCkvnRefIdeal.τ).loc Cert.DCkvnRefIdeal.main_arg0)
      ∧ r.2.mem ((c.tc : Thread Cert.DCkvnRefIdeal.nD Cert.DCkvnRefIdeal.τ).loc Cert.DCkvnRefIdeal.main_arg1) = m ((c.tc : Thread Cert.DCkvnRefIdeal.nD Cert.DCkvnRefIdeal.τ).loc Cert.DCkvnRefIdeal.main_arg1)
      ∧ r.2.mem ((c.tc : Thread Cert.DCkvnRefIdeal.nD Cert.DCkvnRefIdeal.τ).loc Cert.DCkvnRefIdeal.main_arg2) = m ((c.tc : Thread Cert.DCkvnRefIdeal.nD Cert.DCkvnRefIdeal.τ).loc Cert.DCkvnRefIdeal.main_arg2))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_BranchMerge [hBranchMerge : Cert.BranchMerge.Facts] : Prop :=
  ∀ (m : (ℓ : Loc Cert.BranchMerge.nD Cert.BranchMerge.τ Cert.BranchMerge.sig) → Buf (Elt Bits) ℓ) (g : Dev Cert.BranchMerge.nD → PrngReg), Pre_BranchMerge m →
    θ_run (Cert.BranchMerge.defs (F := Bits)) (onTc (τ := Cert.BranchMerge.τ) (Cert.BranchMerge.main (F := Bits))) ⟨m, fun _ => 0, g⟩ (fun r => (∀ c : Dev Cert.BranchMerge.nD,
      r.2.mem ((c.tc : Thread Cert.BranchMerge.nD Cert.BranchMerge.τ).loc Cert.BranchMerge.main_arg0) = m ((c.tc : Thread Cert.BranchMerge.nD Cert.BranchMerge.τ).loc Cert.BranchMerge.main_arg0)
      ∧ r.2.mem ((c.tc : Thread Cert.BranchMerge.nD Cert.BranchMerge.τ).loc Cert.BranchMerge.main_arg1) = m ((c.tc : Thread Cert.BranchMerge.nD Cert.BranchMerge.τ).loc Cert.BranchMerge.main_arg1)
      ∧ r.2.mem ((c.tc : Thread Cert.BranchMerge.nD Cert.BranchMerge.τ).loc Cert.BranchMerge.main_arg2) = m ((c.tc : Thread Cert.BranchMerge.nD Cert.BranchMerge.τ).loc Cert.BranchMerge.main_arg2)
      ∧ r.2.mem ((c.tc : Thread Cert.BranchMerge.nD Cert.BranchMerge.τ).loc Cert.BranchMerge.main_arg3) = m ((c.tc : Thread Cert.BranchMerge.nD Cert.BranchMerge.τ).loc Cert.BranchMerge.main_arg3)
      ∧ r.2.mem ((c.tc : Thread Cert.BranchMerge.nD Cert.BranchMerge.τ).loc Cert.BranchMerge.main_arg4) = m ((c.tc : Thread Cert.BranchMerge.nD Cert.BranchMerge.τ).loc Cert.BranchMerge.main_arg4)
      ∧ r.2.mem ((c.tc : Thread Cert.BranchMerge.nD Cert.BranchMerge.τ).loc Cert.BranchMerge.main_arg5) = m ((c.tc : Thread Cert.BranchMerge.nD Cert.BranchMerge.τ).loc Cert.BranchMerge.main_arg5))
      ∧ r.2.sem = fun _ => 0)

def quiescent_BranchMergeIdeal [hBranchMergeIdeal : Cert.BranchMergeIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg), Pre_BranchMergeIdeal m →
    θ_run (Cert.BranchMergeIdeal.defs (F := Ideal)) (onTc (τ := Cert.BranchMergeIdeal.τ) (Cert.BranchMergeIdeal.main (F := Ideal))) ⟨m, fun _ => 0, g⟩ (fun r => (∀ c : Dev Cert.BranchMergeIdeal.nD,
      r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
      ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
      ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
      ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
      ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4)
      ∧ r.2.mem ((c.tc : Thread Cert.BranchMergeIdeal.nD Cert.BranchMergeIdeal.τ).loc Cert.BranchMergeIdeal.main_arg5) = m ((c.tc : Thread Cert.BranchMergeIdeal.nD Cert.BranchMergeIdeal.τ).loc Cert.BranchMergeIdeal.main_arg5))
      ∧ r.2.sem = fun _ => 0)

def quiescent_BranchMergeRefIdeal [hBranchMergeRefIdeal : Cert.BranchMergeRefIdeal.Facts] : Prop :=
  ∀ (m : (ℓ : Loc Cert.BranchMergeRefIdeal.nD Cert.BranchMergeRefIdeal.τ Cert.BranchMergeRefIdeal.sig) → Buf (Elt Ideal) ℓ) (g : Dev Cert.BranchMergeRefIdeal.nD → PrngReg), Pre_BranchMergeRefIdeal m →
    θ_run (Cert.BranchMergeRefIdeal.defs (F := Ideal)) (onTc (τ := Cert.BranchMergeRefIdeal.τ) (Cert.BranchMergeRefIdeal.main (F := Ideal))) ⟨m, fun _ => 0, g⟩ (fun r => (∀ c : Dev Cert.BranchMergeRefIdeal.nD,
      r.2.mem ((c.tc : Thread Cert.BranchMergeRefIdeal.nD Cert.BranchMergeRefIdeal.τ).loc Cert.BranchMergeRefIdeal.main_arg0) = m ((c.tc : Thread Cert.BranchMergeRefIdeal.nD Cert.BranchMergeRefIdeal.τ).loc Cert.BranchMergeRefIdeal.main_arg0)
      ∧ r.2.mem ((c.tc : Thread Cert.BranchMergeRefIdeal.nD Cert.BranchMergeRefIdeal.τ).loc Cert.BranchMergeRefIdeal.main_arg1) = m ((c.tc : Thread Cert.BranchMergeRefIdeal.nD Cert.BranchMergeRefIdeal.τ).loc Cert.BranchMergeRefIdeal.main_arg1)
      ∧ r.2.mem ((c.tc : Thread Cert.BranchMergeRefIdeal.nD Cert.BranchMergeRefIdeal.τ).loc Cert.BranchMergeRefIdeal.main_arg2) = m ((c.tc : Thread Cert.BranchMergeRefIdeal.nD Cert.BranchMergeRefIdeal.τ).loc Cert.BranchMergeRefIdeal.main_arg2)
      ∧ r.2.mem ((c.tc : Thread Cert.BranchMergeRefIdeal.nD Cert.BranchMergeRefIdeal.τ).loc Cert.BranchMergeRefIdeal.main_arg3) = m ((c.tc : Thread Cert.BranchMergeRefIdeal.nD Cert.BranchMergeRefIdeal.τ).loc Cert.BranchMergeRefIdeal.main_arg3)
      ∧ r.2.mem ((c.tc : Thread Cert.BranchMergeRefIdeal.nD Cert.BranchMergeRefIdeal.τ).loc Cert.BranchMergeRefIdeal.main_arg4) = m ((c.tc : Thread Cert.BranchMergeRefIdeal.nD Cert.BranchMergeRefIdeal.τ).loc Cert.BranchMergeRefIdeal.main_arg4)
      ∧ r.2.mem ((c.tc : Thread Cert.BranchMergeRefIdeal.nD Cert.BranchMergeRefIdeal.τ).loc Cert.BranchMergeRefIdeal.main_arg5) = m ((c.tc : Thread Cert.BranchMergeRefIdeal.nD Cert.BranchMergeRefIdeal.τ).loc Cert.BranchMergeRefIdeal.main_arg5))
      ∧ r.2.sem = fun _ => 0)

def quiescent_DWpool [hDWpool : Cert.DWpool.Facts] : Prop :=
  ∀ (m : (ℓ : Loc Cert.DWpool.nD Cert.DWpool.τ Cert.DWpool.sig) → Buf (Elt Bits) ℓ) (g : Dev Cert.DWpool.nD → PrngReg), Pre_DWpool m →
    θ_run (Cert.DWpool.defs (F := Bits)) (onTc (τ := Cert.DWpool.τ) (Cert.DWpool.main (F := Bits))) ⟨m, fun _ => 0, g⟩ (fun r => (∀ c : Dev Cert.DWpool.nD,
      r.2.mem ((c.tc : Thread Cert.DWpool.nD Cert.DWpool.τ).loc Cert.DWpool.main_arg0) = m ((c.tc : Thread Cert.DWpool.nD Cert.DWpool.τ).loc Cert.DWpool.main_arg0)
      ∧ r.2.mem ((c.tc : Thread Cert.DWpool.nD Cert.DWpool.τ).loc Cert.DWpool.main_arg1) = m ((c.tc : Thread Cert.DWpool.nD Cert.DWpool.τ).loc Cert.DWpool.main_arg1)
      ∧ r.2.mem ((c.tc : Thread Cert.DWpool.nD Cert.DWpool.τ).loc Cert.DWpool.main_arg2) = m ((c.tc : Thread Cert.DWpool.nD Cert.DWpool.τ).loc Cert.DWpool.main_arg2))
      ∧ r.2.sem = fun _ => 0)

def quiescent_DWpoolIdeal [hDWpoolIdeal : Cert.DWpoolIdeal.Facts] : Prop :=
  ∀ (m : (ℓ : Loc Cert.DWpoolIdeal.nD Cert.DWpoolIdeal.τ Cert.DWpoolIdeal.sig) → Buf (Elt Ideal) ℓ) (g : Dev Cert.DWpoolIdeal.nD → PrngReg), Pre_DWpoolIdeal m →
    θ_run (Cert.DWpoolIdeal.defs (F := Ideal)) (onTc (τ := Cert.DWpoolIdeal.τ) (Cert.DWpoolIdeal.main (F := Ideal))) ⟨m, fun _ => 0, g⟩ (fun r => (∀ c : Dev Cert.DWpoolIdeal.nD,
      r.2.mem ((c.tc : Thread Cert.DWpoolIdeal.nD Cert.DWpoolIdeal.τ).loc Cert.DWpoolIdeal.main_arg0) = m ((c.tc : Thread Cert.DWpoolIdeal.nD Cert.DWpoolIdeal.τ).loc Cert.DWpoolIdeal.main_arg0)
      ∧ r.2.mem ((c.tc : Thread Cert.DWpoolIdeal.nD Cert.DWpoolIdeal.τ).loc Cert.DWpoolIdeal.main_arg1) = m ((c.tc : Thread Cert.DWpoolIdeal.nD Cert.DWpoolIdeal.τ).loc Cert.DWpoolIdeal.main_arg1)
      ∧ r.2.mem ((c.tc : Thread Cert.DWpoolIdeal.nD Cert.DWpoolIdeal.τ).loc Cert.DWpoolIdeal.main_arg2) = m ((c.tc : Thread Cert.DWpoolIdeal.nD Cert.DWpoolIdeal.τ).loc Cert.DWpoolIdeal.main_arg2))
      ∧ r.2.sem = fun _ => 0)

def quiescent_DWpoolRefIdeal [hDWpoolRefIdeal : Cert.DWpoolRefIdeal.Facts] : Prop :=
  ∀ (m : (ℓ : Loc Cert.DWpoolRefIdeal.nD Cert.DWpoolRefIdeal.τ Cert.DWpoolRefIdeal.sig) → Buf (Elt Ideal) ℓ) (g : Dev Cert.DWpoolRefIdeal.nD → PrngReg), Pre_DWpoolRefIdeal m →
    θ_run (Cert.DWpoolRefIdeal.defs (F := Ideal)) (onTc (τ := Cert.DWpoolRefIdeal.τ) (Cert.DWpoolRefIdeal.main (F := Ideal))) ⟨m, fun _ => 0, g⟩ (fun r => (∀ c : Dev Cert.DWpoolRefIdeal.nD,
      r.2.mem ((c.tc : Thread Cert.DWpoolRefIdeal.nD Cert.DWpoolRefIdeal.τ).loc Cert.DWpoolRefIdeal.main_arg0) = m ((c.tc : Thread Cert.DWpoolRefIdeal.nD Cert.DWpoolRefIdeal.τ).loc Cert.DWpoolRefIdeal.main_arg0)
      ∧ r.2.mem ((c.tc : Thread Cert.DWpoolRefIdeal.nD Cert.DWpoolRefIdeal.τ).loc Cert.DWpoolRefIdeal.main_arg1) = m ((c.tc : Thread Cert.DWpoolRefIdeal.nD Cert.DWpoolRefIdeal.τ).loc Cert.DWpoolRefIdeal.main_arg1)
      ∧ r.2.mem ((c.tc : Thread Cert.DWpoolRefIdeal.nD Cert.DWpoolRefIdeal.τ).loc Cert.DWpoolRefIdeal.main_arg2) = m ((c.tc : Thread Cert.DWpoolRefIdeal.nD Cert.DWpoolRefIdeal.τ).loc Cert.DWpoolRefIdeal.main_arg2))
      ∧ r.2.sem = fun _ => 0)

def quiescent_DPoolD [hDPoolD : Cert.DPoolD.Facts] : Prop :=
  ∀ (m : (ℓ : Loc Cert.DPoolD.nD Cert.DPoolD.τ Cert.DPoolD.sig) → Buf (Elt Bits) ℓ) (g : Dev Cert.DPoolD.nD → PrngReg), Pre_DPoolD m →
    θ_run (Cert.DPoolD.defs (F := Bits)) (onTc (τ := Cert.DPoolD.τ) (Cert.DPoolD.main (F := Bits))) ⟨m, fun _ => 0, g⟩ (fun r => (∀ c : Dev Cert.DPoolD.nD,
      r.2.mem ((c.tc : Thread Cert.DPoolD.nD Cert.DPoolD.τ).loc Cert.DPoolD.main_arg0) = m ((c.tc : Thread Cert.DPoolD.nD Cert.DPoolD.τ).loc Cert.DPoolD.main_arg0)
      ∧ r.2.mem ((c.tc : Thread Cert.DPoolD.nD Cert.DPoolD.τ).loc Cert.DPoolD.main_arg1) = m ((c.tc : Thread Cert.DPoolD.nD Cert.DPoolD.τ).loc Cert.DPoolD.main_arg1)
      ∧ r.2.mem ((c.tc : Thread Cert.DPoolD.nD Cert.DPoolD.τ).loc Cert.DPoolD.main_arg2) = m ((c.tc : Thread Cert.DPoolD.nD Cert.DPoolD.τ).loc Cert.DPoolD.main_arg2))
      ∧ r.2.sem = fun _ => 0)

def quiescent_DPoolDIdeal [hDPoolDIdeal : Cert.DPoolDIdeal.Facts] : Prop :=
  ∀ (m : (ℓ : Loc Cert.DPoolDIdeal.nD Cert.DPoolDIdeal.τ Cert.DPoolDIdeal.sig) → Buf (Elt Ideal) ℓ) (g : Dev Cert.DPoolDIdeal.nD → PrngReg), Pre_DPoolDIdeal m →
    θ_run (Cert.DPoolDIdeal.defs (F := Ideal)) (onTc (τ := Cert.DPoolDIdeal.τ) (Cert.DPoolDIdeal.main (F := Ideal))) ⟨m, fun _ => 0, g⟩ (fun r => (∀ c : Dev Cert.DPoolDIdeal.nD,
      r.2.mem ((c.tc : Thread Cert.DPoolDIdeal.nD Cert.DPoolDIdeal.τ).loc Cert.DPoolDIdeal.main_arg0) = m ((c.tc : Thread Cert.DPoolDIdeal.nD Cert.DPoolDIdeal.τ).loc Cert.DPoolDIdeal.main_arg0)
      ∧ r.2.mem ((c.tc : Thread Cert.DPoolDIdeal.nD Cert.DPoolDIdeal.τ).loc Cert.DPoolDIdeal.main_arg1) = m ((c.tc : Thread Cert.DPoolDIdeal.nD Cert.DPoolDIdeal.τ).loc Cert.DPoolDIdeal.main_arg1)
      ∧ r.2.mem ((c.tc : Thread Cert.DPoolDIdeal.nD Cert.DPoolDIdeal.τ).loc Cert.DPoolDIdeal.main_arg2) = m ((c.tc : Thread Cert.DPoolDIdeal.nD Cert.DPoolDIdeal.τ).loc Cert.DPoolDIdeal.main_arg2))
      ∧ r.2.sem = fun _ => 0)

def quiescent_DPoolDRefIdeal [hDPoolDRefIdeal : Cert.DPoolDRefIdeal.Facts] : Prop :=
  ∀ (m : (ℓ : Loc Cert.DPoolDRefIdeal.nD Cert.DPoolDRefIdeal.τ Cert.DPoolDRefIdeal.sig) → Buf (Elt Ideal) ℓ) (g : Dev Cert.DPoolDRefIdeal.nD → PrngReg), Pre_DPoolDRefIdeal m →
    θ_run (Cert.DPoolDRefIdeal.defs (F := Ideal)) (onTc (τ := Cert.DPoolDRefIdeal.τ) (Cert.DPoolDRefIdeal.main (F := Ideal))) ⟨m, fun _ => 0, g⟩ (fun r => (∀ c : Dev Cert.DPoolDRefIdeal.nD,
      r.2.mem ((c.tc : Thread Cert.DPoolDRefIdeal.nD Cert.DPoolDRefIdeal.τ).loc Cert.DPoolDRefIdeal.main_arg0) = m ((c.tc : Thread Cert.DPoolDRefIdeal.nD Cert.DPoolDRefIdeal.τ).loc Cert.DPoolDRefIdeal.main_arg0)
      ∧ r.2.mem ((c.tc : Thread Cert.DPoolDRefIdeal.nD Cert.DPoolDRefIdeal.τ).loc Cert.DPoolDRefIdeal.main_arg1) = m ((c.tc : Thread Cert.DPoolDRefIdeal.nD Cert.DPoolDRefIdeal.τ).loc Cert.DPoolDRefIdeal.main_arg1)
      ∧ r.2.mem ((c.tc : Thread Cert.DPoolDRefIdeal.nD Cert.DPoolDRefIdeal.τ).loc Cert.DPoolDRefIdeal.main_arg2) = m ((c.tc : Thread Cert.DPoolDRefIdeal.nD Cert.DPoolDRefIdeal.τ).loc Cert.DPoolDRefIdeal.main_arg2))
      ∧ r.2.sem = fun _ => 0)

def quiescent_DLruW [hDLruW : Cert.DLruW.Facts] : Prop :=
  ∀ (m : (ℓ : Loc Cert.DLruW.nD Cert.DLruW.τ Cert.DLruW.sig) → Buf (Elt Bits) ℓ) (g : Dev Cert.DLruW.nD → PrngReg), Pre_DLruW m →
    θ_run (Cert.DLruW.defs (F := Bits)) (onTc (τ := Cert.DLruW.τ) (Cert.DLruW.main (F := Bits))) ⟨m, fun _ => 0, g⟩ (fun r => (∀ c : Dev Cert.DLruW.nD,
      r.2.mem ((c.tc : Thread Cert.DLruW.nD Cert.DLruW.τ).loc Cert.DLruW.main_arg0) = m ((c.tc : Thread Cert.DLruW.nD Cert.DLruW.τ).loc Cert.DLruW.main_arg0)
      ∧ r.2.mem ((c.tc : Thread Cert.DLruW.nD Cert.DLruW.τ).loc Cert.DLruW.main_arg1) = m ((c.tc : Thread Cert.DLruW.nD Cert.DLruW.τ).loc Cert.DLruW.main_arg1)
      ∧ r.2.mem ((c.tc : Thread Cert.DLruW.nD Cert.DLruW.τ).loc Cert.DLruW.main_arg2) = m ((c.tc : Thread Cert.DLruW.nD Cert.DLruW.τ).loc Cert.DLruW.main_arg2)
      ∧ r.2.mem ((c.tc : Thread Cert.DLruW.nD Cert.DLruW.τ).loc Cert.DLruW.main_arg3) = m ((c.tc : Thread Cert.DLruW.nD Cert.DLruW.τ).loc Cert.DLruW.main_arg3)
      ∧ r.2.mem ((c.tc : Thread Cert.DLruW.nD Cert.DLruW.τ).loc Cert.DLruW.main_arg4) = m ((c.tc : Thread Cert.DLruW.nD Cert.DLruW.τ).loc Cert.DLruW.main_arg4))
      ∧ r.2.sem = fun _ => 0)

def quiescent_DLruWIdeal [hDLruWIdeal : Cert.DLruWIdeal.Facts] : Prop :=
  ∀ (m : (ℓ : Loc Cert.DLruWIdeal.nD Cert.DLruWIdeal.τ Cert.DLruWIdeal.sig) → Buf (Elt Ideal) ℓ) (g : Dev Cert.DLruWIdeal.nD → PrngReg), Pre_DLruWIdeal m →
    θ_run (Cert.DLruWIdeal.defs (F := Ideal)) (onTc (τ := Cert.DLruWIdeal.τ) (Cert.DLruWIdeal.main (F := Ideal))) ⟨m, fun _ => 0, g⟩ (fun r => (∀ c : Dev Cert.DLruWIdeal.nD,
      r.2.mem ((c.tc : Thread Cert.DLruWIdeal.nD Cert.DLruWIdeal.τ).loc Cert.DLruWIdeal.main_arg0) = m ((c.tc : Thread Cert.DLruWIdeal.nD Cert.DLruWIdeal.τ).loc Cert.DLruWIdeal.main_arg0)
      ∧ r.2.mem ((c.tc : Thread Cert.DLruWIdeal.nD Cert.DLruWIdeal.τ).loc Cert.DLruWIdeal.main_arg1) = m ((c.tc : Thread Cert.DLruWIdeal.nD Cert.DLruWIdeal.τ).loc Cert.DLruWIdeal.main_arg1)
      ∧ r.2.mem ((c.tc : Thread Cert.DLruWIdeal.nD Cert.DLruWIdeal.τ).loc Cert.DLruWIdeal.main_arg2) = m ((c.tc : Thread Cert.DLruWIdeal.nD Cert.DLruWIdeal.τ).loc Cert.DLruWIdeal.main_arg2)
      ∧ r.2.mem ((c.tc : Thread Cert.DLruWIdeal.nD Cert.DLruWIdeal.τ).loc Cert.DLruWIdeal.main_arg3) = m ((c.tc : Thread Cert.DLruWIdeal.nD Cert.DLruWIdeal.τ).loc Cert.DLruWIdeal.main_arg3)
      ∧ r.2.mem ((c.tc : Thread Cert.DLruWIdeal.nD Cert.DLruWIdeal.τ).loc Cert.DLruWIdeal.main_arg4) = m ((c.tc : Thread Cert.DLruWIdeal.nD Cert.DLruWIdeal.τ).loc Cert.DLruWIdeal.main_arg4))
      ∧ r.2.sem = fun _ => 0)

def quiescent_DLruWRefIdeal [hDLruWRefIdeal : Cert.DLruWRefIdeal.Facts] : Prop :=
  ∀ (m : (ℓ : Loc Cert.DLruWRefIdeal.nD Cert.DLruWRefIdeal.τ Cert.DLruWRefIdeal.sig) → Buf (Elt Ideal) ℓ) (g : Dev Cert.DLruWRefIdeal.nD → PrngReg), Pre_DLruWRefIdeal m →
    θ_run (Cert.DLruWRefIdeal.defs (F := Ideal)) (onTc (τ := Cert.DLruWRefIdeal.τ) (Cert.DLruWRefIdeal.main (F := Ideal))) ⟨m, fun _ => 0, g⟩ (fun r => (∀ c : Dev Cert.DLruWRefIdeal.nD,
      r.2.mem ((c.tc : Thread Cert.DLruWRefIdeal.nD Cert.DLruWRefIdeal.τ).loc Cert.DLruWRefIdeal.main_arg0) = m ((c.tc : Thread Cert.DLruWRefIdeal.nD Cert.DLruWRefIdeal.τ).loc Cert.DLruWRefIdeal.main_arg0)
      ∧ r.2.mem ((c.tc : Thread Cert.DLruWRefIdeal.nD Cert.DLruWRefIdeal.τ).loc Cert.DLruWRefIdeal.main_arg1) = m ((c.tc : Thread Cert.DLruWRefIdeal.nD Cert.DLruWRefIdeal.τ).loc Cert.DLruWRefIdeal.main_arg1)
      ∧ r.2.mem ((c.tc : Thread Cert.DLruWRefIdeal.nD Cert.DLruWRefIdeal.τ).loc Cert.DLruWRefIdeal.main_arg2) = m ((c.tc : Thread Cert.DLruWRefIdeal.nD Cert.DLruWRefIdeal.τ).loc Cert.DLruWRefIdeal.main_arg2)
      ∧ r.2.mem ((c.tc : Thread Cert.DLruWRefIdeal.nD Cert.DLruWRefIdeal.τ).loc Cert.DLruWRefIdeal.main_arg3) = m ((c.tc : Thread Cert.DLruWRefIdeal.nD Cert.DLruWRefIdeal.τ).loc Cert.DLruWRefIdeal.main_arg3)
      ∧ r.2.mem ((c.tc : Thread Cert.DLruWRefIdeal.nD Cert.DLruWRefIdeal.τ).loc Cert.DLruWRefIdeal.main_arg4) = m ((c.tc : Thread Cert.DLruWRefIdeal.nD Cert.DLruWRefIdeal.τ).loc Cert.DLruWRefIdeal.main_arg4))
      ∧ r.2.sem = fun _ => 0)

def quiescent_PoolMm [hPoolMm : Cert.PoolMm.Facts] : Prop :=
  ∀ (m : (ℓ : Loc Cert.PoolMm.nD Cert.PoolMm.τ Cert.PoolMm.sig) → Buf (Elt Bits) ℓ) (g : Dev Cert.PoolMm.nD → PrngReg), Pre_PoolMm m →
    θ_run (Cert.PoolMm.defs (F := Bits)) (onTc (τ := Cert.PoolMm.τ) (Cert.PoolMm.main (F := Bits))) ⟨m, fun _ => 0, g⟩ (fun r => (∀ c : Dev Cert.PoolMm.nD,
      r.2.mem ((c.tc : Thread Cert.PoolMm.nD Cert.PoolMm.τ).loc Cert.PoolMm.main_arg0) = m ((c.tc : Thread Cert.PoolMm.nD Cert.PoolMm.τ).loc Cert.PoolMm.main_arg0)
      ∧ r.2.mem ((c.tc : Thread Cert.PoolMm.nD Cert.PoolMm.τ).loc Cert.PoolMm.main_arg1) = m ((c.tc : Thread Cert.PoolMm.nD Cert.PoolMm.τ).loc Cert.PoolMm.main_arg1)
      ∧ r.2.mem ((c.tc : Thread Cert.PoolMm.nD Cert.PoolMm.τ).loc Cert.PoolMm.main_arg2) = m ((c.tc : Thread Cert.PoolMm.nD Cert.PoolMm.τ).loc Cert.PoolMm.main_arg2))
      ∧ r.2.sem = fun _ => 0)

def quiescent_PoolMmIdeal [hPoolMmIdeal : Cert.PoolMmIdeal.Facts] : Prop :=
  ∀ (m : (ℓ : Loc Cert.PoolMmIdeal.nD Cert.PoolMmIdeal.τ Cert.PoolMmIdeal.sig) → Buf (Elt Ideal) ℓ) (g : Dev Cert.PoolMmIdeal.nD → PrngReg), Pre_PoolMmIdeal m →
    θ_run (Cert.PoolMmIdeal.defs (F := Ideal)) (onTc (τ := Cert.PoolMmIdeal.τ) (Cert.PoolMmIdeal.main (F := Ideal))) ⟨m, fun _ => 0, g⟩ (fun r => (∀ c : Dev Cert.PoolMmIdeal.nD,
      r.2.mem ((c.tc : Thread Cert.PoolMmIdeal.nD Cert.PoolMmIdeal.τ).loc Cert.PoolMmIdeal.main_arg0) = m ((c.tc : Thread Cert.PoolMmIdeal.nD Cert.PoolMmIdeal.τ).loc Cert.PoolMmIdeal.main_arg0)
      ∧ r.2.mem ((c.tc : Thread Cert.PoolMmIdeal.nD Cert.PoolMmIdeal.τ).loc Cert.PoolMmIdeal.main_arg1) = m ((c.tc : Thread Cert.PoolMmIdeal.nD Cert.PoolMmIdeal.τ).loc Cert.PoolMmIdeal.main_arg1)
      ∧ r.2.mem ((c.tc : Thread Cert.PoolMmIdeal.nD Cert.PoolMmIdeal.τ).loc Cert.PoolMmIdeal.main_arg2) = m ((c.tc : Thread Cert.PoolMmIdeal.nD Cert.PoolMmIdeal.τ).loc Cert.PoolMmIdeal.main_arg2))
      ∧ r.2.sem = fun _ => 0)

def quiescent_PoolMmRefIdeal [hPoolMmRefIdeal : Cert.PoolMmRefIdeal.Facts] : Prop :=
  ∀ (m : (ℓ : Loc Cert.PoolMmRefIdeal.nD Cert.PoolMmRefIdeal.τ Cert.PoolMmRefIdeal.sig) → Buf (Elt Ideal) ℓ) (g : Dev Cert.PoolMmRefIdeal.nD → PrngReg), Pre_PoolMmRefIdeal m →
    θ_run (Cert.PoolMmRefIdeal.defs (F := Ideal)) (onTc (τ := Cert.PoolMmRefIdeal.τ) (Cert.PoolMmRefIdeal.main (F := Ideal))) ⟨m, fun _ => 0, g⟩ (fun r => (∀ c : Dev Cert.PoolMmRefIdeal.nD,
      r.2.mem ((c.tc : Thread Cert.PoolMmRefIdeal.nD Cert.PoolMmRefIdeal.τ).loc Cert.PoolMmRefIdeal.main_arg0) = m ((c.tc : Thread Cert.PoolMmRefIdeal.nD Cert.PoolMmRefIdeal.τ).loc Cert.PoolMmRefIdeal.main_arg0)
      ∧ r.2.mem ((c.tc : Thread Cert.PoolMmRefIdeal.nD Cert.PoolMmRefIdeal.τ).loc Cert.PoolMmRefIdeal.main_arg1) = m ((c.tc : Thread Cert.PoolMmRefIdeal.nD Cert.PoolMmRefIdeal.τ).loc Cert.PoolMmRefIdeal.main_arg1)
      ∧ r.2.mem ((c.tc : Thread Cert.PoolMmRefIdeal.nD Cert.PoolMmRefIdeal.τ).loc Cert.PoolMmRefIdeal.main_arg2) = m ((c.tc : Thread Cert.PoolMmRefIdeal.nD Cert.PoolMmRefIdeal.τ).loc Cert.PoolMmRefIdeal.main_arg2))
      ∧ r.2.sem = fun _ => 0)

def quiescent_LruMm [hLruMm : Cert.LruMm.Facts] : Prop :=
  ∀ (m : (ℓ : Loc Cert.LruMm.nD Cert.LruMm.τ Cert.LruMm.sig) → Buf (Elt Bits) ℓ) (g : Dev Cert.LruMm.nD → PrngReg), Pre_LruMm m →
    θ_run (Cert.LruMm.defs (F := Bits)) (onTc (τ := Cert.LruMm.τ) (Cert.LruMm.main (F := Bits))) ⟨m, fun _ => 0, g⟩ (fun r => (∀ c : Dev Cert.LruMm.nD,
      r.2.mem ((c.tc : Thread Cert.LruMm.nD Cert.LruMm.τ).loc Cert.LruMm.main_arg0) = m ((c.tc : Thread Cert.LruMm.nD Cert.LruMm.τ).loc Cert.LruMm.main_arg0)
      ∧ r.2.mem ((c.tc : Thread Cert.LruMm.nD Cert.LruMm.τ).loc Cert.LruMm.main_arg1) = m ((c.tc : Thread Cert.LruMm.nD Cert.LruMm.τ).loc Cert.LruMm.main_arg1)
      ∧ r.2.mem ((c.tc : Thread Cert.LruMm.nD Cert.LruMm.τ).loc Cert.LruMm.main_arg2) = m ((c.tc : Thread Cert.LruMm.nD Cert.LruMm.τ).loc Cert.LruMm.main_arg2))
      ∧ r.2.sem = fun _ => 0)

def quiescent_LruMmIdeal [hLruMmIdeal : Cert.LruMmIdeal.Facts] : Prop :=
  ∀ (m : (ℓ : Loc Cert.LruMmIdeal.nD Cert.LruMmIdeal.τ Cert.LruMmIdeal.sig) → Buf (Elt Ideal) ℓ) (g : Dev Cert.LruMmIdeal.nD → PrngReg), Pre_LruMmIdeal m →
    θ_run (Cert.LruMmIdeal.defs (F := Ideal)) (onTc (τ := Cert.LruMmIdeal.τ) (Cert.LruMmIdeal.main (F := Ideal))) ⟨m, fun _ => 0, g⟩ (fun r => (∀ c : Dev Cert.LruMmIdeal.nD,
      r.2.mem ((c.tc : Thread Cert.LruMmIdeal.nD Cert.LruMmIdeal.τ).loc Cert.LruMmIdeal.main_arg0) = m ((c.tc : Thread Cert.LruMmIdeal.nD Cert.LruMmIdeal.τ).loc Cert.LruMmIdeal.main_arg0)
      ∧ r.2.mem ((c.tc : Thread Cert.LruMmIdeal.nD Cert.LruMmIdeal.τ).loc Cert.LruMmIdeal.main_arg1) = m ((c.tc : Thread Cert.LruMmIdeal.nD Cert.LruMmIdeal.τ).loc Cert.LruMmIdeal.main_arg1)
      ∧ r.2.mem ((c.tc : Thread Cert.LruMmIdeal.nD Cert.LruMmIdeal.τ).loc Cert.LruMmIdeal.main_arg2) = m ((c.tc : Thread Cert.LruMmIdeal.nD Cert.LruMmIdeal.τ).loc Cert.LruMmIdeal.main_arg2))
      ∧ r.2.sem = fun _ => 0)

def quiescent_LruMmRefIdeal [hLruMmRefIdeal : Cert.LruMmRefIdeal.Facts] : Prop :=
  ∀ (m : (ℓ : Loc Cert.LruMmRefIdeal.nD Cert.LruMmRefIdeal.τ Cert.LruMmRefIdeal.sig) → Buf (Elt Ideal) ℓ) (g : Dev Cert.LruMmRefIdeal.nD → PrngReg), Pre_LruMmRefIdeal m →
    θ_run (Cert.LruMmRefIdeal.defs (F := Ideal)) (onTc (τ := Cert.LruMmRefIdeal.τ) (Cert.LruMmRefIdeal.main (F := Ideal))) ⟨m, fun _ => 0, g⟩ (fun r => (∀ c : Dev Cert.LruMmRefIdeal.nD,
      r.2.mem ((c.tc : Thread Cert.LruMmRefIdeal.nD Cert.LruMmRefIdeal.τ).loc Cert.LruMmRefIdeal.main_arg0) = m ((c.tc : Thread Cert.LruMmRefIdeal.nD Cert.LruMmRefIdeal.τ).loc Cert.LruMmRefIdeal.main_arg0)
      ∧ r.2.mem ((c.tc : Thread Cert.LruMmRefIdeal.nD Cert.LruMmRefIdeal.τ).loc Cert.LruMmRefIdeal.main_arg1) = m ((c.tc : Thread Cert.LruMmRefIdeal.nD Cert.LruMmRefIdeal.τ).loc Cert.LruMmRefIdeal.main_arg1)
      ∧ r.2.mem ((c.tc : Thread Cert.LruMmRefIdeal.nD Cert.LruMmRefIdeal.τ).loc Cert.LruMmRefIdeal.main_arg2) = m ((c.tc : Thread Cert.LruMmRefIdeal.nD Cert.LruMmRefIdeal.τ).loc Cert.LruMmRefIdeal.main_arg2))
      ∧ r.2.sem = fun _ => 0)

def quiescent_DXc [hDXc : Cert.DXc.Facts] : Prop :=
  ∀ (m : (ℓ : Loc Cert.DXc.nD Cert.DXc.τ Cert.DXc.sig) → Buf (Elt Bits) ℓ) (g : Dev Cert.DXc.nD → PrngReg), Pre_DXc m →
    θ_run (Cert.DXc.defs (F := Bits)) (onTc (τ := Cert.DXc.τ) (Cert.DXc.main (F := Bits))) ⟨m, fun _ => 0, g⟩ (fun r => (∀ c : Dev Cert.DXc.nD,
      r.2.mem ((c.tc : Thread Cert.DXc.nD Cert.DXc.τ).loc Cert.DXc.main_arg0) = m ((c.tc : Thread Cert.DXc.nD Cert.DXc.τ).loc Cert.DXc.main_arg0)
      ∧ r.2.mem ((c.tc : Thread Cert.DXc.nD Cert.DXc.τ).loc Cert.DXc.main_arg1) = m ((c.tc : Thread Cert.DXc.nD Cert.DXc.τ).loc Cert.DXc.main_arg1)
      ∧ r.2.mem ((c.tc : Thread Cert.DXc.nD Cert.DXc.τ).loc Cert.DXc.main_arg2) = m ((c.tc : Thread Cert.DXc.nD Cert.DXc.τ).loc Cert.DXc.main_arg2)
      ∧ r.2.mem ((c.tc : Thread Cert.DXc.nD Cert.DXc.τ).loc Cert.DXc.main_arg3) = m ((c.tc : Thread Cert.DXc.nD Cert.DXc.τ).loc Cert.DXc.main_arg3)
      ∧ r.2.mem ((c.tc : Thread Cert.DXc.nD Cert.DXc.τ).loc Cert.DXc.main_arg4) = m ((c.tc : Thread Cert.DXc.nD Cert.DXc.τ).loc Cert.DXc.main_arg4)
      ∧ r.2.mem ((c.tc : Thread Cert.DXc.nD Cert.DXc.τ).loc Cert.DXc.main_arg5) = m ((c.tc : Thread Cert.DXc.nD Cert.DXc.τ).loc Cert.DXc.main_arg5))
      ∧ r.2.sem = fun _ => 0)

def quiescent_DXcIdeal [hDXcIdeal : Cert.DXcIdeal.Facts] : Prop :=
  ∀ (m : (ℓ : Loc Cert.DXcIdeal.nD Cert.DXcIdeal.τ Cert.DXcIdeal.sig) → Buf (Elt Ideal) ℓ) (g : Dev Cert.DXcIdeal.nD → PrngReg), Pre_DXcIdeal m →
    θ_run (Cert.DXcIdeal.defs (F := Ideal)) (onTc (τ := Cert.DXcIdeal.τ) (Cert.DXcIdeal.main (F := Ideal))) ⟨m, fun _ => 0, g⟩ (fun r => (∀ c : Dev Cert.DXcIdeal.nD,
      r.2.mem ((c.tc : Thread Cert.DXcIdeal.nD Cert.DXcIdeal.τ).loc Cert.DXcIdeal.main_arg0) = m ((c.tc : Thread Cert.DXcIdeal.nD Cert.DXcIdeal.τ).loc Cert.DXcIdeal.main_arg0)
      ∧ r.2.mem ((c.tc : Thread Cert.DXcIdeal.nD Cert.DXcIdeal.τ).loc Cert.DXcIdeal.main_arg1) = m ((c.tc : Thread Cert.DXcIdeal.nD Cert.DXcIdeal.τ).loc Cert.DXcIdeal.main_arg1)
      ∧ r.2.mem ((c.tc : Thread Cert.DXcIdeal.nD Cert.DXcIdeal.τ).loc Cert.DXcIdeal.main_arg2) = m ((c.tc : Thread Cert.DXcIdeal.nD Cert.DXcIdeal.τ).loc Cert.DXcIdeal.main_arg2)
      ∧ r.2.mem ((c.tc : Thread Cert.DXcIdeal.nD Cert.DXcIdeal.τ).loc Cert.DXcIdeal.main_arg3) = m ((c.tc : Thread Cert.DXcIdeal.nD Cert.DXcIdeal.τ).loc Cert.DXcIdeal.main_arg3)
      ∧ r.2.mem ((c.tc : Thread Cert.DXcIdeal.nD Cert.DXcIdeal.τ).loc Cert.DXcIdeal.main_arg4) = m ((c.tc : Thread Cert.DXcIdeal.nD Cert.DXcIdeal.τ).loc Cert.DXcIdeal.main_arg4)
      ∧ r.2.mem ((c.tc : Thread Cert.DXcIdeal.nD Cert.DXcIdeal.τ).loc Cert.DXcIdeal.main_arg5) = m ((c.tc : Thread Cert.DXcIdeal.nD Cert.DXcIdeal.τ).loc Cert.DXcIdeal.main_arg5))
      ∧ r.2.sem = fun _ => 0)

def quiescent_DXcRefIdeal [hDXcRefIdeal : Cert.DXcRefIdeal.Facts] : Prop :=
  ∀ (m : (ℓ : Loc Cert.DXcRefIdeal.nD Cert.DXcRefIdeal.τ Cert.DXcRefIdeal.sig) → Buf (Elt Ideal) ℓ) (g : Dev Cert.DXcRefIdeal.nD → PrngReg), Pre_DXcRefIdeal m →
    θ_run (Cert.DXcRefIdeal.defs (F := Ideal)) (onTc (τ := Cert.DXcRefIdeal.τ) (Cert.DXcRefIdeal.main (F := Ideal))) ⟨m, fun _ => 0, g⟩ (fun r => (∀ c : Dev Cert.DXcRefIdeal.nD,
      r.2.mem ((c.tc : Thread Cert.DXcRefIdeal.nD Cert.DXcRefIdeal.τ).loc Cert.DXcRefIdeal.main_arg0) = m ((c.tc : Thread Cert.DXcRefIdeal.nD Cert.DXcRefIdeal.τ).loc Cert.DXcRefIdeal.main_arg0)
      ∧ r.2.mem ((c.tc : Thread Cert.DXcRefIdeal.nD Cert.DXcRefIdeal.τ).loc Cert.DXcRefIdeal.main_arg1) = m ((c.tc : Thread Cert.DXcRefIdeal.nD Cert.DXcRefIdeal.τ).loc Cert.DXcRefIdeal.main_arg1)
      ∧ r.2.mem ((c.tc : Thread Cert.DXcRefIdeal.nD Cert.DXcRefIdeal.τ).loc Cert.DXcRefIdeal.main_arg2) = m ((c.tc : Thread Cert.DXcRefIdeal.nD Cert.DXcRefIdeal.τ).loc Cert.DXcRefIdeal.main_arg2)
      ∧ r.2.mem ((c.tc : Thread Cert.DXcRefIdeal.nD Cert.DXcRefIdeal.τ).loc Cert.DXcRefIdeal.main_arg3) = m ((c.tc : Thread Cert.DXcRefIdeal.nD Cert.DXcRefIdeal.τ).loc Cert.DXcRefIdeal.main_arg3)
      ∧ r.2.mem ((c.tc : Thread Cert.DXcRefIdeal.nD Cert.DXcRefIdeal.τ).loc Cert.DXcRefIdeal.main_arg4) = m ((c.tc : Thread Cert.DXcRefIdeal.nD Cert.DXcRefIdeal.τ).loc Cert.DXcRefIdeal.main_arg4)
      ∧ r.2.mem ((c.tc : Thread Cert.DXcRefIdeal.nD Cert.DXcRefIdeal.τ).loc Cert.DXcRefIdeal.main_arg5) = m ((c.tc : Thread Cert.DXcRefIdeal.nD Cert.DXcRefIdeal.τ).loc Cert.DXcRefIdeal.main_arg5))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdIdeal_pre_finite_scores [hFlashFwdIdeal : Cert.FlashFwdIdeal.Facts] [hPre_finite_scores : Cert.Pre_finite_scores.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_finite_scores m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_FlashFwdRefIdeal_pre_finite_scores [hFlashFwdRefIdeal : Cert.FlashFwdRefIdeal.Facts] [hPre_finite_scores : Cert.Pre_finite_scores.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_finite_scores m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_PleEmb [hPleEmb : Cert.PleEmb.Facts] : Prop :=
  ∀ (m : (ℓ : Loc Cert.PleEmb.nD Cert.PleEmb.τ Cert.PleEmb.sig) → Buf (Elt Bits) ℓ) (g : Dev Cert.PleEmb.nD → PrngReg), Pre_PleEmb m →
    θ_run (Cert.PleEmb.defs (F := Bits)) (onTc (τ := Cert.PleEmb.τ) (Cert.PleEmb.main (F := Bits))) ⟨m, fun _ => 0, g⟩ (fun r => (∀ c : Dev Cert.PleEmb.nD,
      r.2.mem ((c.tc : Thread Cert.PleEmb.nD Cert.PleEmb.τ).loc Cert.PleEmb.main_arg0) = m ((c.tc : Thread Cert.PleEmb.nD Cert.PleEmb.τ).loc Cert.PleEmb.main_arg0)
      ∧ r.2.mem ((c.tc : Thread Cert.PleEmb.nD Cert.PleEmb.τ).loc Cert.PleEmb.main_arg1) = m ((c.tc : Thread Cert.PleEmb.nD Cert.PleEmb.τ).loc Cert.PleEmb.main_arg1))
      ∧ r.2.sem = fun _ => 0)

def quiescent_PleEmbIdeal [hPleEmbIdeal : Cert.PleEmbIdeal.Facts] : Prop :=
  ∀ (m : (ℓ : Loc Cert.PleEmbIdeal.nD Cert.PleEmbIdeal.τ Cert.PleEmbIdeal.sig) → Buf (Elt Ideal) ℓ) (g : Dev Cert.PleEmbIdeal.nD → PrngReg), Pre_PleEmbIdeal m →
    θ_run (Cert.PleEmbIdeal.defs (F := Ideal)) (onTc (τ := Cert.PleEmbIdeal.τ) (Cert.PleEmbIdeal.main (F := Ideal))) ⟨m, fun _ => 0, g⟩ (fun r => (∀ c : Dev Cert.PleEmbIdeal.nD,
      r.2.mem ((c.tc : Thread Cert.PleEmbIdeal.nD Cert.PleEmbIdeal.τ).loc Cert.PleEmbIdeal.main_arg0) = m ((c.tc : Thread Cert.PleEmbIdeal.nD Cert.PleEmbIdeal.τ).loc Cert.PleEmbIdeal.main_arg0)
      ∧ r.2.mem ((c.tc : Thread Cert.PleEmbIdeal.nD Cert.PleEmbIdeal.τ).loc Cert.PleEmbIdeal.main_arg1) = m ((c.tc : Thread Cert.PleEmbIdeal.nD Cert.PleEmbIdeal.τ).loc Cert.PleEmbIdeal.main_arg1))
      ∧ r.2.sem = fun _ => 0)

def quiescent_PleEmbRefIdeal [hPleEmbRefIdeal : Cert.PleEmbRefIdeal.Facts] : Prop :=
  ∀ (m : (ℓ : Loc Cert.PleEmbRefIdeal.nD Cert.PleEmbRefIdeal.τ Cert.PleEmbRefIdeal.sig) → Buf (Elt Ideal) ℓ) (g : Dev Cert.PleEmbRefIdeal.nD → PrngReg), Pre_PleEmbRefIdeal m →
    θ_run (Cert.PleEmbRefIdeal.defs (F := Ideal)) (onTc (τ := Cert.PleEmbRefIdeal.τ) (Cert.PleEmbRefIdeal.main (F := Ideal))) ⟨m, fun _ => 0, g⟩ (fun r => (∀ c : Dev Cert.PleEmbRefIdeal.nD,
      r.2.mem ((c.tc : Thread Cert.PleEmbRefIdeal.nD Cert.PleEmbRefIdeal.τ).loc Cert.PleEmbRefIdeal.main_arg0) = m ((c.tc : Thread Cert.PleEmbRefIdeal.nD Cert.PleEmbRefIdeal.τ).loc Cert.PleEmbRefIdeal.main_arg0)
      ∧ r.2.mem ((c.tc : Thread Cert.PleEmbRefIdeal.nD Cert.PleEmbRefIdeal.τ).loc Cert.PleEmbRefIdeal.main_arg1) = m ((c.tc : Thread Cert.PleEmbRefIdeal.nD Cert.PleEmbRefIdeal.τ).loc Cert.PleEmbRefIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1)
      ∧ r.2.mem ((c.tc : Thread Cert.PleGate.nD Cert.PleGate.τ).loc Cert.PleGate.main_arg2) = m ((c.tc : Thread Cert.PleGate.nD Cert.PleGate.τ).loc Cert.PleGate.main_arg2)
      ∧ r.2.mem ((c.tc : Thread Cert.PleGate.nD Cert.PleGate.τ).loc Cert.PleGate.main_arg3) = m ((c.tc : Thread Cert.PleGate.nD Cert.PleGate.τ).loc Cert.PleGate.main_arg3))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
      ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
      ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1)
      ∧ r.2.mem ((c.tc : Thread Cert.PleGateRefIdeal.nD Cert.PleGateRefIdeal.τ).loc Cert.PleGateRefIdeal.main_arg2) = m ((c.tc : Thread Cert.PleGateRefIdeal.nD Cert.PleGateRefIdeal.τ).loc Cert.PleGateRefIdeal.main_arg2)
      ∧ r.2.mem ((c.tc : Thread Cert.PleGateRefIdeal.nD Cert.PleGateRefIdeal.τ).loc Cert.PleGateRefIdeal.main_arg3) = m ((c.tc : Thread Cert.PleGateRefIdeal.nD Cert.PleGateRefIdeal.τ).loc Cert.PleGateRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DWff2_DWff2Ideal : Prop :=
  True

def algebraic_DWff2Ideal_DWff2RefIdeal [hDWff2Ideal : Cert.DWff2Ideal.Facts] [hDWff2RefIdeal : Cert.DWff2RefIdeal.Facts] : Prop :=
  ∀ (m : (ℓ : Loc Cert.DWff2Ideal.nD Cert.DWff2Ideal.τ Cert.DWff2Ideal.sig) → Buf (Elt Ideal) ℓ) (g : Dev Cert.DWff2Ideal.nD → PrngReg)
    (m' : (ℓ : Loc Cert.DWff2RefIdeal.nD Cert.DWff2RefIdeal.τ Cert.DWff2RefIdeal.sig) → Buf (Elt Ideal) ℓ) (g' : Dev Cert.DWff2RefIdeal.nD → PrngReg), Pre_DWff2Ideal m →
    (∀ c : Dev Cert.DWff2Ideal.nD,
      m' ((c.tc : Thread Cert.DWff2RefIdeal.nD Cert.DWff2RefIdeal.τ).loc Cert.DWff2RefIdeal.main_arg0) = m ((c.tc : Thread Cert.DWff2Ideal.nD Cert.DWff2Ideal.τ).loc Cert.DWff2Ideal.main_arg0)
      ∧ m' ((c.tc : Thread Cert.DWff2RefIdeal.nD Cert.DWff2RefIdeal.τ).loc Cert.DWff2RefIdeal.main_arg1) = m ((c.tc : Thread Cert.DWff2Ideal.nD Cert.DWff2Ideal.τ).loc Cert.DWff2Ideal.main_arg1)
      ∧ m' ((c.tc : Thread Cert.DWff2RefIdeal.nD Cert.DWff2RefIdeal.τ).loc Cert.DWff2RefIdeal.main_arg2) = m ((c.tc : Thread Cert.DWff2Ideal.nD Cert.DWff2Ideal.τ).loc Cert.DWff2Ideal.main_arg2)) →
    ∃ (v0 : (c : Dev Cert.DWff2Ideal.nD) → Buf (Elt Ideal) ((c.tc : Thread Cert.DWff2Ideal.nD Cert.DWff2Ideal.τ).loc Cert.DWff2Ideal.main_v5)),
      θ_run (Cert.DWff2Ideal.defs (F := Ideal)) (onTc (τ := Cert.DWff2Ideal.τ) (Cert.DWff2Ideal.main (F := Ideal))) ⟨m, fun _ => 0, g⟩ (fun r => ∀ c : Dev Cert.DWff2Ideal.nD,
          r.2.mem ((c.tc : Thread Cert.DWff2Ideal.nD Cert.DWff2Ideal.τ).loc Cert.DWff2Ideal.main_v5) = v0 c
          ∧ r.2.mem ((c.tc : Thread Cert.DWff2Ideal.nD Cert.DWff2Ideal.τ).loc Cert.DWff2Ideal.main_arg0) = m ((c.tc : Thread Cert.DWff2Ideal.nD Cert.DWff2Ideal.τ).loc Cert.DWff2Ideal.main_arg0)
          ∧ r.2.mem ((c.tc : Thread Cert.DWff2Ideal.nD Cert.DWff2Ideal.τ).loc Cert.DWff2Ideal.main_arg1) = m ((c.tc : Thread Cert.DWff2Ideal.nD Cert.DWff2Ideal.τ).loc Cert.DWff2Ideal.main_arg1)
          ∧ r.2.mem ((c.tc : Thread Cert.DWff2Ideal.nD Cert.DWff2Ideal.τ).loc Cert.DWff2Ideal.main_arg2) = m ((c.tc : Thread Cert.DWff2Ideal.nD Cert.DWff2Ideal.τ).loc Cert.DWff2Ideal.main_arg2))
      ∧ θ_run (Cert.DWff2RefIdeal.defs (F := Ideal)) (onTc (τ := Cert.DWff2RefIdeal.τ) (Cert.DWff2RefIdeal.main (F := Ideal))) ⟨m', fun _ => 0, g'⟩ (fun r => ∀ c : Dev Cert.DWff2RefIdeal.nD,
          r.2.mem ((c.tc : Thread Cert.DWff2RefIdeal.nD Cert.DWff2RefIdeal.τ).loc Cert.DWff2RefIdeal.main_v5) = v0 c
          ∧ r.2.mem ((c.tc : Thread Cert.DWff2RefIdeal.nD Cert.DWff2RefIdeal.τ).loc Cert.DWff2RefIdeal.main_arg0) = m' ((c.tc : Thread Cert.DWff2RefIdeal.nD Cert.DWff2RefIdeal.τ).loc Cert.DWff2RefIdeal.main_arg0)
          ∧ r.2.mem ((c.tc : Thread Cert.DWff2RefIdeal.nD Cert.DWff2RefIdeal.τ).loc Cert.DWff2RefIdeal.main_arg1) = m' ((c.tc : Thread Cert.DWff2RefIdeal.nD Cert.DWff2RefIdeal.τ).loc Cert.DWff2RefIdeal.main_arg1)
          ∧ r.2.mem ((c.tc : Thread Cert.DWff2RefIdeal.nD Cert.DWff2RefIdeal.τ).loc Cert.DWff2RefIdeal.main_arg2) = m' ((c.tc : Thread Cert.DWff2RefIdeal.nD Cert.DWff2RefIdeal.τ).loc Cert.DWff2RefIdeal.main_arg2))

def preserves_DAff_DAffIdeal : Prop :=
  True

def algebraic_DAffIdeal_DAffRefIdeal [hDAffIdeal : Cert.DAffIdeal.Facts] [hDAffRefIdeal : Cert.DAffRefIdeal.Facts] : Prop :=
  ∀ (m : (ℓ : Loc Cert.DAffIdeal.nD Cert.DAffIdeal.τ Cert.DAffIdeal.sig) → Buf (Elt Ideal) ℓ) (g : Dev Cert.DAffIdeal.nD → PrngReg)
    (m' : (ℓ : Loc Cert.DAffRefIdeal.nD Cert.DAffRefIdeal.τ Cert.DAffRefIdeal.sig) → Buf (Elt Ideal) ℓ) (g' : Dev Cert.DAffRefIdeal.nD → PrngReg), Pre_DAffIdeal m →
    (∀ c : Dev Cert.DAffIdeal.nD,
      m' ((c.tc : Thread Cert.DAffRefIdeal.nD Cert.DAffRefIdeal.τ).loc Cert.DAffRefIdeal.main_arg0) = m ((c.tc : Thread Cert.DAffIdeal.nD Cert.DAffIdeal.τ).loc Cert.DAffIdeal.main_arg0)
      ∧ m' ((c.tc : Thread Cert.DAffRefIdeal.nD Cert.DAffRefIdeal.τ).loc Cert.DAffRefIdeal.main_arg1) = m ((c.tc : Thread Cert.DAffIdeal.nD Cert.DAffIdeal.τ).loc Cert.DAffIdeal.main_arg1)
      ∧ m' ((c.tc : Thread Cert.DAffRefIdeal.nD Cert.DAffRefIdeal.τ).loc Cert.DAffRefIdeal.main_arg2) = m ((c.tc : Thread Cert.DAffIdeal.nD Cert.DAffIdeal.τ).loc Cert.DAffIdeal.main_arg2)) →
    ∃ (v0 : (c : Dev Cert.DAffIdeal.nD) → Buf (Elt Ideal) ((c.tc : Thread Cert.DAffIdeal.nD Cert.DAffIdeal.τ).loc Cert.DAffIdeal.main_v0)),
      θ_run (Cert.DAffIdeal.defs (F := Ideal)) (onTc (τ := Cert.DAffIdeal.τ) (Cert.DAffIdeal.main (F := Ideal))) ⟨m, fun _ => 0, g⟩ (fun r => ∀ c : Dev Cert.DAffIdeal.nD,
          r.2.mem ((c.tc : Thread Cert.DAffIdeal.nD Cert.DAffIdeal.τ).loc Cert.DAffIdeal.main_v0) = v0 c
          ∧ r.2.mem ((c.tc : Thread Cert.DAffIdeal.nD Cert.DAffIdeal.τ).loc Cert.DAffIdeal.main_arg0) = m ((c.tc : Thread Cert.DAffIdeal.nD Cert.DAffIdeal.τ).loc Cert.DAffIdeal.main_arg0)
          ∧ r.2.mem ((c.tc : Thread Cert.DAffIdeal.nD Cert.DAffIdeal.τ).loc Cert.DAffIdeal.main_arg1) = m ((c.tc : Thread Cert.DAffIdeal.nD Cert.DAffIdeal.τ).loc Cert.DAffIdeal.main_arg1)
          ∧ r.2.mem ((c.tc : Thread Cert.DAffIdeal.nD Cert.DAffIdeal.τ).loc Cert.DAffIdeal.main_arg2) = m ((c.tc : Thread Cert.DAffIdeal.nD Cert.DAffIdeal.τ).loc Cert.DAffIdeal.main_arg2))
      ∧ θ_run (Cert.DAffRefIdeal.defs (F := Ideal)) (onTc (τ := Cert.DAffRefIdeal.τ) (Cert.DAffRefIdeal.main (F := Ideal))) ⟨m', fun _ => 0, g'⟩ (fun r => ∀ c : Dev Cert.DAffRefIdeal.nD,
          r.2.mem ((c.tc : Thread Cert.DAffRefIdeal.nD Cert.DAffRefIdeal.τ).loc Cert.DAffRefIdeal.main_v13) = v0 c
          ∧ r.2.mem ((c.tc : Thread Cert.DAffRefIdeal.nD Cert.DAffRefIdeal.τ).loc Cert.DAffRefIdeal.main_arg0) = m' ((c.tc : Thread Cert.DAffRefIdeal.nD Cert.DAffRefIdeal.τ).loc Cert.DAffRefIdeal.main_arg0)
          ∧ r.2.mem ((c.tc : Thread Cert.DAffRefIdeal.nD Cert.DAffRefIdeal.τ).loc Cert.DAffRefIdeal.main_arg1) = m' ((c.tc : Thread Cert.DAffRefIdeal.nD Cert.DAffRefIdeal.τ).loc Cert.DAffRefIdeal.main_arg1)
          ∧ r.2.mem ((c.tc : Thread Cert.DAffRefIdeal.nD Cert.DAffRefIdeal.τ).loc Cert.DAffRefIdeal.main_arg2) = m' ((c.tc : Thread Cert.DAffRefIdeal.nD Cert.DAffRefIdeal.τ).loc Cert.DAffRefIdeal.main_arg2))

def preserves_DWff1_DWff1Ideal : Prop :=
  True

def algebraic_DWff1Ideal_DWff1RefIdeal [hDWff1Ideal : Cert.DWff1Ideal.Facts] [hDWff1RefIdeal : Cert.DWff1RefIdeal.Facts] : Prop :=
  ∀ (m : (ℓ : Loc Cert.DWff1Ideal.nD Cert.DWff1Ideal.τ Cert.DWff1Ideal.sig) → Buf (Elt Ideal) ℓ) (g : Dev Cert.DWff1Ideal.nD → PrngReg)
    (m' : (ℓ : Loc Cert.DWff1RefIdeal.nD Cert.DWff1RefIdeal.τ Cert.DWff1RefIdeal.sig) → Buf (Elt Ideal) ℓ) (g' : Dev Cert.DWff1RefIdeal.nD → PrngReg), Pre_DWff1Ideal m →
    (∀ c : Dev Cert.DWff1Ideal.nD,
      m' ((c.tc : Thread Cert.DWff1RefIdeal.nD Cert.DWff1RefIdeal.τ).loc Cert.DWff1RefIdeal.main_arg0) = m ((c.tc : Thread Cert.DWff1Ideal.nD Cert.DWff1Ideal.τ).loc Cert.DWff1Ideal.main_arg0)
      ∧ m' ((c.tc : Thread Cert.DWff1RefIdeal.nD Cert.DWff1RefIdeal.τ).loc Cert.DWff1RefIdeal.main_arg1) = m ((c.tc : Thread Cert.DWff1Ideal.nD Cert.DWff1Ideal.τ).loc Cert.DWff1Ideal.main_arg1)
      ∧ m' ((c.tc : Thread Cert.DWff1RefIdeal.nD Cert.DWff1RefIdeal.τ).loc Cert.DWff1RefIdeal.main_arg2) = m ((c.tc : Thread Cert.DWff1Ideal.nD Cert.DWff1Ideal.τ).loc Cert.DWff1Ideal.main_arg2)) →
    ∃ (v0 : (c : Dev Cert.DWff1Ideal.nD) → Buf (Elt Ideal) ((c.tc : Thread Cert.DWff1Ideal.nD Cert.DWff1Ideal.τ).loc Cert.DWff1Ideal.main_v0)),
      θ_run (Cert.DWff1Ideal.defs (F := Ideal)) (onTc (τ := Cert.DWff1Ideal.τ) (Cert.DWff1Ideal.main (F := Ideal))) ⟨m, fun _ => 0, g⟩ (fun r => ∀ c : Dev Cert.DWff1Ideal.nD,
          r.2.mem ((c.tc : Thread Cert.DWff1Ideal.nD Cert.DWff1Ideal.τ).loc Cert.DWff1Ideal.main_v0) = v0 c
          ∧ r.2.mem ((c.tc : Thread Cert.DWff1Ideal.nD Cert.DWff1Ideal.τ).loc Cert.DWff1Ideal.main_arg0) = m ((c.tc : Thread Cert.DWff1Ideal.nD Cert.DWff1Ideal.τ).loc Cert.DWff1Ideal.main_arg0)
          ∧ r.2.mem ((c.tc : Thread Cert.DWff1Ideal.nD Cert.DWff1Ideal.τ).loc Cert.DWff1Ideal.main_arg1) = m ((c.tc : Thread Cert.DWff1Ideal.nD Cert.DWff1Ideal.τ).loc Cert.DWff1Ideal.main_arg1)
          ∧ r.2.mem ((c.tc : Thread Cert.DWff1Ideal.nD Cert.DWff1Ideal.τ).loc Cert.DWff1Ideal.main_arg2) = m ((c.tc : Thread Cert.DWff1Ideal.nD Cert.DWff1Ideal.τ).loc Cert.DWff1Ideal.main_arg2))
      ∧ θ_run (Cert.DWff1RefIdeal.defs (F := Ideal)) (onTc (τ := Cert.DWff1RefIdeal.τ) (Cert.DWff1RefIdeal.main (F := Ideal))) ⟨m', fun _ => 0, g'⟩ (fun r => ∀ c : Dev Cert.DWff1RefIdeal.nD,
          r.2.mem ((c.tc : Thread Cert.DWff1RefIdeal.nD Cert.DWff1RefIdeal.τ).loc Cert.DWff1RefIdeal.main_v4) = v0 c
          ∧ r.2.mem ((c.tc : Thread Cert.DWff1RefIdeal.nD Cert.DWff1RefIdeal.τ).loc Cert.DWff1RefIdeal.main_arg0) = m' ((c.tc : Thread Cert.DWff1RefIdeal.nD Cert.DWff1RefIdeal.τ).loc Cert.DWff1RefIdeal.main_arg0)
          ∧ r.2.mem ((c.tc : Thread Cert.DWff1RefIdeal.nD Cert.DWff1RefIdeal.τ).loc Cert.DWff1RefIdeal.main_arg1) = m' ((c.tc : Thread Cert.DWff1RefIdeal.nD Cert.DWff1RefIdeal.τ).loc Cert.DWff1RefIdeal.main_arg1)
          ∧ r.2.mem ((c.tc : Thread Cert.DWff1RefIdeal.nD Cert.DWff1RefIdeal.τ).loc Cert.DWff1RefIdeal.main_arg2) = m' ((c.tc : Thread Cert.DWff1RefIdeal.nD Cert.DWff1RefIdeal.τ).loc Cert.DWff1RefIdeal.main_arg2))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)
      ∧ m' ((c.tc : Thread Cert.DH2RefIdeal.nD Cert.DH2RefIdeal.τ).loc Cert.DH2RefIdeal.main_arg2) = m ((c.tc : Thread Cert.DH2Ideal.nD Cert.DH2Ideal.τ).loc Cert.DH2Ideal.main_arg2)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
          ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v4) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1)
          ∧ r.2.mem ((c.tc : Thread Cert.DH2RefIdeal.nD Cert.DH2RefIdeal.τ).loc Cert.DH2RefIdeal.main_arg2) = m' ((c.tc : Thread Cert.DH2RefIdeal.nD Cert.DH2RefIdeal.τ).loc Cert.DH2RefIdeal.main_arg2))

def preserves_DWout_DWoutIdeal : Prop :=
  True

def algebraic_DWoutIdeal_DWoutRefIdeal [hDWoutIdeal : Cert.DWoutIdeal.Facts] [hDWoutRefIdeal : Cert.DWoutRefIdeal.Facts] : Prop :=
  ∀ (m : (ℓ : Loc Cert.DWoutIdeal.nD Cert.DWoutIdeal.τ Cert.DWoutIdeal.sig) → Buf (Elt Ideal) ℓ) (g : Dev Cert.DWoutIdeal.nD → PrngReg)
    (m' : (ℓ : Loc Cert.DWoutRefIdeal.nD Cert.DWoutRefIdeal.τ Cert.DWoutRefIdeal.sig) → Buf (Elt Ideal) ℓ) (g' : Dev Cert.DWoutRefIdeal.nD → PrngReg), Pre_DWoutIdeal m →
    (∀ c : Dev Cert.DWoutIdeal.nD,
      m' ((c.tc : Thread Cert.DWoutRefIdeal.nD Cert.DWoutRefIdeal.τ).loc Cert.DWoutRefIdeal.main_arg0) = m ((c.tc : Thread Cert.DWoutIdeal.nD Cert.DWoutIdeal.τ).loc Cert.DWoutIdeal.main_arg0)
      ∧ m' ((c.tc : Thread Cert.DWoutRefIdeal.nD Cert.DWoutRefIdeal.τ).loc Cert.DWoutRefIdeal.main_arg1) = m ((c.tc : Thread Cert.DWoutIdeal.nD Cert.DWoutIdeal.τ).loc Cert.DWoutIdeal.main_arg1)
      ∧ m' ((c.tc : Thread Cert.DWoutRefIdeal.nD Cert.DWoutRefIdeal.τ).loc Cert.DWoutRefIdeal.main_arg2) = m ((c.tc : Thread Cert.DWoutIdeal.nD Cert.DWoutIdeal.τ).loc Cert.DWoutIdeal.main_arg2)) →
    ∃ (v0 : (c : Dev Cert.DWoutIdeal.nD) → Buf (Elt Ideal) ((c.tc : Thread Cert.DWoutIdeal.nD Cert.DWoutIdeal.τ).loc Cert.DWoutIdeal.main_v0)),
      θ_run (Cert.DWoutIdeal.defs (F := Ideal)) (onTc (τ := Cert.DWoutIdeal.τ) (Cert.DWoutIdeal.main (F := Ideal))) ⟨m, fun _ => 0, g⟩ (fun r => ∀ c : Dev Cert.DWoutIdeal.nD,
          r.2.mem ((c.tc : Thread Cert.DWoutIdeal.nD Cert.DWoutIdeal.τ).loc Cert.DWoutIdeal.main_v0) = v0 c
          ∧ r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
          ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1)
          ∧ r.2.mem ((c.tc : Thread Cert.DWoutIdeal.nD Cert.DWoutIdeal.τ).loc Cert.DWoutIdeal.main_arg2) = m ((c.tc : Thread Cert.DWoutIdeal.nD Cert.DWoutIdeal.τ).loc Cert.DWoutIdeal.main_arg2))
      ∧ θ_run (Cert.DWoutRefIdeal.defs (F := Ideal)) (onTc (τ := Cert.DWoutRefIdeal.τ) (Cert.DWoutRefIdeal.main (F := Ideal))) ⟨m', fun _ => 0, g'⟩ (fun r => ∀ c : Dev Cert.DWoutRefIdeal.nD,
          r.2.mem ((c.tc : Thread Cert.DWoutRefIdeal.nD Cert.DWoutRefIdeal.τ).loc Cert.DWoutRefIdeal.main_v2) = v0 c
          ∧ r.2.mem ((c.tc : Thread Cert.DWoutRefIdeal.nD Cert.DWoutRefIdeal.τ).loc Cert.DWoutRefIdeal.main_arg0) = m' ((c.tc : Thread Cert.DWoutRefIdeal.nD Cert.DWoutRefIdeal.τ).loc Cert.DWoutRefIdeal.main_arg0)
          ∧ r.2.mem ((c.tc : Thread Cert.DWoutRefIdeal.nD Cert.DWoutRefIdeal.τ).loc Cert.DWoutRefIdeal.main_arg1) = m' ((c.tc : Thread Cert.DWoutRefIdeal.nD Cert.DWoutRefIdeal.τ).loc Cert.DWoutRefIdeal.main_arg1)
          ∧ r.2.mem ((c.tc : Thread Cert.DWoutRefIdeal.nD Cert.DWoutRefIdeal.τ).loc Cert.DWoutRefIdeal.main_arg2) = m' ((c.tc : Thread Cert.DWoutRefIdeal.nD Cert.DWoutRefIdeal.τ).loc Cert.DWoutRefIdeal.main_arg2))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)
      ∧ m' ((c.tc : Thread Cert.DMergedRefIdeal.nD Cert.DMergedRefIdeal.τ).loc Cert.DMergedRefIdeal.main_arg2) = m ((c.tc : Thread Cert.DMergedIdeal.nD Cert.DMergedIdeal.τ).loc Cert.DMergedIdeal.main_arg2)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1)
          ∧ r.2.mem ((c.tc : Thread Cert.DMergedIdeal.nD Cert.DMergedIdeal.τ).loc Cert.DMergedIdeal.main_arg2) = m ((c.tc : Thread Cert.DMergedIdeal.nD Cert.DMergedIdeal.τ).loc Cert.DMergedIdeal.main_arg2))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v1) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1)
          ∧ r.2.mem ((c.tc : Thread Cert.DMergedRefIdeal.nD Cert.DMergedRefIdeal.τ).loc Cert.DMergedRefIdeal.main_arg2) = m' ((c.tc : Thread Cert.DMergedRefIdeal.nD Cert.DMergedRefIdeal.τ).loc Cert.DMergedRefIdeal.main_arg2))

def preserves_DWpleGate_DWpleGateIdeal : Prop :=
  True

def algebraic_DWpleGateIdeal_DWpleGateRefIdeal [hDWpleGateIdeal : Cert.DWpleGateIdeal.Facts] [hDWpleGateRefIdeal : Cert.DWpleGateRefIdeal.Facts] : Prop :=
  ∀ (m : (ℓ : Loc Cert.DWpleGateIdeal.nD Cert.DWpleGateIdeal.τ Cert.DWpleGateIdeal.sig) → Buf (Elt Ideal) ℓ) (g : Dev Cert.DWpleGateIdeal.nD → PrngReg)
    (m' : (ℓ : Loc Cert.DWpleGateRefIdeal.nD Cert.DWpleGateRefIdeal.τ Cert.DWpleGateRefIdeal.sig) → Buf (Elt Ideal) ℓ) (g' : Dev Cert.DWpleGateRefIdeal.nD → PrngReg), Pre_DWpleGateIdeal m →
    (∀ c : Dev Cert.DWpleGateIdeal.nD,
      m' ((c.tc : Thread Cert.DWpleGateRefIdeal.nD Cert.DWpleGateRefIdeal.τ).loc Cert.DWpleGateRefIdeal.main_arg0) = m ((c.tc : Thread Cert.DWpleGateIdeal.nD Cert.DWpleGateIdeal.τ).loc Cert.DWpleGateIdeal.main_arg0)
      ∧ m' ((c.tc : Thread Cert.DWpleGateRefIdeal.nD Cert.DWpleGateRefIdeal.τ).loc Cert.DWpleGateRefIdeal.main_arg1) = m ((c.tc : Thread Cert.DWpleGateIdeal.nD Cert.DWpleGateIdeal.τ).loc Cert.DWpleGateIdeal.main_arg1)
      ∧ m' ((c.tc : Thread Cert.DWpleGateRefIdeal.nD Cert.DWpleGateRefIdeal.τ).loc Cert.DWpleGateRefIdeal.main_arg2) = m ((c.tc : Thread Cert.DWpleGateIdeal.nD Cert.DWpleGateIdeal.τ).loc Cert.DWpleGateIdeal.main_arg2)) →
    ∃ (v0 : (c : Dev Cert.DWpleGateIdeal.nD) → Buf (Elt Ideal) ((c.tc : Thread Cert.DWpleGateIdeal.nD Cert.DWpleGateIdeal.τ).loc Cert.DWpleGateIdeal.main_v0)),
      θ_run (Cert.DWpleGateIdeal.defs (F := Ideal)) (onTc (τ := Cert.DWpleGateIdeal.τ) (Cert.DWpleGateIdeal.main (F := Ideal))) ⟨m, fun _ => 0, g⟩ (fun r => ∀ c : Dev Cert.DWpleGateIdeal.nD,
          r.2.mem ((c.tc : Thread Cert.DWpleGateIdeal.nD Cert.DWpleGateIdeal.τ).loc Cert.DWpleGateIdeal.main_v0) = v0 c
          ∧ r.2.mem ((c.tc : Thread Cert.DWpleGateIdeal.nD Cert.DWpleGateIdeal.τ).loc Cert.DWpleGateIdeal.main_arg0) = m ((c.tc : Thread Cert.DWpleGateIdeal.nD Cert.DWpleGateIdeal.τ).loc Cert.DWpleGateIdeal.main_arg0)
          ∧ r.2.mem ((c.tc : Thread Cert.DWpleGateIdeal.nD Cert.DWpleGateIdeal.τ).loc Cert.DWpleGateIdeal.main_arg1) = m ((c.tc : Thread Cert.DWpleGateIdeal.nD Cert.DWpleGateIdeal.τ).loc Cert.DWpleGateIdeal.main_arg1)
          ∧ r.2.mem ((c.tc : Thread Cert.DWpleGateIdeal.nD Cert.DWpleGateIdeal.τ).loc Cert.DWpleGateIdeal.main_arg2) = m ((c.tc : Thread Cert.DWpleGateIdeal.nD Cert.DWpleGateIdeal.τ).loc Cert.DWpleGateIdeal.main_arg2))
      ∧ θ_run (Cert.DWpleGateRefIdeal.defs (F := Ideal)) (onTc (τ := Cert.DWpleGateRefIdeal.τ) (Cert.DWpleGateRefIdeal.main (F := Ideal))) ⟨m', fun _ => 0, g'⟩ (fun r => ∀ c : Dev Cert.DWpleGateRefIdeal.nD,
          r.2.mem ((c.tc : Thread Cert.DWpleGateRefIdeal.nD Cert.DWpleGateRefIdeal.τ).loc Cert.DWpleGateRefIdeal.main_v4) = v0 c
          ∧ r.2.mem ((c.tc : Thread Cert.DWpleGateRefIdeal.nD Cert.DWpleGateRefIdeal.τ).loc Cert.DWpleGateRefIdeal.main_arg0) = m' ((c.tc : Thread Cert.DWpleGateRefIdeal.nD Cert.DWpleGateRefIdeal.τ).loc Cert.DWpleGateRefIdeal.main_arg0)
          ∧ r.2.mem ((c.tc : Thread Cert.DWpleGateRefIdeal.nD Cert.DWpleGateRefIdeal.τ).loc Cert.DWpleGateRefIdeal.main_arg1) = m' ((c.tc : Thread Cert.DWpleGateRefIdeal.nD Cert.DWpleGateRefIdeal.τ).loc Cert.DWpleGateRefIdeal.main_arg1)
          ∧ r.2.mem ((c.tc : Thread Cert.DWpleGateRefIdeal.nD Cert.DWpleGateRefIdeal.τ).loc Cert.DWpleGateRefIdeal.main_arg2) = m' ((c.tc : Thread Cert.DWpleGateRefIdeal.nD Cert.DWpleGateRefIdeal.τ).loc Cert.DWpleGateRefIdeal.main_arg2))

def preserves_DH3_DH3Ideal : Prop :=
  True

def algebraic_DH3Ideal_DH3RefIdeal [hDH3Ideal : Cert.DH3Ideal.Facts] [hDH3RefIdeal : Cert.DH3RefIdeal.Facts] : Prop :=
  ∀ (m : (ℓ : Loc Cert.DH3Ideal.nD Cert.DH3Ideal.τ Cert.DH3Ideal.sig) → Buf (Elt Ideal) ℓ) (g : Dev Cert.DH3Ideal.nD → PrngReg)
    (m' : (ℓ : Loc Cert.DH3RefIdeal.nD Cert.DH3RefIdeal.τ Cert.DH3RefIdeal.sig) → Buf (Elt Ideal) ℓ) (g' : Dev Cert.DH3RefIdeal.nD → PrngReg), Pre_DH3Ideal m →
    (∀ c : Dev Cert.DH3Ideal.nD,
      m' ((c.tc : Thread Cert.DH3RefIdeal.nD Cert.DH3RefIdeal.τ).loc Cert.DH3RefIdeal.main_arg0) = m ((c.tc : Thread Cert.DH3Ideal.nD Cert.DH3Ideal.τ).loc Cert.DH3Ideal.main_arg0)
      ∧ m' ((c.tc : Thread Cert.DH3RefIdeal.nD Cert.DH3RefIdeal.τ).loc Cert.DH3RefIdeal.main_arg1) = m ((c.tc : Thread Cert.DH3Ideal.nD Cert.DH3Ideal.τ).loc Cert.DH3Ideal.main_arg1)
      ∧ m' ((c.tc : Thread Cert.DH3RefIdeal.nD Cert.DH3RefIdeal.τ).loc Cert.DH3RefIdeal.main_arg2) = m ((c.tc : Thread Cert.DH3Ideal.nD Cert.DH3Ideal.τ).loc Cert.DH3Ideal.main_arg2)) →
    ∃ (v0 : (c : Dev Cert.DH3Ideal.nD) → Buf (Elt Ideal) ((c.tc : Thread Cert.DH3Ideal.nD Cert.DH3Ideal.τ).loc Cert.DH3Ideal.main_v0)),
      θ_run (Cert.DH3Ideal.defs (F := Ideal)) (onTc (τ := Cert.DH3Ideal.τ) (Cert.DH3Ideal.main (F := Ideal))) ⟨m, fun _ => 0, g⟩ (fun r => ∀ c : Dev Cert.DH3Ideal.nD,
          r.2.mem ((c.tc : Thread Cert.DH3Ideal.nD Cert.DH3Ideal.τ).loc Cert.DH3Ideal.main_v0) = v0 c
          ∧ r.2.mem ((c.tc : Thread Cert.DH3Ideal.nD Cert.DH3Ideal.τ).loc Cert.DH3Ideal.main_arg0) = m ((c.tc : Thread Cert.DH3Ideal.nD Cert.DH3Ideal.τ).loc Cert.DH3Ideal.main_arg0)
          ∧ r.2.mem ((c.tc : Thread Cert.DH3Ideal.nD Cert.DH3Ideal.τ).loc Cert.DH3Ideal.main_arg1) = m ((c.tc : Thread Cert.DH3Ideal.nD Cert.DH3Ideal.τ).loc Cert.DH3Ideal.main_arg1)
          ∧ r.2.mem ((c.tc : Thread Cert.DH3Ideal.nD Cert.DH3Ideal.τ).loc Cert.DH3Ideal.main_arg2) = m ((c.tc : Thread Cert.DH3Ideal.nD Cert.DH3Ideal.τ).loc Cert.DH3Ideal.main_arg2))
      ∧ θ_run (Cert.DH3RefIdeal.defs (F := Ideal)) (onTc (τ := Cert.DH3RefIdeal.τ) (Cert.DH3RefIdeal.main (F := Ideal))) ⟨m', fun _ => 0, g'⟩ (fun r => ∀ c : Dev Cert.DH3RefIdeal.nD,
          r.2.mem ((c.tc : Thread Cert.DH3RefIdeal.nD Cert.DH3RefIdeal.τ).loc Cert.DH3RefIdeal.main_v4) = v0 c
          ∧ r.2.mem ((c.tc : Thread Cert.DH3RefIdeal.nD Cert.DH3RefIdeal.τ).loc Cert.DH3RefIdeal.main_arg0) = m' ((c.tc : Thread Cert.DH3RefIdeal.nD Cert.DH3RefIdeal.τ).loc Cert.DH3RefIdeal.main_arg0)
          ∧ r.2.mem ((c.tc : Thread Cert.DH3RefIdeal.nD Cert.DH3RefIdeal.τ).loc Cert.DH3RefIdeal.main_arg1) = m' ((c.tc : Thread Cert.DH3RefIdeal.nD Cert.DH3RefIdeal.τ).loc Cert.DH3RefIdeal.main_arg1)
          ∧ r.2.mem ((c.tc : Thread Cert.DH3RefIdeal.nD Cert.DH3RefIdeal.τ).loc Cert.DH3RefIdeal.main_arg2) = m' ((c.tc : Thread Cert.DH3RefIdeal.nD Cert.DH3RefIdeal.τ).loc Cert.DH3RefIdeal.main_arg2))

def preserves_DWple_DWpleIdeal : Prop :=
  True

def algebraic_DWpleIdeal_DWpleRefIdeal [hDWpleIdeal : Cert.DWpleIdeal.Facts] [hDWpleRefIdeal : Cert.DWpleRefIdeal.Facts] : Prop :=
  ∀ (m : (ℓ : Loc Cert.DWpleIdeal.nD Cert.DWpleIdeal.τ Cert.DWpleIdeal.sig) → Buf (Elt Ideal) ℓ) (g : Dev Cert.DWpleIdeal.nD → PrngReg)
    (m' : (ℓ : Loc Cert.DWpleRefIdeal.nD Cert.DWpleRefIdeal.τ Cert.DWpleRefIdeal.sig) → Buf (Elt Ideal) ℓ) (g' : Dev Cert.DWpleRefIdeal.nD → PrngReg), Pre_DWpleIdeal m →
    (∀ c : Dev Cert.DWpleIdeal.nD,
      m' ((c.tc : Thread Cert.DWpleRefIdeal.nD Cert.DWpleRefIdeal.τ).loc Cert.DWpleRefIdeal.main_arg0) = m ((c.tc : Thread Cert.DWpleIdeal.nD Cert.DWpleIdeal.τ).loc Cert.DWpleIdeal.main_arg0)
      ∧ m' ((c.tc : Thread Cert.DWpleRefIdeal.nD Cert.DWpleRefIdeal.τ).loc Cert.DWpleRefIdeal.main_arg1) = m ((c.tc : Thread Cert.DWpleIdeal.nD Cert.DWpleIdeal.τ).loc Cert.DWpleIdeal.main_arg1)
      ∧ m' ((c.tc : Thread Cert.DWpleRefIdeal.nD Cert.DWpleRefIdeal.τ).loc Cert.DWpleRefIdeal.main_arg2) = m ((c.tc : Thread Cert.DWpleIdeal.nD Cert.DWpleIdeal.τ).loc Cert.DWpleIdeal.main_arg2)) →
    ∃ (v0 : (c : Dev Cert.DWpleIdeal.nD) → Buf (Elt Ideal) ((c.tc : Thread Cert.DWpleIdeal.nD Cert.DWpleIdeal.τ).loc Cert.DWpleIdeal.main_v0)),
      θ_run (Cert.DWpleIdeal.defs (F := Ideal)) (onTc (τ := Cert.DWpleIdeal.τ) (Cert.DWpleIdeal.main (F := Ideal))) ⟨m, fun _ => 0, g⟩ (fun r => ∀ c : Dev Cert.DWpleIdeal.nD,
          r.2.mem ((c.tc : Thread Cert.DWpleIdeal.nD Cert.DWpleIdeal.τ).loc Cert.DWpleIdeal.main_v0) = v0 c
          ∧ r.2.mem ((c.tc : Thread Cert.DWpleIdeal.nD Cert.DWpleIdeal.τ).loc Cert.DWpleIdeal.main_arg0) = m ((c.tc : Thread Cert.DWpleIdeal.nD Cert.DWpleIdeal.τ).loc Cert.DWpleIdeal.main_arg0)
          ∧ r.2.mem ((c.tc : Thread Cert.DWpleIdeal.nD Cert.DWpleIdeal.τ).loc Cert.DWpleIdeal.main_arg1) = m ((c.tc : Thread Cert.DWpleIdeal.nD Cert.DWpleIdeal.τ).loc Cert.DWpleIdeal.main_arg1)
          ∧ r.2.mem ((c.tc : Thread Cert.DWpleIdeal.nD Cert.DWpleIdeal.τ).loc Cert.DWpleIdeal.main_arg2) = m ((c.tc : Thread Cert.DWpleIdeal.nD Cert.DWpleIdeal.τ).loc Cert.DWpleIdeal.main_arg2))
      ∧ θ_run (Cert.DWpleRefIdeal.defs (F := Ideal)) (onTc (τ := Cert.DWpleRefIdeal.τ) (Cert.DWpleRefIdeal.main (F := Ideal))) ⟨m', fun _ => 0, g'⟩ (fun r => ∀ c : Dev Cert.DWpleRefIdeal.nD,
          r.2.mem ((c.tc : Thread Cert.DWpleRefIdeal.nD Cert.DWpleRefIdeal.τ).loc Cert.DWpleRefIdeal.main_v3) = v0 c
          ∧ r.2.mem ((c.tc : Thread Cert.DWpleRefIdeal.nD Cert.DWpleRefIdeal.τ).loc Cert.DWpleRefIdeal.main_arg0) = m' ((c.tc : Thread Cert.DWpleRefIdeal.nD Cert.DWpleRefIdeal.τ).loc Cert.DWpleRefIdeal.main_arg0)
          ∧ r.2.mem ((c.tc : Thread Cert.DWpleRefIdeal.nD Cert.DWpleRefIdeal.τ).loc Cert.DWpleRefIdeal.main_arg1) = m' ((c.tc : Thread Cert.DWpleRefIdeal.nD Cert.DWpleRefIdeal.τ).loc Cert.DWpleRefIdeal.main_arg1)
          ∧ r.2.mem ((c.tc : Thread Cert.DWpleRefIdeal.nD Cert.DWpleRefIdeal.τ).loc Cert.DWpleRefIdeal.main_arg2) = m' ((c.tc : Thread Cert.DWpleRefIdeal.nD Cert.DWpleRefIdeal.τ).loc Cert.DWpleRefIdeal.main_arg2))

def preserves_DWbranch_DWbranchIdeal : Prop :=
  True

def algebraic_DWbranchIdeal_DWbranchRefIdeal [hDWbranchIdeal : Cert.DWbranchIdeal.Facts] [hDWbranchRefIdeal : Cert.DWbranchRefIdeal.Facts] : Prop :=
  ∀ (m : (ℓ : Loc Cert.DWbranchIdeal.nD Cert.DWbranchIdeal.τ Cert.DWbranchIdeal.sig) → Buf (Elt Ideal) ℓ) (g : Dev Cert.DWbranchIdeal.nD → PrngReg)
    (m' : (ℓ : Loc Cert.DWbranchRefIdeal.nD Cert.DWbranchRefIdeal.τ Cert.DWbranchRefIdeal.sig) → Buf (Elt Ideal) ℓ) (g' : Dev Cert.DWbranchRefIdeal.nD → PrngReg), Pre_DWbranchIdeal m →
    (∀ c : Dev Cert.DWbranchIdeal.nD,
      m' ((c.tc : Thread Cert.DWbranchRefIdeal.nD Cert.DWbranchRefIdeal.τ).loc Cert.DWbranchRefIdeal.main_arg0) = m ((c.tc : Thread Cert.DWbranchIdeal.nD Cert.DWbranchIdeal.τ).loc Cert.DWbranchIdeal.main_arg0)
      ∧ m' ((c.tc : Thread Cert.DWbranchRefIdeal.nD Cert.DWbranchRefIdeal.τ).loc Cert.DWbranchRefIdeal.main_arg1) = m ((c.tc : Thread Cert.DWbranchIdeal.nD Cert.DWbranchIdeal.τ).loc Cert.DWbranchIdeal.main_arg1)
      ∧ m' ((c.tc : Thread Cert.DWbranchRefIdeal.nD Cert.DWbranchRefIdeal.τ).loc Cert.DWbranchRefIdeal.main_arg2) = m ((c.tc : Thread Cert.DWbranchIdeal.nD Cert.DWbranchIdeal.τ).loc Cert.DWbranchIdeal.main_arg2)) →
    ∃ (v0 : (c : Dev Cert.DWbranchIdeal.nD) → Buf (Elt Ideal) ((c.tc : Thread Cert.DWbranchIdeal.nD Cert.DWbranchIdeal.τ).loc Cert.DWbranchIdeal.main_v0)),
      θ_run (Cert.DWbranchIdeal.defs (F := Ideal)) (onTc (τ := Cert.DWbranchIdeal.τ) (Cert.DWbranchIdeal.main (F := Ideal))) ⟨m, fun _ => 0, g⟩ (fun r => ∀ c : Dev Cert.DWbranchIdeal.nD,
          r.2.mem ((c.tc : Thread Cert.DWbranchIdeal.nD Cert.DWbranchIdeal.τ).loc Cert.DWbranchIdeal.main_v0) = v0 c
          ∧ r.2.mem ((c.tc : Thread Cert.DWbranchIdeal.nD Cert.DWbranchIdeal.τ).loc Cert.DWbranchIdeal.main_arg0) = m ((c.tc : Thread Cert.DWbranchIdeal.nD Cert.DWbranchIdeal.τ).loc Cert.DWbranchIdeal.main_arg0)
          ∧ r.2.mem ((c.tc : Thread Cert.DWbranchIdeal.nD Cert.DWbranchIdeal.τ).loc Cert.DWbranchIdeal.main_arg1) = m ((c.tc : Thread Cert.DWbranchIdeal.nD Cert.DWbranchIdeal.τ).loc Cert.DWbranchIdeal.main_arg1)
          ∧ r.2.mem ((c.tc : Thread Cert.DWbranchIdeal.nD Cert.DWbranchIdeal.τ).loc Cert.DWbranchIdeal.main_arg2) = m ((c.tc : Thread Cert.DWbranchIdeal.nD Cert.DWbranchIdeal.τ).loc Cert.DWbranchIdeal.main_arg2))
      ∧ θ_run (Cert.DWbranchRefIdeal.defs (F := Ideal)) (onTc (τ := Cert.DWbranchRefIdeal.τ) (Cert.DWbranchRefIdeal.main (F := Ideal))) ⟨m', fun _ => 0, g'⟩ (fun r => ∀ c : Dev Cert.DWbranchRefIdeal.nD,
          r.2.mem ((c.tc : Thread Cert.DWbranchRefIdeal.nD Cert.DWbranchRefIdeal.τ).loc Cert.DWbranchRefIdeal.main_v4) = v0 c
          ∧ r.2.mem ((c.tc : Thread Cert.DWbranchRefIdeal.nD Cert.DWbranchRefIdeal.τ).loc Cert.DWbranchRefIdeal.main_arg0) = m' ((c.tc : Thread Cert.DWbranchRefIdeal.nD Cert.DWbranchRefIdeal.τ).loc Cert.DWbranchRefIdeal.main_arg0)
          ∧ r.2.mem ((c.tc : Thread Cert.DWbranchRefIdeal.nD Cert.DWbranchRefIdeal.τ).loc Cert.DWbranchRefIdeal.main_arg1) = m' ((c.tc : Thread Cert.DWbranchRefIdeal.nD Cert.DWbranchRefIdeal.τ).loc Cert.DWbranchRefIdeal.main_arg1)
          ∧ r.2.mem ((c.tc : Thread Cert.DWbranchRefIdeal.nD Cert.DWbranchRefIdeal.τ).loc Cert.DWbranchRefIdeal.main_arg2) = m' ((c.tc : Thread Cert.DWbranchRefIdeal.nD Cert.DWbranchRefIdeal.τ).loc Cert.DWbranchRefIdeal.main_arg2))

def preserves_DWbranch3_DWbranch3Ideal : Prop :=
  True

def algebraic_DWbranch3Ideal_DWbranch3RefIdeal [hDWbranch3Ideal : Cert.DWbranch3Ideal.Facts] [hDWbranch3RefIdeal : Cert.DWbranch3RefIdeal.Facts] : Prop :=
  ∀ (m : (ℓ : Loc Cert.DWbranch3Ideal.nD Cert.DWbranch3Ideal.τ Cert.DWbranch3Ideal.sig) → Buf (Elt Ideal) ℓ) (g : Dev Cert.DWbranch3Ideal.nD → PrngReg)
    (m' : (ℓ : Loc Cert.DWbranch3RefIdeal.nD Cert.DWbranch3RefIdeal.τ Cert.DWbranch3RefIdeal.sig) → Buf (Elt Ideal) ℓ) (g' : Dev Cert.DWbranch3RefIdeal.nD → PrngReg), Pre_DWbranch3Ideal m →
    (∀ c : Dev Cert.DWbranch3Ideal.nD,
      m' ((c.tc : Thread Cert.DWbranch3RefIdeal.nD Cert.DWbranch3RefIdeal.τ).loc Cert.DWbranch3RefIdeal.main_arg0) = m ((c.tc : Thread Cert.DWbranch3Ideal.nD Cert.DWbranch3Ideal.τ).loc Cert.DWbranch3Ideal.main_arg0)
      ∧ m' ((c.tc : Thread Cert.DWbranch3RefIdeal.nD Cert.DWbranch3RefIdeal.τ).loc Cert.DWbranch3RefIdeal.main_arg1) = m ((c.tc : Thread Cert.DWbranch3Ideal.nD Cert.DWbranch3Ideal.τ).loc Cert.DWbranch3Ideal.main_arg1)
      ∧ m' ((c.tc : Thread Cert.DWbranch3RefIdeal.nD Cert.DWbranch3RefIdeal.τ).loc Cert.DWbranch3RefIdeal.main_arg2) = m ((c.tc : Thread Cert.DWbranch3Ideal.nD Cert.DWbranch3Ideal.τ).loc Cert.DWbranch3Ideal.main_arg2)) →
    ∃ (v0 : (c : Dev Cert.DWbranch3Ideal.nD) → Buf (Elt Ideal) ((c.tc : Thread Cert.DWbranch3Ideal.nD Cert.DWbranch3Ideal.τ).loc Cert.DWbranch3Ideal.main_v0)),
      θ_run (Cert.DWbranch3Ideal.defs (F := Ideal)) (onTc (τ := Cert.DWbranch3Ideal.τ) (Cert.DWbranch3Ideal.main (F := Ideal))) ⟨m, fun _ => 0, g⟩ (fun r => ∀ c : Dev Cert.DWbranch3Ideal.nD,
          r.2.mem ((c.tc : Thread Cert.DWbranch3Ideal.nD Cert.DWbranch3Ideal.τ).loc Cert.DWbranch3Ideal.main_v0) = v0 c
          ∧ r.2.mem ((c.tc : Thread Cert.DWbranch3Ideal.nD Cert.DWbranch3Ideal.τ).loc Cert.DWbranch3Ideal.main_arg0) = m ((c.tc : Thread Cert.DWbranch3Ideal.nD Cert.DWbranch3Ideal.τ).loc Cert.DWbranch3Ideal.main_arg0)
          ∧ r.2.mem ((c.tc : Thread Cert.DWbranch3Ideal.nD Cert.DWbranch3Ideal.τ).loc Cert.DWbranch3Ideal.main_arg1) = m ((c.tc : Thread Cert.DWbranch3Ideal.nD Cert.DWbranch3Ideal.τ).loc Cert.DWbranch3Ideal.main_arg1)
          ∧ r.2.mem ((c.tc : Thread Cert.DWbranch3Ideal.nD Cert.DWbranch3Ideal.τ).loc Cert.DWbranch3Ideal.main_arg2) = m ((c.tc : Thread Cert.DWbranch3Ideal.nD Cert.DWbranch3Ideal.τ).loc Cert.DWbranch3Ideal.main_arg2))
      ∧ θ_run (Cert.DWbranch3RefIdeal.defs (F := Ideal)) (onTc (τ := Cert.DWbranch3RefIdeal.τ) (Cert.DWbranch3RefIdeal.main (F := Ideal))) ⟨m', fun _ => 0, g'⟩ (fun r => ∀ c : Dev Cert.DWbranch3RefIdeal.nD,
          r.2.mem ((c.tc : Thread Cert.DWbranch3RefIdeal.nD Cert.DWbranch3RefIdeal.τ).loc Cert.DWbranch3RefIdeal.main_v3) = v0 c
          ∧ r.2.mem ((c.tc : Thread Cert.DWbranch3RefIdeal.nD Cert.DWbranch3RefIdeal.τ).loc Cert.DWbranch3RefIdeal.main_arg0) = m' ((c.tc : Thread Cert.DWbranch3RefIdeal.nD Cert.DWbranch3RefIdeal.τ).loc Cert.DWbranch3RefIdeal.main_arg0)
          ∧ r.2.mem ((c.tc : Thread Cert.DWbranch3RefIdeal.nD Cert.DWbranch3RefIdeal.τ).loc Cert.DWbranch3RefIdeal.main_arg1) = m' ((c.tc : Thread Cert.DWbranch3RefIdeal.nD Cert.DWbranch3RefIdeal.τ).loc Cert.DWbranch3RefIdeal.main_arg1)
          ∧ r.2.mem ((c.tc : Thread Cert.DWbranch3RefIdeal.nD Cert.DWbranch3RefIdeal.τ).loc Cert.DWbranch3RefIdeal.main_arg2) = m' ((c.tc : Thread Cert.DWbranch3RefIdeal.nD Cert.DWbranch3RefIdeal.τ).loc Cert.DWbranch3RefIdeal.main_arg2))

def preserves_DWbranch0_DWbranch0Ideal : Prop :=
  True

def algebraic_DWbranch0Ideal_DWbranch0RefIdeal [hDWbranch0Ideal : Cert.DWbranch0Ideal.Facts] [hDWbranch0RefIdeal : Cert.DWbranch0RefIdeal.Facts] : Prop :=
  ∀ (m : (ℓ : Loc Cert.DWbranch0Ideal.nD Cert.DWbranch0Ideal.τ Cert.DWbranch0Ideal.sig) → Buf (Elt Ideal) ℓ) (g : Dev Cert.DWbranch0Ideal.nD → PrngReg)
    (m' : (ℓ : Loc Cert.DWbranch0RefIdeal.nD Cert.DWbranch0RefIdeal.τ Cert.DWbranch0RefIdeal.sig) → Buf (Elt Ideal) ℓ) (g' : Dev Cert.DWbranch0RefIdeal.nD → PrngReg), Pre_DWbranch0Ideal m →
    (∀ c : Dev Cert.DWbranch0Ideal.nD,
      m' ((c.tc : Thread Cert.DWbranch0RefIdeal.nD Cert.DWbranch0RefIdeal.τ).loc Cert.DWbranch0RefIdeal.main_arg0) = m ((c.tc : Thread Cert.DWbranch0Ideal.nD Cert.DWbranch0Ideal.τ).loc Cert.DWbranch0Ideal.main_arg0)
      ∧ m' ((c.tc : Thread Cert.DWbranch0RefIdeal.nD Cert.DWbranch0RefIdeal.τ).loc Cert.DWbranch0RefIdeal.main_arg1) = m ((c.tc : Thread Cert.DWbranch0Ideal.nD Cert.DWbranch0Ideal.τ).loc Cert.DWbranch0Ideal.main_arg1)
      ∧ m' ((c.tc : Thread Cert.DWbranch0RefIdeal.nD Cert.DWbranch0RefIdeal.τ).loc Cert.DWbranch0RefIdeal.main_arg2) = m ((c.tc : Thread Cert.DWbranch0Ideal.nD Cert.DWbranch0Ideal.τ).loc Cert.DWbranch0Ideal.main_arg2)) →
    ∃ (v0 : (c : Dev Cert.DWbranch0Ideal.nD) → Buf (Elt Ideal) ((c.tc : Thread Cert.DWbranch0Ideal.nD Cert.DWbranch0Ideal.τ).loc Cert.DWbranch0Ideal.main_v6)),
      θ_run (Cert.DWbranch0Ideal.defs (F := Ideal)) (onTc (τ := Cert.DWbranch0Ideal.τ) (Cert.DWbranch0Ideal.main (F := Ideal))) ⟨m, fun _ => 0, g⟩ (fun r => ∀ c : Dev Cert.DWbranch0Ideal.nD,
          r.2.mem ((c.tc : Thread Cert.DWbranch0Ideal.nD Cert.DWbranch0Ideal.τ).loc Cert.DWbranch0Ideal.main_v6) = v0 c
          ∧ r.2.mem ((c.tc : Thread Cert.DWbranch0Ideal.nD Cert.DWbranch0Ideal.τ).loc Cert.DWbranch0Ideal.main_arg0) = m ((c.tc : Thread Cert.DWbranch0Ideal.nD Cert.DWbranch0Ideal.τ).loc Cert.DWbranch0Ideal.main_arg0)
          ∧ r.2.mem ((c.tc : Thread Cert.DWbranch0Ideal.nD Cert.DWbranch0Ideal.τ).loc Cert.DWbranch0Ideal.main_arg1) = m ((c.tc : Thread Cert.DWbranch0Ideal.nD Cert.DWbranch0Ideal.τ).loc Cert.DWbranch0Ideal.main_arg1)
          ∧ r.2.mem ((c.tc : Thread Cert.DWbranch0Ideal.nD Cert.DWbranch0Ideal.τ).loc Cert.DWbranch0Ideal.main_arg2) = m ((c.tc : Thread Cert.DWbranch0Ideal.nD Cert.DWbranch0Ideal.τ).loc Cert.DWbranch0Ideal.main_arg2))
      ∧ θ_run (Cert.DWbranch0RefIdeal.defs (F := Ideal)) (onTc (τ := Cert.DWbranch0RefIdeal.τ) (Cert.DWbranch0RefIdeal.main (F := Ideal))) ⟨m', fun _ => 0, g'⟩ (fun r => ∀ c : Dev Cert.DWbranch0RefIdeal.nD,
          r.2.mem ((c.tc : Thread Cert.DWbranch0RefIdeal.nD Cert.DWbranch0RefIdeal.τ).loc Cert.DWbranch0RefIdeal.main_v4) = v0 c
          ∧ r.2.mem ((c.tc : Thread Cert.DWbranch0RefIdeal.nD Cert.DWbranch0RefIdeal.τ).loc Cert.DWbranch0RefIdeal.main_arg0) = m' ((c.tc : Thread Cert.DWbranch0RefIdeal.nD Cert.DWbranch0RefIdeal.τ).loc Cert.DWbranch0RefIdeal.main_arg0)
          ∧ r.2.mem ((c.tc : Thread Cert.DWbranch0RefIdeal.nD Cert.DWbranch0RefIdeal.τ).loc Cert.DWbranch0RefIdeal.main_arg1) = m' ((c.tc : Thread Cert.DWbranch0RefIdeal.nD Cert.DWbranch0RefIdeal.τ).loc Cert.DWbranch0RefIdeal.main_arg1)
          ∧ r.2.mem ((c.tc : Thread Cert.DWbranch0RefIdeal.nD Cert.DWbranch0RefIdeal.τ).loc Cert.DWbranch0RefIdeal.main_arg2) = m' ((c.tc : Thread Cert.DWbranch0RefIdeal.nD Cert.DWbranch0RefIdeal.τ).loc Cert.DWbranch0RefIdeal.main_arg2))

def preserves_DYa_DYaIdeal : Prop :=
  True

def algebraic_DYaIdeal_DYaRefIdeal [hDYaIdeal : Cert.DYaIdeal.Facts] [hDYaRefIdeal : Cert.DYaRefIdeal.Facts] : Prop :=
  ∀ (m : (ℓ : Loc Cert.DYaIdeal.nD Cert.DYaIdeal.τ Cert.DYaIdeal.sig) → Buf (Elt Ideal) ℓ) (g : Dev Cert.DYaIdeal.nD → PrngReg)
    (m' : (ℓ : Loc Cert.DYaRefIdeal.nD Cert.DYaRefIdeal.τ Cert.DYaRefIdeal.sig) → Buf (Elt Ideal) ℓ) (g' : Dev Cert.DYaRefIdeal.nD → PrngReg), Pre_DYaIdeal m →
    (∀ c : Dev Cert.DYaIdeal.nD,
      m' ((c.tc : Thread Cert.DYaRefIdeal.nD Cert.DYaRefIdeal.τ).loc Cert.DYaRefIdeal.main_arg0) = m ((c.tc : Thread Cert.DYaIdeal.nD Cert.DYaIdeal.τ).loc Cert.DYaIdeal.main_arg0)
      ∧ m' ((c.tc : Thread Cert.DYaRefIdeal.nD Cert.DYaRefIdeal.τ).loc Cert.DYaRefIdeal.main_arg1) = m ((c.tc : Thread Cert.DYaIdeal.nD Cert.DYaIdeal.τ).loc Cert.DYaIdeal.main_arg1)
      ∧ m' ((c.tc : Thread Cert.DYaRefIdeal.nD Cert.DYaRefIdeal.τ).loc Cert.DYaRefIdeal.main_arg2) = m ((c.tc : Thread Cert.DYaIdeal.nD Cert.DYaIdeal.τ).loc Cert.DYaIdeal.main_arg2)) →
    ∃ (v0 : (c : Dev Cert.DYaIdeal.nD) → Buf (Elt Ideal) ((c.tc : Thread Cert.DYaIdeal.nD Cert.DYaIdeal.τ).loc Cert.DYaIdeal.main_v6)),
      θ_run (Cert.DYaIdeal.defs (F := Ideal)) (onTc (τ := Cert.DYaIdeal.τ) (Cert.DYaIdeal.main (F := Ideal))) ⟨m, fun _ => 0, g⟩ (fun r => ∀ c : Dev Cert.DYaIdeal.nD,
          r.2.mem ((c.tc : Thread Cert.DYaIdeal.nD Cert.DYaIdeal.τ).loc Cert.DYaIdeal.main_v6) = v0 c
          ∧ r.2.mem ((c.tc : Thread Cert.DYaIdeal.nD Cert.DYaIdeal.τ).loc Cert.DYaIdeal.main_arg0) = m ((c.tc : Thread Cert.DYaIdeal.nD Cert.DYaIdeal.τ).loc Cert.DYaIdeal.main_arg0)
          ∧ r.2.mem ((c.tc : Thread Cert.DYaIdeal.nD Cert.DYaIdeal.τ).loc Cert.DYaIdeal.main_arg1) = m ((c.tc : Thread Cert.DYaIdeal.nD Cert.DYaIdeal.τ).loc Cert.DYaIdeal.main_arg1)
          ∧ r.2.mem ((c.tc : Thread Cert.DYaIdeal.nD Cert.DYaIdeal.τ).loc Cert.DYaIdeal.main_arg2) = m ((c.tc : Thread Cert.DYaIdeal.nD Cert.DYaIdeal.τ).loc Cert.DYaIdeal.main_arg2))
      ∧ θ_run (Cert.DYaRefIdeal.defs (F := Ideal)) (onTc (τ := Cert.DYaRefIdeal.τ) (Cert.DYaRefIdeal.main (F := Ideal))) ⟨m', fun _ => 0, g'⟩ (fun r => ∀ c : Dev Cert.DYaRefIdeal.nD,
          r.2.mem ((c.tc : Thread Cert.DYaRefIdeal.nD Cert.DYaRefIdeal.τ).loc Cert.DYaRefIdeal.main_v4) = v0 c
          ∧ r.2.mem ((c.tc : Thread Cert.DYaRefIdeal.nD Cert.DYaRefIdeal.τ).loc Cert.DYaRefIdeal.main_arg0) = m' ((c.tc : Thread Cert.DYaRefIdeal.nD Cert.DYaRefIdeal.τ).loc Cert.DYaRefIdeal.main_arg0)
          ∧ r.2.mem ((c.tc : Thread Cert.DYaRefIdeal.nD Cert.DYaRefIdeal.τ).loc Cert.DYaRefIdeal.main_arg1) = m' ((c.tc : Thread Cert.DYaRefIdeal.nD Cert.DYaRefIdeal.τ).loc Cert.DYaRefIdeal.main_arg1)
          ∧ r.2.mem ((c.tc : Thread Cert.DYaRefIdeal.nD Cert.DYaRefIdeal.τ).loc Cert.DYaRefIdeal.main_arg2) = m' ((c.tc : Thread Cert.DYaRefIdeal.nD Cert.DYaRefIdeal.τ).loc Cert.DYaRefIdeal.main_arg2))

def preserves_DYc_DYcIdeal : Prop :=
  True

def algebraic_DYcIdeal_DYcRefIdeal [hDYcIdeal : Cert.DYcIdeal.Facts] [hDYcRefIdeal : Cert.DYcRefIdeal.Facts] : Prop :=
  ∀ (m : (ℓ : Loc Cert.DYcIdeal.nD Cert.DYcIdeal.τ Cert.DYcIdeal.sig) → Buf (Elt Ideal) ℓ) (g : Dev Cert.DYcIdeal.nD → PrngReg)
    (m' : (ℓ : Loc Cert.DYcRefIdeal.nD Cert.DYcRefIdeal.τ Cert.DYcRefIdeal.sig) → Buf (Elt Ideal) ℓ) (g' : Dev Cert.DYcRefIdeal.nD → PrngReg), Pre_DYcIdeal m →
    (∀ c : Dev Cert.DYcIdeal.nD,
      m' ((c.tc : Thread Cert.DYcRefIdeal.nD Cert.DYcRefIdeal.τ).loc Cert.DYcRefIdeal.main_arg0) = m ((c.tc : Thread Cert.DYcIdeal.nD Cert.DYcIdeal.τ).loc Cert.DYcIdeal.main_arg0)
      ∧ m' ((c.tc : Thread Cert.DYcRefIdeal.nD Cert.DYcRefIdeal.τ).loc Cert.DYcRefIdeal.main_arg1) = m ((c.tc : Thread Cert.DYcIdeal.nD Cert.DYcIdeal.τ).loc Cert.DYcIdeal.main_arg1)
      ∧ m' ((c.tc : Thread Cert.DYcRefIdeal.nD Cert.DYcRefIdeal.τ).loc Cert.DYcRefIdeal.main_arg2) = m ((c.tc : Thread Cert.DYcIdeal.nD Cert.DYcIdeal.τ).loc Cert.DYcIdeal.main_arg2)) →
    ∃ (v0 : (c : Dev Cert.DYcIdeal.nD) → Buf (Elt Ideal) ((c.tc : Thread Cert.DYcIdeal.nD Cert.DYcIdeal.τ).loc Cert.DYcIdeal.main_v6)),
      θ_run (Cert.DYcIdeal.defs (F := Ideal)) (onTc (τ := Cert.DYcIdeal.τ) (Cert.DYcIdeal.main (F := Ideal))) ⟨m, fun _ => 0, g⟩ (fun r => ∀ c : Dev Cert.DYcIdeal.nD,
          r.2.mem ((c.tc : Thread Cert.DYcIdeal.nD Cert.DYcIdeal.τ).loc Cert.DYcIdeal.main_v6) = v0 c
          ∧ r.2.mem ((c.tc : Thread Cert.DYcIdeal.nD Cert.DYcIdeal.τ).loc Cert.DYcIdeal.main_arg0) = m ((c.tc : Thread Cert.DYcIdeal.nD Cert.DYcIdeal.τ).loc Cert.DYcIdeal.main_arg0)
          ∧ r.2.mem ((c.tc : Thread Cert.DYcIdeal.nD Cert.DYcIdeal.τ).loc Cert.DYcIdeal.main_arg1) = m ((c.tc : Thread Cert.DYcIdeal.nD Cert.DYcIdeal.τ).loc Cert.DYcIdeal.main_arg1)
          ∧ r.2.mem ((c.tc : Thread Cert.DYcIdeal.nD Cert.DYcIdeal.τ).loc Cert.DYcIdeal.main_arg2) = m ((c.tc : Thread Cert.DYcIdeal.nD Cert.DYcIdeal.τ).loc Cert.DYcIdeal.main_arg2))
      ∧ θ_run (Cert.DYcRefIdeal.defs (F := Ideal)) (onTc (τ := Cert.DYcRefIdeal.τ) (Cert.DYcRefIdeal.main (F := Ideal))) ⟨m', fun _ => 0, g'⟩ (fun r => ∀ c : Dev Cert.DYcRefIdeal.nD,
          r.2.mem ((c.tc : Thread Cert.DYcRefIdeal.nD Cert.DYcRefIdeal.τ).loc Cert.DYcRefIdeal.main_v2) = v0 c
          ∧ r.2.mem ((c.tc : Thread Cert.DYcRefIdeal.nD Cert.DYcRefIdeal.τ).loc Cert.DYcRefIdeal.main_arg0) = m' ((c.tc : Thread Cert.DYcRefIdeal.nD Cert.DYcRefIdeal.τ).loc Cert.DYcRefIdeal.main_arg0)
          ∧ r.2.mem ((c.tc : Thread Cert.DYcRefIdeal.nD Cert.DYcRefIdeal.τ).loc Cert.DYcRefIdeal.main_arg1) = m' ((c.tc : Thread Cert.DYcRefIdeal.nD Cert.DYcRefIdeal.τ).loc Cert.DYcRefIdeal.main_arg1)
          ∧ r.2.mem ((c.tc : Thread Cert.DYcRefIdeal.nD Cert.DYcRefIdeal.τ).loc Cert.DYcRefIdeal.main_arg2) = m' ((c.tc : Thread Cert.DYcRefIdeal.nD Cert.DYcRefIdeal.τ).loc Cert.DYcRefIdeal.main_arg2))

def preserves_DYb_DYbIdeal : Prop :=
  True

def algebraic_DYbIdeal_DYbRefIdeal [hDYbIdeal : Cert.DYbIdeal.Facts] [hDYbRefIdeal : Cert.DYbRefIdeal.Facts] : Prop :=
  ∀ (m : (ℓ : Loc Cert.DYbIdeal.nD Cert.DYbIdeal.τ Cert.DYbIdeal.sig) → Buf (Elt Ideal) ℓ) (g : Dev Cert.DYbIdeal.nD → PrngReg)
    (m' : (ℓ : Loc Cert.DYbRefIdeal.nD Cert.DYbRefIdeal.τ Cert.DYbRefIdeal.sig) → Buf (Elt Ideal) ℓ) (g' : Dev Cert.DYbRefIdeal.nD → PrngReg), Pre_DYbIdeal m →
    (∀ c : Dev Cert.DYbIdeal.nD,
      m' ((c.tc : Thread Cert.DYbRefIdeal.nD Cert.DYbRefIdeal.τ).loc Cert.DYbRefIdeal.main_arg0) = m ((c.tc : Thread Cert.DYbIdeal.nD Cert.DYbIdeal.τ).loc Cert.DYbIdeal.main_arg0)
      ∧ m' ((c.tc : Thread Cert.DYbRefIdeal.nD Cert.DYbRefIdeal.τ).loc Cert.DYbRefIdeal.main_arg1) = m ((c.tc : Thread Cert.DYbIdeal.nD Cert.DYbIdeal.τ).loc Cert.DYbIdeal.main_arg1)
      ∧ m' ((c.tc : Thread Cert.DYbRefIdeal.nD Cert.DYbRefIdeal.τ).loc Cert.DYbRefIdeal.main_arg2) = m ((c.tc : Thread Cert.DYbIdeal.nD Cert.DYbIdeal.τ).loc Cert.DYbIdeal.main_arg2)) →
    ∃ (v0 : (c : Dev Cert.DYbIdeal.nD) → Buf (Elt Ideal) ((c.tc : Thread Cert.DYbIdeal.nD Cert.DYbIdeal.τ).loc Cert.DYbIdeal.main_v0)),
      θ_run (Cert.DYbIdeal.defs (F := Ideal)) (onTc (τ := Cert.DYbIdeal.τ) (Cert.DYbIdeal.main (F := Ideal))) ⟨m, fun _ => 0, g⟩ (fun r => ∀ c : Dev Cert.DYbIdeal.nD,
          r.2.mem ((c.tc : Thread Cert.DYbIdeal.nD Cert.DYbIdeal.τ).loc Cert.DYbIdeal.main_v0) = v0 c
          ∧ r.2.mem ((c.tc : Thread Cert.DYbIdeal.nD Cert.DYbIdeal.τ).loc Cert.DYbIdeal.main_arg0) = m ((c.tc : Thread Cert.DYbIdeal.nD Cert.DYbIdeal.τ).loc Cert.DYbIdeal.main_arg0)
          ∧ r.2.mem ((c.tc : Thread Cert.DYbIdeal.nD Cert.DYbIdeal.τ).loc Cert.DYbIdeal.main_arg1) = m ((c.tc : Thread Cert.DYbIdeal.nD Cert.DYbIdeal.τ).loc Cert.DYbIdeal.main_arg1)
          ∧ r.2.mem ((c.tc : Thread Cert.DYbIdeal.nD Cert.DYbIdeal.τ).loc Cert.DYbIdeal.main_arg2) = m ((c.tc : Thread Cert.DYbIdeal.nD Cert.DYbIdeal.τ).loc Cert.DYbIdeal.main_arg2))
      ∧ θ_run (Cert.DYbRefIdeal.defs (F := Ideal)) (onTc (τ := Cert.DYbRefIdeal.τ) (Cert.DYbRefIdeal.main (F := Ideal))) ⟨m', fun _ => 0, g'⟩ (fun r => ∀ c : Dev Cert.DYbRefIdeal.nD,
          r.2.mem ((c.tc : Thread Cert.DYbRefIdeal.nD Cert.DYbRefIdeal.τ).loc Cert.DYbRefIdeal.main_v2) = v0 c
          ∧ r.2.mem ((c.tc : Thread Cert.DYbRefIdeal.nD Cert.DYbRefIdeal.τ).loc Cert.DYbRefIdeal.main_arg0) = m' ((c.tc : Thread Cert.DYbRefIdeal.nD Cert.DYbRefIdeal.τ).loc Cert.DYbRefIdeal.main_arg0)
          ∧ r.2.mem ((c.tc : Thread Cert.DYbRefIdeal.nD Cert.DYbRefIdeal.τ).loc Cert.DYbRefIdeal.main_arg1) = m' ((c.tc : Thread Cert.DYbRefIdeal.nD Cert.DYbRefIdeal.τ).loc Cert.DYbRefIdeal.main_arg1)
          ∧ r.2.mem ((c.tc : Thread Cert.DYbRefIdeal.nD Cert.DYbRefIdeal.τ).loc Cert.DYbRefIdeal.main_arg2) = m' ((c.tc : Thread Cert.DYbRefIdeal.nD Cert.DYbRefIdeal.τ).loc Cert.DYbRefIdeal.main_arg2))

def preserves_DWin_DWinIdeal : Prop :=
  True

def algebraic_DWinIdeal_DWinRefIdeal [hDWinIdeal : Cert.DWinIdeal.Facts] [hDWinRefIdeal : Cert.DWinRefIdeal.Facts] : Prop :=
  ∀ (m : (ℓ : Loc Cert.DWinIdeal.nD Cert.DWinIdeal.τ Cert.DWinIdeal.sig) → Buf (Elt Ideal) ℓ) (g : Dev Cert.DWinIdeal.nD → PrngReg)
    (m' : (ℓ : Loc Cert.DWinRefIdeal.nD Cert.DWinRefIdeal.τ Cert.DWinRefIdeal.sig) → Buf (Elt Ideal) ℓ) (g' : Dev Cert.DWinRefIdeal.nD → PrngReg), Pre_DWinIdeal m →
    (∀ c : Dev Cert.DWinIdeal.nD,
      m' ((c.tc : Thread Cert.DWinRefIdeal.nD Cert.DWinRefIdeal.τ).loc Cert.DWinRefIdeal.main_arg0) = m ((c.tc : Thread Cert.DWinIdeal.nD Cert.DWinIdeal.τ).loc Cert.DWinIdeal.main_arg0)
      ∧ m' ((c.tc : Thread Cert.DWinRefIdeal.nD Cert.DWinRefIdeal.τ).loc Cert.DWinRefIdeal.main_arg1) = m ((c.tc : Thread Cert.DWinIdeal.nD Cert.DWinIdeal.τ).loc Cert.DWinIdeal.main_arg1)
      ∧ m' ((c.tc : Thread Cert.DWinRefIdeal.nD Cert.DWinRefIdeal.τ).loc Cert.DWinRefIdeal.main_arg2) = m ((c.tc : Thread Cert.DWinIdeal.nD Cert.DWinIdeal.τ).loc Cert.DWinIdeal.main_arg2)) →
    ∃ (v0 : (c : Dev Cert.DWinIdeal.nD) → Buf (Elt Ideal) ((c.tc : Thread Cert.DWinIdeal.nD Cert.DWinIdeal.τ).loc Cert.DWinIdeal.main_v69)),
      θ_run (Cert.DWinIdeal.defs (F := Ideal)) (onTc (τ := Cert.DWinIdeal.τ) (Cert.DWinIdeal.main (F := Ideal))) ⟨m, fun _ => 0, g⟩ (fun r => ∀ c : Dev Cert.DWinIdeal.nD,
          r.2.mem ((c.tc : Thread Cert.DWinIdeal.nD Cert.DWinIdeal.τ).loc Cert.DWinIdeal.main_v69) = v0 c
          ∧ r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
          ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1)
          ∧ r.2.mem ((c.tc : Thread Cert.DWinIdeal.nD Cert.DWinIdeal.τ).loc Cert.DWinIdeal.main_arg2) = m ((c.tc : Thread Cert.DWinIdeal.nD Cert.DWinIdeal.τ).loc Cert.DWinIdeal.main_arg2))
      ∧ θ_run (Cert.DWinRefIdeal.defs (F := Ideal)) (onTc (τ := Cert.DWinRefIdeal.τ) (Cert.DWinRefIdeal.main (F := Ideal))) ⟨m', fun _ => 0, g'⟩ (fun r => ∀ c : Dev Cert.DWinRefIdeal.nD,
          r.2.mem ((c.tc : Thread Cert.DWinRefIdeal.nD Cert.DWinRefIdeal.τ).loc Cert.DWinRefIdeal.main_v4) = v0 c
          ∧ r.2.mem ((c.tc : Thread Cert.DWinRefIdeal.nD Cert.DWinRefIdeal.τ).loc Cert.DWinRefIdeal.main_arg0) = m' ((c.tc : Thread Cert.DWinRefIdeal.nD Cert.DWinRefIdeal.τ).loc Cert.DWinRefIdeal.main_arg0)
          ∧ r.2.mem ((c.tc : Thread Cert.DWinRefIdeal.nD Cert.DWinRefIdeal.τ).loc Cert.DWinRefIdeal.main_arg1) = m' ((c.tc : Thread Cert.DWinRefIdeal.nD Cert.DWinRefIdeal.τ).loc Cert.DWinRefIdeal.main_arg1)
          ∧ r.2.mem ((c.tc : Thread Cert.DWinRefIdeal.nD Cert.DWinRefIdeal.τ).loc Cert.DWinRefIdeal.main_arg2) = m' ((c.tc : Thread Cert.DWinRefIdeal.nD Cert.DWinRefIdeal.τ).loc Cert.DWinRefIdeal.main_arg2))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)
      ∧ m' ((c.tc : Thread Cert.DHRefIdeal.nD Cert.DHRefIdeal.τ).loc Cert.DHRefIdeal.main_arg2) = m ((c.tc : Thread Cert.DHIdeal.nD Cert.DHIdeal.τ).loc Cert.DHIdeal.main_arg2)) →
    ∃ (v0 : (c : Dev Cert.DHIdeal.nD) → Buf (Elt Ideal) ((c.tc : Thread Cert.DHIdeal.nD Cert.DHIdeal.τ).loc Cert.DHIdeal.main_v72)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v72) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
          ∧ r.2.mem ((c.tc : Thread Cert.DHIdeal.nD Cert.DHIdeal.τ).loc Cert.DHIdeal.main_arg2) = m ((c.tc : Thread Cert.DHIdeal.nD Cert.DHIdeal.τ).loc Cert.DHIdeal.main_arg2))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v2) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1)
          ∧ r.2.mem ((c.tc : Thread Cert.DHRefIdeal.nD Cert.DHRefIdeal.τ).loc Cert.DHRefIdeal.main_arg2) = m' ((c.tc : Thread Cert.DHRefIdeal.nD Cert.DHRefIdeal.τ).loc Cert.DHRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v69)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v69) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_DWuq_DWuqIdeal : Prop :=
  True

def algebraic_DWuqIdeal_DWuqRefIdeal [hDWuqIdeal : Cert.DWuqIdeal.Facts] [hDWuqRefIdeal : Cert.DWuqRefIdeal.Facts] : Prop :=
  ∀ (m : (ℓ : Loc Cert.DWuqIdeal.nD Cert.DWuqIdeal.τ Cert.DWuqIdeal.sig) → Buf (Elt Ideal) ℓ) (g : Dev Cert.DWuqIdeal.nD → PrngReg)
    (m' : (ℓ : Loc Cert.DWuqRefIdeal.nD Cert.DWuqRefIdeal.τ Cert.DWuqRefIdeal.sig) → Buf (Elt Ideal) ℓ) (g' : Dev Cert.DWuqRefIdeal.nD → PrngReg), Pre_DWuqIdeal m →
    (∀ c : Dev Cert.DWuqIdeal.nD,
      m' ((c.tc : Thread Cert.DWuqRefIdeal.nD Cert.DWuqRefIdeal.τ).loc Cert.DWuqRefIdeal.main_arg0) = m ((c.tc : Thread Cert.DWuqIdeal.nD Cert.DWuqIdeal.τ).loc Cert.DWuqIdeal.main_arg0)
      ∧ m' ((c.tc : Thread Cert.DWuqRefIdeal.nD Cert.DWuqRefIdeal.τ).loc Cert.DWuqRefIdeal.main_arg1) = m ((c.tc : Thread Cert.DWuqIdeal.nD Cert.DWuqIdeal.τ).loc Cert.DWuqIdeal.main_arg1)
      ∧ m' ((c.tc : Thread Cert.DWuqRefIdeal.nD Cert.DWuqRefIdeal.τ).loc Cert.DWuqRefIdeal.main_arg2) = m ((c.tc : Thread Cert.DWuqIdeal.nD Cert.DWuqIdeal.τ).loc Cert.DWuqIdeal.main_arg2)) →
    ∃ (v0 : (c : Dev Cert.DWuqIdeal.nD) → Buf (Elt Ideal) ((c.tc : Thread Cert.DWuqIdeal.nD Cert.DWuqIdeal.τ).loc Cert.DWuqIdeal.main_v6)),
      θ_run (Cert.DWuqIdeal.defs (F := Ideal)) (onTc (τ := Cert.DWuqIdeal.τ) (Cert.DWuqIdeal.main (F := Ideal))) ⟨m, fun _ => 0, g⟩ (fun r => ∀ c : Dev Cert.DWuqIdeal.nD,
          r.2.mem ((c.tc : Thread Cert.DWuqIdeal.nD Cert.DWuqIdeal.τ).loc Cert.DWuqIdeal.main_v6) = v0 c
          ∧ r.2.mem ((c.tc : Thread Cert.DWuqIdeal.nD Cert.DWuqIdeal.τ).loc Cert.DWuqIdeal.main_arg0) = m ((c.tc : Thread Cert.DWuqIdeal.nD Cert.DWuqIdeal.τ).loc Cert.DWuqIdeal.main_arg0)
          ∧ r.2.mem ((c.tc : Thread Cert.DWuqIdeal.nD Cert.DWuqIdeal.τ).loc Cert.DWuqIdeal.main_arg1) = m ((c.tc : Thread Cert.DWuqIdeal.nD Cert.DWuqIdeal.τ).loc Cert.DWuqIdeal.main_arg1)
          ∧ r.2.mem ((c.tc : Thread Cert.DWuqIdeal.nD Cert.DWuqIdeal.τ).loc Cert.DWuqIdeal.main_arg2) = m ((c.tc : Thread Cert.DWuqIdeal.nD Cert.DWuqIdeal.τ).loc Cert.DWuqIdeal.main_arg2))
      ∧ θ_run (Cert.DWuqRefIdeal.defs (F := Ideal)) (onTc (τ := Cert.DWuqRefIdeal.τ) (Cert.DWuqRefIdeal.main (F := Ideal))) ⟨m', fun _ => 0, g'⟩ (fun r => ∀ c : Dev Cert.DWuqRefIdeal.nD,
          r.2.mem ((c.tc : Thread Cert.DWuqRefIdeal.nD Cert.DWuqRefIdeal.τ).loc Cert.DWuqRefIdeal.main_v4) = v0 c
          ∧ r.2.mem ((c.tc : Thread Cert.DWuqRefIdeal.nD Cert.DWuqRefIdeal.τ).loc Cert.DWuqRefIdeal.main_arg0) = m' ((c.tc : Thread Cert.DWuqRefIdeal.nD Cert.DWuqRefIdeal.τ).loc Cert.DWuqRefIdeal.main_arg0)
          ∧ r.2.mem ((c.tc : Thread Cert.DWuqRefIdeal.nD Cert.DWuqRefIdeal.τ).loc Cert.DWuqRefIdeal.main_arg1) = m' ((c.tc : Thread Cert.DWuqRefIdeal.nD Cert.DWuqRefIdeal.τ).loc Cert.DWuqRefIdeal.main_arg1)
          ∧ r.2.mem ((c.tc : Thread Cert.DWuqRefIdeal.nD Cert.DWuqRefIdeal.τ).loc Cert.DWuqRefIdeal.main_arg2) = m' ((c.tc : Thread Cert.DWuqRefIdeal.nD Cert.DWuqRefIdeal.τ).loc Cert.DWuqRefIdeal.main_arg2))

def preserves_DCqn_DCqnIdeal : Prop :=
  True

def algebraic_DCqnIdeal_DCqnRefIdeal [hDCqnIdeal : Cert.DCqnIdeal.Facts] [hDCqnRefIdeal : Cert.DCqnRefIdeal.Facts] : Prop :=
  ∀ (m : (ℓ : Loc Cert.DCqnIdeal.nD Cert.DCqnIdeal.τ Cert.DCqnIdeal.sig) → Buf (Elt Ideal) ℓ) (g : Dev Cert.DCqnIdeal.nD → PrngReg)
    (m' : (ℓ : Loc Cert.DCqnRefIdeal.nD Cert.DCqnRefIdeal.τ Cert.DCqnRefIdeal.sig) → Buf (Elt Ideal) ℓ) (g' : Dev Cert.DCqnRefIdeal.nD → PrngReg), Pre_DCqnIdeal m →
    (∀ c : Dev Cert.DCqnIdeal.nD,
      m' ((c.tc : Thread Cert.DCqnRefIdeal.nD Cert.DCqnRefIdeal.τ).loc Cert.DCqnRefIdeal.main_arg0) = m ((c.tc : Thread Cert.DCqnIdeal.nD Cert.DCqnIdeal.τ).loc Cert.DCqnIdeal.main_arg0)
      ∧ m' ((c.tc : Thread Cert.DCqnRefIdeal.nD Cert.DCqnRefIdeal.τ).loc Cert.DCqnRefIdeal.main_arg1) = m ((c.tc : Thread Cert.DCqnIdeal.nD Cert.DCqnIdeal.τ).loc Cert.DCqnIdeal.main_arg1)
      ∧ m' ((c.tc : Thread Cert.DCqnRefIdeal.nD Cert.DCqnRefIdeal.τ).loc Cert.DCqnRefIdeal.main_arg2) = m ((c.tc : Thread Cert.DCqnIdeal.nD Cert.DCqnIdeal.τ).loc Cert.DCqnIdeal.main_arg2)) →
    ∃ (v0 : (c : Dev Cert.DCqnIdeal.nD) → Buf (Elt Ideal) ((c.tc : Thread Cert.DCqnIdeal.nD Cert.DCqnIdeal.τ).loc Cert.DCqnIdeal.main_v6)),
      θ_run (Cert.DCqnIdeal.defs (F := Ideal)) (onTc (τ := Cert.DCqnIdeal.τ) (Cert.DCqnIdeal.main (F := Ideal))) ⟨m, fun _ => 0, g⟩ (fun r => ∀ c : Dev Cert.DCqnIdeal.nD,
          r.2.mem ((c.tc : Thread Cert.DCqnIdeal.nD Cert.DCqnIdeal.τ).loc Cert.DCqnIdeal.main_v6) = v0 c
          ∧ r.2.mem ((c.tc : Thread Cert.DCqnIdeal.nD Cert.DCqnIdeal.τ).loc Cert.DCqnIdeal.main_arg0) = m ((c.tc : Thread Cert.DCqnIdeal.nD Cert.DCqnIdeal.τ).loc Cert.DCqnIdeal.main_arg0)
          ∧ r.2.mem ((c.tc : Thread Cert.DCqnIdeal.nD Cert.DCqnIdeal.τ).loc Cert.DCqnIdeal.main_arg1) = m ((c.tc : Thread Cert.DCqnIdeal.nD Cert.DCqnIdeal.τ).loc Cert.DCqnIdeal.main_arg1)
          ∧ r.2.mem ((c.tc : Thread Cert.DCqnIdeal.nD Cert.DCqnIdeal.τ).loc Cert.DCqnIdeal.main_arg2) = m ((c.tc : Thread Cert.DCqnIdeal.nD Cert.DCqnIdeal.τ).loc Cert.DCqnIdeal.main_arg2))
      ∧ θ_run (Cert.DCqnRefIdeal.defs (F := Ideal)) (onTc (τ := Cert.DCqnRefIdeal.τ) (Cert.DCqnRefIdeal.main (F := Ideal))) ⟨m', fun _ => 0, g'⟩ (fun r => ∀ c : Dev Cert.DCqnRefIdeal.nD,
          r.2.mem ((c.tc : Thread Cert.DCqnRefIdeal.nD Cert.DCqnRefIdeal.τ).loc Cert.DCqnRefIdeal.main_v4) = v0 c
          ∧ r.2.mem ((c.tc : Thread Cert.DCqnRefIdeal.nD Cert.DCqnRefIdeal.τ).loc Cert.DCqnRefIdeal.main_arg0) = m' ((c.tc : Thread Cert.DCqnRefIdeal.nD Cert.DCqnRefIdeal.τ).loc Cert.DCqnRefIdeal.main_arg0)
          ∧ r.2.mem ((c.tc : Thread Cert.DCqnRefIdeal.nD Cert.DCqnRefIdeal.τ).loc Cert.DCqnRefIdeal.main_arg1) = m' ((c.tc : Thread Cert.DCqnRefIdeal.nD Cert.DCqnRefIdeal.τ).loc Cert.DCqnRefIdeal.main_arg1)
          ∧ r.2.mem ((c.tc : Thread Cert.DCqnRefIdeal.nD Cert.DCqnRefIdeal.τ).loc Cert.DCqnRefIdeal.main_arg2) = m' ((c.tc : Thread Cert.DCqnRefIdeal.nD Cert.DCqnRefIdeal.τ).loc Cert.DCqnRefIdeal.main_arg2))

def preserves_DWukv_DWukvIdeal : Prop :=
  True

def algebraic_DWukvIdeal_DWukvRefIdeal [hDWukvIdeal : Cert.DWukvIdeal.Facts] [hDWukvRefIdeal : Cert.DWukvRefIdeal.Facts] : Prop :=
  ∀ (m : (ℓ : Loc Cert.DWukvIdeal.nD Cert.DWukvIdeal.τ Cert.DWukvIdeal.sig) → Buf (Elt Ideal) ℓ) (g : Dev Cert.DWukvIdeal.nD → PrngReg)
    (m' : (ℓ : Loc Cert.DWukvRefIdeal.nD Cert.DWukvRefIdeal.τ Cert.DWukvRefIdeal.sig) → Buf (Elt Ideal) ℓ) (g' : Dev Cert.DWukvRefIdeal.nD → PrngReg), Pre_DWukvIdeal m →
    (∀ c : Dev Cert.DWukvIdeal.nD,
      m' ((c.tc : Thread Cert.DWukvRefIdeal.nD Cert.DWukvRefIdeal.τ).loc Cert.DWukvRefIdeal.main_arg0) = m ((c.tc : Thread Cert.DWukvIdeal.nD Cert.DWukvIdeal.τ).loc Cert.DWukvIdeal.main_arg0)
      ∧ m' ((c.tc : Thread Cert.DWukvRefIdeal.nD Cert.DWukvRefIdeal.τ).loc Cert.DWukvRefIdeal.main_arg1) = m ((c.tc : Thread Cert.DWukvIdeal.nD Cert.DWukvIdeal.τ).loc Cert.DWukvIdeal.main_arg1)
      ∧ m' ((c.tc : Thread Cert.DWukvRefIdeal.nD Cert.DWukvRefIdeal.τ).loc Cert.DWukvRefIdeal.main_arg2) = m ((c.tc : Thread Cert.DWukvIdeal.nD Cert.DWukvIdeal.τ).loc Cert.DWukvIdeal.main_arg2)) →
    ∃ (v0 : (c : Dev Cert.DWukvIdeal.nD) → Buf (Elt Ideal) ((c.tc : Thread Cert.DWukvIdeal.nD Cert.DWukvIdeal.τ).loc Cert.DWukvIdeal.main_v24)),
      θ_run (Cert.DWukvIdeal.defs (F := Ideal)) (onTc (τ := Cert.DWukvIdeal.τ) (Cert.DWukvIdeal.main (F := Ideal))) ⟨m, fun _ => 0, g⟩ (fun r => ∀ c : Dev Cert.DWukvIdeal.nD,
          r.2.mem ((c.tc : Thread Cert.DWukvIdeal.nD Cert.DWukvIdeal.τ).loc Cert.DWukvIdeal.main_v24) = v0 c
          ∧ r.2.mem ((c.tc : Thread Cert.DWukvIdeal.nD Cert.DWukvIdeal.τ).loc Cert.DWukvIdeal.main_arg0) = m ((c.tc : Thread Cert.DWukvIdeal.nD Cert.DWukvIdeal.τ).loc Cert.DWukvIdeal.main_arg0)
          ∧ r.2.mem ((c.tc : Thread Cert.DWukvIdeal.nD Cert.DWukvIdeal.τ).loc Cert.DWukvIdeal.main_arg1) = m ((c.tc : Thread Cert.DWukvIdeal.nD Cert.DWukvIdeal.τ).loc Cert.DWukvIdeal.main_arg1)
          ∧ r.2.mem ((c.tc : Thread Cert.DWukvIdeal.nD Cert.DWukvIdeal.τ).loc Cert.DWukvIdeal.main_arg2) = m ((c.tc : Thread Cert.DWukvIdeal.nD Cert.DWukvIdeal.τ).loc Cert.DWukvIdeal.main_arg2))
      ∧ θ_run (Cert.DWukvRefIdeal.defs (F := Ideal)) (onTc (τ := Cert.DWukvRefIdeal.τ) (Cert.DWukvRefIdeal.main (F := Ideal))) ⟨m', fun _ => 0, g'⟩ (fun r => ∀ c : Dev Cert.DWukvRefIdeal.nD,
          r.2.mem ((c.tc : Thread Cert.DWukvRefIdeal.nD Cert.DWukvRefIdeal.τ).loc Cert.DWukvRefIdeal.main_v4) = v0 c
          ∧ r.2.mem ((c.tc : Thread Cert.DWukvRefIdeal.nD Cert.DWukvRefIdeal.τ).loc Cert.DWukvRefIdeal.main_arg0) = m' ((c.tc : Thread Cert.DWukvRefIdeal.nD Cert.DWukvRefIdeal.τ).loc Cert.DWukvRefIdeal.main_arg0)
          ∧ r.2.mem ((c.tc : Thread Cert.DWukvRefIdeal.nD Cert.DWukvRefIdeal.τ).loc Cert.DWukvRefIdeal.main_arg1) = m' ((c.tc : Thread Cert.DWukvRefIdeal.nD Cert.DWukvRefIdeal.τ).loc Cert.DWukvRefIdeal.main_arg1)
          ∧ r.2.mem ((c.tc : Thread Cert.DWukvRefIdeal.nD Cert.DWukvRefIdeal.τ).loc Cert.DWukvRefIdeal.main_arg2) = m' ((c.tc : Thread Cert.DWukvRefIdeal.nD Cert.DWukvRefIdeal.τ).loc Cert.DWukvRefIdeal.main_arg2))

def preserves_DCkvn_DCkvnIdeal : Prop :=
  True

def algebraic_DCkvnIdeal_DCkvnRefIdeal [hDCkvnIdeal : Cert.DCkvnIdeal.Facts] [hDCkvnRefIdeal : Cert.DCkvnRefIdeal.Facts] : Prop :=
  ∀ (m : (ℓ : Loc Cert.DCkvnIdeal.nD Cert.DCkvnIdeal.τ Cert.DCkvnIdeal.sig) → Buf (Elt Ideal) ℓ) (g : Dev Cert.DCkvnIdeal.nD → PrngReg)
    (m' : (ℓ : Loc Cert.DCkvnRefIdeal.nD Cert.DCkvnRefIdeal.τ Cert.DCkvnRefIdeal.sig) → Buf (Elt Ideal) ℓ) (g' : Dev Cert.DCkvnRefIdeal.nD → PrngReg), Pre_DCkvnIdeal m →
    (∀ c : Dev Cert.DCkvnIdeal.nD,
      m' ((c.tc : Thread Cert.DCkvnRefIdeal.nD Cert.DCkvnRefIdeal.τ).loc Cert.DCkvnRefIdeal.main_arg0) = m ((c.tc : Thread Cert.DCkvnIdeal.nD Cert.DCkvnIdeal.τ).loc Cert.DCkvnIdeal.main_arg0)
      ∧ m' ((c.tc : Thread Cert.DCkvnRefIdeal.nD Cert.DCkvnRefIdeal.τ).loc Cert.DCkvnRefIdeal.main_arg1) = m ((c.tc : Thread Cert.DCkvnIdeal.nD Cert.DCkvnIdeal.τ).loc Cert.DCkvnIdeal.main_arg1)
      ∧ m' ((c.tc : Thread Cert.DCkvnRefIdeal.nD Cert.DCkvnRefIdeal.τ).loc Cert.DCkvnRefIdeal.main_arg2) = m ((c.tc : Thread Cert.DCkvnIdeal.nD Cert.DCkvnIdeal.τ).loc Cert.DCkvnIdeal.main_arg2)) →
    ∃ (v0 : (c : Dev Cert.DCkvnIdeal.nD) → Buf (Elt Ideal) ((c.tc : Thread Cert.DCkvnIdeal.nD Cert.DCkvnIdeal.τ).loc Cert.DCkvnIdeal.main_v24)),
      θ_run (Cert.DCkvnIdeal.defs (F := Ideal)) (onTc (τ := Cert.DCkvnIdeal.τ) (Cert.DCkvnIdeal.main (F := Ideal))) ⟨m, fun _ => 0, g⟩ (fun r => ∀ c : Dev Cert.DCkvnIdeal.nD,
          r.2.mem ((c.tc : Thread Cert.DCkvnIdeal.nD Cert.DCkvnIdeal.τ).loc Cert.DCkvnIdeal.main_v24) = v0 c
          ∧ r.2.mem ((c.tc : Thread Cert.DCkvnIdeal.nD Cert.DCkvnIdeal.τ).loc Cert.DCkvnIdeal.main_arg0) = m ((c.tc : Thread Cert.DCkvnIdeal.nD Cert.DCkvnIdeal.τ).loc Cert.DCkvnIdeal.main_arg0)
          ∧ r.2.mem ((c.tc : Thread Cert.DCkvnIdeal.nD Cert.DCkvnIdeal.τ).loc Cert.DCkvnIdeal.main_arg1) = m ((c.tc : Thread Cert.DCkvnIdeal.nD Cert.DCkvnIdeal.τ).loc Cert.DCkvnIdeal.main_arg1)
          ∧ r.2.mem ((c.tc : Thread Cert.DCkvnIdeal.nD Cert.DCkvnIdeal.τ).loc Cert.DCkvnIdeal.main_arg2) = m ((c.tc : Thread Cert.DCkvnIdeal.nD Cert.DCkvnIdeal.τ).loc Cert.DCkvnIdeal.main_arg2))
      ∧ θ_run (Cert.DCkvnRefIdeal.defs (F := Ideal)) (onTc (τ := Cert.DCkvnRefIdeal.τ) (Cert.DCkvnRefIdeal.main (F := Ideal))) ⟨m', fun _ => 0, g'⟩ (fun r => ∀ c : Dev Cert.DCkvnRefIdeal.nD,
          r.2.mem ((c.tc : Thread Cert.DCkvnRefIdeal.nD Cert.DCkvnRefIdeal.τ).loc Cert.DCkvnRefIdeal.main_v4) = v0 c
          ∧ r.2.mem ((c.tc : Thread Cert.DCkvnRefIdeal.nD Cert.DCkvnRefIdeal.τ).loc Cert.DCkvnRefIdeal.main_arg0) = m' ((c.tc : Thread Cert.DCkvnRefIdeal.nD Cert.DCkvnRefIdeal.τ).loc Cert.DCkvnRefIdeal.main_arg0)
          ∧ r.2.mem ((c.tc : Thread Cert.DCkvnRefIdeal.nD Cert.DCkvnRefIdeal.τ).loc Cert.DCkvnRefIdeal.main_arg1) = m' ((c.tc : Thread Cert.DCkvnRefIdeal.nD Cert.DCkvnRefIdeal.τ).loc Cert.DCkvnRefIdeal.main_arg1)
          ∧ r.2.mem ((c.tc : Thread Cert.DCkvnRefIdeal.nD Cert.DCkvnRefIdeal.τ).loc Cert.DCkvnRefIdeal.main_arg2) = m' ((c.tc : Thread Cert.DCkvnRefIdeal.nD Cert.DCkvnRefIdeal.τ).loc Cert.DCkvnRefIdeal.main_arg2))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v6)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v6) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v1) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v24)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v24) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v1) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_BranchMerge_BranchMergeIdeal : Prop :=
  True

def algebraic_BranchMergeIdeal_BranchMergeRefIdeal [hBranchMergeIdeal : Cert.BranchMergeIdeal.Facts] [hBranchMergeRefIdeal : Cert.BranchMergeRefIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg)
    (m' : (ℓ : Loc Cert.BranchMergeRefIdeal.nD Cert.BranchMergeRefIdeal.τ Cert.BranchMergeRefIdeal.sig) → Buf (Elt Ideal) ℓ) (g' : Dev Cert.BranchMergeRefIdeal.nD → PrngReg), Pre_BranchMergeIdeal m →
    (∀ c : Dev Cert.BranchMergeIdeal.nD,
      m' ((c.tc : Thread Cert.BranchMergeRefIdeal.nD Cert.BranchMergeRefIdeal.τ).loc Cert.BranchMergeRefIdeal.main_arg0) = m ((c.tc : Thread Cert.BranchMergeIdeal.nD Cert.BranchMergeIdeal.τ).loc Cert.BranchMergeIdeal.main_arg0)
      ∧ m' ((c.tc : Thread Cert.BranchMergeRefIdeal.nD Cert.BranchMergeRefIdeal.τ).loc Cert.BranchMergeRefIdeal.main_arg1) = m ((c.tc : Thread Cert.BranchMergeIdeal.nD Cert.BranchMergeIdeal.τ).loc Cert.BranchMergeIdeal.main_arg1)
      ∧ m' ((c.tc : Thread Cert.BranchMergeRefIdeal.nD Cert.BranchMergeRefIdeal.τ).loc Cert.BranchMergeRefIdeal.main_arg2) = m ((c.tc : Thread Cert.BranchMergeIdeal.nD Cert.BranchMergeIdeal.τ).loc Cert.BranchMergeIdeal.main_arg2)
      ∧ m' ((c.tc : Thread Cert.BranchMergeRefIdeal.nD Cert.BranchMergeRefIdeal.τ).loc Cert.BranchMergeRefIdeal.main_arg3) = m ((c.tc : Thread Cert.BranchMergeIdeal.nD Cert.BranchMergeIdeal.τ).loc Cert.BranchMergeIdeal.main_arg3)
      ∧ m' ((c.tc : Thread Cert.BranchMergeRefIdeal.nD Cert.BranchMergeRefIdeal.τ).loc Cert.BranchMergeRefIdeal.main_arg4) = m ((c.tc : Thread Cert.BranchMergeIdeal.nD Cert.BranchMergeIdeal.τ).loc Cert.BranchMergeIdeal.main_arg4)
      ∧ m' ((c.tc : Thread Cert.BranchMergeRefIdeal.nD Cert.BranchMergeRefIdeal.τ).loc Cert.BranchMergeRefIdeal.main_arg5) = m ((c.tc : Thread Cert.BranchMergeIdeal.nD Cert.BranchMergeIdeal.τ).loc Cert.BranchMergeIdeal.main_arg5)) →
    ∃ (v0 : (c : Dev Cert.BranchMergeIdeal.nD) → Buf (Elt Ideal) ((c.tc : Thread Cert.BranchMergeIdeal.nD Cert.BranchMergeIdeal.τ).loc Cert.BranchMergeIdeal.main_v56_0)) (v1 : (c : Dev Cert.BranchMergeIdeal.nD) → Buf (Elt Ideal) ((c.tc : Thread Cert.BranchMergeIdeal.nD Cert.BranchMergeIdeal.τ).loc Cert.BranchMergeIdeal.main_v56_1)) (v2 : (c : Dev Cert.BranchMergeIdeal.nD) → Buf (Elt Ideal) ((c.tc : Thread Cert.BranchMergeIdeal.nD Cert.BranchMergeIdeal.τ).loc Cert.BranchMergeIdeal.main_v56_2)) (v3 : (c : Dev Cert.BranchMergeIdeal.nD) → Buf (Elt Ideal) ((c.tc : Thread Cert.BranchMergeIdeal.nD Cert.BranchMergeIdeal.τ).loc Cert.BranchMergeIdeal.main_v56_3)) (v4 : (c : Dev Cert.BranchMergeIdeal.nD) → Buf (Elt Ideal) ((c.tc : Thread Cert.BranchMergeIdeal.nD Cert.BranchMergeIdeal.τ).loc Cert.BranchMergeIdeal.main_v56_4)),
      θ_run (Cert.BranchMergeIdeal.defs (F := Ideal)) (onTc (τ := Cert.BranchMergeIdeal.τ) (Cert.BranchMergeIdeal.main (F := Ideal))) ⟨m, fun _ => 0, g⟩ (fun r => ∀ c : Dev Cert.BranchMergeIdeal.nD,
          r.2.mem ((c.tc : Thread Cert.BranchMergeIdeal.nD Cert.BranchMergeIdeal.τ).loc Cert.BranchMergeIdeal.main_v56_0) = v0 c
          ∧ r.2.mem ((c.tc : Thread Cert.BranchMergeIdeal.nD Cert.BranchMergeIdeal.τ).loc Cert.BranchMergeIdeal.main_v56_1) = v1 c
          ∧ r.2.mem ((c.tc : Thread Cert.BranchMergeIdeal.nD Cert.BranchMergeIdeal.τ).loc Cert.BranchMergeIdeal.main_v56_2) = v2 c
          ∧ r.2.mem ((c.tc : Thread Cert.BranchMergeIdeal.nD Cert.BranchMergeIdeal.τ).loc Cert.BranchMergeIdeal.main_v56_3) = v3 c
          ∧ r.2.mem ((c.tc : Thread Cert.BranchMergeIdeal.nD Cert.BranchMergeIdeal.τ).loc Cert.BranchMergeIdeal.main_v56_4) = v4 c
          ∧ r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
          ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
          ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
          ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
          ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4)
          ∧ r.2.mem ((c.tc : Thread Cert.BranchMergeIdeal.nD Cert.BranchMergeIdeal.τ).loc Cert.BranchMergeIdeal.main_arg5) = m ((c.tc : Thread Cert.BranchMergeIdeal.nD Cert.BranchMergeIdeal.τ).loc Cert.BranchMergeIdeal.main_arg5))
      ∧ θ_run (Cert.BranchMergeRefIdeal.defs (F := Ideal)) (onTc (τ := Cert.BranchMergeRefIdeal.τ) (Cert.BranchMergeRefIdeal.main (F := Ideal))) ⟨m', fun _ => 0, g'⟩ (fun r => ∀ c : Dev Cert.BranchMergeRefIdeal.nD,
          r.2.mem ((c.tc : Thread Cert.BranchMergeRefIdeal.nD Cert.BranchMergeRefIdeal.τ).loc Cert.BranchMergeRefIdeal.main_v37) = v0 c
          ∧ r.2.mem ((c.tc : Thread Cert.BranchMergeRefIdeal.nD Cert.BranchMergeRefIdeal.τ).loc Cert.BranchMergeRefIdeal.main_v38) = v1 c
          ∧ r.2.mem ((c.tc : Thread Cert.BranchMergeRefIdeal.nD Cert.BranchMergeRefIdeal.τ).loc Cert.BranchMergeRefIdeal.main_v39) = v2 c
          ∧ r.2.mem ((c.tc : Thread Cert.BranchMergeRefIdeal.nD Cert.BranchMergeRefIdeal.τ).loc Cert.BranchMergeRefIdeal.main_v40) = v3 c
          ∧ r.2.mem ((c.tc : Thread Cert.BranchMergeRefIdeal.nD Cert.BranchMergeRefIdeal.τ).loc Cert.BranchMergeRefIdeal.main_v41) = v4 c
          ∧ r.2.mem ((c.tc : Thread Cert.BranchMergeRefIdeal.nD Cert.BranchMergeRefIdeal.τ).loc Cert.BranchMergeRefIdeal.main_arg0) = m' ((c.tc : Thread Cert.BranchMergeRefIdeal.nD Cert.BranchMergeRefIdeal.τ).loc Cert.BranchMergeRefIdeal.main_arg0)
          ∧ r.2.mem ((c.tc : Thread Cert.BranchMergeRefIdeal.nD Cert.BranchMergeRefIdeal.τ).loc Cert.BranchMergeRefIdeal.main_arg1) = m' ((c.tc : Thread Cert.BranchMergeRefIdeal.nD Cert.BranchMergeRefIdeal.τ).loc Cert.BranchMergeRefIdeal.main_arg1)
          ∧ r.2.mem ((c.tc : Thread Cert.BranchMergeRefIdeal.nD Cert.BranchMergeRefIdeal.τ).loc Cert.BranchMergeRefIdeal.main_arg2) = m' ((c.tc : Thread Cert.BranchMergeRefIdeal.nD Cert.BranchMergeRefIdeal.τ).loc Cert.BranchMergeRefIdeal.main_arg2)
          ∧ r.2.mem ((c.tc : Thread Cert.BranchMergeRefIdeal.nD Cert.BranchMergeRefIdeal.τ).loc Cert.BranchMergeRefIdeal.main_arg3) = m' ((c.tc : Thread Cert.BranchMergeRefIdeal.nD Cert.BranchMergeRefIdeal.τ).loc Cert.BranchMergeRefIdeal.main_arg3)
          ∧ r.2.mem ((c.tc : Thread Cert.BranchMergeRefIdeal.nD Cert.BranchMergeRefIdeal.τ).loc Cert.BranchMergeRefIdeal.main_arg4) = m' ((c.tc : Thread Cert.BranchMergeRefIdeal.nD Cert.BranchMergeRefIdeal.τ).loc Cert.BranchMergeRefIdeal.main_arg4)
          ∧ r.2.mem ((c.tc : Thread Cert.BranchMergeRefIdeal.nD Cert.BranchMergeRefIdeal.τ).loc Cert.BranchMergeRefIdeal.main_arg5) = m' ((c.tc : Thread Cert.BranchMergeRefIdeal.nD Cert.BranchMergeRefIdeal.τ).loc Cert.BranchMergeRefIdeal.main_arg5))

def preserves_DWpool_DWpoolIdeal : Prop :=
  True

def algebraic_DWpoolIdeal_DWpoolRefIdeal [hDWpoolIdeal : Cert.DWpoolIdeal.Facts] [hDWpoolRefIdeal : Cert.DWpoolRefIdeal.Facts] : Prop :=
  ∀ (m : (ℓ : Loc Cert.DWpoolIdeal.nD Cert.DWpoolIdeal.τ Cert.DWpoolIdeal.sig) → Buf (Elt Ideal) ℓ) (g : Dev Cert.DWpoolIdeal.nD → PrngReg)
    (m' : (ℓ : Loc Cert.DWpoolRefIdeal.nD Cert.DWpoolRefIdeal.τ Cert.DWpoolRefIdeal.sig) → Buf (Elt Ideal) ℓ) (g' : Dev Cert.DWpoolRefIdeal.nD → PrngReg), Pre_DWpoolIdeal m →
    (∀ c : Dev Cert.DWpoolIdeal.nD,
      m' ((c.tc : Thread Cert.DWpoolRefIdeal.nD Cert.DWpoolRefIdeal.τ).loc Cert.DWpoolRefIdeal.main_arg0) = m ((c.tc : Thread Cert.DWpoolIdeal.nD Cert.DWpoolIdeal.τ).loc Cert.DWpoolIdeal.main_arg0)
      ∧ m' ((c.tc : Thread Cert.DWpoolRefIdeal.nD Cert.DWpoolRefIdeal.τ).loc Cert.DWpoolRefIdeal.main_arg1) = m ((c.tc : Thread Cert.DWpoolIdeal.nD Cert.DWpoolIdeal.τ).loc Cert.DWpoolIdeal.main_arg1)
      ∧ m' ((c.tc : Thread Cert.DWpoolRefIdeal.nD Cert.DWpoolRefIdeal.τ).loc Cert.DWpoolRefIdeal.main_arg2) = m ((c.tc : Thread Cert.DWpoolIdeal.nD Cert.DWpoolIdeal.τ).loc Cert.DWpoolIdeal.main_arg2)) →
    ∃ (v0 : (c : Dev Cert.DWpoolIdeal.nD) → Buf (Elt Ideal) ((c.tc : Thread Cert.DWpoolIdeal.nD Cert.DWpoolIdeal.τ).loc Cert.DWpoolIdeal.main_v14)),
      θ_run (Cert.DWpoolIdeal.defs (F := Ideal)) (onTc (τ := Cert.DWpoolIdeal.τ) (Cert.DWpoolIdeal.main (F := Ideal))) ⟨m, fun _ => 0, g⟩ (fun r => ∀ c : Dev Cert.DWpoolIdeal.nD,
          r.2.mem ((c.tc : Thread Cert.DWpoolIdeal.nD Cert.DWpoolIdeal.τ).loc Cert.DWpoolIdeal.main_v14) = v0 c
          ∧ r.2.mem ((c.tc : Thread Cert.DWpoolIdeal.nD Cert.DWpoolIdeal.τ).loc Cert.DWpoolIdeal.main_arg0) = m ((c.tc : Thread Cert.DWpoolIdeal.nD Cert.DWpoolIdeal.τ).loc Cert.DWpoolIdeal.main_arg0)
          ∧ r.2.mem ((c.tc : Thread Cert.DWpoolIdeal.nD Cert.DWpoolIdeal.τ).loc Cert.DWpoolIdeal.main_arg1) = m ((c.tc : Thread Cert.DWpoolIdeal.nD Cert.DWpoolIdeal.τ).loc Cert.DWpoolIdeal.main_arg1)
          ∧ r.2.mem ((c.tc : Thread Cert.DWpoolIdeal.nD Cert.DWpoolIdeal.τ).loc Cert.DWpoolIdeal.main_arg2) = m ((c.tc : Thread Cert.DWpoolIdeal.nD Cert.DWpoolIdeal.τ).loc Cert.DWpoolIdeal.main_arg2))
      ∧ θ_run (Cert.DWpoolRefIdeal.defs (F := Ideal)) (onTc (τ := Cert.DWpoolRefIdeal.τ) (Cert.DWpoolRefIdeal.main (F := Ideal))) ⟨m', fun _ => 0, g'⟩ (fun r => ∀ c : Dev Cert.DWpoolRefIdeal.nD,
          r.2.mem ((c.tc : Thread Cert.DWpoolRefIdeal.nD Cert.DWpoolRefIdeal.τ).loc Cert.DWpoolRefIdeal.main_v8) = v0 c
          ∧ r.2.mem ((c.tc : Thread Cert.DWpoolRefIdeal.nD Cert.DWpoolRefIdeal.τ).loc Cert.DWpoolRefIdeal.main_arg0) = m' ((c.tc : Thread Cert.DWpoolRefIdeal.nD Cert.DWpoolRefIdeal.τ).loc Cert.DWpoolRefIdeal.main_arg0)
          ∧ r.2.mem ((c.tc : Thread Cert.DWpoolRefIdeal.nD Cert.DWpoolRefIdeal.τ).loc Cert.DWpoolRefIdeal.main_arg1) = m' ((c.tc : Thread Cert.DWpoolRefIdeal.nD Cert.DWpoolRefIdeal.τ).loc Cert.DWpoolRefIdeal.main_arg1)
          ∧ r.2.mem ((c.tc : Thread Cert.DWpoolRefIdeal.nD Cert.DWpoolRefIdeal.τ).loc Cert.DWpoolRefIdeal.main_arg2) = m' ((c.tc : Thread Cert.DWpoolRefIdeal.nD Cert.DWpoolRefIdeal.τ).loc Cert.DWpoolRefIdeal.main_arg2))

def preserves_DPoolD_DPoolDIdeal : Prop :=
  True

def algebraic_DPoolDIdeal_DPoolDRefIdeal [hDPoolDIdeal : Cert.DPoolDIdeal.Facts] [hDPoolDRefIdeal : Cert.DPoolDRefIdeal.Facts] : Prop :=
  ∀ (m : (ℓ : Loc Cert.DPoolDIdeal.nD Cert.DPoolDIdeal.τ Cert.DPoolDIdeal.sig) → Buf (Elt Ideal) ℓ) (g : Dev Cert.DPoolDIdeal.nD → PrngReg)
    (m' : (ℓ : Loc Cert.DPoolDRefIdeal.nD Cert.DPoolDRefIdeal.τ Cert.DPoolDRefIdeal.sig) → Buf (Elt Ideal) ℓ) (g' : Dev Cert.DPoolDRefIdeal.nD → PrngReg), Pre_DPoolDIdeal m →
    (∀ c : Dev Cert.DPoolDIdeal.nD,
      m' ((c.tc : Thread Cert.DPoolDRefIdeal.nD Cert.DPoolDRefIdeal.τ).loc Cert.DPoolDRefIdeal.main_arg0) = m ((c.tc : Thread Cert.DPoolDIdeal.nD Cert.DPoolDIdeal.τ).loc Cert.DPoolDIdeal.main_arg0)
      ∧ m' ((c.tc : Thread Cert.DPoolDRefIdeal.nD Cert.DPoolDRefIdeal.τ).loc Cert.DPoolDRefIdeal.main_arg1) = m ((c.tc : Thread Cert.DPoolDIdeal.nD Cert.DPoolDIdeal.τ).loc Cert.DPoolDIdeal.main_arg1)
      ∧ m' ((c.tc : Thread Cert.DPoolDRefIdeal.nD Cert.DPoolDRefIdeal.τ).loc Cert.DPoolDRefIdeal.main_arg2) = m ((c.tc : Thread Cert.DPoolDIdeal.nD Cert.DPoolDIdeal.τ).loc Cert.DPoolDIdeal.main_arg2)) →
    ∃ (v0 : (c : Dev Cert.DPoolDIdeal.nD) → Buf (Elt Ideal) ((c.tc : Thread Cert.DPoolDIdeal.nD Cert.DPoolDIdeal.τ).loc Cert.DPoolDIdeal.main_v12)),
      θ_run (Cert.DPoolDIdeal.defs (F := Ideal)) (onTc (τ := Cert.DPoolDIdeal.τ) (Cert.DPoolDIdeal.main (F := Ideal))) ⟨m, fun _ => 0, g⟩ (fun r => ∀ c : Dev Cert.DPoolDIdeal.nD,
          r.2.mem ((c.tc : Thread Cert.DPoolDIdeal.nD Cert.DPoolDIdeal.τ).loc Cert.DPoolDIdeal.main_v12) = v0 c
          ∧ r.2.mem ((c.tc : Thread Cert.DPoolDIdeal.nD Cert.DPoolDIdeal.τ).loc Cert.DPoolDIdeal.main_arg0) = m ((c.tc : Thread Cert.DPoolDIdeal.nD Cert.DPoolDIdeal.τ).loc Cert.DPoolDIdeal.main_arg0)
          ∧ r.2.mem ((c.tc : Thread Cert.DPoolDIdeal.nD Cert.DPoolDIdeal.τ).loc Cert.DPoolDIdeal.main_arg1) = m ((c.tc : Thread Cert.DPoolDIdeal.nD Cert.DPoolDIdeal.τ).loc Cert.DPoolDIdeal.main_arg1)
          ∧ r.2.mem ((c.tc : Thread Cert.DPoolDIdeal.nD Cert.DPoolDIdeal.τ).loc Cert.DPoolDIdeal.main_arg2) = m ((c.tc : Thread Cert.DPoolDIdeal.nD Cert.DPoolDIdeal.τ).loc Cert.DPoolDIdeal.main_arg2))
      ∧ θ_run (Cert.DPoolDRefIdeal.defs (F := Ideal)) (onTc (τ := Cert.DPoolDRefIdeal.τ) (Cert.DPoolDRefIdeal.main (F := Ideal))) ⟨m', fun _ => 0, g'⟩ (fun r => ∀ c : Dev Cert.DPoolDRefIdeal.nD,
          r.2.mem ((c.tc : Thread Cert.DPoolDRefIdeal.nD Cert.DPoolDRefIdeal.τ).loc Cert.DPoolDRefIdeal.main_v9) = v0 c
          ∧ r.2.mem ((c.tc : Thread Cert.DPoolDRefIdeal.nD Cert.DPoolDRefIdeal.τ).loc Cert.DPoolDRefIdeal.main_arg0) = m' ((c.tc : Thread Cert.DPoolDRefIdeal.nD Cert.DPoolDRefIdeal.τ).loc Cert.DPoolDRefIdeal.main_arg0)
          ∧ r.2.mem ((c.tc : Thread Cert.DPoolDRefIdeal.nD Cert.DPoolDRefIdeal.τ).loc Cert.DPoolDRefIdeal.main_arg1) = m' ((c.tc : Thread Cert.DPoolDRefIdeal.nD Cert.DPoolDRefIdeal.τ).loc Cert.DPoolDRefIdeal.main_arg1)
          ∧ r.2.mem ((c.tc : Thread Cert.DPoolDRefIdeal.nD Cert.DPoolDRefIdeal.τ).loc Cert.DPoolDRefIdeal.main_arg2) = m' ((c.tc : Thread Cert.DPoolDRefIdeal.nD Cert.DPoolDRefIdeal.τ).loc Cert.DPoolDRefIdeal.main_arg2))

def preserves_DLruW_DLruWIdeal : Prop :=
  True

def algebraic_DLruWIdeal_DLruWRefIdeal [hDLruWIdeal : Cert.DLruWIdeal.Facts] [hDLruWRefIdeal : Cert.DLruWRefIdeal.Facts] : Prop :=
  ∀ (m : (ℓ : Loc Cert.DLruWIdeal.nD Cert.DLruWIdeal.τ Cert.DLruWIdeal.sig) → Buf (Elt Ideal) ℓ) (g : Dev Cert.DLruWIdeal.nD → PrngReg)
    (m' : (ℓ : Loc Cert.DLruWRefIdeal.nD Cert.DLruWRefIdeal.τ Cert.DLruWRefIdeal.sig) → Buf (Elt Ideal) ℓ) (g' : Dev Cert.DLruWRefIdeal.nD → PrngReg), Pre_DLruWIdeal m →
    (∀ c : Dev Cert.DLruWIdeal.nD,
      m' ((c.tc : Thread Cert.DLruWRefIdeal.nD Cert.DLruWRefIdeal.τ).loc Cert.DLruWRefIdeal.main_arg0) = m ((c.tc : Thread Cert.DLruWIdeal.nD Cert.DLruWIdeal.τ).loc Cert.DLruWIdeal.main_arg0)
      ∧ m' ((c.tc : Thread Cert.DLruWRefIdeal.nD Cert.DLruWRefIdeal.τ).loc Cert.DLruWRefIdeal.main_arg1) = m ((c.tc : Thread Cert.DLruWIdeal.nD Cert.DLruWIdeal.τ).loc Cert.DLruWIdeal.main_arg1)
      ∧ m' ((c.tc : Thread Cert.DLruWRefIdeal.nD Cert.DLruWRefIdeal.τ).loc Cert.DLruWRefIdeal.main_arg2) = m ((c.tc : Thread Cert.DLruWIdeal.nD Cert.DLruWIdeal.τ).loc Cert.DLruWIdeal.main_arg2)
      ∧ m' ((c.tc : Thread Cert.DLruWRefIdeal.nD Cert.DLruWRefIdeal.τ).loc Cert.DLruWRefIdeal.main_arg3) = m ((c.tc : Thread Cert.DLruWIdeal.nD Cert.DLruWIdeal.τ).loc Cert.DLruWIdeal.main_arg3)
      ∧ m' ((c.tc : Thread Cert.DLruWRefIdeal.nD Cert.DLruWRefIdeal.τ).loc Cert.DLruWRefIdeal.main_arg4) = m ((c.tc : Thread Cert.DLruWIdeal.nD Cert.DLruWIdeal.τ).loc Cert.DLruWIdeal.main_arg4)) →
    ∃ (v0 : (c : Dev Cert.DLruWIdeal.nD) → Buf (Elt Ideal) ((c.tc : Thread Cert.DLruWIdeal.nD Cert.DLruWIdeal.τ).loc Cert.DLruWIdeal.main_v28)) (v1 : (c : Dev Cert.DLruWIdeal.nD) → Buf (Elt Ideal) ((c.tc : Thread Cert.DLruWIdeal.nD Cert.DLruWIdeal.τ).loc Cert.DLruWIdeal.main_v55)),
      θ_run (Cert.DLruWIdeal.defs (F := Ideal)) (onTc (τ := Cert.DLruWIdeal.τ) (Cert.DLruWIdeal.main (F := Ideal))) ⟨m, fun _ => 0, g⟩ (fun r => ∀ c : Dev Cert.DLruWIdeal.nD,
          r.2.mem ((c.tc : Thread Cert.DLruWIdeal.nD Cert.DLruWIdeal.τ).loc Cert.DLruWIdeal.main_v28) = v0 c
          ∧ r.2.mem ((c.tc : Thread Cert.DLruWIdeal.nD Cert.DLruWIdeal.τ).loc Cert.DLruWIdeal.main_v55) = v1 c
          ∧ r.2.mem ((c.tc : Thread Cert.DLruWIdeal.nD Cert.DLruWIdeal.τ).loc Cert.DLruWIdeal.main_arg0) = m ((c.tc : Thread Cert.DLruWIdeal.nD Cert.DLruWIdeal.τ).loc Cert.DLruWIdeal.main_arg0)
          ∧ r.2.mem ((c.tc : Thread Cert.DLruWIdeal.nD Cert.DLruWIdeal.τ).loc Cert.DLruWIdeal.main_arg1) = m ((c.tc : Thread Cert.DLruWIdeal.nD Cert.DLruWIdeal.τ).loc Cert.DLruWIdeal.main_arg1)
          ∧ r.2.mem ((c.tc : Thread Cert.DLruWIdeal.nD Cert.DLruWIdeal.τ).loc Cert.DLruWIdeal.main_arg2) = m ((c.tc : Thread Cert.DLruWIdeal.nD Cert.DLruWIdeal.τ).loc Cert.DLruWIdeal.main_arg2)
          ∧ r.2.mem ((c.tc : Thread Cert.DLruWIdeal.nD Cert.DLruWIdeal.τ).loc Cert.DLruWIdeal.main_arg3) = m ((c.tc : Thread Cert.DLruWIdeal.nD Cert.DLruWIdeal.τ).loc Cert.DLruWIdeal.main_arg3)
          ∧ r.2.mem ((c.tc : Thread Cert.DLruWIdeal.nD Cert.DLruWIdeal.τ).loc Cert.DLruWIdeal.main_arg4) = m ((c.tc : Thread Cert.DLruWIdeal.nD Cert.DLruWIdeal.τ).loc Cert.DLruWIdeal.main_arg4))
      ∧ θ_run (Cert.DLruWRefIdeal.defs (F := Ideal)) (onTc (τ := Cert.DLruWRefIdeal.τ) (Cert.DLruWRefIdeal.main (F := Ideal))) ⟨m', fun _ => 0, g'⟩ (fun r => ∀ c : Dev Cert.DLruWRefIdeal.nD,
          r.2.mem ((c.tc : Thread Cert.DLruWRefIdeal.nD Cert.DLruWRefIdeal.τ).loc Cert.DLruWRefIdeal.main_v14) = v0 c
          ∧ r.2.mem ((c.tc : Thread Cert.DLruWRefIdeal.nD Cert.DLruWRefIdeal.τ).loc Cert.DLruWRefIdeal.main_v10) = v1 c
          ∧ r.2.mem ((c.tc : Thread Cert.DLruWRefIdeal.nD Cert.DLruWRefIdeal.τ).loc Cert.DLruWRefIdeal.main_arg0) = m' ((c.tc : Thread Cert.DLruWRefIdeal.nD Cert.DLruWRefIdeal.τ).loc Cert.DLruWRefIdeal.main_arg0)
          ∧ r.2.mem ((c.tc : Thread Cert.DLruWRefIdeal.nD Cert.DLruWRefIdeal.τ).loc Cert.DLruWRefIdeal.main_arg1) = m' ((c.tc : Thread Cert.DLruWRefIdeal.nD Cert.DLruWRefIdeal.τ).loc Cert.DLruWRefIdeal.main_arg1)
          ∧ r.2.mem ((c.tc : Thread Cert.DLruWRefIdeal.nD Cert.DLruWRefIdeal.τ).loc Cert.DLruWRefIdeal.main_arg2) = m' ((c.tc : Thread Cert.DLruWRefIdeal.nD Cert.DLruWRefIdeal.τ).loc Cert.DLruWRefIdeal.main_arg2)
          ∧ r.2.mem ((c.tc : Thread Cert.DLruWRefIdeal.nD Cert.DLruWRefIdeal.τ).loc Cert.DLruWRefIdeal.main_arg3) = m' ((c.tc : Thread Cert.DLruWRefIdeal.nD Cert.DLruWRefIdeal.τ).loc Cert.DLruWRefIdeal.main_arg3)
          ∧ r.2.mem ((c.tc : Thread Cert.DLruWRefIdeal.nD Cert.DLruWRefIdeal.τ).loc Cert.DLruWRefIdeal.main_arg4) = m' ((c.tc : Thread Cert.DLruWRefIdeal.nD Cert.DLruWRefIdeal.τ).loc Cert.DLruWRefIdeal.main_arg4))

def preserves_PoolMm_PoolMmIdeal : Prop :=
  True

def algebraic_PoolMmIdeal_PoolMmRefIdeal [hPoolMmIdeal : Cert.PoolMmIdeal.Facts] [hPoolMmRefIdeal : Cert.PoolMmRefIdeal.Facts] : Prop :=
  ∀ (m : (ℓ : Loc Cert.PoolMmIdeal.nD Cert.PoolMmIdeal.τ Cert.PoolMmIdeal.sig) → Buf (Elt Ideal) ℓ) (g : Dev Cert.PoolMmIdeal.nD → PrngReg)
    (m' : (ℓ : Loc Cert.PoolMmRefIdeal.nD Cert.PoolMmRefIdeal.τ Cert.PoolMmRefIdeal.sig) → Buf (Elt Ideal) ℓ) (g' : Dev Cert.PoolMmRefIdeal.nD → PrngReg), Pre_PoolMmIdeal m →
    (∀ c : Dev Cert.PoolMmIdeal.nD,
      m' ((c.tc : Thread Cert.PoolMmRefIdeal.nD Cert.PoolMmRefIdeal.τ).loc Cert.PoolMmRefIdeal.main_arg0) = m ((c.tc : Thread Cert.PoolMmIdeal.nD Cert.PoolMmIdeal.τ).loc Cert.PoolMmIdeal.main_arg0)
      ∧ m' ((c.tc : Thread Cert.PoolMmRefIdeal.nD Cert.PoolMmRefIdeal.τ).loc Cert.PoolMmRefIdeal.main_arg1) = m ((c.tc : Thread Cert.PoolMmIdeal.nD Cert.PoolMmIdeal.τ).loc Cert.PoolMmIdeal.main_arg1)
      ∧ m' ((c.tc : Thread Cert.PoolMmRefIdeal.nD Cert.PoolMmRefIdeal.τ).loc Cert.PoolMmRefIdeal.main_arg2) = m ((c.tc : Thread Cert.PoolMmIdeal.nD Cert.PoolMmIdeal.τ).loc Cert.PoolMmIdeal.main_arg2)) →
    ∃ (v0 : (c : Dev Cert.PoolMmIdeal.nD) → Buf (Elt Ideal) ((c.tc : Thread Cert.PoolMmIdeal.nD Cert.PoolMmIdeal.τ).loc Cert.PoolMmIdeal.main_v13_0)) (v1 : (c : Dev Cert.PoolMmIdeal.nD) → Buf (Elt Ideal) ((c.tc : Thread Cert.PoolMmIdeal.nD Cert.PoolMmIdeal.τ).loc Cert.PoolMmIdeal.main_v13_1)),
      θ_run (Cert.PoolMmIdeal.defs (F := Ideal)) (onTc (τ := Cert.PoolMmIdeal.τ) (Cert.PoolMmIdeal.main (F := Ideal))) ⟨m, fun _ => 0, g⟩ (fun r => ∀ c : Dev Cert.PoolMmIdeal.nD,
          r.2.mem ((c.tc : Thread Cert.PoolMmIdeal.nD Cert.PoolMmIdeal.τ).loc Cert.PoolMmIdeal.main_v13_0) = v0 c
          ∧ r.2.mem ((c.tc : Thread Cert.PoolMmIdeal.nD Cert.PoolMmIdeal.τ).loc Cert.PoolMmIdeal.main_v13_1) = v1 c
          ∧ r.2.mem ((c.tc : Thread Cert.PoolMmIdeal.nD Cert.PoolMmIdeal.τ).loc Cert.PoolMmIdeal.main_arg0) = m ((c.tc : Thread Cert.PoolMmIdeal.nD Cert.PoolMmIdeal.τ).loc Cert.PoolMmIdeal.main_arg0)
          ∧ r.2.mem ((c.tc : Thread Cert.PoolMmIdeal.nD Cert.PoolMmIdeal.τ).loc Cert.PoolMmIdeal.main_arg1) = m ((c.tc : Thread Cert.PoolMmIdeal.nD Cert.PoolMmIdeal.τ).loc Cert.PoolMmIdeal.main_arg1)
          ∧ r.2.mem ((c.tc : Thread Cert.PoolMmIdeal.nD Cert.PoolMmIdeal.τ).loc Cert.PoolMmIdeal.main_arg2) = m ((c.tc : Thread Cert.PoolMmIdeal.nD Cert.PoolMmIdeal.τ).loc Cert.PoolMmIdeal.main_arg2))
      ∧ θ_run (Cert.PoolMmRefIdeal.defs (F := Ideal)) (onTc (τ := Cert.PoolMmRefIdeal.τ) (Cert.PoolMmRefIdeal.main (F := Ideal))) ⟨m', fun _ => 0, g'⟩ (fun r => ∀ c : Dev Cert.PoolMmRefIdeal.nD,
          r.2.mem ((c.tc : Thread Cert.PoolMmRefIdeal.nD Cert.PoolMmRefIdeal.τ).loc Cert.PoolMmRefIdeal.main_v3) = v0 c
          ∧ r.2.mem ((c.tc : Thread Cert.PoolMmRefIdeal.nD Cert.PoolMmRefIdeal.τ).loc Cert.PoolMmRefIdeal.main_v7) = v1 c
          ∧ r.2.mem ((c.tc : Thread Cert.PoolMmRefIdeal.nD Cert.PoolMmRefIdeal.τ).loc Cert.PoolMmRefIdeal.main_arg0) = m' ((c.tc : Thread Cert.PoolMmRefIdeal.nD Cert.PoolMmRefIdeal.τ).loc Cert.PoolMmRefIdeal.main_arg0)
          ∧ r.2.mem ((c.tc : Thread Cert.PoolMmRefIdeal.nD Cert.PoolMmRefIdeal.τ).loc Cert.PoolMmRefIdeal.main_arg1) = m' ((c.tc : Thread Cert.PoolMmRefIdeal.nD Cert.PoolMmRefIdeal.τ).loc Cert.PoolMmRefIdeal.main_arg1)
          ∧ r.2.mem ((c.tc : Thread Cert.PoolMmRefIdeal.nD Cert.PoolMmRefIdeal.τ).loc Cert.PoolMmRefIdeal.main_arg2) = m' ((c.tc : Thread Cert.PoolMmRefIdeal.nD Cert.PoolMmRefIdeal.τ).loc Cert.PoolMmRefIdeal.main_arg2))

def preserves_LruMm_LruMmIdeal : Prop :=
  True

def algebraic_LruMmIdeal_LruMmRefIdeal [hLruMmIdeal : Cert.LruMmIdeal.Facts] [hLruMmRefIdeal : Cert.LruMmRefIdeal.Facts] : Prop :=
  ∀ (m : (ℓ : Loc Cert.LruMmIdeal.nD Cert.LruMmIdeal.τ Cert.LruMmIdeal.sig) → Buf (Elt Ideal) ℓ) (g : Dev Cert.LruMmIdeal.nD → PrngReg)
    (m' : (ℓ : Loc Cert.LruMmRefIdeal.nD Cert.LruMmRefIdeal.τ Cert.LruMmRefIdeal.sig) → Buf (Elt Ideal) ℓ) (g' : Dev Cert.LruMmRefIdeal.nD → PrngReg), Pre_LruMmIdeal m →
    (∀ c : Dev Cert.LruMmIdeal.nD,
      m' ((c.tc : Thread Cert.LruMmRefIdeal.nD Cert.LruMmRefIdeal.τ).loc Cert.LruMmRefIdeal.main_arg0) = m ((c.tc : Thread Cert.LruMmIdeal.nD Cert.LruMmIdeal.τ).loc Cert.LruMmIdeal.main_arg0)
      ∧ m' ((c.tc : Thread Cert.LruMmRefIdeal.nD Cert.LruMmRefIdeal.τ).loc Cert.LruMmRefIdeal.main_arg1) = m ((c.tc : Thread Cert.LruMmIdeal.nD Cert.LruMmIdeal.τ).loc Cert.LruMmIdeal.main_arg1)
      ∧ m' ((c.tc : Thread Cert.LruMmRefIdeal.nD Cert.LruMmRefIdeal.τ).loc Cert.LruMmRefIdeal.main_arg2) = m ((c.tc : Thread Cert.LruMmIdeal.nD Cert.LruMmIdeal.τ).loc Cert.LruMmIdeal.main_arg2)) →
    ∃ (v0 : (c : Dev Cert.LruMmIdeal.nD) → Buf (Elt Ideal) ((c.tc : Thread Cert.LruMmIdeal.nD Cert.LruMmIdeal.τ).loc Cert.LruMmIdeal.main_v26)) (v1 : (c : Dev Cert.LruMmIdeal.nD) → Buf (Elt Ideal) ((c.tc : Thread Cert.LruMmIdeal.nD Cert.LruMmIdeal.τ).loc Cert.LruMmIdeal.main_v27)),
      θ_run (Cert.LruMmIdeal.defs (F := Ideal)) (onTc (τ := Cert.LruMmIdeal.τ) (Cert.LruMmIdeal.main (F := Ideal))) ⟨m, fun _ => 0, g⟩ (fun r => ∀ c : Dev Cert.LruMmIdeal.nD,
          r.2.mem ((c.tc : Thread Cert.LruMmIdeal.nD Cert.LruMmIdeal.τ).loc Cert.LruMmIdeal.main_v26) = v0 c
          ∧ r.2.mem ((c.tc : Thread Cert.LruMmIdeal.nD Cert.LruMmIdeal.τ).loc Cert.LruMmIdeal.main_v27) = v1 c
          ∧ r.2.mem ((c.tc : Thread Cert.LruMmIdeal.nD Cert.LruMmIdeal.τ).loc Cert.LruMmIdeal.main_arg0) = m ((c.tc : Thread Cert.LruMmIdeal.nD Cert.LruMmIdeal.τ).loc Cert.LruMmIdeal.main_arg0)
          ∧ r.2.mem ((c.tc : Thread Cert.LruMmIdeal.nD Cert.LruMmIdeal.τ).loc Cert.LruMmIdeal.main_arg1) = m ((c.tc : Thread Cert.LruMmIdeal.nD Cert.LruMmIdeal.τ).loc Cert.LruMmIdeal.main_arg1)
          ∧ r.2.mem ((c.tc : Thread Cert.LruMmIdeal.nD Cert.LruMmIdeal.τ).loc Cert.LruMmIdeal.main_arg2) = m ((c.tc : Thread Cert.LruMmIdeal.nD Cert.LruMmIdeal.τ).loc Cert.LruMmIdeal.main_arg2))
      ∧ θ_run (Cert.LruMmRefIdeal.defs (F := Ideal)) (onTc (τ := Cert.LruMmRefIdeal.τ) (Cert.LruMmRefIdeal.main (F := Ideal))) ⟨m', fun _ => 0, g'⟩ (fun r => ∀ c : Dev Cert.LruMmRefIdeal.nD,
          r.2.mem ((c.tc : Thread Cert.LruMmRefIdeal.nD Cert.LruMmRefIdeal.τ).loc Cert.LruMmRefIdeal.main_v3) = v0 c
          ∧ r.2.mem ((c.tc : Thread Cert.LruMmRefIdeal.nD Cert.LruMmRefIdeal.τ).loc Cert.LruMmRefIdeal.main_v6) = v1 c
          ∧ r.2.mem ((c.tc : Thread Cert.LruMmRefIdeal.nD Cert.LruMmRefIdeal.τ).loc Cert.LruMmRefIdeal.main_arg0) = m' ((c.tc : Thread Cert.LruMmRefIdeal.nD Cert.LruMmRefIdeal.τ).loc Cert.LruMmRefIdeal.main_arg0)
          ∧ r.2.mem ((c.tc : Thread Cert.LruMmRefIdeal.nD Cert.LruMmRefIdeal.τ).loc Cert.LruMmRefIdeal.main_arg1) = m' ((c.tc : Thread Cert.LruMmRefIdeal.nD Cert.LruMmRefIdeal.τ).loc Cert.LruMmRefIdeal.main_arg1)
          ∧ r.2.mem ((c.tc : Thread Cert.LruMmRefIdeal.nD Cert.LruMmRefIdeal.τ).loc Cert.LruMmRefIdeal.main_arg2) = m' ((c.tc : Thread Cert.LruMmRefIdeal.nD Cert.LruMmRefIdeal.τ).loc Cert.LruMmRefIdeal.main_arg2))

def preserves_DXc_DXcIdeal : Prop :=
  True

def algebraic_DXcIdeal_DXcRefIdeal [hDXcIdeal : Cert.DXcIdeal.Facts] [hDXcRefIdeal : Cert.DXcRefIdeal.Facts] : Prop :=
  ∀ (m : (ℓ : Loc Cert.DXcIdeal.nD Cert.DXcIdeal.τ Cert.DXcIdeal.sig) → Buf (Elt Ideal) ℓ) (g : Dev Cert.DXcIdeal.nD → PrngReg)
    (m' : (ℓ : Loc Cert.DXcRefIdeal.nD Cert.DXcRefIdeal.τ Cert.DXcRefIdeal.sig) → Buf (Elt Ideal) ℓ) (g' : Dev Cert.DXcRefIdeal.nD → PrngReg), Pre_DXcIdeal m →
    (∀ c : Dev Cert.DXcIdeal.nD,
      m' ((c.tc : Thread Cert.DXcRefIdeal.nD Cert.DXcRefIdeal.τ).loc Cert.DXcRefIdeal.main_arg0) = m ((c.tc : Thread Cert.DXcIdeal.nD Cert.DXcIdeal.τ).loc Cert.DXcIdeal.main_arg0)
      ∧ m' ((c.tc : Thread Cert.DXcRefIdeal.nD Cert.DXcRefIdeal.τ).loc Cert.DXcRefIdeal.main_arg1) = m ((c.tc : Thread Cert.DXcIdeal.nD Cert.DXcIdeal.τ).loc Cert.DXcIdeal.main_arg1)
      ∧ m' ((c.tc : Thread Cert.DXcRefIdeal.nD Cert.DXcRefIdeal.τ).loc Cert.DXcRefIdeal.main_arg2) = m ((c.tc : Thread Cert.DXcIdeal.nD Cert.DXcIdeal.τ).loc Cert.DXcIdeal.main_arg2)
      ∧ m' ((c.tc : Thread Cert.DXcRefIdeal.nD Cert.DXcRefIdeal.τ).loc Cert.DXcRefIdeal.main_arg3) = m ((c.tc : Thread Cert.DXcIdeal.nD Cert.DXcIdeal.τ).loc Cert.DXcIdeal.main_arg3)
      ∧ m' ((c.tc : Thread Cert.DXcRefIdeal.nD Cert.DXcRefIdeal.τ).loc Cert.DXcRefIdeal.main_arg4) = m ((c.tc : Thread Cert.DXcIdeal.nD Cert.DXcIdeal.τ).loc Cert.DXcIdeal.main_arg4)
      ∧ m' ((c.tc : Thread Cert.DXcRefIdeal.nD Cert.DXcRefIdeal.τ).loc Cert.DXcRefIdeal.main_arg5) = m ((c.tc : Thread Cert.DXcIdeal.nD Cert.DXcIdeal.τ).loc Cert.DXcIdeal.main_arg5)) →
    ∃ (v0 : (c : Dev Cert.DXcIdeal.nD) → Buf (Elt Ideal) ((c.tc : Thread Cert.DXcIdeal.nD Cert.DXcIdeal.τ).loc Cert.DXcIdeal.main_v26)),
      θ_run (Cert.DXcIdeal.defs (F := Ideal)) (onTc (τ := Cert.DXcIdeal.τ) (Cert.DXcIdeal.main (F := Ideal))) ⟨m, fun _ => 0, g⟩ (fun r => ∀ c : Dev Cert.DXcIdeal.nD,
          r.2.mem ((c.tc : Thread Cert.DXcIdeal.nD Cert.DXcIdeal.τ).loc Cert.DXcIdeal.main_v26) = v0 c
          ∧ r.2.mem ((c.tc : Thread Cert.DXcIdeal.nD Cert.DXcIdeal.τ).loc Cert.DXcIdeal.main_arg0) = m ((c.tc : Thread Cert.DXcIdeal.nD Cert.DXcIdeal.τ).loc Cert.DXcIdeal.main_arg0)
          ∧ r.2.mem ((c.tc : Thread Cert.DXcIdeal.nD Cert.DXcIdeal.τ).loc Cert.DXcIdeal.main_arg1) = m ((c.tc : Thread Cert.DXcIdeal.nD Cert.DXcIdeal.τ).loc Cert.DXcIdeal.main_arg1)
          ∧ r.2.mem ((c.tc : Thread Cert.DXcIdeal.nD Cert.DXcIdeal.τ).loc Cert.DXcIdeal.main_arg2) = m ((c.tc : Thread Cert.DXcIdeal.nD Cert.DXcIdeal.τ).loc Cert.DXcIdeal.main_arg2)
          ∧ r.2.mem ((c.tc : Thread Cert.DXcIdeal.nD Cert.DXcIdeal.τ).loc Cert.DXcIdeal.main_arg3) = m ((c.tc : Thread Cert.DXcIdeal.nD Cert.DXcIdeal.τ).loc Cert.DXcIdeal.main_arg3)
          ∧ r.2.mem ((c.tc : Thread Cert.DXcIdeal.nD Cert.DXcIdeal.τ).loc Cert.DXcIdeal.main_arg4) = m ((c.tc : Thread Cert.DXcIdeal.nD Cert.DXcIdeal.τ).loc Cert.DXcIdeal.main_arg4)
          ∧ r.2.mem ((c.tc : Thread Cert.DXcIdeal.nD Cert.DXcIdeal.τ).loc Cert.DXcIdeal.main_arg5) = m ((c.tc : Thread Cert.DXcIdeal.nD Cert.DXcIdeal.τ).loc Cert.DXcIdeal.main_arg5))
      ∧ θ_run (Cert.DXcRefIdeal.defs (F := Ideal)) (onTc (τ := Cert.DXcRefIdeal.τ) (Cert.DXcRefIdeal.main (F := Ideal))) ⟨m', fun _ => 0, g'⟩ (fun r => ∀ c : Dev Cert.DXcRefIdeal.nD,
          r.2.mem ((c.tc : Thread Cert.DXcRefIdeal.nD Cert.DXcRefIdeal.τ).loc Cert.DXcRefIdeal.main_v17) = v0 c
          ∧ r.2.mem ((c.tc : Thread Cert.DXcRefIdeal.nD Cert.DXcRefIdeal.τ).loc Cert.DXcRefIdeal.main_arg0) = m' ((c.tc : Thread Cert.DXcRefIdeal.nD Cert.DXcRefIdeal.τ).loc Cert.DXcRefIdeal.main_arg0)
          ∧ r.2.mem ((c.tc : Thread Cert.DXcRefIdeal.nD Cert.DXcRefIdeal.τ).loc Cert.DXcRefIdeal.main_arg1) = m' ((c.tc : Thread Cert.DXcRefIdeal.nD Cert.DXcRefIdeal.τ).loc Cert.DXcRefIdeal.main_arg1)
          ∧ r.2.mem ((c.tc : Thread Cert.DXcRefIdeal.nD Cert.DXcRefIdeal.τ).loc Cert.DXcRefIdeal.main_arg2) = m' ((c.tc : Thread Cert.DXcRefIdeal.nD Cert.DXcRefIdeal.τ).loc Cert.DXcRefIdeal.main_arg2)
          ∧ r.2.mem ((c.tc : Thread Cert.DXcRefIdeal.nD Cert.DXcRefIdeal.τ).loc Cert.DXcRefIdeal.main_arg3) = m' ((c.tc : Thread Cert.DXcRefIdeal.nD Cert.DXcRefIdeal.τ).loc Cert.DXcRefIdeal.main_arg3)
          ∧ r.2.mem ((c.tc : Thread Cert.DXcRefIdeal.nD Cert.DXcRefIdeal.τ).loc Cert.DXcRefIdeal.main_arg4) = m' ((c.tc : Thread Cert.DXcRefIdeal.nD Cert.DXcRefIdeal.τ).loc Cert.DXcRefIdeal.main_arg4)
          ∧ r.2.mem ((c.tc : Thread Cert.DXcRefIdeal.nD Cert.DXcRefIdeal.τ).loc Cert.DXcRefIdeal.main_arg5) = m' ((c.tc : Thread Cert.DXcRefIdeal.nD Cert.DXcRefIdeal.τ).loc Cert.DXcRefIdeal.main_arg5))

def preserves_FlashFwd_FlashFwdIdeal : Prop :=
  True

def algebraic_FlashFwdIdeal_FlashFwdRefIdeal_pre_finite_scores [hFlashFwdIdeal : Cert.FlashFwdIdeal.Facts] [hFlashFwdRefIdeal : Cert.FlashFwdRefIdeal.Facts] [hPre_finite_scores : Cert.Pre_finite_scores.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_finite_scores m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)) →
    ∃ (v0 : (c : Dev Cert.FlashFwdIdeal.nD) → Buf (Elt Ideal) ((c.tc : Thread Cert.FlashFwdIdeal.nD Cert.FlashFwdIdeal.τ).loc Cert.FlashFwdIdeal.main_v3_0)) (v1 : (c : Dev Cert.FlashFwdIdeal.nD) → Buf (Elt Ideal) ((c.tc : Thread Cert.FlashFwdIdeal.nD Cert.FlashFwdIdeal.τ).loc Cert.FlashFwdIdeal.main_v3_1)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v3_0) = v0 c
          ∧ r.2.mem ((c.tc : Thread Cert.FlashFwdIdeal.nD Cert.FlashFwdIdeal.τ).loc Cert.FlashFwdIdeal.main_v3_1) = v1 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          r.2.mem ((c.tc : Thread Cert.FlashFwdRefIdeal.nD Cert.FlashFwdRefIdeal.τ).loc Cert.FlashFwdRefIdeal.main_v53) = v0 c
          ∧ r.2.mem ((c.tc : Thread Cert.FlashFwdRefIdeal.nD Cert.FlashFwdRefIdeal.τ).loc Cert.FlashFwdRefIdeal.main_v54) = v1 c
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0_0)) (v1 : (c : Dev Cert.Ff1Ideal.nD) → Buf (Elt Ideal) ((c.tc : Thread Cert.Ff1Ideal.nD Cert.Ff1Ideal.τ).loc Cert.Ff1Ideal.main_v0_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0_0) = v0 c
          ∧ r.2.mem ((c.tc : Thread Cert.Ff1Ideal.nD Cert.Ff1Ideal.τ).loc Cert.Ff1Ideal.main_v0_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v2) = v0 c
          ∧ r.2.mem ((c.tc : Thread Cert.Ff1RefIdeal.nD Cert.Ff1RefIdeal.τ).loc Cert.Ff1RefIdeal.main_v5) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v2) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_PleEmb_PleEmbIdeal : Prop :=
  True

def algebraic_PleEmbIdeal_PleEmbRefIdeal [hPleEmbIdeal : Cert.PleEmbIdeal.Facts] [hPleEmbRefIdeal : Cert.PleEmbRefIdeal.Facts] : Prop :=
  ∀ (m : (ℓ : Loc Cert.PleEmbIdeal.nD Cert.PleEmbIdeal.τ Cert.PleEmbIdeal.sig) → Buf (Elt Ideal) ℓ) (g : Dev Cert.PleEmbIdeal.nD → PrngReg)
    (m' : (ℓ : Loc Cert.PleEmbRefIdeal.nD Cert.PleEmbRefIdeal.τ Cert.PleEmbRefIdeal.sig) → Buf (Elt Ideal) ℓ) (g' : Dev Cert.PleEmbRefIdeal.nD → PrngReg), Pre_PleEmbIdeal m →
    (∀ c : Dev Cert.PleEmbIdeal.nD,
      m' ((c.tc : Thread Cert.PleEmbRefIdeal.nD Cert.PleEmbRefIdeal.τ).loc Cert.PleEmbRefIdeal.main_arg0) = m ((c.tc : Thread Cert.PleEmbIdeal.nD Cert.PleEmbIdeal.τ).loc Cert.PleEmbIdeal.main_arg0)
      ∧ m' ((c.tc : Thread Cert.PleEmbRefIdeal.nD Cert.PleEmbRefIdeal.τ).loc Cert.PleEmbRefIdeal.main_arg1) = m ((c.tc : Thread Cert.PleEmbIdeal.nD Cert.PleEmbIdeal.τ).loc Cert.PleEmbIdeal.main_arg1)) →
    ∃ (v0 : (c : Dev Cert.PleEmbIdeal.nD) → Buf (Elt Ideal) ((c.tc : Thread Cert.PleEmbIdeal.nD Cert.PleEmbIdeal.τ).loc Cert.PleEmbIdeal.main_v0)),
      θ_run (Cert.PleEmbIdeal.defs (F := Ideal)) (onTc (τ := Cert.PleEmbIdeal.τ) (Cert.PleEmbIdeal.main (F := Ideal))) ⟨m, fun _ => 0, g⟩ (fun r => ∀ c : Dev Cert.PleEmbIdeal.nD,
          r.2.mem ((c.tc : Thread Cert.PleEmbIdeal.nD Cert.PleEmbIdeal.τ).loc Cert.PleEmbIdeal.main_v0) = v0 c
          ∧ r.2.mem ((c.tc : Thread Cert.PleEmbIdeal.nD Cert.PleEmbIdeal.τ).loc Cert.PleEmbIdeal.main_arg0) = m ((c.tc : Thread Cert.PleEmbIdeal.nD Cert.PleEmbIdeal.τ).loc Cert.PleEmbIdeal.main_arg0)
          ∧ r.2.mem ((c.tc : Thread Cert.PleEmbIdeal.nD Cert.PleEmbIdeal.τ).loc Cert.PleEmbIdeal.main_arg1) = m ((c.tc : Thread Cert.PleEmbIdeal.nD Cert.PleEmbIdeal.τ).loc Cert.PleEmbIdeal.main_arg1))
      ∧ θ_run (Cert.PleEmbRefIdeal.defs (F := Ideal)) (onTc (τ := Cert.PleEmbRefIdeal.τ) (Cert.PleEmbRefIdeal.main (F := Ideal))) ⟨m', fun _ => 0, g'⟩ (fun r => ∀ c : Dev Cert.PleEmbRefIdeal.nD,
          r.2.mem ((c.tc : Thread Cert.PleEmbRefIdeal.nD Cert.PleEmbRefIdeal.τ).loc Cert.PleEmbRefIdeal.main_v0) = v0 c
          ∧ r.2.mem ((c.tc : Thread Cert.PleEmbRefIdeal.nD Cert.PleEmbRefIdeal.τ).loc Cert.PleEmbRefIdeal.main_arg0) = m' ((c.tc : Thread Cert.PleEmbRefIdeal.nD Cert.PleEmbRefIdeal.τ).loc Cert.PleEmbRefIdeal.main_arg0)
          ∧ r.2.mem ((c.tc : Thread Cert.PleEmbRefIdeal.nD Cert.PleEmbRefIdeal.τ).loc Cert.PleEmbRefIdeal.main_arg1) = m' ((c.tc : Thread Cert.PleEmbRefIdeal.nD Cert.PleEmbRefIdeal.τ).loc Cert.PleEmbRefIdeal.main_arg1))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)
      ∧ m' ((c.tc : Thread Cert.PleGateRefIdeal.nD Cert.PleGateRefIdeal.τ).loc Cert.PleGateRefIdeal.main_arg2) = m ((c.tc : Thread Cert.PleGateIdeal.nD Cert.PleGateIdeal.τ).loc Cert.PleGateIdeal.main_arg2)
      ∧ m' ((c.tc : Thread Cert.PleGateRefIdeal.nD Cert.PleGateRefIdeal.τ).loc Cert.PleGateRefIdeal.main_arg3) = m ((c.tc : Thread Cert.PleGateIdeal.nD Cert.PleGateIdeal.τ).loc Cert.PleGateIdeal.main_arg3)) →
    ∃ (v0 : (c : Dev Cert.PleGateIdeal.nD) → Buf (Elt Ideal) ((c.tc : Thread Cert.PleGateIdeal.nD Cert.PleGateIdeal.τ).loc Cert.PleGateIdeal.main_v0_0)) (v1 : (c : Dev Cert.PleGateIdeal.nD) → Buf (Elt Ideal) ((c.tc : Thread Cert.PleGateIdeal.nD Cert.PleGateIdeal.τ).loc Cert.PleGateIdeal.main_v0_1)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0_0) = v0 c
          ∧ r.2.mem ((c.tc : Thread Cert.PleGateIdeal.nD Cert.PleGateIdeal.τ).loc Cert.PleGateIdeal.main_v0_1) = v1 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
          ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
          ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v9) = v0 c
          ∧ r.2.mem ((c.tc : Thread Cert.PleGateRefIdeal.nD Cert.PleGateRefIdeal.τ).loc Cert.PleGateRefIdeal.main_v7) = v1 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1)
          ∧ r.2.mem ((c.tc : Thread Cert.PleGateRefIdeal.nD Cert.PleGateRefIdeal.τ).loc Cert.PleGateRefIdeal.main_arg2) = m' ((c.tc : Thread Cert.PleGateRefIdeal.nD Cert.PleGateRefIdeal.τ).loc Cert.PleGateRefIdeal.main_arg2)
          ∧ r.2.mem ((c.tc : Thread Cert.PleGateRefIdeal.nD Cert.PleGateRefIdeal.τ).loc Cert.PleGateRefIdeal.main_arg3) = m' ((c.tc : Thread Cert.PleGateRefIdeal.nD Cert.PleGateRefIdeal.τ).loc Cert.PleGateRefIdeal.main_arg3))

def Claim : Prop :=
  ∃ (hKernel : Cert.Kernel.Facts) (hKernelIdeal : Cert.KernelIdeal.Facts) (hReferenceIdeal : Cert.ReferenceIdeal.Facts) (hDWff2 : Cert.DWff2.Facts) (hDWff2Ideal : Cert.DWff2Ideal.Facts) (hDWff2RefIdeal : Cert.DWff2RefIdeal.Facts) (hDAff : Cert.DAff.Facts) (hDAffIdeal : Cert.DAffIdeal.Facts) (hDAffRefIdeal : Cert.DAffRefIdeal.Facts) (hDWff1 : Cert.DWff1.Facts) (hDWff1Ideal : Cert.DWff1Ideal.Facts) (hDWff1RefIdeal : Cert.DWff1RefIdeal.Facts) (hDH2 : Cert.DH2.Facts) (hDH2Ideal : Cert.DH2Ideal.Facts) (hDH2RefIdeal : Cert.DH2RefIdeal.Facts) (hDWout : Cert.DWout.Facts) (hDWoutIdeal : Cert.DWoutIdeal.Facts) (hDWoutRefIdeal : Cert.DWoutRefIdeal.Facts) (hDMerged : Cert.DMerged.Facts) (hDMergedIdeal : Cert.DMergedIdeal.Facts) (hDMergedRefIdeal : Cert.DMergedRefIdeal.Facts) (hDWpleGate : Cert.DWpleGate.Facts) (hDWpleGateIdeal : Cert.DWpleGateIdeal.Facts) (hDWpleGateRefIdeal : Cert.DWpleGateRefIdeal.Facts) (hDH3 : Cert.DH3.Facts) (hDH3Ideal : Cert.DH3Ideal.Facts) (hDH3RefIdeal : Cert.DH3RefIdeal.Facts) (hDWple : Cert.DWple.Facts) (hDWpleIdeal : Cert.DWpleIdeal.Facts) (hDWpleRefIdeal : Cert.DWpleRefIdeal.Facts) (hDWbranch : Cert.DWbranch.Facts) (hDWbranchIdeal : Cert.DWbranchIdeal.Facts) (hDWbranchRefIdeal : Cert.DWbranchRefIdeal.Facts) (hDWbranch3 : Cert.DWbranch3.Facts) (hDWbranch3Ideal : Cert.DWbranch3Ideal.Facts) (hDWbranch3RefIdeal : Cert.DWbranch3RefIdeal.Facts) (hDWbranch0 : Cert.DWbranch0.Facts) (hDWbranch0Ideal : Cert.DWbranch0Ideal.Facts) (hDWbranch0RefIdeal : Cert.DWbranch0RefIdeal.Facts) (hDYa : Cert.DYa.Facts) (hDYaIdeal : Cert.DYaIdeal.Facts) (hDYaRefIdeal : Cert.DYaRefIdeal.Facts) (hDYc : Cert.DYc.Facts) (hDYcIdeal : Cert.DYcIdeal.Facts) (hDYcRefIdeal : Cert.DYcRefIdeal.Facts) (hDYb : Cert.DYb.Facts) (hDYbIdeal : Cert.DYbIdeal.Facts) (hDYbRefIdeal : Cert.DYbRefIdeal.Facts) (hDWin : Cert.DWin.Facts) (hDWinIdeal : Cert.DWinIdeal.Facts) (hDWinRefIdeal : Cert.DWinRefIdeal.Facts) (hDH : Cert.DH.Facts) (hDHIdeal : Cert.DHIdeal.Facts) (hDHRefIdeal : Cert.DHRefIdeal.Facts) (hInProj : Cert.InProj.Facts) (hInProjIdeal : Cert.InProjIdeal.Facts) (hInProjRefIdeal : Cert.InProjRefIdeal.Facts) (hDWuq : Cert.DWuq.Facts) (hDWuqIdeal : Cert.DWuqIdeal.Facts) (hDWuqRefIdeal : Cert.DWuqRefIdeal.Facts) (hDCqn : Cert.DCqn.Facts) (hDCqnIdeal : Cert.DCqnIdeal.Facts) (hDCqnRefIdeal : Cert.DCqnRefIdeal.Facts) (hDWukv : Cert.DWukv.Facts) (hDWukvIdeal : Cert.DWukvIdeal.Facts) (hDWukvRefIdeal : Cert.DWukvRefIdeal.Facts) (hDCkvn : Cert.DCkvn.Facts) (hDCkvnIdeal : Cert.DCkvnIdeal.Facts) (hDCkvnRefIdeal : Cert.DCkvnRefIdeal.Facts) (hUq : Cert.Uq.Facts) (hUqIdeal : Cert.UqIdeal.Facts) (hUqRefIdeal : Cert.UqRefIdeal.Facts) (hUkv : Cert.Ukv.Facts) (hUkvIdeal : Cert.UkvIdeal.Facts) (hUkvRefIdeal : Cert.UkvRefIdeal.Facts) (hBranchMerge : Cert.BranchMerge.Facts) (hBranchMergeIdeal : Cert.BranchMergeIdeal.Facts) (hBranchMergeRefIdeal : Cert.BranchMergeRefIdeal.Facts) (hDWpool : Cert.DWpool.Facts) (hDWpoolIdeal : Cert.DWpoolIdeal.Facts) (hDWpoolRefIdeal : Cert.DWpoolRefIdeal.Facts) (hDPoolD : Cert.DPoolD.Facts) (hDPoolDIdeal : Cert.DPoolDIdeal.Facts) (hDPoolDRefIdeal : Cert.DPoolDRefIdeal.Facts) (hDLruW : Cert.DLruW.Facts) (hDLruWIdeal : Cert.DLruWIdeal.Facts) (hDLruWRefIdeal : Cert.DLruWRefIdeal.Facts) (hPoolMm : Cert.PoolMm.Facts) (hPoolMmIdeal : Cert.PoolMmIdeal.Facts) (hPoolMmRefIdeal : Cert.PoolMmRefIdeal.Facts) (hLruMm : Cert.LruMm.Facts) (hLruMmIdeal : Cert.LruMmIdeal.Facts) (hLruMmRefIdeal : Cert.LruMmRefIdeal.Facts) (hDXc : Cert.DXc.Facts) (hDXcIdeal : Cert.DXcIdeal.Facts) (hDXcRefIdeal : Cert.DXcRefIdeal.Facts) (hFlashFwd : Cert.FlashFwd.Facts) (hFlashFwdIdeal : Cert.FlashFwdIdeal.Facts) (hFlashFwdRefIdeal : Cert.FlashFwdRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hOutProj : Cert.OutProj.Facts) (hOutProjIdeal : Cert.OutProjIdeal.Facts) (hOutProjRefIdeal : Cert.OutProjRefIdeal.Facts) (hPleEmb : Cert.PleEmb.Facts) (hPleEmbIdeal : Cert.PleEmbIdeal.Facts) (hPleEmbRefIdeal : Cert.PleEmbRefIdeal.Facts) (hPleGate : Cert.PleGate.Facts) (hPleGateIdeal : Cert.PleGateIdeal.Facts) (hPleGateRefIdeal : Cert.PleGateRefIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DWff2 (hDWff2 := hDWff2)
    ∧ quiescent_DWff2Ideal (hDWff2Ideal := hDWff2Ideal)
    ∧ quiescent_DWff2RefIdeal (hDWff2RefIdeal := hDWff2RefIdeal)
    ∧ quiescent_DAff (hDAff := hDAff)
    ∧ quiescent_DAffIdeal (hDAffIdeal := hDAffIdeal)
    ∧ quiescent_DAffRefIdeal (hDAffRefIdeal := hDAffRefIdeal)
    ∧ quiescent_DWff1 (hDWff1 := hDWff1)
    ∧ quiescent_DWff1Ideal (hDWff1Ideal := hDWff1Ideal)
    ∧ quiescent_DWff1RefIdeal (hDWff1RefIdeal := hDWff1RefIdeal)
    ∧ quiescent_DH2 (hDH2 := hDH2)
    ∧ quiescent_DH2Ideal (hDH2Ideal := hDH2Ideal)
    ∧ quiescent_DH2RefIdeal (hDH2RefIdeal := hDH2RefIdeal)
    ∧ quiescent_DWout (hDWout := hDWout)
    ∧ quiescent_DWoutIdeal (hDWoutIdeal := hDWoutIdeal)
    ∧ quiescent_DWoutRefIdeal (hDWoutRefIdeal := hDWoutRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DWpleGate (hDWpleGate := hDWpleGate)
    ∧ quiescent_DWpleGateIdeal (hDWpleGateIdeal := hDWpleGateIdeal)
    ∧ quiescent_DWpleGateRefIdeal (hDWpleGateRefIdeal := hDWpleGateRefIdeal)
    ∧ quiescent_DH3 (hDH3 := hDH3)
    ∧ quiescent_DH3Ideal (hDH3Ideal := hDH3Ideal)
    ∧ quiescent_DH3RefIdeal (hDH3RefIdeal := hDH3RefIdeal)
    ∧ quiescent_DWple (hDWple := hDWple)
    ∧ quiescent_DWpleIdeal (hDWpleIdeal := hDWpleIdeal)
    ∧ quiescent_DWpleRefIdeal (hDWpleRefIdeal := hDWpleRefIdeal)
    ∧ quiescent_DWbranch (hDWbranch := hDWbranch)
    ∧ quiescent_DWbranchIdeal (hDWbranchIdeal := hDWbranchIdeal)
    ∧ quiescent_DWbranchRefIdeal (hDWbranchRefIdeal := hDWbranchRefIdeal)
    ∧ quiescent_DWbranch3 (hDWbranch3 := hDWbranch3)
    ∧ quiescent_DWbranch3Ideal (hDWbranch3Ideal := hDWbranch3Ideal)
    ∧ quiescent_DWbranch3RefIdeal (hDWbranch3RefIdeal := hDWbranch3RefIdeal)
    ∧ quiescent_DWbranch0 (hDWbranch0 := hDWbranch0)
    ∧ quiescent_DWbranch0Ideal (hDWbranch0Ideal := hDWbranch0Ideal)
    ∧ quiescent_DWbranch0RefIdeal (hDWbranch0RefIdeal := hDWbranch0RefIdeal)
    ∧ quiescent_DYa (hDYa := hDYa)
    ∧ quiescent_DYaIdeal (hDYaIdeal := hDYaIdeal)
    ∧ quiescent_DYaRefIdeal (hDYaRefIdeal := hDYaRefIdeal)
    ∧ quiescent_DYc (hDYc := hDYc)
    ∧ quiescent_DYcIdeal (hDYcIdeal := hDYcIdeal)
    ∧ quiescent_DYcRefIdeal (hDYcRefIdeal := hDYcRefIdeal)
    ∧ quiescent_DYb (hDYb := hDYb)
    ∧ quiescent_DYbIdeal (hDYbIdeal := hDYbIdeal)
    ∧ quiescent_DYbRefIdeal (hDYbRefIdeal := hDYbRefIdeal)
    ∧ quiescent_DWin (hDWin := hDWin)
    ∧ quiescent_DWinIdeal (hDWinIdeal := hDWinIdeal)
    ∧ quiescent_DWinRefIdeal (hDWinRefIdeal := hDWinRefIdeal)
    ∧ quiescent_DH (hDH := hDH)
    ∧ quiescent_DHIdeal (hDHIdeal := hDHIdeal)
    ∧ quiescent_DHRefIdeal (hDHRefIdeal := hDHRefIdeal)
    ∧ quiescent_InProj (hInProj := hInProj)
    ∧ quiescent_InProjIdeal (hInProjIdeal := hInProjIdeal)
    ∧ quiescent_InProjRefIdeal (hInProjRefIdeal := hInProjRefIdeal)
    ∧ quiescent_DWuq (hDWuq := hDWuq)
    ∧ quiescent_DWuqIdeal (hDWuqIdeal := hDWuqIdeal)
    ∧ quiescent_DWuqRefIdeal (hDWuqRefIdeal := hDWuqRefIdeal)
    ∧ quiescent_DCqn (hDCqn := hDCqn)
    ∧ quiescent_DCqnIdeal (hDCqnIdeal := hDCqnIdeal)
    ∧ quiescent_DCqnRefIdeal (hDCqnRefIdeal := hDCqnRefIdeal)
    ∧ quiescent_DWukv (hDWukv := hDWukv)
    ∧ quiescent_DWukvIdeal (hDWukvIdeal := hDWukvIdeal)
    ∧ quiescent_DWukvRefIdeal (hDWukvRefIdeal := hDWukvRefIdeal)
    ∧ quiescent_DCkvn (hDCkvn := hDCkvn)
    ∧ quiescent_DCkvnIdeal (hDCkvnIdeal := hDCkvnIdeal)
    ∧ quiescent_DCkvnRefIdeal (hDCkvnRefIdeal := hDCkvnRefIdeal)
    ∧ quiescent_Uq (hUq := hUq)
    ∧ quiescent_UqIdeal (hUqIdeal := hUqIdeal)
    ∧ quiescent_UqRefIdeal (hUqRefIdeal := hUqRefIdeal)
    ∧ quiescent_Ukv (hUkv := hUkv)
    ∧ quiescent_UkvIdeal (hUkvIdeal := hUkvIdeal)
    ∧ quiescent_UkvRefIdeal (hUkvRefIdeal := hUkvRefIdeal)
    ∧ quiescent_BranchMerge (hBranchMerge := hBranchMerge)
    ∧ quiescent_BranchMergeIdeal (hBranchMergeIdeal := hBranchMergeIdeal)
    ∧ quiescent_BranchMergeRefIdeal (hBranchMergeRefIdeal := hBranchMergeRefIdeal)
    ∧ quiescent_DWpool (hDWpool := hDWpool)
    ∧ quiescent_DWpoolIdeal (hDWpoolIdeal := hDWpoolIdeal)
    ∧ quiescent_DWpoolRefIdeal (hDWpoolRefIdeal := hDWpoolRefIdeal)
    ∧ quiescent_DPoolD (hDPoolD := hDPoolD)
    ∧ quiescent_DPoolDIdeal (hDPoolDIdeal := hDPoolDIdeal)
    ∧ quiescent_DPoolDRefIdeal (hDPoolDRefIdeal := hDPoolDRefIdeal)
    ∧ quiescent_DLruW (hDLruW := hDLruW)
    ∧ quiescent_DLruWIdeal (hDLruWIdeal := hDLruWIdeal)
    ∧ quiescent_DLruWRefIdeal (hDLruWRefIdeal := hDLruWRefIdeal)
    ∧ quiescent_PoolMm (hPoolMm := hPoolMm)
    ∧ quiescent_PoolMmIdeal (hPoolMmIdeal := hPoolMmIdeal)
    ∧ quiescent_PoolMmRefIdeal (hPoolMmRefIdeal := hPoolMmRefIdeal)
    ∧ quiescent_LruMm (hLruMm := hLruMm)
    ∧ quiescent_LruMmIdeal (hLruMmIdeal := hLruMmIdeal)
    ∧ quiescent_LruMmRefIdeal (hLruMmRefIdeal := hLruMmRefIdeal)
    ∧ quiescent_DXc (hDXc := hDXc)
    ∧ quiescent_DXcIdeal (hDXcIdeal := hDXcIdeal)
    ∧ quiescent_DXcRefIdeal (hDXcRefIdeal := hDXcRefIdeal)
    ∧ quiescent_FlashFwd (hFlashFwd := hFlashFwd)
    ∧ quiescent_FlashFwdIdeal (hFlashFwdIdeal := hFlashFwdIdeal)
    ∧ quiescent_FlashFwdIdeal_pre_finite_scores (hFlashFwdIdeal := hFlashFwdIdeal) (hPre_finite_scores := hPre_finite_scores)
    ∧ quiescent_FlashFwdRefIdeal (hFlashFwdRefIdeal := hFlashFwdRefIdeal)
    ∧ quiescent_FlashFwdRefIdeal_pre_finite_scores (hFlashFwdRefIdeal := hFlashFwdRefIdeal) (hPre_finite_scores := hPre_finite_scores)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_PleEmb (hPleEmb := hPleEmb)
    ∧ quiescent_PleEmbIdeal (hPleEmbIdeal := hPleEmbIdeal)
    ∧ quiescent_PleEmbRefIdeal (hPleEmbRefIdeal := hPleEmbRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DWff2_DWff2Ideal
    ∧ algebraic_DWff2Ideal_DWff2RefIdeal (hDWff2Ideal := hDWff2Ideal) (hDWff2RefIdeal := hDWff2RefIdeal)
    ∧ preserves_DAff_DAffIdeal
    ∧ algebraic_DAffIdeal_DAffRefIdeal (hDAffIdeal := hDAffIdeal) (hDAffRefIdeal := hDAffRefIdeal)
    ∧ preserves_DWff1_DWff1Ideal
    ∧ algebraic_DWff1Ideal_DWff1RefIdeal (hDWff1Ideal := hDWff1Ideal) (hDWff1RefIdeal := hDWff1RefIdeal)
    ∧ preserves_DH2_DH2Ideal
    ∧ algebraic_DH2Ideal_DH2RefIdeal (hDH2Ideal := hDH2Ideal) (hDH2RefIdeal := hDH2RefIdeal)
    ∧ preserves_DWout_DWoutIdeal
    ∧ algebraic_DWoutIdeal_DWoutRefIdeal (hDWoutIdeal := hDWoutIdeal) (hDWoutRefIdeal := hDWoutRefIdeal)
    ∧ preserves_DMerged_DMergedIdeal
    ∧ algebraic_DMergedIdeal_DMergedRefIdeal (hDMergedIdeal := hDMergedIdeal) (hDMergedRefIdeal := hDMergedRefIdeal)
    ∧ preserves_DWpleGate_DWpleGateIdeal
    ∧ algebraic_DWpleGateIdeal_DWpleGateRefIdeal (hDWpleGateIdeal := hDWpleGateIdeal) (hDWpleGateRefIdeal := hDWpleGateRefIdeal)
    ∧ preserves_DH3_DH3Ideal
    ∧ algebraic_DH3Ideal_DH3RefIdeal (hDH3Ideal := hDH3Ideal) (hDH3RefIdeal := hDH3RefIdeal)
    ∧ preserves_DWple_DWpleIdeal
    ∧ algebraic_DWpleIdeal_DWpleRefIdeal (hDWpleIdeal := hDWpleIdeal) (hDWpleRefIdeal := hDWpleRefIdeal)
    ∧ preserves_DWbranch_DWbranchIdeal
    ∧ algebraic_DWbranchIdeal_DWbranchRefIdeal (hDWbranchIdeal := hDWbranchIdeal) (hDWbranchRefIdeal := hDWbranchRefIdeal)
    ∧ preserves_DWbranch3_DWbranch3Ideal
    ∧ algebraic_DWbranch3Ideal_DWbranch3RefIdeal (hDWbranch3Ideal := hDWbranch3Ideal) (hDWbranch3RefIdeal := hDWbranch3RefIdeal)
    ∧ preserves_DWbranch0_DWbranch0Ideal
    ∧ algebraic_DWbranch0Ideal_DWbranch0RefIdeal (hDWbranch0Ideal := hDWbranch0Ideal) (hDWbranch0RefIdeal := hDWbranch0RefIdeal)
    ∧ preserves_DYa_DYaIdeal
    ∧ algebraic_DYaIdeal_DYaRefIdeal (hDYaIdeal := hDYaIdeal) (hDYaRefIdeal := hDYaRefIdeal)
    ∧ preserves_DYc_DYcIdeal
    ∧ algebraic_DYcIdeal_DYcRefIdeal (hDYcIdeal := hDYcIdeal) (hDYcRefIdeal := hDYcRefIdeal)
    ∧ preserves_DYb_DYbIdeal
    ∧ algebraic_DYbIdeal_DYbRefIdeal (hDYbIdeal := hDYbIdeal) (hDYbRefIdeal := hDYbRefIdeal)
    ∧ preserves_DWin_DWinIdeal
    ∧ algebraic_DWinIdeal_DWinRefIdeal (hDWinIdeal := hDWinIdeal) (hDWinRefIdeal := hDWinRefIdeal)
    ∧ preserves_DH_DHIdeal
    ∧ algebraic_DHIdeal_DHRefIdeal (hDHIdeal := hDHIdeal) (hDHRefIdeal := hDHRefIdeal)
    ∧ preserves_InProj_InProjIdeal
    ∧ algebraic_InProjIdeal_InProjRefIdeal (hInProjIdeal := hInProjIdeal) (hInProjRefIdeal := hInProjRefIdeal)
    ∧ preserves_DWuq_DWuqIdeal
    ∧ algebraic_DWuqIdeal_DWuqRefIdeal (hDWuqIdeal := hDWuqIdeal) (hDWuqRefIdeal := hDWuqRefIdeal)
    ∧ preserves_DCqn_DCqnIdeal
    ∧ algebraic_DCqnIdeal_DCqnRefIdeal (hDCqnIdeal := hDCqnIdeal) (hDCqnRefIdeal := hDCqnRefIdeal)
    ∧ preserves_DWukv_DWukvIdeal
    ∧ algebraic_DWukvIdeal_DWukvRefIdeal (hDWukvIdeal := hDWukvIdeal) (hDWukvRefIdeal := hDWukvRefIdeal)
    ∧ preserves_DCkvn_DCkvnIdeal
    ∧ algebraic_DCkvnIdeal_DCkvnRefIdeal (hDCkvnIdeal := hDCkvnIdeal) (hDCkvnRefIdeal := hDCkvnRefIdeal)
    ∧ preserves_Uq_UqIdeal
    ∧ algebraic_UqIdeal_UqRefIdeal (hUqIdeal := hUqIdeal) (hUqRefIdeal := hUqRefIdeal)
    ∧ preserves_Ukv_UkvIdeal
    ∧ algebraic_UkvIdeal_UkvRefIdeal (hUkvIdeal := hUkvIdeal) (hUkvRefIdeal := hUkvRefIdeal)
    ∧ preserves_BranchMerge_BranchMergeIdeal
    ∧ algebraic_BranchMergeIdeal_BranchMergeRefIdeal (hBranchMergeIdeal := hBranchMergeIdeal) (hBranchMergeRefIdeal := hBranchMergeRefIdeal)
    ∧ preserves_DWpool_DWpoolIdeal
    ∧ algebraic_DWpoolIdeal_DWpoolRefIdeal (hDWpoolIdeal := hDWpoolIdeal) (hDWpoolRefIdeal := hDWpoolRefIdeal)
    ∧ preserves_DPoolD_DPoolDIdeal
    ∧ algebraic_DPoolDIdeal_DPoolDRefIdeal (hDPoolDIdeal := hDPoolDIdeal) (hDPoolDRefIdeal := hDPoolDRefIdeal)
    ∧ preserves_DLruW_DLruWIdeal
    ∧ algebraic_DLruWIdeal_DLruWRefIdeal (hDLruWIdeal := hDLruWIdeal) (hDLruWRefIdeal := hDLruWRefIdeal)
    ∧ preserves_PoolMm_PoolMmIdeal
    ∧ algebraic_PoolMmIdeal_PoolMmRefIdeal (hPoolMmIdeal := hPoolMmIdeal) (hPoolMmRefIdeal := hPoolMmRefIdeal)
    ∧ preserves_LruMm_LruMmIdeal
    ∧ algebraic_LruMmIdeal_LruMmRefIdeal (hLruMmIdeal := hLruMmIdeal) (hLruMmRefIdeal := hLruMmRefIdeal)
    ∧ preserves_DXc_DXcIdeal
    ∧ algebraic_DXcIdeal_DXcRefIdeal (hDXcIdeal := hDXcIdeal) (hDXcRefIdeal := hDXcRefIdeal)
    ∧ preserves_FlashFwd_FlashFwdIdeal
    ∧ algebraic_FlashFwdIdeal_FlashFwdRefIdeal_pre_finite_scores (hFlashFwdIdeal := hFlashFwdIdeal) (hFlashFwdRefIdeal := hFlashFwdRefIdeal) (hPre_finite_scores := hPre_finite_scores)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_OutProj_OutProjIdeal
    ∧ algebraic_OutProjIdeal_OutProjRefIdeal (hOutProjIdeal := hOutProjIdeal) (hOutProjRefIdeal := hOutProjRefIdeal)
    ∧ preserves_PleEmb_PleEmbIdeal
    ∧ algebraic_PleEmbIdeal_PleEmbRefIdeal (hPleEmbIdeal := hPleEmbIdeal) (hPleEmbRefIdeal := hPleEmbRefIdeal)
    ∧ preserves_PleGate_PleGateIdeal
    ∧ algebraic_PleGateIdeal_PleGateRefIdeal (hPleGateIdeal := hPleGateIdeal) (hPleGateRefIdeal := hPleGateRefIdeal)
-- ==== Pre_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32

variable [Facts]

def fn_part1 {F : FTy → Type} [FloatOps F] (main_v15 : IVec S_ 1) (main_v17 : FVec F S4096x1024 .f32) : IVec S_ 1 :=
  let main_cst_4 : FVec F S_ .f32 := constant S_ .f32 0x7F800000#32
  let main_v18 : FVec F S4096x1024 .f32 := broadcastInDim S4096x1024 ![] bcast_S_S4096x1024 main_cst_4
  let main_v19 : IVec S4096x1024 1 := cmpf .olt main_v17 main_v18
  let main_c_5 : IVec S_ 1 := constantI S_ 1 1#1
  let main_v20 : IVec S_ 1 := (fun x v => Host.reduce IntOp.andi x v reducesTo_S4096x1024_S_d0_1 h_S_) main_v19 main_c_5
  let main_v21 : IVec S_ 1 := andi main_v15 main_v20
  main_v21

def fn {F : FTy → Type} [FloatOps F] (main_arg0 : FVec F S4096x1024 .f32) (main_arg1 : FVec F S4096x1024 .bf16) (main_arg2 : FVec F S4096x1024 .bf16) (main_arg3 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  let main_v16 : FVec F S4096x1024 .f32 := (extf .f32 · bitsLt_bf16_f32) main_arg3
  let main_v17 : FVec F S4096x1024 .f32 := Host.absf main_v16
  fn_part1 (F := F) main_v15 main_v17
-- ==== Pre_finite_scores.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32

variable [Facts]

def fn {F : FTy → Type} [FloatOps F] (main_arg0 : FVec F S4096x1024 .f32) (main_arg1 : FVec F S4096x1024 .bf16) (main_arg2 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  main_v9
-- ==== Kernel.lean ====
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S8x1x4096 : Shape := ⟨3, ![8, 1, 4096]⟩
abbrev S4096x128 : Shape := ⟨2, ![4096, 128]⟩
abbrev S512x128 : Shape := ⟨2, ![512, 128]⟩
abbrev S1x1x4096 : Shape := ⟨3, ![1, 1, 4096]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 55
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x8x128, .f32⟩
  | .hbm, ⟨5, _⟩ => ⟨S4096x1024, .f32⟩
  | .hbm, ⟨6, _⟩ => ⟨S4096x8x128, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S4096, .i32⟩
  | .hbm, ⟨12, _⟩ => ⟨S1x4096, .i32⟩
  | .hbm, ⟨13, _⟩ => ⟨S4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S8x4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S4096x1024, .f32⟩
  | .hbm, ⟨35, _⟩ => ⟨S4096x8x128, .f32⟩
  | .hbm, ⟨36, _⟩ => ⟨S8x128x4096, .f32⟩
  | .hbm, ⟨37, _⟩ => ⟨S4096x8x128, .f32⟩
  | .hbm, ⟨38, _⟩ => ⟨S8x4096x1, .f32⟩
  | .hbm, ⟨39, _⟩ => ⟨S8x4096x1, .f32⟩
  | .hbm, ⟨40, _⟩ => ⟨S4096x1024, .f32⟩
  | .hbm, ⟨41, _⟩ => ⟨S4096x8x128, .f32⟩
  | .hbm, ⟨42, _⟩ => ⟨S4096x8x128, .f32⟩
  | .hbm, ⟨43, _⟩ => ⟨S_, .f32⟩
  | .hbm, ⟨44, _⟩ => ⟨S4096x8, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S8x1x4096, .f32⟩
  | .hbm, ⟨50, _⟩ => ⟨S8x4096, .f32⟩
  | .hbm, ⟨51, _⟩ => ⟨S8x1x4096, .f32⟩
  | .hbm, ⟨52, _⟩ => ⟨S4096x1024, .f32⟩
  | .hbm, ⟨53, _⟩ => ⟨S4096x1024, .f32⟩
  | .hbm, ⟨54, _⟩ => ⟨S4096x1024, .f32⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S4096x128, .f32⟩
  | .local _ .vmem, ⟨13, _⟩ => ⟨S4096x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev main_v39_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off1 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0_4 : Index := 0#32
  ![v8.toNat, 0]
def k0_off2 (i : grid0.Coords) : Fin 3 → Nat :=
  let c0_7 : Index := 0#32
  let c0_8 : Index := 0#32
  let arg1 : BitVec 32 := BitVec.ofNat 32 (i 1).val
  let c512_i32 : BitVec 32 := 512#32
  let v6 : BitVec 32 := Scalar.muli arg1 c512_i32
  let v7 : BitVec 32 := v6
  let v14 : Index := Scalar.indexCast v7
  ![0, 0, v14.toNat]
@[reducible] def k0_t1_loop (i : grid0.Coords) : Scf.Loop 32 :=
  let arg1 : BitVec 32 := BitVec.ofNat 32 (i 1).val
  let c1_i32 : BitVec 32 := 1#32
  let v45 : BitVec 32 := Scalar.addi arg1 c1_i32
  let c8_i32 : BitVec 32 := 8#32
  let v46 : BitVec 32 := Scalar.subi c8_i32 v45
  let c1_i32_18 : BitVec 32 := 1#32
  let v48 : BitVec 32 := Scalar.divsi v46 c1_i32_18
  let v49 : BitVec 32 := Scalar.muli v48 c1_i32_18
  let v50 : BitVec 32 := Scalar.addi v45 v49
  let c1_i32_19 : BitVec 32 := 1#32
  ⟨v45, v50, c1_i32_19⟩
def k0_mult2 (i : grid0.Coords) (k0_t1 : Fin (k0_t1_loop i).trips) : BitVec 32 :=
  let arg1 : BitVec 32 := BitVec.ofNat 32 (i 1).val
  let c1_i32 : BitVec 32 := 1#32
  let v45 : BitVec 32 := Scalar.addi arg1 c1_i32
  let c1_i32_19 : BitVec 32 := 1#32
  let arg11 : BitVec 32 := Scf.iv v45 c1_i32_19 k0_t1
  let c512_i32_26 : BitVec 32 := 512#32
  let v58 : BitVec 32 := Scalar.muli arg11 c512_i32_26
  v58
def k0_off3 (i : grid0.Coords) (k0_t1 : Fin (k0_t1_loop i).trips) : Fin 2 → Nat :=
  let arg1 : BitVec 32 := BitVec.ofNat 32 (i 1).val
  let c1_i32 : BitVec 32 := 1#32
  let v45 : BitVec 32 := Scalar.addi arg1 c1_i32
  let c1_i32_19 : BitVec 32 := 1#32
  let arg11 : BitVec 32 := Scf.iv v45 c1_i32_19 k0_t1
  let c512_i32_26 : BitVec 32 := 512#32
  let v58 : BitVec 32 := Scalar.muli arg11 c512_i32_26
  let v59 : BitVec 32 := v58
  let v60 : Index := Scalar.indexCast v59
  let c0_27 : Index := 0#32
  ![v60.toNat, 0]
def k0_off4 (i : grid0.Coords) (k0_t1 : Fin (k0_t1_loop i).trips) : Fin 3 → Nat :=
  let c0_30 : Index := 0#32
  let c0_31 : Index := 0#32
  let arg1 : BitVec 32 := BitVec.ofNat 32 (i 1).val
  let c1_i32 : BitVec 32 := 1#32
  let v45 : BitVec 32 := Scalar.addi arg1 c1_i32
  let c1_i32_19 : BitVec 32 := 1#32
  let arg11 : BitVec 32 := Scf.iv v45 c1_i32_19 k0_t1
  let c512_i32_26 : BitVec 32 := 512#32
  let v58 : BitVec 32 := Scalar.muli arg11 c512_i32_26
  let v59 : BitVec 32 := v58
  let v66 : Index := Scalar.indexCast v59
  ![0, 0, v66.toNat]
@[reducible] def k0_t2_loop (i : grid0.Coords) : Scf.Loop 32 :=
  let arg1 : BitVec 32 := BitVec.ofNat 32 (i 1).val
  let c1_i32 : BitVec 32 := 1#32
  let v45 : BitVec 32 := Scalar.addi arg1 c1_i32
  let c8_i32 : BitVec 32 := 8#32
  let v46 : BitVec 32 := Scalar.subi c8_i32 v45
  let c1_i32_18 : BitVec 32 := 1#32
  let v48 : BitVec 32 := Scalar.divsi v46 c1_i32_18
  let v49 : BitVec 32 := Scalar.muli v48 c1_i32_18
  let v50 : BitVec 32 := Scalar.addi v45 v49
  let v47 : BitVec 32 := Scalar.addi v45 v46
  let c1_i32_20 : BitVec 32 := 1#32
  ⟨v50, v47, c1_i32_20⟩
def k0_mult3 (i : grid0.Coords) (k0_t2 : Fin (k0_t2_loop i).trips) : BitVec 32 :=
  let arg1 : BitVec 32 := BitVec.ofNat 32 (i 1).val
  let c1_i32 : BitVec 32 := 1#32
  let v45 : BitVec 32 := Scalar.addi arg1 c1_i32
  let c8_i32 : BitVec 32 := 8#32
  let v46 : BitVec 32 := Scalar.subi c8_i32 v45
  let c1_i32_18 : BitVec 32 := 1#32
  let v48 : BitVec 32 := Scalar.divsi v46 c1_i32_18
  let v49 : BitVec 32 := Scalar.muli v48 c1_i32_18
  let v50 : BitVec 32 := Scalar.addi v45 v49
  let c1_i32_20 : BitVec 32 := 1#32
  let arg11 : BitVec 32 := Scf.iv v50 c1_i32_20 k0_t2
  let c512_i32_26 : BitVec 32 := 512#32
  let v58 : BitVec 32 := Scalar.muli arg11 c512_i32_26
  v58
def k0_off5 (i : grid0.Coords) (k0_t2 : Fin (k0_t2_loop i).trips) : Fin 2 → Nat :=
  let arg1 : BitVec 32 := BitVec.ofNat 32 (i 1).val
  let c1_i32 : BitVec 32 := 1#32
  let v45 : BitVec 32 := Scalar.addi arg1 c1_i32
  let c8_i32 : BitVec 32 := 8#32
  let v46 : BitVec 32 := Scalar.subi c8_i32 v45
  let c1_i32_18 : BitVec 32 := 1#32
  let v48 : BitVec 32 := Scalar.divsi v46 c1_i32_18
  let v49 : BitVec 32 := Scalar.muli v48 c1_i32_18
  let v50 : BitVec 32 := Scalar.addi v45 v49
  let c1_i32_20 : BitVec 32 := 1#32
  let arg11 : BitVec 32 := Scf.iv v50 c1_i32_20 k0_t2
  let c512_i32_26 : BitVec 32 := 512#32
  let v58 : BitVec 32 := Scalar.muli arg11 c512_i32_26
  let v59 : BitVec 32 := v58
  let v60 : Index := Scalar.indexCast v59
  let c0_27 : Index := 0#32
  ![v60.toNat, 0]
def k0_off6 (i : grid0.Coords) (k0_t2 : Fin (k0_t2_loop i).trips) : Fin 3 → Nat :=
  let c0_30 : Index := 0#32
  let c0_31 : Index := 0#32
  let arg1 : BitVec 32 := BitVec.ofNat 32 (i 1).val
  let c1_i32 : BitVec 32 := 1#32
  let v45 : BitVec 32 := Scalar.addi arg1 c1_i32
  let c8_i32 : BitVec 32 := 8#32
  let v46 : BitVec 32 := Scalar.subi c8_i32 v45
  let c1_i32_18 : BitVec 32 := 1#32
  let v48 : BitVec 32 := Scalar.divsi v46 c1_i32_18
  let v49 : BitVec 32 := Scalar.muli v48 c1_i32_18
  let v50 : BitVec 32 := Scalar.addi v45 v49
  let c1_i32_20 : BitVec 32 := 1#32
  let arg11 : BitVec 32 := Scf.iv v50 c1_i32_20 k0_t2
  let c512_i32_26 : BitVec 32 := 512#32
  let v58 : BitVec 32 := Scalar.muli arg11 c512_i32_26
  let v59 : BitVec 32 := v58
  let v66 : Index := Scalar.indexCast v59
  ![0, 0, v66.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S4096x8x128, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .i1⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S8x4096, .i1⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S4096x8x128, .f32⟩
  | .hbm, ⟨65, _⟩ => ⟨S8x128x4096, .f32⟩
  | .hbm, ⟨66, _⟩ => ⟨S4096x8x128, .f32⟩
  | .hbm, ⟨67, _⟩ => ⟨S4096x1024, .f32⟩
  | .hbm, ⟨68, _⟩ => ⟨S4096x1024, .f32⟩
  | .hbm, ⟨69, _⟩ => ⟨S4096x8x128, .f32⟩
  | .hbm, ⟨70, _⟩ => ⟨S8x128x4096, .f32⟩
  | .hbm, ⟨71, _⟩ => ⟨S8x4096x4096, .f32⟩
  | .hbm, ⟨72, _⟩ => ⟨S8x128x4096, .f32⟩
  | .hbm, ⟨73, _⟩ => ⟨S4096x8x128, .f32⟩
  | .hbm, ⟨74, _⟩ => ⟨S4096x1024, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S8x4096x1, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096x4096, .f32⟩
  | .hbm, ⟨94, _⟩ => ⟨S8x4096x4096, .f32⟩
  | .hbm, ⟨95, _⟩ => ⟨S8x4096x128, .f32⟩
  | .hbm, ⟨96, _⟩ => ⟨S4096x8x128, .f32⟩
  | .hbm, ⟨97, _⟩ => ⟨S8x4096x128, .f32⟩
  | .hbm, ⟨98, _⟩ => ⟨S4096x8x128, .f32⟩
  | .hbm, ⟨99, _⟩ => ⟨S4096x1024, .f32⟩
  | .hbm, ⟨100, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_v14_1 : Ref sig .tc := ⟨.hbm, 21, rfl⟩
abbrev main_call0_v2 : Ref sig .tc := ⟨.hbm, 22, rfl⟩
abbrev main_v14_0 : Ref sig .tc := ⟨.hbm, 23, rfl⟩
abbrev main_call0_cst : Ref sig .tc := ⟨.hbm, 24, rfl⟩
abbrev main_v14_2 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call1_cst : Ref sig .tc := ⟨.hbm, 89, rfl⟩
abbrev main_call1_v0 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== DWff2.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWff2RefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== DAff.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DAffRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== DWff1.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWff1RefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DH2.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH2RefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWout.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWoutRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DMerged.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DWpleGate.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWpleGateRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DH3.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH3RefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWple.lean ====
abbrev S4096x256 : Shape := ⟨2, ![4096, 256]⟩
abbrev S256x1024 : Shape := ⟨2, ![256, 1024]⟩
abbrev S4096x1024 : Shape := ⟨2, ![4096, 1024]⟩
abbrev S2048x256 : Shape := ⟨2, ![2048, 256]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .bf16⟩
  | .hbm, ⟨3, _⟩ => ⟨S256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWpleRefIdeal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1024x256, .f32⟩
  | .hbm, ⟨6, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DWbranch.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWbranchRefIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWbranch3.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .bf16⟩
  | .hbm, ⟨3, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWbranch3RefIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1024x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DWbranch0.lean ====
abbrev S4096x512 : Shape := ⟨2, ![4096, 512]⟩
abbrev S512x1024 : Shape := ⟨2, ![512, 1024]⟩
abbrev S4096x1024 : Shape := ⟨2, ![4096, 1024]⟩
abbrev S4096x8x64 : Shape := ⟨3, ![4096, 8, 64]⟩
abbrev S_ : Shape := ⟨0, ![]⟩
abbrev S4096x8x128 : Shape := ⟨3, ![4096, 8, 128]⟩
abbrev S1024x1024 : Shape := ⟨2, ![1024, 1024]⟩
abbrev S2048x1024 : Shape := ⟨2, ![2048, 1024]⟩
abbrev S8x128x1024 : Shape := ⟨3, ![8, 128, 1024]⟩
abbrev S8x64x1024 : Shape := ⟨3, ![8, 64, 1024]⟩

abbrev nBuf : Space → Nat
  | .hbm => 12
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S4096x8x64, .bf16⟩
  | .hbm, ⟨4, _⟩ => ⟨S_, .i32⟩
  | .hbm, ⟨5, _⟩ => ⟨S_, .bf16⟩
  | .hbm, ⟨6, _⟩ => ⟨S4096x8x128, .bf16⟩
  | .hbm, ⟨7, _⟩ => ⟨S4096x1024, .bf16⟩
  | .hbm, ⟨8, _⟩ => ⟨S1024x1024, .f32⟩
  | .hbm, ⟨9, _⟩ => ⟨S8x128x1024, .f32⟩
  | .hbm, ⟨10, _⟩ => ⟨S8x64x1024, .f32⟩
  | .hbm, ⟨11, _⟩ => ⟨S512x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWbranch0RefIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DYa.lean ====
abbrev S4096x512 : Shape := ⟨2, ![4096, 512]⟩
abbrev S512x1024 : Shape := ⟨2, ![512, 1024]⟩
abbrev S4096x1024 : Shape := ⟨2, ![4096, 1024]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩
abbrev S4096x8x128 : Shape := ⟨3, ![4096, 8, 128]⟩
abbrev S4096x8x64 : Shape := ⟨3, ![4096, 8, 64]⟩

abbrev nBuf : Space → Nat
  | .hbm => 12
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S8x64x1024, .f32⟩
  | .hbm, ⟨4, _⟩ => ⟨S_, .i32⟩
  | .hbm, ⟨5, _⟩ => ⟨S_, .f32⟩
  | .hbm, ⟨6, _⟩ => ⟨S8x128x1024, .f32⟩
  | .hbm, ⟨7, _⟩ => ⟨S1024x1024, .f32⟩
  | .hbm, ⟨8, _⟩ => ⟨S4096x1024, .bf16⟩
  | .hbm, ⟨9, _⟩ => ⟨S4096x8x128, .bf16⟩
  | .hbm, ⟨10, _⟩ => ⟨S4096x8x64, .bf16⟩
  | .hbm, ⟨11, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYaRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DYc.lean ====
abbrev S4096x512 : Shape := ⟨2, ![4096, 512]⟩
abbrev S512x1024 : Shape := ⟨2, ![512, 1024]⟩
abbrev S4096x1024 : Shape := ⟨2, ![4096, 1024]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩
abbrev S4096x8x128 : Shape := ⟨3, ![4096, 8, 128]⟩
abbrev S4096x8x64 : Shape := ⟨3, ![4096, 8, 64]⟩

abbrev nBuf : Space → Nat
  | .hbm => 12
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .bf16⟩
  | .hbm, ⟨3, _⟩ => ⟨S8x64x1024, .f32⟩
  | .hbm, ⟨4, _⟩ => ⟨S_, .i32⟩
  | .hbm, ⟨5, _⟩ => ⟨S_, .f32⟩
  | .hbm, ⟨6, _⟩ => ⟨S8x128x1024, .f32⟩
  | .hbm, ⟨7, _⟩ => ⟨S1024x1024, .f32⟩
  | .hbm, ⟨8, _⟩ => ⟨S4096x1024, .f32⟩
  | .hbm, ⟨9, _⟩ => ⟨S4096x8x128, .f32⟩
  | .hbm, ⟨10, _⟩ => ⟨S4096x8x64, .f32⟩
  | .hbm, ⟨11, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYcRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DYb.lean ====
abbrev S4096x512 : Shape := ⟨2, ![4096, 512]⟩
abbrev S512x1024 : Shape := ⟨2, ![512, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .bf16⟩
  | .hbm, ⟨3, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYbRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DWin.lean ====
abbrev S4096x1024 : Shape := ⟨2, ![4096, 1024]⟩
abbrev S1024x7592 : Shape := ⟨2, ![1024, 7592]⟩
abbrev S4096x7592 : Shape := ⟨2, ![4096, 7592]⟩
abbrev S4096x768 : Shape := ⟨2, ![4096, 768]⟩
abbrev S4096x512 : Shape := ⟨2, ![4096, 512]⟩
abbrev S4096x8x64 : Shape := ⟨3, ![4096, 8, 64]⟩
abbrev S_ : Shape := ⟨0, ![]⟩
abbrev S4096x8x128 : Shape := ⟨3, ![4096, 8, 128]⟩
abbrev S4096x128 : Shape := ⟨2, ![4096, 128]⟩
abbrev S4096x2x64 : Shape := ⟨3, ![4096, 2, 64]⟩
abbrev S4096x2x128 : Shape := ⟨3, ![4096, 2, 128]⟩
abbrev S4096x256 : Shape := ⟨2, ![4096, 256]⟩
abbrev S4096x1536 : Shape := ⟨2, ![4096, 1536]⟩
abbrev S4096x384 : Shape := ⟨2, ![4096, 384]⟩
abbrev S4096x32 : Shape := ⟨2, ![4096, 32]⟩
abbrev S4096x1x32 : Shape := ⟨3, ![4096, 1, 32]⟩
abbrev S4096x1x128 : Shape := ⟨3, ![4096, 1, 128]⟩
abbrev S4096x8 : Shape := ⟨2, ![4096, 8]⟩
abbrev S4096x1x8 : Shape := ⟨3, ![4096, 1, 8]⟩
abbrev S4096x4096 : Shape := ⟨2, ![4096, 4096]⟩
abbrev S4096x9728 : Shape := ⟨2, ![4096, 9728]⟩
abbrev S1024x9728 : Shape := ⟨2, ![1024, 9728]⟩
abbrev S2048x1024 : Shape := ⟨2, ![2048, 1024]⟩
abbrev S2048x512 : Shape := ⟨2, ![2048, 512]⟩
abbrev S1024x512 : Shape := ⟨2, ![1024, 512]⟩
abbrev S1024x4096 : Shape := ⟨2, ![1024, 4096]⟩
abbrev S1024x1024 : Shape := ⟨2, ![1024, 1024]⟩
abbrev S1024x384 : Shape := ⟨2, ![1024, 384]⟩
abbrev S1024x256 : Shape := ⟨2, ![1024, 256]⟩
abbrev S1024x1536 : Shape := ⟨2, ![1024, 1536]⟩
abbrev S1024x128 : Shape := ⟨2, ![1024, 128]⟩
abbrev S1024x8x128 : Shape := ⟨3, ![1024, 8, 128]⟩
abbrev S1024x8x64 : Shape := ⟨3, ![1024, 8, 64]⟩
abbrev S1024x2x128 : Shape := ⟨3, ![1024, 2, 128]⟩
abbrev S1024x2x64 : Shape := ⟨3, ![1024, 2, 64]⟩
abbrev S1024x768 : Shape := ⟨2, ![1024, 768]⟩
abbrev S1024x1x128 : Shape := ⟨3, ![1024, 1, 128]⟩
abbrev S1024x1x32 : Shape := ⟨3, ![1024, 1, 32]⟩
abbrev S1024x32 : Shape := ⟨2, ![1024, 32]⟩
abbrev S1024x1x8 : Shape := ⟨3, ![1024, 1, 8]⟩
abbrev S1024x8 : Shape := ⟨2, ![1024, 8]⟩

abbrev nBuf : Space → Nat
  | .hbm => 88
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x7592, .f32⟩
  | .hbm, ⟨2, _⟩ => ⟨S4096x7592, .bf16⟩
  | .hbm, ⟨3, _⟩ => ⟨S4096x768, .bf16⟩
  | .hbm, ⟨4, _⟩ => ⟨S4096x512, .bf16⟩
  | .hbm, ⟨5, _⟩ => ⟨S4096x8x64, .bf16⟩
  | .hbm, ⟨6, _⟩ => ⟨S_, .i32⟩
  | .hbm, ⟨7, _⟩ => ⟨S_, .bf16⟩
  | .hbm, ⟨8, _⟩ => ⟨S4096x8x128, .bf16⟩
  | .hbm, ⟨9, _⟩ => ⟨S4096x1024, .bf16⟩
  | .hbm, ⟨10, _⟩ => ⟨S4096x128, .bf16⟩
  | .hbm, ⟨11, _⟩ => ⟨S4096x2x64, .bf16⟩
  | .hbm, ⟨12, _⟩ => ⟨S_, .i32⟩
  | .hbm, ⟨13, _⟩ => ⟨S_, .bf16⟩
  | .hbm, ⟨14, _⟩ => ⟨S4096x2x128, .bf16⟩
  | .hbm, ⟨15, _⟩ => ⟨S4096x256, .bf16⟩
  | .hbm, ⟨16, _⟩ => ⟨S4096x128, .bf16⟩
  | .hbm, ⟨17, _⟩ => ⟨S4096x2x64, .bf16⟩
  | .hbm, ⟨18, _⟩ => ⟨S_, .i32⟩
  | .hbm, ⟨19, _⟩ => ⟨S_, .bf16⟩
  | .hbm, ⟨20, _⟩ => ⟨S4096x2x128, .bf16⟩
  | .hbm, ⟨21, _⟩ => ⟨S4096x256, .bf16⟩
  | .hbm, ⟨22, _⟩ => ⟨S4096x1536, .bf16⟩
  | .hbm, ⟨23, _⟩ => ⟨S4096x384, .bf16⟩
  | .hbm, ⟨24, _⟩ => ⟨S4096x256, .bf16⟩
  | .hbm, ⟨25, _⟩ => ⟨S4096x32, .bf16⟩
  | .hbm, ⟨26, _⟩ => ⟨S4096x1x32, .bf16⟩
  | .hbm, ⟨27, _⟩ => ⟨S_, .i32⟩
  | .hbm, ⟨28, _⟩ => ⟨S_, .bf16⟩
  | .hbm, ⟨29, _⟩ => ⟨S4096x1x128, .bf16⟩
  | .hbm, ⟨30, _⟩ => ⟨S4096x128, .bf16⟩
  | .hbm, ⟨31, _⟩ => ⟨S4096x512, .bf16⟩
  | .hbm, ⟨32, _⟩ => ⟨S4096x512, .bf16⟩
  | .hbm, ⟨33, _⟩ => ⟨S4096x8x64, .bf16⟩
  | .hbm, ⟨34, _⟩ => ⟨S_, .i32⟩
  | .hbm, ⟨35, _⟩ => ⟨S_, .bf16⟩
  | .hbm, ⟨36, _⟩ => ⟨S4096x8x128, .bf16⟩
  | .hbm, ⟨37, _⟩ => ⟨S4096x1024, .bf16⟩
  | .hbm, ⟨38, _⟩ => ⟨S4096x8, .bf16⟩
  | .hbm, ⟨39, _⟩ => ⟨S4096x1x8, .bf16⟩
  | .hbm, ⟨40, _⟩ => ⟨S_, .i32⟩
  | .hbm, ⟨41, _⟩ => ⟨S_, .bf16⟩
  | .hbm, ⟨42, _⟩ => ⟨S4096x1x128, .bf16⟩
  | .hbm, ⟨43, _⟩ => ⟨S4096x128, .bf16⟩
  | .hbm, ⟨44, _⟩ => ⟨S4096x512, .bf16⟩
  | .hbm, ⟨45, _⟩ => ⟨S4096x512, .bf16⟩
  | .hbm, ⟨46, _⟩ => ⟨S4096x4096, .bf16⟩
  | .hbm, ⟨47, _⟩ => ⟨S_, .bf16⟩
  | .hbm, ⟨48, _⟩ => ⟨S4096x256, .bf16⟩
  | .hbm, ⟨49, _⟩ => ⟨S_, .bf16⟩
  | .hbm, ⟨50, _⟩ => ⟨S4096x128, .bf16⟩
  | .hbm, ⟨51, _⟩ => ⟨S_, .bf16⟩
  | .hbm, ⟨52, _⟩ => ⟨S4096x256, .bf16⟩
  | .hbm, ⟨53, _⟩ => ⟨S4096x9728, .bf16⟩
  | .hbm, ⟨54, _⟩ => ⟨S1024x9728, .f32⟩
  | .hbm, ⟨55, _⟩ => ⟨S1024x4096, .f32⟩
  | .hbm, ⟨56, _⟩ => ⟨S1024x1024, .f32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S1024x384, .f32⟩
  | .hbm, ⟨61, _⟩ => ⟨S1024x256, .f32⟩
  | .hbm, ⟨62, _⟩ => ⟨S1024x1536, .f32⟩
  | .hbm, ⟨63, _⟩ => ⟨S1024x128, .f32⟩
  | .hbm, ⟨64, _⟩ => ⟨S1024x128, .f32⟩
  | .hbm, ⟨65, _⟩ => ⟨S1024x1024, .f32⟩
  | .hbm, ⟨66, _⟩ => ⟨S1024x8x128, .f32⟩
  | .hbm, ⟨67, _⟩ => ⟨S1024x8x64, .f32⟩
  | .hbm, ⟨68, _⟩ => ⟨S1024x512, .f32⟩
  | .hbm, ⟨69, _⟩ => ⟨S1024x256, .f32⟩
  | .hbm, ⟨70, _⟩ => ⟨S1024x2x128, .f32⟩
  | .hbm, ⟨71, _⟩ => ⟨S1024x2x64, .f32⟩
  | .hbm, ⟨72, _⟩ => ⟨S1024x128, .f32⟩
  | .hbm, ⟨73, _⟩ => ⟨S1024x256, .f32⟩
  | .hbm, ⟨74, _⟩ => ⟨S1024x2x128, .f32⟩
  | .hbm, ⟨75, _⟩ => ⟨S1024x2x64, .f32⟩
  | .hbm, ⟨76, _⟩ => ⟨S1024x128, .f32⟩
  | .hbm, ⟨77, _⟩ => ⟨S1024x768, .f32⟩
  | .hbm, ⟨78, _⟩ => ⟨S1024x1x128, .f32⟩
  | .hbm, ⟨79, _⟩ => ⟨S1024x1x32, .f32⟩
  | .hbm, ⟨80, _⟩ => ⟨S1024x32, .f32⟩
  | .hbm, ⟨81, _⟩ => ⟨S1024x8x128, .f32⟩
  | .hbm, ⟨82, _⟩ => ⟨S1024x8x64, .f32⟩
  | .hbm, ⟨83, _⟩ => ⟨S1024x512, .f32⟩
  | .hbm, ⟨84, _⟩ => ⟨S1024x1x128, .f32⟩
  | .hbm, ⟨85, _⟩ => ⟨S1024x1x8, .f32⟩
  | .hbm, ⟨86, _⟩ => ⟨S1024x8, .f32⟩
  | .hbm, ⟨87, _⟩ => ⟨S1024x7592, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_call3_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_call4_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_call5_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 19, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWinRefIdeal.lean ====
abbrev S4096x1024 : Shape := ⟨2, ![4096, 1024]⟩
abbrev S1024x7592 : Shape := ⟨2, ![1024, 7592]⟩
abbrev S4096x7592 : Shape := ⟨2, ![4096, 7592]⟩
abbrev S7592x1024 : Shape := ⟨2, ![7592, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7592, .f32⟩
  | .hbm, ⟨2, _⟩ => ⟨S4096x7592, .bf16⟩
  | .hbm, ⟨3, _⟩ => ⟨S4096x1024, .f32⟩
  | .hbm, ⟨4, _⟩ => ⟨S4096x7592, .f32⟩
  | .hbm, ⟨5, _⟩ => ⟨S4096x7592, .f32⟩
  | .hbm, ⟨6, _⟩ => ⟨S7592x1024, .f32⟩
  | .hbm, ⟨7, _⟩ => ⟨S1024x7592, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DH.lean ====
abbrev S4096x1024 : Shape := ⟨2, ![4096, 1024]⟩
abbrev S1024x7592 : Shape := ⟨2, ![1024, 7592]⟩
abbrev S4096x7592 : Shape := ⟨2, ![4096, 7592]⟩
abbrev S4096x768 : Shape := ⟨2, ![4096, 768]⟩
abbrev S4096x512 : Shape := ⟨2, ![4096, 512]⟩
abbrev S4096x8x64 : Shape := ⟨3, ![4096, 8, 64]⟩
abbrev S_ : Shape := ⟨0, ![]⟩
abbrev S4096x8x128 : Shape := ⟨3, ![4096, 8, 128]⟩
abbrev S4096x128 : Shape := ⟨2, ![4096, 128]⟩
abbrev S4096x2x64 : Shape := ⟨3, ![4096, 2, 64]⟩
abbrev S4096x2x128 : Shape := ⟨3, ![4096, 2, 128]⟩
abbrev S4096x256 : Shape := ⟨2, ![4096, 256]⟩
abbrev S4096x1536 : Shape := ⟨2, ![4096, 1536]⟩
abbrev S4096x384 : Shape := ⟨2, ![4096, 384]⟩
abbrev S4096x32 : Shape := ⟨2, ![4096, 32]⟩
abbrev S4096x1x32 : Shape := ⟨3, ![4096, 1, 32]⟩
abbrev S4096x1x128 : Shape := ⟨3, ![4096, 1, 128]⟩
abbrev S4096x8 : Shape := ⟨2, ![4096, 8]⟩
abbrev S4096x1x8 : Shape := ⟨3, ![4096, 1, 8]⟩
abbrev S4096x4096 : Shape := ⟨2, ![4096, 4096]⟩
abbrev S4096x9728 : Shape := ⟨2, ![4096, 9728]⟩
abbrev S1024x768 : Shape := ⟨2, ![1024, 768]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S1024x128 : Shape := ⟨2, ![1024, 128]⟩
abbrev S1024x2x64 : Shape := ⟨3, ![1024, 2, 64]⟩
abbrev S1024x2x128 : Shape := ⟨3, ![1024, 2, 128]⟩
abbrev S1024x256 : Shape := ⟨2, ![1024, 256]⟩
abbrev S1024x1536 : Shape := ⟨2, ![1024, 1536]⟩
abbrev S1024x384 : Shape := ⟨2, ![1024, 384]⟩
abbrev S1024x32 : Shape := ⟨2, ![1024, 32]⟩
abbrev S1024x1x32 : Shape := ⟨3, ![1024, 1, 32]⟩
abbrev S1024x1x128 : Shape := ⟨3, ![1024, 1, 128]⟩
abbrev S1024x8 : Shape := ⟨2, ![1024, 8]⟩
abbrev S1024x1x8 : Shape := ⟨3, ![1024, 1, 8]⟩
abbrev S1024x4096 : Shape := ⟨2, ![1024, 4096]⟩
abbrev S1024x9728 : Shape := ⟨2, ![1024, 9728]⟩

abbrev nBuf : Space → Nat
  | .hbm => 106
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x7592, .f32⟩
  | .hbm, ⟨2, _⟩ => ⟨S4096x7592, .bf16⟩
  | .hbm, ⟨3, _⟩ => ⟨S4096x768, .bf16⟩
  | .hbm, ⟨4, _⟩ => ⟨S4096x512, .bf16⟩
  | .hbm, ⟨5, _⟩ => ⟨S4096x8x64, .bf16⟩
  | .hbm, ⟨6, _⟩ => ⟨S_, .i32⟩
  | .hbm, ⟨7, _⟩ => ⟨S_, .bf16⟩
  | .hbm, ⟨8, _⟩ => ⟨S4096x8x128, .bf16⟩
  | .hbm, ⟨9, _⟩ => ⟨S4096x1024, .bf16⟩
  | .hbm, ⟨10, _⟩ => ⟨S4096x128, .bf16⟩
  | .hbm, ⟨11, _⟩ => ⟨S4096x2x64, .bf16⟩
  | .hbm, ⟨12, _⟩ => ⟨S_, .i32⟩
  | .hbm, ⟨13, _⟩ => ⟨S_, .bf16⟩
  | .hbm, ⟨14, _⟩ => ⟨S4096x2x128, .bf16⟩
  | .hbm, ⟨15, _⟩ => ⟨S4096x256, .bf16⟩
  | .hbm, ⟨16, _⟩ => ⟨S4096x128, .bf16⟩
  | .hbm, ⟨17, _⟩ => ⟨S4096x2x64, .bf16⟩
  | .hbm, ⟨18, _⟩ => ⟨S_, .i32⟩
  | .hbm, ⟨19, _⟩ => ⟨S_, .bf16⟩
  | .hbm, ⟨20, _⟩ => ⟨S4096x2x128, .bf16⟩
  | .hbm, ⟨21, _⟩ => ⟨S4096x256, .bf16⟩
  | .hbm, ⟨22, _⟩ => ⟨S4096x1536, .bf16⟩
  | .hbm, ⟨23, _⟩ => ⟨S4096x384, .bf16⟩
  | .hbm, ⟨24, _⟩ => ⟨S4096x256, .bf16⟩
  | .hbm, ⟨25, _⟩ => ⟨S4096x32, .bf16⟩
  | .hbm, ⟨26, _⟩ => ⟨S4096x1x32, .bf16⟩
  | .hbm, ⟨27, _⟩ => ⟨S_, .i32⟩
  | .hbm, ⟨28, _⟩ => ⟨S_, .bf16⟩
  | .hbm, ⟨29, _⟩ => ⟨S4096x1x128, .bf16⟩
  | .hbm, ⟨30, _⟩ => ⟨S4096x128, .bf16⟩
  | .hbm, ⟨31, _⟩ => ⟨S4096x512, .bf16⟩
  | .hbm, ⟨32, _⟩ => ⟨S4096x512, .bf16⟩
  | .hbm, ⟨33, _⟩ => ⟨S4096x8x64, .bf16⟩
  | .hbm, ⟨34, _⟩ => ⟨S_, .i32⟩
  | .hbm, ⟨35, _⟩ => ⟨S_, .bf16⟩
  | .hbm, ⟨36, _⟩ => ⟨S4096x8x128, .bf16⟩
  | .hbm, ⟨37, _⟩ => ⟨S4096x1024, .bf16⟩
  | .hbm, ⟨38, _⟩ => ⟨S4096x8, .bf16⟩
  | .hbm, ⟨39, _⟩ => ⟨S4096x1x8, .bf16⟩
  | .hbm, ⟨40, _⟩ => ⟨S_, .i32⟩
  | .hbm, ⟨41, _⟩ => ⟨S_, .bf16⟩
  | .hbm, ⟨42, _⟩ => ⟨S4096x1x128, .bf16⟩
  | .hbm, ⟨43, _⟩ => ⟨S4096x128, .bf16⟩
  | .hbm, ⟨44, _⟩ => ⟨S4096x512, .bf16⟩
  | .hbm, ⟨45, _⟩ => ⟨S4096x512, .bf16⟩
  | .hbm, ⟨46, _⟩ => ⟨S4096x4096, .bf16⟩
  | .hbm, ⟨47, _⟩ => ⟨S_, .bf16⟩
  | .hbm, ⟨48, _⟩ => ⟨S4096x256, .bf16⟩
  | .hbm, ⟨49, _⟩ => ⟨S_, .bf16⟩
  | .hbm, ⟨50, _⟩ => ⟨S4096x128, .bf16⟩
  | .hbm, ⟨51, _⟩ => ⟨S_, .bf16⟩
  | .hbm, ⟨52, _⟩ => ⟨S4096x256, .bf16⟩
  | .hbm, ⟨53, _⟩ => ⟨S4096x9728, .bf16⟩
  | .hbm, ⟨54, _⟩ => ⟨S1024x768, .f32⟩
  | .hbm, ⟨55, _⟩ => ⟨S1024x512, .f32⟩
  | .hbm, ⟨56, _⟩ => ⟨S1024x8x64, .f32⟩
  | .hbm, ⟨57, _⟩ => ⟨S_, .i32⟩
  | .hbm, ⟨58, _⟩ => ⟨S_, .f32⟩
  | .hbm, ⟨59, _⟩ => ⟨S1024x8x128, .f32⟩
  | .hbm, ⟨60, _⟩ => ⟨S1024x1024, .f32⟩
  | .hbm, ⟨61, _⟩ => ⟨S1024x128, .f32⟩
  | .hbm, ⟨62, _⟩ => ⟨S1024x2x64, .f32⟩
  | .hbm, ⟨63, _⟩ => ⟨S_, .i32⟩
  | .hbm, ⟨64, _⟩ => ⟨S_, .f32⟩
  | .hbm, ⟨65, _⟩ => ⟨S1024x2x128, .f32⟩
  | .hbm, ⟨66, _⟩ => ⟨S1024x256, .f32⟩
  | .hbm, ⟨67, _⟩ => ⟨S1024x128, .f32⟩
  | .hbm, ⟨68, _⟩ => ⟨S1024x2x64, .f32⟩
  | .hbm, ⟨69, _⟩ => ⟨S_, .i32⟩
  | .hbm, ⟨70, _⟩ => ⟨S_, .f32⟩
  | .hbm, ⟨71, _⟩ => ⟨S1024x2x128, .f32⟩
  | .hbm, ⟨72, _⟩ => ⟨S1024x256, .f32⟩
  | .hbm, ⟨73, _⟩ => ⟨S1024x1536, .f32⟩
  | .hbm, ⟨74, _⟩ => ⟨S1024x384, .f32⟩
  | .hbm, ⟨75, _⟩ => ⟨S1024x256, .f32⟩
  | .hbm, ⟨76, _⟩ => ⟨S1024x32, .f32⟩
  | .hbm, ⟨77, _⟩ => ⟨S1024x1x32, .f32⟩
  | .hbm, ⟨78, _⟩ => ⟨S_, .i32⟩
  | .hbm, ⟨79, _⟩ => ⟨S_, .f32⟩
  | .hbm, ⟨80, _⟩ => ⟨S1024x1x128, .f32⟩
  | .hbm, ⟨81, _⟩ => ⟨S1024x128, .f32⟩
  | .hbm, ⟨82, _⟩ => ⟨S1024x512, .f32⟩
  | .hbm, ⟨83, _⟩ => ⟨S1024x512, .f32⟩
  | .hbm, ⟨84, _⟩ => ⟨S1024x8x64, .f32⟩
  | .hbm, ⟨85, _⟩ => ⟨S_, .i32⟩
  | .hbm, ⟨86, _⟩ => ⟨S_, .f32⟩
  | .hbm, ⟨87, _⟩ => ⟨S1024x8x128, .f32⟩
  | .hbm, ⟨88, _⟩ => ⟨S1024x1024, .f32⟩
  | .hbm, ⟨89, _⟩ => ⟨S1024x8, .f32⟩
  | .hbm, ⟨90, _⟩ => ⟨S1024x1x8, .f32⟩
  | .hbm, ⟨91, _⟩ => ⟨S_, .i32⟩
  | .hbm, ⟨92, _⟩ => ⟨S_, .f32⟩
  | .hbm, ⟨93, _⟩ => ⟨S1024x1x128, .f32⟩
  | .hbm, ⟨94, _⟩ => ⟨S1024x128, .f32⟩
  | .hbm, ⟨95, _⟩ => ⟨S1024x512, .f32⟩
  | .hbm, ⟨96, _⟩ => ⟨S1024x512, .f32⟩
  | .hbm, ⟨97, _⟩ => ⟨S1024x4096, .f32⟩
  | .hbm, ⟨98, _⟩ => ⟨S_, .f32⟩
  | .hbm, ⟨99, _⟩ => ⟨S1024x256, .f32⟩
  | .hbm, ⟨100, _⟩ => ⟨S_, .f32⟩
  | .hbm, ⟨101, _⟩ => ⟨S1024x128, .f32⟩
  | .hbm, ⟨102, _⟩ => ⟨S_, .f32⟩
  | .hbm, ⟨103, _⟩ => ⟨S1024x256, .f32⟩
  | .hbm, ⟨104, _⟩ => ⟨S1024x9728, .f32⟩
  | .hbm, ⟨105, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_call3_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_call4_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_call5_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_call6_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_call7_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_call8_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_call9_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_call10_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_call11_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 19], ![false, false, false]⟩

def k0_cond2 (i : grid0.Coords) : BitVec 1 :=
  let arg2 : BitVec 32 := BitVec.ofNat 32 (i 2).val
  let c18_i32 : BitVec 32 := 18#32
  let v14 : BitVec 1 := Scalar.cmpi .eq arg2 c18_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S4096x1024 : Shape := ⟨2, ![4096, 1024]⟩
abbrev S1024x7592 : Shape := ⟨2, ![1024, 7592]⟩
abbrev S4096x7592 : Shape := ⟨2, ![4096, 7592]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7592, .f32⟩
  | .hbm, ⟨2, _⟩ => ⟨S4096x7592, .bf16⟩
  | .hbm, ⟨3, _⟩ => ⟨S4096x7592, .f32⟩
  | .hbm, ⟨4, _⟩ => ⟨S4096x7592, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InProj.lean ====
abbrev S4096x1024 : Shape := ⟨2, ![4096, 1024]⟩
abbrev S1024x7592 : Shape := ⟨2, ![1024, 7592]⟩
abbrev S1024x768 : Shape := ⟨2, ![1024, 768]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x128 : Shape := ⟨2, ![1024, 128]⟩
abbrev S1024x2x64 : Shape := ⟨3, ![1024, 2, 64]⟩
abbrev S1024x2x128 : Shape := ⟨3, ![1024, 2, 128]⟩
abbrev S1024x256 : Shape := ⟨2, ![1024, 256]⟩
abbrev S1024x1536 : Shape := ⟨2, ![1024, 1536]⟩
abbrev S1024x384 : Shape := ⟨2, ![1024, 384]⟩
abbrev S1024x32 : Shape := ⟨2, ![1024, 32]⟩
abbrev S1024x1x32 : Shape := ⟨3, ![1024, 1, 32]⟩
abbrev S1024x1x128 : Shape := ⟨3, ![1024, 1, 128]⟩
abbrev S1024x8 : Shape := ⟨2, ![1024, 8]⟩
abbrev S1024x1x8 : Shape := ⟨3, ![1024, 1, 8]⟩
abbrev S1024x4096 : Shape := ⟨2, ![1024, 4096]⟩
abbrev S1024x9728 : Shape := ⟨2, ![1024, 9728]⟩
abbrev S4096x9728 : Shape := ⟨2, ![4096, 9728]⟩
abbrev S4096x4096 : Shape := ⟨2, ![4096, 4096]⟩
abbrev S4096x512 : Shape := ⟨2, ![4096, 512]⟩
abbrev S4096x384 : Shape := ⟨2, ![4096, 384]⟩
abbrev S4096x256 : Shape := ⟨2, ![4096, 256]⟩
abbrev S4096x1536 : Shape := ⟨2, ![4096, 1536]⟩
abbrev S4096x128 : Shape := ⟨2, ![4096, 128]⟩
abbrev S4096x8x128 : Shape := ⟨3, ![4096, 8, 128]⟩
abbrev S4096x8x64 : Shape := ⟨3, ![4096, 8, 64]⟩
abbrev S4096x2x128 : Shape := ⟨3, ![4096, 2, 128]⟩
abbrev S4096x2x64 : Shape := ⟨3, ![4096, 2, 64]⟩
abbrev S4096x768 : Shape := ⟨2, ![4096, 768]⟩
abbrev S4096x1x128 : Shape := ⟨3, ![4096, 1, 128]⟩
abbrev S4096x1x32 : Shape := ⟨3, ![4096, 1, 32]⟩
abbrev S4096x32 : Shape := ⟨2, ![4096, 32]⟩
abbrev S4096x1x8 : Shape := ⟨3, ![4096, 1, 8]⟩
abbrev S4096x8 : Shape := ⟨2, ![4096, 8]⟩
abbrev S4096x7592 : Shape := ⟨2, ![4096, 7592]⟩

abbrev nBuf : Space → Nat
  | .hbm => 87
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x7592, .f32⟩
  | .hbm, ⟨2, _⟩ => ⟨S1024x768, .f32⟩
  | .hbm, ⟨3, _⟩ => ⟨S1024x512, .f32⟩
  | .hbm, ⟨4, _⟩ => ⟨S1024x8x64, .f32⟩
  | .hbm, ⟨5, _⟩ => ⟨S_, .i32⟩
  | .hbm, ⟨6, _⟩ => ⟨S_, .f32⟩
  | .hbm, ⟨7, _⟩ => ⟨S1024x8x128, .f32⟩
  | .hbm, ⟨8, _⟩ => ⟨S1024x1024, .f32⟩
  | .hbm, ⟨9, _⟩ => ⟨S1024x128, .f32⟩
  | .hbm, ⟨10, _⟩ => ⟨S1024x2x64, .f32⟩
  | .hbm, ⟨11, _⟩ => ⟨S_, .i32⟩
  | .hbm, ⟨12, _⟩ => ⟨S_, .f32⟩
  | .hbm, ⟨13, _⟩ => ⟨S1024x2x128, .f32⟩
  | .hbm, ⟨14, _⟩ => ⟨S1024x256, .f32⟩
  | .hbm, ⟨15, _⟩ => ⟨S1024x128, .f32⟩
  | .hbm, ⟨16, _⟩ => ⟨S1024x2x64, .f32⟩
  | .hbm, ⟨17, _⟩ => ⟨S_, .i32⟩
  | .hbm, ⟨18, _⟩ => ⟨S_, .f32⟩
  | .hbm, ⟨19, _⟩ => ⟨S1024x2x128, .f32⟩
  | .hbm, ⟨20, _⟩ => ⟨S1024x256, .f32⟩
  | .hbm, ⟨21, _⟩ => ⟨S1024x1536, .f32⟩
  | .hbm, ⟨22, _⟩ => ⟨S1024x384, .f32⟩
  | .hbm, ⟨23, _⟩ => ⟨S1024x256, .f32⟩
  | .hbm, ⟨24, _⟩ => ⟨S1024x32, .f32⟩
  | .hbm, ⟨25, _⟩ => ⟨S1024x1x32, .f32⟩
  | .hbm, ⟨26, _⟩ => ⟨S_, .i32⟩
  | .hbm, ⟨27, _⟩ => ⟨S_, .f32⟩
  | .hbm, ⟨28, _⟩ => ⟨S1024x1x128, .f32⟩
  | .hbm, ⟨29, _⟩ => ⟨S1024x128, .f32⟩
  | .hbm, ⟨30, _⟩ => ⟨S1024x512, .f32⟩
  | .hbm, ⟨31, _⟩ => ⟨S1024x512, .f32⟩
  | .hbm, ⟨32, _⟩ => ⟨S1024x8x64, .f32⟩
  | .hbm, ⟨33, _⟩ => ⟨S_, .i32⟩
  | .hbm, ⟨34, _⟩ => ⟨S_, .f32⟩
  | .hbm, ⟨35, _⟩ => ⟨S1024x8x128, .f32⟩
  | .hbm, ⟨36, _⟩ => ⟨S1024x1024, .f32⟩
  | .hbm, ⟨37, _⟩ => ⟨S1024x8, .f32⟩
  | .hbm, ⟨38, _⟩ => ⟨S1024x1x8, .f32⟩
  | .hbm, ⟨39, _⟩ => ⟨S_, .i32⟩
  | .hbm, ⟨40, _⟩ => ⟨S_, .f32⟩
  | .hbm, ⟨41, _⟩ => ⟨S1024x1x128, .f32⟩
  | .hbm, ⟨42, _⟩ => ⟨S1024x128, .f32⟩
  | .hbm, ⟨43, _⟩ => ⟨S1024x512, .f32⟩
  | .hbm, ⟨44, _⟩ => ⟨S1024x512, .f32⟩
  | .hbm, ⟨45, _⟩ => ⟨S1024x4096, .f32⟩
  | .hbm, ⟨46, _⟩ => ⟨S_, .f32⟩
  | .hbm, ⟨47, _⟩ => ⟨S1024x256, .f32⟩
  | .hbm, ⟨48, _⟩ => ⟨S_, .f32⟩
  | .hbm, ⟨49, _⟩ => ⟨S1024x128, .f32⟩
  | .hbm, ⟨50, _⟩ => ⟨S_, .f32⟩
  | .hbm, ⟨51, _⟩ => ⟨S1024x256, .f32⟩
  | .hbm, ⟨52, _⟩ => ⟨S1024x9728, .f32⟩
  | .hbm, ⟨53, _⟩ => ⟨S4096x9728, .f32⟩
  | .hbm, ⟨54, _⟩ => ⟨S4096x4096, .f32⟩
  | .hbm, ⟨55, _⟩ => ⟨S4096x1024, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x384, .f32⟩
  | .hbm, ⟨60, _⟩ => ⟨S4096x256, .f32⟩
  | .hbm, ⟨61, _⟩ => ⟨S4096x1536, .f32⟩
  | .hbm, ⟨62, _⟩ => ⟨S4096x128, .f32⟩
  | .hbm, ⟨63, _⟩ => ⟨S4096x128, .f32⟩
  | .hbm, ⟨64, _⟩ => ⟨S4096x1024, .f32⟩
  | .hbm, ⟨65, _⟩ => ⟨S4096x8x128, .f32⟩
  | .hbm, ⟨66, _⟩ => ⟨S4096x8x64, .f32⟩
  | .hbm, ⟨67, _⟩ => ⟨S4096x512, .f32⟩
  | .hbm, ⟨68, _⟩ => ⟨S4096x256, .f32⟩
  | .hbm, ⟨69, _⟩ => ⟨S4096x2x128, .f32⟩
  | .hbm, ⟨70, _⟩ => ⟨S4096x2x64, .f32⟩
  | .hbm, ⟨71, _⟩ => ⟨S4096x128, .f32⟩
  | .hbm, ⟨72, _⟩ => ⟨S4096x256, .f32⟩
  | .hbm, ⟨73, _⟩ => ⟨S4096x2x128, .f32⟩
  | .hbm, ⟨74, _⟩ => ⟨S4096x2x64, .f32⟩
  | .hbm, ⟨75, _⟩ => ⟨S4096x128, .f32⟩
  | .hbm, ⟨76, _⟩ => ⟨S4096x768, .f32⟩
  | .hbm, ⟨77, _⟩ => ⟨S4096x1x128, .f32⟩
  | .hbm, ⟨78, _⟩ => ⟨S4096x1x32, .f32⟩
  | .hbm, ⟨79, _⟩ => ⟨S4096x32, .f32⟩
  | .hbm, ⟨80, _⟩ => ⟨S4096x8x128, .f32⟩
  | .hbm, ⟨81, _⟩ => ⟨S4096x8x64, .f32⟩
  | .hbm, ⟨82, _⟩ => ⟨S4096x512, .f32⟩
  | .hbm, ⟨83, _⟩ => ⟨S4096x1x128, .f32⟩
  | .hbm, ⟨84, _⟩ => ⟨S4096x1x8, .f32⟩
  | .hbm, ⟨85, _⟩ => ⟨S4096x8, .f32⟩
  | .hbm, ⟨86, _⟩ => ⟨S4096x7592, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call2_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call3_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call4_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_call5_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 19, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S1024x7592 : Shape := ⟨2, ![1024, 7592]⟩
abbrev S4096x7592 : Shape := ⟨2, ![4096, 7592]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7592, .f32⟩
  | .hbm, ⟨2, _⟩ => ⟨S4096x1024, .f32⟩
  | .hbm, ⟨3, _⟩ => ⟨S4096x7592, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DWuq.lean ====
abbrev S4096x384 : Shape := ⟨2, ![4096, 384]⟩
abbrev S384x768 : Shape := ⟨2, ![384, 768]⟩
abbrev S4096x768 : Shape := ⟨2, ![4096, 768]⟩
abbrev S4096x8x96 : Shape := ⟨3, ![4096, 8, 96]⟩
abbrev S_ : Shape := ⟨0, ![]⟩
abbrev S4096x8x128 : Shape := ⟨3, ![4096, 8, 128]⟩
abbrev S4096x1024 : Shape := ⟨2, ![4096, 1024]⟩
abbrev S384x1024 : Shape := ⟨2, ![384, 1024]⟩
abbrev S2048x384 : Shape := ⟨2, ![2048, 384]⟩
abbrev S2048x1024 : Shape := ⟨2, ![2048, 1024]⟩
abbrev S384x8x128 : Shape := ⟨3, ![384, 8, 128]⟩
abbrev S384x8x96 : Shape := ⟨3, ![384, 8, 96]⟩

abbrev nBuf : Space → Nat
  | .hbm => 12
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S384x768, .f32⟩
  | .hbm, ⟨2, _⟩ => ⟨S4096x768, .bf16⟩
  | .hbm, ⟨3, _⟩ => ⟨S4096x8x96, .bf16⟩
  | .hbm, ⟨4, _⟩ => ⟨S_, .i32⟩
  | .hbm, ⟨5, _⟩ => ⟨S_, .bf16⟩
  | .hbm, ⟨6, _⟩ => ⟨S4096x8x128, .bf16⟩
  | .hbm, ⟨7, _⟩ => ⟨S4096x1024, .bf16⟩
  | .hbm, ⟨8, _⟩ => ⟨S384x1024, .f32⟩
  | .hbm, ⟨9, _⟩ => ⟨S384x8x128, .f32⟩
  | .hbm, ⟨10, _⟩ => ⟨S384x8x96, .f32⟩
  | .hbm, ⟨11, _⟩ => ⟨S384x768, .f32⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .f32⟩
  | .local _ .vmem, ⟨5, _⟩ => ⟨S384x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWuqRefIdeal.lean ====
abbrev S4096x384 : Shape := ⟨2, ![4096, 384]⟩
abbrev S384x768 : Shape := ⟨2, ![384, 768]⟩
abbrev S4096x768 : Shape := ⟨2, ![4096, 768]⟩
abbrev S768x384 : Shape := ⟨2, ![768, 384]⟩

abbrev nBuf : Space → Nat
  | .hbm => 8
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x768, .f32⟩
  | .hbm, ⟨2, _⟩ => ⟨S4096x768, .bf16⟩
  | .hbm, ⟨3, _⟩ => ⟨S4096x384, .f32⟩
  | .hbm, ⟨4, _⟩ => ⟨S4096x768, .f32⟩
  | .hbm, ⟨5, _⟩ => ⟨S4096x768, .f32⟩
  | .hbm, ⟨6, _⟩ => ⟨S768x384, .f32⟩
  | .hbm, ⟨7, _⟩ => ⟨S384x768, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DCqn.lean ====
abbrev S4096x384 : Shape := ⟨2, ![4096, 384]⟩
abbrev S384x768 : Shape := ⟨2, ![384, 768]⟩
abbrev S4096x768 : Shape := ⟨2, ![4096, 768]⟩
abbrev S4096x8x96 : Shape := ⟨3, ![4096, 8, 96]⟩
abbrev S_ : Shape := ⟨0, ![]⟩
abbrev S4096x8x128 : Shape := ⟨3, ![4096, 8, 128]⟩
abbrev S4096x1024 : Shape := ⟨2, ![4096, 1024]⟩
abbrev S384x8x96 : Shape := ⟨3, ![384, 8, 96]⟩
abbrev S384x8x128 : Shape := ⟨3, ![384, 8, 128]⟩
abbrev S384x1024 : Shape := ⟨2, ![384, 1024]⟩
abbrev S1024x1024 : Shape := ⟨2, ![1024, 1024]⟩
abbrev S1024x384 : Shape := ⟨2, ![1024, 384]⟩

abbrev nBuf : Space → Nat
  | .hbm => 14
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S384x768, .f32⟩
  | .hbm, ⟨2, _⟩ => ⟨S4096x768, .bf16⟩
  | .hbm, ⟨3, _⟩ => ⟨S4096x8x96, .bf16⟩
  | .hbm, ⟨4, _⟩ => ⟨S_, .i32⟩
  | .hbm, ⟨5, _⟩ => ⟨S_, .bf16⟩
  | .hbm, ⟨6, _⟩ => ⟨S4096x8x128, .bf16⟩
  | .hbm, ⟨7, _⟩ => ⟨S4096x1024, .bf16⟩
  | .hbm, ⟨8, _⟩ => ⟨S384x8x96, .f32⟩
  | .hbm, ⟨9, _⟩ => ⟨S_, .i32⟩
  | .hbm, ⟨10, _⟩ => ⟨S_, .f32⟩
  | .hbm, ⟨11, _⟩ => ⟨S384x8x128, .f32⟩
  | .hbm, ⟨12, _⟩ => ⟨S384x1024, .f32⟩
  | .hbm, ⟨13, _⟩ => ⟨S4096x384, .bf16⟩
  | .local _ .vmem, ⟨0, _⟩ => ⟨S1024x1024, .bf16⟩
  | .local _ .vmem, ⟨1, _⟩ => ⟨S1024x1024, .bf16⟩
  | .local _ .vmem, ⟨2, _⟩ => ⟨S384x1024, .f32⟩
  | .local _ .vmem, ⟨3, _⟩ => ⟨S1024x384, .bf16⟩
  | .local _ .vmem, ⟨4, _⟩ => ⟨S1024x384, .bf16⟩
  | .local _ .vmem, ⟨5, _⟩ => ⟨S1024x384, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCqnRefIdeal.lean ====
abbrev S4096x384 : Shape := ⟨2, ![4096, 384]⟩
abbrev S384x768 : Shape := ⟨2, ![384, 768]⟩
abbrev S4096x768 : Shape := ⟨2, ![4096, 768]⟩

abbrev nBuf : Space → Nat
  | .hbm => 8
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x768, .f32⟩
  | .hbm, ⟨2, _⟩ => ⟨S4096x768, .bf16⟩
  | .hbm, ⟨3, _⟩ => ⟨S4096x384, .f32⟩
  | .hbm, ⟨4, _⟩ => ⟨S4096x768, .f32⟩
  | .hbm, ⟨5, _⟩ => ⟨S4096x768, .f32⟩
  | .hbm, ⟨6, _⟩ => ⟨S4096x384, .f32⟩
  | .hbm, ⟨7, _⟩ => ⟨S4096x384, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWukv.lean ====
abbrev S4096x256 : Shape := ⟨2, ![4096, 256]⟩
abbrev S256x1024 : Shape := ⟨2, ![256, 1024]⟩
abbrev S4096x1024 : Shape := ⟨2, ![4096, 1024]⟩
abbrev S4096x8x128 : Shape := ⟨3, ![4096, 8, 128]⟩
abbrev S4096x8x64 : Shape := ⟨3, ![4096, 8, 64]⟩
abbrev S4096x512 : Shape := ⟨2, ![4096, 512]⟩
abbrev S_ : Shape := ⟨0, ![]⟩
abbrev S4096x2048 : Shape := ⟨2, ![4096, 2048]⟩
abbrev S256x2048 : Shape := ⟨2, ![256, 2048]⟩
abbrev S2048x256 : Shape := ⟨2, ![2048, 256]⟩
abbrev S2048x1024 : Shape := ⟨2, ![2048, 1024]⟩
abbrev S256x8x128 : Shape := ⟨3, ![256, 8, 128]⟩
abbrev S256x8x64 : Shape := ⟨3, ![256, 8, 64]⟩
abbrev S256x512 : Shape := ⟨2, ![256, 512]⟩

abbrev nBuf : Space → Nat
  | .hbm => 32
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x1024, .f32⟩
  | .hbm, ⟨2, _⟩ => ⟨S4096x1024, .bf16⟩
  | .hbm, ⟨3, _⟩ => ⟨S4096x8x128, .bf16⟩
  | .hbm, ⟨4, _⟩ => ⟨S4096x8x64, .bf16⟩
  | .hbm, ⟨5, _⟩ => ⟨S4096x512, .bf16⟩
  | .hbm, ⟨6, _⟩ => ⟨S4096x8x64, .bf16⟩
  | .hbm, ⟨7, _⟩ => ⟨S_, .i32⟩
  | .hbm, ⟨8, _⟩ => ⟨S_, .bf16⟩
  | .hbm, ⟨9, _⟩ => ⟨S4096x8x128, .bf16⟩
  | .hbm, ⟨10, _⟩ => ⟨S4096x1024, .bf16⟩
  | .hbm, ⟨11, _⟩ => ⟨S4096x8x64, .bf16⟩
  | .hbm, ⟨12, _⟩ => ⟨S4096x512, .bf16⟩
  | .hbm, ⟨13, _⟩ => ⟨S4096x8x64, .bf16⟩
  | .hbm, ⟨14, _⟩ => ⟨S_, .i32⟩
  | .hbm, ⟨15, _⟩ => ⟨S_, .bf16⟩
  | .hbm, ⟨16, _⟩ => ⟨S4096x8x128, .bf16⟩
  | .hbm, ⟨17, _⟩ => ⟨S4096x1024, .bf16⟩
  | .hbm, ⟨18, _⟩ => ⟨S4096x2048, .bf16⟩
  | .hbm, ⟨19, _⟩ => ⟨S256x2048, .f32⟩
  | .hbm, ⟨20, _⟩ => ⟨S256x1024, .f32⟩
  | .hbm, ⟨21, _⟩ => ⟨S256x8x128, .f32⟩
  | .hbm, ⟨22, _⟩ => ⟨S256x8x64, .f32⟩
  | .hbm, ⟨23, _⟩ => ⟨S256x512, .f32⟩
  | .hbm, ⟨24, _⟩ => ⟨S256x8x64, .f32⟩
  | .hbm, ⟨25, _⟩ => ⟨S256x1024, .f32⟩
  | .hbm, ⟨26, _⟩ => ⟨S256x8x128, .f32⟩
  | .hbm, ⟨27, _⟩ => ⟨S256x8x64, .f32⟩
  | .hbm, ⟨28, _⟩ => ⟨S256x512, .f32⟩
  | .hbm, ⟨29, _⟩ => ⟨S256x8x64, .f32⟩
  | .hbm, ⟨30, _⟩ => ⟨S256x8x128, .f32⟩
  | .hbm, ⟨31, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWukvRefIdeal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .f32⟩
  | .hbm, ⟨2, _⟩ => ⟨S4096x1024, .bf16⟩
  | .hbm, ⟨3, _⟩ => ⟨S4096x256, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DCkvn.lean ====
abbrev S4096x256 : Shape := ⟨2, ![4096, 256]⟩
abbrev S256x1024 : Shape := ⟨2, ![256, 1024]⟩
abbrev S4096x1024 : Shape := ⟨2, ![4096, 1024]⟩
abbrev S4096x8x128 : Shape := ⟨3, ![4096, 8, 128]⟩
abbrev S4096x8x64 : Shape := ⟨3, ![4096, 8, 64]⟩
abbrev S4096x512 : Shape := ⟨2, ![4096, 512]⟩
abbrev S_ : Shape := ⟨0, ![]⟩
abbrev S4096x2048 : Shape := ⟨2, ![4096, 2048]⟩
abbrev S256x8x128 : Shape := ⟨3, ![256, 8, 128]⟩
abbrev S256x8x64 : Shape := ⟨3, ![256, 8, 64]⟩
abbrev S256x512 : Shape := ⟨2, ![256, 512]⟩
abbrev S256x2048 : Shape := ⟨2, ![256, 2048]⟩
abbrev S1024x2048 : Shape := ⟨2, ![1024, 2048]⟩
abbrev S1024x256 : Shape := ⟨2, ![1024, 256]⟩

abbrev nBuf : Space → Nat
  | .hbm => 36
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x1024, .f32⟩
  | .hbm, ⟨2, _⟩ => ⟨S4096x1024, .bf16⟩
  | .hbm, ⟨3, _⟩ => ⟨S4096x8x128, .bf16⟩
  | .hbm, ⟨4, _⟩ => ⟨S4096x8x64, .bf16⟩
  | .hbm, ⟨5, _⟩ => ⟨S4096x512, .bf16⟩
  | .hbm, ⟨6, _⟩ => ⟨S4096x8x64, .bf16⟩
  | .hbm, ⟨7, _⟩ => ⟨S_, .i32⟩
  | .hbm, ⟨8, _⟩ => ⟨S_, .bf16⟩
  | .hbm, ⟨9, _⟩ => ⟨S4096x8x128, .bf16⟩
  | .hbm, ⟨10, _⟩ => ⟨S4096x1024, .bf16⟩
  | .hbm, ⟨11, _⟩ => ⟨S4096x8x64, .bf16⟩
  | .hbm, ⟨12, _⟩ => ⟨S4096x512, .bf16⟩
  | .hbm, ⟨13, _⟩ => ⟨S4096x8x64, .bf16⟩
  | .hbm, ⟨14, _⟩ => ⟨S_, .i32⟩
  | .hbm, ⟨15, _⟩ => ⟨S_, .bf16⟩
  | .hbm, ⟨16, _⟩ => ⟨S4096x8x128, .bf16⟩
  | .hbm, ⟨17, _⟩ => ⟨S4096x1024, .bf16⟩
  | .hbm, ⟨18, _⟩ => ⟨S4096x2048, .bf16⟩
  | .hbm, ⟨19, _⟩ => ⟨S256x8x128, .f32⟩
  | .hbm, ⟨20, _⟩ => ⟨S256x8x64, .f32⟩
  | .hbm, ⟨21, _⟩ => ⟨S256x512, .f32⟩
  | .hbm, ⟨22, _⟩ => ⟨S256x8x64, .f32⟩
  | .hbm, ⟨23, _⟩ => ⟨S_, .i32⟩
  | .hbm, ⟨24, _⟩ => ⟨S_, .f32⟩
  | .hbm, ⟨25, _⟩ => ⟨S256x8x128, .f32⟩
  | .hbm, ⟨26, _⟩ => ⟨S256x1024, .f32⟩
  | .hbm, ⟨27, _⟩ => ⟨S256x8x64, .f32⟩
  | .hbm, ⟨28, _⟩ => ⟨S256x512, .f32⟩
  | .hbm, ⟨29, _⟩ => ⟨S256x8x64, .f32⟩
  | .hbm, ⟨30, _⟩ => ⟨S_, .i32⟩
  | .hbm, ⟨31, _⟩ => ⟨S_, .f32⟩
  | .hbm, ⟨32, _⟩ => ⟨S256x8x128, .f32⟩
  | .hbm, ⟨33, _⟩ => ⟨S256x1024, .f32⟩
  | .hbm, ⟨34, _⟩ => ⟨S256x2048, .f32⟩
  | .hbm, ⟨35, _⟩ => ⟨S4096x256, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .f32⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call2_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_call3_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCkvnRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .f32⟩
  | .hbm, ⟨2, _⟩ => ⟨S4096x1024, .bf16⟩
  | .hbm, ⟨3, _⟩ => ⟨S4096x256, .f32⟩
  | .hbm, ⟨4, _⟩ => ⟨S4096x1024, .f32⟩
  | .hbm, ⟨5, _⟩ => ⟨S4096x1024, .f32⟩
  | .hbm, ⟨6, _⟩ => ⟨S4096x256, .f32⟩
  | .hbm, ⟨7, _⟩ => ⟨S4096x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Uq.lean ====
abbrev S4096x384 : Shape := ⟨2, ![4096, 384]⟩
abbrev S384x768 : Shape := ⟨2, ![384, 768]⟩
abbrev S384x8x96 : Shape := ⟨3, ![384, 8, 96]⟩
abbrev S_ : Shape := ⟨0, ![]⟩
abbrev S384x8x128 : Shape := ⟨3, ![384, 8, 128]⟩
abbrev S384x1024 : Shape := ⟨2, ![384, 1024]⟩
abbrev S4096x1024 : Shape := ⟨2, ![4096, 1024]⟩
abbrev S1024x384 : Shape := ⟨2, ![1024, 384]⟩
abbrev S1024x1024 : Shape := ⟨2, ![1024, 1024]⟩
abbrev S4096x8x128 : Shape := ⟨3, ![4096, 8, 128]⟩
abbrev S4096x8x96 : Shape := ⟨3, ![4096, 8, 96]⟩
abbrev S4096x768 : Shape := ⟨2, ![4096, 768]⟩

abbrev nBuf : Space → Nat
  | .hbm => 11
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S384x768, .f32⟩
  | .hbm, ⟨2, _⟩ => ⟨S384x8x96, .f32⟩
  | .hbm, ⟨3, _⟩ => ⟨S_, .i32⟩
  | .hbm, ⟨4, _⟩ => ⟨S_, .f32⟩
  | .hbm, ⟨5, _⟩ => ⟨S384x8x128, .f32⟩
  | .hbm, ⟨6, _⟩ => ⟨S384x1024, .f32⟩
  | .hbm, ⟨7, _⟩ => ⟨S4096x1024, .f32⟩
  | .hbm, ⟨8, _⟩ => ⟨S4096x8x128, .f32⟩
  | .hbm, ⟨9, _⟩ => ⟨S4096x8x96, .f32⟩
  | .hbm, ⟨10, _⟩ => ⟨S4096x768, .f32⟩
  | .local _ .vmem, ⟨0, _⟩ => ⟨S1024x384, .bf16⟩
  | .local _ .vmem, ⟨1, _⟩ => ⟨S1024x384, .bf16⟩
  | .local _ .vmem, ⟨2, _⟩ => ⟨S384x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S4096x384 : Shape := ⟨2, ![4096, 384]⟩
abbrev S384x768 : Shape := ⟨2, ![384, 768]⟩
abbrev S4096x768 : Shape := ⟨2, ![4096, 768]⟩

abbrev nBuf : Space → Nat
  | .hbm => 4
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x768, .f32⟩
  | .hbm, ⟨2, _⟩ => ⟨S4096x384, .f32⟩
  | .hbm, ⟨3, _⟩ => ⟨S4096x768, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ukv.lean ====
abbrev S4096x256 : Shape := ⟨2, ![4096, 256]⟩
abbrev S256x1024 : Shape := ⟨2, ![256, 1024]⟩
abbrev S256x8x128 : Shape := ⟨3, ![256, 8, 128]⟩
abbrev S256x8x64 : Shape := ⟨3, ![256, 8, 64]⟩
abbrev S256x512 : Shape := ⟨2, ![256, 512]⟩
abbrev S_ : Shape := ⟨0, ![]⟩
abbrev S256x2048 : Shape := ⟨2, ![256, 2048]⟩
abbrev S4096x2048 : Shape := ⟨2, ![4096, 2048]⟩
abbrev S1024x256 : Shape := ⟨2, ![1024, 256]⟩
abbrev S1024x1024 : Shape := ⟨2, ![1024, 1024]⟩
abbrev S4096x1024 : Shape := ⟨2, ![4096, 1024]⟩
abbrev S4096x8x128 : Shape := ⟨3, ![4096, 8, 128]⟩
abbrev S4096x8x64 : Shape := ⟨3, ![4096, 8, 64]⟩
abbrev S4096x512 : Shape := ⟨2, ![4096, 512]⟩

abbrev nBuf : Space → Nat
  | .hbm => 31
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x1024, .f32⟩
  | .hbm, ⟨2, _⟩ => ⟨S256x8x128, .f32⟩
  | .hbm, ⟨3, _⟩ => ⟨S256x8x64, .f32⟩
  | .hbm, ⟨4, _⟩ => ⟨S256x512, .f32⟩
  | .hbm, ⟨5, _⟩ => ⟨S256x8x64, .f32⟩
  | .hbm, ⟨6, _⟩ => ⟨S_, .i32⟩
  | .hbm, ⟨7, _⟩ => ⟨S_, .f32⟩
  | .hbm, ⟨8, _⟩ => ⟨S256x8x128, .f32⟩
  | .hbm, ⟨9, _⟩ => ⟨S256x1024, .f32⟩
  | .hbm, ⟨10, _⟩ => ⟨S256x8x64, .f32⟩
  | .hbm, ⟨11, _⟩ => ⟨S256x512, .f32⟩
  | .hbm, ⟨12, _⟩ => ⟨S256x8x64, .f32⟩
  | .hbm, ⟨13, _⟩ => ⟨S_, .i32⟩
  | .hbm, ⟨14, _⟩ => ⟨S_, .f32⟩
  | .hbm, ⟨15, _⟩ => ⟨S256x8x128, .f32⟩
  | .hbm, ⟨16, _⟩ => ⟨S256x1024, .f32⟩
  | .hbm, ⟨17, _⟩ => ⟨S256x2048, .f32⟩
  | .hbm, ⟨18, _⟩ => ⟨S4096x2048, .f32⟩
  | .hbm, ⟨19, _⟩ => ⟨S4096x1024, .f32⟩
  | .hbm, ⟨20, _⟩ => ⟨S4096x8x128, .f32⟩
  | .hbm, ⟨21, _⟩ => ⟨S4096x8x64, .f32⟩
  | .hbm, ⟨22, _⟩ => ⟨S4096x512, .f32⟩
  | .hbm, ⟨23, _⟩ => ⟨S4096x8x64, .f32⟩
  | .hbm, ⟨24, _⟩ => ⟨S4096x1024, .f32⟩
  | .hbm, ⟨25, _⟩ => ⟨S4096x8x128, .f32⟩
  | .hbm, ⟨26, _⟩ => ⟨S4096x8x64, .f32⟩
  | .hbm, ⟨27, _⟩ => ⟨S4096x512, .f32⟩
  | .hbm, ⟨28, _⟩ => ⟨S4096x8x64, .f32⟩
  | .hbm, ⟨29, _⟩ => ⟨S4096x8x128, .f32⟩
  | .hbm, ⟨30, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .f32⟩
  | .local _ .vmem, ⟨3, _⟩ => ⟨S256x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .f32⟩
  | .hbm, ⟨2, _⟩ => ⟨S4096x256, .f32⟩
  | .hbm, ⟨3, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchMerge.lean ====
abbrev S4096x512 : Shape := ⟨2, ![4096, 512]⟩
abbrev S4x512x1024 : Shape := ⟨3, ![4, 512, 1024]⟩
abbrev S4096x7592 : Shape := ⟨2, ![4096, 7592]⟩
abbrev S1x512x1024 : Shape := ⟨3, ![1, 512, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩
abbrev S4096x8x64 : Shape := ⟨3, ![4096, 8, 64]⟩
abbrev S4096x8x128 : Shape := ⟨3, ![4096, 8, 128]⟩
abbrev S4096x1024 : Shape := ⟨2, ![4096, 1024]⟩
abbrev S4096x768 : Shape := ⟨2, ![4096, 768]⟩
abbrev S4096x128 : Shape := ⟨2, ![4096, 128]⟩
abbrev S4096x2x64 : Shape := ⟨3, ![4096, 2, 64]⟩
abbrev S4096x2x128 : Shape := ⟨3, ![4096, 2, 128]⟩
abbrev S4096x256 : Shape := ⟨2, ![4096, 256]⟩
abbrev S4096x1536 : Shape := ⟨2, ![4096, 1536]⟩
abbrev S4096x384 : Shape := ⟨2, ![4096, 384]⟩
abbrev S4096x32 : Shape := ⟨2, ![4096, 32]⟩
abbrev S4096x1x32 : Shape := ⟨3, ![4096, 1, 32]⟩
abbrev S4096x1x128 : Shape := ⟨3, ![4096, 1, 128]⟩
abbrev S4096x8 : Shape := ⟨2, ![4096, 8]⟩
abbrev S4096x1x8 : Shape := ⟨3, ![4096, 1, 8]⟩
abbrev S4096x4096 : Shape := ⟨2, ![4096, 4096]⟩
abbrev S4096x9728 : Shape := ⟨2, ![4096, 9728]⟩
abbrev S512x512 : Shape := ⟨2, ![512, 512]⟩
abbrev S1024x512 : Shape := ⟨2, ![1024, 512]⟩

abbrev nBuf : Space → Nat
  | .hbm => 90
  | .vmem => 34
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4x512x1024, .f32⟩
  | .hbm, ⟨5, _⟩ => ⟨S4096x7592, .f32⟩
  | .hbm, ⟨6, _⟩ => ⟨S1x512x1024, .f32⟩
  | .hbm, ⟨7, _⟩ => ⟨S512x1024, .f32⟩
  | .hbm, ⟨8, _⟩ => ⟨S8x64x1024, .f32⟩
  | .hbm, ⟨9, _⟩ => ⟨S_, .i32⟩
  | .hbm, ⟨10, _⟩ => ⟨S_, .f32⟩
  | .hbm, ⟨11, _⟩ => ⟨S8x128x1024, .f32⟩
  | .hbm, ⟨12, _⟩ => ⟨S1024x1024, .f32⟩
  | .hbm, ⟨13, _⟩ => ⟨S1x512x1024, .f32⟩
  | .hbm, ⟨14, _⟩ => ⟨S512x1024, .f32⟩
  | .hbm, ⟨15, _⟩ => ⟨S1x512x1024, .f32⟩
  | .hbm, ⟨16, _⟩ => ⟨S512x1024, .f32⟩
  | .hbm, ⟨17, _⟩ => ⟨S8x64x1024, .f32⟩
  | .hbm, ⟨18, _⟩ => ⟨S_, .i32⟩
  | .hbm, ⟨19, _⟩ => ⟨S_, .f32⟩
  | .hbm, ⟨20, _⟩ => ⟨S8x128x1024, .f32⟩
  | .hbm, ⟨21, _⟩ => ⟨S1024x1024, .f32⟩
  | .hbm, ⟨22, _⟩ => ⟨S1x512x1024, .f32⟩
  | .hbm, ⟨23, _⟩ => ⟨S512x1024, .f32⟩
  | .hbm, ⟨24, _⟩ => ⟨S4096x8x64, .bf16⟩
  | .hbm, ⟨25, _⟩ => ⟨S_, .i32⟩
  | .hbm, ⟨26, _⟩ => ⟨S_, .bf16⟩
  | .hbm, ⟨27, _⟩ => ⟨S4096x8x128, .bf16⟩
  | .hbm, ⟨28, _⟩ => ⟨S4096x1024, .bf16⟩
  | .hbm, ⟨29, _⟩ => ⟨S4096x8x64, .bf16⟩
  | .hbm, ⟨30, _⟩ => ⟨S_, .i32⟩
  | .hbm, ⟨31, _⟩ => ⟨S_, .bf16⟩
  | .hbm, ⟨32, _⟩ => ⟨S4096x8x128, .bf16⟩
  | .hbm, ⟨33, _⟩ => ⟨S4096x1024, .bf16⟩
  | .hbm, ⟨34, _⟩ => ⟨S4096x768, .f32⟩
  | .hbm, ⟨35, _⟩ => ⟨S4096x512, .f32⟩
  | .hbm, ⟨36, _⟩ => ⟨S4096x8x64, .f32⟩
  | .hbm, ⟨37, _⟩ => ⟨S_, .i32⟩
  | .hbm, ⟨38, _⟩ => ⟨S_, .f32⟩
  | .hbm, ⟨39, _⟩ => ⟨S4096x8x128, .f32⟩
  | .hbm, ⟨40, _⟩ => ⟨S4096x1024, .f32⟩
  | .hbm, ⟨41, _⟩ => ⟨S4096x128, .f32⟩
  | .hbm, ⟨42, _⟩ => ⟨S4096x2x64, .f32⟩
  | .hbm, ⟨43, _⟩ => ⟨S_, .i32⟩
  | .hbm, ⟨44, _⟩ => ⟨S_, .f32⟩
  | .hbm, ⟨45, _⟩ => ⟨S4096x2x128, .f32⟩
  | .hbm, ⟨46, _⟩ => ⟨S4096x256, .f32⟩
  | .hbm, ⟨47, _⟩ => ⟨S4096x128, .f32⟩
  | .hbm, ⟨48, _⟩ => ⟨S4096x2x64, .f32⟩
  | .hbm, ⟨49, _⟩ => ⟨S_, .i32⟩
  | .hbm, ⟨50, _⟩ => ⟨S_, .f32⟩
  | .hbm, ⟨51, _⟩ => ⟨S4096x2x128, .f32⟩
  | .hbm, ⟨52, _⟩ => ⟨S4096x256, .f32⟩
  | .hbm, ⟨53, _⟩ => ⟨S4096x1536, .f32⟩
  | .hbm, ⟨54, _⟩ => ⟨S4096x384, .f32⟩
  | .hbm, ⟨55, _⟩ => ⟨S4096x256, .f32⟩
  | .hbm, ⟨56, _⟩ => ⟨S4096x32, .f32⟩
  | .hbm, ⟨57, _⟩ => ⟨S4096x1x32, .f32⟩
  | .hbm, ⟨58, _⟩ => ⟨S_, .i32⟩
  | .hbm, ⟨59, _⟩ => ⟨S_, .f32⟩
  | .hbm, ⟨60, _⟩ => ⟨S4096x1x128, .f32⟩
  | .hbm, ⟨61, _⟩ => ⟨S4096x128, .f32⟩
  | .hbm, ⟨62, _⟩ => ⟨S4096x512, .f32⟩
  | .hbm, ⟨63, _⟩ => ⟨S4096x512, .f32⟩
  | .hbm, ⟨64, _⟩ => ⟨S4096x8x64, .f32⟩
  | .hbm, ⟨65, _⟩ => ⟨S_, .i32⟩
  | .hbm, ⟨66, _⟩ => ⟨S_, .f32⟩
  | .hbm, ⟨67, _⟩ => ⟨S4096x8x128, .f32⟩
  | .hbm, ⟨68, _⟩ => ⟨S4096x1024, .f32⟩
  | .hbm, ⟨69, _⟩ => ⟨S4096x8, .f32⟩
  | .hbm, ⟨70, _⟩ => ⟨S4096x1x8, .f32⟩
  | .hbm, ⟨71, _⟩ => ⟨S_, .i32⟩
  | .hbm, ⟨72, _⟩ => ⟨S_, .f32⟩
  | .hbm, ⟨73, _⟩ => ⟨S4096x1x128, .f32⟩
  | .hbm, ⟨74, _⟩ => ⟨S4096x128, .f32⟩
  | .hbm, ⟨75, _⟩ => ⟨S4096x512, .f32⟩
  | .hbm, ⟨76, _⟩ => ⟨S4096x512, .f32⟩
  | .hbm, ⟨77, _⟩ => ⟨S4096x4096, .f32⟩
  | .hbm, ⟨78, _⟩ => ⟨S_, .f32⟩
  | .hbm, ⟨79, _⟩ => ⟨S4096x256, .f32⟩
  | .hbm, ⟨80, _⟩ => ⟨S_, .f32⟩
  | .hbm, ⟨81, _⟩ => ⟨S4096x128, .f32⟩
  | .hbm, ⟨82, _⟩ => ⟨S_, .f32⟩
  | .hbm, ⟨83, _⟩ => ⟨S4096x256, .f32⟩
  | .hbm, ⟨84, _⟩ => ⟨S4096x9728, .f32⟩
  | .hbm, ⟨85, _⟩ => ⟨S4096x1024, .f32⟩
  | .hbm, ⟨86, _⟩ => ⟨S4096x1024, .bf16⟩
  | .hbm, ⟨87, _⟩ => ⟨S4096x1024, .bf16⟩
  | .hbm, ⟨88, _⟩ => ⟨S4096x1024, .bf16⟩
  | .hbm, ⟨89, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S1024x512, .f32⟩
  | .local _ .vmem, ⟨9, _⟩ => ⟨S1024x512, .f32⟩
  | .local _ .vmem, ⟨10, _⟩ => ⟨S512x512, .f32⟩
  | .local _ .vmem, ⟨11, _⟩ => ⟨S512x512, .f32⟩
  | .local _ .vmem, ⟨12, _⟩ => ⟨S1024x512, .f32⟩
  | .local _ .vmem, ⟨13, _⟩ => ⟨S1024x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_call2_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_call3_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_call4_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_call5_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_call6_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_call7_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_call8_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_call9_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56_0 : Ref sig .tc := ⟨.hbm, 85, rfl⟩
abbrev main_v56_1 : Ref sig .tc := ⟨.hbm, 86, rfl⟩
abbrev main_v56_2 : Ref sig .tc := ⟨.hbm, 87, rfl⟩
abbrev main_v56_3 : Ref sig .tc := ⟨.hbm, 88, rfl⟩
abbrev main_v56_4 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== BranchMergeRefIdeal.lean ====
abbrev S4096x512 : Shape := ⟨2, ![4096, 512]⟩
abbrev S4x512x1024 : Shape := ⟨3, ![4, 512, 1024]⟩
abbrev S4096x7592 : Shape := ⟨2, ![4096, 7592]⟩
abbrev S4096x4096 : Shape := ⟨2, ![4096, 4096]⟩
abbrev S4096x4x1024 : Shape := ⟨3, ![4096, 4, 1024]⟩
abbrev S_ : Shape := ⟨0, ![]⟩
abbrev S1x512x1024 : Shape := ⟨3, ![1, 512, 1024]⟩
abbrev S512x1024 : Shape := ⟨2, ![512, 1024]⟩
abbrev S4096x1024 : Shape := ⟨2, ![4096, 1024]⟩
abbrev S4096x1x1024 : Shape := ⟨3, ![4096, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4x512x1024, .f32⟩
  | .hbm, ⟨5, _⟩ => ⟨S4096x7592, .f32⟩
  | .hbm, ⟨6, _⟩ => ⟨S4096x4096, .f32⟩
  | .hbm, ⟨7, _⟩ => ⟨S4096x4x1024, .f32⟩
  | .hbm, ⟨8, _⟩ => ⟨S4096x4x1024, .f32⟩
  | .hbm, ⟨9, _⟩ => ⟨S4096x4x1024, .f32⟩
  | .hbm, ⟨10, _⟩ => ⟨S_, .f32⟩
  | .hbm, ⟨11, _⟩ => ⟨S4096x4x1024, .f32⟩
  | .hbm, ⟨12, _⟩ => ⟨S4096x4x1024, .f32⟩
  | .hbm, ⟨13, _⟩ => ⟨S_, .f32⟩
  | .hbm, ⟨14, _⟩ => ⟨S4096x4x1024, .f32⟩
  | .hbm, ⟨15, _⟩ => ⟨S4096x4x1024, .f32⟩
  | .hbm, ⟨16, _⟩ => ⟨S4096x512, .f32⟩
  | .hbm, ⟨17, _⟩ => ⟨S1x512x1024, .f32⟩
  | .hbm, ⟨18, _⟩ => ⟨S512x1024, .f32⟩
  | .hbm, ⟨19, _⟩ => ⟨S4096x1024, .f32⟩
  | .hbm, ⟨20, _⟩ => ⟨S4096x512, .f32⟩
  | .hbm, ⟨21, _⟩ => ⟨S1x512x1024, .f32⟩
  | .hbm, ⟨22, _⟩ => ⟨S512x1024, .f32⟩
  | .hbm, ⟨23, _⟩ => ⟨S4096x1024, .f32⟩
  | .hbm, ⟨24, _⟩ => ⟨S4096x512, .f32⟩
  | .hbm, ⟨25, _⟩ => ⟨S1x512x1024, .f32⟩
  | .hbm, ⟨26, _⟩ => ⟨S512x1024, .f32⟩
  | .hbm, ⟨27, _⟩ => ⟨S4096x1024, .f32⟩
  | .hbm, ⟨28, _⟩ => ⟨S1x512x1024, .f32⟩
  | .hbm, ⟨29, _⟩ => ⟨S512x1024, .f32⟩
  | .hbm, ⟨30, _⟩ => ⟨S4096x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== DWpool.lean ====
abbrev S4096x512 : Shape := ⟨2, ![4096, 512]⟩
abbrev S4x128x128 : Shape := ⟨3, ![4, 128, 128]⟩
abbrev S512x512 : Shape := ⟨2, ![512, 512]⟩
abbrev S2048x512 : Shape := ⟨2, ![2048, 512]⟩
abbrev S4x128x4x128 : Shape := ⟨4, ![4, 128, 4, 128]⟩
abbrev S1x128x1x128 : Shape := ⟨4, ![1, 128, 1, 128]⟩
abbrev S128x128 : Shape := ⟨2, ![128, 128]⟩
abbrev S1x128x128 : Shape := ⟨3, ![1, 128, 128]⟩

abbrev nBuf : Space → Nat
  | .hbm => 18
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S4096x512, .bf16⟩
  | .hbm, ⟨3, _⟩ => ⟨S512x512, .f32⟩
  | .hbm, ⟨4, _⟩ => ⟨S4x128x4x128, .f32⟩
  | .hbm, ⟨5, _⟩ => ⟨S1x128x1x128, .f32⟩
  | .hbm, ⟨6, _⟩ => ⟨S128x128, .f32⟩
  | .hbm, ⟨7, _⟩ => ⟨S1x128x1x128, .f32⟩
  | .hbm, ⟨8, _⟩ => ⟨S128x128, .f32⟩
  | .hbm, ⟨9, _⟩ => ⟨S1x128x1x128, .f32⟩
  | .hbm, ⟨10, _⟩ => ⟨S128x128, .f32⟩
  | .hbm, ⟨11, _⟩ => ⟨S1x128x1x128, .f32⟩
  | .hbm, ⟨12, _⟩ => ⟨S128x128, .f32⟩
  | .hbm, ⟨13, _⟩ => ⟨S1x128x128, .f32⟩
  | .hbm, ⟨14, _⟩ => ⟨S1x128x128, .f32⟩
  | .hbm, ⟨15, _⟩ => ⟨S1x128x128, .f32⟩
  | .hbm, ⟨16, _⟩ => ⟨S1x128x128, .f32⟩
  | .hbm, ⟨17, _⟩ => ⟨S4x128x128, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWpoolRefIdeal.lean ====
abbrev S4096x512 : Shape := ⟨2, ![4096, 512]⟩
abbrev S4x128x128 : Shape := ⟨3, ![4, 128, 128]⟩
abbrev S4096x4x128 : Shape := ⟨3, ![4096, 4, 128]⟩
abbrev S4x128x4096 : Shape := ⟨3, ![4, 128, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S4096x512, .bf16⟩
  | .hbm, ⟨3, _⟩ => ⟨S4096x4x128, .f32⟩
  | .hbm, ⟨4, _⟩ => ⟨S4x128x4096, .f32⟩
  | .hbm, ⟨5, _⟩ => ⟨S4096x4x128, .f32⟩
  | .hbm, ⟨6, _⟩ => ⟨S4096x512, .f32⟩
  | .hbm, ⟨7, _⟩ => ⟨S4096x512, .f32⟩
  | .hbm, ⟨8, _⟩ => ⟨S4096x4x128, .f32⟩
  | .hbm, ⟨9, _⟩ => ⟨S4x128x4096, .f32⟩
  | .hbm, ⟨10, _⟩ => ⟨S4x128x128, .f32⟩
  | .hbm, ⟨11, _⟩ => ⟨S4x128x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DPoolD.lean ====
abbrev S4096x512 : Shape := ⟨2, ![4096, 512]⟩
abbrev S4x128x128 : Shape := ⟨3, ![4, 128, 128]⟩
abbrev S4x4 : Shape := ⟨2, ![4, 4]⟩
abbrev S_ : Shape := ⟨0, ![]⟩
abbrev S4x1x4x1 : Shape := ⟨4, ![4, 1, 4, 1]⟩
abbrev S4x128x1x128 : Shape := ⟨4, ![4, 128, 1, 128]⟩
abbrev S4x128x4x128 : Shape := ⟨4, ![4, 128, 4, 128]⟩
abbrev S512x512 : Shape := ⟨2, ![512, 512]⟩
abbrev S1024x512 : Shape := ⟨2, ![1024, 512]⟩

abbrev nBuf : Space → Nat
  | .hbm => 17
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S4096x512, .bf16⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .f32⟩
  | .hbm, ⟨10, _⟩ => ⟨S4x1x4x1, .f32⟩
  | .hbm, ⟨11, _⟩ => ⟨S4x128x1x128, .f32⟩
  | .hbm, ⟨12, _⟩ => ⟨S4x128x4x128, .f32⟩
  | .hbm, ⟨13, _⟩ => ⟨S4x128x4x128, .f32⟩
  | .hbm, ⟨14, _⟩ => ⟨S4x128x4x128, .f32⟩
  | .hbm, ⟨15, _⟩ => ⟨S512x512, .f32⟩
  | .hbm, ⟨16, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DPoolDRefIdeal.lean ====
abbrev S4096x512 : Shape := ⟨2, ![4096, 512]⟩
abbrev S4x128x128 : Shape := ⟨3, ![4, 128, 128]⟩
abbrev S4096x4x128 : Shape := ⟨3, ![4096, 4, 128]⟩
abbrev S4x128x4096 : Shape := ⟨3, ![4, 128, 4096]⟩
abbrev S4x4096x128 : Shape := ⟨3, ![4, 4096, 128]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S4096x512, .bf16⟩
  | .hbm, ⟨3, _⟩ => ⟨S4096x4x128, .f32⟩
  | .hbm, ⟨4, _⟩ => ⟨S4x128x4096, .f32⟩
  | .hbm, ⟨5, _⟩ => ⟨S4096x4x128, .f32⟩
  | .hbm, ⟨6, _⟩ => ⟨S4096x512, .f32⟩
  | .hbm, ⟨7, _⟩ => ⟨S4096x512, .f32⟩
  | .hbm, ⟨8, _⟩ => ⟨S4096x4x128, .f32⟩
  | .hbm, ⟨9, _⟩ => ⟨S4x128x4096, .f32⟩
  | .hbm, ⟨10, _⟩ => ⟨S4x4096x128, .f32⟩
  | .hbm, ⟨11, _⟩ => ⟨S4096x4x128, .f32⟩
  | .hbm, ⟨12, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DLruW.lean ====
abbrev S4096x512 : Shape := ⟨2, ![4096, 512]⟩
abbrev S8x64x64 : Shape := ⟨3, ![8, 64, 64]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩
abbrev S512x512 : Shape := ⟨2, ![512, 512]⟩
abbrev S8x64x8x64 : Shape := ⟨4, ![8, 64, 8, 64]⟩
abbrev S1x64x1x64 : Shape := ⟨4, ![1, 64, 1, 64]⟩
abbrev S64x64 : Shape := ⟨2, ![64, 64]⟩
abbrev S1x64x64 : Shape := ⟨3, ![1, 64, 64]⟩

abbrev nBuf : Space → Nat
  | .hbm => 61
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S8x64x64, .f32⟩
  | .hbm, ⟨2, _⟩ => ⟨S8x64x64, .f32⟩
  | .hbm, ⟨3, _⟩ => ⟨S4096x512, .f32⟩
  | .hbm, ⟨4, _⟩ => ⟨S4096x512, .f32⟩
  | .hbm, ⟨5, _⟩ => ⟨S4096x1024, .f32⟩
  | .hbm, ⟨6, _⟩ => ⟨S512x1024, .f32⟩
  | .hbm, ⟨7, _⟩ => ⟨S512x512, .f32⟩
  | .hbm, ⟨8, _⟩ => ⟨S8x64x8x64, .f32⟩
  | .hbm, ⟨9, _⟩ => ⟨S1x64x1x64, .f32⟩
  | .hbm, ⟨10, _⟩ => ⟨S64x64, .f32⟩
  | .hbm, ⟨11, _⟩ => ⟨S1x64x1x64, .f32⟩
  | .hbm, ⟨12, _⟩ => ⟨S64x64, .f32⟩
  | .hbm, ⟨13, _⟩ => ⟨S1x64x1x64, .f32⟩
  | .hbm, ⟨14, _⟩ => ⟨S64x64, .f32⟩
  | .hbm, ⟨15, _⟩ => ⟨S1x64x1x64, .f32⟩
  | .hbm, ⟨16, _⟩ => ⟨S64x64, .f32⟩
  | .hbm, ⟨17, _⟩ => ⟨S1x64x1x64, .f32⟩
  | .hbm, ⟨18, _⟩ => ⟨S64x64, .f32⟩
  | .hbm, ⟨19, _⟩ => ⟨S1x64x1x64, .f32⟩
  | .hbm, ⟨20, _⟩ => ⟨S64x64, .f32⟩
  | .hbm, ⟨21, _⟩ => ⟨S1x64x1x64, .f32⟩
  | .hbm, ⟨22, _⟩ => ⟨S64x64, .f32⟩
  | .hbm, ⟨23, _⟩ => ⟨S1x64x1x64, .f32⟩
  | .hbm, ⟨24, _⟩ => ⟨S64x64, .f32⟩
  | .hbm, ⟨25, _⟩ => ⟨S1x64x64, .f32⟩
  | .hbm, ⟨26, _⟩ => ⟨S1x64x64, .f32⟩
  | .hbm, ⟨27, _⟩ => ⟨S1x64x64, .f32⟩
  | .hbm, ⟨28, _⟩ => ⟨S1x64x64, .f32⟩
  | .hbm, ⟨29, _⟩ => ⟨S1x64x64, .f32⟩
  | .hbm, ⟨30, _⟩ => ⟨S1x64x64, .f32⟩
  | .hbm, ⟨31, _⟩ => ⟨S1x64x64, .f32⟩
  | .hbm, ⟨32, _⟩ => ⟨S1x64x64, .f32⟩
  | .hbm, ⟨33, _⟩ => ⟨S8x64x64, .f32⟩
  | .hbm, ⟨34, _⟩ => ⟨S512x512, .f32⟩
  | .hbm, ⟨35, _⟩ => ⟨S8x64x8x64, .f32⟩
  | .hbm, ⟨36, _⟩ => ⟨S1x64x1x64, .f32⟩
  | .hbm, ⟨37, _⟩ => ⟨S64x64, .f32⟩
  | .hbm, ⟨38, _⟩ => ⟨S1x64x1x64, .f32⟩
  | .hbm, ⟨39, _⟩ => ⟨S64x64, .f32⟩
  | .hbm, ⟨40, _⟩ => ⟨S1x64x1x64, .f32⟩
  | .hbm, ⟨41, _⟩ => ⟨S64x64, .f32⟩
  | .hbm, ⟨42, _⟩ => ⟨S1x64x1x64, .f32⟩
  | .hbm, ⟨43, _⟩ => ⟨S64x64, .f32⟩
  | .hbm, ⟨44, _⟩ => ⟨S1x64x1x64, .f32⟩
  | .hbm, ⟨45, _⟩ => ⟨S64x64, .f32⟩
  | .hbm, ⟨46, _⟩ => ⟨S1x64x1x64, .f32⟩
  | .hbm, ⟨47, _⟩ => ⟨S64x64, .f32⟩
  | .hbm, ⟨48, _⟩ => ⟨S1x64x1x64, .f32⟩
  | .hbm, ⟨49, _⟩ => ⟨S64x64, .f32⟩
  | .hbm, ⟨50, _⟩ => ⟨S1x64x1x64, .f32⟩
  | .hbm, ⟨51, _⟩ => ⟨S64x64, .f32⟩
  | .hbm, ⟨52, _⟩ => ⟨S1x64x64, .f32⟩
  | .hbm, ⟨53, _⟩ => ⟨S1x64x64, .f32⟩
  | .hbm, ⟨54, _⟩ => ⟨S1x64x64, .f32⟩
  | .hbm, ⟨55, _⟩ => ⟨S1x64x64, .f32⟩
  | .hbm, ⟨56, _⟩ => ⟨S1x64x64, .f32⟩
  | .hbm, ⟨57, _⟩ => ⟨S1x64x64, .f32⟩
  | .hbm, ⟨58, _⟩ => ⟨S1x64x64, .f32⟩
  | .hbm, ⟨59, _⟩ => ⟨S1x64x64, .f32⟩
  | .hbm, ⟨60, _⟩ => ⟨S8x64x64, .f32⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DLruWRefIdeal.lean ====
abbrev S4096x512 : Shape := ⟨2, ![4096, 512]⟩
abbrev S8x64x64 : Shape := ⟨3, ![8, 64, 64]⟩
abbrev S4096x8x64 : Shape := ⟨3, ![4096, 8, 64]⟩
abbrev S8x64x4096 : Shape := ⟨3, ![8, 64, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8x64x64, .f32⟩
  | .hbm, ⟨2, _⟩ => ⟨S8x64x64, .f32⟩
  | .hbm, ⟨3, _⟩ => ⟨S4096x512, .f32⟩
  | .hbm, ⟨4, _⟩ => ⟨S4096x512, .f32⟩
  | .hbm, ⟨5, _⟩ => ⟨S4096x8x64, .f32⟩
  | .hbm, ⟨6, _⟩ => ⟨S8x64x4096, .f32⟩
  | .hbm, ⟨7, _⟩ => ⟨S4096x8x64, .f32⟩
  | .hbm, ⟨8, _⟩ => ⟨S4096x512, .f32⟩
  | .hbm, ⟨9, _⟩ => ⟨S8x64x4096, .f32⟩
  | .hbm, ⟨10, _⟩ => ⟨S4096x8x64, .f32⟩
  | .hbm, ⟨11, _⟩ => ⟨S4096x512, .f32⟩
  | .hbm, ⟨12, _⟩ => ⟨S4096x8x64, .f32⟩
  | .hbm, ⟨13, _⟩ => ⟨S8x64x4096, .f32⟩
  | .hbm, ⟨14, _⟩ => ⟨S8x64x64, .f32⟩
  | .hbm, ⟨15, _⟩ => ⟨S8x64x64, .f32⟩
  | .hbm, ⟨16, _⟩ => ⟨S4096x8x64, .f32⟩
  | .hbm, ⟨17, _⟩ => ⟨S8x64x4096, .f32⟩
  | .hbm, ⟨18, _⟩ => ⟨S8x64x64, .f32⟩
  | .hbm, ⟨19, _⟩ => ⟨S8x64x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== PoolMm.lean ====
abbrev S4096x512 : Shape := ⟨2, ![4096, 512]⟩
abbrev S4x128x128 : Shape := ⟨3, ![4, 128, 128]⟩
abbrev S512 : Shape := ⟨1, ![512]⟩
abbrev S4x4 : Shape := ⟨2, ![4, 4]⟩
abbrev S_ : Shape := ⟨0, ![]⟩
abbrev S4x1x4x1 : Shape := ⟨4, ![4, 1, 4, 1]⟩
abbrev S4x128x1x128 : Shape := ⟨4, ![4, 128, 1, 128]⟩
abbrev S4x128x4x128 : Shape := ⟨4, ![4, 128, 4, 128]⟩
abbrev S512x512 : Shape := ⟨2, ![512, 512]⟩
abbrev S1x512 : Shape := ⟨2, ![1, 512]⟩
abbrev S1024x512 : Shape := ⟨2, ![1024, 512]⟩

abbrev nBuf : Space → Nat
  | .hbm => 19
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S512, .f32⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .f32⟩
  | .hbm, ⟨10, _⟩ => ⟨S4x1x4x1, .f32⟩
  | .hbm, ⟨11, _⟩ => ⟨S4x128x1x128, .f32⟩
  | .hbm, ⟨12, _⟩ => ⟨S4x128x4x128, .f32⟩
  | .hbm, ⟨13, _⟩ => ⟨S4x128x4x128, .f32⟩
  | .hbm, ⟨14, _⟩ => ⟨S4x128x4x128, .f32⟩
  | .hbm, ⟨15, _⟩ => ⟨S512x512, .f32⟩
  | .hbm, ⟨16, _⟩ => ⟨S1x512, .f32⟩
  | .hbm, ⟨17, _⟩ => ⟨S4096x512, .f32⟩
  | .hbm, ⟨18, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== PoolMmRefIdeal.lean ====
abbrev S4096x512 : Shape := ⟨2, ![4096, 512]⟩
abbrev S4x128x128 : Shape := ⟨3, ![4, 128, 128]⟩
abbrev S512 : Shape := ⟨1, ![512]⟩
abbrev S4096x4x128 : Shape := ⟨3, ![4096, 4, 128]⟩
abbrev S4x128x4096 : Shape := ⟨3, ![4, 128, 4096]⟩
abbrev S1x512 : Shape := ⟨2, ![1, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x128x128, .f32⟩
  | .hbm, ⟨2, _⟩ => ⟨S512, .f32⟩
  | .hbm, ⟨3, _⟩ => ⟨S4096x4x128, .f32⟩
  | .hbm, ⟨4, _⟩ => ⟨S4x128x4096, .f32⟩
  | .hbm, ⟨5, _⟩ => ⟨S4096x4x128, .f32⟩
  | .hbm, ⟨6, _⟩ => ⟨S4096x512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== LruMm.lean ====
abbrev S4096x512 : Shape := ⟨2, ![4096, 512]⟩
abbrev S8x64x64 : Shape := ⟨3, ![8, 64, 64]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 33
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S8x64x64, .f32⟩
  | .hbm, ⟨2, _⟩ => ⟨S8x64x64, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S8x1x8x1, .f32⟩
  | .hbm, ⟨11, _⟩ => ⟨S8x64x1x64, .f32⟩
  | .hbm, ⟨12, _⟩ => ⟨S8x64x8x64, .f32⟩
  | .hbm, ⟨13, _⟩ => ⟨S8x64x8x64, .f32⟩
  | .hbm, ⟨14, _⟩ => ⟨S8x64x8x64, .f32⟩
  | .hbm, ⟨15, _⟩ => ⟨S512x512, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S8x1x8x1, .f32⟩
  | .hbm, ⟨24, _⟩ => ⟨S8x64x1x64, .f32⟩
  | .hbm, ⟨25, _⟩ => ⟨S8x64x8x64, .f32⟩
  | .hbm, ⟨26, _⟩ => ⟨S8x64x8x64, .f32⟩
  | .hbm, ⟨27, _⟩ => ⟨S8x64x8x64, .f32⟩
  | .hbm, ⟨28, _⟩ => ⟨S512x512, .f32⟩
  | .hbm, ⟨29, _⟩ => ⟨S512x1024, .f32⟩
  | .hbm, ⟨30, _⟩ => ⟨S4096x1024, .f32⟩
  | .hbm, ⟨31, _⟩ => ⟨S4096x512, .f32⟩
  | .hbm, ⟨32, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruMmRefIdeal.lean ====
abbrev S4096x512 : Shape := ⟨2, ![4096, 512]⟩
abbrev S8x64x64 : Shape := ⟨3, ![8, 64, 64]⟩
abbrev S4096x8x64 : Shape := ⟨3, ![4096, 8, 64]⟩
abbrev S8x64x4096 : Shape := ⟨3, ![8, 64, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8x64x64, .f32⟩
  | .hbm, ⟨2, _⟩ => ⟨S8x64x64, .f32⟩
  | .hbm, ⟨3, _⟩ => ⟨S4096x8x64, .f32⟩
  | .hbm, ⟨4, _⟩ => ⟨S8x64x4096, .f32⟩
  | .hbm, ⟨5, _⟩ => ⟨S4096x8x64, .f32⟩
  | .hbm, ⟨6, _⟩ => ⟨S4096x512, .f32⟩
  | .hbm, ⟨7, _⟩ => ⟨S8x64x4096, .f32⟩
  | .hbm, ⟨8, _⟩ => ⟨S4096x8x64, .f32⟩
  | .hbm, ⟨9, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DXc.lean ====
abbrev S4096x512 : Shape := ⟨2, ![4096, 512]⟩
abbrev S8x64x64 : Shape := ⟨3, ![8, 64, 64]⟩
abbrev S4096x1024 : Shape := ⟨2, ![4096, 1024]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 35
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S8x64x64, .f32⟩
  | .hbm, ⟨2, _⟩ => ⟨S8x64x64, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S8x1x8x1, .f32⟩
  | .hbm, ⟨15, _⟩ => ⟨S8x64x1x64, .f32⟩
  | .hbm, ⟨16, _⟩ => ⟨S8x64x8x64, .f32⟩
  | .hbm, ⟨17, _⟩ => ⟨S8x64x8x64, .f32⟩
  | .hbm, ⟨18, _⟩ => ⟨S8x64x8x64, .f32⟩
  | .hbm, ⟨19, _⟩ => ⟨S512x512, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S8x1x8x1, .f32⟩
  | .hbm, ⟨28, _⟩ => ⟨S8x64x1x64, .f32⟩
  | .hbm, ⟨29, _⟩ => ⟨S8x64x8x64, .f32⟩
  | .hbm, ⟨30, _⟩ => ⟨S8x64x8x64, .f32⟩
  | .hbm, ⟨31, _⟩ => ⟨S8x64x8x64, .f32⟩
  | .hbm, ⟨32, _⟩ => ⟨S512x512, .f32⟩
  | .hbm, ⟨33, _⟩ => ⟨S512x1024, .f32⟩
  | .hbm, ⟨34, _⟩ => ⟨S4096x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v15 : BitVec 1 := Scalar.cmpi .eq arg2 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DXcRefIdeal.lean ====
abbrev S4096x512 : Shape := ⟨2, ![4096, 512]⟩
abbrev S8x64x64 : Shape := ⟨3, ![8, 64, 64]⟩
abbrev S4096x8x64 : Shape := ⟨3, ![4096, 8, 64]⟩
abbrev S8x64x4096 : Shape := ⟨3, ![8, 64, 4096]⟩
abbrev S8x4096x64 : Shape := ⟨3, ![8, 4096, 64]⟩

abbrev nBuf : Space → Nat
  | .hbm => 24
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8x64x64, .f32⟩
  | .hbm, ⟨2, _⟩ => ⟨S8x64x64, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8x64, .f32⟩
  | .hbm, ⟨7, _⟩ => ⟨S8x64x4096, .f32⟩
  | .hbm, ⟨8, _⟩ => ⟨S4096x8x64, .f32⟩
  | .hbm, ⟨9, _⟩ => ⟨S4096x512, .f32⟩
  | .hbm, ⟨10, _⟩ => ⟨S8x64x4096, .f32⟩
  | .hbm, ⟨11, _⟩ => ⟨S4096x8x64, .f32⟩
  | .hbm, ⟨12, _⟩ => ⟨S4096x512, .f32⟩
  | .hbm, ⟨13, _⟩ => ⟨S4096x8x64, .f32⟩
  | .hbm, ⟨14, _⟩ => ⟨S8x64x4096, .f32⟩
  | .hbm, ⟨15, _⟩ => ⟨S8x4096x64, .f32⟩
  | .hbm, ⟨16, _⟩ => ⟨S4096x8x64, .f32⟩
  | .hbm, ⟨17, _⟩ => ⟨S4096x8x64, .f32⟩
  | .hbm, ⟨18, _⟩ => ⟨S8x64x4096, .f32⟩
  | .hbm, ⟨19, _⟩ => ⟨S8x4096x64, .f32⟩
  | .hbm, ⟨20, _⟩ => ⟨S4096x8x64, .f32⟩
  | .hbm, ⟨21, _⟩ => ⟨S4096x8x64, .f32⟩
  | .hbm, ⟨22, _⟩ => ⟨S4096x512, .f32⟩
  | .hbm, ⟨23, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== FlashFwd.lean ====
abbrev S4096x1024 : Shape := ⟨2, ![4096, 1024]⟩
abbrev S_ : Shape := ⟨0, ![]⟩
abbrev S8x1x4096 : Shape := ⟨3, ![8, 1, 4096]⟩
abbrev S512x128 : Shape := ⟨2, ![512, 128]⟩
abbrev S4096x128 : Shape := ⟨2, ![4096, 128]⟩
abbrev S1x1x512 : Shape := ⟨3, ![1, 1, 512]⟩
abbrev S512x1 : Shape := ⟨2, ![512, 1]⟩
abbrev S512x512 : Shape := ⟨2, ![512, 512]⟩
abbrev S512 : Shape := ⟨1, ![512]⟩
abbrev S128x512 : Shape := ⟨2, ![128, 512]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S8x1x4096, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S1x1x512, .f32⟩
  | .local _ .vmem, ⟨9, _⟩ => ⟨S1x1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  ⟨c0_i32, v9, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c512_i32_18 : BitVec 32 := 512#32
  let v56 : BitVec 32 := Scalar.muli arg7 c512_i32_18
  v56
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_18 : BitVec 32 := 512#32
  let v56 : BitVec 32 := Scalar.muli arg7 c512_i32_18
  let v57 : BitVec 32 := v56
  let v58 : Index := Scalar.indexCast v57
  let c0_19 : Index := 0#32
  ![v58.toNat, 0]
def k0_mult2 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c512_i32_23 : BitVec 32 := 512#32
  let v75 : BitVec 32 := Scalar.muli arg7 c512_i32_23
  v75
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_4 : BitVec 32 := 1#32
  ⟨v9, v6, c1_i32_4⟩
def k0_mult3 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c512_i32_18 : BitVec 32 := 512#32
  let v56 : BitVec 32 := Scalar.muli arg7 c512_i32_18
  v56
def k0_off2 (i : grid0.Coords) (k0_t2 : Fin (k0_t2_loop i).trips) : Fin 2 → Nat :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c512_i32_18 : BitVec 32 := 512#32
  let v56 : BitVec 32 := Scalar.muli arg7 c512_i32_18
  let v57 : BitVec 32 := v56
  let v58 : Index := Scalar.indexCast v57
  let c0_19 : Index := 0#32
  ![v58.toNat, 0]
def k0_mult4 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c512_i32_23 : BitVec 32 := 512#32
  let v75 : BitVec 32 := Scalar.muli arg7 c512_i32_23
  v75
def k0_mult5 (i : grid0.Coords) : BitVec 32 :=
  let arg1 : BitVec 32 := BitVec.ofNat 32 (i 1).val
  let c512_i32 : BitVec 32 := 512#32
  let v12 : BitVec 32 := Scalar.muli arg1 c512_i32
  v12
def k0_off3 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_5 : Index := 0#32
  ![v14.toNat, 0]
def k0_mult6 (i : grid0.Coords) : BitVec 32 :=
  let arg1 : BitVec 32 := BitVec.ofNat 32 (i 1).val
  let c512_i32_10 : BitVec 32 := 512#32
  let v36 : BitVec 32 := Scalar.muli arg1 c512_i32_10
  v36
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashFwdRefIdeal.lean ====
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x1x4096 : Shape := ⟨3, ![8, 1, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x8x128, .f32⟩
  | .hbm, ⟨4, _⟩ => ⟨S4096x1024, .f32⟩
  | .hbm, ⟨5, _⟩ => ⟨S4096x8x128, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S8x4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S4096x1024, .f32⟩
  | .hbm, ⟨34, _⟩ => ⟨S4096x1024, .f32⟩
  | .hbm, ⟨35, _⟩ => ⟨S4096x8x128, .f32⟩
  | .hbm, ⟨36, _⟩ => ⟨S4096x8x128, .f32⟩
  | .hbm, ⟨37, _⟩ => ⟨S8x4096x4096, .f32⟩
  | .hbm, ⟨38, _⟩ => ⟨S_, .f32⟩
  | .hbm, ⟨39, _⟩ => ⟨S8x4096x4096, .f32⟩
  | .hbm, ⟨40, _⟩ => ⟨S8x4096x4096, .f32⟩
  | .hbm, ⟨41, _⟩ => ⟨S4096, .i32⟩
  | .hbm, ⟨42, _⟩ => ⟨S4096x1, .i32⟩
  | .hbm, ⟨43, _⟩ => ⟨S4096, .i32⟩
  | .hbm, ⟨44, _⟩ => ⟨S1x4096, .i32⟩
  | .hbm, ⟨45, _⟩ => ⟨S4096x4096, .i32⟩
  | .hbm, ⟨46, _⟩ => ⟨S4096x4096, .i32⟩
  | .hbm, ⟨47, _⟩ => ⟨S4096x4096, .i1⟩
  | .hbm, ⟨48, _⟩ => ⟨S_, .f32⟩
  | .hbm, ⟨49, _⟩ => ⟨S_, .f32⟩
  | .hbm, ⟨50, _⟩ => ⟨S8x4096x4096, .i1⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S8x4096, .f32⟩
  | .hbm, ⟨55, _⟩ => ⟨S_, .f32⟩
  | .hbm, ⟨56, _⟩ => ⟨S8x4096, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S4096x8x128, .f32⟩
  | .hbm, ⟨68, _⟩ => ⟨S8x128x4096, .f32⟩
  | .hbm, ⟨69, _⟩ => ⟨S4096x8x128, .f32⟩
  | .hbm, ⟨70, _⟩ => ⟨S4096x1024, .f32⟩
  | .hbm, ⟨71, _⟩ => ⟨S4096x1024, .bf16⟩
  | .hbm, ⟨72, _⟩ => ⟨S8x1x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Ff1.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1RefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x1024, .f32⟩
  | .hbm, ⟨3, _⟩ => ⟨S4096x4096, .f32⟩
  | .hbm, ⟨4, _⟩ => ⟨S4096x4096, .bf16⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Ff2.lean ====
abbrev S4096x4096 : Shape := ⟨2, ![4096, 4096]⟩
abbrev S4096x1024 : Shape := ⟨2, ![4096, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2RefIdeal.lean ====
abbrev S4096x4096 : Shape := ⟨2, ![4096, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== PleEmb.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleEmbRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleGate.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== PleGateRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Frames.lean ====
/-
  The kernel runs to its end over any float values and leaves its arguments alone: a run that says nothing of what
  the three results hold.
-/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Tactic

@[expose] public section

set_option maxRecDepth 16384

noncomputable section

namespace Cert.Kernel.Sweep

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is its head's first key block. -/
abbrev firstBlock (i : grid0.Coords) : Prop := Scalar.cmpi .ne (Scalar.extui (Scalar.cmpi .eq (BitVec.ofNat 32 (i 1).val) 0#32)) 0#32 = 1#1
/-- The point is its head's last key block. -/
abbrev lastBlock (i : grid0.Coords) : Prop := Scalar.cmpi .ne (Scalar.extui (Scalar.cmpi .eq (BitVec.ofNat 32 (i 1).val) 7#32)) 0#32 = 1#1

set_option maxHeartbeats 4000000 in
/-- The body at any point leaves its six inputs as they were. -/
theorem run_any (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .f32) (harg10 : arg10.IsWhole)
    (x0 : Vec F S4096x128 .bf16) (x1 : Vec F S512x128 .bf16) (x2 : Vec F S512x128 .bf16) (x3 : Vec F S4096x128 .bf16) (x4 : Vec F S1x1x4096 .f32) (x5 : Vec F S1x1x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_flash_bwd i arg2 harg2 arg3 harg3 arg4 harg4 arg5 harg5 arg6 harg6 arg7 harg7 arg8 harg8 arg9 harg9 arg10 harg10) K := by
    intro E K
    simp only [cc0_flash_bwd_eq_skeleton]; unfold cc0_flash_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    by_cases hc0 : firstBlock i <;> by_cases hc1 : lastBlock i
    all_goals
      sl_exec (disch := first | sl_exact hc0 | sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; iexists _; isplitr; swap; · iexact H6
        ipureintro; rfl
      isplitl [H7]
      · iexists _; iexists _; isplitr; swap; · iexact H7
        ipureintro; rfl
      iexists _; iexists _; isplitr; swap; · iexact H8
      ipureintro; rfl

variable (m : (ℓ : Loc nD τ sig) → Buf (Elt F) ℓ) (ρ : Dev nD → PrngReg)

/-- The three results. -/
def results : Fin cfg0.W → Bool := fun w => decide (6 ≤ w.val)

/-- What each window's buffer holds after the body: the inputs' blocks; of the results nothing is said. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Classical.arbitrary _
    | ⟨7, _⟩ => Classical.arbitrary _
    | ⟨8, _⟩ => Classical.arbitrary _
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d

/-- What the body is called with at point `t`. -/
def fPre (c : Dev nD) (t : Fin cfg0.N) : sProp 𝕄 :=
  iprop((fdats m 0 c).Φ t.castSucc ∗ (fdats m 0 c).owesAt () t.castSucc
    ∗ (∃ d, owns (c : Thread nD τ) (win0_0.stage (cfg0.slots t 0)) fullShare ((fdats m 0 c).before 0 t d))
    ∗ (∃ d, owns (c : Thread nD τ) (win0_1.stage (cfg0.slots t 1)) fullShare ((fdats m 0 c).before 1 t d))
    ∗ (∃ d, owns (c : Thread nD τ) (win0_2.stage (cfg0.slots t 2)) fullShare ((fdats m 0 c).before 2 t d))
    ∗ (∃ d, owns (c : Thread nD τ) (win0_3.stage (cfg0.slots t 3)) fullShare ((fdats m 0 c).before 3 t d))
    ∗ (∃ d, owns (c : Thread nD τ) (win0_4.stage (cfg0.slots t 4)) fullShare ((fdats m 0 c).before 4 t d))
    ∗ (∃ d, owns (c : Thread nD τ) (win0_5.stage (cfg0.slots t 5)) fullShare ((fdats m 0 c).before 5 t d))
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

/-- What it returns. -/
def fPost (c : Dev nD) (t : Fin cfg0.N) : sProp 𝕄 :=
  iprop((fdats m 0 c).Φ t.succ ∗ (fdats m 0 c).owesAt () t.succ
    ∗ owns (c : Thread nD τ) (win0_0.stage (cfg0.slots t 0)) fullShare ((fdats m 0 c).after 0 t)
    ∗ owns (c : Thread nD τ) (win0_1.stage (cfg0.slots t 1)) fullShare ((fdats m 0 c).after 1 t)
    ∗ owns (c : Thread nD τ) (win0_2.stage (cfg0.slots t 2)) fullShare ((fdats m 0 c).after 2 t)
    ∗ owns (c : Thread nD τ) (win0_3.stage (cfg0.slots t 3)) fullShare ((fdats m 0 c).after 3 t)
    ∗ owns (c : Thread nD τ) (win0_4.stage (cfg0.slots t 4)) fullShare ((fdats m 0 c).after 4 t)
    ∗ owns (c : Thread nD τ) (win0_5.stage (cfg0.slots t 5)) fullShare ((fdats m 0 c).after 5 t)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

theorem fbody (c : Dev nD) (t : Fin cfg0.N) :
    fPre m c t ⊢ wp frame (wpE (defs₀ (F := F)) Variants.none c none) Set.univ (bodyAt0 t) (fun _ => fPost m c t) := by
  unfold fPre fPost bodyAt0
  simp only [fbefore_0, fbefore_1, fbefore_2, fbefore_3, fbefore_4, fbefore_5]
  rw [show (fdats m 0 c).Φ t.succ = (fdats m 0 c).Φ t.castSucc from rfl,
    show (fdats m 0 c).owesAt () t.succ = (fdats m 0 c).owesAt () t.castSucc from rfl,
    fafter_0, fafter_1, fafter_2, fafter_3, fafter_4, fafter_5]
  iintro ⟨HΦ, Ho, ⟨%d0, H0⟩, ⟨%d1, H1⟩, ⟨%d2, H2⟩, ⟨%d3, H3⟩, ⟨%d4, H4⟩, ⟨%d5, H5⟩, H6, H7, H8⟩
  iapply (run_any c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem fdefs_row (t : Fin cfg0.N) : defs₀ (F := F) .tc cfg0.body (cfg0.bodyArgs t (cfg0.slots t)) = bodyAt0 t := by
  unfold defs₀; rw [Defs.onTc_tc]

theorem fobligation (c : Dev nD) : BodyObligation (fdats m 0 c) (defs₀ (F := F)) Variants.none () Set.univ results := fun t => by
  rw [bigSep_W0, bigSep_W0, fdefs_row]
  exact triple_restated (fbody m c t) rfl .rfl fun _ => .rfl

set_option backward.isDefEq.respectTransparency.types false in
theorem frun : θ_run defs (onTc (τ := τ) (main (F := F))) (s₀ m ρ)
    (fun r => Pipeline.RDat.FramePost cfg0 (fun c => (fdats m 0 c).toRForget results) (V m) r ∧ r.2.sem = fun _ => 0) :=
  Pipeline.θ_run_frame_forget (Q' := _) cfgs (fdats m) (0 : Fin 1) launch0 defs₀ Variants.none results m ρ main
    (hbody := fun c => (fobligation m c).loose) (hshare := fun c => (fdats m 0 c).share_full fun _ => rfl)
    (howed := fun _ _ => rfl) (V := V m) (hmain := hmain m Variants.none) (hA := fA_eq m) (hΦ := fun _ _ => rfl)

/-- The arguments end unchanged, and every counter is zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 1 rfl).trans ((fA_eq m c 1).trans (V_main_arg1 m c)),
      (h.1.arr_in c 2 rfl).trans ((fA_eq m c 2).trans (V_main_arg2 m c)),
      (h.1.arr_in c 3 rfl).trans ((fA_eq m c 3).trans (V_main_arg3 m c))⟩, h.2⟩) (frun m ρ)

end Cert.Kernel.Sweep

end
-- ==== Proof.Steps.lean ====
/-
  One step of the backward sweep, read at an index over the extended reals: what the kernel's body computes from a block
  of 512 keys and a block of 512 query rows — the weights `exp (k · q - lse)`, the score gradients
  `weight * (v · do - delta)`, and the three products that are added to the gradients of q, k and v.
-/
module

public import proofs.«01_k».proof.Proof.Gen.KernelIdeal.Skeleton
public import Idealize.ShloMosaic.Lib.Pointwise
public import Idealize.ShloMosaic.Lib.WordCmp

@[expose] public section

noncomputable section

namespace Cert.KernelIdeal.Sweep

open Cert.KernelIdeal Cert.KernelIdeal.Gen Idealize.ShloMosaic Idealize.ShloMosaic.TcCoe

/-- The weight of key `a` for query row `b` of a block pair: `exp (k_a · q_b - lse_b)`. -/
def wt (k q : FVec Ideal S512x128 .bf16) (ls : FVec Ideal S1x1x512 .f32) (a b : Fin 512) : EReal :=
  Ideal.exp ((∑ d : Fin 128, k (ix2 a d) * q (ix2 b d)) - ls (ix3 0 0 b))

/-- How far the product of value `a` and output gradient `b` lies from the row's delta. -/
def dd (v g : FVec Ideal S512x128 .bf16) (dl : FVec Ideal S1x1x512 .f32) (a b : Fin 512) : EReal :=
  (∑ d : Fin 128, v (ix2 a d) * g (ix2 b d)) - dl (ix3 0 0 b)

theorem pay4_apply (v0 v61 : FVec Ideal S512x128 .bf16) (v67 : FVec Ideal S1x1x512 .f32) (a b : Fin 512) :
    k0_pay4 (F := Ideal) v0 v61 v67 (ix2 a b) = wt v0 v61 v67 a b := by
  unfold wt
  pointwise [k0_pay4, k0_pay3, dot_S512x128_S512x128_S512x512_1_1_0_0_n_n]

theorem pay5_apply (v0 v1 v61 v64 : FVec Ideal S512x128 .bf16) (v67 v74 : FVec Ideal S1x1x512 .f32) (a b : Fin 512) :
    k0_pay5 (F := Ideal) v0 v1 v61 v64 v67 v74 (ix2 a b) = wt v0 v61 v67 a b * dd v1 v64 v74 a b := by
  unfold wt dd
  pointwise [k0_pay5, k0_pay4, k0_pay3, dot_S512x128_S512x128_S512x512_1_1_0_0_n_n]

theorem pay6_apply (v0 v1 v61 v64 : FVec Ideal S512x128 .bf16) (v67 v74 : FVec Ideal S1x1x512 .f32) (v81 : FVec Ideal S512x128 .f32) (b : Fin 512) (c : Fin 128) :
    k0_pay6 (F := Ideal) v0 v1 v61 v64 v67 v74 v81 (ix2 b c)
      = v81 (ix2 b c) + ∑ a : Fin 512, wt v0 v61 v67 a b * dd v1 v64 v74 a b * v0 (ix2 a c) := by
  simp only [← pay5_apply]
  pointwise [k0_pay6, dot_S512x512_S512x128_S512x128_0_0_1_1_n_n]

theorem pay7_apply (v0 v1 v61 v64 : FVec Ideal S512x128 .bf16) (v67 v74 : FVec Ideal S1x1x512 .f32) (acc : FVec Ideal S512x128 .f32) (a : Fin 512) (c : Fin 128) :
    k0_pay7 (F := Ideal) v0 v1 acc v61 v64 v67 v74 (ix2 a c)
      = acc (ix2 a c) + ∑ b : Fin 512, wt v0 v61 v67 a b * dd v1 v64 v74 a b * v61 (ix2 b c) := by
  simp only [← pay5_apply]
  pointwise [k0_pay7, k0_pay3, dot_S512x512_S512x128_S512x128_1_0_0_1_n_n]

theorem pay8_apply (v0 v61 v64 : FVec Ideal S512x128 .bf16) (v67 : FVec Ideal S1x1x512 .f32) (acc : FVec Ideal S512x128 .f32) (a : Fin 512) (c : Fin 128) :
    k0_pay8 (F := Ideal) v0 acc v61 v64 v67 (ix2 a c)
      = acc (ix2 a c) + ∑ b : Fin 512, wt v0 v61 v67 a b * v64 (ix2 b c) := by
  simp only [← pay4_apply]
  pointwise [k0_pay8, dot_S512x512_S512x128_S512x128_1_0_0_1_n_n]

/-- The step on the diagonal keeps the weights of the keys at or below the query row. -/
theorem pay19_apply (v0 v9 : FVec Ideal S512x128 .bf16) (v15 : FVec Ideal S1x1x512 .f32) (a b : Fin 512) :
    k0_pay19 (F := Ideal) v0 v9 v15 (ix2 a b) = if a.val ≤ b.val then wt v0 v9 v15 a b else 0 := by
  unfold wt
  pointwise [k0_pay19, k0_pay18, dot_S512x128_S512x128_S512x512_1_1_0_0_n_n]
  rw [WordCmp.cmpi_sle_ofNat (by have := a.isLt; omega) (by have := b.isLt; omega)]
  by_cases h : a.val ≤ b.val <;> simp [h, Scalar.select]

theorem pay20_apply (v0 v1 v9 v12 : FVec Ideal S512x128 .bf16) (v15 v27 : FVec Ideal S1x1x512 .f32) (a b : Fin 512) :
    k0_pay20 (F := Ideal) v0 v1 v9 v12 v15 v27 (ix2 a b) = (if a.val ≤ b.val then wt v0 v9 v15 a b else 0) * dd v1 v12 v27 a b := by
  rw [← pay19_apply]
  unfold dd
  pointwise [k0_pay20, dot_S512x128_S512x128_S512x512_1_1_0_0_n_n]

theorem pay21_apply (v0 v1 v9 v12 : FVec Ideal S512x128 .bf16) (v15 v27 : FVec Ideal S1x1x512 .f32) (v34 : FVec Ideal S512x128 .f32) (b : Fin 512) (c : Fin 128) :
    k0_pay21 (F := Ideal) v0 v1 v9 v12 v15 v27 v34 (ix2 b c)
      = v34 (ix2 b c) + ∑ a : Fin 512, (if a.val ≤ b.val then wt v0 v9 v15 a b else 0) * dd v1 v12 v27 a b * v0 (ix2 a c) := by
  simp only [← pay20_apply]
  pointwise [k0_pay21, dot_S512x512_S512x128_S512x128_0_0_1_1_n_n]

theorem pay1_apply (v0 v1 v9 v12 : FVec Ideal S512x128 .bf16) (v15 v27 : FVec Ideal S1x1x512 .f32) (a : Fin 512) (c : Fin 128) :
    k0_pay1 (F := Ideal) k0_pay17 (k0_pay18 v9) (k0_pay20 v0 v1 v9 v12 v15 v27) (ix2 a c)
      = ∑ b : Fin 512, (if a.val ≤ b.val then wt v0 v9 v15 a b else 0) * dd v1 v12 v27 a b * v9 (ix2 b c) := by
  simp only [← pay20_apply]
  pointwise [k0_pay1, k0_pay17, k0_pay18, dot_S512x512_S512x128_S512x128_1_0_0_1_n_n]

theorem pay2_apply (v0 v9 v12 : FVec Ideal S512x128 .bf16) (v15 : FVec Ideal S1x1x512 .f32) (a : Fin 512) (c : Fin 128) :
    k0_pay2 (F := Ideal) k0_pay17 v12 (k0_pay19 v0 v9 v15) (ix2 a c)
      = ∑ b : Fin 512, (if a.val ≤ b.val then wt v0 v9 v15 a b else 0) * v12 (ix2 b c) := by
  simp only [← pay19_apply]
  pointwise [k0_pay2, k0_pay17, dot_S512x512_S512x128_S512x128_1_0_0_1_n_n]

/-- The factor the last key block multiplies the gradient of q by. -/
def scale : EReal := Ideal.ofBits .f32 0x3DD105EC#32

theorem pay15_apply (y : FVec Ideal S4096x128 .f32) (i : S4096x128.Idx) : k0_pay15 (F := Ideal) y i = y i * scale := by
  rw [eq_ix2 i]
  unfold scale
  pointwise [k0_pay15]

theorem pay16_apply (i : S4096x128.Idx) : k0_pay16 (F := Ideal) i = 0 := by
  rw [eq_ix2 i]
  pointwise [k0_pay16]

end Cert.KernelIdeal.Sweep

end
-- ==== Proof.Trip.lean ====
/-
  The loop over the query blocks above the diagonal. One trip adds its product to one block of rows of the gradient of
  q and to the two carried gradients; after `n` trips the rows of the blocks visited hold the sum, the others are as the
  loop found them.
-/
module

public import proofs.«01_k».proof.Proof.Steps
public import proofs.«01_k».proof.Proof.Gen.KernelIdeal.Loops
public import Idealize.ShloMosaic.Lib.WritesUnit
public import Idealize.ShloMosaic.Lib.Pipeline.FrameBody

@[expose] public section

noncomputable section

namespace Cert.KernelIdeal.Sweep

open Cert.KernelIdeal Cert.KernelIdeal.Gen Idealize.ShloMosaic Idealize.ShloMosaic.TcCoe Idealize.ShloMosaic.Tactic
open Idealize.SL Idealize.SL.RA Idealize.SL.BI Idealize.SL.Sem

variable {F : FTy → Type} [FloatOps F]

section Trip

variable (c : Dev nD) (bd : Option Variants.none.V) (i : grid0.Coords)
  (arg2 : Memref sig .tc .vmem S4096x128 .bf16) (harg2 : arg2.IsWhole) (arg3 : Memref sig .tc .vmem S512x128 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x1x4096 .f32) (harg6 : arg6.IsWhole) (arg7 : Memref sig .tc .vmem S1x1x4096 .f32) (harg7 : arg7.IsWhole)
  (arg8 : Memref sig .tc .vmem S4096x128 .f32) (harg8 : arg8.IsWhole) (arg9 : Memref sig .tc .vmem S512x128 .f32) (harg9 : arg9.IsWhole)
  (arg10 : Memref sig .tc .vmem S512x128 .f32) (harg10 : arg10.IsWhole)
  (v0 v1 : Vec F S512x128 .bf16)
  (X2 : BufTy.Contents (Elt F) arg2.view.ty) (X5 : BufTy.Contents (Elt F) arg5.view.ty)
  (X6 : BufTy.Contents (Elt F) arg6.view.ty) (X7 : BufTy.Contents (Elt F) arg7.view.ty)

theorem tripR_eq (k : Fin (k0_t1_loop i).trips) (acc : FVec F S512x128 .f32 × FVec F S512x128 .f32) (f : BufTy.Contents (Elt F) arg8.view.ty) :
    tripR_k0_t1 (F := F) Variants.none c bd i arg2 harg2 arg3 harg3 arg4 harg4 arg5 harg5 arg6 harg6 arg7 harg7 arg8 harg8 arg9 harg9 arg10 harg10 v0 v1 X2 X5 X6 X7 k acc f
      = (k0_pay7 v0 v1 acc.1
          (arg2.view.readAt (Elt F) (Rect.unit (s := S4096x128) (k0_off3 i k) S512x128.size (k0_off3_inb i k)) X2)
          (arg5.view.readAt (Elt F) (Rect.unit (s := S4096x128) (k0_off3 i k) S512x128.size (k0_off3_inb i k)) X5)
          (arg6.view.readAt (Elt F) (Rect.unit (s := S1x1x4096) (k0_off4 i k) S1x1x512.size (k0_off4_inb i k)) X6)
          (arg7.view.readAt (Elt F) (Rect.unit (s := S1x1x4096) (k0_off4 i k) S1x1x512.size (k0_off4_inb i k)) X7),
        k0_pay8 v0 acc.2
          (arg2.view.readAt (Elt F) (Rect.unit (s := S4096x128) (k0_off3 i k) S512x128.size (k0_off3_inb i k)) X2)
          (arg5.view.readAt (Elt F) (Rect.unit (s := S4096x128) (k0_off3 i k) S512x128.size (k0_off3_inb i k)) X5)
          (arg6.view.readAt (Elt F) (Rect.unit (s := S1x1x4096) (k0_off4 i k) S1x1x512.size (k0_off4_inb i k)) X6)) := by
  unfold tripR_k0_t1 trip_k0_t1; rfl

theorem tripL_eq (k : Fin (k0_t1_loop i).trips) (acc : FVec F S512x128 .f32 × FVec F S512x128 .f32) (f : BufTy.Contents (Elt F) arg8.view.ty) :
    tripL_k0_t1 (F := F) Variants.none c bd i arg2 harg2 arg3 harg3 arg4 harg4 arg5 harg5 arg6 harg6 arg7 harg7 arg8 harg8 arg9 harg9 arg10 harg10 v0 v1 X2 X5 X6 X7 k acc f
      = [⟨Rect.unit (s := S4096x128) (k0_off3 i k) S512x128.size (k0_off3_inb i k),
        k0_pay6 v0 v1
          (arg2.view.readAt (Elt F) (Rect.unit (s := S4096x128) (k0_off3 i k) S512x128.size (k0_off3_inb i k)) X2)
          (arg5.view.readAt (Elt F) (Rect.unit (s := S4096x128) (k0_off3 i k) S512x128.size (k0_off3_inb i k)) X5)
          (arg6.view.readAt (Elt F) (Rect.unit (s := S1x1x4096) (k0_off4 i k) S1x1x512.size (k0_off4_inb i k)) X6)
          (arg7.view.readAt (Elt F) (Rect.unit (s := S1x1x4096) (k0_off4 i k) S1x1x512.size (k0_off4_inb i k)) X7)
          (arg8.view.readAt (Elt F) (Rect.unit (s := S4096x128) (k0_off3 i k) S512x128.size (k0_off3_inb i k)) f)⟩] := by
  unfold tripL_k0_t1 trip_k0_t1; rfl

end Trip

theorem off1_eq : ∀ i : grid0.Coords, k0_off1 i = ![512 * (i 1).val, 0] := by decide +kernel
theorem off2_eq : ∀ i : grid0.Coords, k0_off2 i = ![0, 0, 512 * (i 1).val] := by decide +kernel
theorem trips_eq : ∀ i : grid0.Coords, (k0_t1_loop i).trips = 7 - (i 1).val := by decide +kernel
theorem trips2_eq : ∀ i : grid0.Coords, (k0_t2_loop i).trips = 0 := by decide +kernel
theorem off3_eq : ∀ (i : grid0.Coords) (k : Fin (k0_t1_loop i).trips), k0_off3 i k = ![512 * ((i 1).val + 1 + k.val), 0] := by decide +kernel
theorem off4_eq : ∀ (i : grid0.Coords) (k : Fin (k0_t1_loop i).trips), k0_off4 i k = ![0, 0, 512 * ((i 1).val + 1 + k.val)] := by decide +kernel

/-! ## Blocks of rows -/

/-- A function of the query rows, as one of all natural numbers. -/
def ext (f : Fin 4096 → EReal) (r : ℕ) : EReal := if h : r < 4096 then f ⟨r, h⟩ else 0

theorem ext_val (f : Fin 4096 → EReal) (r : Fin 4096) : ext f r.val = f r := dif_pos r.isLt

theorem sum_ext (f : Fin 4096 → EReal) : ∑ r : Fin 4096, f r = ∑ r ∈ Finset.range 4096, ext f r := by
  rw [Finset.sum_range]; exact Finset.sum_congr rfl fun r _ => (ext_val f r).symm

theorem row_lt {n : ℕ} (hn : n < 8) (b : Fin 512) : 512 * n + b.val < 4096 := by have := b.isLt; omega

/-- Row `b` of block `n`. -/
def row (n : ℕ) (hn : n < 8) (b : Fin 512) : Fin 4096 := ⟨512 * n + b.val, row_lt hn b⟩

/-- The sum over a block's rows. -/
theorem sum_block (f : Fin 4096 → EReal) (n : ℕ) (hn : n < 8) :
    ∑ b : Fin 512, f (row n hn b) = ∑ r ∈ Finset.Ico (512 * n) (512 * (n + 1)), ext f r := by
  rw [Finset.sum_Ico_eq_sum_range, show 512 * (n + 1) - 512 * n = 512 by omega, Finset.sum_range]
  exact Finset.sum_congr rfl fun b _ => (ext_val f (row n hn b)).symm

/-! ## What the body's loads read -/

section Loads

variable {e : EltTy} {n : ℕ} (hn : n < 8)

theorem ld_rows (x : S4096x128.Idx → Elt F e) {off : Fin 2 → ℕ} (inb : ∀ a, off a + S512x128.size a ≤ S4096x128.size a)
    (ho : off = ![512 * n, 0]) (b : Fin 512) (d : Fin 128) :
    View.ld (Val := Elt F) x (Rect.unit (s := S4096x128) off S512x128.size inb) (ix2 b d) = x (ix2 (row n hn b) d) := by
  subst ho
  show x _ = x _
  congr 1
  funext a
  apply Fin.ext
  match a with
  | ⟨0, _⟩ => show 512 * n + 1 * b.val = 512 * n + b.val; omega
  | ⟨1, _⟩ => show 0 + 1 * d.val = d.val; omega

theorem ld_lane (x : S1x1x4096.Idx → Elt F e) {off : Fin 3 → ℕ} (inb : ∀ a, off a + S1x1x512.size a ≤ S1x1x4096.size a)
    (ho : off = ![0, 0, 512 * n]) (b : Fin 512) :
    View.ld (Val := Elt F) x (Rect.unit (s := S1x1x4096) off S1x1x512.size inb) (ix3 0 0 b) = x (ix3 0 0 (row n hn b)) := by
  subst ho
  show x _ = x _
  congr 1
  funext a
  apply Fin.ext
  match a with
  | ⟨0, _⟩ => rfl
  | ⟨1, _⟩ => rfl
  | ⟨2, _⟩ => show 512 * n + 1 * b.val = 512 * n + b.val; omega

end Loads

/-- The weight of key `a` of the block for query row `r`, before the mask. -/
def E (x0 : FVec Ideal S4096x128 .bf16) (x1 : FVec Ideal S512x128 .bf16) (x4 : FVec Ideal S1x1x4096 .f32) (r : Fin 4096) (a : Fin 512) : EReal :=
  Ideal.exp ((∑ d : Fin 128, x1 (ix2 a d) * x0 (ix2 r d)) - x4 (ix3 0 0 r))

/-- How far the product of value `a` and the output gradient of row `r` lies from the row's delta. -/
def D (x2 : FVec Ideal S512x128 .bf16) (x3 : FVec Ideal S4096x128 .bf16) (x5 : FVec Ideal S1x1x4096 .f32) (r : Fin 4096) (a : Fin 512) : EReal :=
  (∑ d : Fin 128, x2 (ix2 a d) * x3 (ix2 r d)) - x5 (ix3 0 0 r)

section Blocks

variable (x0 : Vec Ideal S4096x128 .bf16) (x1 x2 : Vec Ideal S512x128 .bf16) (x3 : Vec Ideal S4096x128 .bf16) (x4 x5 : Vec Ideal S1x1x4096 .f32)
  {n : ℕ} (hn : n < 8) {off : Fin 2 → ℕ} (inb : ∀ a, off a + S512x128.size a ≤ S4096x128.size a) (ho : off = ![512 * n, 0])
  {off' : Fin 3 → ℕ} (inb' : ∀ a, off' a + S1x1x512.size a ≤ S1x1x4096.size a) (ho' : off' = ![0, 0, 512 * n])

include ho ho' in
theorem wt_block (a b : Fin 512) :
    wt x1 (View.ld (Val := Elt Ideal) x0 (Rect.unit (s := S4096x128) off S512x128.size inb))
      (View.ld (Val := Elt Ideal) x4 (Rect.unit (s := S1x1x4096) off' S1x1x512.size inb')) a b = E x0 x1 x4 (row n hn b) a := by
  unfold wt E
  simp only [ld_rows (F := Ideal) hn x0 inb ho, ld_lane (F := Ideal) hn x4 inb' ho']

include ho ho' in
theorem dd_block (a b : Fin 512) :
    dd x2 (View.ld (Val := Elt Ideal) x3 (Rect.unit (s := S4096x128) off S512x128.size inb))
      (View.ld (Val := Elt Ideal) x5 (Rect.unit (s := S1x1x4096) off' S1x1x512.size inb')) a b = D x2 x3 x5 (row n hn b) a := by
  unfold dd D
  simp only [ld_rows (F := Ideal) hn x3 inb ho, ld_lane (F := Ideal) hn x5 inb' ho']

end Blocks

/-! ## The loop's state after `n` trips -/

section State

variable (c : Dev nD) (bd : Option Variants.none.V) (i : grid0.Coords)
  (arg2 : Memref sig .tc .vmem S4096x128 .bf16) (harg2 : arg2.IsWhole) (arg3 : Memref sig .tc .vmem S512x128 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x1x4096 .f32) (harg6 : arg6.IsWhole) (arg7 : Memref sig .tc .vmem S1x1x4096 .f32) (harg7 : arg7.IsWhole)
  (arg8 : Memref sig .tc .vmem S4096x128 .f32) (harg8 : arg8.IsWhole) (arg9 : Memref sig .tc .vmem S512x128 .f32) (harg9 : arg9.IsWhole)
  (arg10 : Memref sig .tc .vmem S512x128 .f32) (harg10 : arg10.IsWhole)
  (x0 : Vec Ideal S4096x128 .bf16) (x1 x2 : Vec Ideal S512x128 .bf16) (x3 : Vec Ideal S4096x128 .bf16) (x4 x5 : Vec Ideal S1x1x4096 .f32)
  (G : BufTy.Contents (Elt Ideal) arg8.view.ty) (init : FVec Ideal S512x128 .f32 × FVec Ideal S512x128 .f32)

/-- The loop's state before trip `n`. -/
abbrev st (n : ℕ) := st_k0_t1 (F := Ideal) Variants.none c bd i arg2 harg2 arg3 harg3 arg4 harg4 arg5 harg5 arg6 harg6 arg7 harg7 arg8 harg8 arg9 harg9 arg10 harg10 x1 x2
  (harg2.unread x0) (harg5.unread x3) (harg6.unread x4) (harg7.unread x5) G init n

theorem st_spec (n : ℕ) (hn : (i 1).val + 1 + n ≤ 8) :
    (∀ (r : Fin 4096) (d : Fin 128), arg8.view.read (Elt Ideal) (arg8.view.writes (Elt Ideal) G (st c bd i arg2 harg2 arg3 harg3 arg4 harg4 arg5 harg5 arg6 harg6 arg7 harg7 arg8 harg8 arg9 harg9 arg10 harg10 x0 x1 x2 x3 x4 x5 G init n).2) (ix2 r d)
      = arg8.view.read (Elt Ideal) G (ix2 r d) + if 512 * ((i 1).val + 1) ≤ r.val ∧ r.val < 512 * ((i 1).val + 1 + n) then ∑ a : Fin 512, E x0 x1 x4 r a * D x2 x3 x5 r a * x1 (ix2 a d) else 0)
    ∧ (∀ (a : Fin 512) (d : Fin 128), (st c bd i arg2 harg2 arg3 harg3 arg4 harg4 arg5 harg5 arg6 harg6 arg7 harg7 arg8 harg8 arg9 harg9 arg10 harg10 x0 x1 x2 x3 x4 x5 G init n).1.1 (ix2 a d)
      = init.1 (ix2 a d) + ∑ r ∈ Finset.Ico (512 * ((i 1).val + 1)) (512 * ((i 1).val + 1 + n)), ext (fun r => E x0 x1 x4 r a * D x2 x3 x5 r a * x0 (ix2 r d)) r)
    ∧ (∀ (a : Fin 512) (d : Fin 128), (st c bd i arg2 harg2 arg3 harg3 arg4 harg4 arg5 harg5 arg6 harg6 arg7 harg7 arg8 harg8 arg9 harg9 arg10 harg10 x0 x1 x2 x3 x4 x5 G init n).1.2 (ix2 a d)
      = init.2 (ix2 a d) + ∑ r ∈ Finset.Ico (512 * ((i 1).val + 1)) (512 * ((i 1).val + 1 + n)), ext (fun r => E x0 x1 x4 r a * x3 (ix2 r d)) r) := by
  induction n with
  | zero =>
    refine ⟨fun r d => ?_, fun a d => ?_, fun a d => ?_⟩
    · rw [if_neg (by omega), add_zero]; rfl
    · simp only [Nat.add_zero, Finset.Ico_self, Finset.sum_empty, add_zero]; rfl
    · simp only [Nat.add_zero, Finset.Ico_self, Finset.sum_empty, add_zero]; rfl
  | succ n ih =>
    obtain ⟨ih1, ih2, ih3⟩ := ih (by omega)
    have hk : n < (k0_t1_loop i).trips := by rw [trips_eq]; omega
    have hb : (i 1).val + 1 + n < 8 := by omega
    have e := st_k0_t1_succ (F := Ideal) Variants.none c bd i arg2 harg2 arg3 harg3 arg4 harg4 arg5 harg5 arg6 harg6 arg7 harg7 arg8 harg8 arg9 harg9 arg10 harg10 x1 x2
      (harg2.unread x0) (harg5.unread x3) (harg6.unread x4) (harg7.unread x5) G init ⟨n, hk⟩
    rw [tripR_eq, tripL_eq] at e
    simp only [View.readAt_eq_ld, harg2.read_unread, harg5.read_unread, harg6.read_unread, harg7.read_unread] at e
    have o3 : k0_off3 i ⟨n, hk⟩ = ![512 * ((i 1).val + 1 + n), 0] := off3_eq i ⟨n, hk⟩
    have o4 : k0_off4 i ⟨n, hk⟩ = ![0, 0, 512 * ((i 1).val + 1 + n)] := off4_eq i ⟨n, hk⟩
    refine ⟨fun r d => ?_, fun a d => ?_, fun a d => ?_⟩
    · unfold st; rw [e, List.cons_append, List.nil_append]; dsimp only
      by_cases h : 512 * ((i 1).val + 1 + n) ≤ r.val ∧ r.val < 512 * ((i 1).val + 1 + n) + 512
      · have hr : r = row ((i 1).val + 1 + n) hb ⟨r.val - 512 * ((i 1).val + 1 + n), by omega⟩ := Fin.ext (by show r.val = 512 * ((i 1).val + 1 + n) + (r.val - 512 * ((i 1).val + 1 + n)); omega)
        refine (View.read_writes_cons_rows_of_mem (d := S4096x128.size) (size := S512x128.size) arg8.view G (k0_off3_inb i ⟨n, hk⟩) _ _ (ix2 r d) (ix2 ⟨r.val - 512 * ((i 1).val + 1 + n), by omega⟩ d) o3 (by show r.val = 512 * ((i 1).val + 1 + n) + (r.val - 512 * ((i 1).val + 1 + n)); omega) rfl).trans ?_
        rw [if_pos (by omega)]
        rw [pay6_apply, ld_rows (F := Ideal) hb _ _ o3]
        have h1 := ih1 r d
        rw [if_neg (by omega), add_zero] at h1
        rw [← hr]
        refine congrArg₂ (· + ·) h1 (Finset.sum_congr rfl fun a _ => congrArg₂ (· * ·) (congrArg₂ (· * ·) ((wt_block x0 x1 x4 hb _ o3 _ o4 _ _).trans ?_) ((dd_block x2 x3 x5 hb _ o3 _ o4 _ _).trans ?_)) rfl) <;> rw [← hr]
      · rw [View.read_writes_cons_rows_of_not_mem (d := S4096x128.size) (size := S512x128.size) arg8.view G (k0_off3_inb i ⟨n, hk⟩) _ _ (ix2 r d) o3 rfl (by show r.val < 512 * ((i 1).val + 1 + n) ∨ 512 * ((i 1).val + 1 + n) + 512 ≤ r.val; omega)]
        exact (ih1 r d).trans (congrArg (_ + ·) (if_congr (by omega) rfl rfl))
    · unfold st; rw [e]; dsimp only
      rw [pay7_apply]
      rw [Finset.sum_congr rfl fun b _ => congrArg₂ (· * ·) (congrArg₂ (· * ·) (wt_block x0 x1 x4 hb _ o3 _ o4 _ _) (dd_block x2 x3 x5 hb _ o3 _ o4 _ _)) (ld_rows (F := Ideal) hb x0 _ o3 _ _),
        sum_block (fun r => E x0 x1 x4 r a * D x2 x3 x5 r a * x0 (ix2 r d)) _ hb,
        ← Finset.sum_Ico_consecutive _ (show 512 * ((i 1).val + 1) ≤ 512 * ((i 1).val + 1 + n) by omega) (show 512 * ((i 1).val + 1 + n) ≤ 512 * ((i 1).val + 1 + (n + 1)) by omega), ← add_assoc]
      exact congrArg (· + _) (ih2 a d)
    · unfold st; rw [e]; dsimp only
      rw [pay8_apply]
      rw [Finset.sum_congr rfl fun b _ => congrArg₂ (· * ·) (wt_block x0 x1 x4 hb _ o3 _ o4 _ _) (ld_rows (F := Ideal) hb x3 _ o3 _ _),
        sum_block (fun r => E x0 x1 x4 r a * x3 (ix2 r d)) _ hb,
        ← Finset.sum_Ico_consecutive _ (show 512 * ((i 1).val + 1) ≤ 512 * ((i 1).val + 1 + n) by omega) (show 512 * ((i 1).val + 1 + n) ≤ 512 * ((i 1).val + 1 + (n + 1)) by omega), ← add_assoc]
      exact congrArg (· + _) (ih3 a d)

end State

end Cert.KernelIdeal.Sweep

end
-- ==== Proof.State.lean ====
/-
  What one run of the body leaves: the step on the diagonal followed by the loop, as sums over the keys of the block and
  over the query rows.
-/
module

public import proofs.«01_k».proof.Proof.Trip
public import Idealize.ShloMosaic.Lib.VecWindow

@[expose] public section

noncomputable section

namespace Cert.KernelIdeal.Sweep

open Cert.KernelIdeal Cert.KernelIdeal.Gen Idealize.ShloMosaic Idealize.ShloMosaic.TcCoe Idealize.ShloMosaic.Tactic
open Idealize.SL Idealize.SL.RA Idealize.SL.BI Idealize.SL.Sem

/-- The masked weight of key `a` of key block `j` for query row `r`. -/
def W (j : ℕ) (x0 : FVec Ideal S4096x128 .bf16) (x1 : FVec Ideal S512x128 .bf16) (x4 : FVec Ideal S1x1x4096 .f32) (r : Fin 4096) (a : Fin 512) : EReal :=
  if 512 * j + a.val ≤ r.val then E x0 x1 x4 r a else 0

/-- The gradient of q after key block `j`, `y` being what it was before. -/
def out8 (j : ℕ) (x0 : Vec Ideal S4096x128 .bf16) (x1 x2 : Vec Ideal S512x128 .bf16) (x3 : Vec Ideal S4096x128 .bf16) (x4 x5 : Vec Ideal S1x1x4096 .f32)
    (y : Vec Ideal S4096x128 .f32) : Vec Ideal S4096x128 .f32 :=
  fun i => y i + ∑ a : Fin 512, W j x0 x1 x4 (i 0) a * D x2 x3 x5 (i 0) a * x1 (ix2 a (i 1))

/-- The gradient of the keys of block `j`. -/
def out9 (j : ℕ) (x0 : Vec Ideal S4096x128 .bf16) (x1 x2 : Vec Ideal S512x128 .bf16) (x3 : Vec Ideal S4096x128 .bf16) (x4 x5 : Vec Ideal S1x1x4096 .f32) :
    Vec Ideal S512x128 .f32 :=
  fun i => ∑ r : Fin 4096, W j x0 x1 x4 r (i 0) * D x2 x3 x5 r (i 0) * x0 (ix2 r (i 1))

/-- The gradient of the values of block `j`. -/
def out10 (j : ℕ) (x0 : Vec Ideal S4096x128 .bf16) (x1 : Vec Ideal S512x128 .bf16) (x3 : Vec Ideal S4096x128 .bf16) (x4 : Vec Ideal S1x1x4096 .f32) :
    Vec Ideal S512x128 .f32 :=
  fun i => ∑ r : Fin 4096, W j x0 x1 x4 r (i 0) * x3 (ix2 r (i 1))

section State

variable (c : Dev nD) (bd : Option Variants.none.V) (i : grid0.Coords)
  (arg2 : Memref sig .tc .vmem S4096x128 .bf16) (harg2 : arg2.IsWhole) (arg3 : Memref sig .tc .vmem S512x128 .bf16) (harg3 : arg3.IsWhole)
  (arg4 : Memref sig .tc .vmem S512x128 .bf16) (harg4 : arg4.IsWhole) (arg5 : Memref sig .tc .vmem S4096x128 .bf16) (harg5 : arg5.IsWhole)
  (arg6 : Memref sig .tc .vmem S1x1x4096 .f32) (harg6 : arg6.IsWhole) (arg7 : Memref sig .tc .vmem S1x1x4096 .f32) (harg7 : arg7.IsWhole)
  (arg8 : Memref sig .tc .vmem S4096x128 .f32) (harg8 : arg8.IsWhole) (arg9 : Memref sig .tc .vmem S512x128 .f32) (harg9 : arg9.IsWhole)
  (arg10 : Memref sig .tc .vmem S512x128 .f32) (harg10 : arg10.IsWhole)
  (x0 : Vec Ideal S4096x128 .bf16) (x1 x2 : Vec Ideal S512x128 .bf16) (x3 : Vec Ideal S4096x128 .bf16) (x4 x5 : Vec Ideal S1x1x4096 .f32)

/-- The block of rows on the diagonal. -/
abbrev lq (x : Vec Ideal S4096x128 .bf16) : Vec Ideal S512x128 .bf16 := View.ld (Val := Elt Ideal) x (Rect.unit (s := S4096x128) (k0_off1 i) S512x128.size (k0_off1_inb i))
abbrev ll (x : Vec Ideal S1x1x4096 .f32) : Vec Ideal S1x1x512 .f32 := View.ld (Val := Elt Ideal) x (Rect.unit (s := S1x1x4096) (k0_off2 i) S1x1x512.size (k0_off2_inb i))
abbrev lo (x : Vec Ideal S4096x128 .f32) : Vec Ideal S512x128 .f32 := View.ld (Val := Elt Ideal) x (Rect.unit (s := S4096x128) (k0_off1 i) S512x128.size (k0_off1_inb i))

abbrev init9 : FVec Ideal S512x128 .f32 := k0_pay1 (F := Ideal) k0_pay17 (k0_pay18 (lq i x0)) (k0_pay20 x1 x2 (lq i x0) (lq i x3) (ll i x4) (ll i x5))
abbrev init10 : FVec Ideal S512x128 .f32 := k0_pay2 (F := Ideal) k0_pay17 (lq i x3) (k0_pay19 x1 (lq i x0) (ll i x4))

abbrev diag (y : Vec Ideal S4096x128 .f32) : View.Piece (Elt Ideal) S4096x128 .f32 :=
  ⟨Rect.unit (s := S4096x128) (k0_off1 i) S512x128.size (k0_off1_inb i), k0_pay21 (F := Ideal) x1 x2 (lq i x0) (lq i x3) (ll i x4) (ll i x5) (lo i y)⟩

variable {i}

theorem hj (i : grid0.Coords) : (i 1).val < 8 := (i 1).isLt

variable (i)

theorem W_diag (a b : Fin 512) : W (i 1).val x0 x1 x4 (row (i 1).val (hj i) b) a = if a.val ≤ b.val then wt x1 (lq i x0) (ll i x4) a b else 0 := by
  rw [wt_block x0 x1 x4 (hj i) _ (off1_eq i) _ (off2_eq i)]
  exact if_congr (by show 512 * (i 1).val + a.val ≤ 512 * (i 1).val + b.val ↔ _; omega) rfl rfl

theorem W_above (r : Fin 4096) (a : Fin 512) (h : 512 * ((i 1).val + 1) ≤ r.val) : W (i 1).val x0 x1 x4 r a = E x0 x1 x4 r a :=
  if_pos (by have := a.isLt; omega)

theorem W_below (r : Fin 4096) (a : Fin 512) (h : r.val < 512 * (i 1).val) : W (i 1).val x0 x1 x4 r a = 0 :=
  if_neg (by omega)

/-- A sum over the query rows splits at the diagonal block when the rows below it give nothing. -/
theorem sum_split (f g : Fin 4096 → EReal) (h0 : ∀ r : Fin 4096, r.val < 512 * (i 1).val → f r = 0)
    (hg : ∀ r : Fin 4096, 512 * ((i 1).val + 1) ≤ r.val → f r = g r) :
    ∑ r : Fin 4096, f r = (∑ b : Fin 512, f (row (i 1).val (hj i) b)) + ∑ r ∈ Finset.Ico (512 * ((i 1).val + 1)) (512 * ((i 1).val + 1 + (7 - (i 1).val))), ext g r := by
  have hj := hj i
  rw [sum_ext, sum_block, show (i 1).val + 1 + (7 - (i 1).val) = 8 by omega, Finset.range_eq_Ico,
    ← Finset.sum_Ico_consecutive _ (Nat.zero_le _) (show 512 * (i 1).val ≤ 4096 by omega),
    ← Finset.sum_Ico_consecutive _ (show 512 * (i 1).val ≤ 512 * ((i 1).val + 1) by omega) (show 512 * ((i 1).val + 1) ≤ 4096 by omega)]
  rw [Finset.sum_eq_zero (s := Finset.Ico 0 (512 * (i 1).val)), zero_add]
  · refine congrArg (_ + ·) (Finset.sum_congr rfl fun r hr => ?_)
    obtain ⟨h1, h2⟩ := Finset.mem_Ico.mp hr
    exact (ext_val f ⟨r, h2⟩).trans ((hg ⟨r, h2⟩ h1).trans (ext_val g ⟨r, h2⟩).symm)
  · intro r hr
    obtain ⟨h1, h2⟩ := Finset.mem_Ico.mp hr
    exact (ext_val f ⟨r, by omega⟩).trans (h0 _ h2)

theorem end9 (G : BufTy.Contents (Elt Ideal) arg8.view.ty) (b0 : FVec Ideal S512x128 .f32) (n : ℕ) (hn : n = 7 - (i 1).val) :
    (st c bd i arg2 harg2 arg3 harg3 arg4 harg4 arg5 harg5 arg6 harg6 arg7 harg7 arg8 harg8 arg9 harg9 arg10 harg10 x0 x1 x2 x3 x4 x5 G (init9 i x0 x1 x2 x3 x4 x5, b0) n).1.1
      = out9 (i 1).val x0 x1 x2 x3 x4 x5 := by
  have hj := hj i
  subst hn
  funext p
  rw [eq_ix2 p]
  refine ((st_spec c bd i arg2 harg2 arg3 harg3 arg4 harg4 arg5 harg5 arg6 harg6 arg7 harg7 arg8 harg8 arg9 harg9 arg10 harg10 x0 x1 x2 x3 x4 x5 G _ _ (by omega)).2.1 (p 0) (p 1)).trans ?_
  show _ = ∑ r : Fin 4096, W (i 1).val x0 x1 x4 r (p 0) * D x2 x3 x5 r (p 0) * x0 (ix2 r (p 1))
  rw [sum_split i (fun r => W (i 1).val x0 x1 x4 r (p 0) * D x2 x3 x5 r (p 0) * x0 (ix2 r (p 1))) (fun r => E x0 x1 x4 r (p 0) * D x2 x3 x5 r (p 0) * x0 (ix2 r (p 1)))
    (fun r h => by rw [W_below i x0 x1 x4 r (p 0) h, zero_mul, zero_mul]) (fun r h => by rw [W_above i x0 x1 x4 r (p 0) h])]
  refine congrArg (· + _) ((pay1_apply _ _ _ _ _ _ _ _).trans (Finset.sum_congr rfl fun b _ => congrArg₂ (· * ·) (congrArg₂ (· * ·) ?_ ?_) ?_))
  · exact (W_diag i x0 x1 x4 (p 0) b).symm
  · exact dd_block x2 x3 x5 hj _ (off1_eq i) _ (off2_eq i) _ _
  · exact ld_rows (F := Ideal) hj x0 _ (off1_eq i) _ _

theorem end10 (G : BufTy.Contents (Elt Ideal) arg8.view.ty) (b0 : FVec Ideal S512x128 .f32) (n : ℕ) (hn : n = 7 - (i 1).val) :
    (st c bd i arg2 harg2 arg3 harg3 arg4 harg4 arg5 harg5 arg6 harg6 arg7 harg7 arg8 harg8 arg9 harg9 arg10 harg10 x0 x1 x2 x3 x4 x5 G (b0, init10 i x0 x1 x3 x4) n).1.2
      = out10 (i 1).val x0 x1 x3 x4 := by
  have hj := hj i
  subst hn
  funext p
  rw [eq_ix2 p]
  refine ((st_spec c bd i arg2 harg2 arg3 harg3 arg4 harg4 arg5 harg5 arg6 harg6 arg7 harg7 arg8 harg8 arg9 harg9 arg10 harg10 x0 x1 x2 x3 x4 x5 G _ _ (by omega)).2.2 (p 0) (p 1)).trans ?_
  show _ = ∑ r : Fin 4096, W (i 1).val x0 x1 x4 r (p 0) * x3 (ix2 r (p 1))
  rw [sum_split i (fun r => W (i 1).val x0 x1 x4 r (p 0) * x3 (ix2 r (p 1))) (fun r => E x0 x1 x4 r (p 0) * x3 (ix2 r (p 1)))
    (fun r h => by rw [W_below i x0 x1 x4 r (p 0) h, zero_mul]) (fun r h => by rw [W_above i x0 x1 x4 r (p 0) h])]
  refine congrArg (· + _) ((pay2_apply _ _ _ _ _ _).trans (Finset.sum_congr rfl fun b _ => congrArg₂ (· * ·) ?_ ?_))
  · exact (W_diag i x0 x1 x4 (p 0) b).symm
  · exact ld_rows (F := Ideal) hj x3 _ (off1_eq i) _ _

theorem end8 (J : BufTy.Contents (Elt Ideal) arg8.view.ty) (L : List (View.Piece (Elt Ideal) S4096x128 .f32)) (ini : FVec Ideal S512x128 .f32 × FVec Ideal S512x128 .f32) (n : ℕ) (hn : n = 7 - (i 1).val) :
    arg8.view.read (Elt Ideal) (arg8.view.writes (Elt Ideal) J
      ((st c bd i arg2 harg2 arg3 harg3 arg4 harg4 arg5 harg5 arg6 harg6 arg7 harg7 arg8 harg8 arg9 harg9 arg10 harg10 x0 x1 x2 x3 x4 x5
        (arg8.view.writes (Elt Ideal) J (diag i x0 x1 x2 x3 x4 x5 (arg8.view.read (Elt Ideal) (arg8.view.writes (Elt Ideal) J L)) :: L)) ini n).2
        ++ diag i x0 x1 x2 x3 x4 x5 (arg8.view.read (Elt Ideal) (arg8.view.writes (Elt Ideal) J L)) :: L))
      = out8 (i 1).val x0 x1 x2 x3 x4 x5 (arg8.view.read (Elt Ideal) (arg8.view.writes (Elt Ideal) J L)) := by
  have hj := hj i
  subst hn
  funext p
  rw [eq_ix2 p, View.writes_append]
  refine ((st_spec c bd i arg2 harg2 arg3 harg3 arg4 harg4 arg5 harg5 arg6 harg6 arg7 harg7 arg8 harg8 arg9 harg9 arg10 harg10 x0 x1 x2 x3 x4 x5 _ ini _ (by omega)).1 (p 0) (p 1)).trans ?_
  generalize hr : p 0 = r
  generalize hd : p 1 = d
  show _ = arg8.view.read (Elt Ideal) (arg8.view.writes (Elt Ideal) J L) (ix2 r d) + ∑ a : Fin 512, W (i 1).val x0 x1 x4 r a * D x2 x3 x5 r a * x1 (ix2 a d)
  change Fin 4096 at r
  change Fin 128 at d
  by_cases h : 512 * (i 1).val ≤ r.val ∧ r.val < 512 * (i 1).val + 512
  · have hr : r = row (i 1).val hj ⟨r.val - 512 * (i 1).val, by omega⟩ := Fin.ext (by show r.val = 512 * (i 1).val + (r.val - 512 * (i 1).val); omega)
    rw [if_neg (by omega), add_zero]
    refine (View.read_writes_cons_rows_of_mem (d := S4096x128.size) (size := S512x128.size) arg8.view J (k0_off1_inb i) _ _ (ix2 r d) (ix2 ⟨r.val - 512 * (i 1).val, by omega⟩ d) (off1_eq i) (by show r.val = 512 * (i 1).val + (r.val - 512 * (i 1).val); omega) rfl).trans ?_
    refine (pay21_apply _ _ _ _ _ _ _ _ _).trans ?_
    refine congrArg₂ (· + ·) ((ld_rows (F := Ideal) hj _ _ (off1_eq i) _ _).trans (by rw [← hr])) (Finset.sum_congr rfl fun a _ => congrArg₂ (· * ·) (congrArg₂ (· * ·) ?_ ?_) rfl)
    · rw [← W_diag i x0 x1 x4, ← hr]
    · exact (dd_block x2 x3 x5 hj _ (off1_eq i) _ (off2_eq i) _ _).trans (by rw [← hr])
  · refine congrArg₂ (· + ·) (View.read_writes_cons_rows_of_not_mem (d := S4096x128.size) (size := S512x128.size) arg8.view J (k0_off1_inb i) _ _ (ix2 r d) (off1_eq i) rfl (by show r.val < 512 * (i 1).val ∨ 512 * (i 1).val + 512 ≤ r.val; omega)) ?_
    by_cases h2 : 512 * ((i 1).val + 1) ≤ r.val
    · rw [if_pos ⟨h2, by have := r.isLt; omega⟩]
      exact Finset.sum_congr rfl fun a _ => by rw [W_above i x0 x1 x4 r a h2]
    · rw [if_neg fun h => h2 h.1]
      exact (Finset.sum_eq_zero fun a _ => by rw [W_below i x0 x1 x4 r a (by omega), zero_mul, zero_mul]).symm

end State

/-! ## What the body's loads from whole buffers read -/

section Reads

variable {e : EltTy} (i : grid0.Coords)

theorem rd_block (arg : Memref sig .tc .vmem S512x128 e) (h : arg.IsWhole) (x : Vec Ideal S512x128 e) :
    arg.view.readAt (Elt Ideal) (Rect.unit (s := S512x128) ![0, 0] S512x128.size inb_S512x128_S512x128_0_0) (h.unread x) = x := by
  rw [View.readAt_full, h.read_unread]

theorem rd_rows (arg : Memref sig .tc .vmem S4096x128 e) (h : arg.IsWhole) (x : Vec Ideal S4096x128 e) :
    arg.view.readAt (Elt Ideal) (Rect.unit (s := S4096x128) (k0_off1 i) S512x128.size (k0_off1_inb i)) (h.unread x)
      = View.ld (Val := Elt Ideal) x (Rect.unit (s := S4096x128) (k0_off1 i) S512x128.size (k0_off1_inb i)) := by
  rw [View.readAt_eq_ld, h.read_unread]

theorem rd_lane (arg : Memref sig .tc .vmem S1x1x4096 e) (h : arg.IsWhole) (x : Vec Ideal S1x1x4096 e) :
    arg.view.readAt (Elt Ideal) (Rect.unit (s := S1x1x4096) (k0_off2 i) S1x1x512.size (k0_off2_inb i)) (h.unread x)
      = View.ld (Val := Elt Ideal) x (Rect.unit (s := S1x1x4096) (k0_off2 i) S1x1x512.size (k0_off2_inb i)) := by
  rw [View.readAt_eq_ld, h.read_unread]

end Reads

end Cert.KernelIdeal.Sweep

end
-- ==== Proof.RunA.lean ====
/-
  The body at the first key block: it clears the gradient of q, then does the step on the diagonal and the loop.
-/
module

public import proofs.«01_k».proof.Proof.State
public import proofs.«01_k».proof.Proof.Gen.KernelIdeal.Frame

@[expose] public section

set_option maxRecDepth 16384

noncomputable section

namespace Cert.KernelIdeal.Sweep

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

abbrev cond0_0 (i : grid0.Coords) : Prop := Scalar.cmpi .ne (Scalar.extui (Scalar.cmpi .eq (BitVec.ofNat 32 (i 1).val) 0#32)) 0#32 = 1#1
abbrev cond0_1 (i : grid0.Coords) : Prop := Scalar.cmpi .ne (Scalar.extui (Scalar.cmpi .eq (BitVec.ofNat 32 (i 1).val) 7#32)) 0#32 = 1#1

set_option maxHeartbeats 1000000 in
theorem run_A (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .f32) (harg10 : arg10.IsWhole) (hc0 : cond0_0 i) (hc1 : ¬cond0_1 i)
    (x0 : Vec Ideal S4096x128 .bf16) (x1 : Vec Ideal S512x128 .bf16) (x2 : Vec Ideal S512x128 .bf16) (x3 : Vec Ideal S4096x128 .bf16) (x4 : Vec Ideal S1x1x4096 .f32) (x5 : Vec Ideal S1x1x4096 .f32)
    :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 (i 1).val x0 x1 x2 x3 x4 x5 (fun _ => 0)) ∗ owns (c : Thread nD τ) arg9 fullShare (out9 (i 1).val x0 x1 x2 x3 x4 x5) ∗ owns (c : Thread nD τ) arg10 fullShare (out10 (i 1).val x0 x1 x3 x4)) -∗ K ⟨⟩))
          ⊢ wp frame (wpE (defs₀ (F := Ideal)) Variants.none c none) E (cc0_flash_bwd i arg2 harg2 arg3 harg3 arg4 harg4 arg5 harg5 arg6 harg6 arg7 harg7 arg8 harg8 arg9 harg9 arg10 harg10) K := by
    intro E K
    simp only [cc0_flash_bwd_eq_skeleton]; unfold cc0_flash_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    have e1 : Scf.trips (k0_t1_loop i).lb (k0_t1_loop i).ub (k0_t1_loop i).st = 7 - (i 1).val := trips_eq i
    have e2 : Scf.trips (k0_t2_loop i).lb (k0_t2_loop i).ub (k0_t2_loop i).st = 0 := trips2_eq i
    have r0 : run_A.sl.r c arg3 harg3 x1 = x1 := rd_block arg3 harg3 x1
    have r1 : run_A.sl.r_1 c arg4 harg4 x2 = x2 := rd_block arg4 harg4 x2
    have r2 : run_A.sl.r_2 c i arg2 harg2 x0 = k0_pay18 (lq i x0) := congrArg k0_pay18 (rd_rows i arg2 harg2 x0)
    have r3 : run_A.sl.r_3 c i arg5 harg5 x3 = lq i x3 := rd_rows i arg5 harg5 x3
    have r4 : run_A.sl.r_4 c i arg2 harg2 arg3 harg3 arg6 harg6 x0 x1 x4 = k0_pay19 x1 (lq i x0) (ll i x4) := by
      show k0_pay19 _ _ _ = _
      rw [rd_block, rd_rows, rd_lane]
    have r5 : run_A.sl.r_5 c i arg2 harg2 arg3 harg3 arg4 harg4 arg5 harg5 arg6 harg6 arg7 harg7 x0 x1 x2 x3 x4 x5 = k0_pay20 x1 x2 (lq i x0) (lq i x3) (ll i x4) (ll i x5) := by
      show k0_pay20 _ _ _ _ _ _ = _
      rw [rd_block, rd_block, rd_rows, rd_rows, rd_lane, rd_lane]
    have r6 : run_A.sl.r_6 c i arg2 harg2 arg3 harg3 arg4 harg4 arg5 harg5 arg6 harg6 arg7 harg7 arg8 x0 x1 x2 x3 x4 x5
        = k0_pay21 x1 x2 (lq i x0) (lq i x3) (ll i x4) (ll i x5) (lo i (arg8.view.read (Elt Ideal) (arg8.view.writes (Elt Ideal) arg8.view.junk run_A.sl.H6_1))) := by
      show k0_pay21 _ _ _ _ _ _ _ = _
      rw [rd_block, rd_block, rd_rows, rd_rows, rd_lane, rd_lane, View.readAt_eq_ld]
    simp only [e1, e2, r0, r1, r2, r3, r4, r5, r6]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (end8 c none i arg2 harg2 arg3 harg3 arg4 harg4 arg5 harg5 arg6 harg6 arg7 harg7 arg8 harg8 arg9 harg9 arg10 harg10 x0 x1 x2 x3 x4 x5 _ _ _ _ rfl).trans ?_
      exact congrArg (out8 (i 1).val x0 x1 x2 x3 x4 x5) ((View.read_writes_full _ _ _ _ _).trans (funext pay16_apply))
    isplitl [H7]
    · iexists _; isplitr; swap; · iexact H7
      ipureintro
      refine (View.read_writes_full _ _ _ _ _).trans ?_
      rw [st_k0_t2_zero]; dsimp only
      exact end9 c none i arg2 harg2 arg3 harg3 arg4 harg4 arg5 harg5 arg6 harg6 arg7 harg7 arg8 harg8 arg9 harg9 arg10 harg10 x0 x1 x2 x3 x4 x5 _ _ _ rfl
    iexists _; isplitr; swap; · iexact H8
    ipureintro
    refine (View.read_writes_full _ _ _ _ _).trans ?_
    rw [st_k0_t2_zero]; dsimp only
    exact end10 c none i arg2 harg2 arg3 harg3 arg4 harg4 arg5 harg5 arg6 harg6 arg7 harg7 arg8 harg8 arg9 harg9 arg10 harg10 x0 x1 x2 x3 x4 x5 _ _ _ rfl

end Cert.KernelIdeal.Sweep

end
-- ==== Proof.RunB.lean ====
/-
  The body at a key block that is neither the first nor the last.
-/
module

public import proofs.«01_k».proof.Proof.RunA
public import proofs.«01_k».proof.Proof.Gen.KernelIdeal.Frame

@[expose] public section

set_option maxRecDepth 16384

noncomputable section

namespace Cert.KernelIdeal.Sweep

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
theorem run_B (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .f32) (harg10 : arg10.IsWhole) (hc0 : ¬cond0_0 i) (hc1 : ¬cond0_1 i)
    (x0 : Vec Ideal S4096x128 .bf16) (x1 : Vec Ideal S512x128 .bf16) (x2 : Vec Ideal S512x128 .bf16) (x3 : Vec Ideal S4096x128 .bf16) (x4 : Vec Ideal S1x1x4096 .f32) (x5 : Vec Ideal S1x1x4096 .f32) (y : Vec Ideal S4096x128 .f32)
    :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 (i 1).val x0 x1 x2 x3 x4 x5 y) ∗ owns (c : Thread nD τ) arg9 fullShare (out9 (i 1).val x0 x1 x2 x3 x4 x5) ∗ owns (c : Thread nD τ) arg10 fullShare (out10 (i 1).val x0 x1 x3 x4)) -∗ K ⟨⟩))
          ⊢ wp frame (wpE (defs₀ (F := Ideal)) Variants.none c none) E (cc0_flash_bwd i arg2 harg2 arg3 harg3 arg4 harg4 arg5 harg5 arg6 harg6 arg7 harg7 arg8 harg8 arg9 harg9 arg10 harg10) K := by
    intro E K
    simp only [cc0_flash_bwd_eq_skeleton]; unfold cc0_flash_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    have e1 : Scf.trips (k0_t1_loop i).lb (k0_t1_loop i).ub (k0_t1_loop i).st = 7 - (i 1).val := trips_eq i
    have e2 : Scf.trips (k0_t2_loop i).lb (k0_t2_loop i).ub (k0_t2_loop i).st = 0 := trips2_eq i
    have r0 : run_B.sl.r c arg3 harg3 x1 = x1 := rd_block arg3 harg3 x1
    have r1 : run_B.sl.r_1 c arg4 harg4 x2 = x2 := rd_block arg4 harg4 x2
    have r2 : run_B.sl.r_2 c i arg2 harg2 x0 = k0_pay18 (lq i x0) := congrArg k0_pay18 (rd_rows i arg2 harg2 x0)
    have r3 : run_B.sl.r_3 c i arg5 harg5 x3 = lq i x3 := rd_rows i arg5 harg5 x3
    have r4 : run_B.sl.r_4 c i arg2 harg2 arg3 harg3 arg6 harg6 x0 x1 x4 = k0_pay19 x1 (lq i x0) (ll i x4) := by
      show k0_pay19 _ _ _ = _
      rw [rd_block, rd_rows, rd_lane]
    have r5 : run_B.sl.r_5 c i arg2 harg2 arg3 harg3 arg4 harg4 arg5 harg5 arg6 harg6 arg7 harg7 x0 x1 x2 x3 x4 x5 = k0_pay20 x1 x2 (lq i x0) (lq i x3) (ll i x4) (ll i x5) := by
      show k0_pay20 _ _ _ _ _ _ = _
      rw [rd_block, rd_block, rd_rows, rd_rows, rd_lane, rd_lane]
    have r6 : run_B.sl.r_6 c i arg2 harg2 arg3 harg3 arg4 harg4 arg5 harg5 arg6 harg6 arg7 harg7 arg8 harg8 x0 x1 x2 x3 x4 x5 y
        = k0_pay21 x1 x2 (lq i x0) (lq i x3) (ll i x4) (ll i x5) (lo i (arg8.view.read (Elt Ideal) (arg8.view.writes (Elt Ideal) (harg8.unread y) []))) := by
      show k0_pay21 _ _ _ _ _ _ _ = _
      rw [rd_block, rd_block, rd_rows, rd_rows, rd_lane, rd_lane, View.readAt_eq_ld] <;> rfl
    simp only [e1, e2, r0, r1, r2, r3, r4, r5, r6]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (end8 (L := []) c none i arg2 harg2 arg3 harg3 arg4 harg4 arg5 harg5 arg6 harg6 arg7 harg7 arg8 harg8 arg9 harg9 arg10 harg10 x0 x1 x2 x3 x4 x5 _ _ _ rfl).trans ?_
      exact congrArg (out8 (i 1).val x0 x1 x2 x3 x4 x5) (harg8.read_unread y)
    isplitl [H7]
    · iexists _; isplitr; swap; · iexact H7
      ipureintro
      refine (View.read_writes_full _ _ _ _ _).trans ?_
      rw [st_k0_t2_zero]; dsimp only
      exact end9 c none i arg2 harg2 arg3 harg3 arg4 harg4 arg5 harg5 arg6 harg6 arg7 harg7 arg8 harg8 arg9 harg9 arg10 harg10 x0 x1 x2 x3 x4 x5 _ _ _ rfl
    iexists _; isplitr; swap; · iexact H8
    ipureintro
    refine (View.read_writes_full _ _ _ _ _).trans ?_
    rw [st_k0_t2_zero]; dsimp only
    exact end10 c none i arg2 harg2 arg3 harg3 arg4 harg4 arg5 harg5 arg6 harg6 arg7 harg7 arg8 harg8 arg9 harg9 arg10 harg10 x0 x1 x2 x3 x4 x5 _ _ _ rfl

end Cert.KernelIdeal.Sweep

end
-- ==== Proof.RunC.lean ====
/-
  The body at the last key block, which also scales the gradient of q.
-/
module

public import proofs.«01_k».proof.Proof.RunA
public import proofs.«01_k».proof.Proof.Gen.KernelIdeal.Frame

@[expose] public section

set_option maxRecDepth 16384

noncomputable section

namespace Cert.KernelIdeal.Sweep

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
theorem run_C (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .f32) (harg10 : arg10.IsWhole) (hc0 : ¬cond0_0 i) (hc1 : cond0_1 i)
    (x0 : Vec Ideal S4096x128 .bf16) (x1 : Vec Ideal S512x128 .bf16) (x2 : Vec Ideal S512x128 .bf16) (x3 : Vec Ideal S4096x128 .bf16) (x4 : Vec Ideal S1x1x4096 .f32) (x5 : Vec Ideal S1x1x4096 .f32) (y : Vec Ideal S4096x128 .f32)
    :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fun p => out8 (i 1).val x0 x1 x2 x3 x4 x5 y p * scale) ∗ owns (c : Thread nD τ) arg9 fullShare (out9 (i 1).val x0 x1 x2 x3 x4 x5) ∗ owns (c : Thread nD τ) arg10 fullShare (out10 (i 1).val x0 x1 x3 x4)) -∗ K ⟨⟩))
          ⊢ wp frame (wpE (defs₀ (F := Ideal)) Variants.none c none) E (cc0_flash_bwd i arg2 harg2 arg3 harg3 arg4 harg4 arg5 harg5 arg6 harg6 arg7 harg7 arg8 harg8 arg9 harg9 arg10 harg10) K := by
    intro E K
    simp only [cc0_flash_bwd_eq_skeleton]; unfold cc0_flash_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    have e1 : Scf.trips (k0_t1_loop i).lb (k0_t1_loop i).ub (k0_t1_loop i).st = 7 - (i 1).val := trips_eq i
    have e2 : Scf.trips (k0_t2_loop i).lb (k0_t2_loop i).ub (k0_t2_loop i).st = 0 := trips2_eq i
    have r0 : run_C.sl.r c arg3 harg3 x1 = x1 := rd_block arg3 harg3 x1
    have r1 : run_C.sl.r_1 c arg4 harg4 x2 = x2 := rd_block arg4 harg4 x2
    have r2 : run_C.sl.r_2 c i arg2 harg2 x0 = k0_pay18 (lq i x0) := congrArg k0_pay18 (rd_rows i arg2 harg2 x0)
    have r3 : run_C.sl.r_3 c i arg5 harg5 x3 = lq i x3 := rd_rows i arg5 harg5 x3
    have r4 : run_C.sl.r_4 c i arg2 harg2 arg3 harg3 arg6 harg6 x0 x1 x4 = k0_pay19 x1 (lq i x0) (ll i x4) := by
      show k0_pay19 _ _ _ = _
      rw [rd_block, rd_rows, rd_lane]
    have r5 : run_C.sl.r_5 c i arg2 harg2 arg3 harg3 arg4 harg4 arg5 harg5 arg6 harg6 arg7 harg7 x0 x1 x2 x3 x4 x5 = k0_pay20 x1 x2 (lq i x0) (lq i x3) (ll i x4) (ll i x5) := by
      show k0_pay20 _ _ _ _ _ _ = _
      rw [rd_block, rd_block, rd_rows, rd_rows, rd_lane, rd_lane]
    have r6 : run_C.sl.r_6 c i arg2 harg2 arg3 harg3 arg4 harg4 arg5 harg5 arg6 harg6 arg7 harg7 arg8 harg8 x0 x1 x2 x3 x4 x5 y
        = k0_pay21 x1 x2 (lq i x0) (lq i x3) (ll i x4) (ll i x5) (lo i (arg8.view.read (Elt Ideal) (arg8.view.writes (Elt Ideal) (harg8.unread y) []))) := by
      show k0_pay21 _ _ _ _ _ _ _ = _
      rw [rd_block, rd_block, rd_rows, rd_rows, rd_lane, rd_lane, View.readAt_eq_ld] <;> rfl
    have r58 : run_C.sl.v58 c i arg2 harg2 arg3 harg3 arg4 harg4 arg5 harg5 arg6 harg6 arg7 harg7 arg8 harg8 arg9 harg9 arg10 harg10 x0 x1 x2 x3 x4 x5 y
        = out8 (i 1).val x0 x1 x2 x3 x4 x5 y := by
      refine (View.readAt_full _ _ _).trans ?_
      simp only [e1, e2, r0, r1, r2, r3, r4, r5, r6]
      refine (end8 (L := []) c none i arg2 harg2 arg3 harg3 arg4 harg4 arg5 harg5 arg6 harg6 arg7 harg7 arg8 harg8 arg9 harg9 arg10 harg10 x0 x1 x2 x3 x4 x5 _ _ _ rfl).trans ?_
      exact congrArg (out8 (i 1).val x0 x1 x2 x3 x4 x5) (harg8.read_unread y)
    simp only [e1, e2, r0, r1, r2, r3, r4, r5, r6]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      exact (View.read_writes_full _ _ _ _ _).trans (funext fun p => (pay15_apply _ p).trans (congrArg (fun z => z p * scale) r58))
    isplitl [H7]
    · iexists _; isplitr; swap; · iexact H7
      ipureintro
      refine (View.read_writes_full _ _ _ _ _).trans ?_
      rw [st_k0_t2_zero]; dsimp only
      exact end9 c none i arg2 harg2 arg3 harg3 arg4 harg4 arg5 harg5 arg6 harg6 arg7 harg7 arg8 harg8 arg9 harg9 arg10 harg10 x0 x1 x2 x3 x4 x5 _ _ _ rfl
    iexists _; isplitr; swap; · iexact H8
    ipureintro
    refine (View.read_writes_full _ _ _ _ _).trans ?_
    rw [st_k0_t2_zero]; dsimp only
    exact end10 c none i arg2 harg2 arg3 harg3 arg4 harg4 arg5 harg5 arg6 harg6 arg7 harg7 arg8 harg8 arg9 harg9 arg10 harg10 x0 x1 x2 x3 x4 x5 _ _ _ rfl

end Cert.KernelIdeal.Sweep

end
-- ==== Proof.Run.lean ====
/-
  The run of the whole kernel: what the gradient of q holds point by point, the body at a generic point, and the
  machine's run from any memory with zero counters.
-/
module

public import proofs.«01_k».proof.Proof.RunB
public import proofs.«01_k».proof.Proof.RunC
public import Idealize.ShloMosaic.Lib.Pipeline.Value
public import Idealize.ShloMosaic.Lib.Claim
public import Idealize.ShloMosaic.Lib.Tactic

@[expose] public section

set_option maxRecDepth 16384

noncomputable section

namespace Cert.KernelIdeal.Sweep

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The points -/

theorem coords0 (t : Fin cfg0.N) : (grid0.coords t 0).val = t.val / 8 := by
  have ht : t.val < 64 := Nat.lt_of_lt_of_eq t.isLt N_0
  have e0 : (grid0.coords t 0).val = t.val / 8 % 8 := Pipeline.Grid.coords_val t 0 (by decide) rfl
  omega

theorem coords1 (t : Fin cfg0.N) : (grid0.coords t 1).val = t.val % 8 := by
  have e1 : (grid0.coords t 1).val = t.val / 1 % 8 := Pipeline.Grid.coords_val t 1 (by decide) rfl
  omega

theorem first_iff (t : Fin cfg0.N) : cond0_0 (grid0.coords t) ↔ t.val % 8 = 0 := by
  have ht : t.val < 64 := Nat.lt_of_lt_of_eq t.isLt N_0
  have e := coords1 t
  simp only [cond0_0, e]
  word_cmp

theorem last_iff (t : Fin cfg0.N) : cond0_1 (grid0.coords t) ↔ t.val % 8 = 7 := by
  have ht : t.val < 64 := Nat.lt_of_lt_of_eq t.isLt N_0
  have e := coords1 t
  simp only [cond0_1, e]
  word_cmp

/-! ## What the buffers hold -/

/-- The gradient of q after point `t`, `y` being what it was before the point's key block. -/
def step (c : Dev nD) (t : Fin cfg0.N) (y : Vec Ideal S4096x128 .f32) : Vec Ideal S4096x128 .f32 :=
  out8 (grid0.coords t 1).val (iblk m c 0 t) (iblk m c 1 t) (iblk m c 2 t) (iblk m c 3 t) (iblk m c 4 t) (iblk m c 5 t) y

/-- The gradient of q after point `n`: cleared at a head's first key block, scaled at its last. -/
def acc (c : Dev nD) : (n : ℕ) → n < cfg0.N → Vec Ideal S4096x128 .f32
  | 0, h => step m c ⟨0, h⟩ fun _ => 0
  | n + 1, h =>
    if (n + 1) % 8 = 0 then step m c ⟨n + 1, h⟩ fun _ => 0
    else if (n + 1) % 8 = 7 then fun p => step m c ⟨n + 1, h⟩ (acc c n (Nat.lt_of_succ_lt h)) p * scale
    else step m c ⟨n + 1, h⟩ (acc c n (Nat.lt_of_succ_lt h))

theorem acc_first (c : Dev nD) (t : Fin cfg0.N) (h : t.val % 8 = 0) : acc m c t.val t.isLt = step m c t fun _ => 0 := by
  obtain ⟨n, hn⟩ := t
  cases n with
  | zero => rfl
  | succ n => exact if_pos h

theorem acc_last (c : Dev nD) (t : Fin cfg0.N) (h : t.val % 8 = 7) :
    acc m c t.val t.isLt = fun p => step m c t (acc m c (t.val - 1) (Nat.lt_of_le_of_lt (Nat.sub_le _ _) t.isLt)) p * scale := by
  obtain ⟨n, hn⟩ := t
  cases n with
  | zero => exact absurd h (by show ¬ 0 % 8 = 7; decide)
  | succ n => exact (if_neg (by dsimp only at h; omega)).trans (if_pos h)

theorem acc_mid (c : Dev nD) (t : Fin cfg0.N) (h0 : t.val % 8 ≠ 0) (h1 : t.val % 8 ≠ 7) :
    acc m c t.val t.isLt = step m c t (acc m c (t.val - 1) (Nat.lt_of_le_of_lt (Nat.sub_le _ _) t.isLt)) := by
  obtain ⟨n, hn⟩ := t
  cases n with
  | zero => exact absurd rfl h0
  | succ n => exact (if_neg h0).trans (if_neg h1)

/-- What each window's buffer holds after the body at each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => acc m c t.val t.isLt
    | ⟨7, _⟩ => out9 (grid0.coords t 1).val (iblk m c 0 t) (iblk m c 1 t) (iblk m c 2 t) (iblk m c 3 t) (iblk m c 4 t) (iblk m c 5 t)
    | ⟨8, _⟩ => out10 (grid0.coords t 1).val (iblk m c 0 t) (iblk m c 1 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = acc m c t.val t.isLt := by dsimp only [dats]
theorem after_7 (c : Dev nD) (t : Fin cfg0.N) : (dats m 0 c).after 7 t
    = out9 (grid0.coords t 1).val (iblk m c 0 t) (iblk m c 1 t) (iblk m c 2 t) (iblk m c 3 t) (iblk m c 4 t) (iblk m c 5 t) := by dsimp only [dats]
theorem after_8 (c : Dev nD) (t : Fin cfg0.N) : (dats m 0 c).after 8 t
    = out10 (grid0.coords t 1).val (iblk m c 0 t) (iblk m c 1 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Past a head's first key block the gradient of q is what the block before left. -/
theorem before_6 (c : Dev nD) (t : Fin cfg0.N) (h : t.val % 8 ≠ 0) (d) :
    (dats m 0 c).before 6 t d = acc m c (t.val - 1) (Nat.lt_of_le_of_lt (Nat.sub_le _ _) t.isLt) :=
  ((dats m 0 c).before_out_kept 6 rfl t (by omega)
    (Bool.eq_false_iff.mpr fun hf => by have := (flush0_6 ⟨t.val - 1, Nat.lt_of_le_of_lt (Nat.sub_le _ _) t.isLt⟩).mp hf; dsimp only at this; omega)
    (fun _ => rfl) (fun _ _ => rfl) d).trans (after_6 m c _)

/-! ## The body at a generic point -/

abbrev ms_0 (t : Fin cfg0.N) : Memref sig .tc .vmem S4096x128 .bf16 := win0_0.stage (cfg0.slots t 0)
abbrev ms_1 (t : Fin cfg0.N) : Memref sig .tc .vmem S512x128 .bf16 := win0_1.stage (cfg0.slots t 1)
abbrev ms_2 (t : Fin cfg0.N) : Memref sig .tc .vmem S512x128 .bf16 := win0_2.stage (cfg0.slots t 2)
abbrev ms_3 (t : Fin cfg0.N) : Memref sig .tc .vmem S4096x128 .bf16 := win0_3.stage (cfg0.slots t 3)
abbrev ms_4 (t : Fin cfg0.N) : Memref sig .tc .vmem S1x1x4096 .f32 := win0_4.stage (cfg0.slots t 4)
abbrev ms_5 (t : Fin cfg0.N) : Memref sig .tc .vmem S1x1x4096 .f32 := win0_5.stage (cfg0.slots t 5)
abbrev ms_6 (t : Fin cfg0.N) : Memref sig .tc .vmem S4096x128 .f32 := win0_6.stage (cfg0.slots t 6)
abbrev ms_7 (t : Fin cfg0.N) : Memref sig .tc .vmem S512x128 .f32 := win0_7.stage (cfg0.slots t 7)
abbrev ms_8 (t : Fin cfg0.N) : Memref sig .tc .vmem S512x128 .f32 := win0_8.stage (cfg0.slots t 8)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t))

set_option maxHeartbeats 2400000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  by_cases h0 : t.val % 8 = 0
  · rw [acc_first m c t h0]; unfold step
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c (grid0.coords t) _ _ _ _ _ _ _ _ _ _ _ _ _ _ _ _ _ _ ((first_iff t).mpr h0) (fun h => by have := (last_iff t).mp h; omega) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before_6 m c t h0]
    by_cases h1 : t.val % 8 = 7
    · rw [acc_last m c t h1]; unfold step
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_C c (grid0.coords t) _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) (acc m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [acc_mid m c t h0 h1]; unfold step
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_B c (grid0.coords t) _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (acc m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged, and every counter is zero. -/
theorem frame_holds : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Sweep

end
-- ==== Proof.Final.lean ====
/-
  The arrays the kernel leaves, as sums over all keys and all query rows of one head.
-/
module

public import proofs.«01_k».proof.Proof.Run

@[expose] public section

noncomputable section

namespace Cert.KernelIdeal.Sweep

open Cert.KernelIdeal Cert.KernelIdeal.Gen Idealize.ShloMosaic Idealize.ShloMosaic.TcCoe Idealize.SL.Sem
open Idealize.ShloMosaic.Pipeline (Dat)

theorem lane_lt {h : ℕ} (hh : h < 8) (d : Fin 128) : 128 * h + d.val < 1024 := by have := d.isLt; omega

/-- Lane `d` of head `h`. -/
def lane (h : Fin 8) (d : Fin 128) : Fin 1024 := ⟨128 * h.val + d.val, lane_lt h.isLt d⟩

/-- The head a column belongs to. -/
def headOf (C : Fin 1024) : Fin 8 := ⟨C.val / 128, by have := C.isLt; omega⟩

section Arrays

variable (Q K : FVec Ideal S4096x1024 .bf16) (VV DO : FVec Ideal S4096x1024 .bf16) (LS DL : FVec Ideal S8x1x4096 .f32)

/-- The weight of key `k` for query row `r` in head `h`. -/
def KW (h : Fin 8) (r k : Fin 4096) : EReal :=
  if k.val ≤ r.val then Ideal.exp ((∑ d : Fin 128, K (ix2 k (lane h d)) * Q (ix2 r (lane h d))) - LS (ix3 h 0 r)) else 0

/-- How far the product of value `k` and the output gradient of row `r` lies from the row's delta. -/
def KD (h : Fin 8) (r k : Fin 4096) : EReal :=
  (∑ d : Fin 128, VV (ix2 k (lane h d)) * DO (ix2 r (lane h d))) - DL (ix3 h 0 r)

/-- One key's part of the gradient of q. -/
def qPart (r : Fin 4096) (C : Fin 1024) (k : Fin 4096) : EReal :=
  KW Q K LS (headOf C) r k * KD VV DO DL (headOf C) r k * K (ix2 k C)

def dq : FVec Ideal S4096x1024 .f32 := fun i => (∑ k : Fin 4096, qPart Q K VV DO LS DL (i 0) (i 1) k) * scale
def dk : FVec Ideal S4096x1024 .f32 := fun i => ∑ r : Fin 4096, KW Q K LS (headOf (i 1)) r (i 0) * KD VV DO DL (headOf (i 1)) r (i 0) * Q (ix2 r (i 1))
def dv : FVec Ideal S4096x1024 .f32 := fun i => ∑ r : Fin 4096, KW Q K LS (headOf (i 1)) r (i 0) * DO (ix2 r (i 1))

end Arrays

variable (m : (ℓ : Loc nD τ sig) → Buf (Elt Ideal) ℓ) (ρ : Dev nD → PrngReg)

/-! ## Each window's block -/

theorem head_lt (t : Fin cfg0.N) : t.val / 8 < 8 := by have : t.val < 64 := Nat.lt_of_lt_of_eq t.isLt N_0; omega
/-- The head of a point. -/
def hd (t : Fin cfg0.N) : Fin 8 := ⟨t.val / 8, head_lt t⟩
theorem blk_lt (t : Fin cfg0.N) : t.val % 8 < 8 := Nat.mod_lt _ (by decide)

theorem index_0 : ∀ t : Fin cfg0.N, win0_0.index t 0 = 0 ∧ win0_0.index t 1 = t.val / 8 :=
  (by decide +kernel : ∀ t : Fin grid0.N, win0_0.index t 0 = 0 ∧ win0_0.index t 1 = t.val / 8)
theorem index_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem index_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)
theorem index_3 : ∀ t : Fin cfg0.N, win0_3.index t 0 = 0 ∧ win0_3.index t 1 = t.val / 8 :=
  (by decide +kernel : ∀ t : Fin grid0.N, win0_3.index t 0 = 0 ∧ win0_3.index t 1 = t.val / 8)
theorem index_6 : ∀ t : Fin cfg0.N, win0_6.index t 0 = 0 ∧ win0_6.index t 1 = t.val / 8 :=
  (by decide +kernel : ∀ t : Fin grid0.N, win0_6.index t 0 = 0 ∧ win0_6.index t 1 = t.val / 8)
theorem index_7 : ∀ t : Fin cfg0.N, win0_7.index t 0 = t.val % 8 ∧ win0_7.index t 1 = t.val / 8 :=
  (by decide +kernel : ∀ t : Fin grid0.N, win0_7.index t 0 = t.val % 8 ∧ win0_7.index t 1 = t.val / 8)
theorem index_8 : ∀ t : Fin cfg0.N, win0_8.index t 0 = t.val % 8 ∧ win0_8.index t 1 = t.val / 8 :=
  (by decide +kernel : ∀ t : Fin grid0.N, win0_8.index t 0 = t.val % 8 ∧ win0_8.index t 1 = t.val / 8)
theorem index_4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)
theorem index_5 : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)

theorem read_0 (A : FVec Ideal S4096x1024 .bf16) (t : Fin cfg0.N) (r : Fin 4096) (d : Fin 128) :
    (((cfg0.win 0).blk t).view.read (Elt Ideal) A : Vec Ideal S4096x128 .bf16) (ix2 r d) = A (ix2 r (lane (hd t) d)) := by
  have hi := index_0 t
  rw [View.read_apply]
  refine congrArg A ?_
  funext a
  apply Fin.ext
  match a with
  | ⟨0, _⟩ => show win0_0.index t 0 * 4096 + 1 * r.val = r.val; rw [hi.1]; omega
  | ⟨1, _⟩ => show win0_0.index t 1 * 128 + 1 * d.val = 128 * (t.val / 8) + d.val; rw [hi.2]; omega

theorem iblk_0 (c : Dev nD) (t : Fin cfg0.N) (r : Fin 4096) (d : Fin 128) :
    (iblk m c 0 t : Vec Ideal S4096x128 .bf16) (ix2 r d) = (V m c main_v35 : FVec Ideal S4096x1024 .bf16) (ix2 r (lane (hd t) d)) :=
  read_0 (V m c main_v35) t r d

theorem read_3 (A : FVec Ideal S4096x1024 .bf16) (t : Fin cfg0.N) (r : Fin 4096) (d : Fin 128) :
    (((cfg0.win 3).blk t).view.read (Elt Ideal) A : Vec Ideal S4096x128 .bf16) (ix2 r d) = A (ix2 r (lane (hd t) d)) := by
  have hi := index_3 t
  rw [View.read_apply]
  refine congrArg A ?_
  funext a
  apply Fin.ext
  match a with
  | ⟨0, _⟩ => show win0_3.index t 0 * 4096 + 1 * r.val = r.val; rw [hi.1]; omega
  | ⟨1, _⟩ => show win0_3.index t 1 * 128 + 1 * d.val = 128 * (t.val / 8) + d.val; rw [hi.2]; omega

theorem iblk_3 (c : Dev nD) (t : Fin cfg0.N) (r : Fin 4096) (d : Fin 128) :
    (iblk m c 3 t : Vec Ideal S4096x128 .bf16) (ix2 r d) = (V m c main_arg3 : FVec Ideal S4096x1024 .bf16) (ix2 r (lane (hd t) d)) :=
  read_3 (V m c main_arg3) t r d

theorem read_1 (A : FVec Ideal S4096x1024 .bf16) (t : Fin cfg0.N) (b : Fin 512) (d : Fin 128) :
    (((cfg0.win 1).blk t).view.read (Elt Ideal) A : Vec Ideal S512x128 .bf16) (ix2 b d) = A (ix2 (row (t.val % 8) (blk_lt t) b) (lane (hd t) d)) := by
  have hi := index_1 t
  rw [View.read_apply]
  refine congrArg A ?_
  funext a
  apply Fin.ext
  match a with
  | ⟨0, _⟩ => show win0_1.index t 0 * 512 + 1 * b.val = 512 * (t.val % 8) + b.val; rw [hi.1]; omega
  | ⟨1, _⟩ => show win0_1.index t 1 * 128 + 1 * d.val = 128 * (t.val / 8) + d.val; rw [hi.2]; omega

theorem iblk_1 (c : Dev nD) (t : Fin cfg0.N) (b : Fin 512) (d : Fin 128) :
    (iblk m c 1 t : Vec Ideal S512x128 .bf16) (ix2 b d) = (V m c main_arg1 : FVec Ideal S4096x1024 .bf16) (ix2 (row (t.val % 8) (blk_lt t) b) (lane (hd t) d)) :=
  read_1 (V m c main_arg1) t b d

theorem read_2 (A : FVec Ideal S4096x1024 .bf16) (t : Fin cfg0.N) (b : Fin 512) (d : Fin 128) :
    (((cfg0.win 2).blk t).view.read (Elt Ideal) A : Vec Ideal S512x128 .bf16) (ix2 b d) = A (ix2 (row (t.val % 8) (blk_lt t) b) (lane (hd t) d)) := by
  have hi := index_2 t
  rw [View.read_apply]
  refine congrArg A ?_
  funext a
  apply Fin.ext
  match a with
  | ⟨0, _⟩ => show win0_2.index t 0 * 512 + 1 * b.val = 512 * (t.val % 8) + b.val; rw [hi.1]; omega
  | ⟨1, _⟩ => show win0_2.index t 1 * 128 + 1 * d.val = 128 * (t.val / 8) + d.val; rw [hi.2]; omega

theorem iblk_2 (c : Dev nD) (t : Fin cfg0.N) (b : Fin 512) (d : Fin 128) :
    (iblk m c 2 t : Vec Ideal S512x128 .bf16) (ix2 b d) = (V m c main_arg2 : FVec Ideal S4096x1024 .bf16) (ix2 (row (t.val % 8) (blk_lt t) b) (lane (hd t) d)) :=
  read_2 (V m c main_arg2) t b d

theorem read_4 (A : FVec Ideal S8x1x4096 .f32) (t : Fin cfg0.N) (r : Fin 4096) :
    (((cfg0.win 4).blk t).view.read (Elt Ideal) A : Vec Ideal S1x1x4096 .f32) (ix3 0 0 r) = A (ix3 (hd t) 0 r) := by
  have hi := index_4 t
  rw [View.read_apply]
  refine congrArg A ?_
  funext a
  apply Fin.ext
  match a with
  | ⟨0, _⟩ => show win0_4.index t 0 * 1 + 1 * 0 = t.val / 8; rw [hi.1]; omega
  | ⟨1, _⟩ => show win0_4.index t 1 * 1 + 1 * 0 = 0; rw [hi.2.1]
  | ⟨2, _⟩ => show win0_4.index t 2 * 4096 + 1 * r.val = r.val; rw [hi.2.2]; omega

theorem iblk_4 (c : Dev nD) (t : Fin cfg0.N) (r : Fin 4096) :
    (iblk m c 4 t : Vec Ideal S1x1x4096 .f32) (ix3 0 0 r) = (V m c main_v36 : FVec Ideal S8x1x4096 .f32) (ix3 (hd t) 0 r) :=
  read_4 (V m c main_v36) t r

theorem read_5 (A : FVec Ideal S8x1x4096 .f32) (t : Fin cfg0.N) (r : Fin 4096) :
    (((cfg0.win 5).blk t).view.read (Elt Ideal) A : Vec Ideal S1x1x4096 .f32) (ix3 0 0 r) = A (ix3 (hd t) 0 r) := by
  have hi := index_5 t
  rw [View.read_apply]
  refine congrArg A ?_
  funext a
  apply Fin.ext
  match a with
  | ⟨0, _⟩ => show win0_5.index t 0 * 1 + 1 * 0 = t.val / 8; rw [hi.1]; omega
  | ⟨1, _⟩ => show win0_5.index t 1 * 1 + 1 * 0 = 0; rw [hi.2.1]
  | ⟨2, _⟩ => show win0_5.index t 2 * 4096 + 1 * r.val = r.val; rw [hi.2.2]; omega

theorem iblk_5 (c : Dev nD) (t : Fin cfg0.N) (r : Fin 4096) :
    (iblk m c 5 t : Vec Ideal S1x1x4096 .f32) (ix3 0 0 r) = (V m c main_v38 : FVec Ideal S8x1x4096 .f32) (ix3 (hd t) 0 r) :=
  read_5 (V m c main_v38) t r

/-! ## The arrays -/

abbrev aQ (c : Dev nD) : FVec Ideal S4096x1024 .bf16 := V m c main_v35
abbrev aK (c : Dev nD) : FVec Ideal S4096x1024 .bf16 := V m c main_arg1
abbrev aV (c : Dev nD) : FVec Ideal S4096x1024 .bf16 := V m c main_arg2
abbrev aO (c : Dev nD) : FVec Ideal S4096x1024 .bf16 := V m c main_arg3
abbrev aL (c : Dev nD) : FVec Ideal S8x1x4096 .f32 := V m c main_v36
abbrev aD (c : Dev nD) : FVec Ideal S8x1x4096 .f32 := V m c main_v38

theorem W_eq (c : Dev nD) (t : Fin cfg0.N) (r : Fin 4096) (a : Fin 512) :
    W (grid0.coords t 1).val (iblk m c 0 t) (iblk m c 1 t) (iblk m c 4 t) r a = KW (aQ m c) (aK m c) (aL m c) (hd t) r (row (t.val % 8) (blk_lt t) a) := by
  unfold W KW E
  rw [coords1]
  refine if_congr Iff.rfl (congrArg Ideal.exp (congrArg₂ (· - ·) (Finset.sum_congr rfl fun d _ => congrArg₂ (· * ·) ?_ ?_) ?_)) rfl
  · exact iblk_1 m c t a d
  · exact iblk_0 m c t r d
  · exact iblk_4 m c t r

theorem D_eq (c : Dev nD) (t : Fin cfg0.N) (r : Fin 4096) (a : Fin 512) :
    D (iblk m c 2 t) (iblk m c 3 t) (iblk m c 5 t) r a = KD (aV m c) (aO m c) (aD m c) (hd t) r (row (t.val % 8) (blk_lt t) a) := by
  unfold D KD
  refine congrArg₂ (· - ·) (Finset.sum_congr rfl fun d _ => congrArg₂ (· * ·) ?_ ?_) ?_
  · exact iblk_2 m c t a d
  · exact iblk_3 m c t r d
  · exact iblk_5 m c t r

theorem headOf_lane (h : Fin 8) (d : Fin 128) : headOf (lane h d) = h :=
  Fin.ext (by show (128 * h.val + d.val) / 128 = h.val; have := d.isLt; omega)

abbrev part (c : Dev nD) (r : Fin 4096) (C : Fin 1024) : Fin 4096 → EReal := qPart (aQ m c) (aK m c) (aV m c) (aO m c) (aL m c) (aD m c) r C

/-- One key block's part of the gradient of q. -/
theorem step_apply (c : Dev nD) (t : Fin cfg0.N) (y : Vec Ideal S4096x128 .f32) (r : Fin 4096) (d : Fin 128) :
    step m c t y (ix2 r d) = y (ix2 r d) + ∑ k ∈ Finset.Ico (512 * (t.val % 8)) (512 * (t.val % 8 + 1)), ext (part m c r (lane (hd t) d)) k := by
  rw [← sum_block _ _ (blk_lt t)]
  unfold step out8
  refine congrArg (_ + ·) (Finset.sum_congr rfl fun a _ => ?_)
  show W _ _ _ _ r a * D _ _ _ r a * _ = qPart _ _ _ _ _ _ r _ _
  unfold qPart
  rw [W_eq, D_eq, headOf_lane]
  exact congrArg (_ * ·) (iblk_1 m c t a d)

/-- Before the scaling at a head's last key block the gradient of q is the sum over the keys of the blocks so far. -/
theorem acc_apply (c : Dev nD) (r : Fin 4096) (d : Fin 128) (n : ℕ) (hn : n < cfg0.N) (h7 : n % 8 ≠ 7) :
    acc m c n hn (ix2 r d) = ∑ k ∈ Finset.range (512 * (n % 8 + 1)), ext (part m c r (lane (hd ⟨n, hn⟩) d)) k := by
  induction n with
  | zero =>
    refine (step_apply m c ⟨0, hn⟩ _ r d).trans ?_
    show (0 : EReal) + ∑ k ∈ Finset.Ico (512 * 0) (512 * (0 + 1)), _ = _
    rw [zero_add, Nat.mul_zero, ← Finset.range_eq_Ico]
  | succ n ih =>
    by_cases h0 : (n + 1) % 8 = 0
    · rw [acc_first m c ⟨n + 1, hn⟩ h0, step_apply, zero_add]
      show ∑ k ∈ Finset.Ico (512 * ((n + 1) % 8)) (512 * ((n + 1) % 8 + 1)), _ = _
      rw [h0, Nat.mul_zero, ← Finset.range_eq_Ico]
    · rw [acc_mid m c ⟨n + 1, hn⟩ h0 h7, step_apply]
      show acc m c n _ _ + ∑ k ∈ Finset.Ico (512 * ((n + 1) % 8)) (512 * ((n + 1) % 8 + 1)), _ = _
      have hh : hd ⟨n, Nat.lt_of_succ_lt hn⟩ = hd ⟨n + 1, hn⟩ := Fin.ext (by show n / 8 = (n + 1) / 8; omega)
      rw [ih (Nat.lt_of_succ_lt hn) (by omega), hh, show n % 8 + 1 = (n + 1) % 8 by omega]
      exact Finset.sum_range_add_sum_Ico _ (by omega)

theorem acc_done (c : Dev nD) (r : Fin 4096) (d : Fin 128) (t : Fin cfg0.N) (h7 : t.val % 8 = 7) :
    acc m c t.val t.isLt (ix2 r d) = dq (aQ m c) (aK m c) (aV m c) (aO m c) (aL m c) (aD m c) (ix2 r (lane (hd t) d)) := by
  rw [acc_last m c t h7]
  show step m c t _ (ix2 r d) * scale = (∑ k : Fin 4096, part m c r (lane (hd t) d) k) * scale
  refine congrArg (· * scale) ?_
  have hh : hd ⟨t.val - 1, Nat.lt_of_le_of_lt (Nat.sub_le _ _) t.isLt⟩ = hd t := Fin.ext (by show (t.val - 1) / 8 = t.val / 8; omega)
  rw [step_apply, acc_apply m c r d _ _ (by omega), hh, sum_ext, h7, show (t.val - 1) % 8 + 1 = 7 by omega]
  exact Finset.sum_range_add_sum_Ico _ (by omega)

end Cert.KernelIdeal.Sweep

end
-- ==== Proof.Result.lean ====
/-
  The kernel's run, read: the three gradients as sums over all keys and all query rows.
-/
module

public import proofs.«01_k».proof.Proof.Final

@[expose] public section

noncomputable section

namespace Cert.KernelIdeal.Sweep

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

abbrev res0 (c : Dev nD) : FVec Ideal S4096x1024 .f32 := dq (aQ m c) (aK m c) (aV m c) (aO m c) (aL m c) (aD m c)
abbrev res1 (c : Dev nD) : FVec Ideal S4096x1024 .f32 := dk (aQ m c) (aK m c) (aV m c) (aO m c) (aL m c) (aD m c)
abbrev res2 (c : Dev nD) : FVec Ideal S4096x1024 .f32 := dv (aQ m c) (aK m c) (aO m c) (aL m c)

theorem read_6 (A : FVec Ideal S4096x1024 .f32) (t : Fin cfg0.N) (r : Fin 4096) (d : Fin 128) :
    (((cfg0.win 6).blk t).view.read (Elt Ideal) A : Vec Ideal S4096x128 .f32) (ix2 r d) = A (ix2 r (lane (hd t) d)) := by
  have hi := index_6 t
  rw [View.read_apply]
  refine congrArg A ?_
  funext a
  apply Fin.ext
  match a with
  | ⟨0, _⟩ => show win0_6.index t 0 * 4096 + 1 * r.val = r.val; rw [hi.1]; omega
  | ⟨1, _⟩ => show win0_6.index t 1 * 128 + 1 * d.val = 128 * (t.val / 8) + d.val; rw [hi.2]; omega

theorem read_7 (A : FVec Ideal S4096x1024 .f32) (t : Fin cfg0.N) (b : Fin 512) (d : Fin 128) :
    (((cfg0.win 7).blk t).view.read (Elt Ideal) A : Vec Ideal S512x128 .f32) (ix2 b d) = A (ix2 (row (t.val % 8) (blk_lt t) b) (lane (hd t) d)) := by
  have hi := index_7 t
  rw [View.read_apply]
  refine congrArg A ?_
  funext a
  apply Fin.ext
  match a with
  | ⟨0, _⟩ => show win0_7.index t 0 * 512 + 1 * b.val = 512 * (t.val % 8) + b.val; rw [hi.1]; omega
  | ⟨1, _⟩ => show win0_7.index t 1 * 128 + 1 * d.val = 128 * (t.val / 8) + d.val; rw [hi.2]; omega

theorem read_8 (A : FVec Ideal S4096x1024 .f32) (t : Fin cfg0.N) (b : Fin 512) (d : Fin 128) :
    (((cfg0.win 8).blk t).view.read (Elt Ideal) A : Vec Ideal S512x128 .f32) (ix2 b d) = A (ix2 (row (t.val % 8) (blk_lt t) b) (lane (hd t) d)) := by
  have hi := index_8 t
  rw [View.read_apply]
  refine congrArg A ?_
  funext a
  apply Fin.ext
  match a with
  | ⟨0, _⟩ => show win0_8.index t 0 * 512 + 1 * b.val = 512 * (t.val % 8) + b.val; rw [hi.1]; omega
  | ⟨1, _⟩ => show win0_8.index t 1 * 128 + 1 * d.val = 128 * (t.val / 8) + d.val; rw [hi.2]; omega

theorem flushed_6 (c : Dev nD) (t : Fin cfg0.N) (hf : (cfg0.win 6).flush t = true) :
    (dats m 0 c).flushed 6 t = ((cfg0.win 6).blk t).view.read (Elt Ideal) (res0 m c) := by
  show (cfg0.win 6).cut (grid0.coords t) ((dats m 0 c).after 6 t) = _
  rw [after_6]
  refine Eq.trans (b := acc m c t.val t.isLt) rfl ?_
  funext p
  obtain ⟨r, d, rfl⟩ : ∃ (r : Fin 4096) (d : Fin 128), p = ix2 r d := ⟨p 0, p 1, (ix2_eta p).symm⟩
  exact (acc_done m c r d t ((flush0_6 t).mp hf)).trans (read_6 (res0 m c) t r d).symm

theorem flushed_7 (c : Dev nD) (t : Fin cfg0.N) (hf : (cfg0.win 7).flush t = true) :
    (dats m 0 c).flushed 7 t = ((cfg0.win 7).blk t).view.read (Elt Ideal) (res1 m c) := by
  show (cfg0.win 7).cut (grid0.coords t) ((dats m 0 c).after 7 t) = _
  rw [after_7]
  refine Eq.trans (b := out9 (grid0.coords t 1).val (iblk m c 0 t) (iblk m c 1 t) (iblk m c 2 t) (iblk m c 3 t) (iblk m c 4 t) (iblk m c 5 t)) rfl ?_
  funext p
  obtain ⟨b, d, rfl⟩ : ∃ (b : Fin 512) (d : Fin 128), p = ix2 b d := ⟨p 0, p 1, (ix2_eta p).symm⟩
  refine Eq.trans ?_ (read_7 (res1 m c) t b d).symm
  show (∑ r : Fin 4096, W _ _ _ _ r b * D _ _ _ r b * _) = ∑ r : Fin 4096, KW _ _ _ (headOf (lane (hd t) d)) r _ * KD _ _ _ (headOf (lane (hd t) d)) r _ * _
  refine Finset.sum_congr rfl fun r _ => ?_
  rw [W_eq, D_eq, headOf_lane]
  exact congrArg (_ * ·) (iblk_0 m c t r d)

theorem flushed_8 (c : Dev nD) (t : Fin cfg0.N) (hf : (cfg0.win 8).flush t = true) :
    (dats m 0 c).flushed 8 t = ((cfg0.win 8).blk t).view.read (Elt Ideal) (res2 m c) := by
  show (cfg0.win 8).cut (grid0.coords t) ((dats m 0 c).after 8 t) = _
  rw [after_8]
  refine Eq.trans (b := out10 (grid0.coords t 1).val (iblk m c 0 t) (iblk m c 1 t) (iblk m c 3 t) (iblk m c 4 t)) rfl ?_
  funext p
  obtain ⟨b, d, rfl⟩ : ∃ (b : Fin 512) (d : Fin 128), p = ix2 b d := ⟨p 0, p 1, (ix2_eta p).symm⟩
  refine Eq.trans ?_ (read_8 (res2 m c) t b d).symm
  show (∑ r : Fin 4096, W _ _ _ _ r b * _) = ∑ r : Fin 4096, KW _ _ _ (headOf (lane (hd t) d)) r _ * _
  refine Finset.sum_congr rfl fun r _ => ?_
  rw [W_eq, headOf_lane]
  exact congrArg (_ * ·) (iblk_3 m c t r d)

/-! ## Every element of a result is flushed -/

theorem xsize_6 : ∀ t : Fin cfg0.N, win0_6.xsize (grid0.coords t) 0 = 4096 ∧ win0_6.xsize (grid0.coords t) 1 = 128 :=
  (by decide +kernel : ∀ t : Fin grid0.N, win0_6.xsize (grid0.coords t) 0 = 4096 ∧ win0_6.xsize (grid0.coords t) 1 = 128)
theorem xsize_7 : ∀ t : Fin cfg0.N, win0_7.xsize (grid0.coords t) 0 = 512 ∧ win0_7.xsize (grid0.coords t) 1 = 128 :=
  (by decide +kernel : ∀ t : Fin grid0.N, win0_7.xsize (grid0.coords t) 0 = 512 ∧ win0_7.xsize (grid0.coords t) 1 = 128)
theorem xsize_8 : ∀ t : Fin cfg0.N, win0_8.xsize (grid0.coords t) 0 = 512 ∧ win0_8.xsize (grid0.coords t) 1 = 128 :=
  (by decide +kernel : ∀ t : Fin grid0.N, win0_8.xsize (grid0.coords t) 0 = 512 ∧ win0_8.xsize (grid0.coords t) 1 = 128)

/-- The point of head `C / 128` and key block `j`. -/
def pointOf (C : Fin 1024) (j : Fin 8) : Fin cfg0.N :=
  ⟨8 * (C.val / 128) + j.val, Nat.lt_of_lt_of_eq (by have := C.isLt; have := j.isLt; omega) N_0.symm⟩

theorem final_6 (c : Dev nD) : (dats m 0 c).arrAt 6 cfg0.N = res0 m c :=
  (dats m 0 c).arrAt_eq_of_cover 6 (res0 m c) (flushed_6 m c) fun i =>
    ⟨pointOf (i 1) 7, (flush0_6 _).mpr (by show (8 * ((i 1 : Fin 1024).val / 128) + 7) % 8 = 7; omega), by
      show i ∈ ((View.whole main_v39_0).slice (win0_6.rect (pointOf (i 1) 7))).set
      rw [View.set_slice_whole, Rect.mem_set_unit]
      intro a
      have hx := xsize_6 (pointOf (i 1) 7)
      have hi := index_6 (pointOf (i 1) 7)
      have h0 : (i 0 : Nat) < 4096 := (i 0).isLt
      have hp : (pointOf (i 1) 7).val = 8 * ((i 1 : Nat) / 128) + 7 := rfl
      rw [hp] at hi
      match a with
      | ⟨0, _⟩ => show win0_6.index (pointOf (i 1) 7) 0 * 4096 ≤ (i 0 : Nat) ∧ (i 0 : Nat) < win0_6.index (pointOf (i 1) 7) 0 * 4096 + win0_6.xsize (grid0.coords (pointOf (i 1) 7)) 0
                  rw [hi.1, hx.1]; omega
      | ⟨1, _⟩ => show win0_6.index (pointOf (i 1) 7) 1 * 128 ≤ (i 1 : Nat) ∧ (i 1 : Nat) < win0_6.index (pointOf (i 1) 7) 1 * 128 + win0_6.xsize (grid0.coords (pointOf (i 1) 7)) 1
                  rw [hi.2, hx.2]; omega⟩

/-- The key block a row belongs to. -/
def blockOf (R : Fin 4096) : Fin 8 := ⟨R.val / 512, by have := R.isLt; omega⟩

theorem final_7 (c : Dev nD) : (dats m 0 c).arrAt 7 cfg0.N = res1 m c :=
  (dats m 0 c).arrAt_eq_of_cover 7 (res1 m c) (flushed_7 m c) fun i =>
    ⟨pointOf (i 1) (blockOf (i 0)), flush0_7 _, by
      show i ∈ ((View.whole main_v39_1).slice (win0_7.rect (pointOf (i 1) (blockOf (i 0))))).set
      rw [View.set_slice_whole, Rect.mem_set_unit]
      intro a
      have hx := xsize_7 (pointOf (i 1) (blockOf (i 0)))
      have hi := index_7 (pointOf (i 1) (blockOf (i 0)))
      have h0 : (i 0 : Nat) < 4096 := (i 0).isLt
      have hp : (pointOf (i 1) (blockOf (i 0))).val = 8 * ((i 1 : Nat) / 128) + (i 0 : Nat) / 512 := rfl
      rw [hp] at hi
      match a with
      | ⟨0, _⟩ => show win0_7.index (pointOf (i 1) (blockOf (i 0))) 0 * 512 ≤ (i 0 : Nat) ∧ (i 0 : Nat) < win0_7.index (pointOf (i 1) (blockOf (i 0))) 0 * 512 + win0_7.xsize (grid0.coords (pointOf (i 1) (blockOf (i 0)))) 0
                  rw [hi.1, hx.1]; omega
      | ⟨1, _⟩ => show win0_7.index (pointOf (i 1) (blockOf (i 0))) 1 * 128 ≤ (i 1 : Nat) ∧ (i 1 : Nat) < win0_7.index (pointOf (i 1) (blockOf (i 0))) 1 * 128 + win0_7.xsize (grid0.coords (pointOf (i 1) (blockOf (i 0)))) 1
                  rw [hi.2, hx.2]; omega⟩

theorem final_8 (c : Dev nD) : (dats m 0 c).arrAt 8 cfg0.N = res2 m c :=
  (dats m 0 c).arrAt_eq_of_cover 8 (res2 m c) (flushed_8 m c) fun i =>
    ⟨pointOf (i 1) (blockOf (i 0)), flush0_8 _, by
      show i ∈ ((View.whole main_v39_2).slice (win0_8.rect (pointOf (i 1) (blockOf (i 0))))).set
      rw [View.set_slice_whole, Rect.mem_set_unit]
      intro a
      have hx := xsize_8 (pointOf (i 1) (blockOf (i 0)))
      have hi := index_8 (pointOf (i 1) (blockOf (i 0)))
      have h0 : (i 0 : Nat) < 4096 := (i 0).isLt
      have hp : (pointOf (i 1) (blockOf (i 0))).val = 8 * ((i 1 : Nat) / 128) + (i 0 : Nat) / 512 := rfl
      rw [hp] at hi
      match a with
      | ⟨0, _⟩ => show win0_8.index (pointOf (i 1) (blockOf (i 0))) 0 * 512 ≤ (i 0 : Nat) ∧ (i 0 : Nat) < win0_8.index (pointOf (i 1) (blockOf (i 0))) 0 * 512 + win0_8.xsize (grid0.coords (pointOf (i 1) (blockOf (i 0)))) 0
                  rw [hi.1, hx.1]; omega
      | ⟨1, _⟩ => show win0_8.index (pointOf (i 1) (blockOf (i 0))) 1 * 128 ≤ (i 1 : Nat) ∧ (i 1 : Nat) < win0_8.index (pointOf (i 1) (blockOf (i 0))) 1 * 128 + win0_8.xsize (grid0.coords (pointOf (i 1) (blockOf (i 0)))) 1
                  rw [hi.2, hx.2]; omega⟩

/-- The run, read: the three results at the gradients, the arguments unchanged. -/
theorem run_holds : θ_run defs (onTc (τ := τ) (main (F := Ideal))) ⟨m, fun _ => 0, ρ⟩ fun r => ∀ c : Dev nD,
      r.2.mem ((c.tc : Thread nD τ).loc main_v39_0) = res0 m c
      ∧ r.2.mem ((c.tc : Thread nD τ).loc main_v39_1) = res1 m c
      ∧ r.2.mem ((c.tc : Thread nD τ).loc main_v39_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 6).trans (final_6 m c), ((h.1 c).1 7).trans (final_7 m c), ((h.1 c).1 8).trans (final_8 m c), h.2 c⟩)
    (θ_run_and (run_main m ρ) (frame_of m ρ (dats m) (A_eq m) (run_main m ρ)))

end Cert.KernelIdeal.Sweep

end
-- ==== Proof.Reals.lean ====
/-
  Causal attention and its gradient over the real numbers, and the step between real numbers and extended ones.
-/
module

public import proofs.«01_k».proof.Proof.Final

@[expose] public section

noncomputable section

namespace Cert.Attn

open Idealize.ShloMosaic Cert.KernelIdeal.Sweep

/-- A finite sum of real numbers is the same sum of them as extended real numbers. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A sum whose every term is a real number. -/
theorem sum_real {α : Type} [Fintype α] {g : α → EReal} {f : α → ℝ} (h : ∀ a, g a = (f a : EReal)) : ∑ a, g a = ((∑ a, f a : ℝ) : EReal) :=
  (Finset.sum_congr rfl fun a _ => h a).trans (coe_sum _ f).symm

/-- The factor on the scores is a real number. -/
theorem scale_real : ∃ s : ℝ, scale = (s : EReal) := by
  unfold scale
  show ∃ s : ℝ, Ideal.ieee 8 23 (0x3DD105EC#32) = (s : EReal)
  unfold Ideal.ieee
  dsimp only
  rw [if_neg (by decide), if_neg (by decide)]
  exact ⟨_, rfl⟩

def sc : ℝ := scale_real.choose
theorem scale_eq : scale = (sc : EReal) := scale_real.choose_spec

variable (q k v o : Fin 4096 → Fin 1024 → ℝ) (mx : Fin 8 → Fin 4096 → ℝ)

/-- The score of key `K` for row `R` in head `h`. -/
def s (h : Fin 8) (R K : Fin 4096) : ℝ := (∑ d : Fin 128, q R (lane h d) * k K (lane h d)) * sc
/-- Its exponential, less the row's greatest score; zero for a later key. -/
def e (h : Fin 8) (R K : Fin 4096) : ℝ := if K.val ≤ R.val then Real.exp (s q k h R K - mx h R) else 0
def l (h : Fin 8) (R : Fin 4096) : ℝ := ∑ K, e q k mx h R K
/-- The weight of key `K`. -/
def p (h : Fin 8) (R K : Fin 4096) : ℝ := e q k mx h R K / l q k mx h R
/-- The output gradient against value `K`. -/
def dp (h : Fin 8) (R K : Fin 4096) : ℝ := ∑ d : Fin 128, o R (lane h d) * v K (lane h d)
/-- The gradient of a score. -/
def g (h : Fin 8) (R K : Fin 4096) : ℝ := p q k mx h R K * (dp v o h R K - ∑ J, p q k mx h R J * dp v o h R J)

theorem e_nonneg (h : Fin 8) (R K : Fin 4096) : 0 ≤ e q k mx h R K := by
  unfold e; split
  · exact (Real.exp_pos _).le
  · exact le_rfl

theorem l_pos (h : Fin 8) (R : Fin 4096) : 0 < l q k mx h R :=
  Finset.sum_pos' (fun K _ => e_nonneg q k mx h R K) ⟨R, Finset.mem_univ _, by unfold e; rw [if_pos le_rfl]; exact Real.exp_pos _⟩

theorem l_ne (h : Fin 8) (R : Fin 4096) : l q k mx h R ≠ 0 := (l_pos q k mx h R).ne'

theorem e_of_not {h : Fin 8} {R K : Fin 4096} (hk : ¬ K.val ≤ R.val) : e q k mx h R K = 0 := if_neg hk
theorem g_of_not {h : Fin 8} {R K : Fin 4096} (hk : ¬ K.val ≤ R.val) : g q k v o mx h R K = 0 := by
  unfold g p; rw [e_of_not q k mx hk, zero_div, zero_mul]

/-- The gradient of a score as differentiating the softmax writes it. -/
theorem g_eq (h : Fin 8) (R K : Fin 4096) :
    (dp v o h R K * (1 / l q k mx h R) + -(∑ J, dp v o h R J * (1 * (1 / (l q k mx h R * l q k mx h R))) * e q k mx h R J)) * e q k mx h R K = g q k v o mx h R K := by
  have hl := l_ne q k mx h R
  have hs : (∑ J, dp v o h R J * (1 * (1 / (l q k mx h R * l q k mx h R))) * e q k mx h R J) = (∑ J, p q k mx h R J * dp v o h R J) * (1 / l q k mx h R) := by
    rw [Finset.sum_mul]
    refine Finset.sum_congr rfl fun J _ => ?_
    unfold p
    field_simp
  rw [hs]
  unfold g
  generalize (∑ J, p q k mx h R J * dp v o h R J) = z
  unfold p
  field_simp
  ring

/-- The row's delta: the output against its gradient. -/
theorem delta_eq (h : Fin 8) (R : Fin 4096) :
    ∑ d : Fin 128, (∑ K, v K (lane h d) * p q k mx h R K) * o R (lane h d) = ∑ K, p q k mx h R K * dp v o h R K := by
  have h1 : ∀ d : Fin 128, (∑ K, v K (lane h d) * p q k mx h R K) * o R (lane h d) = ∑ K, p q k mx h R K * (o R (lane h d) * v K (lane h d)) := fun d => by
    rw [Finset.sum_mul]; exact Finset.sum_congr rfl fun K _ => by ring
  rw [Finset.sum_congr rfl fun d _ => h1 d, Finset.sum_comm]
  exact Finset.sum_congr rfl fun K _ => by unfold dp; rw [Finset.mul_sum]

/-- A weight from the row's log of the sum of exponentials. -/
theorem p_eq (h : Fin 8) (R K : Fin 4096) :
    (if K.val ≤ R.val then Real.exp ((∑ d : Fin 128, k K (lane h d) * (q R (lane h d) * sc)) - (mx h R + Real.log (l q k mx h R))) else 0) = p q k mx h R K := by
  unfold p e
  split
  · have hd : (∑ d : Fin 128, k K (lane h d) * (q R (lane h d) * sc)) = s q k h R K := by
      unfold s; rw [Finset.sum_mul]; exact Finset.sum_congr rfl fun d _ => by ring
    rw [hd, show s q k h R K - (mx h R + Real.log (l q k mx h R)) = (s q k h R K - mx h R) - Real.log (l q k mx h R) by ring, Real.exp_sub, Real.exp_log (l_pos q k mx h R)]
  · rw [zero_div]

end Cert.Attn

end
-- ==== Proof.Ref.lean ====
/-
  The reference read at an index, for arguments that are real numbers.
-/
module

public import proofs.«01_k».proof.Proof.Reals
public import proofs.«01_k».proof.Proof.Gen.ReferenceIdeal.Read
public import Idealize.ShloMosaic.Lib.WordCmp

@[expose] public section

noncomputable section

namespace Cert.Attn

open Cert.ReferenceIdeal Cert.ReferenceIdeal.Gen Cert.ReferenceIdeal.Read Idealize.ShloMosaic Cert.KernelIdeal.Sweep

variable {x0 : FVec Ideal S4096x1024 .f32} {x1 x2 x3 : FVec Ideal S4096x1024 .bf16} {q k v o : Fin 4096 → Fin 1024 → ℝ}

/-- An array whose entries are the real numbers `r`. -/
def Holds {φ : FTy} (x : FVec Ideal S4096x1024 φ) (r : Fin 4096 → Fin 1024 → ℝ) : Prop := ∀ R C, x (ix2 R C) = (r R C : EReal)

theorem heads_idx (R : Fin 4096) (h : Fin 8) (d : Fin 128) : idx_main_v2 (ix3 R h d) = ix2 R (lane h d) := by
  funext a
  apply Fin.ext
  have := R.isLt; have := h.isLt; have := d.isLt
  match a with
  | ⟨0, _⟩ => show ((R.val * 8 + h.val) * 128 + d.val) / 1024 = R.val; omega
  | ⟨1, _⟩ => show ((R.val * 8 + h.val) * 128 + d.val) % 1024 = 128 * h.val + d.val; omega

theorem v2_at (h0 : Holds x0 q) (R : Fin 4096) (h : Fin 8) (d : Fin 128) : val_main_v2 (F := Ideal) x0 (ix3 R h d) = (q R (lane h d) : EReal) := by
  rw [val_main_v2_apply, heads_idx]; exact h0 _ _
theorem v3_at (h1 : Holds x1 k) (R : Fin 4096) (h : Fin 8) (d : Fin 128) : val_main_v3 (F := Ideal) x1 (ix3 R h d) = (k R (lane h d) : EReal) := by
  rw [val_main_v3_apply]; show x1 (idx_main_v2 (ix3 R h d)) = _; rw [heads_idx]; exact h1 _ _
theorem v43_at (h2 : Holds x2 v) (R : Fin 4096) (h : Fin 8) (d : Fin 128) : val_main_v43 (F := Ideal) x2 (ix3 R h d) = (v R (lane h d) : EReal) := by
  rw [val_main_v43_apply]; show x2 (idx_main_v2 (ix3 R h d)) = _; rw [heads_idx]; exact h2 _ _
theorem v49_at (h3 : Holds x3 o) (h : Fin 8) (d : Fin 128) (R : Fin 4096) : val_main_v49 (F := Ideal) x3 (ix3 h d R) = (o R (lane h d) : EReal) := by
  rw [val_main_v49_apply, val_main_v48_apply]; show x3 (idx_main_v2 (ix3 R h d)) = _; rw [heads_idx]; exact h3 _ _

/-- The scores. -/
theorem v6_at (h0 : Holds x0 q) (h1 : Holds x1 k) (h : Fin 8) (R K : Fin 4096) : val_main_v6 (F := Ideal) x0 x1 (ix3 h R K) = (s q k h R K : EReal) := by
  rw [val_main_v6_apply, val_main_v4_apply]
  show (∑ d : Fin 128, val_main_v2 (F := Ideal) x0 (lidx_main_v4 (ix3 h R K) d) * val_main_v3 (F := Ideal) x1 (ridx_main_v4 (ix3 h R K) d)) * scale = _
  unfold s
  rw [scale_eq, EReal.coe_mul, sum_real fun d => ?_]
  have e1 : lidx_main_v4 (ix3 h R K) d = ix3 R h d := funext fun a => by match a with | ⟨0, _⟩ => rfl | ⟨1, _⟩ => rfl | ⟨2, _⟩ => rfl
  have e2 : ridx_main_v4 (ix3 h R K) d = ix3 K h d := funext fun a => by match a with | ⟨0, _⟩ => rfl | ⟨1, _⟩ => rfl | ⟨2, _⟩ => rfl
  rw [e1, e2, v2_at h0, v3_at h1, EReal.coe_mul]

/-- A later key is masked. -/
theorem mask_at (h : Fin 8) (R K : Fin 4096) : val_main_v14_1 (F := Ideal) (ix3 h R K) = 1#1 ↔ K.val ≤ R.val := by
  rw [val_main_v14_1_apply, val_main_v13_apply, val_main_v11_apply, val_main_v12_apply, val_main_v10_apply, val_main_v8_apply]
  show IntOp.cmpi .sle (BitVec.ofNat 32 K.val) (BitVec.ofNat 32 R.val) = 1#1 ↔ _
  have := R.isLt; have := K.isLt
  exact WordCmp.cmpi_sle_ofNat_eq_one_iff (by omega) (by omega)

theorem bot_eq : (Ideal.ofBits .f32 0xFF800000#32 : EReal) = ⊥ := by
  show Ideal.ieee 8 23 (0xFF800000#32) = ⊥
  unfold Ideal.ieee
  dsimp only
  rw [if_pos (by decide), if_pos (by decide), if_pos (by decide)]

/-- The masked scores. -/
theorem v14_at (h0 : Holds x0 q) (h1 : Holds x1 k) (h : Fin 8) (R K : Fin 4096) :
    val_main_v14_0 (F := Ideal) x0 x1 (ix3 h R K) = if K.val ≤ R.val then (s q k h R K : EReal) else ⊥ := by
  rw [val_main_v14_0_apply]
  unfold Scalar.select
  refine if_congr (mask_at h R K) (v6_at h0 h1 h R K) ?_
  rw [val_main_call0_v2_apply]
  exact bot_eq

/-- Each row's greatest score is a real number. -/
theorem v15_real (h0 : Holds x0 q) (h1 : Holds x1 k) (h : Fin 8) (R : Fin 4096) : ∃ r : ℝ, val_main_v15 (F := Ideal) x0 x1 (ix2 h R) = (r : EReal) := by
  have e : val_main_v15 (F := Ideal) x0 x1 (ix2 h R) = (Finset.univ : Finset (Fin 4096)).fold max ⊥ fun K => val_main_v14_0 (F := Ideal) x0 x1 (ix3 h R K) := by
    unfold val_main_v15
    generalize val_main_v14_0 (F := Ideal) x0 x1 = y
    refine (Host.reduce_eq_fold_single (max : EReal → EReal → EReal) y (val_main_cst_1 (F := Ideal)) reducesTo_S8x4096x4096_S8x4096_d2 (by decide) h_S_ (ix2 h R)).trans ?_
    refine congrArg₂ (Finset.fold max · · _) bot_eq (funext fun K => congrArg y (funext fun a => Fin.ext ?_))
    match a with | ⟨0, _⟩ => rfl | ⟨1, _⟩ => rfl | ⟨2, _⟩ => rfl
  have hlt : val_main_v15 (F := Ideal) x0 x1 (ix2 h R) ≠ ⊤ := by
    rw [e]
    refine ne_of_lt ((Finset.fold_max_lt _).2 ⟨bot_lt_top, fun K _ => ?_⟩)
    rw [v14_at h0 h1]; split
    · exact EReal.coe_lt_top _
    · exact bot_lt_top
  have hgt : val_main_v15 (F := Ideal) x0 x1 (ix2 h R) ≠ ⊥ := by
    rw [e]
    refine ne_of_gt ((Finset.lt_fold_max _).2 (Or.inr ⟨R, Finset.mem_univ _, ?_⟩))
    rw [v14_at h0 h1, if_pos le_rfl]
    exact EReal.bot_lt_coe _
  exact ⟨_, (EReal.coe_toReal hlt hgt).symm⟩

variable {mx : Fin 8 → Fin 4096 → ℝ}

/-- The rows' greatest scores. -/
def HoldsMax (x0 : FVec Ideal S4096x1024 .f32) (x1 : FVec Ideal S4096x1024 .bf16) (mx : Fin 8 → Fin 4096 → ℝ) : Prop :=
  ∀ h R, val_main_v15 (F := Ideal) x0 x1 (ix2 h R) = (mx h R : EReal)

/-- The exponential of a masked score. -/
theorem exp_at (h : Fin 8) (R K : Fin 4096) :
    Ideal.exp ((if K.val ≤ R.val then (s q k h R K : EReal) else ⊥) - (mx h R : EReal)) = (e q k mx h R K : EReal) := by
  unfold e
  split
  · rw [← EReal.coe_sub, Ideal.exp_coe]
  · rw [EReal.bot_sub, Ideal.exp_bot, EReal.coe_zero]

theorem v35_at (h0 : Holds x0 q) (h1 : Holds x1 k) (hm : HoldsMax x0 x1 mx) (h : Fin 8) (R K : Fin 4096) :
    val_main_v35 (F := Ideal) x0 x1 (ix3 h R K) = (e q k mx h R K : EReal) := by
  rw [val_main_v35_apply, val_main_v34_apply, v14_at h0 h1, val_main_v33_apply, val_main_v32_apply, val_main_v22_apply, val_main_v21_apply]
  have ei : idx_main_v32 (idx_main_v33 (ix3 h R K)) = ix2 h R := funext fun a => by match a with | ⟨0, _⟩ => rfl | ⟨1, _⟩ => rfl
  rw [ei, hm h R]
  show Ideal.exp (_ - max (Ideal.ofBits .f32 0xFF800000#32) (mx h R : EReal)) = _
  rw [bot_eq, max_eq_right bot_le]
  exact exp_at h R K

theorem zero_bits : (Ideal.ofBits .f32 0x00000000#32 : EReal) = 0 := by
  show Ideal.ieee 8 23 (0x00000000#32) = 0
  unfold Ideal.ieee
  dsimp only
  rw [if_neg (by decide), if_pos (by decide), show (BitVec.extractLsb' 0 23 (0x00000000#32)).toNat = 0 by decide]
  simp

theorem one_bits : (Ideal.ofBits .f32 0x3F800000#32 : EReal) = ((1 : ℝ) : EReal) := by
  show Ideal.ieee 8 23 (0x3F800000#32) = _
  unfold Ideal.ieee
  dsimp only
  rw [if_neg (by decide), if_neg (by decide), show (BitVec.extractLsb' 0 23 (0x3F800000#32)).toNat = 0 by decide, show (BitVec.extractLsb' 23 8 (0x3F800000#32)).toNat = 127 by decide,
    show (BitVec.extractLsb' (8 + 23) 1 (0x3F800000#32) == 1#1) = false by decide]
  congr 1
  norm_num

theorem v36_at (h0 : Holds x0 q) (h1 : Holds x1 k) (hm : HoldsMax x0 x1 mx) (h : Fin 8) (R : Fin 4096) :
    val_main_v36 (F := Ideal) x0 x1 (ix2 h R) = (l q k mx h R : EReal) := by
  rw [val_main_v36_apply]
  show (Ideal.ofBits .f32 0x00000000#32 : EReal) + _ = _
  rw [zero_bits, zero_add]
  refine sum_real fun K => ?_
  have ei : idx_main_v36 (ix2 h R) K = ix3 h R K := funext fun a => by match a with | ⟨0, _⟩ => rfl | ⟨1, _⟩ => rfl | ⟨2, _⟩ => rfl
  rw [ei, v35_at h0 h1 hm]

theorem v37_at (h0 : Holds x0 q) (h1 : Holds x1 k) (hm : HoldsMax x0 x1 mx) (h : Fin 8) (R : Fin 4096) (z : Fin 1) :
    val_main_v37 (F := Ideal) x0 x1 (ix3 h R z) = (l q k mx h R : EReal) := by
  rw [val_main_v37_apply]
  have ei : idx_main_v37 (ix3 h R z) = ix2 h R := funext fun a => by match a with | ⟨0, _⟩ => rfl | ⟨1, _⟩ => rfl
  rw [ei, v36_at h0 h1 hm]

theorem v39_at (h0 : Holds x0 q) (h1 : Holds x1 k) (hm : HoldsMax x0 x1 mx) (h : Fin 8) (R K : Fin 4096) :
    val_main_v39 (F := Ideal) x0 x1 (ix3 h R K) = (p q k mx h R K : EReal) := by
  rw [val_main_v39_apply, val_main_v38_apply, v35_at h0 h1 hm]
  have ei : idx_main_v38 (ix3 h R K) = ix3 h R 0 := funext fun a => by match a with | ⟨0, _⟩ => rfl | ⟨1, _⟩ => rfl | ⟨2, _⟩ => rfl
  rw [ei, v37_at h0 h1 hm]
  show Ideal.div _ _ = _
  rw [Ideal.div_coe (l_ne q k mx h R), ← EReal.coe_mul]
  unfold p
  rw [mul_one_div]

theorem v42_at (h0 : Holds x0 q) (h1 : Holds x1 k) (hm : HoldsMax x0 x1 mx) (h : Fin 8) (R : Fin 4096) (z : Fin 1) :
    val_main_v42 (F := Ideal) x0 x1 (ix3 h R z) = ((1 * (1 / (l q k mx h R * l q k mx h R)) : ℝ) : EReal) := by
  rw [val_main_v42_apply, val_main_v41_apply, val_main_v40_apply, v37_at h0 h1 hm]
  show Ideal.div (Ideal.ofBits .f32 0x3F800000#32) ((l q k mx h R : EReal) * (l q k mx h R : EReal)) = _
  rw [one_bits, ← EReal.coe_mul, Ideal.div_coe (mul_ne_zero (l_ne q k mx h R) (l_ne q k mx h R)), ← EReal.coe_mul]

theorem v50_at (h2 : Holds x2 v) (h3 : Holds x3 o) (h : Fin 8) (R K : Fin 4096) : val_main_v50 (F := Ideal) x2 x3 (ix3 h R K) = (dp v o h R K : EReal) := by
  rw [val_main_v50_apply]
  refine sum_real fun d => ?_
  have e1 : lidx_main_v50 (ix3 h R K) d = ix3 h d R := funext fun a => by match a with | ⟨0, _⟩ => rfl | ⟨1, _⟩ => rfl | ⟨2, _⟩ => rfl
  have e2 : ridx_main_v50 (ix3 h R K) d = ix3 K h d := funext fun a => by match a with | ⟨0, _⟩ => rfl | ⟨1, _⟩ => rfl | ⟨2, _⟩ => rfl
  rw [e1, e2, v49_at h3, v43_at h2, EReal.coe_mul]

/-- The gradient of v. -/
theorem v53_at (h0 : Holds x0 q) (h1 : Holds x1 k) (hm : HoldsMax x0 x1 mx) (h3 : Holds x3 o) (K : Fin 4096) (C : Fin 1024) :
    val_main_v53 (F := Ideal) x0 x1 x3 (ix2 K C) = ((∑ R, o R C * p q k mx (headOf C) R K : ℝ) : EReal) := by
  have hC : lane (headOf C) ⟨C.val % 128, Nat.mod_lt _ (by decide)⟩ = C := Fin.ext (by show 128 * (C.val / 128) + C.val % 128 = C.val; omega)
  rw [val_main_v53_apply, val_main_v52_apply]
  have ei : idx_main_v52 (idx_main_v53 (ix2 K C)) = ix3 (headOf C) ⟨C.val % 128, Nat.mod_lt _ (by decide)⟩ K := funext fun a => Fin.ext (by
    have := K.isLt; have := C.isLt
    match a with
    | ⟨0, _⟩ => show (K.val * 1024 + C.val) / 128 % 8 = C.val / 128; omega
    | ⟨1, _⟩ => show (K.val * 1024 + C.val) % 128 = C.val % 128; omega
    | ⟨2, _⟩ => show (K.val * 1024 + C.val) / 1024 = K.val; omega)
  rw [ei, val_main_v51_apply]
  refine sum_real fun R => ?_
  have e1 : ∀ d : Fin 128, lidx_main_v51 (ix3 (headOf C) d K) R = ix3 (headOf C) d R := fun d => funext fun a => by match a with | ⟨0, _⟩ => rfl | ⟨1, _⟩ => rfl | ⟨2, _⟩ => rfl
  have e2 : ∀ d : Fin 128, ridx_main_v51 (ix3 (headOf C) d K) R = ix3 (headOf C) R K := fun d => funext fun a => by match a with | ⟨0, _⟩ => rfl | ⟨1, _⟩ => rfl | ⟨2, _⟩ => rfl
  rw [e1, e2, v49_at h3, v39_at h0 h1 hm, hC, EReal.coe_mul]

/-- The gradient of a score, scaled. -/
theorem v68_at (h0 : Holds x0 q) (h1 : Holds x1 k) (hm : HoldsMax x0 x1 mx) (h2 : Holds x2 v) (h3 : Holds x3 o) (h : Fin 8) (R K : Fin 4096) :
    val_main_v68 (F := Ideal) x0 x1 x2 x3 (ix3 h R K) = ((g q k v o mx h R K * sc : ℝ) : EReal) := by
  have hsum : val_main_v57 (F := Ideal) x0 x1 x2 x3 (ix2 h R) = ((∑ J, dp v o h R J * (1 * (1 / (l q k mx h R * l q k mx h R))) * e q k mx h R J : ℝ) : EReal) := by
    rw [val_main_v57_apply]
    show (Ideal.ofBits .f32 0x00000000#32 : EReal) + _ = _
    rw [zero_bits, zero_add]
    refine sum_real fun J => ?_
    have ei : idx_main_v57 (ix2 h R) J = ix3 h R J := funext fun a => by match a with | ⟨0, _⟩ => rfl | ⟨1, _⟩ => rfl | ⟨2, _⟩ => rfl
    have ej : idx_main_v54 (ix3 h R J) = ix3 h R 0 := funext fun a => by match a with | ⟨0, _⟩ => rfl | ⟨1, _⟩ => rfl | ⟨2, _⟩ => rfl
    rw [ei, val_main_v56_apply, val_main_v55_apply, v50_at h2 h3, val_main_v54_apply, ej, v42_at h0 h1 hm, v35_at h0 h1 hm]
    show ((dp v o h R J : ℝ) : EReal) * _ * _ = _
    rw [← EReal.coe_mul, ← EReal.coe_mul]
  have hneg : val_main_v62 (F := Ideal) x0 x1 x2 x3 (ix2 h R) = ((-(∑ J, dp v o h R J * (1 * (1 / (l q k mx h R * l q k mx h R))) * e q k mx h R J) : ℝ) : EReal) := by
    rw [val_main_v62_apply]
    show (Ideal.ofBits .f32 0x00000000#32 : EReal) + _ = _
    rw [zero_bits, zero_add, Fin.sum_univ_one, val_main_v59_apply, val_main_v58_apply]
    have ei : idx_main_v58 (idx_main_v62 (ix2 h R) 0) = ix2 h R := funext fun a => Fin.ext (by
      have := h.isLt; have := R.isLt
      match a with
      | ⟨0, _⟩ => show ((h.val * 4096 + R.val) * 1 + 0) / 4096 = h.val; omega
      | ⟨1, _⟩ => show ((h.val * 4096 + R.val) * 1 + 0) % 4096 = R.val; omega)
    rw [ei, hsum]
    show -((_ : ℝ) : EReal) = _
    rw [← EReal.coe_neg]
  rw [val_main_v68_apply, val_main_v66_apply]
  show Scalar.select _ _ _ * scale = _
  rw [scale_eq, EReal.coe_mul]
  refine congrArg (· * _) ?_
  unfold Scalar.select
  by_cases hk : K.val ≤ R.val
  · rw [if_pos (show val_main_v14_1 (F := Ideal) (ix3 h R K) = 1 from (mask_at h R K).2 hk), val_main_v65_apply, val_main_v64_apply, val_main_v61_apply, v50_at h2 h3, val_main_v60_apply, val_main_v63_apply, v35_at h0 h1 hm]
    have ei : idx_main_v60 (ix3 h R K) = ix3 h R 0 := funext fun a => by match a with | ⟨0, _⟩ => rfl | ⟨1, _⟩ => rfl | ⟨2, _⟩ => rfl
    have ej : idx_main_v63 (ix3 h R K) = ix2 h R := funext fun a => by match a with | ⟨0, _⟩ => rfl | ⟨1, _⟩ => rfl
    rw [ei, ej, v37_at h0 h1 hm, hneg]
    show (Ideal.div _ _ + _) * _ = _
    rw [Ideal.div_coe (l_ne q k mx h R), ← EReal.coe_mul, ← EReal.coe_add, ← EReal.coe_mul, g_eq]
  · rw [if_neg (show ¬ val_main_v14_1 (F := Ideal) (ix3 h R K) = 1 from fun hh => hk ((mask_at h R K).1 hh)), val_main_call1_v0_apply, g_of_not q k v o mx hk]
    exact zero_bits

/-- The gradient of k. -/
theorem v73_at (h0 : Holds x0 q) (h1 : Holds x1 k) (hm : HoldsMax x0 x1 mx) (h2 : Holds x2 v) (h3 : Holds x3 o) (K : Fin 4096) (C : Fin 1024) :
    val_main_v73 (F := Ideal) x0 x1 x2 x3 (ix2 K C) = ((∑ R, g q k v o mx (headOf C) R K * sc * q R C : ℝ) : EReal) := by
  have hC : lane (headOf C) ⟨C.val % 128, Nat.mod_lt _ (by decide)⟩ = C := Fin.ext (by show 128 * (C.val / 128) + C.val % 128 = C.val; omega)
  rw [val_main_v73_apply, val_main_v70_apply]
  have ei : idx_main_v70 (idx_main_v73 (ix2 K C)) = ix3 (headOf C) K ⟨C.val % 128, Nat.mod_lt _ (by decide)⟩ := funext fun a => Fin.ext (by
    have := K.isLt; have := C.isLt
    match a with
    | ⟨0, _⟩ => show (K.val * 1024 + C.val) / 128 % 8 = C.val / 128; omega
    | ⟨1, _⟩ => show (K.val * 1024 + C.val) / 1024 = K.val; omega
    | ⟨2, _⟩ => show (K.val * 1024 + C.val) % 128 = C.val % 128; omega)
  rw [ei, val_main_v69_apply]
  refine sum_real fun R => ?_
  have e1 : ∀ d : Fin 128, lidx_main_v69 (ix3 (headOf C) K d) R = ix3 (headOf C) R K := fun d => funext fun a => by match a with | ⟨0, _⟩ => rfl | ⟨1, _⟩ => rfl | ⟨2, _⟩ => rfl
  have e2 : ∀ d : Fin 128, ridx_main_v69 (ix3 (headOf C) K d) R = ix3 R (headOf C) d := fun d => funext fun a => by match a with | ⟨0, _⟩ => rfl | ⟨1, _⟩ => rfl | ⟨2, _⟩ => rfl
  rw [e1, e2, v68_at h0 h1 hm h2 h3, v2_at h0, hC, ← EReal.coe_mul]

/-- The gradient of q. -/
theorem v74_at (h0 : Holds x0 q) (h1 : Holds x1 k) (hm : HoldsMax x0 x1 mx) (h2 : Holds x2 v) (h3 : Holds x3 o) (R : Fin 4096) (C : Fin 1024) :
    val_main_v74 (F := Ideal) x0 x1 x2 x3 (ix2 R C) = ((∑ K, g q k v o mx (headOf C) R K * sc * k K C : ℝ) : EReal) := by
  have hC : lane (headOf C) ⟨C.val % 128, Nat.mod_lt _ (by decide)⟩ = C := Fin.ext (by show 128 * (C.val / 128) + C.val % 128 = C.val; omega)
  rw [val_main_v74_apply, val_main_v72_apply]
  have ei : idx_main_v72 (idx_main_v74 (ix2 R C)) = ix3 (headOf C) R ⟨C.val % 128, Nat.mod_lt _ (by decide)⟩ := funext fun a => Fin.ext (by
    have := R.isLt; have := C.isLt
    match a with
    | ⟨0, _⟩ => show (R.val * 1024 + C.val) / 128 % 8 = C.val / 128; omega
    | ⟨1, _⟩ => show (R.val * 1024 + C.val) / 1024 = R.val; omega
    | ⟨2, _⟩ => show (R.val * 1024 + C.val) % 128 = C.val % 128; omega)
  rw [ei, val_main_v71_apply]
  refine sum_real fun K => ?_
  have e1 : ∀ d : Fin 128, lidx_main_v71 (ix3 (headOf C) R d) K = ix3 (headOf C) R K := fun d => funext fun a => by match a with | ⟨0, _⟩ => rfl | ⟨1, _⟩ => rfl | ⟨2, _⟩ => rfl
  have e2 : ∀ d : Fin 128, ridx_main_v71 (ix3 (headOf C) R d) K = ix3 K (headOf C) d := fun d => funext fun a => by match a with | ⟨0, _⟩ => rfl | ⟨1, _⟩ => rfl | ⟨2, _⟩ => rfl
  rw [e1, e2, v68_at h0 h1 hm h2 h3, v3_at h1, hC, ← EReal.coe_mul]

end Cert.Attn

end
-- ==== Proof.Host.lean ====
/-
  What the host lines before the kernel leave: the scaled q, each row's log of the sum of exponentials, each row's delta.
-/
module

public import proofs.«01_k».proof.Proof.Gen.KernelIdeal.Frame
public import proofs.«01_k».proof.Proof.Gen.ReferenceIdeal.Read
public import Idealize.ShloMosaic.Lib.StableHlo.RunRead
public import Idealize.ShloMosaic.Lib.Claim

@[expose] public section

noncomputable section

namespace Cert.KernelIdeal.Sweep

open Cert.KernelIdeal Cert.KernelIdeal.Gen Idealize.ShloMosaic Idealize.ShloMosaic.TcCoe Idealize.SL.Sem Idealize.ShloMosaic.StableHlo

section Values

variable (x0 : FVec Ideal S4096x1024 .f32) (x1 x2 x3 : FVec Ideal S4096x1024 .bf16)

/-- The masked scores. -/
def hS : FVec Ideal S8x4096x4096 .f32 := Cert.ReferenceIdeal.Read.val_main_v14_0 (F := Ideal) x0 x1
/-- Each row's greatest score. -/
def hM : FVec Ideal S8x4096 .f32 := Cert.ReferenceIdeal.Read.val_main_v15 (F := Ideal) x0 x1
def hM3 : FVec Ideal S8x4096x1 .f32 := broadcastInDim S8x4096x1 ![0, 1] bcast_S8x4096_S8x4096x1_0_1 (hM x0 x1)
def hE : FVec Ideal S8x4096x4096 .f32 := Host.exp (subf (hS x0 x1) (broadcastInDim S8x4096x4096 ![0, 1, 2] bcast_S8x4096x1_S8x4096x4096_0_1_2 (hM3 x0 x1)))
/-- Each row's sum of exponentials. -/
def hL : FVec Ideal S8x4096 .f32 := Host.reduceAdd (hE x0 x1) (constant S_ .f32 0x00000000#32) reducesTo_S8x4096x4096_S8x4096_d2 h_S_
def hL3 : FVec Ideal S8x4096x1 .f32 := broadcastInDim S8x4096x1 ![0, 1] bcast_S8x4096_S8x4096x1_0_1 (hL x0 x1)
def hLse : FVec Ideal S8x4096x1 .f32 := addf (hM3 x0 x1) (Host.log (hL3 x0 x1))
def hP : FVec Ideal S8x4096x4096 .f32 := Host.divf (hE x0 x1) (broadcastInDim S8x4096x4096 ![0, 1, 2] bcast_S8x4096x1_S8x4096x4096_0_1_2 (hL3 x0 x1))
def hV : FVec Ideal S4096x8x128 .f32 := shapeCast S4096x8x128 (extf .f32 x2 bitsLt_bf16_f32) shapeCasts_S4096x1024_S4096x8x128
def hO : FVec Ideal S8x128x4096 .f32 := Host.dotGeneral dot_S4096x8x128_S8x4096x4096_S8x128x4096_0_2_2_1_1_0 none (hV x2) (hP x0 x1)
def hOdo : FVec Ideal S4096x8x128 .f32 := mulf (transpose S4096x8x128 [2, 0, 1] (hO x0 x1 x2) transposes_S8x128x4096_S4096x8x128_2_0_1) (hV x3)
/-- Each row's delta. -/
def hD : FVec Ideal S4096x8 .f32 := Host.reduceAdd (hOdo x0 x1 x2 x3) (constant S_ .f32 0x00000000#32) reducesTo_S4096x8x128_S4096x8_d2 h_S_

def arrQ : FVec Ideal S4096x1024 .bf16 := truncf .bf16 (mulf x0 (broadcastInDim S4096x1024 ![] bcast_S_S4096x1024 (constant (F := Ideal) S_ .f32 0x3DD105EC#32))) bitsLt_bf16_f32
def arrL : FVec Ideal S8x1x4096 .f32 := shapeCast S8x1x4096 (hLse x0 x1) shapeCasts_S8x4096x1_S8x1x4096
def arrD : FVec Ideal S8x1x4096 .f32 := broadcastInDim S8x1x4096 ![0, 2] bcast_S8x4096_S8x1x4096_0_2 (transpose S8x4096 [1, 0] (hD x0 x1 x2 x3) transposes_S4096x8_S8x4096_1_0)

end Values

variable (m : (ℓ : Loc nD τ sig) → Buf (Elt Ideal) ℓ)

theorem V_main_v35 (c : Dev nD) : (V m c main_v35 : FVec Ideal S4096x1024 .bf16) = arrQ (m ((c : Thread nD τ).loc main_arg0)) := by
  unfold_abbrev_sides
  after_reads_simp
  rfl

theorem V_main_v36 (c : Dev nD) : (V m c main_v36 : FVec Ideal S8x1x4096 .f32) = arrL (m ((c : Thread nD τ).loc main_arg0)) (m ((c : Thread nD τ).loc main_arg1)) := by
  unfold_abbrev_sides
  after_reads_simp
  rfl

theorem V_main_v38 (c : Dev nD) : (V m c main_v38 : FVec Ideal S8x1x4096 .f32) = arrD (m ((c : Thread nD τ).loc main_arg0)) (m ((c : Thread nD τ).loc main_arg1)) (m ((c : Thread nD τ).loc main_arg2)) (m ((c : Thread nD τ).loc main_arg3)) := by
  unfold_abbrev_sides
  after_reads_simp
  rfl

end Cert.KernelIdeal.Sweep

end
-- ==== Proof.Join.lean ====
/-
  The kernel's three gradients are the reference's, for arguments that are real numbers.
-/
module

public import proofs.«01_k».proof.Proof.Ref
public import proofs.«01_k».proof.Proof.Host

@[expose] public section

noncomputable section

namespace Cert.Attn

open Cert.KernelIdeal Cert.KernelIdeal.Gen Idealize.ShloMosaic Cert.KernelIdeal.Sweep
open Cert.ReferenceIdeal.Read (val_main_v35 val_main_v36 val_main_v37 val_main_v39 val_main_v43 val_main_v44 val_main_v53 val_main_v73 val_main_v74)

variable {x0 : FVec Ideal S4096x1024 .f32} {x1 x2 x3 : FVec Ideal S4096x1024 .bf16} {q k v o : Fin 4096 → Fin 1024 → ℝ} {mx : Fin 8 → Fin 4096 → ℝ}

theorem bcast_row (y : FVec Ideal S8x4096 .f32) (h : Fin 8) (R : Fin 4096) (z : Fin 1) :
    broadcastInDim S8x4096x1 ![0, 1] bcast_S8x4096_S8x4096x1_0_1 y (ix3 h R z) = y (ix2 h R) :=
  broadcastInDim_apply _ bcast_S8x4096_S8x4096x1_0_1 y (ix3 h R z) (ix2 h R) (fun a => match a with
    | ⟨0, _⟩ => by show h.val = if (8 : Nat) = 1 then 0 else h.val; rw [if_neg (by decide)]
    | ⟨1, _⟩ => by show R.val = if (4096 : Nat) = 1 then 0 else R.val; rw [if_neg (by decide)])

theorem bcast_keys (y : FVec Ideal S8x4096x1 .f32) (h : Fin 8) (R K : Fin 4096) :
    broadcastInDim S8x4096x4096 ![0, 1, 2] bcast_S8x4096x1_S8x4096x4096_0_1_2 y (ix3 h R K) = y (ix3 h R 0) :=
  broadcastInDim_apply _ bcast_S8x4096x1_S8x4096x4096_0_1_2 y (ix3 h R K) (ix3 h R 0) (fun a => match a with
    | ⟨0, _⟩ => by show h.val = if (8 : Nat) = 1 then 0 else h.val; rw [if_neg (by decide)]
    | ⟨1, _⟩ => by show R.val = if (4096 : Nat) = 1 then 0 else R.val; rw [if_neg (by decide)]
    | ⟨2, _⟩ => by show 0 = if (1 : Nat) = 1 then 0 else K.val; rw [if_pos rfl])

theorem hM3_at (hm : HoldsMax x0 x1 mx) (h : Fin 8) (R : Fin 4096) (z : Fin 1) : hM3 x0 x1 (ix3 h R z) = (mx h R : EReal) := by
  unfold hM3
  rw [bcast_row]
  exact hm h R

theorem hE_eq (h0 : Holds x0 q) (h1 : Holds x1 k) (hm : HoldsMax x0 x1 mx) : hE x0 x1 = val_main_v35 (F := Ideal) x0 x1 := by
  funext i
  obtain ⟨h, R, K, rfl⟩ : ∃ (h : Fin 8) (R K : Fin 4096), i = ix3 h R K := ⟨i 0, i 1, i 2, funext fun a => by match a with | ⟨0, _⟩ => rfl | ⟨1, _⟩ => rfl | ⟨2, _⟩ => rfl⟩
  rw [v35_at h0 h1 hm]
  show Ideal.exp (hS x0 x1 (ix3 h R K) - broadcastInDim S8x4096x4096 ![0, 1, 2] bcast_S8x4096x1_S8x4096x4096_0_1_2 (hM3 x0 x1) (ix3 h R K)) = _
  rw [bcast_keys, hM3_at hm, show hS x0 x1 (ix3 h R K) = _ from v14_at h0 h1 h R K]
  exact exp_at h R K

theorem hL_eq (h0 : Holds x0 q) (h1 : Holds x1 k) (hm : HoldsMax x0 x1 mx) : hL x0 x1 = val_main_v36 (F := Ideal) x0 x1 := by
  unfold hL; rw [hE_eq h0 h1 hm]; rfl
theorem hL3_eq (h0 : Holds x0 q) (h1 : Holds x1 k) (hm : HoldsMax x0 x1 mx) : hL3 x0 x1 = val_main_v37 (F := Ideal) x0 x1 := by
  unfold hL3; rw [hL_eq h0 h1 hm]; rfl
theorem hP_eq (h0 : Holds x0 q) (h1 : Holds x1 k) (hm : HoldsMax x0 x1 mx) : hP x0 x1 = val_main_v39 (F := Ideal) x0 x1 := by
  unfold hP; rw [hE_eq h0 h1 hm, hL3_eq h0 h1 hm]; rfl
theorem hO_eq (h0 : Holds x0 q) (h1 : Holds x1 k) (hm : HoldsMax x0 x1 mx) : hO x0 x1 x2 = val_main_v44 (F := Ideal) x0 x1 x2 := by
  unfold hO; rw [hP_eq h0 h1 hm]; rfl

/-- The kernel's q is the scaled one. -/
theorem arrQ_at (h0 : Holds x0 q) (R : Fin 4096) (C : Fin 1024) : arrQ x0 (ix2 R C) = ((q R C * sc : ℝ) : EReal) := by
  show x0 (ix2 R C) * scale = _
  rw [h0 R C, scale_eq, EReal.coe_mul]

theorem flat_at (y : FVec Ideal S8x4096x1 .f32) (h : Fin 8) (R : Fin 4096) : shapeCast S8x1x4096 y shapeCasts_S8x4096x1_S8x1x4096 (ix3 h 0 R) = y (ix3 h R 0) :=
  shapeCast_apply y shapeCasts_S8x4096x1_S8x1x4096 (ix3 h 0 R) (ix3 h R 0) (by
    rewrite [Shape.rowMajor_val_three, Shape.rowMajor_val_three]
    show (h.val * 4096 + R.val) * 1 + 0 = (h.val * 1 + 0) * 4096 + R.val
    omega)

theorem log_at (y z : FVec Ideal S8x4096x1 .f32) (i : S8x4096x1.Idx) : addf y (Host.log z) i = y i + Ideal.log (z i) := rfl

/-- The kernel's row statistics are the logs of the sums of exponentials. -/
theorem arrL_at (h0 : Holds x0 q) (h1 : Holds x1 k) (hm : HoldsMax x0 x1 mx) (h : Fin 8) (R : Fin 4096) :
    arrL x0 x1 (ix3 h 0 R) = ((mx h R + Real.log (l q k mx h R) : ℝ) : EReal) := by
  unfold arrL hLse
  rw [flat_at, log_at, hM3_at hm, hL3_eq h0 h1 hm, v37_at h0 h1 hm, Ideal.log_coe, if_neg (not_le.2 (l_pos q k mx h R)), EReal.coe_add]

theorem hV_at {x : FVec Ideal S4096x1024 .bf16} {r : Fin 4096 → Fin 1024 → ℝ} (hx : Holds x r) (R : Fin 4096) (h : Fin 8) (d : Fin 128) : hV x (ix3 R h d) = (r R (lane h d) : EReal) :=
  v43_at hx R h d

theorem hOdo_at (h0 : Holds x0 q) (h1 : Holds x1 k) (hm : HoldsMax x0 x1 mx) (h2 : Holds x2 v) (h3 : Holds x3 o) (R : Fin 4096) (h : Fin 8) (d : Fin 128) :
    hOdo x0 x1 x2 x3 (ix3 R h d) = (((∑ K, v K (lane h d) * p q k mx h R K) * o R (lane h d) : ℝ) : EReal) := by
  show transpose S4096x8x128 [2, 0, 1] (hO x0 x1 x2) transposes_S8x128x4096_S4096x8x128_2_0_1 (ix3 R h d) * hV x3 (ix3 R h d) = _
  rw [hV_at h3, hO_eq h0 h1 hm, EReal.coe_mul]
  refine congrArg (· * _) ?_
  refine (transpose_apply [2, 0, 1] (val_main_v44 (F := Ideal) x0 x1 x2) transposes_S8x128x4096_S4096x8x128_2_0_1 (ix3 R h d) (ix3 h d R) (fun b => match b with
    | ⟨0, _⟩ => rfl
    | ⟨1, _⟩ => rfl
    | ⟨2, _⟩ => rfl)).trans ?_
  rw [Cert.ReferenceIdeal.Read.val_main_v44_apply]
  refine sum_real fun K => ?_
  have e1 : Cert.ReferenceIdeal.Read.lidx_main_v44 (ix3 h d R) K = ix3 K h d := funext fun a => by match a with | ⟨0, _⟩ => rfl | ⟨1, _⟩ => rfl | ⟨2, _⟩ => rfl
  have e2 : Cert.ReferenceIdeal.Read.ridx_main_v44 (ix3 h d R) K = ix3 h R K := funext fun a => by match a with | ⟨0, _⟩ => rfl | ⟨1, _⟩ => rfl | ⟨2, _⟩ => rfl
  rw [e1, e2, v43_at h2, v39_at h0 h1 hm, EReal.coe_mul]

/-- The kernel's deltas are the outputs against their gradients. -/
theorem arrD_at (h0 : Holds x0 q) (h1 : Holds x1 k) (hm : HoldsMax x0 x1 mx) (h2 : Holds x2 v) (h3 : Holds x3 o) (h : Fin 8) (R : Fin 4096) :
    arrD x0 x1 x2 x3 (ix3 h 0 R) = ((∑ K, p q k mx h R K * dp v o h R K : ℝ) : EReal) := by
  unfold arrD
  rw [broadcastInDim_apply _ bcast_S8x4096_S8x1x4096_0_2 (transpose S8x4096 [1, 0] (hD x0 x1 x2 x3) transposes_S4096x8_S8x4096_1_0) (ix3 h 0 R) (ix2 h R) (fun a => match a with
      | ⟨0, _⟩ => by show h.val = if (8 : Nat) = 1 then 0 else h.val; rw [if_neg (by decide)]
      | ⟨1, _⟩ => by show R.val = if (4096 : Nat) = 1 then 0 else R.val; rw [if_neg (by decide)]),
    transpose_apply [1, 0] (hD x0 x1 x2 x3) transposes_S4096x8_S8x4096_1_0 (ix2 h R) (ix2 R h) (fun b => match b with
      | ⟨0, _⟩ => rfl
      | ⟨1, _⟩ => rfl)]
  unfold hD
  rw [← delta_eq]
  have hy := hOdo_at h0 h1 hm h2 h3 R h
  generalize hOdo x0 x1 x2 x3 = y at hy ⊢
  simp only [Host.reduceAdd, Ideal.hostReduceAdd_def]
  rw [Ideal.hostReduceAdd_single reducesTo_S4096x8x128_S4096x8_d2 (by decide)]
  show (Ideal.ofBits .f32 0x00000000#32 : EReal) + _ = _
  rw [zero_bits, zero_add]
  refine sum_real fun d => ?_
  rw [← hy d]
  exact congrArg y (funext fun a => Fin.ext (by match a with | ⟨0, _⟩ => rfl | ⟨1, _⟩ => rfl | ⟨2, _⟩ => rfl))

section Kernel

variable (h0 : Holds x0 q) (h1 : Holds x1 k) (hm : HoldsMax x0 x1 mx) (h2 : Holds x2 v) (h3 : Holds x3 o)
include h0 h1 hm

theorem KW_at (h : Fin 8) (R K : Fin 4096) : KW (arrQ x0) x1 (arrL x0 x1) h R K = (p q k mx h R K : EReal) := by
  rw [← p_eq]
  unfold KW
  split
  · have hs : (∑ d : Fin 128, x1 (ix2 K (lane h d)) * arrQ x0 (ix2 R (lane h d))) = ((∑ d : Fin 128, k K (lane h d) * (q R (lane h d) * sc) : ℝ) : EReal) :=
      sum_real fun d => by rw [h1, arrQ_at h0, ← EReal.coe_mul]
    rw [hs, arrL_at h0 h1 hm, ← EReal.coe_sub, Ideal.exp_coe]
  · rw [EReal.coe_zero]

include h2 h3

theorem KW_KD (h : Fin 8) (R K : Fin 4096) : KW (arrQ x0) x1 (arrL x0 x1) h R K * KD x2 x3 (arrD x0 x1 x2 x3) h R K = (g q k v o mx h R K : EReal) := by
  have hd : KD x2 x3 (arrD x0 x1 x2 x3) h R K = ((dp v o h R K - ∑ J, p q k mx h R J * dp v o h R J : ℝ) : EReal) := by
    unfold KD
    rw [arrD_at h0 h1 hm h2 h3, EReal.coe_sub]
    refine congrArg (· - _) (sum_real fun d => ?_)
    rw [h2, h3, ← EReal.coe_mul, mul_comm]
  rw [KW_at h0 h1 hm, hd, ← EReal.coe_mul]
  rfl

theorem dq_eq : dq (arrQ x0) x1 x2 x3 (arrL x0 x1) (arrD x0 x1 x2 x3) = val_main_v74 (F := Ideal) x0 x1 x2 x3 := by
  funext i
  obtain ⟨R, C, rfl⟩ : ∃ (R : Fin 4096) (C : Fin 1024), i = ix2 R C := ⟨i 0, i 1, (ix2_eta i).symm⟩
  rw [v74_at h0 h1 hm h2 h3]
  show (∑ K : Fin 4096, KW _ _ _ (headOf C) R K * KD _ _ _ (headOf C) R K * x1 (ix2 K C)) * scale = _
  rw [sum_real (f := fun K => g q k v o mx (headOf C) R K * k K C) fun K => by rw [KW_KD h0 h1 hm h2 h3, h1, ← EReal.coe_mul], scale_eq, ← EReal.coe_mul, Finset.sum_mul]
  exact congrArg _ (Finset.sum_congr rfl fun K _ => by ring)

theorem dk_eq : dk (arrQ x0) x1 x2 x3 (arrL x0 x1) (arrD x0 x1 x2 x3) = val_main_v73 (F := Ideal) x0 x1 x2 x3 := by
  funext i
  obtain ⟨K, C, rfl⟩ : ∃ (K : Fin 4096) (C : Fin 1024), i = ix2 K C := ⟨i 0, i 1, (ix2_eta i).symm⟩
  rw [v73_at h0 h1 hm h2 h3]
  show (∑ R : Fin 4096, KW _ _ _ (headOf C) R K * KD _ _ _ (headOf C) R K * arrQ x0 (ix2 R C)) = _
  refine sum_real fun R => ?_
  rw [KW_KD h0 h1 hm h2 h3, arrQ_at h0, ← EReal.coe_mul]
  exact congrArg _ (by ring)

omit h2 in
theorem dv_eq : dv (arrQ x0) x1 x3 (arrL x0 x1) = val_main_v53 (F := Ideal) x0 x1 x3 := by
  funext i
  obtain ⟨K, C, rfl⟩ : ∃ (K : Fin 4096) (C : Fin 1024), i = ix2 K C := ⟨i 0, i 1, (ix2_eta i).symm⟩
  rw [v53_at h0 h1 hm h3]
  show (∑ R : Fin 4096, KW _ _ _ (headOf C) R K * x3 (ix2 R C)) = _
  refine sum_real fun R => ?_
  rw [KW_at h0 h1 hm, h3, ← EReal.coe_mul, mul_comm]

end Kernel

end Cert.Attn

end
-- ==== Proof.Finite.lean ====
/-
  The precondition read: every entry of every argument is a real number.
-/
module

public import proofs.«01_k».proof.Proof.Ref
public import proofs.«01_k».proof.Proof.Gen.Pre_finite
public import Idealize.ShloMosaic.Lib.ReduceAll

@[expose] public section

noncomputable section

namespace Cert.Attn

open Cert.Pre_finite Cert.Pre_finite.Gen Idealize.ShloMosaic

theorem top_bits : (Ideal.ofBits .f32 0x7F800000#32 : EReal) = ⊤ := by
  show Ideal.ieee 8 23 (0x7F800000#32) = ⊤
  unfold Ideal.ieee
  dsimp only
  rw [if_pos (by decide), if_pos (by decide), if_neg (by decide)]

/-- A number whose magnitude lies below infinity is a real number. -/
theorem real_of_abs {z : EReal} (h : Ideal.cmp .olt (max z (-z)) ⊤ = 1#1) : z = (z.toReal : EReal) := by
  have hz : max z (-z) < ⊤ := by
    by_contra hn
    have : Ideal.cmp .olt (max z (-z)) ⊤ = 0#1 := by
      show BitVec.ofBool (decide (max z (-z) < ⊤)) = 0#1
      rw [decide_eq_false hn]; rfl
    rw [this] at h
    exact absurd h (by decide)
  refine (EReal.coe_toReal (fun ht => ?_) (fun hb => ?_)).symm
  · rw [ht] at hz; exact absurd hz (by simp)
  · rw [hb] at hz; exact absurd hz (by simp)

instance : Subsingleton S_.Idx := ⟨fun a b => funext fun i => i.elim0⟩

/-- An array that passes the test of one argument holds real numbers. -/
theorem holds_of_all {φ : FTy} (x : FVec Ideal S4096x1024 φ)
    (h : (Host.reduce IntOp.andi (cmpf .olt (Host.absf (F := Ideal) (φ := .f32) x) (broadcastInDim S4096x1024 ![] bcast_S_S4096x1024 (constant (F := Ideal) S_ .f32 0x7F800000#32))) (constantI S_ 1 1#1) reducesTo_S4096x1024_S_d0_1 h_S_ : IVec S_ 1) (fun a => a.elim0) = 1#1) :
    Holds x fun R C => (x (ix2 R C) : EReal).toReal := fun R C =>
  real_of_abs (by
    have hi := Host.reduce_andi_all _ _ _ _ _ h (ix2 R C)
    rw [← top_bits]
    exact hi)

theorem holds_of_fn {x0 : FVec Ideal S4096x1024 .f32} {x1 x2 x3 : FVec Ideal S4096x1024 .bf16} (h : Cert.Pre_finite.fn (F := Ideal) x0 x1 x2 x3 = fun _ => 1#1) :
    (Holds x0 fun R C => (x0 (ix2 R C) : EReal).toReal) ∧ (Holds x1 fun R C => (x1 (ix2 R C) : EReal).toReal)
      ∧ (Holds x2 fun R C => (x2 (ix2 R C) : EReal).toReal) ∧ (Holds x3 fun R C => (x3 (ix2 R C) : EReal).toReal) := by
  have h' := congrFun h fun a => a.elim0
  unfold Cert.Pre_finite.fn Cert.Pre_finite.fn_part1 at h'
  obtain ⟨h012, h3⟩ := IntOp.andi_eq_one.1 h'
  obtain ⟨h01, h2⟩ := IntOp.andi_eq_one.1 h012
  obtain ⟨h0, h1⟩ := IntOp.andi_eq_one.1 h01
  exact ⟨holds_of_all x0 h0, holds_of_all x1 h1, holds_of_all x2 h2, holds_of_all x3 h3⟩

end Cert.Attn

end
-- ==== Proof.DWff2.lean ====
/-
  The gradient of the feed-forward's second weight: over the extended reals the kernel's blocks, each a sum over four
  stretches of 1024 rows, are the product over all 4096 rows.
-/
module

public import proofs.«01_k».proof.Proof.Gen.DWff2Ideal.Frame
public import proofs.«01_k».proof.Proof.Gen.DWff2RefIdeal.Run
public import proofs.«01_k».proof.Proof.Gen.DWff2RefIdeal.Read
public import proofs.«01_k».proof.Defs
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWff2Ideal.Prod

open Cert.DWff2Ideal Cert.DWff2Ideal.Gen Idealize.ShloMosaic Idealize.ShloMosaic.TcCoe Idealize.SL.Sem

variable (m : (ℓ : Loc nD τ sig) → Buf (Elt Ideal) ℓ) (c : Dev nD)

theorem pay1_apply (y : S1024x1024.Idx) : k0_pay1 (F := Ideal) y = 0 := by
  rw [eq_ix2 y]
  pointwise [k0_pay1]

/-- What one grid step adds to the block: the product over its stretch of the rows. -/
theorem pay2_apply (acc : FVec Ideal S1024x1024 .f32) (a : FVec Ideal S1024x1024 .bf16) (b : FVec Ideal S1024x1024 .f32) (y : S1024x1024.Idx) :
    k0_pay2 (F := Ideal) acc a b y = acc y + ∑ r : Fin 1024, a (ix2 r (y 0)) * b (ix2 r (y 1)) := by
  rw [eq_ix2 y]
  pointwise [k0_pay2, dot_S1024x1024_S1024x1024_S1024x1024_0_0_1_1_n_n]

/-- The blocks a grid step reads. -/
abbrev blkA (t : Fin cfg0.N) : FVec Ideal S1024x1024 .bf16 := iblk m c 0 t
abbrev blkB (t : Fin cfg0.N) : FVec Ideal S1024x1024 .f32 := iblk m c 1 t

/-- The block after the last step of its stretches. -/
theorem acc_eq (t : Fin cfg0.N) (hr : t.val % 4 = 4 - 1) (y : S1024x1024.Idx) :
    (outsAt0 m c t.val t.isLt).2 y = 0 + ∑ s : Fin 4, ∑ r : Fin 1024,
      blkA m c ⟨4 * (t.val / 4) + s.val, Pipeline.run_point_lt_of_flush t hr s⟩ (ix2 r (y 0))
        * blkB m c ⟨4 * (t.val / 4) + s.val, Pipeline.run_point_lt_of_flush t hr s⟩ (ix2 r (y 1)) := by
  rw [Pipeline.eq_sum_fin_of_reset_step_apply_of_flush (fun n h => (outsAt0 m c n h).2) 4 (fun _ => 0) _
    (fun t h j => by rw [outsAt0_A m c t h (by omega)]; frame_out; rw [pay2_apply, pay1_apply])
    (fun t h j => by
      by_cases h1 : t.val % 4 = 3
      · rw [outsAt0_C m c t h h1]; frame_out; rw [pay2_apply, (Memref.isWhole_whole _).read_unread]
      · rw [outsAt0_B m c t h h1]; frame_out; rw [pay2_apply, (Memref.isWhole_whole _).read_unread]) t hr y]

/-- What the last step copies out is the block. -/
theorem out_eq (t : Fin cfg0.N) (hr : t.val % 4 = 3) : (outsAt0 m c t.val t.isLt).1 = (outsAt0 m c t.val t.isLt).2 := by
  rw [outsAt0_C m c t (by omega) hr]
  frame_out

abbrev argA : FVec Ideal S4096x4096 .bf16 := V m c main_v4
abbrev argB : FVec Ideal S4096x1024 .f32 := V m c main_arg2

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- The whole array after the run. -/
theorem final : (dats m 0 c).arrAt 2 cfg0.N = fun i => ∑ l : Fin 4096, argA m c (ix2 l (i 0)) * argB m c (ix2 l (i 1)) := by
  refine (dats m 0 c).arrAt_eq_of_covers 2 _ (by decide +kernel) fun t hf y => ?_
  have hr := (flush0_2 t).mp hf
  blk_simp
  rw [after0_2, out_eq m c t hr, acc_eq m c t hr, zero_add]
  refine Fin.sum_mul_add_congr fun s r hl => ?_
  have hs := s.isLt
  congr 1
  · show V m c main_v4 _ = V m c main_v4 _
    congr 1
    blk_ext [idx0, idx2]
  · show V m c main_arg2 _ = V m c main_arg2 _
    congr 1
    blk_ext [idx1, idx2]

/-- The saved activation: the square of the positive part, as the reference has it. -/
theorem argA_eq : argA m c = Cert.DWff2RefIdeal.Read.val_main_v2 (F := Ideal) (m ((c : Thread nD τ).loc main_arg0)) := by
  unfold_abbrev_sides
  after_reads_simp
  rfl

theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v5) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's gradient, at the kernel's arguments, is what the kernel leaves. -/
theorem ref_eq : Cert.DWff2RefIdeal.Read.val_main_v5 (F := Ideal) (m ((c : Thread nD τ).loc main_arg0)) (m ((c : Thread nD τ).loc main_arg2))
    = (dats m 0 c).arrAt 2 cfg0.N := by
  rw [final, argA_eq, show argB m c = m ((c : Thread nD τ).loc main_arg2) from V_main_arg2 m c]
  funext i
  rw [Cert.DWff2RefIdeal.Read.val_main_v5_apply, Cert.DWff2RefIdeal.Read.val_main_v4_apply]
  refine Finset.sum_congr rfl fun l _ => ?_
  rw [mul_comm]
  congr 2 <;> exact (eq_ix2 _).trans rfl

theorem value : Cert.algebraic_DWff2Ideal_DWff2RefIdeal (hDWff2Ideal := Cert.DWff2Ideal.Gen.facts) (hDWff2RefIdeal := Cert.DWff2RefIdeal.Gen.facts) := by
  intro m g m' g' _ hargs
  refine ⟨fun c => (dats m 0 c).arrAt 2 cfg0.N, run_holds m g, ?_⟩
  refine (θ_run _ _ _).mono (fun r h c => ?_) (Cert.DWff2RefIdeal.Value.run m' g')
  obtain ⟨a0, a1, a2⟩ := hargs c
  obtain ⟨r0, rest⟩ := h c
  refine ⟨r0.trans ?_, rest⟩
  rw [Cert.DWff2RefIdeal.Read.val_main_v5_eq, a0, a2]
  exact ref_eq m c

theorem reference_frame : Cert.quiescent_DWff2RefIdeal (hDWff2RefIdeal := Cert.DWff2RefIdeal.Gen.facts) := by
  intro m g _
  exact (θ_run _ _ _).mono (fun r h => ⟨fun c => (h c).2, sem_eq_zero_of_no_sems (by decide) r.2⟩) (Cert.DWff2RefIdeal.Value.run m g)

end Cert.DWff2Ideal.Prod

end
-- ==== Proof.DAff.lean ====
/- The gradient of the feed-forward's activation input: block by block what the reference computes. -/
module

public import proofs.«01_k».proof.Defs
public import proofs.«01_k».proof.Proof.Gen.DAffIdeal.Frame
public import proofs.«01_k».proof.Proof.Gen.DAffRefIdeal.Run
public import proofs.«01_k».proof.Proof.Gen.DAffRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DAffIdeal.Prod

open Cert.DAffIdeal Cert.DAffIdeal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x1024 .f32) (b : FVec Ideal S1024x1024 .f32) (y : S1024x1024.Idx) :
    k0_pay2 (F := Ideal) acc a b y = acc y + ∑ r : Fin 1024, a (ix2 (y 0) r) * b (ix2 (y 1) r) := by
  rw [eq_ix2 y]
  pointwise [k0_pay2, dot_S1024x1024_S1024x1024_S1024x1024_1_1_0_0_n_n]

theorem pay3_apply (acc : FVec Ideal S1024x1024 .f32) (x0 : FVec Ideal S1024x1024 .bf16) (y : S1024x1024.Idx) :
    k0_pay3 (F := Ideal) acc x0 y = acc y * Ideal.ofBits .f32 0x40000000#32 * max (x0 y) 0 := by
  rw [eq_ix2 y]
  pointwise [k0_pay3]

/-! ## The accumulation -/

abbrev blkA (t : Fin cfg0.N) : FVec Ideal S1024x1024 .f32 := iblk m c 0 t
abbrev blkB (t : Fin cfg0.N) : FVec Ideal S1024x1024 .f32 := iblk m c 1 t

abbrev blkT0 (t : Fin cfg0.N) : FVec Ideal S1024x1024 .bf16 := iblk m c 2 t

theorem out3_eq (t : Fin cfg0.N) (y : S1024x1024.Idx) :
    (outsAt0 m c t) y = (∑ r : Fin 1024, blkA m c t (ix2 (y 0) r) * blkB m c t (ix2 (y 1) r)) * Ideal.ofBits .f32 0x40000000#32 * max (blkT0 m c t y) 0 := by
  unfold outsAt0
  frame_out
  rw [pay3_apply, pay2_apply, pay1_apply, zero_add]

/-! ## The whole arrays -/

abbrev argA : FVec Ideal S4096x1024 .f32 := V m c main_arg2
abbrev argB : FVec Ideal S4096x1024 .f32 := V m c main_arg1
abbrev argT0 : FVec Ideal S4096x4096 .bf16 := V m c main_arg0

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

/-- What the launch leaves in the result. -/
theorem final3 : (dats m 0 c).arrAt 3 cfg0.N = fun i => (∑ l : Fin 1024, argA m c (ix2 (i 0) l) * argB m c (ix2 (i 1) l)) * Ideal.ofBits .f32 0x40000000#32 * max (argT0 m c i) 0 := by
  refine (dats m 0 c).arrAt_eq_of_covers 3 _ (by decide +kernel) fun t hf y => ?_
  blk_simp
  rw [after0_3, out3_eq m c t]
  refine congrArg₂ (fun s x : EReal => s * Ideal.ofBits .f32 0x40000000#32 * max x 0) ?_ ?_
  · show (_ : EReal) = _
    refine Finset.sum_congr rfl fun r _ => ?_
    congr 1
    · show V m c main_arg2 _ = V m c main_arg2 _
      congr 1
      blk_ext [idx0, idx3]
    · show V m c main_arg1 _ = V m c main_arg1 _
      congr 1
      blk_ext [idx1, idx3]
  · show V m c main_arg0 _ = V m c main_arg0 _
    congr 1
    blk_ext [idx2, idx3]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 3, h.1 c⟩) (θ_run_and (unchanged m ρ) (run_main m ρ))

/-- The derivative of the square of the positive part needs no case at zero. -/
theorem gate (a s w : EReal) : Scalar.select (Ideal.cmp .ogt a 0) (s * (w * max a 0)) 0 = s * w * max a 0 := by
  rw [mul_assoc]
  rcases lt_or_ge 0 a with h | h
  · simp [Scalar.select, Ideal.cmp, h]
  · simp [Scalar.select, Ideal.cmp, not_lt.mpr h, max_eq_right h]

theorem ref_entry (a : FVec Ideal S4096x4096 .bf16) (w dy : FVec Ideal S4096x1024 .f32) (i : S4096x4096.Idx) :
    Cert.DAffRefIdeal.Read.val_main_v13 (F := Ideal) a w dy i
      = (∑ l : Fin 1024, dy (ix2 (i 0) l) * w (ix2 (i 1) l)) * Ideal.ofBits .f32 0x40000000#32 * max (a i) 0 := by
  show Scalar.select (Ideal.cmp .ogt (a i) (Ideal.ofBits .f32 0x00000000#32))
    (Cert.DAffRefIdeal.Read.val_main_v9 (F := Ideal) w dy i
      * (Ideal.ofBits .f32 0x40000000#32 * max (a i) (Ideal.ofBits .f32 0x00000000#32)))
    (Ideal.ofBits .f32 0x00000000#32) = _
  rw [Ideal.ofBits_zero_f32, gate, Cert.DAffRefIdeal.Read.val_main_v9_apply]
  refine congrArg (fun s : EReal => s * Ideal.ofBits .f32 0x40000000#32 * max (a i) 0) ?_
  refine Finset.sum_congr rfl fun l _ => ?_
  refine congrArg₂ (fun u v : EReal => u * v) ?_ ?_
  · exact congrArg dy ((eq_ix2 _).trans rfl)
  · exact congrArg w ((eq_ix2 _).trans rfl)

/-- The reference's result, at the kernel's arguments, is what the kernel leaves. -/
theorem ref3_eq : Cert.DAffRefIdeal.Read.val_main_v13 (F := Ideal) (m ((c : Thread nD τ).loc main_arg0)) (m ((c : Thread nD τ).loc main_arg1)) (m ((c : Thread nD τ).loc main_arg2)) = (dats m 0 c).arrAt 3 cfg0.N := by
  rw [final3, show argA m c = m ((c : Thread nD τ).loc main_arg2) from V_main_arg2 m c, show argB m c = m ((c : Thread nD τ).loc main_arg1) from V_main_arg1 m c, show argT0 m c = m ((c : Thread nD τ).loc main_arg0) from V_main_arg0 m c]
  funext i
  exact ref_entry _ _ _ i

theorem value : Cert.algebraic_DAffIdeal_DAffRefIdeal (hDAffIdeal := Cert.DAffIdeal.Gen.facts) (hDAffRefIdeal := Cert.DAffRefIdeal.Gen.facts) := by
  intro m g m' g' _ hargs
  refine ⟨fun c => (dats m 0 c).arrAt 3 cfg0.N, run_holds m g, ?_⟩
  refine (θ_run _ _ _).mono (fun r h c => ?_) (Cert.DAffRefIdeal.Value.run m' g')
  obtain ⟨a0, a1, a2⟩ := hargs c
  obtain ⟨r0, rest⟩ := h c
  refine ⟨r0.trans ?_, rest⟩
  rw [Cert.DAffRefIdeal.Read.val_main_v13_eq, a0, a1, a2]
  exact ref3_eq m c

theorem reference_frame : Cert.quiescent_DAffRefIdeal (hDAffRefIdeal := Cert.DAffRefIdeal.Gen.facts) := by
  intro m g _
  exact (θ_run _ _ _).mono (fun r h => ⟨fun c => (h c).2, sem_eq_zero_of_no_sems (by decide) r.2⟩) (Cert.DAffRefIdeal.Value.run m g)

end Cert.DAffIdeal.Prod

end
-- ==== Proof.DWff1.lean ====
/- The gradient of the feed-forward's first weight: its steps' sums make one product, which is the reference's. -/
module

public import proofs.«01_k».proof.Defs
public import proofs.«01_k».proof.Proof.Gen.DWff1Ideal.Frame
public import proofs.«01_k».proof.Proof.Gen.DWff1RefIdeal.Run
public import proofs.«01_k».proof.Proof.Gen.DWff1RefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWff1Ideal.Prod

open Cert.DWff1Ideal Cert.DWff1Ideal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S2048x1024 .bf16) (b : FVec Ideal S2048x1024 .bf16) (y : S1024x1024.Idx) :
    k0_pay2 (F := Ideal) acc a b y = acc y + ∑ r : Fin 2048, a (ix2 r (y 0)) * b (ix2 r (y 1)) := by
  rw [eq_ix2 y]
  pointwise [k0_pay2, dot_S2048x1024_S2048x1024_S1024x1024_0_0_1_1_n_n]

/-! ## The accumulation -/

abbrev blkA (t : Fin cfg0.N) : FVec Ideal S2048x1024 .bf16 := iblk m c 0 t
abbrev blkB (t : Fin cfg0.N) : FVec Ideal S2048x1024 .bf16 := iblk m c 1 t

/-- At the last step of a run the accumulator holds the sum of the run's block products. -/
theorem acc_eq (t : Fin cfg0.N) (hr : t.val % 2 = 2 - 1) (y : S1024x1024.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S1024x1024.Idx) :
    (outsAt0 m c t.val t.isLt).1 y = (outsAt0 m c t.val t.isLt).2 y := by
  rw [outsAt0_B m c t (by omega) hr]
  frame_out

/-! ## The whole arrays -/

abbrev argA : FVec Ideal S4096x1024 .bf16 := V m c main_arg0
abbrev argB : FVec Ideal S4096x4096 .bf16 := V m c main_arg2

theorem idx0 : ∀ t : Fin cfg0.N, win0_0.index t = ![t.val % 2, 0] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![0, t.val / 2] := (by decide +kernel : ∀ t : Fin grid0.N, _)

/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  congr 1
  · show V m c main_arg0 _ = V m c main_arg0 _
    congr 1
    blk_ext [idx0, idx2]
  · show V m c main_arg2 _ = V m c main_arg2 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DWff1RefIdeal.Read.val_main_v4 (F := Ideal) (m ((c : Thread nD τ).loc main_arg0)) (m ((c : Thread nD τ).loc main_arg2)) = (dats m 0 c).arrAt 2 cfg0.N := by
  rw [final2, show argA m c = m ((c : Thread nD τ).loc main_arg0) from V_main_arg0 m c, show argB m c = m ((c : Thread nD τ).loc main_arg2) from V_main_arg2 m c]
  funext i
  rw [Cert.DWff1RefIdeal.Read.val_main_v4_apply, Cert.DWff1RefIdeal.Read.val_main_v3_apply]
  refine Finset.sum_congr rfl fun l _ => ?_
  rw [mul_comm]
  refine congrArg₂ (fun u v : EReal => u * v) ?_ ?_
  · exact congrArg (m ((c : Thread nD τ).loc main_arg0)) ((eq_ix2 _).trans rfl)
  · exact congrArg (m ((c : Thread nD τ).loc main_arg2)) ((eq_ix2 _).trans rfl)

theorem value : Cert.algebraic_DWff1Ideal_DWff1RefIdeal (hDWff1Ideal := Cert.DWff1Ideal.Gen.facts) (hDWff1RefIdeal := Cert.DWff1RefIdeal.Gen.facts) := by
  intro m g m' g' _ hargs
  refine ⟨fun c => (dats m 0 c).arrAt 2 cfg0.N, run_holds m g, ?_⟩
  refine (θ_run _ _ _).mono (fun r h c => ?_) (Cert.DWff1RefIdeal.Value.run m' g')
  obtain ⟨a0, a1, a2⟩ := hargs c
  obtain ⟨r0, rest⟩ := h c
  refine ⟨r0.trans ?_, rest⟩
  rw [Cert.DWff1RefIdeal.Read.val_main_v4_eq, a0, a2]
  exact ref2_eq m c

theorem reference_frame : Cert.quiescent_DWff1RefIdeal (hDWff1RefIdeal := Cert.DWff1RefIdeal.Gen.facts) := by
  intro m g _
  exact (θ_run _ _ _).mono (fun r h => ⟨fun c => (h c).2, sem_eq_zero_of_no_sems (by decide) r.2⟩) (Cert.DWff1RefIdeal.Value.run m g)

end Cert.DWff1Ideal.Prod

end
-- ==== Proof.DH2.lean ====
/- The gradient of the feed-forward's input: its steps' sums make one product, which is the reference's. -/
module

public import proofs.«01_k».proof.Defs
public import proofs.«01_k».proof.Proof.Gen.DH2Ideal.Frame
public import proofs.«01_k».proof.Proof.Gen.DH2RefIdeal.Run
public import proofs.«01_k».proof.Proof.Gen.DH2RefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DH2Ideal.Prod

open Cert.DH2Ideal Cert.DH2Ideal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x1024 .bf16) (b : FVec Ideal S1024x1024 .f32) (y : S1024x1024.Idx) :
    k0_pay2 (F := Ideal) acc a b y = acc y + ∑ r : Fin 1024, a (ix2 (y 0) r) * b (ix2 (y 1) r) := by
  rw [eq_ix2 y]
  pointwise [k0_pay2, dot_S1024x1024_S1024x1024_S1024x1024_1_1_0_0_n_n]

theorem pay3_apply (acc : FVec Ideal S1024x1024 .f32)  (y : S1024x1024.Idx) :
    k0_pay3 (F := Ideal) acc y = acc y := by
  rw [eq_ix2 y]
  pointwise [k0_pay3]

/-! ## The accumulation -/

abbrev blkA (t : Fin cfg0.N) : FVec Ideal S1024x1024 .bf16 := iblk m c 0 t
abbrev blkB (t : Fin cfg0.N) : FVec Ideal S1024x1024 .f32 := iblk m c 1 t

/-- At the last step of a run the accumulator holds the sum of the run's block products. -/
theorem acc_eq (t : Fin cfg0.N) (hr : t.val % 4 = 4 - 1) (y : S1024x1024.Idx) :
    (outsAt0 m c t.val t.isLt).2 y = 0 + ∑ s : Fin 4, ∑ r : Fin 1024,
      blkA m c ⟨4 * (t.val / 4) + s.val, Pipeline.run_point_lt_of_flush t hr s⟩ (ix2 (y 0) r) * blkB m c ⟨4 * (t.val / 4) + s.val, Pipeline.run_point_lt_of_flush t hr s⟩ (ix2 (y 1) r) := by
  rw [Pipeline.eq_sum_fin_of_reset_step_apply_of_flush (fun n h => (outsAt0 m c n h).2) 4 (fun _ => 0) _
      (fun t h j => by rw [outsAt0_A m c t h (by omega)]; frame_out; rw [pay2_apply, pay1_apply])
      (fun t h j => by
        by_cases h1 : t.val % 4 = 3
        · rw [outsAt0_C m c t h h1]; frame_out; rw [pay2_apply, (Memref.isWhole_whole _).read_unread]
        · rw [outsAt0_B m c t h h1]; frame_out; rw [pay2_apply, (Memref.isWhole_whole _).read_unread]) t hr y]

theorem out2_eq (t : Fin cfg0.N) (hr : t.val % 4 = 3) (y : S1024x1024.Idx) :
    (outsAt0 m c t.val t.isLt).1 y = (outsAt0 m c t.val t.isLt).2 y := by
  rw [outsAt0_C m c t (by omega) hr]
  frame_out
  rw [pay3_apply]

/-! ## The whole arrays -/

abbrev argA : FVec Ideal S4096x4096 .bf16 := V m c main_arg2
abbrev argB : FVec Ideal S1024x4096 .f32 := V m c main_arg1

theorem idx0 : ∀ t : Fin cfg0.N, win0_0.index t = ![t.val / 4, t.val % 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, 0] := (by decide +kernel : ∀ t : Fin grid0.N, _)

/-- What the launch leaves in the result. -/
theorem final2 : (dats m 0 c).arrAt 2 cfg0.N = fun i => (∑ l : Fin 4096, argA m c (ix2 (i 0) l) * argB m c (ix2 (i 1) l)) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  congr 1
  · show V m c main_arg2 _ = V m c main_arg2 _
    congr 1
    blk_ext [idx0, idx2]
  · show V m c main_arg1 _ = V m c main_arg1 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DH2RefIdeal.Read.val_main_v4 (F := Ideal) (m ((c : Thread nD τ).loc main_arg1)) (m ((c : Thread nD τ).loc main_arg2)) = (dats m 0 c).arrAt 2 cfg0.N := by
  rw [final2, show argA m c = m ((c : Thread nD τ).loc main_arg2) from V_main_arg2 m c, show argB m c = m ((c : Thread nD τ).loc main_arg1) from V_main_arg1 m c]
  funext i
  show Cert.DH2RefIdeal.Read.val_main_v3 (F := Ideal) (m ((c : Thread nD τ).loc main_arg1)) (m ((c : Thread nD τ).loc main_arg2)) i = _
  rw [Cert.DH2RefIdeal.Read.val_main_v3_apply]
  refine Finset.sum_congr rfl fun l _ => ?_
  refine congrArg₂ (fun u v : EReal => u * v) ?_ ?_
  · exact congrArg (m ((c : Thread nD τ).loc main_arg2)) ((eq_ix2 _).trans rfl)
  · exact congrArg (m ((c : Thread nD τ).loc main_arg1)) ((eq_ix2 _).trans rfl)

theorem value : Cert.algebraic_DH2Ideal_DH2RefIdeal (hDH2Ideal := Cert.DH2Ideal.Gen.facts) (hDH2RefIdeal := Cert.DH2RefIdeal.Gen.facts) := by
  intro m g m' g' _ hargs
  refine ⟨fun c => (dats m 0 c).arrAt 2 cfg0.N, run_holds m g, ?_⟩
  refine (θ_run _ _ _).mono (fun r h c => ?_) (Cert.DH2RefIdeal.Value.run m' g')
  obtain ⟨a0, a1, a2⟩ := hargs c
  obtain ⟨r0, rest⟩ := h c
  refine ⟨r0.trans ?_, rest⟩
  rw [Cert.DH2RefIdeal.Read.val_main_v4_eq, a1, a2]
  exact ref2_eq m c

theorem reference_frame : Cert.quiescent_DH2RefIdeal (hDH2RefIdeal := Cert.DH2RefIdeal.Gen.facts) := by
  intro m g _
  exact (θ_run _ _ _).mono (fun r h => ⟨fun c => (h c).2, sem_eq_zero_of_no_sems (by decide) r.2⟩) (Cert.DH2RefIdeal.Value.run m g)

end Cert.DH2Ideal.Prod

end
-- ==== Proof.DWout.lean ====
/- The gradient of the output projection's weight: its steps' sums make one product, which is the reference's. -/
module

public import proofs.«01_k».proof.Defs
public import proofs.«01_k».proof.Proof.Gen.DWoutIdeal.Frame
public import proofs.«01_k».proof.Proof.Gen.DWoutRefIdeal.Run
public import proofs.«01_k».proof.Proof.Gen.DWoutRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWoutIdeal.Prod

open Cert.DWoutIdeal Cert.DWoutIdeal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x1024 .f32) (b : FVec Ideal S1024x1024 .f32) (y : S1024x1024.Idx) :
    k0_pay2 (F := Ideal) acc a b y = acc y + ∑ r : Fin 1024, a (ix2 r (y 0)) * b (ix2 r (y 1)) := by
  rw [eq_ix2 y]
  pointwise [k0_pay2, dot_S1024x1024_S1024x1024_S1024x1024_0_0_1_1_n_n]

/-! ## The accumulation -/

abbrev blkA (t : Fin cfg0.N) : FVec Ideal S1024x1024 .f32 := iblk m c 0 t
abbrev blkB (t : Fin cfg0.N) : FVec Ideal S1024x1024 .f32 := iblk m c 1 t

/-- At the last step of a run the accumulator holds the sum of the run's block products. -/
theorem acc_eq (t : Fin cfg0.N) (hr : t.val % 4 = 4 - 1) (y : S1024x1024.Idx) :
    (outsAt0 m c t.val t.isLt).2 y = 0 + ∑ s : Fin 4, ∑ r : Fin 1024,
      blkA m c ⟨4 * (t.val / 4) + s.val, Pipeline.run_point_lt_of_flush t hr s⟩ (ix2 r (y 0)) * blkB m c ⟨4 * (t.val / 4) + s.val, Pipeline.run_point_lt_of_flush t hr s⟩ (ix2 r (y 1)) := by
  rw [Pipeline.eq_sum_fin_of_reset_step_apply_of_flush (fun n h => (outsAt0 m c n h).2) 4 (fun _ => 0) _
      (fun t h j => by rw [outsAt0_A m c t h (by omega)]; frame_out; rw [pay2_apply, pay1_apply])
      (fun t h j => by
        by_cases h1 : t.val % 4 = 3
        · rw [outsAt0_C m c t h h1]; frame_out; rw [pay2_apply, (Memref.isWhole_whole _).read_unread]
        · rw [outsAt0_B m c t h h1]; frame_out; rw [pay2_apply, (Memref.isWhole_whole _).read_unread]) t hr y]

theorem out2_eq (t : Fin cfg0.N) (hr : t.val % 4 = 3) (y : S1024x1024.Idx) :
    (outsAt0 m c t.val t.isLt).1 y = (outsAt0 m c t.val t.isLt).2 y := by
  rw [outsAt0_C m c t (by omega) hr]
  frame_out

/-! ## The whole arrays -/

abbrev argA : FVec Ideal S4096x1024 .f32 := V m c main_arg0
abbrev argB : FVec Ideal S4096x1024 .f32 := V m c main_arg2

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, 0] := (by decide +kernel : ∀ t : Fin grid0.N, _)

/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  congr 1
  · show V m c main_arg0 _ = V m c main_arg0 _
    congr 1
    blk_ext [idx0, idx2]
  · show V m c main_arg2 _ = V m c main_arg2 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DWoutRefIdeal.Read.val_main_v2 (F := Ideal) (m ((c : Thread nD τ).loc main_arg0)) (m ((c : Thread nD τ).loc main_arg2)) = (dats m 0 c).arrAt 2 cfg0.N := by
  rw [final2, show argA m c = m ((c : Thread nD τ).loc main_arg0) from V_main_arg0 m c, show argB m c = m ((c : Thread nD τ).loc main_arg2) from V_main_arg2 m c]
  funext i
  rw [Cert.DWoutRefIdeal.Read.val_main_v2_apply, Cert.DWoutRefIdeal.Read.val_main_v1_apply]
  refine Finset.sum_congr rfl fun l _ => ?_
  rw [mul_comm]
  refine congrArg₂ (fun u v : EReal => u * v) ?_ ?_
  · exact congrArg (m ((c : Thread nD τ).loc main_arg0)) ((eq_ix2 _).trans rfl)
  · exact congrArg (m ((c : Thread nD τ).loc main_arg2)) ((eq_ix2 _).trans rfl)

theorem value : Cert.algebraic_DWoutIdeal_DWoutRefIdeal (hDWoutIdeal := Cert.DWoutIdeal.Gen.facts) (hDWoutRefIdeal := Cert.DWoutRefIdeal.Gen.facts) := by
  intro m g m' g' _ hargs
  refine ⟨fun c => (dats m 0 c).arrAt 2 cfg0.N, run_holds m g, ?_⟩
  refine (θ_run _ _ _).mono (fun r h c => ?_) (Cert.DWoutRefIdeal.Value.run m' g')
  obtain ⟨a0, a1, a2⟩ := hargs c
  obtain ⟨r0, rest⟩ := h c
  refine ⟨r0.trans ?_, rest⟩
  rw [Cert.DWoutRefIdeal.Read.val_main_v2_eq, a0, a2]
  exact ref2_eq m c

theorem reference_frame : Cert.quiescent_DWoutRefIdeal (hDWoutRefIdeal := Cert.DWoutRefIdeal.Gen.facts) := by
  intro m g _
  exact (θ_run _ _ _).mono (fun r h => ⟨fun c => (h c).2, sem_eq_zero_of_no_sems (by decide) r.2⟩) (Cert.DWoutRefIdeal.Value.run m g)

end Cert.DWoutIdeal.Prod

end
-- ==== Proof.DMerged.lean ====
/- The gradient of the merged branches: block by block the reference's product. -/
module

public import proofs.«01_k».proof.Defs
public import proofs.«01_k».proof.Proof.Gen.DMergedIdeal.Frame
public import proofs.«01_k».proof.Proof.Gen.DMergedRefIdeal.Run
public import proofs.«01_k».proof.Proof.Gen.DMergedRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DMergedIdeal.Prod

open Cert.DMergedIdeal Cert.DMergedIdeal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x1024 .f32) (b : FVec Ideal S1024x1024 .f32) (y : S1024x1024.Idx) :
    k0_pay2 (F := Ideal) acc a b y = acc y + ∑ r : Fin 1024, a (ix2 (y 0) r) * b (ix2 (y 1) r) := by
  rw [eq_ix2 y]
  pointwise [k0_pay2, dot_S1024x1024_S1024x1024_S1024x1024_1_1_0_0_n_n]

/-! ## The accumulation -/

abbrev blkA (t : Fin cfg0.N) : FVec Ideal S1024x1024 .f32 := iblk m c 0 t
abbrev blkB (t : Fin cfg0.N) : FVec Ideal S1024x1024 .f32 := iblk m c 1 t

theorem out2_eq (t : Fin cfg0.N) (y : S1024x1024.Idx) :
    (outsAt0 m c t) y = (∑ r : Fin 1024, blkA m c t (ix2 (y 0) r) * blkB m c t (ix2 (y 1) r)) := by
  unfold outsAt0
  frame_out
  rw [pay2_apply, pay1_apply, zero_add]

/-! ## The whole arrays -/

abbrev argA : FVec Ideal S4096x1024 .f32 := V m c main_arg2
abbrev argB : FVec Ideal S1024x1024 .f32 := V m c main_arg1

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- What the launch leaves in the result. -/
theorem final2 : (dats m 0 c).arrAt 2 cfg0.N = fun i => (∑ l : Fin 1024, argA m c (ix2 (i 0) l) * argB m c (ix2 (i 1) l)) := by
  refine (dats m 0 c).arrAt_eq_of_covers 2 _ (by decide +kernel) fun t hf y => ?_
  blk_simp
  rw [after0_2, out2_eq m c t]
  show (_ : EReal) = _
  refine Finset.sum_congr rfl fun r _ => ?_
  congr 1
  · show V m c main_arg2 _ = V m c main_arg2 _
    congr 1
    blk_ext [idx0, idx2]
  · show V m c main_arg1 _ = V m c main_arg1 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DMergedRefIdeal.Read.val_main_v1 (F := Ideal) (m ((c : Thread nD τ).loc main_arg1)) (m ((c : Thread nD τ).loc main_arg2)) = (dats m 0 c).arrAt 2 cfg0.N := by
  rw [final2, show argA m c = m ((c : Thread nD τ).loc main_arg2) from V_main_arg2 m c, show argB m c = m ((c : Thread nD τ).loc main_arg1) from V_main_arg1 m c]
  funext i
  rw [Cert.DMergedRefIdeal.Read.val_main_v1_apply]
  refine Finset.sum_congr rfl fun l _ => ?_
  refine congrArg₂ (fun u v : EReal => u * v) ?_ ?_
  · exact congrArg (m ((c : Thread nD τ).loc main_arg2)) ((eq_ix2 _).trans rfl)
  · exact congrArg (m ((c : Thread nD τ).loc main_arg1)) ((eq_ix2 _).trans rfl)

theorem value : Cert.algebraic_DMergedIdeal_DMergedRefIdeal (hDMergedIdeal := Cert.DMergedIdeal.Gen.facts) (hDMergedRefIdeal := Cert.DMergedRefIdeal.Gen.facts) := by
  intro m g m' g' _ hargs
  refine ⟨fun c => (dats m 0 c).arrAt 2 cfg0.N, run_holds m g, ?_⟩
  refine (θ_run _ _ _).mono (fun r h c => ?_) (Cert.DMergedRefIdeal.Value.run m' g')
  obtain ⟨a0, a1, a2⟩ := hargs c
  obtain ⟨r0, rest⟩ := h c
  refine ⟨r0.trans ?_, rest⟩
  rw [Cert.DMergedRefIdeal.Read.val_main_v1_eq, a1, a2]
  exact ref2_eq m c

theorem reference_frame : Cert.quiescent_DMergedRefIdeal (hDMergedRefIdeal := Cert.DMergedRefIdeal.Gen.facts) := by
  intro m g _
  exact (θ_run _ _ _).mono (fun r h => ⟨fun c => (h c).2, sem_eq_zero_of_no_sems (by decide) r.2⟩) (Cert.DMergedRefIdeal.Value.run m g)

end Cert.DMergedIdeal.Prod

end
-- ==== Proof.DWpleGate.lean ====
/- The gradient of the embedding gate's weight: its steps' sums make one product, which is the reference's. -/
module

public import proofs.«01_k».proof.Defs
public import proofs.«01_k».proof.Proof.Gen.DWpleGateIdeal.Frame
public import proofs.«01_k».proof.Proof.Gen.DWpleGateRefIdeal.Run
public import proofs.«01_k».proof.Proof.Gen.DWpleGateRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWpleGateIdeal.Prod

open Cert.DWpleGateIdeal Cert.DWpleGateIdeal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S2048x1024 .bf16) (b : FVec Ideal S2048x1024 .bf16) (y : S1024x1024.Idx) :
    k0_pay2 (F := Ideal) acc a b y = acc y + ∑ r : Fin 2048, a (ix2 r (y 0)) * b (ix2 r (y 1)) := by
  rw [eq_ix2 y]
  pointwise [k0_pay2, dot_S2048x1024_S2048x1024_S1024x1024_0_0_1_1_n_n]

/-! ## The accumulation -/

abbrev blkA (t : Fin cfg0.N) : FVec Ideal S2048x1024 .bf16 := iblk m c 0 t
abbrev blkB (t : Fin cfg0.N) : FVec Ideal S2048x1024 .bf16 := iblk m c 1 t

/-- At the last step of a run the accumulator holds the sum of the run's block products. -/
theorem acc_eq (t : Fin cfg0.N) (hr : t.val % 2 = 2 - 1) (y : S1024x1024.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S1024x1024.Idx) :
    (outsAt0 m c t.val t.isLt).1 y = (outsAt0 m c t.val t.isLt).2 y := by
  rw [outsAt0_B m c t (by omega) hr]
  frame_out

/-! ## The whole arrays -/

abbrev argA : FVec Ideal S4096x1024 .bf16 := V m c main_arg0
abbrev argB : FVec Ideal S4096x1024 .bf16 := V m c main_arg2

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  congr 1
  · show V m c main_arg0 _ = V m c main_arg0 _
    congr 1
    blk_ext [idx0, idx2]
  · show V m c main_arg2 _ = V m c main_arg2 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DWpleGateRefIdeal.Read.val_main_v4 (F := Ideal) (m ((c : Thread nD τ).loc main_arg0)) (m ((c : Thread nD τ).loc main_arg2)) = (dats m 0 c).arrAt 2 cfg0.N := by
  rw [final2, show argA m c = m ((c : Thread nD τ).loc main_arg0) from V_main_arg0 m c, show argB m c = m ((c : Thread nD τ).loc main_arg2) from V_main_arg2 m c]
  funext i
  rw [Cert.DWpleGateRefIdeal.Read.val_main_v4_apply, Cert.DWpleGateRefIdeal.Read.val_main_v3_apply]
  refine Finset.sum_congr rfl fun l _ => ?_
  rw [mul_comm]
  refine congrArg₂ (fun u v : EReal => u * v) ?_ ?_
  · exact congrArg (m ((c : Thread nD τ).loc main_arg0)) ((eq_ix2 _).trans rfl)
  · exact congrArg (m ((c : Thread nD τ).loc main_arg2)) ((eq_ix2 _).trans rfl)

theorem value : Cert.algebraic_DWpleGateIdeal_DWpleGateRefIdeal (hDWpleGateIdeal := Cert.DWpleGateIdeal.Gen.facts) (hDWpleGateRefIdeal := Cert.DWpleGateRefIdeal.Gen.facts) := by
  intro m g m' g' _ hargs
  refine ⟨fun c => (dats m 0 c).arrAt 2 cfg0.N, run_holds m g, ?_⟩
  refine (θ_run _ _ _).mono (fun r h c => ?_) (Cert.DWpleGateRefIdeal.Value.run m' g')
  obtain ⟨a0, a1, a2⟩ := hargs c
  obtain ⟨r0, rest⟩ := h c
  refine ⟨r0.trans ?_, rest⟩
  rw [Cert.DWpleGateRefIdeal.Read.val_main_v4_eq, a0, a2]
  exact ref2_eq m c

theorem reference_frame : Cert.quiescent_DWpleGateRefIdeal (hDWpleGateRefIdeal := Cert.DWpleGateRefIdeal.Gen.facts) := by
  intro m g _
  exact (θ_run _ _ _).mono (fun r h => ⟨fun c => (h c).2, sem_eq_zero_of_no_sems (by decide) r.2⟩) (Cert.DWpleGateRefIdeal.Value.run m g)

end Cert.DWpleGateIdeal.Prod

end
-- ==== Proof.DH3.lean ====
/- The gradient of the embedding gate's input: block by block the reference's product. -/
module

public import proofs.«01_k».proof.Defs
public import proofs.«01_k».proof.Proof.Gen.DH3Ideal.Frame
public import proofs.«01_k».proof.Proof.Gen.DH3RefIdeal.Run
public import proofs.«01_k».proof.Proof.Gen.DH3RefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DH3Ideal.Prod

open Cert.DH3Ideal Cert.DH3Ideal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x1024 .bf16) (b : FVec Ideal S1024x1024 .f32) (y : S1024x1024.Idx) :
    k0_pay2 (F := Ideal) acc a b y = acc y + ∑ r : Fin 1024, a (ix2 (y 0) r) * b (ix2 (y 1) r) := by
  rw [eq_ix2 y]
  pointwise [k0_pay2, dot_S1024x1024_S1024x1024_S1024x1024_1_1_0_0_n_n]

theorem pay3_apply (acc : FVec Ideal S1024x1024 .f32)  (y : S1024x1024.Idx) :
    k0_pay3 (F := Ideal) acc y = acc y := by
  rw [eq_ix2 y]
  pointwise [k0_pay3]

/-! ## The accumulation -/

abbrev blkA (t : Fin cfg0.N) : FVec Ideal S1024x1024 .bf16 := iblk m c 0 t
abbrev blkB (t : Fin cfg0.N) : FVec Ideal S1024x1024 .f32 := iblk m c 1 t

theorem out2_eq (t : Fin cfg0.N) (y : S1024x1024.Idx) :
    (outsAt0 m c t) y = (∑ r : Fin 1024, blkA m c t (ix2 (y 0) r) * blkB m c t (ix2 (y 1) r)) := by
  unfold outsAt0
  frame_out
  rw [pay3_apply, pay2_apply, pay1_apply, zero_add]

/-! ## The whole arrays -/

abbrev argA : FVec Ideal S4096x1024 .bf16 := V m c main_arg2
abbrev argB : FVec Ideal S1024x1024 .f32 := V m c main_arg1

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- What the launch leaves in the result. -/
theorem final2 : (dats m 0 c).arrAt 2 cfg0.N = fun i => (∑ l : Fin 1024, argA m c (ix2 (i 0) l) * argB m c (ix2 (i 1) l)) := by
  refine (dats m 0 c).arrAt_eq_of_covers 2 _ (by decide +kernel) fun t hf y => ?_
  blk_simp
  rw [after0_2, out2_eq m c t]
  show (_ : EReal) = _
  refine Finset.sum_congr rfl fun r _ => ?_
  congr 1
  · show V m c main_arg2 _ = V m c main_arg2 _
    congr 1
    blk_ext [idx0, idx2]
  · show V m c main_arg1 _ = V m c main_arg1 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DH3RefIdeal.Read.val_main_v4 (F := Ideal) (m ((c : Thread nD τ).loc main_arg1)) (m ((c : Thread nD τ).loc main_arg2)) = (dats m 0 c).arrAt 2 cfg0.N := by
  rw [final2, show argA m c = m ((c : Thread nD τ).loc main_arg2) from V_main_arg2 m c, show argB m c = m ((c : Thread nD τ).loc main_arg1) from V_main_arg1 m c]
  funext i
  show Cert.DH3RefIdeal.Read.val_main_v3 (F := Ideal) (m ((c : Thread nD τ).loc main_arg1)) (m ((c : Thread nD τ).loc main_arg2)) i = _
  rw [Cert.DH3RefIdeal.Read.val_main_v3_apply]
  refine Finset.sum_congr rfl fun l _ => ?_
  refine congrArg₂ (fun u v : EReal => u * v) ?_ ?_
  · exact congrArg (m ((c : Thread nD τ).loc main_arg2)) ((eq_ix2 _).trans rfl)
  · exact congrArg (m ((c : Thread nD τ).loc main_arg1)) ((eq_ix2 _).trans rfl)

theorem value : Cert.algebraic_DH3Ideal_DH3RefIdeal (hDH3Ideal := Cert.DH3Ideal.Gen.facts) (hDH3RefIdeal := Cert.DH3RefIdeal.Gen.facts) := by
  intro m g m' g' _ hargs
  refine ⟨fun c => (dats m 0 c).arrAt 2 cfg0.N, run_holds m g, ?_⟩
  refine (θ_run _ _ _).mono (fun r h c => ?_) (Cert.DH3RefIdeal.Value.run m' g')
  obtain ⟨a0, a1, a2⟩ := hargs c
  obtain ⟨r0, rest⟩ := h c
  refine ⟨r0.trans ?_, rest⟩
  rw [Cert.DH3RefIdeal.Read.val_main_v4_eq, a1, a2]
  exact ref2_eq m c

theorem reference_frame : Cert.quiescent_DH3RefIdeal (hDH3RefIdeal := Cert.DH3RefIdeal.Gen.facts) := by
  intro m g _
  exact (θ_run _ _ _).mono (fun r h => ⟨fun c => (h c).2, sem_eq_zero_of_no_sems (by decide) r.2⟩) (Cert.DH3RefIdeal.Value.run m g)

end Cert.DH3Ideal.Prod

end
-- ==== Proof.DWple.lean ====
/- The gradient of the layer embedding's weight: its steps' sums make one product, which is the reference's. -/
module

public import proofs.«01_k».proof.Defs
public import proofs.«01_k».proof.Proof.Gen.DWpleIdeal.Frame
public import proofs.«01_k».proof.Proof.Gen.DWpleRefIdeal.Run
public import proofs.«01_k».proof.Proof.Gen.DWpleRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWpleIdeal.Prod

open Cert.DWpleIdeal Cert.DWpleIdeal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S256x1024.Idx) : k0_pay1 (F := Ideal) y = 0 := by
  rw [eq_ix2 y]
  pointwise [k0_pay1]

theorem pay2_apply (acc : FVec Ideal S256x1024 .f32) (a : FVec Ideal S2048x256 .f32) (b : FVec Ideal S2048x1024 .bf16) (y : S256x1024.Idx) :
    k0_pay2 (F := Ideal) acc a b y = acc y + ∑ r : Fin 2048, a (ix2 r (y 0)) * b (ix2 r (y 1)) := by
  rw [eq_ix2 y]
  pointwise [k0_pay2, dot_S2048x256_S2048x1024_S256x1024_0_0_1_1_n_n]

/-! ## The accumulation -/

abbrev blkA (t : Fin cfg0.N) : FVec Ideal S2048x256 .f32 := iblk m c 0 t
abbrev blkB (t : Fin cfg0.N) : FVec Ideal S2048x1024 .bf16 := iblk m c 1 t

/-- At the last step of a run the accumulator holds the sum of the run's block products. -/
theorem acc_eq (t : Fin cfg0.N) (hr : t.val % 2 = 2 - 1) (y : S256x1024.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S256x1024.Idx) :
    (outsAt0 m c t.val t.isLt).1 y = (outsAt0 m c t.val t.isLt).2 y := by
  rw [outsAt0_B m c t (by omega) hr]
  frame_out

/-! ## The whole arrays -/

abbrev argA : FVec Ideal S4096x256 .f32 := V m c main_arg0
abbrev argB : FVec Ideal S4096x1024 .bf16 := V m c main_arg2

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  congr 1
  · show V m c main_arg0 _ = V m c main_arg0 _
    congr 1
    blk_ext [idx0, idx2]
  · show V m c main_arg2 _ = V m c main_arg2 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DWpleRefIdeal.Read.val_main_v3 (F := Ideal) (m ((c : Thread nD τ).loc main_arg0)) (m ((c : Thread nD τ).loc main_arg2)) = (dats m 0 c).arrAt 2 cfg0.N := by
  rw [final2, show argA m c = m ((c : Thread nD τ).loc main_arg0) from V_main_arg0 m c, show argB m c = m ((c : Thread nD τ).loc main_arg2) from V_main_arg2 m c]
  funext i
  rw [Cert.DWpleRefIdeal.Read.val_main_v3_apply, Cert.DWpleRefIdeal.Read.val_main_v2_apply]
  refine Finset.sum_congr rfl fun l _ => ?_
  rw [mul_comm]
  refine congrArg₂ (fun u v : EReal => u * v) ?_ ?_
  · exact congrArg (m ((c : Thread nD τ).loc main_arg0)) ((eq_ix2 _).trans rfl)
  · exact congrArg (m ((c : Thread nD τ).loc main_arg2)) ((eq_ix2 _).trans rfl)

theorem value : Cert.algebraic_DWpleIdeal_DWpleRefIdeal (hDWpleIdeal := Cert.DWpleIdeal.Gen.facts) (hDWpleRefIdeal := Cert.DWpleRefIdeal.Gen.facts) := by
  intro m g m' g' _ hargs
  refine ⟨fun c => (dats m 0 c).arrAt 2 cfg0.N, run_holds m g, ?_⟩
  refine (θ_run _ _ _).mono (fun r h c => ?_) (Cert.DWpleRefIdeal.Value.run m' g')
  obtain ⟨a0, a1, a2⟩ := hargs c
  obtain ⟨r0, rest⟩ := h c
  refine ⟨r0.trans ?_, rest⟩
  rw [Cert.DWpleRefIdeal.Read.val_main_v3_eq, a0, a2]
  exact ref2_eq m c

theorem reference_frame : Cert.quiescent_DWpleRefIdeal (hDWpleRefIdeal := Cert.DWpleRefIdeal.Gen.facts) := by
  intro m g _
  exact (θ_run _ _ _).mono (fun r h => ⟨fun c => (h c).2, sem_eq_zero_of_no_sems (by decide) r.2⟩) (Cert.DWpleRefIdeal.Value.run m g)

end Cert.DWpleIdeal.Prod

end
-- ==== Proof.DWbranch.lean ====
/- The gradient of a branch's weight: its steps' sums make one product, which is the reference's. -/
module

public import proofs.«01_k».proof.Defs
public import proofs.«01_k».proof.Proof.Gen.DWbranchIdeal.Frame
public import proofs.«01_k».proof.Proof.Gen.DWbranchRefIdeal.Run
public import proofs.«01_k».proof.Proof.Gen.DWbranchRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWbranchIdeal.Prod

open Cert.DWbranchIdeal Cert.DWbranchIdeal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S512x1024.Idx) : k0_pay1 (F := Ideal) y = 0 := by
  rw [eq_ix2 y]
  pointwise [k0_pay1]

theorem pay2_apply (acc : FVec Ideal S512x1024 .f32) (a : FVec Ideal S2048x512 .bf16) (b : FVec Ideal S2048x1024 .bf16) (y : S512x1024.Idx) :
    k0_pay2 (F := Ideal) acc a b y = acc y + ∑ r : Fin 2048, a (ix2 r (y 0)) * b (ix2 r (y 1)) := by
  rw [eq_ix2 y]
  pointwise [k0_pay2, dot_S2048x512_S2048x1024_S512x1024_0_0_1_1_n_n]

/-! ## The accumulation -/

abbrev blkA (t : Fin cfg0.N) : FVec Ideal S2048x512 .bf16 := iblk m c 0 t
abbrev blkB (t : Fin cfg0.N) : FVec Ideal S2048x1024 .bf16 := iblk m c 1 t

/-- At the last step of a run the accumulator holds the sum of the run's block products. -/
theorem acc_eq (t : Fin cfg0.N) (hr : t.val % 2 = 2 - 1) (y : S512x1024.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S512x1024.Idx) :
    (outsAt0 m c t.val t.isLt).1 y = (outsAt0 m c t.val t.isLt).2 y := by
  rw [outsAt0_B m c t (by omega) hr]
  frame_out

/-! ## The whole arrays -/

abbrev argA : FVec Ideal S4096x512 .bf16 := V m c main_arg0
abbrev argB : FVec Ideal S4096x1024 .bf16 := V m c main_arg2

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  congr 1
  · show V m c main_arg0 _ = V m c main_arg0 _
    congr 1
    blk_ext [idx0, idx2]
  · show V m c main_arg2 _ = V m c main_arg2 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DWbranchRefIdeal.Read.val_main_v4 (F := Ideal) (m ((c : Thread nD τ).loc main_arg0)) (m ((c : Thread nD τ).loc main_arg2)) = (dats m 0 c).arrAt 2 cfg0.N := by
  rw [final2, show argA m c = m ((c : Thread nD τ).loc main_arg0) from V_main_arg0 m c, show argB m c = m ((c : Thread nD τ).loc main_arg2) from V_main_arg2 m c]
  funext i
  rw [Cert.DWbranchRefIdeal.Read.val_main_v4_apply, Cert.DWbranchRefIdeal.Read.val_main_v3_apply]
  refine Finset.sum_congr rfl fun l _ => ?_
  rw [mul_comm]
  refine congrArg₂ (fun u v : EReal => u * v) ?_ ?_
  · exact congrArg (m ((c : Thread nD τ).loc main_arg0)) ((eq_ix2 _).trans rfl)
  · exact congrArg (m ((c : Thread nD τ).loc main_arg2)) ((eq_ix2 _).trans rfl)

theorem value : Cert.algebraic_DWbranchIdeal_DWbranchRefIdeal (hDWbranchIdeal := Cert.DWbranchIdeal.Gen.facts) (hDWbranchRefIdeal := Cert.DWbranchRefIdeal.Gen.facts) := by
  intro m g m' g' _ hargs
  refine ⟨fun c => (dats m 0 c).arrAt 2 cfg0.N, run_holds m g, ?_⟩
  refine (θ_run _ _ _).mono (fun r h c => ?_) (Cert.DWbranchRefIdeal.Value.run m' g')
  obtain ⟨a0, a1, a2⟩ := hargs c
  obtain ⟨r0, rest⟩ := h c
  refine ⟨r0.trans ?_, rest⟩
  rw [Cert.DWbranchRefIdeal.Read.val_main_v4_eq, a0, a2]
  exact ref2_eq m c

theorem reference_frame : Cert.quiescent_DWbranchRefIdeal (hDWbranchRefIdeal := Cert.DWbranchRefIdeal.Gen.facts) := by
  intro m g _
  exact (θ_run _ _ _).mono (fun r h => ⟨fun c => (h c).2, sem_eq_zero_of_no_sems (by decide) r.2⟩) (Cert.DWbranchRefIdeal.Value.run m g)

end Cert.DWbranchIdeal.Prod

end
-- ==== Proof.DWbranch3.lean ====
/- The gradient of the fourth branch's weight: its steps' sums make one product, which is the reference's. -/
module

public import proofs.«01_k».proof.Defs
public import proofs.«01_k».proof.Proof.Gen.DWbranch3Ideal.Frame
public import proofs.«01_k».proof.Proof.Gen.DWbranch3RefIdeal.Run
public import proofs.«01_k».proof.Proof.Gen.DWbranch3RefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWbranch3Ideal.Prod

open Cert.DWbranch3Ideal Cert.DWbranch3Ideal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S512x1024.Idx) : k0_pay1 (F := Ideal) y = 0 := by
  rw [eq_ix2 y]
  pointwise [k0_pay1]

theorem pay2_apply (acc : FVec Ideal S512x1024 .f32) (a : FVec Ideal S2048x512 .f32) (b : FVec Ideal S2048x1024 .bf16) (y : S512x1024.Idx) :
    k0_pay2 (F := Ideal) acc a b y = acc y + ∑ r : Fin 2048, a (ix2 r (y 0)) * b (ix2 r (y 1)) := by
  rw [eq_ix2 y]
  pointwise [k0_pay2, dot_S2048x512_S2048x1024_S512x1024_0_0_1_1_n_n]

/-! ## The accumulation -/

abbrev blkA (t : Fin cfg0.N) : FVec Ideal S2048x512 .f32 := iblk m c 0 t
abbrev blkB (t : Fin cfg0.N) : FVec Ideal S2048x1024 .bf16 := iblk m c 1 t

/-- At the last step of a run the accumulator holds the sum of the run's block products. -/
theorem acc_eq (t : Fin cfg0.N) (hr : t.val % 2 = 2 - 1) (y : S512x1024.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S512x1024.Idx) :
    (outsAt0 m c t.val t.isLt).1 y = (outsAt0 m c t.val t.isLt).2 y := by
  rw [outsAt0_B m c t (by omega) hr]
  frame_out

/-! ## The whole arrays -/

abbrev argA : FVec Ideal S4096x512 .f32 := V m c main_arg0
abbrev argB : FVec Ideal S4096x1024 .bf16 := V m c main_arg2

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  congr 1
  · show V m c main_arg0 _ = V m c main_arg0 _
    congr 1
    blk_ext [idx0, idx2]
  · show V m c main_arg2 _ = V m c main_arg2 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DWbranch3RefIdeal.Read.val_main_v3 (F := Ideal) (m ((c : Thread nD τ).loc main_arg0)) (m ((c : Thread nD τ).loc main_arg2)) = (dats m 0 c).arrAt 2 cfg0.N := by
  rw [final2, show argA m c = m ((c : Thread nD τ).loc main_arg0) from V_main_arg0 m c, show argB m c = m ((c : Thread nD τ).loc main_arg2) from V_main_arg2 m c]
  funext i
  rw [Cert.DWbranch3RefIdeal.Read.val_main_v3_apply, Cert.DWbranch3RefIdeal.Read.val_main_v2_apply]
  refine Finset.sum_congr rfl fun l _ => ?_
  rw [mul_comm]
  refine congrArg₂ (fun u v : EReal => u * v) ?_ ?_
  · exact congrArg (m ((c : Thread nD τ).loc main_arg0)) ((eq_ix2 _).trans rfl)
  · exact congrArg (m ((c : Thread nD τ).loc main_arg2)) ((eq_ix2 _).trans rfl)

theorem value : Cert.algebraic_DWbranch3Ideal_DWbranch3RefIdeal (hDWbranch3Ideal := Cert.DWbranch3Ideal.Gen.facts) (hDWbranch3RefIdeal := Cert.DWbranch3RefIdeal.Gen.facts) := by
  intro m g m' g' _ hargs
  refine ⟨fun c => (dats m 0 c).arrAt 2 cfg0.N, run_holds m g, ?_⟩
  refine (θ_run _ _ _).mono (fun r h c => ?_) (Cert.DWbranch3RefIdeal.Value.run m' g')
  obtain ⟨a0, a1, a2⟩ := hargs c
  obtain ⟨r0, rest⟩ := h c
  refine ⟨r0.trans ?_, rest⟩
  rw [Cert.DWbranch3RefIdeal.Read.val_main_v3_eq, a0, a2]
  exact ref2_eq m c

theorem reference_frame : Cert.quiescent_DWbranch3RefIdeal (hDWbranch3RefIdeal := Cert.DWbranch3RefIdeal.Gen.facts) := by
  intro m g _
  exact (θ_run _ _ _).mono (fun r h => ⟨fun c => (h c).2, sem_eq_zero_of_no_sems (by decide) r.2⟩) (Cert.DWbranch3RefIdeal.Value.run m g)

end Cert.DWbranch3Ideal.Prod

end
-- ==== Proof.Cols.lean ====
/- Matrices whose columns are moved about: what a slice of columns, a change of the width of the blocks the columns come in,
   and a concatenation along the columns hold at one entry, in the numbers of the row and the column. -/
module

public import Idealize.ShloMosaic.Lib.Claim
public import Idealize.ShloMosaic.Lib.Pointwise
public import Idealize.ShloMosaic.Lib.KernelVsHost

@[expose] public section

noncomputable section

namespace Cert.Layout

open Idealize.ShloMosaic

/-- A shape of two axes. -/
abbrev Mat (M N : ℕ) : Shape := ⟨2, ![M, N]⟩

/-- A shape of three axes. -/
abbrev Blk (M A B : ℕ) : Shape := ⟨3, ![M, A, B]⟩

/-- The matrix `x` holds `F` of the row and the column. -/
def Cols {M N : ℕ} (x : (Mat M N).Idx → EReal) (F : ℕ → ℕ → EReal) : Prop := ∀ i, x i = F (i 0).val (i 1).val

theorem Cols.of_eq {M N : ℕ} {x y : (Mat M N).Idx → EReal} {F : ℕ → ℕ → EReal} (h : x = y) (hy : Cols y F) : Cols x F := h ▸ hy

/-- The entries of a matrix, as a function of two numbers; nothing is meant outside the matrix. -/
def ent {M N : ℕ} (x : (Mat M N).Idx → EReal) (r q : ℕ) : EReal :=
  if h : r < M ∧ q < N then x (ix2 ⟨r, h.1⟩ ⟨q, h.2⟩) else 0

theorem ent_cols {M N : ℕ} (x : (Mat M N).Idx → EReal) : Cols x (ent x) := fun i => by
  unfold ent
  rw [dif_pos ⟨(i 0).isLt, (i 1).isLt⟩]
  exact congrArg x (eq_ix2 i)

theorem ent_eq {M N : ℕ} (x : (Mat M N).Idx → EReal) (a : Fin M) (b : Fin N) : ent x a.val b.val = x (ix2 a b) :=
  (ent_cols x (ix2 a b)).symm

variable {M : ℕ}

theorem pos_eq {N A B : ℕ} (hN : N = A * B) (r a b : ℕ) : (r * A + a) * B + b = r * N + (a * B + b) := by
  rw [hN, Nat.add_mul, Nat.mul_assoc, Nat.add_assoc]

/-- The columns from `o` on. -/
def shift (o : ℕ) (F : ℕ → ℕ → EReal) (r q : ℕ) : EReal := F r (o + q)

/-- Each block of `B` columns at `l` columns from the left of a block of `B'`, the rest zero. -/
def wide (l B B' : ℕ) (F : ℕ → ℕ → EReal) (r q : ℕ) : EReal :=
  if l ≤ q % B' ∧ q % B' - l < B then F r (q / B' * B + (q % B' - l)) else 0

/-- Of each block of `B'` columns the `B` from `o` on. -/
def narrow (o B B' : ℕ) (F : ℕ → ℕ → EReal) (r q : ℕ) : EReal := F r (q / B * B' + (o + q % B))

/-- Columns from `o` on. -/
theorem Cols.slice {N N' o : ℕ} {x : (Mat M N).Idx → EReal} {F : ℕ → ℕ → EReal} (hx : Cols x F)
    (h : (Mat M N).Slices ![0, o] (Mat M N')) :
    Cols (extractStridedSlice (Mat M N') ![0, o] x h) (shift o F) := fun i => by
  refine (hx _).trans ?_
  show F (0 + (i 0).val) (o + (i 1).val) = F (i 0).val (o + (i 1).val)
  rw [Nat.zero_add]

/-- The columns come in `A` blocks of `B`; each block is moved to `l` columns from the left of a block of `B'`, the rest zero. -/
theorem Cols.pad {N N' A B B' l hi : ℕ} {x : (Mat M N).Idx → EReal} {F : ℕ → ℕ → EReal} (hx : Cols x F)
    (hN : N = A * B) (hN' : N' = A * B') (hB : 0 < B') {u : Shape} (v : u.Idx → EReal) (hu : 0 < u.numel) (hv : ∀ k, v k = 0)
    (h₁ : (Mat M N).ShapeCasts (Blk M A B)) (h₂ : (Blk M A B).Pads ![0, 0, l] ![0, 0, hi] ![0, 0, 0] (Blk M A B'))
    (h₃ : (Blk M A B').ShapeCasts (Mat M N')) :
    Cols (shapeCast (Mat M N') (pad (Blk M A B') ![0, 0, l] ![0, 0, hi] ![0, 0, 0] (shapeCast (Blk M A B) x h₁) v h₂ hu) h₃)
      (wide l B B' F) := fun i => by
  have hi0 : (i 0).val < M := (i 0).isLt
  have hi1 : (i 1).val < A * B' := hN' ▸ (i 1).isLt
  have hA : (i 1).val / B' < A := Nat.div_lt_of_lt_mul (by rwa [Nat.mul_comm])
  have hm : (i 1).val % B' < B' := Nat.mod_lt _ hB
  rw [shapeCast_apply (t := Mat M N') (s := Blk M A B') _ h₃ i (ix3 ⟨(i 0).val, hi0⟩ ⟨(i 1).val / B', hA⟩ ⟨(i 1).val % B', hm⟩) (by
    rw [Shape.rowMajor_val_three, Shape.rowMajor_val_two]
    show ((i 0).val * A + (i 1).val / B') * B' + (i 1).val % B' = (i 0).val * N' + (i 1).val
    exact (pos_eq hN' _ _ _).trans (congrArg _ (Nat.div_add_mod' _ _)))]
  show _ = if l ≤ (i 1).val % B' ∧ (i 1).val % B' - l < B then F (i 0).val ((i 1).val / B' * B + ((i 1).val % B' - l)) else 0
  by_cases hq : l ≤ (i 1).val % B' ∧ (i 1).val % B' - l < B
  · rw [if_pos hq, pad_apply_of_inside _ _ _ _ _ h₂ hu _ (ix3 ⟨(i 0).val, hi0⟩ ⟨(i 1).val / B', hA⟩ ⟨(i 1).val % B' - l, hq.2⟩) (by
      intro a
      fin_cases a
      · show (i 0).val = 0 + (i 0).val * (0 + 1); omega
      · show (i 1).val / B' = 0 + (i 1).val / B' * (0 + 1); omega
      · show (i 1).val % B' = l + ((i 1).val % B' - l) * (0 + 1); omega)]
    have hlt : (i 1).val / B' * B + ((i 1).val % B' - l) < N := by
      rw [hN]
      calc (i 1).val / B' * B + ((i 1).val % B' - l) < (i 1).val / B' * B + B := Nat.add_lt_add_left hq.2 _
        _ = ((i 1).val / B' + 1) * B := (Nat.succ_mul _ _).symm
        _ ≤ A * B := Nat.mul_le_mul_right _ hA
    rw [shapeCast_apply (t := Blk M A B) (s := Mat M N) x h₁ _ (ix2 ⟨(i 0).val, hi0⟩ ⟨(i 1).val / B' * B + ((i 1).val % B' - l), hlt⟩) (by
      rw [Shape.rowMajor_val_three, Shape.rowMajor_val_two]
      show (i 0).val * N + ((i 1).val / B' * B + ((i 1).val % B' - l)) = ((i 0).val * A + (i 1).val / B') * B + ((i 1).val % B' - l)
      exact (pos_eq hN _ _ _).symm)]
    exact hx _
  · rw [if_neg hq, pad_apply_of_not_inside _ _ _ _ _ h₂ hu _ 2 (by
      intro hc
      have h1 : l ≤ (i 1).val % B' := hc.1
      have h2 : ((i 1).val % B' - l) / (0 + 1) < B := hc.2.2
      exact hq ⟨h1, by simpa using h2⟩)]
    exact hv _

/-- The columns come in `A` blocks of `B'`; of each block the `B` columns from `o` on are kept. -/
theorem Cols.unpad {N N' A B B' o : ℕ} {x : (Mat M N').Idx → EReal} {F : ℕ → ℕ → EReal} (hx : Cols x F)
    (hN : N = A * B) (hN' : N' = A * B') (hB : 0 < B) (ho : o + B ≤ B')
    (h₁ : (Mat M N').ShapeCasts (Blk M A B')) (h₂ : (Blk M A B').Slices ![0, 0, o] (Blk M A B))
    (h₃ : (Blk M A B).ShapeCasts (Mat M N)) :
    Cols (shapeCast (Mat M N) (extractStridedSlice (Blk M A B) ![0, 0, o] (shapeCast (Blk M A B') x h₁) h₂) h₃)
      (narrow o B B' F) := fun i => by
  have hi0 : (i 0).val < M := (i 0).isLt
  have hi1 : (i 1).val < A * B := hN ▸ (i 1).isLt
  have hA : (i 1).val / B < A := Nat.div_lt_of_lt_mul (by rwa [Nat.mul_comm])
  have hm : (i 1).val % B < B := Nat.mod_lt _ hB
  have hm' : o + (i 1).val % B < B' := by omega
  rw [shapeCast_apply (t := Mat M N) (s := Blk M A B) _ h₃ i (ix3 ⟨(i 0).val, hi0⟩ ⟨(i 1).val / B, hA⟩ ⟨(i 1).val % B, hm⟩) (by
    rw [Shape.rowMajor_val_three, Shape.rowMajor_val_two]
    show ((i 0).val * A + (i 1).val / B) * B + (i 1).val % B = (i 0).val * N + (i 1).val
    exact (pos_eq hN _ _ _).trans (congrArg _ (Nat.div_add_mod' _ _))),
    extractStridedSlice_apply _ _ h₂ _ (ix3 ⟨(i 0).val, hi0⟩ ⟨(i 1).val / B, hA⟩ ⟨o + (i 1).val % B, hm'⟩) (by
      intro a
      fin_cases a
      · show (i 0).val = 0 + (i 0).val; omega
      · show (i 1).val / B = 0 + (i 1).val / B; omega
      · rfl)]
  have hlt : (i 1).val / B * B' + (o + (i 1).val % B) < N' := by
    rw [hN']
    calc (i 1).val / B * B' + (o + (i 1).val % B) < (i 1).val / B * B' + B' := Nat.add_lt_add_left hm' _
      _ = ((i 1).val / B + 1) * B' := (Nat.succ_mul _ _).symm
      _ ≤ A * B' := Nat.mul_le_mul_right _ hA
  rw [shapeCast_apply (t := Blk M A B') (s := Mat M N') x h₁ _ (ix2 ⟨(i 0).val, hi0⟩ ⟨(i 1).val / B * B' + (o + (i 1).val % B), hlt⟩) (by
    rw [Shape.rowMajor_val_three, Shape.rowMajor_val_two]
    show (i 0).val * N' + ((i 1).val / B * B' + (o + (i 1).val % B)) = ((i 0).val * A + (i 1).val / B) * B' + (o + (i 1).val % B)
    exact (pos_eq hN' _ _ _).symm)]
  exact hx _

/-- Pieces side by side: the piece the column falls in, at the column less the widths before it. -/
def side : List (ℕ × (ℕ → ℕ → EReal)) → ℕ → ℕ → EReal
  | [], _, _ => 0
  | [p], r, q => p.2 r q
  | p :: p' :: ps, r, q => if q < p.1 then p.2 r q else side (p' :: ps) r (q - p.1)

/-- The pieces of a concatenation and what they hold. -/
inductive Pieces (M : ℕ) : List ((s : Shape) × (s.Idx → EReal)) → List (ℕ × (ℕ → ℕ → EReal)) → Prop
  | nil : Pieces M [] []
  | cons {N : ℕ} {x : (Mat M N).Idx → EReal} {F : ℕ → ℕ → EReal} {xs ps} (hx : Cols x F) (h : Pieces M xs ps) :
      Pieces M (⟨Mat M N, x⟩ :: xs) ((N, F) :: ps)

theorem side_at {N : ℕ} (j : (Mat M N).Idx) {xs ps} (hp : Pieces M xs ps) :
    ∀ (hs : ∀ s ∈ xs.map (·.1), s.FitsOff (Mat M N) 1) (q : ℕ) (hq : q < (axisSizes (Mat M N) 1 xs).sum),
      concatenateAt (Mat M N) 1 j xs hs q hq = side ps (j 0).val q := by
  induction hp with
  | nil => intro hs q hq; exact absurd hq (Nat.not_lt_zero _)
  | cons hx h ih =>
    intro hs q hq
    cases h with
    | nil =>
      rw [concatenateAt_singleton]
      refine (hx _).trans ?_
      simp [side, Shape.Idx.norm]
    | cons hx' h' =>
      rw [concatenateAt_cons]
      unfold side
      split
      · rw [if_pos (by assumption)]
        refine (hx _).trans ?_
        rfl
      · rw [if_neg (by assumption)]
        exact ih _ _ _

/-- Pieces side by side. -/
theorem Cols.side {N : ℕ} {xs ps} (hp : Pieces M xs ps) (h : Shape.Concatenates (xs.map (·.1)) (Mat M N) 1) :
    Cols (concatenate (Mat M N) 1 xs h) (side ps) := fun i => by
  rw [concatenate_apply]
  exact side_at i hp _ _ _

theorem Cols.const {N : ℕ} {x : (Mat M N).Idx → EReal} {a : EReal} (h : ∀ i, x i = a) : Cols x fun _ _ => a := h

/-! ## The columns of the projection's groups -/

/-- The groups of the 7592 columns side by side as 9728 columns: the heads of 64 in blocks of 128, and zeros between some groups. -/
def fused (W : ℕ → ℕ → EReal) : ℕ → ℕ → EReal :=
  side [(4096, shift 3496 W), (1024, wide 0 64 128 (shift 1184 W)), (512, shift 672 W), (512, shift 2472 W), (512, shift 2984 W),
    (256, fun _ _ => 0), (384, shift 0 W), (128, fun _ _ => 0), (256, shift 384 W),
    (1536, side [(1024, wide 0 64 128 (shift 0 (shift 1696 W))), (256, wide 0 64 128 (shift 512 (shift 1696 W))),
      (256, wide 0 64 128 (shift 640 (shift 1696 W)))]),
    (128, wide 64 32 128 (shift 640 W)), (128, wide 0 8 128 (shift 2464 W)), (256, fun _ _ => 0)]

/-- The 7592 columns taken back from the 9728. -/
def taken (U : ℕ → ℕ → EReal) : ℕ → ℕ → EReal :=
  side [(384, shift 6912 U), (256, shift 7424 U), (32, narrow 64 32 128 (shift 9216 U)), (512, shift 5120 U),
    (512, narrow 0 64 128 (shift 4096 U)),
    (768, side [(512, narrow 0 64 128 (shift 0 (shift 7680 U))), (128, narrow 0 64 128 (shift 1024 (shift 7680 U))),
      (128, narrow 0 64 128 (shift 1280 (shift 7680 U)))]),
    (8, narrow 0 8 128 (shift 9344 U)), (512, shift 5632 U), (512, shift 6144 U), (4096, shift 0 U)]

/-- Where a column of the 7592 stands among the 9728. -/
def place (j : ℕ) : ℕ :=
  if j < 384 then 6912 + j
  else if j < 640 then 7424 + (j - 384)
  else if j < 672 then 9280 + (j - 640)
  else if j < 1184 then 5120 + (j - 672)
  else if j < 1696 then 4096 + ((j - 1184) / 64 * 128 + (j - 1184) % 64)
  else if j < 2464 then 7680 + ((j - 1696) / 64 * 128 + (j - 1696) % 64)
  else if j < 2472 then 9344 + (j - 2464)
  else if j < 2984 then 5632 + (j - 2472)
  else if j < 3496 then 6144 + (j - 2984)
  else j - 3496

theorem place_lt (j : ℕ) (hj : j < 7592) : place j < 9728 := by
  unfold place
  split_ifs <;> omega

theorem side_lt {n : ℕ} {F : ℕ → ℕ → EReal} {ps : List (ℕ × (ℕ → ℕ → EReal))} {r q : ℕ} (h : q < n) : side ((n, F) :: ps) r q = F r q := by
  cases ps with
  | nil => rfl
  | cons p ps => exact if_pos h

theorem side_ge {n : ℕ} {F : ℕ → ℕ → EReal} {p : ℕ × (ℕ → ℕ → EReal)} {ps : List (ℕ × (ℕ → ℕ → EReal))} {r q : ℕ} (h : n ≤ q) :
    side ((n, F) :: p :: ps) r q = side (p :: ps) r (q - n) := if_neg (Nat.not_lt.mpr h)

theorem groups (j : ℕ) (hj : j < 7592) : j < 384 ∨ (384 ≤ j ∧ j < 640) ∨ (640 ≤ j ∧ j < 672) ∨ (672 ≤ j ∧ j < 1184) ∨ (1184 ≤ j ∧ j < 1696)
    ∨ (1696 ≤ j ∧ j < 2208) ∨ (2208 ≤ j ∧ j < 2336) ∨ (2336 ≤ j ∧ j < 2464) ∨ (2464 ≤ j ∧ j < 2472) ∨ (2472 ≤ j ∧ j < 2984)
    ∨ (2984 ≤ j ∧ j < 3496) ∨ (3496 ≤ j ∧ j < 7592) := by omega

theorem taken_eq (U : ℕ → ℕ → EReal) (r j : ℕ) (hj : j < 7592) : taken U r j = U r (place j) := by
  unfold taken place
  rcases groups j hj with h | h | h | h | h | h | h | h | h | h | h | h <;>
  · repeat first | rw [if_pos (by omega)] | rw [if_neg (by omega)]
    repeat first | rw [side_lt (by omega)] | rw [side_ge (by omega)]
    simp only [shift, narrow]
    all_goals exact congrArg _ (by omega)

theorem fused_place (W : ℕ → ℕ → EReal) (r j : ℕ) (hj : j < 7592) : fused W r (place j) = W r j := by
  unfold fused place
  rcases groups j hj with h | h | h | h | h | h | h | h | h | h | h | h <;>
  · repeat first | rw [if_pos (by omega)] | rw [if_neg (by omega)]
    repeat first | rw [side_lt (by omega)] | rw [side_ge (by omega)]
    simp only [shift, wide]
    try rw [if_pos (by omega)]
    all_goals exact congrArg _ (by omega)

/-- A place among the 9728 where no column of the 7592 stands. -/
theorem fused_off (W : ℕ → ℕ → EReal) (r q : ℕ) (hq : q < 9728) (h : ∀ j < 7592, place j ≠ q) : fused W r q = 0 := by
  have hz : ∀ j, j < 7592 → place j = q → W r j = 0 := fun j hj e => absurd e (h j hj)
  clear h
  unfold place at hz
  unfold fused
  rcases (by omega : q < 4096 ∨ (4096 ≤ q ∧ q < 5120) ∨ (5120 ≤ q ∧ q < 5632) ∨ (5632 ≤ q ∧ q < 6144) ∨ (6144 ≤ q ∧ q < 6656)
      ∨ (6656 ≤ q ∧ q < 6912) ∨ (6912 ≤ q ∧ q < 7296) ∨ (7296 ≤ q ∧ q < 7424) ∨ (7424 ≤ q ∧ q < 7680) ∨ (7680 ≤ q ∧ q < 8704)
      ∨ (8704 ≤ q ∧ q < 8960) ∨ (8960 ≤ q ∧ q < 9216) ∨ (9216 ≤ q ∧ q < 9344) ∨ (9344 ≤ q ∧ q < 9472) ∨ (9472 ≤ q ∧ q < 9728))
    with h | h | h | h | h | h | h | h | h | h | h | h | h | h | h <;>
  · repeat first | rw [side_lt (by omega)] | rw [side_ge (by omega)]
    all_goals first
      | with_reducible rfl
      | (simp only [shift, wide]
         try split
         all_goals first
           | with_reducible rfl
           | (refine hz _ (by omega) ?_
              repeat first | rw [if_pos (by omega)] | rw [if_neg (by omega)]
              omega))

theorem place_inj {j j' : ℕ} (hj : j < 7592) (hj' : j' < 7592) (h : place j = place j') : j = j' := by
  have e := fused_place (fun _ q => (q : EReal)) 0 j hj
  rw [h, fused_place _ 0 j' hj'] at e
  exact_mod_cast e.symm

/-- A product over the 9728 columns of two matrices laid out so is the one over the 7592. -/
theorem sum_fused (W W' : ℕ → ℕ → EReal) (r r' : ℕ) :
    ∑ q : Fin 9728, fused W r q.val * fused W' r' q.val = ∑ j : Fin 7592, W r j.val * W' r' j.val := by
  refine (Fintype.sum_of_injective (fun j : Fin 7592 => (⟨place j.val, place_lt _ j.isLt⟩ : Fin 9728)) (fun j j' h => ?_) _ _ (fun q hq => ?_) fun j => ?_).symm
  · exact Fin.ext (place_inj j.isLt j'.isLt (congrArg Fin.val h))
  · rw [fused_off W r q.val q.isLt (fun j hj e => hq ⟨⟨j, hj⟩, Fin.ext e⟩), zero_mul]
  · rw [fused_place W r j.val j.isLt, fused_place W' r' j.val j.isLt]

end Cert.Layout

end
-- ==== Proof.Heads.lean ====
/- Matrices whose rows or columns come in heads: what padding the heads among the rows, and joining two matrices head by
   head, hold at one entry; and sums over padded heads. -/
module

public import proofs.«01_k».proof.Proof.Cols

@[expose] public section

noncomputable section

namespace Cert.Layout

open Idealize.ShloMosaic

variable {M : ℕ}

/-- Each block of `B` rows at `l` rows from the top of a block of `B'`, the rest zero. -/
def tall (l B B' : ℕ) (F : ℕ → ℕ → EReal) (r q : ℕ) : EReal := wide l B B' (fun q r => F r q) q r

/-- Of each block of `B'` rows the `B` from `o` on. -/
def low (o B B' : ℕ) (F : ℕ → ℕ → EReal) (r q : ℕ) : EReal := narrow o B B' (fun q r => F r q) q r

theorem blk_lt {N A B a b : ℕ} (hN : N = A * B) (ha : a < A) (hb : b < B) : a * B + b < N := by
  rw [hN]
  calc a * B + b < a * B + B := Nat.add_lt_add_left hb _
    _ = (a + 1) * B := (Nat.succ_mul _ _).symm
    _ ≤ A * B := Nat.mul_le_mul_right _ ha

/-- The rows come in `A` blocks of `B`; each block is moved to `l` rows from the top of a block of `B'`, the rest zero. -/
theorem Cols.padRows {N N' A B B' l hi : ℕ} {x : (Mat N M).Idx → EReal} {F : ℕ → ℕ → EReal} (hx : Cols x F)
    (hN : N = A * B) (hN' : N' = A * B') (hB : 0 < B') {u : Shape} (v : u.Idx → EReal) (hu : 0 < u.numel) (hv : ∀ k, v k = 0)
    (h₁ : (Mat N M).ShapeCasts (Blk A B M)) (h₂ : (Blk A B M).Pads ![0, l, 0] ![0, hi, 0] ![0, 0, 0] (Blk A B' M))
    (h₃ : (Blk A B' M).ShapeCasts (Mat N' M)) :
    Cols (shapeCast (Mat N' M) (Idealize.ShloMosaic.pad (Blk A B' M) ![0, l, 0] ![0, hi, 0] ![0, 0, 0] (shapeCast (Blk A B M) x h₁) v h₂ hu) h₃)
      (tall l B B' F) := fun i => by
  have hi1 : (i 1).val < M := (i 1).isLt
  have hi0 : (i 0).val < A * B' := hN' ▸ (i 0).isLt
  have hA : (i 0).val / B' < A := Nat.div_lt_of_lt_mul (by rwa [Nat.mul_comm])
  have hm : (i 0).val % B' < B' := Nat.mod_lt _ hB
  rw [shapeCast_apply (t := Mat N' M) (s := Blk A B' M) _ h₃ i (ix3 ⟨(i 0).val / B', hA⟩ ⟨(i 0).val % B', hm⟩ ⟨(i 1).val, hi1⟩) (by
    rw [Shape.rowMajor_val_three, Shape.rowMajor_val_two]
    show ((i 0).val / B' * B' + (i 0).val % B') * M + (i 1).val = (i 0).val * M + (i 1).val
    rw [Nat.div_add_mod'])]
  show _ = if l ≤ (i 0).val % B' ∧ (i 0).val % B' - l < B then F ((i 0).val / B' * B + ((i 0).val % B' - l)) (i 1).val else 0
  by_cases hq : l ≤ (i 0).val % B' ∧ (i 0).val % B' - l < B
  · rw [if_pos hq, pad_apply_of_inside _ _ _ _ _ h₂ hu _ (ix3 ⟨(i 0).val / B', hA⟩ ⟨(i 0).val % B' - l, hq.2⟩ ⟨(i 1).val, hi1⟩) (by
      intro a
      fin_cases a
      · show (i 0).val / B' = 0 + (i 0).val / B' * (0 + 1); omega
      · show (i 0).val % B' = l + ((i 0).val % B' - l) * (0 + 1); omega
      · show (i 1).val = 0 + (i 1).val * (0 + 1); omega)]
    rw [shapeCast_apply (t := Blk A B M) (s := Mat N M) x h₁ _ (ix2 ⟨(i 0).val / B' * B + ((i 0).val % B' - l), blk_lt hN hA hq.2⟩ ⟨(i 1).val, hi1⟩) (by
      rw [Shape.rowMajor_val_three, Shape.rowMajor_val_two]
      rfl)]
    exact hx _
  · rw [if_neg hq, pad_apply_of_not_inside _ _ _ _ _ h₂ hu _ 1 (by
      intro hc
      have h1 : l ≤ (i 0).val % B' := hc.1
      have h2 : ((i 0).val % B' - l) / (0 + 1) < B := hc.2.2
      exact hq ⟨h1, by simpa using h2⟩)]
    exact hv _

/-- The rows come in `A` blocks of `B'`; of each block the `B` rows from `o` on are kept. -/
theorem Cols.unpadRows {N N' A B B' o : ℕ} {x : (Mat N' M).Idx → EReal} {F : ℕ → ℕ → EReal} (hx : Cols x F)
    (hN : N = A * B) (hN' : N' = A * B') (hB : 0 < B) (ho : o + B ≤ B')
    (h₁ : (Mat N' M).ShapeCasts (Blk A B' M)) (h₂ : (Blk A B' M).Slices ![0, o, 0] (Blk A B M))
    (h₃ : (Blk A B M).ShapeCasts (Mat N M)) :
    Cols (shapeCast (Mat N M) (extractStridedSlice (Blk A B M) ![0, o, 0] (shapeCast (Blk A B' M) x h₁) h₂) h₃)
      (low o B B' F) := fun i => by
  have hi1 : (i 1).val < M := (i 1).isLt
  have hi0 : (i 0).val < A * B := hN ▸ (i 0).isLt
  have hA : (i 0).val / B < A := Nat.div_lt_of_lt_mul (by rwa [Nat.mul_comm])
  have hm : (i 0).val % B < B := Nat.mod_lt _ hB
  have hm' : o + (i 0).val % B < B' := by omega
  rw [shapeCast_apply (t := Mat N M) (s := Blk A B M) _ h₃ i (ix3 ⟨(i 0).val / B, hA⟩ ⟨(i 0).val % B, hm⟩ ⟨(i 1).val, hi1⟩) (by
    rw [Shape.rowMajor_val_three, Shape.rowMajor_val_two]
    show ((i 0).val / B * B + (i 0).val % B) * M + (i 1).val = (i 0).val * M + (i 1).val
    rw [Nat.div_add_mod']),
    extractStridedSlice_apply _ _ h₂ _ (ix3 ⟨(i 0).val / B, hA⟩ ⟨o + (i 0).val % B, hm'⟩ ⟨(i 1).val, hi1⟩) (by
      intro a
      fin_cases a
      · show (i 0).val / B = 0 + (i 0).val / B; omega
      · rfl
      · show (i 1).val = 0 + (i 1).val; omega)]
  rw [shapeCast_apply (t := Blk A B' M) (s := Mat N' M) x h₁ _ (ix2 ⟨(i 0).val / B * B' + (o + (i 0).val % B), blk_lt hN' hA hm'⟩ ⟨(i 1).val, hi1⟩) (by
    rw [Shape.rowMajor_val_three, Shape.rowMajor_val_two]
    rfl)]
  exact hx _

/-- Blocks of `B` columns, each followed by the one of the other matrix. -/
def both (B : ℕ) (F G : ℕ → ℕ → EReal) (r q : ℕ) : EReal :=
  if q % (B + B) < B then F r (q / (B + B) * B + q % (B + B)) else G r (q / (B + B) * B + (q % (B + B) - B))

/-- The columns of a matrix that holds `F`, as blocks. -/
def Blocks {A B : ℕ} (x : (Blk M A B).Idx → EReal) (F : ℕ → ℕ → EReal) : Prop := ∀ k, x k = F (k 0).val ((k 1).val * B + (k 2).val)

theorem Blocks.of_eq {A B : ℕ} {x y : (Blk M A B).Idx → EReal} {F : ℕ → ℕ → EReal} (h : x = y) (hy : Blocks y F) : Blocks x F := h ▸ hy

theorem Cols.blocks {N A B : ℕ} {x : (Mat M N).Idx → EReal} {F : ℕ → ℕ → EReal} (hx : Cols x F) (hN : N = A * B)
    (h : (Mat M N).ShapeCasts (Blk M A B)) : Blocks (shapeCast (Blk M A B) x h) F := fun k => by
  rw [shapeCast_apply (t := Blk M A B) (s := Mat M N) _ h k (ix2 ⟨(k 0).val, (k 0).isLt⟩ ⟨(k 1).val * B + (k 2).val, blk_lt hN (k 1).isLt (k 2).isLt⟩) (by
    rw [Shape.rowMajor_val_three, Shape.rowMajor_val_two]
    exact (pos_eq hN _ _ _).symm)]
  exact hx _

/-- Two matrices whose columns come in `A` blocks of `B`, joined block by block. -/
theorem Blocks.both {N' A B B' : ℕ} {x y : (Blk M A B).Idx → EReal} {F G : ℕ → ℕ → EReal} (hx : Blocks x F) (hy : Blocks y G)
    (hN' : N' = A * B') (hB' : B' = B + B) (hB : 0 < B)
    (hc : Shape.Concatenates (([⟨Blk M A B, x⟩, ⟨Blk M A B, y⟩] : List ((s : Shape) × (s.Idx → EReal))).map (·.1)) (Blk M A B') 2)
    (h₃ : (Blk M A B').ShapeCasts (Mat M N')) :
    Cols (shapeCast (Mat M N') (concatenate (Blk M A B') 2 [⟨Blk M A B, x⟩, ⟨Blk M A B, y⟩] hc) h₃) (both B F G) := fun i => by
  subst hB'
  have hi0 : (i 0).val < M := (i 0).isLt
  have hi1 : (i 1).val < A * (B + B) := hN' ▸ (i 1).isLt
  have hA : (i 1).val / (B + B) < A := Nat.div_lt_of_lt_mul (by rwa [Nat.mul_comm])
  have hm : (i 1).val % (B + B) < B + B := Nat.mod_lt _ (by omega)
  rw [shapeCast_apply (t := Mat M N') (s := Blk M A (B + B)) _ h₃ i (ix3 ⟨(i 0).val, hi0⟩ ⟨(i 1).val / (B + B), hA⟩ ⟨(i 1).val % (B + B), hm⟩) (by
    rw [Shape.rowMajor_val_three, Shape.rowMajor_val_two]
    show ((i 0).val * A + (i 1).val / (B + B)) * (B + B) + (i 1).val % (B + B) = (i 0).val * N' + (i 1).val
    exact (pos_eq hN' _ _ _).trans (congrArg _ (Nat.div_add_mod' _ _)))]
  show _ = if (i 1).val % (B + B) < B then F (i 0).val ((i 1).val / (B + B) * B + (i 1).val % (B + B))
    else G (i 0).val ((i 1).val / (B + B) * B + ((i 1).val % (B + B) - B))
  rw [concatenate_apply, concatenateAt_cons]
  split
  · rename_i h
    have h' : (i 1).val % (B + B) < B := h
    refine Eq.trans ?_ (if_pos h').symm
    exact hx _
  · rename_i h
    have h' : ¬ (i 1).val % (B + B) < B := h
    refine Eq.trans ?_ (if_neg h').symm
    refine (concatenateAt_singleton ..).trans ?_
    exact hy _

/-- Where a column, or row, of blocks of `B` stands when the blocks are padded to `B'`. -/
def head (B B' q : ℕ) : ℕ := q / B * B' + (0 + q % B)

/-! ## Sums over padded heads -/

/-- Blocks of `B` at the left of blocks of `B'`, the rest zero. -/
def spread (B B' : ℕ) (f : ℕ → EReal) (q : ℕ) : EReal := if q % B' < B then f (q / B' * B + q % B') else 0

theorem wide_eq (B B' : ℕ) (F : ℕ → ℕ → EReal) (r q : ℕ) : wide 0 B B' F r q = spread B B' (F r) q := by
  unfold wide spread
  simp only [Nat.zero_le, true_and, Nat.sub_zero]

theorem tall_eq (B B' : ℕ) (F : ℕ → ℕ → EReal) (r q : ℕ) : tall 0 B B' F r q = spread B B' (fun k => F k q) r := wide_eq ..

theorem spread_head {B B' : ℕ} (hB : 0 < B) (h : B ≤ B') (f : ℕ → EReal) (q : ℕ) : spread B B' f (head B B' q) = f q := by
  have ml : q % B < B' := lt_of_lt_of_le (Nat.mod_lt _ hB) h
  have dv : (q / B * B' + q % B) / B' = q / B := by
    rw [Nat.mul_comm, Nat.mul_add_div (lt_of_lt_of_le hB h), Nat.div_eq_of_lt ml, Nat.add_zero]
  have md : (q / B * B' + q % B) % B' = q % B := by rw [Nat.mul_comm, Nat.mul_add_mod, Nat.mod_eq_of_lt ml]
  unfold spread head
  rw [Nat.zero_add, dv, md, if_pos (Nat.mod_lt _ hB), Nat.div_add_mod']

theorem wide_head {B B' : ℕ} (hB : 0 < B) (h : B ≤ B') (F : ℕ → ℕ → EReal) (r q : ℕ) : wide 0 B B' F r (head B B' q) = F r q :=
  (wide_eq ..).trans (spread_head hB h _ _)

theorem tall_head {B B' : ℕ} (hB : 0 < B) (h : B ≤ B') (F : ℕ → ℕ → EReal) (r q : ℕ) : tall 0 B B' F (head B B' r) q = F r q :=
  (tall_eq ..).trans (spread_head hB h _ _)

/-- A sum of products over padded blocks is the one over the blocks. -/
theorem sum_spread {N N' : ℕ} (A B B' : ℕ) (hN : N = A * B) (hN' : N' = A * B') (hB : 0 < B) (h : B ≤ B') (f g : ℕ → EReal) :
    ∑ q : Fin N', spread B B' f q.val * spread B B' g q.val = ∑ j : Fin N, f j.val * g j.val := by
  have hb' : 0 < B' := lt_of_lt_of_le hB h
  have lt (j : Fin N) : j.val / B < A := Nat.div_lt_of_lt_mul (Nat.mul_comm A B ▸ hN ▸ j.isLt)
  have ml (j : Fin N) : j.val % B < B' := lt_of_lt_of_le (Nat.mod_lt _ hB) h
  have dv (j : Fin N) : (j.val / B * B' + j.val % B) / B' = j.val / B := by
    rw [Nat.mul_comm, Nat.mul_add_div hb', Nat.div_eq_of_lt (ml j), Nat.add_zero]
  have md (j : Fin N) : (j.val / B * B' + j.val % B) % B' = j.val % B := by
    rw [Nat.mul_comm, Nat.mul_add_mod, Nat.mod_eq_of_lt (ml j)]
  refine (Fintype.sum_of_injective (fun j : Fin N => (⟨j.val / B * B' + j.val % B, blk_lt hN' (lt j) (ml j)⟩ : Fin N')) (fun j j' e => ?_) _ _ (fun q hq => ?_) fun j => ?_).symm
  · have e' : j.val / B * B' + j.val % B = j'.val / B * B' + j'.val % B := congrArg Fin.val e
    have e1 := congrArg (· / B') e'
    have e2 := congrArg (· % B') e'
    simp only [dv, md] at e1 e2
    exact Fin.ext (by rw [← Nat.div_add_mod' j.val B, ← Nat.div_add_mod' j'.val B, e1, e2])
  · unfold spread
    by_cases hr : q.val % B' < B
    · refine absurd ⟨⟨q.val / B' * B + q.val % B', blk_lt hN (Nat.div_lt_of_lt_mul (Nat.mul_comm A B' ▸ hN' ▸ q.isLt)) hr⟩, Fin.ext ?_⟩ hq
      show (q.val / B' * B + q.val % B') / B * B' + (q.val / B' * B + q.val % B') % B = q.val
      rw [Nat.mul_comm (q.val / B') B, Nat.mul_add_div hB, Nat.div_eq_of_lt hr, Nat.add_zero, Nat.mul_add_mod, Nat.mod_eq_of_lt hr, Nat.div_add_mod']
    · rw [if_neg hr, zero_mul]
  · show _ = spread B B' f (j.val / B * B' + j.val % B) * spread B B' g (j.val / B * B' + j.val % B)
    unfold spread
    rw [dv, md, if_pos (Nat.mod_lt _ hB), if_pos (Nat.mod_lt _ hB), Nat.div_add_mod']

/-! ## The keys and values of the latent projection -/

/-- Of each head's 128 columns the first 64, then of each head the last 64, every 64 in a block of 128. -/
def parted (W : ℕ → ℕ → EReal) : ℕ → ℕ → EReal :=
  Layout.side [(1024, wide 0 64 128 (narrow 0 64 128 W)), (1024, wide 0 64 128 (narrow 64 64 128 W))]

/-- The heads' 128 columns taken back. -/
def rejoined (U : ℕ → ℕ → EReal) : ℕ → ℕ → EReal :=
  both 64 (narrow 0 64 128 (shift 0 U)) (narrow 0 64 128 (shift 1024 U))

/-- Where a column stands among the 2048. -/
def spot (j : ℕ) : ℕ := j % 128 / 64 * 1024 + (j / 128 * 128 + j % 64)

theorem spot_lt (j : ℕ) (hj : j < 1024) : spot j < 2048 := by unfold spot; omega

theorem rejoined_eq (U : ℕ → ℕ → EReal) (r j : ℕ) (hj : j < 1024) : rejoined U r j = U r (spot j) := by
  unfold rejoined both
  split
  · exact congrArg (U r) (by unfold spot; omega)
  · exact congrArg (U r) (by unfold spot; omega)

theorem parted_spot (W : ℕ → ℕ → EReal) (r j : ℕ) (hj : j < 1024) : parted W r (spot j) = W r j := by
  unfold parted
  rcases (by omega : j % 128 < 64 ∨ 64 ≤ j % 128) with h | h
  · rw [side_lt (by unfold spot; omega)]
    unfold wide
    rw [if_pos (by unfold spot; omega)]
    exact congrArg (W r) (by unfold spot; omega)
  · rw [side_ge (by unfold spot; omega)]
    show wide 0 64 128 _ _ _ = _
    unfold wide
    rw [if_pos (by unfold spot; omega)]
    exact congrArg (W r) (by unfold spot; omega)

theorem parted_off (W : ℕ → ℕ → EReal) (r q : ℕ) (hq : q < 2048) (h : ∀ j < 1024, spot j ≠ q) : parted W r q = 0 := by
  have hz : ¬ q % 128 < 64 := fun hm => h (q % 1024 / 128 * 128 + q / 1024 * 64 + q % 128) (by omega) (by unfold spot; omega)
  unfold parted
  rcases (by omega : q < 1024 ∨ 1024 ≤ q) with h | h
  · rw [side_lt h]
    unfold wide
    rw [if_neg (by omega)]
  · rw [side_ge h]
    show wide 0 64 128 _ _ _ = _
    unfold wide
    rw [if_neg (by omega)]

/-- A product over the 2048 columns of two matrices laid out so is the one over the 1024. -/
theorem sum_parted (W W' : ℕ → ℕ → EReal) (r r' : ℕ) :
    ∑ q : Fin 2048, parted W r q.val * parted W' r' q.val = ∑ j : Fin 1024, W r j.val * W' r' j.val := by
  refine (Fintype.sum_of_injective (fun j : Fin 1024 => (⟨spot j.val, spot_lt _ j.isLt⟩ : Fin 2048)) (fun j j' h => ?_) _ _ (fun q hq => ?_) fun j => ?_).symm
  · have h' : spot j.val = spot j'.val := congrArg Fin.val h
    have := j.isLt
    have := j'.isLt
    exact Fin.ext (by unfold spot at h'; omega)
  · rw [parted_off W r q.val q.isLt (fun j hj e => hq ⟨⟨j, hj⟩, Fin.ext e⟩), zero_mul]
  · rw [parted_spot W r j.val j.isLt, parted_spot W' r' j.val j.isLt]

end Cert.Layout

end
-- ==== Proof.DWbranch0.lean ====
/- The gradient of a padded branch's weight: its steps' sums make one product with the padded rows, whose rows of the heads are the reference's. -/
module

public import proofs.«01_k».proof.Defs
public import proofs.«01_k».proof.Proof.Heads
public import proofs.«01_k».proof.Proof.Gen.DWbranch0Ideal.Frame
public import proofs.«01_k».proof.Proof.Gen.DWbranch0RefIdeal.Run
public import proofs.«01_k».proof.Proof.Gen.DWbranch0RefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWbranch0Ideal.Prod

open Cert.DWbranch0Ideal Cert.DWbranch0Ideal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S2048x1024 .bf16) (b : FVec Ideal S2048x1024 .bf16) (y : S1024x1024.Idx) :
    k0_pay2 (F := Ideal) acc a b y = acc y + ∑ r : Fin 2048, a (ix2 r (y 0)) * b (ix2 r (y 1)) := by
  rw [eq_ix2 y]
  pointwise [k0_pay2, dot_S2048x1024_S2048x1024_S1024x1024_0_0_1_1_n_n]

/-! ## The accumulation -/

abbrev blkA (t : Fin cfg0.N) : FVec Ideal S2048x1024 .bf16 := iblk m c 0 t
abbrev blkB (t : Fin cfg0.N) : FVec Ideal S2048x1024 .bf16 := iblk m c 1 t

/-- At the last step of a run the accumulator holds the sum of the run's block products. -/
theorem acc_eq (t : Fin cfg0.N) (hr : t.val % 2 = 2 - 1) (y : S1024x1024.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S1024x1024.Idx) :
    (outsAt0 m c t.val t.isLt).1 y = (outsAt0 m c t.val t.isLt).2 y := by
  rw [outsAt0_B m c t (by omega) hr]
  frame_out

/-! ## The whole arrays -/

abbrev argA : FVec Ideal S4096x1024 .bf16 := V m c main_v2
abbrev argB : FVec Ideal S4096x1024 .bf16 := V m c main_arg2

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

set_option maxHeartbeats 1000000 in
/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  refine congrArg₂ (fun u v : EReal => u * v) ?_ ?_
  · show V m c main_v2 _ = V m c main_v2 _
    generalize V m c main_v2 = f
    congr 1
    blk_ext [idx0, idx2]
  · show V m c main_arg2 _ = V m c main_arg2 _
    generalize V m c main_arg2 = f
    congr 1
    blk_ext [idx1, idx2]

/-! ## The heads' layout -/
/-- The operations before the launch. -/
abbrev before : List (HloOp τ sig (Elt Ideal)) := [hostOps0, hostOps0_1, hostOps0_2].flatten

abbrev entA := ent (m ((c : Thread nD τ).loc main_arg0) : FVec Ideal S4096x512 .bf16)

theorem zero_bf16 (k : S_.Idx) : (sitofp .bf16 (constantI S_ 32 0#32) : FVec Ideal S_ .bf16) k = 0 := by
  show ((((0#32 : BitVec 32).toInt : ℤ) : ℝ) : EReal) = 0
  simp

/-- The padded array at an entry. -/
theorem argA_cols : Cols (argA m c) (wide 0 64 128 (entA m c)) := by
  apply Cols.of_eq
  · unfold_abbrev_sides
    after_reads_simp
    exact rfl
  · exact (ent_cols _).pad (A := 8) (B := 64) (B' := 128) (l := 0) (hi := 64) rfl rfl (by decide) (sitofp .bf16 (constantI S_ 32 0#32) : FVec Ideal S_ .bf16) h_S_ zero_bf16 _ (by decide) _

/-- The buffers when the launch is done. -/
abbrev V1 := Pipeline.withArrays (cfgs 0).spec c (V0 m c) fun w => (dats m 0 c).arrAt w (cfgs 0).N

abbrev whole : FVec Ideal S1024x1024 .f32 := (dats m 0 c).arrAt 2 cfg0.N

theorem V1_whole : (V1 m c (Proc.devRef .tc main_v3) : FVec Ideal S1024x1024 .f32) = whole m c :=
  Pipeline.withArrays_arr (cfgs 0).spec (by decide) c (V0 m c) (fun w => (dats m 0 c).arrAt w (cfgs 0).N) 2

theorem whole_cols : Cols (V1 m c (Proc.devRef .tc main_v3) : FVec Ideal S1024x1024 .f32) (ent (whole m c)) :=
  Cols.of_eq (V1_whole m c) (ent_cols _)

abbrev result : FVec Ideal S512x1024 .f32 := Pipeline.afterTail₀ cfgs (dats m) 0 (V0 m) [hostOps1] c main_v6

/-- The result at an entry, from the array the launch leaves. -/
theorem result_cols : Cols (result m c) (low 0 64 128 (ent (whole m c))) := by
  have h := whole_cols m c
  show Cols (StableHlo.after ([hostOps1] : List (List (HloOp τ sig (Elt Ideal)))).flatten (V1 m c) (Proc.devRef .tc main_v6) : FVec Ideal S512x1024 .f32) _
  generalize V1 m c = U at h ⊢
  apply Cols.of_eq
  · after_reads_simp
    exact rfl
  · exact h.unpadRows (A := 8) (B := 64) (B' := 128) (o := 0) rfl rfl (by decide) (by decide) _ _ _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).2 main_v6 (by decide), h.1 c⟩) (θ_run_and (unchanged m ρ) (run_main m ρ))

/-- The reference's result, at the kernel's arguments, is what the kernel leaves. -/
theorem ref2_eq : Cert.DWbranch0RefIdeal.Read.val_main_v4 (F := Ideal) (m ((c : Thread nD τ).loc main_arg0)) (m ((c : Thread nD τ).loc main_arg2)) = result m c := by
  funext i
  have hj : (i 0).val < 512 := (i 0).isLt
  have hw := congrFun (final2 m c) (ix2 ⟨head 64 128 (i 0).val, (by unfold head; omega)⟩ (i 1))
  refine Eq.trans ?_ (((result_cols m c i).trans rfl).trans ((ent_eq (whole m c) ⟨head 64 128 (i 0).val, (by unfold head; omega)⟩ (i 1)).trans hw)).symm
  rw [Cert.DWbranch0RefIdeal.Read.val_main_v4_apply, Cert.DWbranch0RefIdeal.Read.val_main_v3_apply]
  refine Finset.sum_congr rfl fun l _ => ?_
  rw [mul_comm]
  refine congrArg₂ (fun u v : EReal => u * v) ?_ ?_
  · refine Eq.trans ?_ (((argA_cols m c (ix2 l ⟨head 64 128 (i 0).val, (by unfold head; omega)⟩)).trans (wide_head (by decide) (by decide) _ _ _)).trans (ent_eq _ l (i 0))).symm
    exact congrArg (m ((c : Thread nD τ).loc main_arg0)) ((eq_ix2 _).trans rfl)
  · exact congrArg (m ((c : Thread nD τ).loc main_arg2)) ((eq_ix2 _).trans rfl)

theorem value : Cert.algebraic_DWbranch0Ideal_DWbranch0RefIdeal (hDWbranch0Ideal := Cert.DWbranch0Ideal.Gen.facts) (hDWbranch0RefIdeal := Cert.DWbranch0RefIdeal.Gen.facts) := by
  intro m g m' g' _ hargs
  refine ⟨fun c => result m c, run_holds m g, ?_⟩
  refine (θ_run _ _ _).mono (fun r h c => ?_) (Cert.DWbranch0RefIdeal.Value.run m' g')
  obtain ⟨a0, a1, a2⟩ := hargs c
  obtain ⟨r0, rest⟩ := h c
  refine ⟨r0.trans ?_, rest⟩
  rw [Cert.DWbranch0RefIdeal.Read.val_main_v4_eq, a0, a2]
  exact ref2_eq m c

theorem reference_frame : Cert.quiescent_DWbranch0RefIdeal (hDWbranch0RefIdeal := Cert.DWbranch0RefIdeal.Gen.facts) := by
  intro m g _
  exact (θ_run _ _ _).mono (fun r h => ⟨fun c => (h c).2, sem_eq_zero_of_no_sems (by decide) r.2⟩) (Cert.DWbranch0RefIdeal.Value.run m g)

end Cert.DWbranch0Ideal.Prod

end
-- ==== Proof.DYa.lean ====
/- The gradient of the first branch's rows: block by block the product with the padded weight, whose columns of the heads are the reference's. -/
module

public import proofs.«01_k».proof.Defs
public import proofs.«01_k».proof.Proof.Heads
public import proofs.«01_k».proof.Proof.Gen.DYaIdeal.Frame
public import proofs.«01_k».proof.Proof.Gen.DYaRefIdeal.Run
public import proofs.«01_k».proof.Proof.Gen.DYaRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DYaIdeal.Prod

open Cert.DYaIdeal Cert.DYaIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x1024 .bf16) (b : FVec Ideal S1024x1024 .f32) (y : S1024x1024.Idx) :
    k0_pay2 (F := Ideal) acc a b y = acc y + ∑ r : Fin 1024, a (ix2 (y 0) r) * b (ix2 (y 1) r) := by
  rw [eq_ix2 y]
  pointwise [k0_pay2, dot_S1024x1024_S1024x1024_S1024x1024_1_1_0_0_n_n]

theorem pay3_apply (acc : FVec Ideal S1024x1024 .f32)  (y : S1024x1024.Idx) :
    k0_pay3 (F := Ideal) acc y = acc y := by
  rw [eq_ix2 y]
  pointwise [k0_pay3]

/-! ## The accumulation -/

abbrev blkA (t : Fin cfg0.N) : FVec Ideal S1024x1024 .bf16 := iblk m c 0 t
abbrev blkB (t : Fin cfg0.N) : FVec Ideal S1024x1024 .f32 := iblk m c 1 t

theorem out2_eq (t : Fin cfg0.N) (y : S1024x1024.Idx) :
    (outsAt0 m c t) y = (∑ r : Fin 1024, blkA m c t (ix2 (y 0) r) * blkB m c t (ix2 (y 1) r)) := by
  unfold outsAt0
  frame_out
  rw [pay3_apply, pay2_apply, pay1_apply, zero_add]

/-! ## The whole arrays -/

abbrev argA : FVec Ideal S4096x1024 .bf16 := V m c main_arg2
abbrev argB : FVec Ideal S1024x1024 .f32 := V m c main_v2

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

set_option maxHeartbeats 1000000 in
/-- What the launch leaves in the result. -/
theorem final2 : (dats m 0 c).arrAt 2 cfg0.N = fun i => (∑ l : Fin 1024, argA m c (ix2 (i 0) l) * argB m c (ix2 (i 1) l)) := by
  refine (dats m 0 c).arrAt_eq_of_covers 2 _ (by decide +kernel) fun t hf y => ?_
  blk_simp
  rw [after0_2, out2_eq m c t]
  show (_ : EReal) = _
  refine Finset.sum_congr rfl fun r _ => ?_
  refine congrArg₂ (fun u v : EReal => u * v) ?_ ?_
  · show V m c main_arg2 _ = V m c main_arg2 _
    generalize V m c main_arg2 = f
    congr 1
    blk_ext [idx0, idx2]
  · show V m c main_v2 _ = V m c main_v2 _
    generalize V m c main_v2 = f
    congr 1
    blk_ext [idx1, idx2]

/-! ## The heads' layout -/
/-- The operations before the launch. -/
abbrev before : List (HloOp τ sig (Elt Ideal)) := [hostOps0, hostOps0_1, hostOps0_2].flatten

abbrev entB := ent (m ((c : Thread nD τ).loc main_arg1) : FVec Ideal S512x1024 .f32)

theorem zero_f32 (k : S_.Idx) : (sitofp .f32 (constantI S_ 32 0#32) : FVec Ideal S_ .f32) k = 0 := by
  show ((((0#32 : BitVec 32).toInt : ℤ) : ℝ) : EReal) = 0
  simp

/-- The padded array at an entry. -/
theorem argB_cols : Cols (argB m c) (tall 0 64 128 (entB m c)) := by
  apply Cols.of_eq
  · unfold_abbrev_sides
    after_reads_simp
    exact rfl
  · exact (ent_cols _).padRows (A := 8) (B := 64) (B' := 128) (l := 0) (hi := 64) rfl rfl (by decide) (sitofp .f32 (constantI S_ 32 0#32) : FVec Ideal S_ .f32) h_S_ zero_f32 _ (by decide) _

/-- The buffers when the launch is done. -/
abbrev V1 := Pipeline.withArrays (cfgs 0).spec c (V0 m c) fun w => (dats m 0 c).arrAt w (cfgs 0).N

abbrev whole : FVec Ideal S4096x1024 .bf16 := (dats m 0 c).arrAt 2 cfg0.N

theorem V1_whole : (V1 m c (Proc.devRef .tc main_v3) : FVec Ideal S4096x1024 .bf16) = whole m c :=
  Pipeline.withArrays_arr (cfgs 0).spec (by decide) c (V0 m c) (fun w => (dats m 0 c).arrAt w (cfgs 0).N) 2

theorem whole_cols : Cols (V1 m c (Proc.devRef .tc main_v3) : FVec Ideal S4096x1024 .bf16) (ent (whole m c)) :=
  Cols.of_eq (V1_whole m c) (ent_cols _)

abbrev result : FVec Ideal S4096x512 .bf16 := Pipeline.afterTail₀ cfgs (dats m) 0 (V0 m) [hostOps1] c main_v6

/-- The result at an entry, from the array the launch leaves. -/
theorem result_cols : Cols (result m c) (narrow 0 64 128 (ent (whole m c))) := by
  have h := whole_cols m c
  show Cols (StableHlo.after ([hostOps1] : List (List (HloOp τ sig (Elt Ideal)))).flatten (V1 m c) (Proc.devRef .tc main_v6) : FVec Ideal S4096x512 .bf16) _
  generalize V1 m c = U at h ⊢
  apply Cols.of_eq
  · after_reads_simp
    exact rfl
  · exact h.unpad (A := 8) (B := 64) (B' := 128) (o := 0) rfl rfl (by decide) (by decide) _ _ _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).2 main_v6 (by decide), h.1 c⟩) (θ_run_and (unchanged m ρ) (run_main m ρ))

/-- The reference's result, at the kernel's arguments, is what the kernel leaves. -/
theorem ref2_eq : Cert.DYaRefIdeal.Read.val_main_v4 (F := Ideal) (m ((c : Thread nD τ).loc main_arg1)) (m ((c : Thread nD τ).loc main_arg2)) = result m c := by
  funext i
  have hj : (i 1).val < 512 := (i 1).isLt
  have hw := congrFun (final2 m c) (ix2 (i 0) ⟨head 64 128 (i 1).val, (by unfold head; omega)⟩)
  refine Eq.trans ?_ (((result_cols m c i).trans rfl).trans ((ent_eq (whole m c) (i 0) ⟨head 64 128 (i 1).val, (by unfold head; omega)⟩).trans hw)).symm
  show Cert.DYaRefIdeal.Read.val_main_v3 (F := Ideal) (m ((c : Thread nD τ).loc main_arg1)) (m ((c : Thread nD τ).loc main_arg2)) i = _
  rw [Cert.DYaRefIdeal.Read.val_main_v3_apply]
  refine Finset.sum_congr rfl fun l _ => ?_
  refine congrArg₂ (fun u v : EReal => u * v) ?_ ?_
  · exact congrArg (m ((c : Thread nD τ).loc main_arg2)) ((eq_ix2 _).trans rfl)
  · refine Eq.trans ?_ (((argB_cols m c (ix2 ⟨head 64 128 (i 1).val, (by unfold head; omega)⟩ l)).trans (tall_head (by decide) (by decide) _ _ _)).trans (ent_eq _ (i 1) l)).symm
    exact congrArg (m ((c : Thread nD τ).loc main_arg1)) ((eq_ix2 _).trans rfl)

theorem value : Cert.algebraic_DYaIdeal_DYaRefIdeal (hDYaIdeal := Cert.DYaIdeal.Gen.facts) (hDYaRefIdeal := Cert.DYaRefIdeal.Gen.facts) := by
  intro m g m' g' _ hargs
  refine ⟨fun c => result m c, run_holds m g, ?_⟩
  refine (θ_run _ _ _).mono (fun r h c => ?_) (Cert.DYaRefIdeal.Value.run m' g')
  obtain ⟨a0, a1, a2⟩ := hargs c
  obtain ⟨r0, rest⟩ := h c
  refine ⟨r0.trans ?_, rest⟩
  rw [Cert.DYaRefIdeal.Read.val_main_v4_eq, a1, a2]
  exact ref2_eq m c

theorem reference_frame : Cert.quiescent_DYaRefIdeal (hDYaRefIdeal := Cert.DYaRefIdeal.Gen.facts) := by
  intro m g _
  exact (θ_run _ _ _).mono (fun r h => ⟨fun c => (h c).2, sem_eq_zero_of_no_sems (by decide) r.2⟩) (Cert.DYaRefIdeal.Value.run m g)

end Cert.DYaIdeal.Prod

end
-- ==== Proof.DYc.lean ====
/- The gradient of the third branch's rows: block by block the product with the padded weight, whose columns of the heads are the reference's. -/
module

public import proofs.«01_k».proof.Defs
public import proofs.«01_k».proof.Proof.Heads
public import proofs.«01_k».proof.Proof.Gen.DYcIdeal.Frame
public import proofs.«01_k».proof.Proof.Gen.DYcRefIdeal.Run
public import proofs.«01_k».proof.Proof.Gen.DYcRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DYcIdeal.Prod

open Cert.DYcIdeal Cert.DYcIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x1024 .bf16) (b : FVec Ideal S1024x1024 .f32) (y : S1024x1024.Idx) :
    k0_pay2 (F := Ideal) acc a b y = acc y + ∑ r : Fin 1024, a (ix2 (y 0) r) * b (ix2 (y 1) r) := by
  rw [eq_ix2 y]
  pointwise [k0_pay2, dot_S1024x1024_S1024x1024_S1024x1024_1_1_0_0_n_n]

/-! ## The accumulation -/

abbrev blkA (t : Fin cfg0.N) : FVec Ideal S1024x1024 .bf16 := iblk m c 0 t
abbrev blkB (t : Fin cfg0.N) : FVec Ideal S1024x1024 .f32 := iblk m c 1 t

theorem out2_eq (t : Fin cfg0.N) (y : S1024x1024.Idx) :
    (outsAt0 m c t) y = (∑ r : Fin 1024, blkA m c t (ix2 (y 0) r) * blkB m c t (ix2 (y 1) r)) := by
  unfold outsAt0
  frame_out
  rw [pay2_apply, pay1_apply, zero_add]

/-! ## The whole arrays -/

abbrev argA : FVec Ideal S4096x1024 .bf16 := V m c main_arg2
abbrev argB : FVec Ideal S1024x1024 .f32 := V m c main_v2

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

set_option maxHeartbeats 1000000 in
/-- What the launch leaves in the result. -/
theorem final2 : (dats m 0 c).arrAt 2 cfg0.N = fun i => (∑ l : Fin 1024, argA m c (ix2 (i 0) l) * argB m c (ix2 (i 1) l)) := by
  refine (dats m 0 c).arrAt_eq_of_covers 2 _ (by decide +kernel) fun t hf y => ?_
  blk_simp
  rw [after0_2, out2_eq m c t]
  show (_ : EReal) = _
  refine Finset.sum_congr rfl fun r _ => ?_
  refine congrArg₂ (fun u v : EReal => u * v) ?_ ?_
  · show V m c main_arg2 _ = V m c main_arg2 _
    generalize V m c main_arg2 = f
    congr 1
    blk_ext [idx0, idx2]
  · show V m c main_v2 _ = V m c main_v2 _
    generalize V m c main_v2 = f
    congr 1
    blk_ext [idx1, idx2]

/-! ## The heads' layout -/
/-- The operations before the launch. -/
abbrev before : List (HloOp τ sig (Elt Ideal)) := [hostOps0, hostOps0_1, hostOps0_2].flatten

abbrev entB := ent (m ((c : Thread nD τ).loc main_arg1) : FVec Ideal S512x1024 .f32)

theorem zero_f32 (k : S_.Idx) : (sitofp .f32 (constantI S_ 32 0#32) : FVec Ideal S_ .f32) k = 0 := by
  show ((((0#32 : BitVec 32).toInt : ℤ) : ℝ) : EReal) = 0
  simp

/-- The padded array at an entry. -/
theorem argB_cols : Cols (argB m c) (tall 0 64 128 (entB m c)) := by
  apply Cols.of_eq
  · unfold_abbrev_sides
    after_reads_simp
    exact rfl
  · exact (ent_cols _).padRows (A := 8) (B := 64) (B' := 128) (l := 0) (hi := 64) rfl rfl (by decide) (sitofp .f32 (constantI S_ 32 0#32) : FVec Ideal S_ .f32) h_S_ zero_f32 _ (by decide) _

/-- The buffers when the launch is done. -/
abbrev V1 := Pipeline.withArrays (cfgs 0).spec c (V0 m c) fun w => (dats m 0 c).arrAt w (cfgs 0).N

abbrev whole : FVec Ideal S4096x1024 .f32 := (dats m 0 c).arrAt 2 cfg0.N

theorem V1_whole : (V1 m c (Proc.devRef .tc main_v3) : FVec Ideal S4096x1024 .f32) = whole m c :=
  Pipeline.withArrays_arr (cfgs 0).spec (by decide) c (V0 m c) (fun w => (dats m 0 c).arrAt w (cfgs 0).N) 2

theorem whole_cols : Cols (V1 m c (Proc.devRef .tc main_v3) : FVec Ideal S4096x1024 .f32) (ent (whole m c)) :=
  Cols.of_eq (V1_whole m c) (ent_cols _)

abbrev result : FVec Ideal S4096x512 .f32 := Pipeline.afterTail₀ cfgs (dats m) 0 (V0 m) [hostOps1] c main_v6

/-- The result at an entry, from the array the launch leaves. -/
theorem result_cols : Cols (result m c) (narrow 0 64 128 (ent (whole m c))) := by
  have h := whole_cols m c
  show Cols (StableHlo.after ([hostOps1] : List (List (HloOp τ sig (Elt Ideal)))).flatten (V1 m c) (Proc.devRef .tc main_v6) : FVec Ideal S4096x512 .f32) _
  generalize V1 m c = U at h ⊢
  apply Cols.of_eq
  · after_reads_simp
    exact rfl
  · exact h.unpad (A := 8) (B := 64) (B' := 128) (o := 0) rfl rfl (by decide) (by decide) _ _ _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).2 main_v6 (by decide), h.1 c⟩) (θ_run_and (unchanged m ρ) (run_main m ρ))

/-- The reference's result, at the kernel's arguments, is what the kernel leaves. -/
theorem ref2_eq : Cert.DYcRefIdeal.Read.val_main_v2 (F := Ideal) (m ((c : Thread nD τ).loc main_arg1)) (m ((c : Thread nD τ).loc main_arg2)) = result m c := by
  funext i
  have hj : (i 1).val < 512 := (i 1).isLt
  have hw := congrFun (final2 m c) (ix2 (i 0) ⟨head 64 128 (i 1).val, (by unfold head; omega)⟩)
  refine Eq.trans ?_ (((result_cols m c i).trans rfl).trans ((ent_eq (whole m c) (i 0) ⟨head 64 128 (i 1).val, (by unfold head; omega)⟩).trans hw)).symm
  rw [Cert.DYcRefIdeal.Read.val_main_v2_apply]
  refine Finset.sum_congr rfl fun l _ => ?_
  refine congrArg₂ (fun u v : EReal => u * v) ?_ ?_
  · exact congrArg (m ((c : Thread nD τ).loc main_arg2)) ((eq_ix2 _).trans rfl)
  · refine Eq.trans ?_ (((argB_cols m c (ix2 ⟨head 64 128 (i 1).val, (by unfold head; omega)⟩ l)).trans (tall_head (by decide) (by decide) _ _ _)).trans (ent_eq _ (i 1) l)).symm
    exact congrArg (m ((c : Thread nD τ).loc main_arg1)) ((eq_ix2 _).trans rfl)

theorem value : Cert.algebraic_DYcIdeal_DYcRefIdeal (hDYcIdeal := Cert.DYcIdeal.Gen.facts) (hDYcRefIdeal := Cert.DYcRefIdeal.Gen.facts) := by
  intro m g m' g' _ hargs
  refine ⟨fun c => result m c, run_holds m g, ?_⟩
  refine (θ_run _ _ _).mono (fun r h c => ?_) (Cert.DYcRefIdeal.Value.run m' g')
  obtain ⟨a0, a1, a2⟩ := hargs c
  obtain ⟨r0, rest⟩ := h c
  refine ⟨r0.trans ?_, rest⟩
  rw [Cert.DYcRefIdeal.Read.val_main_v2_eq, a1, a2]
  exact ref2_eq m c

theorem reference_frame : Cert.quiescent_DYcRefIdeal (hDYcRefIdeal := Cert.DYcRefIdeal.Gen.facts) := by
  intro m g _
  exact (θ_run _ _ _).mono (fun r h => ⟨fun c => (h c).2, sem_eq_zero_of_no_sems (by decide) r.2⟩) (Cert.DYcRefIdeal.Value.run m g)

end Cert.DYcIdeal.Prod

end
-- ==== Proof.DYb.lean ====
/- The gradient of a branch's output: block by block the reference's product. -/
module

public import proofs.«01_k».proof.Defs
public import proofs.«01_k».proof.Proof.Gen.DYbIdeal.Frame
public import proofs.«01_k».proof.Proof.Gen.DYbRefIdeal.Run
public import proofs.«01_k».proof.Proof.Gen.DYbRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DYbIdeal.Prod

open Cert.DYbIdeal Cert.DYbIdeal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x512.Idx) : k0_pay1 (F := Ideal) y = 0 := by
  rw [eq_ix2 y]
  pointwise [k0_pay1]

theorem pay2_apply (acc : FVec Ideal S1024x512 .f32) (a : FVec Ideal S1024x1024 .bf16) (b : FVec Ideal S512x1024 .f32) (y : S1024x512.Idx) :
    k0_pay2 (F := Ideal) acc a b y = acc y + ∑ r : Fin 1024, a (ix2 (y 0) r) * b (ix2 (y 1) r) := by
  rw [eq_ix2 y]
  pointwise [k0_pay2, dot_S1024x1024_S512x1024_S1024x512_1_1_0_0_n_n]

/-! ## The accumulation -/

abbrev blkA (t : Fin cfg0.N) : FVec Ideal S1024x1024 .bf16 := iblk m c 0 t
abbrev blkB (t : Fin cfg0.N) : FVec Ideal S512x1024 .f32 := iblk m c 1 t

theorem out2_eq (t : Fin cfg0.N) (y : S1024x512.Idx) :
    (outsAt0 m c t) y = (∑ r : Fin 1024, blkA m c t (ix2 (y 0) r) * blkB m c t (ix2 (y 1) r)) := by
  unfold outsAt0
  frame_out
  rw [pay2_apply, pay1_apply, zero_add]

/-! ## The whole arrays -/

abbrev argA : FVec Ideal S4096x1024 .bf16 := V m c main_arg2
abbrev argB : FVec Ideal S512x1024 .f32 := V m c main_arg1

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- What the launch leaves in the result. -/
theorem final2 : (dats m 0 c).arrAt 2 cfg0.N = fun i => (∑ l : Fin 1024, argA m c (ix2 (i 0) l) * argB m c (ix2 (i 1) l)) := by
  refine (dats m 0 c).arrAt_eq_of_covers 2 _ (by decide +kernel) fun t hf y => ?_
  blk_simp
  rw [after0_2, out2_eq m c t]
  show (_ : EReal) = _
  refine Finset.sum_congr rfl fun r _ => ?_
  congr 1
  · show V m c main_arg2 _ = V m c main_arg2 _
    congr 1
    blk_ext [idx0, idx2]
  · show V m c main_arg1 _ = V m c main_arg1 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DYbRefIdeal.Read.val_main_v2 (F := Ideal) (m ((c : Thread nD τ).loc main_arg1)) (m ((c : Thread nD τ).loc main_arg2)) = (dats m 0 c).arrAt 2 cfg0.N := by
  rw [final2, show argA m c = m ((c : Thread nD τ).loc main_arg2) from V_main_arg2 m c, show argB m c = m ((c : Thread nD τ).loc main_arg1) from V_main_arg1 m c]
  funext i
  rw [Cert.DYbRefIdeal.Read.val_main_v2_apply]
  refine Finset.sum_congr rfl fun l _ => ?_
  refine congrArg₂ (fun u v : EReal => u * v) ?_ ?_
  · exact congrArg (m ((c : Thread nD τ).loc main_arg2)) ((eq_ix2 _).trans rfl)
  · exact congrArg (m ((c : Thread nD τ).loc main_arg1)) ((eq_ix2 _).trans rfl)

theorem value : Cert.algebraic_DYbIdeal_DYbRefIdeal (hDYbIdeal := Cert.DYbIdeal.Gen.facts) (hDYbRefIdeal := Cert.DYbRefIdeal.Gen.facts) := by
  intro m g m' g' _ hargs
  refine ⟨fun c => (dats m 0 c).arrAt 2 cfg0.N, run_holds m g, ?_⟩
  refine (θ_run _ _ _).mono (fun r h c => ?_) (Cert.DYbRefIdeal.Value.run m' g')
  obtain ⟨a0, a1, a2⟩ := hargs c
  obtain ⟨r0, rest⟩ := h c
  refine ⟨r0.trans ?_, rest⟩
  rw [Cert.DYbRefIdeal.Read.val_main_v2_eq, a1, a2]
  exact ref2_eq m c

theorem reference_frame : Cert.quiescent_DYbRefIdeal (hDYbRefIdeal := Cert.DYbRefIdeal.Gen.facts) := by
  intro m g _
  exact (θ_run _ _ _).mono (fun r h => ⟨fun c => (h c).2, sem_eq_zero_of_no_sems (by decide) r.2⟩) (Cert.DYbRefIdeal.Value.run m g)

end Cert.DYbIdeal.Prod

end
-- ==== Proof.DWin.lean ====
/- The gradient of the input projection's weight: its steps' sums make one product with the padded gradient, whose columns of the layout are the reference's. -/
module

public import proofs.«01_k».proof.Defs
public import proofs.«01_k».proof.Proof.Cols
public import proofs.«01_k».proof.Proof.Gen.DWinIdeal.Frame
public import proofs.«01_k».proof.Proof.Gen.DWinRefIdeal.Run
public import proofs.«01_k».proof.Proof.Gen.DWinRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWinIdeal.Prod

open Cert.DWinIdeal Cert.DWinIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S1024x512.Idx) : k0_pay1 (F := Ideal) y = 0 := by
  rw [eq_ix2 y]
  pointwise [k0_pay1]

theorem pay2_apply (acc : FVec Ideal S1024x512 .f32) (a : FVec Ideal S2048x1024 .bf16) (b : FVec Ideal S2048x512 .bf16) (y : S1024x512.Idx) :
    k0_pay2 (F := Ideal) acc a b y = acc y + ∑ r : Fin 2048, a (ix2 r (y 0)) * b (ix2 r (y 1)) := by
  rw [eq_ix2 y]
  pointwise [k0_pay2, dot_S2048x1024_S2048x512_S1024x512_0_0_1_1_n_n]

/-! ## The accumulation -/

abbrev blkA (t : Fin cfg0.N) : FVec Ideal S2048x1024 .bf16 := iblk m c 0 t
abbrev blkB (t : Fin cfg0.N) : FVec Ideal S2048x512 .bf16 := iblk m c 1 t

/-- At the last step of a run the accumulator holds the sum of the run's block products. -/
theorem acc_eq (t : Fin cfg0.N) (hr : t.val % 2 = 2 - 1) (y : S1024x512.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S1024x512.Idx) :
    (outsAt0 m c t.val t.isLt).1 y = (outsAt0 m c t.val t.isLt).2 y := by
  rw [outsAt0_B m c t (by omega) hr]
  frame_out

/-! ## The whole arrays -/

abbrev argA : FVec Ideal S4096x1024 .bf16 := V m c main_arg0
abbrev argB : FVec Ideal S4096x9728 .bf16 := V m c main_v35

theorem idx0 : ∀ t : Fin cfg0.N, win0_0.index t = ![t.val % 2, 0] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![0, t.val / 2] := (by decide +kernel : ∀ t : Fin grid0.N, _)

set_option maxHeartbeats 1000000 in
/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  refine congrArg₂ (fun u v : EReal => u * v) ?_ ?_
  · show V m c main_arg0 _ = V m c main_arg0 _
    generalize V m c main_arg0 = f
    congr 1
    blk_ext [idx0, idx2]
  · show V m c main_v35 _ = V m c main_v35 _
    generalize V m c main_v35 = f
    congr 1
    blk_ext [idx1, idx2]

/-! ## The columns' layout -/
/-- The operations before the launch. -/
abbrev before : List (HloOp τ sig (Elt Ideal)) := [hostOps0, hostOps0_1, hostOps0_2, hostOps0_3, hostOps0_4, hostOps0_5, hostOps0_6, hostOps0_7, hostOps0_8, hostOps0_9, hostOps0_10, hostOps0_11, hostOps0_12].flatten

abbrev entB := ent (m ((c : Thread nD τ).loc main_arg2) : FVec Ideal S4096x7592 .bf16)

theorem zero_bf16 (k : S_.Idx) : (sitofp .bf16 (constantI S_ 32 0#32) : FVec Ideal S_ .bf16) k = 0 := by
  show ((((0#32 : BitVec 32).toInt : ℤ) : ℝ) : EReal) = 0
  simp

theorem gates : Cols (StableHlo.upto before (fun b => m (c, b)) 50 (Proc.devRef .tc main_v31) : FVec Ideal S4096x4096 .bf16)
    (shift 3496 (entB m c)) := by
  apply Cols.of_eq
  · after_reads_simp
    exact rfl
  · exact (ent_cols _).slice _

theorem pool : Cols (StableHlo.upto before (fun b => m (c, b)) 50 (Proc.devRef .tc main_v20) : FVec Ideal S4096x512 .bf16)
    (shift 672 (entB m c)) := by
  apply Cols.of_eq
  · after_reads_simp
    exact rfl
  · exact (ent_cols _).slice _

theorem lruG : Cols (StableHlo.upto before (fun b => m (c, b)) 50 (Proc.devRef .tc main_v29) : FVec Ideal S4096x512 .bf16)
    (shift 2472 (entB m c)) := by
  apply Cols.of_eq
  · after_reads_simp
    exact rfl
  · exact (ent_cols _).slice _

theorem lruX : Cols (StableHlo.upto before (fun b => m (c, b)) 50 (Proc.devRef .tc main_v30) : FVec Ideal S4096x512 .bf16)
    (shift 2984 (entB m c)) := by
  apply Cols.of_eq
  · after_reads_simp
    exact rfl
  · exact (ent_cols _).slice _

theorem cq : Cols (StableHlo.upto before (fun b => m (c, b)) 50 (Proc.devRef .tc main_v14) : FVec Ideal S4096x384 .bf16)
    (shift 0 (entB m c)) := by
  apply Cols.of_eq
  · after_reads_simp
    exact rfl
  · exact (ent_cols _).slice _

theorem ckv : Cols (StableHlo.upto before (fun b => m (c, b)) 50 (Proc.devRef .tc main_v15) : FVec Ideal S4096x256 .bf16)
    (shift 384 (entB m c)) := by
  apply Cols.of_eq
  · after_reads_simp
    exact rfl
  · exact (ent_cols _).slice _

theorem zgrp : Cols (StableHlo.upto before (fun b => m (c, b)) 50 (Proc.devRef .tc main_v24) : FVec Ideal S4096x1024 .bf16)
    (wide 0 64 128 (shift 1184 (entB m c))) := by
  apply Cols.of_eq
  · after_reads_simp
    exact rfl
  · exact ((ent_cols _).slice _).pad (A := 8) (B := 64) (B' := 128) (hi := 64) rfl rfl (by decide) (sitofp .bf16 (constantI S_ 32 0#32) : FVec Ideal S_ .bf16) h_S_ zero_bf16 _ (by decide) _

theorem kr : Cols (StableHlo.upto before (fun b => m (c, b)) 50 (Proc.devRef .tc main_v19) : FVec Ideal S4096x128 .bf16)
    (wide 64 32 128 (shift 640 (entB m c))) := by
  apply Cols.of_eq
  · after_reads_simp
    exact rfl
  · exact ((ent_cols _).slice _).pad (A := 1) (B := 32) (B' := 128) (hi := 32) rfl rfl (by decide) (sitofp .bf16 (constantI S_ 32 0#32) : FVec Ideal S_ .bf16) h_S_ zero_bf16 _ (by decide) _

theorem dt : Cols (StableHlo.upto before (fun b => m (c, b)) 50 (Proc.devRef .tc main_v28) : FVec Ideal S4096x128 .bf16)
    (wide 0 8 128 (shift 2464 (entB m c))) := by
  apply Cols.of_eq
  · after_reads_simp
    exact rfl
  · exact ((ent_cols _).slice _).pad (A := 1) (B := 8) (B' := 128) (hi := 120) rfl rfl (by decide) (sitofp .bf16 (constantI S_ 32 0#32) : FVec Ideal S_ .bf16) h_S_ zero_bf16 _ (by decide) _

theorem zeroA : Cols (StableHlo.upto before (fun b => m (c, b)) 50 (Proc.devRef .tc main_v32) : FVec Ideal S4096x256 .bf16)
    (fun _ _ => 0) := by
  apply Cols.of_eq
  · after_reads_simp
    exact rfl
  · exact Cols.const fun _ => Ideal.ofBits_zero_bf16

theorem zeroB : Cols (StableHlo.upto before (fun b => m (c, b)) 50 (Proc.devRef .tc main_v33) : FVec Ideal S4096x128 .bf16)
    (fun _ _ => 0) := by
  apply Cols.of_eq
  · after_reads_simp
    exact rfl
  · exact Cols.const fun _ => Ideal.ofBits_zero_bf16

theorem zeroC : Cols (StableHlo.upto before (fun b => m (c, b)) 50 (Proc.devRef .tc main_v34) : FVec Ideal S4096x256 .bf16)
    (fun _ _ => 0) := by
  apply Cols.of_eq
  · after_reads_simp
    exact rfl
  · exact Cols.const fun _ => Ideal.ofBits_zero_bf16

theorem x0 : Cols (StableHlo.upto before (fun b => m (c, b)) 19 (Proc.devRef .tc main_v4) : FVec Ideal S4096x1024 .bf16)
    (wide 0 64 128 (shift 0 (shift 1696 (entB m c)))) := by
  apply Cols.of_eq
  · after_reads_simp
    exact rfl
  · exact (((ent_cols _).slice _).slice _).pad (A := 8) (B := 64) (B' := 128) (hi := 64) rfl rfl (by decide) (sitofp .bf16 (constantI S_ 32 0#32) : FVec Ideal S_ .bf16) h_S_ zero_bf16 _ (by decide) _

theorem x1 : Cols (StableHlo.upto before (fun b => m (c, b)) 19 (Proc.devRef .tc main_v8) : FVec Ideal S4096x256 .bf16)
    (wide 0 64 128 (shift 512 (shift 1696 (entB m c)))) := by
  apply Cols.of_eq
  · after_reads_simp
    exact rfl
  · exact (((ent_cols _).slice _).slice _).pad (A := 2) (B := 64) (B' := 128) (hi := 64) rfl rfl (by decide) (sitofp .bf16 (constantI S_ 32 0#32) : FVec Ideal S_ .bf16) h_S_ zero_bf16 _ (by decide) _

theorem x2 : Cols (StableHlo.upto before (fun b => m (c, b)) 19 (Proc.devRef .tc main_v12) : FVec Ideal S4096x256 .bf16)
    (wide 0 64 128 (shift 640 (shift 1696 (entB m c)))) := by
  apply Cols.of_eq
  · after_reads_simp
    exact rfl
  · exact (((ent_cols _).slice _).slice _).pad (A := 2) (B := 64) (B' := 128) (hi := 64) rfl rfl (by decide) (sitofp .bf16 (constantI S_ 32 0#32) : FVec Ideal S_ .bf16) h_S_ zero_bf16 _ (by decide) _

theorem xbc : Cols (StableHlo.upto before (fun b => m (c, b)) 50 (Proc.devRef .tc main_v13) : FVec Ideal S4096x1536 .bf16)
    (side [(1024, wide 0 64 128 (shift 0 (shift 1696 (entB m c)))), (256, wide 0 64 128 (shift 512 (shift 1696 (entB m c)))), (256, wide 0 64 128 (shift 640 (shift 1696 (entB m c))))]) := by
  apply Cols.of_eq
  · after_reads_simp
    exact rfl
  · exact Cols.side (.cons (x0 m c) (.cons (x1 m c) (.cons (x2 m c) .nil))) _

/-- The padded array at an entry. -/
theorem argB_cols : Cols (argB m c) (fused (entB m c)) := by
  apply Cols.of_eq
  · unfold_abbrev_sides
    after_reads_simp
    exact rfl
  · exact Cols.side (.cons (gates m c) (.cons (zgrp m c) (.cons (pool m c) (.cons (lruG m c) (.cons (lruX m c) (.cons (zeroA m c) (.cons (cq m c) (.cons (zeroB m c) (.cons (ckv m c) (.cons (xbc m c) (.cons (kr m c) (.cons (dt m c) (.cons (zeroC m c) .nil))))))))))))) _

/-- The buffers when the launch is done. -/
abbrev V1 := Pipeline.withArrays (cfgs 0).spec c (V0 m c) fun w => (dats m 0 c).arrAt w (cfgs 0).N

abbrev whole : FVec Ideal S1024x9728 .f32 := (dats m 0 c).arrAt 2 cfg0.N

theorem V1_whole : (V1 m c (Proc.devRef .tc main_v36) : FVec Ideal S1024x9728 .f32) = whole m c :=
  Pipeline.withArrays_arr (cfgs 0).spec (by decide) c (V0 m c) (fun w => (dats m 0 c).arrAt w (cfgs 0).N) 2

theorem whole_cols : Cols (V1 m c (Proc.devRef .tc main_v36) : FVec Ideal S1024x9728 .f32) (ent (whole m c)) :=
  Cols.of_eq (V1_whole m c) (ent_cols _)

theorem tcq : Cols (StableHlo.upto ([hostOps1] : List (List (HloOp τ sig (Elt Ideal)))).flatten (V1 m c) 32 (Proc.devRef .tc main_v42) : FVec Ideal S1024x384 .f32)
    (shift 6912 (ent (whole m c))) := by
  have h := whole_cols m c
  generalize V1 m c = U at h ⊢
  apply Cols.of_eq
  · after_reads_simp
    exact rfl
  · exact h.slice _

theorem tckv : Cols (StableHlo.upto ([hostOps1] : List (List (HloOp τ sig (Elt Ideal)))).flatten (V1 m c) 32 (Proc.devRef .tc main_v43) : FVec Ideal S1024x256 .f32)
    (shift 7424 (ent (whole m c))) := by
  have h := whole_cols m c
  generalize V1 m c = U at h ⊢
  apply Cols.of_eq
  · after_reads_simp
    exact rfl
  · exact h.slice _

theorem tpool : Cols (StableHlo.upto ([hostOps1] : List (List (HloOp τ sig (Elt Ideal)))).flatten (V1 m c) 32 (Proc.devRef .tc main_v39) : FVec Ideal S1024x512 .f32)
    (shift 5120 (ent (whole m c))) := by
  have h := whole_cols m c
  generalize V1 m c = U at h ⊢
  apply Cols.of_eq
  · after_reads_simp
    exact rfl
  · exact h.slice _

theorem tlruG : Cols (StableHlo.upto ([hostOps1] : List (List (HloOp τ sig (Elt Ideal)))).flatten (V1 m c) 32 (Proc.devRef .tc main_v40) : FVec Ideal S1024x512 .f32)
    (shift 5632 (ent (whole m c))) := by
  have h := whole_cols m c
  generalize V1 m c = U at h ⊢
  apply Cols.of_eq
  · after_reads_simp
    exact rfl
  · exact h.slice _

theorem tlruX : Cols (StableHlo.upto ([hostOps1] : List (List (HloOp τ sig (Elt Ideal)))).flatten (V1 m c) 32 (Proc.devRef .tc main_v41) : FVec Ideal S1024x512 .f32)
    (shift 6144 (ent (whole m c))) := by
  have h := whole_cols m c
  generalize V1 m c = U at h ⊢
  apply Cols.of_eq
  · after_reads_simp
    exact rfl
  · exact h.slice _

theorem tgates : Cols (StableHlo.upto ([hostOps1] : List (List (HloOp τ sig (Elt Ideal)))).flatten (V1 m c) 32 (Proc.devRef .tc main_v37) : FVec Ideal S1024x4096 .f32)
    (shift 0 (ent (whole m c))) := by
  have h := whole_cols m c
  generalize V1 m c = U at h ⊢
  apply Cols.of_eq
  · after_reads_simp
    exact rfl
  · exact h.slice _

theorem tkr : Cols (StableHlo.upto ([hostOps1] : List (List (HloOp τ sig (Elt Ideal)))).flatten (V1 m c) 32 (Proc.devRef .tc main_v62) : FVec Ideal S1024x32 .f32)
    (narrow 64 32 128 (shift 9216 (ent (whole m c)))) := by
  have h := whole_cols m c
  generalize V1 m c = U at h ⊢
  apply Cols.of_eq
  · after_reads_simp
    exact rfl
  · exact (h.slice _).unpad (A := 1) (B := 32) (B' := 128) (o := 64) rfl rfl (by decide) (by decide) _ _ _

theorem tz : Cols (StableHlo.upto ([hostOps1] : List (List (HloOp τ sig (Elt Ideal)))).flatten (V1 m c) 32 (Proc.devRef .tc main_v65) : FVec Ideal S1024x512 .f32)
    (narrow 0 64 128 (shift 4096 (ent (whole m c)))) := by
  have h := whole_cols m c
  generalize V1 m c = U at h ⊢
  apply Cols.of_eq
  · after_reads_simp
    exact rfl
  · exact (h.slice _).unpad (A := 8) (B := 64) (B' := 128) (o := 0) rfl rfl (by decide) (by decide) _ _ _

theorem tdt : Cols (StableHlo.upto ([hostOps1] : List (List (HloOp τ sig (Elt Ideal)))).flatten (V1 m c) 32 (Proc.devRef .tc main_v68) : FVec Ideal S1024x8 .f32)
    (narrow 0 8 128 (shift 9344 (ent (whole m c)))) := by
  have h := whole_cols m c
  generalize V1 m c = U at h ⊢
  apply Cols.of_eq
  · after_reads_simp
    exact rfl
  · exact (h.slice _).unpad (A := 1) (B := 8) (B' := 128) (o := 0) rfl rfl (by decide) (by decide) _ _ _

theorem tx0 : Cols (StableHlo.upto ([hostOps1] : List (List (HloOp τ sig (Elt Ideal)))).flatten (V1 m c) 22 (Proc.devRef .tc main_v50) : FVec Ideal S1024x512 .f32)
    (narrow 0 64 128 (shift 0 (shift 7680 (ent (whole m c))))) := by
  have h := whole_cols m c
  generalize V1 m c = U at h ⊢
  apply Cols.of_eq
  · after_reads_simp
    exact rfl
  · exact ((h.slice _).slice _).unpad (A := 8) (B := 64) (B' := 128) (o := 0) rfl rfl (by decide) (by decide) _ _ _

theorem tx1 : Cols (StableHlo.upto ([hostOps1] : List (List (HloOp τ sig (Elt Ideal)))).flatten (V1 m c) 22 (Proc.devRef .tc main_v54) : FVec Ideal S1024x128 .f32)
    (narrow 0 64 128 (shift 1024 (shift 7680 (ent (whole m c))))) := by
  have h := whole_cols m c
  generalize V1 m c = U at h ⊢
  apply Cols.of_eq
  · after_reads_simp
    exact rfl
  · exact ((h.slice _).slice _).unpad (A := 2) (B := 64) (B' := 128) (o := 0) rfl rfl (by decide) (by decide) _ _ _

theorem tx2 : Cols (StableHlo.upto ([hostOps1] : List (List (HloOp τ sig (Elt Ideal)))).flatten (V1 m c) 22 (Proc.devRef .tc main_v58) : FVec Ideal S1024x128 .f32)
    (narrow 0 64 128 (shift 1280 (shift 7680 (ent (whole m c))))) := by
  have h := whole_cols m c
  generalize V1 m c = U at h ⊢
  apply Cols.of_eq
  · after_reads_simp
    exact rfl
  · exact ((h.slice _).slice _).unpad (A := 2) (B := 64) (B' := 128) (o := 0) rfl rfl (by decide) (by decide) _ _ _

theorem txbc : Cols (StableHlo.upto ([hostOps1] : List (List (HloOp τ sig (Elt Ideal)))).flatten (V1 m c) 32 (Proc.devRef .tc main_v59) : FVec Ideal S1024x768 .f32)
    (side [(512, narrow 0 64 128 (shift 0 (shift 7680 (ent (whole m c))))), (128, narrow 0 64 128 (shift 1024 (shift 7680 (ent (whole m c))))), (128, narrow 0 64 128 (shift 1280 (shift 7680 (ent (whole m c)))))]) := by
  apply Cols.of_eq
  · after_reads_simp
    exact rfl
  · exact Cols.side (.cons (tx0 m c) (.cons (tx1 m c) (.cons (tx2 m c) .nil))) _

abbrev result : FVec Ideal S1024x7592 .f32 := Pipeline.afterTail₀ cfgs (dats m) 0 (V0 m) [hostOps1] c main_v69

/-- The result at an entry, from the array the launch leaves. -/
theorem result_cols : Cols (result m c) (taken (ent (whole m c))) := by
  apply Cols.of_eq
  · show StableHlo.after ([hostOps1] : List (List (HloOp τ sig (Elt Ideal)))).flatten (V1 m c) (Proc.devRef .tc main_v69) = _
    after_reads_simp
    exact rfl
  · exact Cols.side (.cons (tcq m c) (.cons (tckv m c) (.cons (tkr m c) (.cons (tpool m c) (.cons (tz m c) (.cons (txbc m c) (.cons (tdt m c) (.cons (tlruG m c) (.cons (tlruX m c) (.cons (tgates m c) .nil)))))))))) _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v69) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).2 main_v69 (by decide), h.1 c⟩) (θ_run_and (unchanged m ρ) (run_main m ρ))

/-- The reference's result, at the kernel's arguments, is what the kernel leaves. -/
theorem ref2_eq : Cert.DWinRefIdeal.Read.val_main_v4 (F := Ideal) (m ((c : Thread nD τ).loc main_arg0)) (m ((c : Thread nD τ).loc main_arg2)) = result m c := by
  funext i
  have hj : (i 1).val < 7592 := (i 1).isLt
  have hw := congrFun (final2 m c) (ix2 (i 0) ⟨place (i 1).val, place_lt _ hj⟩)
  refine Eq.trans ?_ (((result_cols m c i).trans (taken_eq _ _ _ hj)).trans ((ent_eq (whole m c) (i 0) ⟨place (i 1).val, place_lt _ hj⟩).trans hw)).symm
  rw [Cert.DWinRefIdeal.Read.val_main_v4_apply, Cert.DWinRefIdeal.Read.val_main_v3_apply]
  refine Finset.sum_congr rfl fun l _ => ?_
  rw [mul_comm]
  refine congrArg₂ (fun u v : EReal => u * v) ?_ ?_
  · exact congrArg (m ((c : Thread nD τ).loc main_arg0)) ((eq_ix2 _).trans rfl)
  · refine Eq.trans ?_ (((argB_cols m c (ix2 l ⟨place (i 1).val, place_lt _ hj⟩)).trans (fused_place _ _ _ hj)).trans (ent_eq _ l ⟨(i 1).val, hj⟩)).symm
    exact congrArg (m ((c : Thread nD τ).loc main_arg2)) ((eq_ix2 _).trans rfl)

theorem value : Cert.algebraic_DWinIdeal_DWinRefIdeal (hDWinIdeal := Cert.DWinIdeal.Gen.facts) (hDWinRefIdeal := Cert.DWinRefIdeal.Gen.facts) := by
  intro m g m' g' _ hargs
  refine ⟨fun c => result m c, run_holds m g, ?_⟩
  refine (θ_run _ _ _).mono (fun r h c => ?_) (Cert.DWinRefIdeal.Value.run m' g')
  obtain ⟨a0, a1, a2⟩ := hargs c
  obtain ⟨r0, rest⟩ := h c
  refine ⟨r0.trans ?_, rest⟩
  rw [Cert.DWinRefIdeal.Read.val_main_v4_eq, a0, a2]
  exact ref2_eq m c

theorem reference_frame : Cert.quiescent_DWinRefIdeal (hDWinRefIdeal := Cert.DWinRefIdeal.Gen.facts) := by
  intro m g _
  exact (θ_run _ _ _).mono (fun r h => ⟨fun c => (h c).2, sem_eq_zero_of_no_sems (by decide) r.2⟩) (Cert.DWinRefIdeal.Value.run m g)

end Cert.DWinIdeal.Prod

end
-- ==== Proof.DH.lean ====
/- The gradient of the input projection's rows: its steps' sums make one product over the padded columns, which is the reference's over the columns. -/
module

public import proofs.«01_k».proof.Defs
public import proofs.«01_k».proof.Proof.Cols
public import proofs.«01_k».proof.Proof.Gen.DHIdeal.Frame
public import proofs.«01_k».proof.Proof.Gen.DHRefIdeal.Run
public import proofs.«01_k».proof.Proof.Gen.DHRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DHIdeal.Prod

open Cert.DHIdeal Cert.DHIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x512 .bf16) (b : FVec Ideal S1024x512 .f32) (y : S1024x1024.Idx) :
    k0_pay2 (F := Ideal) acc a b y = acc y + ∑ r : Fin 512, a (ix2 (y 0) r) * b (ix2 (y 1) r) := by
  rw [eq_ix2 y]
  pointwise [k0_pay2, dot_S1024x512_S1024x512_S1024x1024_1_1_0_0_n_n]

/-! ## The accumulation -/

abbrev blkA (t : Fin cfg0.N) : FVec Ideal S1024x512 .bf16 := iblk m c 0 t
abbrev blkB (t : Fin cfg0.N) : FVec Ideal S1024x512 .f32 := iblk m c 1 t

/-- At the last step of a run the accumulator holds the sum of the run's block products. -/
theorem acc_eq (t : Fin cfg0.N) (hr : t.val % 19 = 19 - 1) (y : S1024x1024.Idx) :
    (outsAt0 m c t.val t.isLt).2 y = 0 + ∑ s : Fin 19, ∑ r : Fin 512,
      blkA m c ⟨19 * (t.val / 19) + s.val, Pipeline.run_point_lt_of_flush t hr s⟩ (ix2 (y 0) r) * blkB m c ⟨19 * (t.val / 19) + s.val, Pipeline.run_point_lt_of_flush t hr s⟩ (ix2 (y 1) r) := by
  rw [Pipeline.eq_sum_fin_of_reset_step_apply_of_flush (fun n h => (outsAt0 m c n h).2) 19 (fun _ => 0) _
      (fun t h j => by rw [outsAt0_A m c t h (by omega)]; frame_out; rw [pay2_apply, pay1_apply])
      (fun t h j => by
        by_cases h1 : t.val % 19 = 18
        · rw [outsAt0_C m c t h h1]; frame_out; rw [pay2_apply, (Memref.isWhole_whole _).read_unread]
        · rw [outsAt0_B m c t h h1]; frame_out; rw [pay2_apply, (Memref.isWhole_whole _).read_unread]) t hr y]

theorem out2_eq (t : Fin cfg0.N) (hr : t.val % 19 = 18) (y : S1024x1024.Idx) :
    (outsAt0 m c t.val t.isLt).1 y = (outsAt0 m c t.val t.isLt).2 y := by
  rw [outsAt0_C m c t (by omega) hr]
  frame_out

/-! ## The whole arrays -/

abbrev argA : FVec Ideal S4096x9728 .bf16 := V m c main_v35
abbrev argB : FVec Ideal S1024x9728 .f32 := V m c main_v71

theorem idx0 : ∀ t : Fin cfg0.N, win0_0.index t = ![t.val / 19, t.val % 19] := (by decide +kernel : ∀ t : Fin grid0.N, _)
theorem idx1 : ∀ t : Fin cfg0.N, win0_1.index t = ![0, t.val % 19] := (by decide +kernel : ∀ t : Fin grid0.N, _)
theorem idx2 : ∀ t : Fin cfg0.N, win0_2.index t = ![t.val / 19, 0] := (by decide +kernel : ∀ t : Fin grid0.N, _)

set_option maxHeartbeats 1000000 in
/-- What the launch leaves in the result. -/
theorem final2 : (dats m 0 c).arrAt 2 cfg0.N = fun i => (∑ l : Fin 9728, argA m c (ix2 (i 0) l) * argB m c (ix2 (i 1) l)) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  refine congrArg₂ (fun u v : EReal => u * v) ?_ ?_
  · show V m c main_v35 _ = V m c main_v35 _
    generalize V m c main_v35 = f
    congr 1
    blk_ext [idx0, idx2]
  · show V m c main_v71 _ = V m c main_v71 _
    generalize V m c main_v71 = f
    congr 1
    blk_ext [idx1, idx2]

/-! ## The columns' layout -/
/-- The operations before the launch. -/
abbrev before : List (HloOp τ sig (Elt Ideal)) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24].flatten

abbrev entA := ent (m ((c : Thread nD τ).loc main_arg2) : FVec Ideal S4096x7592 .bf16)

abbrev entB := ent (m ((c : Thread nD τ).loc main_arg1) : FVec Ideal S1024x7592 .f32)

theorem zero_f32 (k : S_.Idx) : (sitofp .f32 (constantI S_ 32 0#32) : FVec Ideal S_ .f32) k = 0 := by
  show ((((0#32 : BitVec 32).toInt : ℤ) : ℝ) : EReal) = 0
  simp

theorem zero_bf16 (k : S_.Idx) : (sitofp .bf16 (constantI S_ 32 0#32) : FVec Ideal S_ .bf16) k = 0 := by
  show ((((0#32 : BitVec 32).toInt : ℤ) : ℝ) : EReal) = 0
  simp

theorem gatesA : Cols (StableHlo.upto before (fun b => m (c, b)) 50 (Proc.devRef .tc main_v31) : FVec Ideal S4096x4096 .bf16)
    (shift 3496 (entA m c)) := by
  apply Cols.of_eq
  · after_reads_simp
    exact rfl
  · exact (ent_cols _).slice _

theorem poolA : Cols (StableHlo.upto before (fun b => m (c, b)) 50 (Proc.devRef .tc main_v20) : FVec Ideal S4096x512 .bf16)
    (shift 672 (entA m c)) := by
  apply Cols.of_eq
  · after_reads_simp
    exact rfl
  · exact (ent_cols _).slice _

theorem lruGA : Cols (StableHlo.upto before (fun b => m (c, b)) 50 (Proc.devRef .tc main_v29) : FVec Ideal S4096x512 .bf16)
    (shift 2472 (entA m c)) := by
  apply Cols.of_eq
  · after_reads_simp
    exact rfl
  · exact (ent_cols _).slice _

theorem lruXA : Cols (StableHlo.upto before (fun b => m (c, b)) 50 (Proc.devRef .tc main_v30) : FVec Ideal S4096x512 .bf16)
    (shift 2984 (entA m c)) := by
  apply Cols.of_eq
  · after_reads_simp
    exact rfl
  · exact (ent_cols _).slice _

theorem cqA : Cols (StableHlo.upto before (fun b => m (c, b)) 50 (Proc.devRef .tc main_v14) : FVec Ideal S4096x384 .bf16)
    (shift 0 (entA m c)) := by
  apply Cols.of_eq
  · after_reads_simp
    exact rfl
  · exact (ent_cols _).slice _

theorem ckvA : Cols (StableHlo.upto before (fun b => m (c, b)) 50 (Proc.devRef .tc main_v15) : FVec Ideal S4096x256 .bf16)
    (shift 384 (entA m c)) := by
  apply Cols.of_eq
  · after_reads_simp
    exact rfl
  · exact (ent_cols _).slice _

theorem zgrpA : Cols (StableHlo.upto before (fun b => m (c, b)) 50 (Proc.devRef .tc main_v24) : FVec Ideal S4096x1024 .bf16)
    (wide 0 64 128 (shift 1184 (entA m c))) := by
  apply Cols.of_eq
  · after_reads_simp
    exact rfl
  · exact ((ent_cols _).slice _).pad (A := 8) (B := 64) (B' := 128) (hi := 64) rfl rfl (by decide) (sitofp .bf16 (constantI S_ 32 0#32) : FVec Ideal S_ .bf16) h_S_ zero_bf16 _ (by decide) _

theorem krA : Cols (StableHlo.upto before (fun b => m (c, b)) 50 (Proc.devRef .tc main_v19) : FVec Ideal S4096x128 .bf16)
    (wide 64 32 128 (shift 640 (entA m c))) := by
  apply Cols.of_eq
  · after_reads_simp
    exact rfl
  · exact ((ent_cols _).slice _).pad (A := 1) (B := 32) (B' := 128) (hi := 32) rfl rfl (by decide) (sitofp .bf16 (constantI S_ 32 0#32) : FVec Ideal S_ .bf16) h_S_ zero_bf16 _ (by decide) _

theorem dtA : Cols (StableHlo.upto before (fun b => m (c, b)) 50 (Proc.devRef .tc main_v28) : FVec Ideal S4096x128 .bf16)
    (wide 0 8 128 (shift 2464 (entA m c))) := by
  apply Cols.of_eq
  · after_reads_simp
    exact rfl
  · exact ((ent_cols _).slice _).pad (A := 1) (B := 8) (B' := 128) (hi := 120) rfl rfl (by decide) (sitofp .bf16 (constantI S_ 32 0#32) : FVec Ideal S_ .bf16) h_S_ zero_bf16 _ (by decide) _

theorem zeroAA : Cols (StableHlo.upto before (fun b => m (c, b)) 50 (Proc.devRef .tc main_v32) : FVec Ideal S4096x256 .bf16)
    (fun _ _ => 0) := by
  apply Cols.of_eq
  · after_reads_simp
    exact rfl
  · exact Cols.const fun _ => Ideal.ofBits_zero_bf16

theorem zeroBA : Cols (StableHlo.upto before (fun b => m (c, b)) 50 (Proc.devRef .tc main_v33) : FVec Ideal S4096x128 .bf16)
    (fun _ _ => 0) := by
  apply Cols.of_eq
  · after_reads_simp
    exact rfl
  · exact Cols.const fun _ => Ideal.ofBits_zero_bf16

theorem zeroCA : Cols (StableHlo.upto before (fun b => m (c, b)) 50 (Proc.devRef .tc main_v34) : FVec Ideal S4096x256 .bf16)
    (fun _ _ => 0) := by
  apply Cols.of_eq
  · after_reads_simp
    exact rfl
  · exact Cols.const fun _ => Ideal.ofBits_zero_bf16

theorem x0A : Cols (StableHlo.upto before (fun b => m (c, b)) 19 (Proc.devRef .tc main_v4) : FVec Ideal S4096x1024 .bf16)
    (wide 0 64 128 (shift 0 (shift 1696 (entA m c)))) := by
  apply Cols.of_eq
  · after_reads_simp
    exact rfl
  · exact (((ent_cols _).slice _).slice _).pad (A := 8) (B := 64) (B' := 128) (hi := 64) rfl rfl (by decide) (sitofp .bf16 (constantI S_ 32 0#32) : FVec Ideal S_ .bf16) h_S_ zero_bf16 _ (by decide) _

theorem x1A : Cols (StableHlo.upto before (fun b => m (c, b)) 19 (Proc.devRef .tc main_v8) : FVec Ideal S4096x256 .bf16)
    (wide 0 64 128 (shift 512 (shift 1696 (entA m c)))) := by
  apply Cols.of_eq
  · after_reads_simp
    exact rfl
  · exact (((ent_cols _).slice _).slice _).pad (A := 2) (B := 64) (B' := 128) (hi := 64) rfl rfl (by decide) (sitofp .bf16 (constantI S_ 32 0#32) : FVec Ideal S_ .bf16) h_S_ zero_bf16 _ (by decide) _

theorem x2A : Cols (StableHlo.upto before (fun b => m (c, b)) 19 (Proc.devRef .tc main_v12) : FVec Ideal S4096x256 .bf16)
    (wide 0 64 128 (shift 640 (shift 1696 (entA m c)))) := by
  apply Cols.of_eq
  · after_reads_simp
    exact rfl
  · exact (((ent_cols _).slice _).slice _).pad (A := 2) (B := 64) (B' := 128) (hi := 64) rfl rfl (by decide) (sitofp .bf16 (constantI S_ 32 0#32) : FVec Ideal S_ .bf16) h_S_ zero_bf16 _ (by decide) _

theorem xbcA : Cols (StableHlo.upto before (fun b => m (c, b)) 50 (Proc.devRef .tc main_v13) : FVec Ideal S4096x1536 .bf16)
    (side [(1024, wide 0 64 128 (shift 0 (shift 1696 (entA m c)))), (256, wide 0 64 128 (shift 512 (shift 1696 (entA m c)))), (256, wide 0 64 128 (shift 640 (shift 1696 (entA m c))))]) := by
  apply Cols.of_eq
  · after_reads_simp
    exact rfl
  · exact Cols.side (.cons (x0A m c) (.cons (x1A m c) (.cons (x2A m c) .nil))) _

/-- The padded array at an entry. -/
theorem argA_cols : Cols (argA m c) (fused (entA m c)) := by
  apply Cols.of_eq
  · unfold_abbrev_sides
    after_reads_simp
    exact rfl
  · exact Cols.side (.cons (gatesA m c) (.cons (zgrpA m c) (.cons (poolA m c) (.cons (lruGA m c) (.cons (lruXA m c) (.cons (zeroAA m c) (.cons (cqA m c) (.cons (zeroBA m c) (.cons (ckvA m c) (.cons (xbcA m c) (.cons (krA m c) (.cons (dtA m c) (.cons (zeroCA m c) .nil))))))))))))) _

theorem gatesB : Cols (StableHlo.upto before (fun b => m (c, b)) 101 (Proc.devRef .tc main_v67) : FVec Ideal S1024x4096 .f32)
    (shift 3496 (entB m c)) := by
  apply Cols.of_eq
  · after_reads_simp
    exact rfl
  · exact (ent_cols _).slice _

theorem poolB : Cols (StableHlo.upto before (fun b => m (c, b)) 101 (Proc.devRef .tc main_v56) : FVec Ideal S1024x512 .f32)
    (shift 672 (entB m c)) := by
  apply Cols.of_eq
  · after_reads_simp
    exact rfl
  · exact (ent_cols _).slice _

theorem lruGB : Cols (StableHlo.upto before (fun b => m (c, b)) 101 (Proc.devRef .tc main_v65) : FVec Ideal S1024x512 .f32)
    (shift 2472 (entB m c)) := by
  apply Cols.of_eq
  · after_reads_simp
    exact rfl
  · exact (ent_cols _).slice _

theorem lruXB : Cols (StableHlo.upto before (fun b => m (c, b)) 101 (Proc.devRef .tc main_v66) : FVec Ideal S1024x512 .f32)
    (shift 2984 (entB m c)) := by
  apply Cols.of_eq
  · after_reads_simp
    exact rfl
  · exact (ent_cols _).slice _

theorem cqB : Cols (StableHlo.upto before (fun b => m (c, b)) 101 (Proc.devRef .tc main_v50) : FVec Ideal S1024x384 .f32)
    (shift 0 (entB m c)) := by
  apply Cols.of_eq
  · after_reads_simp
    exact rfl
  · exact (ent_cols _).slice _

theorem ckvB : Cols (StableHlo.upto before (fun b => m (c, b)) 101 (Proc.devRef .tc main_v51) : FVec Ideal S1024x256 .f32)
    (shift 384 (entB m c)) := by
  apply Cols.of_eq
  · after_reads_simp
    exact rfl
  · exact (ent_cols _).slice _

theorem zgrpB : Cols (StableHlo.upto before (fun b => m (c, b)) 101 (Proc.devRef .tc main_v60) : FVec Ideal S1024x1024 .f32)
    (wide 0 64 128 (shift 1184 (entB m c))) := by
  apply Cols.of_eq
  · after_reads_simp
    exact rfl
  · exact ((ent_cols _).slice _).pad (A := 8) (B := 64) (B' := 128) (hi := 64) rfl rfl (by decide) (sitofp .f32 (constantI S_ 32 0#32) : FVec Ideal S_ .f32) h_S_ zero_f32 _ (by decide) _

theorem krB : Cols (StableHlo.upto before (fun b => m (c, b)) 101 (Proc.devRef .tc main_v55) : FVec Ideal S1024x128 .f32)
    (wide 64 32 128 (shift 640 (entB m c))) := by
  apply Cols.of_eq
  · after_reads_simp
    exact rfl
  · exact ((ent_cols _).slice _).pad (A := 1) (B := 32) (B' := 128) (hi := 32) rfl rfl (by decide) (sitofp .f32 (constantI S_ 32 0#32) : FVec Ideal S_ .f32) h_S_ zero_f32 _ (by decide) _

theorem dtB : Cols (StableHlo.upto before (fun b => m (c, b)) 101 (Proc.devRef .tc main_v64) : FVec Ideal S1024x128 .f32)
    (wide 0 8 128 (shift 2464 (entB m c))) := by
  apply Cols.of_eq
  · after_reads_simp
    exact rfl
  · exact ((ent_cols _).slice _).pad (A := 1) (B := 8) (B' := 128) (hi := 120) rfl rfl (by decide) (sitofp .f32 (constantI S_ 32 0#32) : FVec Ideal S_ .f32) h_S_ zero_f32 _ (by decide) _

theorem zeroAB : Cols (StableHlo.upto before (fun b => m (c, b)) 101 (Proc.devRef .tc main_v68) : FVec Ideal S1024x256 .f32)
    (fun _ _ => 0) := by
  apply Cols.of_eq
  · after_reads_simp
    exact rfl
  · exact Cols.const fun _ => Ideal.ofBits_zero_f32

theorem zeroBB : Cols (StableHlo.upto before (fun b => m (c, b)) 101 (Proc.devRef .tc main_v69) : FVec Ideal S1024x128 .f32)
    (fun _ _ => 0) := by
  apply Cols.of_eq
  · after_reads_simp
    exact rfl
  · exact Cols.const fun _ => Ideal.ofBits_zero_f32

theorem zeroCB : Cols (StableHlo.upto before (fun b => m (c, b)) 101 (Proc.devRef .tc main_v70) : FVec Ideal S1024x256 .f32)
    (fun _ _ => 0) := by
  apply Cols.of_eq
  · after_reads_simp
    exact rfl
  · exact Cols.const fun _ => Ideal.ofBits_zero_f32

theorem x0B : Cols (StableHlo.upto before (fun b => m (c, b)) 70 (Proc.devRef .tc main_v40) : FVec Ideal S1024x1024 .f32)
    (wide 0 64 128 (shift 0 (shift 1696 (entB m c)))) := by
  apply Cols.of_eq
  · after_reads_simp
    exact rfl
  · exact (((ent_cols _).slice _).slice _).pad (A := 8) (B := 64) (B' := 128) (hi := 64) rfl rfl (by decide) (sitofp .f32 (constantI S_ 32 0#32) : FVec Ideal S_ .f32) h_S_ zero_f32 _ (by decide) _

theorem x1B : Cols (StableHlo.upto before (fun b => m (c, b)) 70 (Proc.devRef .tc main_v44) : FVec Ideal S1024x256 .f32)
    (wide 0 64 128 (shift 512 (shift 1696 (entB m c)))) := by
  apply Cols.of_eq
  · after_reads_simp
    exact rfl
  · exact (((ent_cols _).slice _).slice _).pad (A := 2) (B := 64) (B' := 128) (hi := 64) rfl rfl (by decide) (sitofp .f32 (constantI S_ 32 0#32) : FVec Ideal S_ .f32) h_S_ zero_f32 _ (by decide) _

theorem x2B : Cols (StableHlo.upto before (fun b => m (c, b)) 70 (Proc.devRef .tc main_v48) : FVec Ideal S1024x256 .f32)
    (wide 0 64 128 (shift 640 (shift 1696 (entB m c)))) := by
  apply Cols.of_eq
  · after_reads_simp
    exact rfl
  · exact (((ent_cols _).slice _).slice _).pad (A := 2) (B := 64) (B' := 128) (hi := 64) rfl rfl (by decide) (sitofp .f32 (constantI S_ 32 0#32) : FVec Ideal S_ .f32) h_S_ zero_f32 _ (by decide) _

theorem xbcB : Cols (StableHlo.upto before (fun b => m (c, b)) 101 (Proc.devRef .tc main_v49) : FVec Ideal S1024x1536 .f32)
    (side [(1024, wide 0 64 128 (shift 0 (shift 1696 (entB m c)))), (256, wide 0 64 128 (shift 512 (shift 1696 (entB m c)))), (256, wide 0 64 128 (shift 640 (shift 1696 (entB m c))))]) := by
  apply Cols.of_eq
  · after_reads_simp
    exact rfl
  · exact Cols.side (.cons (x0B m c) (.cons (x1B m c) (.cons (x2B m c) .nil))) _

/-- The padded array at an entry. -/
theorem argB_cols : Cols (argB m c) (fused (entB m c)) := by
  apply Cols.of_eq
  · unfold_abbrev_sides
    after_reads_simp
    exact rfl
  · exact Cols.side (.cons (gatesB m c) (.cons (zgrpB m c) (.cons (poolB m c) (.cons (lruGB m c) (.cons (lruXB m c) (.cons (zeroAB m c) (.cons (cqB m c) (.cons (zeroBB m c) (.cons (ckvB m c) (.cons (xbcB m c) (.cons (krB m c) (.cons (dtB m c) (.cons (zeroCB m c) .nil))))))))))))) _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v72) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DHRefIdeal.Read.val_main_v2 (F := Ideal) (m ((c : Thread nD τ).loc main_arg1)) (m ((c : Thread nD τ).loc main_arg2)) = (dats m 0 c).arrAt 2 cfg0.N := by
  rw [final2]
  funext i
  rw [Cert.DHRefIdeal.Read.val_main_v2_apply]
  refine (Finset.sum_congr rfl fun j _ => ?_).trans ((sum_fused (entA m c) (entB m c) (i 0).val (i 1).val).symm.trans (Finset.sum_congr rfl fun q _ => ?_))
  · refine congrArg₂ (fun u v : EReal => u * v) ?_ ?_
    · refine Eq.trans ?_ (ent_eq _ (i 0) j).symm
      exact congrArg (m ((c : Thread nD τ).loc main_arg2)) ((eq_ix2 _).trans rfl)
    · refine Eq.trans ?_ (ent_eq _ (i 1) j).symm
      exact congrArg (m ((c : Thread nD τ).loc main_arg1)) ((eq_ix2 _).trans rfl)
  · exact congrArg₂ (fun u v : EReal => u * v) (argA_cols m c (ix2 (i 0) q)).symm (argB_cols m c (ix2 (i 1) q)).symm

theorem value : Cert.algebraic_DHIdeal_DHRefIdeal (hDHIdeal := Cert.DHIdeal.Gen.facts) (hDHRefIdeal := Cert.DHRefIdeal.Gen.facts) := by
  intro m g m' g' _ hargs
  refine ⟨fun c => (dats m 0 c).arrAt 2 cfg0.N, run_holds m g, ?_⟩
  refine (θ_run _ _ _).mono (fun r h c => ?_) (Cert.DHRefIdeal.Value.run m' g')
  obtain ⟨a0, a1, a2⟩ := hargs c
  obtain ⟨r0, rest⟩ := h c
  refine ⟨r0.trans ?_, rest⟩
  rw [Cert.DHRefIdeal.Read.val_main_v2_eq, a1, a2]
  exact ref2_eq m c

theorem reference_frame : Cert.quiescent_DHRefIdeal (hDHRefIdeal := Cert.DHRefIdeal.Gen.facts) := by
  intro m g _
  exact (θ_run _ _ _).mono (fun r h => ⟨fun c => (h c).2, sem_eq_zero_of_no_sems (by decide) r.2⟩) (Cert.DHRefIdeal.Value.run m g)

end Cert.DHIdeal.Prod

end
-- ==== Proof.InProj.lean ====
/- The input projection: block by block the product with the padded weight, whose columns of the layout are the reference's. -/
module

public import proofs.«01_k».proof.Defs
public import proofs.«01_k».proof.Proof.Cols
public import proofs.«01_k».proof.Proof.Gen.InProjIdeal.Frame
public import proofs.«01_k».proof.Proof.Gen.InProjRefIdeal.Run
public import proofs.«01_k».proof.Proof.Gen.InProjRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.InProjIdeal.Prod

open Cert.InProjIdeal Cert.InProjIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S1024x512.Idx) : k0_pay1 (F := Ideal) y = 0 := by
  rw [eq_ix2 y]
  pointwise [k0_pay1]

theorem pay2_apply (acc : FVec Ideal S1024x512 .f32) (a : FVec Ideal S1024x1024 .bf16) (b : FVec Ideal S1024x512 .f32) (y : S1024x512.Idx) :
    k0_pay2 (F := Ideal) acc a b y = acc y + ∑ r : Fin 1024, a (ix2 (y 0) r) * b (ix2 r (y 1)) := by
  rw [eq_ix2 y]
  pointwise [k0_pay2, dot_S1024x1024_S1024x512_S1024x512_1_0_0_1_n_n]

/-! ## The accumulation -/

abbrev blkA (t : Fin cfg0.N) : FVec Ideal S1024x1024 .bf16 := iblk m c 0 t
abbrev blkB (t : Fin cfg0.N) : FVec Ideal S1024x512 .f32 := iblk m c 1 t

theorem out2_eq (t : Fin cfg0.N) (y : S1024x512.Idx) :
    (outsAt0 m c t) y = (∑ r : Fin 1024, blkA m c t (ix2 (y 0) r) * blkB m c t (ix2 r (y 1))) := by
  unfold outsAt0
  frame_out
  rw [pay2_apply, pay1_apply, zero_add]

/-! ## The whole arrays -/

abbrev argA : FVec Ideal S4096x1024 .bf16 := V m c main_arg0
abbrev argB : FVec Ideal S1024x9728 .f32 := V m c main_v35

theorem idx0 : ∀ t : Fin cfg0.N, win0_0.index t = ![t.val / 19, 0] := (by decide +kernel : ∀ t : Fin grid0.N, _)
theorem idx1 : ∀ t : Fin cfg0.N, win0_1.index t = ![0, t.val % 19] := (by decide +kernel : ∀ t : Fin grid0.N, _)
theorem idx2 : ∀ t : Fin cfg0.N, win0_2.index t = ![t.val / 19, t.val % 19] := (by decide +kernel : ∀ t : Fin grid0.N, _)

set_option maxHeartbeats 1000000 in
/-- What the launch leaves in the result. -/
theorem final2 : (dats m 0 c).arrAt 2 cfg0.N = fun i => (∑ l : Fin 1024, argA m c (ix2 (i 0) l) * argB m c (ix2 l (i 1))) := by
  refine (dats m 0 c).arrAt_eq_of_covers 2 _ (by decide +kernel) fun t hf y => ?_
  blk_simp
  rw [after0_2, out2_eq m c t]
  show (_ : EReal) = _
  refine Finset.sum_congr rfl fun r _ => ?_
  refine congrArg₂ (fun u v : EReal => u * v) ?_ ?_
  · show V m c main_arg0 _ = V m c main_arg0 _
    generalize V m c main_arg0 = f
    congr 1
    blk_ext [idx0, idx2]
  · show V m c main_v35 _ = V m c main_v35 _
    generalize V m c main_v35 = f
    congr 1
    blk_ext [idx1, idx2]

/-! ## The columns' layout -/
/-- The operations before the launch. -/
abbrev before : List (HloOp τ sig (Elt Ideal)) := [hostOps0, hostOps0_1, hostOps0_2, hostOps0_3, hostOps0_4, hostOps0_5, hostOps0_6, hostOps0_7, hostOps0_8, hostOps0_9, hostOps0_10, hostOps0_11, hostOps0_12].flatten

abbrev entB := ent (m ((c : Thread nD τ).loc main_arg1) : FVec Ideal S1024x7592 .f32)

theorem zero_f32 (k : S_.Idx) : (sitofp .f32 (constantI S_ 32 0#32) : FVec Ideal S_ .f32) k = 0 := by
  show ((((0#32 : BitVec 32).toInt : ℤ) : ℝ) : EReal) = 0
  simp

theorem gates : Cols (StableHlo.upto before (fun b => m (c, b)) 50 (Proc.devRef .tc main_v31) : FVec Ideal S1024x4096 .f32)
    (shift 3496 (entB m c)) := by
  apply Cols.of_eq
  · after_reads_simp
    exact rfl
  · exact (ent_cols _).slice _

theorem pool : Cols (StableHlo.upto before (fun b => m (c, b)) 50 (Proc.devRef .tc main_v20) : FVec Ideal S1024x512 .f32)
    (shift 672 (entB m c)) := by
  apply Cols.of_eq
  · after_reads_simp
    exact rfl
  · exact (ent_cols _).slice _

theorem lruG : Cols (StableHlo.upto before (fun b => m (c, b)) 50 (Proc.devRef .tc main_v29) : FVec Ideal S1024x512 .f32)
    (shift 2472 (entB m c)) := by
  apply Cols.of_eq
  · after_reads_simp
    exact rfl
  · exact (ent_cols _).slice _

theorem lruX : Cols (StableHlo.upto before (fun b => m (c, b)) 50 (Proc.devRef .tc main_v30) : FVec Ideal S1024x512 .f32)
    (shift 2984 (entB m c)) := by
  apply Cols.of_eq
  · after_reads_simp
    exact rfl
  · exact (ent_cols _).slice _

theorem cq : Cols (StableHlo.upto before (fun b => m (c, b)) 50 (Proc.devRef .tc main_v14) : FVec Ideal S1024x384 .f32)
    (shift 0 (entB m c)) := by
  apply Cols.of_eq
  · after_reads_simp
    exact rfl
  · exact (ent_cols _).slice _

theorem ckv : Cols (StableHlo.upto before (fun b => m (c, b)) 50 (Proc.devRef .tc main_v15) : FVec Ideal S1024x256 .f32)
    (shift 384 (entB m c)) := by
  apply Cols.of_eq
  · after_reads_simp
    exact rfl
  · exact (ent_cols _).slice _

theorem zgrp : Cols (StableHlo.upto before (fun b => m (c, b)) 50 (Proc.devRef .tc main_v24) : FVec Ideal S1024x1024 .f32)
    (wide 0 64 128 (shift 1184 (entB m c))) := by
  apply Cols.of_eq
  · after_reads_simp
    exact rfl
  · exact ((ent_cols _).slice _).pad (A := 8) (B := 64) (B' := 128) (hi := 64) rfl rfl (by decide) (sitofp .f32 (constantI S_ 32 0#32) : FVec Ideal S_ .f32) h_S_ zero_f32 _ (by decide) _

theorem kr : Cols (StableHlo.upto before (fun b => m (c, b)) 50 (Proc.devRef .tc main_v19) : FVec Ideal S1024x128 .f32)
    (wide 64 32 128 (shift 640 (entB m c))) := by
  apply Cols.of_eq
  · after_reads_simp
    exact rfl
  · exact ((ent_cols _).slice _).pad (A := 1) (B := 32) (B' := 128) (hi := 32) rfl rfl (by decide) (sitofp .f32 (constantI S_ 32 0#32) : FVec Ideal S_ .f32) h_S_ zero_f32 _ (by decide) _

theorem dt : Cols (StableHlo.upto before (fun b => m (c, b)) 50 (Proc.devRef .tc main_v28) : FVec Ideal S1024x128 .f32)
    (wide 0 8 128 (shift 2464 (entB m c))) := by
  apply Cols.of_eq
  · after_reads_simp
    exact rfl
  · exact ((ent_cols _).slice _).pad (A := 1) (B := 8) (B' := 128) (hi := 120) rfl rfl (by decide) (sitofp .f32 (constantI S_ 32 0#32) : FVec Ideal S_ .f32) h_S_ zero_f32 _ (by decide) _

theorem zeroA : Cols (StableHlo.upto before (fun b => m (c, b)) 50 (Proc.devRef .tc main_v32) : FVec Ideal S1024x256 .f32)
    (fun _ _ => 0) := by
  apply Cols.of_eq
  · after_reads_simp
    exact rfl
  · exact Cols.const fun _ => Ideal.ofBits_zero_f32

theorem zeroB : Cols (StableHlo.upto before (fun b => m (c, b)) 50 (Proc.devRef .tc main_v33) : FVec Ideal S1024x128 .f32)
    (fun _ _ => 0) := by
  apply Cols.of_eq
  · after_reads_simp
    exact rfl
  · exact Cols.const fun _ => Ideal.ofBits_zero_f32

theorem zeroC : Cols (StableHlo.upto before (fun b => m (c, b)) 50 (Proc.devRef .tc main_v34) : FVec Ideal S1024x256 .f32)
    (fun _ _ => 0) := by
  apply Cols.of_eq
  · after_reads_simp
    exact rfl
  · exact Cols.const fun _ => Ideal.ofBits_zero_f32

theorem x0 : Cols (StableHlo.upto before (fun b => m (c, b)) 19 (Proc.devRef .tc main_v4) : FVec Ideal S1024x1024 .f32)
    (wide 0 64 128 (shift 0 (shift 1696 (entB m c)))) := by
  apply Cols.of_eq
  · after_reads_simp
    exact rfl
  · exact (((ent_cols _).slice _).slice _).pad (A := 8) (B := 64) (B' := 128) (hi := 64) rfl rfl (by decide) (sitofp .f32 (constantI S_ 32 0#32) : FVec Ideal S_ .f32) h_S_ zero_f32 _ (by decide) _

theorem x1 : Cols (StableHlo.upto before (fun b => m (c, b)) 19 (Proc.devRef .tc main_v8) : FVec Ideal S1024x256 .f32)
    (wide 0 64 128 (shift 512 (shift 1696 (entB m c)))) := by
  apply Cols.of_eq
  · after_reads_simp
    exact rfl
  · exact (((ent_cols _).slice _).slice _).pad (A := 2) (B := 64) (B' := 128) (hi := 64) rfl rfl (by decide) (sitofp .f32 (constantI S_ 32 0#32) : FVec Ideal S_ .f32) h_S_ zero_f32 _ (by decide) _

theorem x2 : Cols (StableHlo.upto before (fun b => m (c, b)) 19 (Proc.devRef .tc main_v12) : FVec Ideal S1024x256 .f32)
    (wide 0 64 128 (shift 640 (shift 1696 (entB m c)))) := by
  apply Cols.of_eq
  · after_reads_simp
    exact rfl
  · exact (((ent_cols _).slice _).slice _).pad (A := 2) (B := 64) (B' := 128) (hi := 64) rfl rfl (by decide) (sitofp .f32 (constantI S_ 32 0#32) : FVec Ideal S_ .f32) h_S_ zero_f32 _ (by decide) _

theorem xbc : Cols (StableHlo.upto before (fun b => m (c, b)) 50 (Proc.devRef .tc main_v13) : FVec Ideal S1024x1536 .f32)
    (side [(1024, wide 0 64 128 (shift 0 (shift 1696 (entB m c)))), (256, wide 0 64 128 (shift 512 (shift 1696 (entB m c)))), (256, wide 0 64 128 (shift 640 (shift 1696 (entB m c))))]) := by
  apply Cols.of_eq
  · after_reads_simp
    exact rfl
  · exact Cols.side (.cons (x0 m c) (.cons (x1 m c) (.cons (x2 m c) .nil))) _

/-- The padded array at an entry. -/
theorem argB_cols : Cols (argB m c) (fused (entB m c)) := by
  apply Cols.of_eq
  · unfold_abbrev_sides
    after_reads_simp
    exact rfl
  · exact Cols.side (.cons (gates m c) (.cons (zgrp m c) (.cons (pool m c) (.cons (lruG m c) (.cons (lruX m c) (.cons (zeroA m c) (.cons (cq m c) (.cons (zeroB m c) (.cons (ckv m c) (.cons (xbc m c) (.cons (kr m c) (.cons (dt m c) (.cons (zeroC m c) .nil))))))))))))) _

/-- The buffers when the launch is done. -/
abbrev V1 := Pipeline.withArrays (cfgs 0).spec c (V0 m c) fun w => (dats m 0 c).arrAt w (cfgs 0).N

abbrev whole : FVec Ideal S4096x9728 .f32 := (dats m 0 c).arrAt 2 cfg0.N

theorem V1_whole : (V1 m c (Proc.devRef .tc main_v36) : FVec Ideal S4096x9728 .f32) = whole m c :=
  Pipeline.withArrays_arr (cfgs 0).spec (by decide) c (V0 m c) (fun w => (dats m 0 c).arrAt w (cfgs 0).N) 2

theorem whole_cols : Cols (V1 m c (Proc.devRef .tc main_v36) : FVec Ideal S4096x9728 .f32) (ent (whole m c)) :=
  Cols.of_eq (V1_whole m c) (ent_cols _)

theorem tcq : Cols (StableHlo.upto ([hostOps1] : List (List (HloOp τ sig (Elt Ideal)))).flatten (V1 m c) 32 (Proc.devRef .tc main_v42) : FVec Ideal S4096x384 .f32)
    (shift 6912 (ent (whole m c))) := by
  have h := whole_cols m c
  generalize V1 m c = U at h ⊢
  apply Cols.of_eq
  · after_reads_simp
    exact rfl
  · exact h.slice _

theorem tckv : Cols (StableHlo.upto ([hostOps1] : List (List (HloOp τ sig (Elt Ideal)))).flatten (V1 m c) 32 (Proc.devRef .tc main_v43) : FVec Ideal S4096x256 .f32)
    (shift 7424 (ent (whole m c))) := by
  have h := whole_cols m c
  generalize V1 m c = U at h ⊢
  apply Cols.of_eq
  · after_reads_simp
    exact rfl
  · exact h.slice _

theorem tpool : Cols (StableHlo.upto ([hostOps1] : List (List (HloOp τ sig (Elt Ideal)))).flatten (V1 m c) 32 (Proc.devRef .tc main_v39) : FVec Ideal S4096x512 .f32)
    (shift 5120 (ent (whole m c))) := by
  have h := whole_cols m c
  generalize V1 m c = U at h ⊢
  apply Cols.of_eq
  · after_reads_simp
    exact rfl
  · exact h.slice _

theorem tlruG : Cols (StableHlo.upto ([hostOps1] : List (List (HloOp τ sig (Elt Ideal)))).flatten (V1 m c) 32 (Proc.devRef .tc main_v40) : FVec Ideal S4096x512 .f32)
    (shift 5632 (ent (whole m c))) := by
  have h := whole_cols m c
  generalize V1 m c = U at h ⊢
  apply Cols.of_eq
  · after_reads_simp
    exact rfl
  · exact h.slice _

theorem tlruX : Cols (StableHlo.upto ([hostOps1] : List (List (HloOp τ sig (Elt Ideal)))).flatten (V1 m c) 32 (Proc.devRef .tc main_v41) : FVec Ideal S4096x512 .f32)
    (shift 6144 (ent (whole m c))) := by
  have h := whole_cols m c
  generalize V1 m c = U at h ⊢
  apply Cols.of_eq
  · after_reads_simp
    exact rfl
  · exact h.slice _

theorem tgates : Cols (StableHlo.upto ([hostOps1] : List (List (HloOp τ sig (Elt Ideal)))).flatten (V1 m c) 32 (Proc.devRef .tc main_v37) : FVec Ideal S4096x4096 .f32)
    (shift 0 (ent (whole m c))) := by
  have h := whole_cols m c
  generalize V1 m c = U at h ⊢
  apply Cols.of_eq
  · after_reads_simp
    exact rfl
  · exact h.slice _

theorem tkr : Cols (StableHlo.upto ([hostOps1] : List (List (HloOp τ sig (Elt Ideal)))).flatten (V1 m c) 32 (Proc.devRef .tc main_v62) : FVec Ideal S4096x32 .f32)
    (narrow 64 32 128 (shift 9216 (ent (whole m c)))) := by
  have h := whole_cols m c
  generalize V1 m c = U at h ⊢
  apply Cols.of_eq
  · after_reads_simp
    exact rfl
  · exact (h.slice _).unpad (A := 1) (B := 32) (B' := 128) (o := 64) rfl rfl (by decide) (by decide) _ _ _

theorem tz : Cols (StableHlo.upto ([hostOps1] : List (List (HloOp τ sig (Elt Ideal)))).flatten (V1 m c) 32 (Proc.devRef .tc main_v65) : FVec Ideal S4096x512 .f32)
    (narrow 0 64 128 (shift 4096 (ent (whole m c)))) := by
  have h := whole_cols m c
  generalize V1 m c = U at h ⊢
  apply Cols.of_eq
  · after_reads_simp
    exact rfl
  · exact (h.slice _).unpad (A := 8) (B := 64) (B' := 128) (o := 0) rfl rfl (by decide) (by decide) _ _ _

theorem tdt : Cols (StableHlo.upto ([hostOps1] : List (List (HloOp τ sig (Elt Ideal)))).flatten (V1 m c) 32 (Proc.devRef .tc main_v68) : FVec Ideal S4096x8 .f32)
    (narrow 0 8 128 (shift 9344 (ent (whole m c)))) := by
  have h := whole_cols m c
  generalize V1 m c = U at h ⊢
  apply Cols.of_eq
  · after_reads_simp
    exact rfl
  · exact (h.slice _).unpad (A := 1) (B := 8) (B' := 128) (o := 0) rfl rfl (by decide) (by decide) _ _ _

theorem tx0 : Cols (StableHlo.upto ([hostOps1] : List (List (HloOp τ sig (Elt Ideal)))).flatten (V1 m c) 22 (Proc.devRef .tc main_v50) : FVec Ideal S4096x512 .f32)
    (narrow 0 64 128 (shift 0 (shift 7680 (ent (whole m c))))) := by
  have h := whole_cols m c
  generalize V1 m c = U at h ⊢
  apply Cols.of_eq
  · after_reads_simp
    exact rfl
  · exact ((h.slice _).slice _).unpad (A := 8) (B := 64) (B' := 128) (o := 0) rfl rfl (by decide) (by decide) _ _ _

theorem tx1 : Cols (StableHlo.upto ([hostOps1] : List (List (HloOp τ sig (Elt Ideal)))).flatten (V1 m c) 22 (Proc.devRef .tc main_v54) : FVec Ideal S4096x128 .f32)
    (narrow 0 64 128 (shift 1024 (shift 7680 (ent (whole m c))))) := by
  have h := whole_cols m c
  generalize V1 m c = U at h ⊢
  apply Cols.of_eq
  · after_reads_simp
    exact rfl
  · exact ((h.slice _).slice _).unpad (A := 2) (B := 64) (B' := 128) (o := 0) rfl rfl (by decide) (by decide) _ _ _

theorem tx2 : Cols (StableHlo.upto ([hostOps1] : List (List (HloOp τ sig (Elt Ideal)))).flatten (V1 m c) 22 (Proc.devRef .tc main_v58) : FVec Ideal S4096x128 .f32)
    (narrow 0 64 128 (shift 1280 (shift 7680 (ent (whole m c))))) := by
  have h := whole_cols m c
  generalize V1 m c = U at h ⊢
  apply Cols.of_eq
  · after_reads_simp
    exact rfl
  · exact ((h.slice _).slice _).unpad (A := 2) (B := 64) (B' := 128) (o := 0) rfl rfl (by decide) (by decide) _ _ _

theorem txbc : Cols (StableHlo.upto ([hostOps1] : List (List (HloOp τ sig (Elt Ideal)))).flatten (V1 m c) 32 (Proc.devRef .tc main_v59) : FVec Ideal S4096x768 .f32)
    (side [(512, narrow 0 64 128 (shift 0 (shift 7680 (ent (whole m c))))), (128, narrow 0 64 128 (shift 1024 (shift 7680 (ent (whole m c))))), (128, narrow 0 64 128 (shift 1280 (shift 7680 (ent (whole m c)))))]) := by
  apply Cols.of_eq
  · after_reads_simp
    exact rfl
  · exact Cols.side (.cons (tx0 m c) (.cons (tx1 m c) (.cons (tx2 m c) .nil))) _

abbrev result : FVec Ideal S4096x7592 .f32 := Pipeline.afterTail₀ cfgs (dats m) 0 (V0 m) [hostOps1] c main_v69

/-- The result at an entry, from the array the launch leaves. -/
theorem result_cols : Cols (result m c) (taken (ent (whole m c))) := by
  apply Cols.of_eq
  · show StableHlo.after ([hostOps1] : List (List (HloOp τ sig (Elt Ideal)))).flatten (V1 m c) (Proc.devRef .tc main_v69) = _
    after_reads_simp
    exact rfl
  · exact Cols.side (.cons (tcq m c) (.cons (tckv m c) (.cons (tkr m c) (.cons (tpool m c) (.cons (tz m c) (.cons (txbc m c) (.cons (tdt m c) (.cons (tlruG m c) (.cons (tlruX m c) (.cons (tgates m c) .nil)))))))))) _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v69) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h.2 c).2 main_v69 (by decide), h.1 c⟩) (θ_run_and (unchanged m ρ) (run_main m ρ))

/-- The reference's result, at the kernel's arguments, is what the kernel leaves. -/
theorem ref2_eq : Cert.InProjRefIdeal.Read.val_main_v1 (F := Ideal) (m ((c : Thread nD τ).loc main_arg0)) (m ((c : Thread nD τ).loc main_arg1)) = result m c := by
  funext i
  have hj : (i 1).val < 7592 := (i 1).isLt
  have hw := congrFun (final2 m c) (ix2 (i 0) ⟨place (i 1).val, place_lt _ hj⟩)
  refine Eq.trans ?_ (((result_cols m c i).trans (taken_eq _ _ _ hj)).trans ((ent_eq (whole m c) (i 0) ⟨place (i 1).val, place_lt _ hj⟩).trans hw)).symm
  rw [Cert.InProjRefIdeal.Read.val_main_v1_apply]
  refine Finset.sum_congr rfl fun l _ => ?_
  refine congrArg₂ (fun u v : EReal => u * v) ?_ ?_
  · exact congrArg (m ((c : Thread nD τ).loc main_arg0)) ((eq_ix2 _).trans rfl)
  · refine Eq.trans ?_ (((argB_cols m c (ix2 l ⟨place (i 1).val, place_lt _ hj⟩)).trans (fused_place _ _ _ hj)).trans (ent_eq _ l ⟨(i 1).val, hj⟩)).symm
    exact congrArg (m ((c : Thread nD τ).loc main_arg1)) ((eq_ix2 _).trans rfl)

theorem value : Cert.algebraic_InProjIdeal_InProjRefIdeal (hInProjIdeal := Cert.InProjIdeal.Gen.facts) (hInProjRefIdeal := Cert.InProjRefIdeal.Gen.facts) := by
  intro m g m' g' _ hargs
  refine ⟨fun c => result m c, run_holds m g, ?_⟩
  refine (θ_run _ _ _).mono (fun r h c => ?_) (Cert.InProjRefIdeal.Value.run m' g')
  obtain ⟨a0, a1⟩ := hargs c
  obtain ⟨r0, rest⟩ := h c
  refine ⟨r0.trans ?_, rest⟩
  rw [Cert.InProjRefIdeal.Read.val_main_v1_eq, a0, a1]
  exact ref2_eq m c

theorem reference_frame : Cert.quiescent_InProjRefIdeal (hInProjRefIdeal := Cert.InProjRefIdeal.Gen.facts) := by
  intro m g _
  exact (θ_run _ _ _).mono (fun r h => ⟨fun c => (h c).2, sem_eq_zero_of_no_sems (by decide) r.2⟩) (Cert.InProjRefIdeal.Value.run m g)

end Cert.InProjIdeal.Prod

end
-- ==== Proof.DWuq.lean ====
/- The gradient of the queries' weight: its steps' sums make one product with the padded gradient, whose columns of the heads are the reference's. -/
module

public import proofs.«01_k».proof.Defs
public import proofs.«01_k».proof.Proof.Heads
public import proofs.«01_k».proof.Proof.Gen.DWuqIdeal.Frame
public import proofs.«01_k».proof.Proof.Gen.DWuqRefIdeal.Run
public import proofs.«01_k».proof.Proof.Gen.DWuqRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWuqIdeal.Prod

open Cert.DWuqIdeal Cert.DWuqIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S384x1024.Idx) : k0_pay1 (F := Ideal) y = 0 := by
  rw [eq_ix2 y]
  pointwise [k0_pay1]

theorem pay2_apply (acc : FVec Ideal S384x1024 .f32) (a : FVec Ideal S2048x384 .bf16) (b : FVec Ideal S2048x1024 .bf16) (y : S384x1024.Idx) :
    k0_pay2 (F := Ideal) acc a b y = acc y + ∑ r : Fin 2048, a (ix2 r (y 0)) * b (ix2 r (y 1)) := by
  rw [eq_ix2 y]
  pointwise [k0_pay2, dot_S2048x384_S2048x1024_S384x1024_0_0_1_1_n_n]

/-! ## The accumulation -/

abbrev blkA (t : Fin cfg0.N) : FVec Ideal S2048x384 .bf16 := iblk m c 0 t
abbrev blkB (t : Fin cfg0.N) : FVec Ideal S2048x1024 .bf16 := iblk m c 1 t

/-- At the last step of a run the accumulator holds the sum of the run's block products. -/
theorem acc_eq (t : Fin cfg0.N) (hr : t.val % 2 = 2 - 1) (y : S384x1024.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S384x1024.Idx) :
    (outsAt0 m c t.val t.isLt).1 y = (outsAt0 m c t.val t.isLt).2 y := by
  rw [outsAt0_B m c t (by omega) hr]
  frame_out

/-! ## The whole arrays -/

abbrev argA : FVec Ideal S4096x384 .bf16 := V m c main_arg0
abbrev argB : FVec Ideal S4096x1024 .bf16 := V m c main_v2

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

set_option maxHeartbeats 1000000 in
/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  refine congrArg₂ (fun u v : EReal => u * v) ?_ ?_
  · show V m c main_arg0 _ = V m c main_arg0 _
    generalize V m c main_arg0 = f
    congr 1
    blk_ext [idx0, idx2]
  · show V m c main_v2 _ = V m c main_v2 _
    generalize V m c main_v2 = f
    congr 1
    blk_ext [idx1, idx2]

/-! ## The heads' layout -/
/-- The operations before the launch. -/
abbrev before : List (HloOp τ sig (Elt Ideal)) := [hostOps0, hostOps0_1, hostOps0_2].flatten

abbrev entB := ent (m ((c : Thread nD τ).loc main_arg2) : FVec Ideal S4096x768 .bf16)

theorem zero_bf16 (k : S_.Idx) : (sitofp .bf16 (constantI S_ 32 0#32) : FVec Ideal S_ .bf16) k = 0 := by
  show ((((0#32 : BitVec 32).toInt : ℤ) : ℝ) : EReal) = 0
  simp

/-- The padded array at an entry. -/
theorem argB_cols : Cols (argB m c) (wide 0 96 128 (entB m c)) := by
  apply Cols.of_eq
  · unfold_abbrev_sides
    after_reads_simp
    exact rfl
  · exact (ent_cols _).pad (A := 8) (B := 96) (B' := 128) (l := 0) (hi := 32) rfl rfl (by decide) (sitofp .bf16 (constantI S_ 32 0#32) : FVec Ideal S_ .bf16) h_S_ zero_bf16 _ (by decide) _

/-- The buffers when the launch is done. -/
abbrev V1 := Pipeline.withArrays (cfgs 0).spec c (V0 m c) fun w => (dats m 0 c).arrAt w (cfgs 0).N

abbrev whole : FVec Ideal S384x1024 .f32 := (dats m 0 c).arrAt 2 cfg0.N

theorem V1_whole : (V1 m c (Proc.devRef .tc main_v3) : FVec Ideal S384x1024 .f32) = whole m c :=
  Pipeline.withArrays_arr (cfgs 0).spec (by decide) c (V0 m c) (fun w => (dats m 0 c).arrAt w (cfgs 0).N) 2

theorem whole_cols : Cols (V1 m c (Proc.devRef .tc main_v3) : FVec Ideal S384x1024 .f32) (ent (whole m c)) :=
  Cols.of_eq (V1_whole m c) (ent_cols _)

abbrev result : FVec Ideal S384x768 .f32 := Pipeline.afterTail₀ cfgs (dats m) 0 (V0 m) [hostOps1] c main_v6

/-- The result at an entry, from the array the launch leaves. -/
theorem result_cols : Cols (result m c) (narrow 0 96 128 (ent (whole m c))) := by
  have h := whole_cols m c
  show Cols (StableHlo.after ([hostOps1] : List (List (HloOp τ sig (Elt Ideal)))).flatten (V1 m c) (Proc.devRef .tc main_v6) : FVec Ideal S384x768 .f32) _
  generalize V1 m c = U at h ⊢
  apply Cols.of_eq
  · after_reads_simp
    exact rfl
  · exact h.unpad (A := 8) (B := 96) (B' := 128) (o := 0) rfl rfl (by decide) (by decide) _ _ _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).2 main_v6 (by decide), h.1 c⟩) (θ_run_and (unchanged m ρ) (run_main m ρ))

/-- The reference's result, at the kernel's arguments, is what the kernel leaves. -/
theorem ref2_eq : Cert.DWuqRefIdeal.Read.val_main_v4 (F := Ideal) (m ((c : Thread nD τ).loc main_arg0)) (m ((c : Thread nD τ).loc main_arg2)) = result m c := by
  funext i
  have hj : (i 1).val < 768 := (i 1).isLt
  have hw := congrFun (final2 m c) (ix2 (i 0) ⟨head 96 128 (i 1).val, (by unfold head; omega)⟩)
  refine Eq.trans ?_ (((result_cols m c i).trans rfl).trans ((ent_eq (whole m c) (i 0) ⟨head 96 128 (i 1).val, (by unfold head; omega)⟩).trans hw)).symm
  rw [Cert.DWuqRefIdeal.Read.val_main_v4_apply, Cert.DWuqRefIdeal.Read.val_main_v3_apply]
  refine Finset.sum_congr rfl fun l _ => ?_
  rw [mul_comm]
  refine congrArg₂ (fun u v : EReal => u * v) ?_ ?_
  · exact congrArg (m ((c : Thread nD τ).loc main_arg0)) ((eq_ix2 _).trans rfl)
  · refine Eq.trans ?_ (((argB_cols m c (ix2 l ⟨head 96 128 (i 1).val, (by unfold head; omega)⟩)).trans (wide_head (by decide) (by decide) _ _ _)).trans (ent_eq _ l (i 1))).symm
    exact congrArg (m ((c : Thread nD τ).loc main_arg2)) ((eq_ix2 _).trans rfl)

theorem value : Cert.algebraic_DWuqIdeal_DWuqRefIdeal (hDWuqIdeal := Cert.DWuqIdeal.Gen.facts) (hDWuqRefIdeal := Cert.DWuqRefIdeal.Gen.facts) := by
  intro m g m' g' _ hargs
  refine ⟨fun c => result m c, run_holds m g, ?_⟩
  refine (θ_run _ _ _).mono (fun r h c => ?_) (Cert.DWuqRefIdeal.Value.run m' g')
  obtain ⟨a0, a1, a2⟩ := hargs c
  obtain ⟨r0, rest⟩ := h c
  refine ⟨r0.trans ?_, rest⟩
  rw [Cert.DWuqRefIdeal.Read.val_main_v4_eq, a0, a2]
  exact ref2_eq m c

theorem reference_frame : Cert.quiescent_DWuqRefIdeal (hDWuqRefIdeal := Cert.DWuqRefIdeal.Gen.facts) := by
  intro m g _
  exact (θ_run _ _ _).mono (fun r h => ⟨fun c => (h c).2, sem_eq_zero_of_no_sems (by decide) r.2⟩) (Cert.DWuqRefIdeal.Value.run m g)

end Cert.DWuqIdeal.Prod

end
-- ==== Proof.DCqn.lean ====
/- The gradient of the queries' latent rows: block by block the product over the padded columns, which is the reference's over the heads' columns. -/
module

public import proofs.«01_k».proof.Defs
public import proofs.«01_k».proof.Proof.Heads
public import proofs.«01_k».proof.Proof.Gen.DCqnIdeal.Frame
public import proofs.«01_k».proof.Proof.Gen.DCqnRefIdeal.Run
public import proofs.«01_k».proof.Proof.Gen.DCqnRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DCqnIdeal.Prod

open Cert.DCqnIdeal Cert.DCqnIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S1024x384.Idx) : k0_pay1 (F := Ideal) y = 0 := by
  rw [eq_ix2 y]
  pointwise [k0_pay1]

theorem pay2_apply (acc : FVec Ideal S1024x384 .f32) (a : FVec Ideal S1024x1024 .bf16) (b : FVec Ideal S384x1024 .f32) (y : S1024x384.Idx) :
    k0_pay2 (F := Ideal) acc a b y = acc y + ∑ r : Fin 1024, a (ix2 (y 0) r) * b (ix2 (y 1) r) := by
  rw [eq_ix2 y]
  pointwise [k0_pay2, dot_S1024x1024_S384x1024_S1024x384_1_1_0_0_n_n]

theorem pay3_apply (acc : FVec Ideal S1024x384 .f32)  (y : S1024x384.Idx) :
    k0_pay3 (F := Ideal) acc y = acc y := by
  rw [eq_ix2 y]
  pointwise [k0_pay3]

/-! ## The accumulation -/

abbrev blkA (t : Fin cfg0.N) : FVec Ideal S1024x1024 .bf16 := iblk m c 0 t
abbrev blkB (t : Fin cfg0.N) : FVec Ideal S384x1024 .f32 := iblk m c 1 t

theorem out2_eq (t : Fin cfg0.N) (y : S1024x384.Idx) :
    (outsAt0 m c t) y = (∑ r : Fin 1024, blkA m c t (ix2 (y 0) r) * blkB m c t (ix2 (y 1) r)) := by
  unfold outsAt0
  frame_out
  rw [pay3_apply, pay2_apply, pay1_apply, zero_add]

/-! ## The whole arrays -/

abbrev argA : FVec Ideal S4096x1024 .bf16 := V m c main_v2
abbrev argB : FVec Ideal S384x1024 .f32 := V m c main_v5

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

set_option maxHeartbeats 1000000 in
/-- What the launch leaves in the result. -/
theorem final2 : (dats m 0 c).arrAt 2 cfg0.N = fun i => (∑ l : Fin 1024, argA m c (ix2 (i 0) l) * argB m c (ix2 (i 1) l)) := by
  refine (dats m 0 c).arrAt_eq_of_covers 2 _ (by decide +kernel) fun t hf y => ?_
  blk_simp
  rw [after0_2, out2_eq m c t]
  show (_ : EReal) = _
  refine Finset.sum_congr rfl fun r _ => ?_
  refine congrArg₂ (fun u v : EReal => u * v) ?_ ?_
  · show V m c main_v2 _ = V m c main_v2 _
    generalize V m c main_v2 = f
    congr 1
    blk_ext [idx0, idx2]
  · show V m c main_v5 _ = V m c main_v5 _
    generalize V m c main_v5 = f
    congr 1
    blk_ext [idx1, idx2]

/-! ## The heads' layout -/
/-- The operations before the launch. -/
abbrev before : List (HloOp τ sig (Elt Ideal)) := [hostOps0, hostOps0_1, hostOps0_2, hostOps0_3, hostOps0_4].flatten

abbrev entA := ent (m ((c : Thread nD τ).loc main_arg2) : FVec Ideal S4096x768 .bf16)

abbrev entB := ent (m ((c : Thread nD τ).loc main_arg1) : FVec Ideal S384x768 .f32)

theorem zero_bf16 (k : S_.Idx) : (sitofp .bf16 (constantI S_ 32 0#32) : FVec Ideal S_ .bf16) k = 0 := by
  show ((((0#32 : BitVec 32).toInt : ℤ) : ℝ) : EReal) = 0
  simp

theorem zero_f32 (k : S_.Idx) : (sitofp .f32 (constantI S_ 32 0#32) : FVec Ideal S_ .f32) k = 0 := by
  show ((((0#32 : BitVec 32).toInt : ℤ) : ℝ) : EReal) = 0
  simp

/-- The padded array at an entry. -/
theorem argA_cols : Cols (argA m c) (wide 0 96 128 (entA m c)) := by
  apply Cols.of_eq
  · unfold_abbrev_sides
    after_reads_simp
    exact rfl
  · exact (ent_cols _).pad (A := 8) (B := 96) (B' := 128) (l := 0) (hi := 32) rfl rfl (by decide) (sitofp .bf16 (constantI S_ 32 0#32) : FVec Ideal S_ .bf16) h_S_ zero_bf16 _ (by decide) _

/-- The padded array at an entry. -/
theorem argB_cols : Cols (argB m c) (wide 0 96 128 (entB m c)) := by
  apply Cols.of_eq
  · unfold_abbrev_sides
    after_reads_simp
    exact rfl
  · exact (ent_cols _).pad (A := 8) (B := 96) (B' := 128) (l := 0) (hi := 32) rfl rfl (by decide) (sitofp .f32 (constantI S_ 32 0#32) : FVec Ideal S_ .f32) h_S_ zero_f32 _ (by decide) _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v6) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DCqnRefIdeal.Read.val_main_v4 (F := Ideal) (m ((c : Thread nD τ).loc main_arg1)) (m ((c : Thread nD τ).loc main_arg2)) = (dats m 0 c).arrAt 2 cfg0.N := by
  rw [final2]
  funext i
  show Cert.DCqnRefIdeal.Read.val_main_v3 (F := Ideal) (m ((c : Thread nD τ).loc main_arg1)) (m ((c : Thread nD τ).loc main_arg2)) i = _
  rw [Cert.DCqnRefIdeal.Read.val_main_v3_apply]
  refine (Finset.sum_congr rfl fun j _ => ?_).trans ((sum_spread 8 96 128 rfl rfl (by decide) (by decide) (entA m c (i 0).val) (entB m c (i 1).val)).symm.trans (Finset.sum_congr rfl fun q _ => ?_))
  · refine congrArg₂ (fun u v : EReal => u * v) ?_ ?_
    · refine Eq.trans ?_ (ent_eq _ (i 0) j).symm
      exact congrArg (m ((c : Thread nD τ).loc main_arg2)) ((eq_ix2 _).trans rfl)
    · refine Eq.trans ?_ (ent_eq _ (i 1) j).symm
      exact congrArg (m ((c : Thread nD τ).loc main_arg1)) ((eq_ix2 _).trans rfl)
  · exact congrArg₂ (fun u v : EReal => u * v) ((argA_cols m c (ix2 (i 0) q)).trans (wide_eq ..)).symm ((argB_cols m c (ix2 (i 1) q)).trans (wide_eq ..)).symm

theorem value : Cert.algebraic_DCqnIdeal_DCqnRefIdeal (hDCqnIdeal := Cert.DCqnIdeal.Gen.facts) (hDCqnRefIdeal := Cert.DCqnRefIdeal.Gen.facts) := by
  intro m g m' g' _ hargs
  refine ⟨fun c => (dats m 0 c).arrAt 2 cfg0.N, run_holds m g, ?_⟩
  refine (θ_run _ _ _).mono (fun r h c => ?_) (Cert.DCqnRefIdeal.Value.run m' g')
  obtain ⟨a0, a1, a2⟩ := hargs c
  obtain ⟨r0, rest⟩ := h c
  refine ⟨r0.trans ?_, rest⟩
  rw [Cert.DCqnRefIdeal.Read.val_main_v4_eq, a1, a2]
  exact ref2_eq m c

theorem reference_frame : Cert.quiescent_DCqnRefIdeal (hDCqnRefIdeal := Cert.DCqnRefIdeal.Gen.facts) := by
  intro m g _
  exact (θ_run _ _ _).mono (fun r h => ⟨fun c => (h c).2, sem_eq_zero_of_no_sems (by decide) r.2⟩) (Cert.DCqnRefIdeal.Value.run m g)

end Cert.DCqnIdeal.Prod

end
-- ==== Proof.DWukv.lean ====
/- The gradient of the keys' and values' weight: its steps' sums make one product with the padded gradient, whose columns of the heads are the reference's. -/
module

public import proofs.«01_k».proof.Defs
public import proofs.«01_k».proof.Proof.Heads
public import proofs.«01_k».proof.Proof.Gen.DWukvIdeal.Frame
public import proofs.«01_k».proof.Proof.Gen.DWukvRefIdeal.Run
public import proofs.«01_k».proof.Proof.Gen.DWukvRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWukvIdeal.Prod

open Cert.DWukvIdeal Cert.DWukvIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S256x1024.Idx) : k0_pay1 (F := Ideal) y = 0 := by
  rw [eq_ix2 y]
  pointwise [k0_pay1]

theorem pay2_apply (acc : FVec Ideal S256x1024 .f32) (a : FVec Ideal S2048x256 .bf16) (b : FVec Ideal S2048x1024 .bf16) (y : S256x1024.Idx) :
    k0_pay2 (F := Ideal) acc a b y = acc y + ∑ r : Fin 2048, a (ix2 r (y 0)) * b (ix2 r (y 1)) := by
  rw [eq_ix2 y]
  pointwise [k0_pay2, dot_S2048x256_S2048x1024_S256x1024_0_0_1_1_n_n]

/-! ## The accumulation -/

abbrev blkA (t : Fin cfg0.N) : FVec Ideal S2048x256 .bf16 := iblk m c 0 t
abbrev blkB (t : Fin cfg0.N) : FVec Ideal S2048x1024 .bf16 := iblk m c 1 t

/-- At the last step of a run the accumulator holds the sum of the run's block products. -/
theorem acc_eq (t : Fin cfg0.N) (hr : t.val % 2 = 2 - 1) (y : S256x1024.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S256x1024.Idx) :
    (outsAt0 m c t.val t.isLt).1 y = (outsAt0 m c t.val t.isLt).2 y := by
  rw [outsAt0_B m c t (by omega) hr]
  frame_out

/-! ## The whole arrays -/

abbrev argA : FVec Ideal S4096x256 .bf16 := V m c main_arg0
abbrev argB : FVec Ideal S4096x2048 .bf16 := V m c main_v11

theorem idx0 : ∀ t : Fin cfg0.N, win0_0.index t = ![t.val % 2, 0] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![0, t.val / 2] := (by decide +kernel : ∀ t : Fin grid0.N, _)

set_option maxHeartbeats 1000000 in
/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  refine congrArg₂ (fun u v : EReal => u * v) ?_ ?_
  · show V m c main_arg0 _ = V m c main_arg0 _
    generalize V m c main_arg0 = f
    congr 1
    blk_ext [idx0, idx2]
  · show V m c main_v11 _ = V m c main_v11 _
    generalize V m c main_v11 = f
    congr 1
    blk_ext [idx1, idx2]

/-! ## The heads' layout -/
/-- The operations before the launch. -/
abbrev before : List (HloOp τ sig (Elt Ideal)) := [hostOps0, hostOps0_1, hostOps0_2, hostOps0_3, hostOps0_4].flatten

abbrev entB := ent (m ((c : Thread nD τ).loc main_arg2) : FVec Ideal S4096x1024 .bf16)

theorem zero_bf16 (k : S_.Idx) : (sitofp .bf16 (constantI S_ 32 0#32) : FVec Ideal S_ .bf16) k = 0 := by
  show ((((0#32 : BitVec 32).toInt : ℤ) : ℝ) : EReal) = 0
  simp

theorem keys : Cols (StableHlo.upto before (fun b => m (c, b)) 15 (Proc.devRef .tc main_v5) : FVec Ideal S4096x1024 .bf16)
    (wide 0 64 128 (narrow 0 64 128 (entB m c))) := by
  refine Cols.of_eq (y := shapeCast (Mat 4096 1024) (pad (Blk 4096 8 128) ![0, 0, 0] ![0, 0, 64] ![0, 0, 0] (shapeCast (Blk 4096 8 64)
    (shapeCast (Mat 4096 512) (extractStridedSlice (Blk 4096 8 64) ![0, 0, 0] (shapeCast (s := Mat 4096 1024) (Blk 4096 8 128)
      (m ((c : Thread nD τ).loc main_arg2) : FVec Ideal S4096x1024 .bf16) (by decide)) (by decide)) (by decide)) (by decide))
    (sitofp .bf16 (constantI S_ 32 0#32) : FVec Ideal S_ .bf16) (by decide) h_S_) (by decide)) ?_ ?_
  · after_reads_simp
    exact rfl
  · exact Cols.pad (A := 8) (B := 64) (B' := 128) (Cols.unpad (A := 8) (B := 64) (B' := 128) (o := 0) (ent_cols _) rfl rfl (by decide) (by decide) _ _ _) rfl rfl (by decide) (sitofp .bf16 (constantI S_ 32 0#32) : FVec Ideal S_ .bf16) h_S_ zero_bf16 _ _ _

theorem values : Cols (StableHlo.upto before (fun b => m (c, b)) 15 (Proc.devRef .tc main_v10) : FVec Ideal S4096x1024 .bf16)
    (wide 0 64 128 (narrow 64 64 128 (entB m c))) := by
  refine Cols.of_eq (y := shapeCast (Mat 4096 1024) (pad (Blk 4096 8 128) ![0, 0, 0] ![0, 0, 64] ![0, 0, 0] (shapeCast (Blk 4096 8 64)
    (shapeCast (Mat 4096 512) (extractStridedSlice (Blk 4096 8 64) ![0, 0, 64] (shapeCast (s := Mat 4096 1024) (Blk 4096 8 128)
      (m ((c : Thread nD τ).loc main_arg2) : FVec Ideal S4096x1024 .bf16) (by decide)) (by decide)) (by decide)) (by decide))
    (sitofp .bf16 (constantI S_ 32 0#32) : FVec Ideal S_ .bf16) (by decide) h_S_) (by decide)) ?_ ?_
  · after_reads_simp
    exact rfl
  · exact Cols.pad (A := 8) (B := 64) (B' := 128) (Cols.unpad (A := 8) (B := 64) (B' := 128) (o := 64) (ent_cols _) rfl rfl (by decide) (by decide) _ _ _) rfl rfl (by decide) (sitofp .bf16 (constantI S_ 32 0#32) : FVec Ideal S_ .bf16) h_S_ zero_bf16 _ _ _

/-- The padded array at an entry. -/
theorem argB_cols : Cols (argB m c) (parted (entB m c)) := by
  apply Cols.of_eq
  · unfold_abbrev_sides
    after_reads_simp
    exact rfl
  · exact Cols.side (.cons (keys m c) (.cons (values m c) .nil)) _

/-- The buffers when the launch is done. -/
abbrev V1 := Pipeline.withArrays (cfgs 0).spec c (V0 m c) fun w => (dats m 0 c).arrAt w (cfgs 0).N

abbrev whole : FVec Ideal S256x2048 .f32 := (dats m 0 c).arrAt 2 cfg0.N

theorem V1_whole : (V1 m c (Proc.devRef .tc main_v12) : FVec Ideal S256x2048 .f32) = whole m c :=
  Pipeline.withArrays_arr (cfgs 0).spec (by decide) c (V0 m c) (fun w => (dats m 0 c).arrAt w (cfgs 0).N) 2

theorem whole_cols : Cols (V1 m c (Proc.devRef .tc main_v12) : FVec Ideal S256x2048 .f32) (ent (whole m c)) :=
  Cols.of_eq (V1_whole m c) (ent_cols _)

theorem someKeys : Blocks (StableHlo.upto ([hostOps1] : List (List (HloOp τ sig (Elt Ideal)))).flatten (V1 m c) 10 (Proc.devRef .tc main_v17) : FVec Ideal S256x8x64 .f32)
    (narrow 0 64 128 (shift 0 (ent (whole m c)))) := by
  have h := whole_cols m c
  generalize V1 m c = U at h ⊢
  apply Blocks.of_eq
  · after_reads_simp
    exact rfl
  · exact ((h.slice _).unpad (A := 8) (B := 64) (B' := 128) (o := 0) rfl rfl (by decide) (by decide) _ _ _).blocks rfl _

theorem someValues : Blocks (StableHlo.upto ([hostOps1] : List (List (HloOp τ sig (Elt Ideal)))).flatten (V1 m c) 10 (Proc.devRef .tc main_v22) : FVec Ideal S256x8x64 .f32)
    (narrow 0 64 128 (shift 1024 (ent (whole m c)))) := by
  have h := whole_cols m c
  generalize V1 m c = U at h ⊢
  apply Blocks.of_eq
  · after_reads_simp
    exact rfl
  · exact ((h.slice _).unpad (A := 8) (B := 64) (B' := 128) (o := 0) rfl rfl (by decide) (by decide) _ _ _).blocks rfl _

abbrev result : FVec Ideal S256x1024 .f32 := Pipeline.afterTail₀ cfgs (dats m) 0 (V0 m) [hostOps1] c main_v24

/-- The result at an entry, from the array the launch leaves. -/
theorem result_cols : Cols (result m c) (rejoined (ent (whole m c))) := by
  apply Cols.of_eq
  · show StableHlo.after ([hostOps1] : List (List (HloOp τ sig (Elt Ideal)))).flatten (V1 m c) (Proc.devRef .tc main_v24) = _
    after_reads_simp
    exact rfl
  · exact Blocks.both (someKeys m c) (someValues m c) (A := 8) (B := 64) (B' := 128) rfl rfl (by decide) _ _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).2 main_v24 (by decide), h.1 c⟩) (θ_run_and (unchanged m ρ) (run_main m ρ))

/-- The reference's result, at the kernel's arguments, is what the kernel leaves. -/
theorem ref2_eq : Cert.DWukvRefIdeal.Read.val_main_v4 (F := Ideal) (m ((c : Thread nD τ).loc main_arg0)) (m ((c : Thread nD τ).loc main_arg2)) = result m c := by
  funext i
  have hj : (i 1).val < 1024 := (i 1).isLt
  have hw := congrFun (final2 m c) (ix2 (i 0) ⟨spot (i 1).val, spot_lt _ hj⟩)
  refine Eq.trans ?_ (((result_cols m c i).trans (rejoined_eq _ _ _ hj)).trans ((ent_eq (whole m c) (i 0) ⟨spot (i 1).val, spot_lt _ hj⟩).trans hw)).symm
  rw [Cert.DWukvRefIdeal.Read.val_main_v4_apply, Cert.DWukvRefIdeal.Read.val_main_v3_apply]
  refine Finset.sum_congr rfl fun l _ => ?_
  rw [mul_comm]
  refine congrArg₂ (fun u v : EReal => u * v) ?_ ?_
  · exact congrArg (m ((c : Thread nD τ).loc main_arg0)) ((eq_ix2 _).trans rfl)
  · refine Eq.trans ?_ (((argB_cols m c (ix2 l ⟨spot (i 1).val, spot_lt _ hj⟩)).trans (parted_spot _ _ _ hj)).trans (ent_eq _ l (i 1))).symm
    exact congrArg (m ((c : Thread nD τ).loc main_arg2)) ((eq_ix2 _).trans rfl)

theorem value : Cert.algebraic_DWukvIdeal_DWukvRefIdeal (hDWukvIdeal := Cert.DWukvIdeal.Gen.facts) (hDWukvRefIdeal := Cert.DWukvRefIdeal.Gen.facts) := by
  intro m g m' g' _ hargs
  refine ⟨fun c => result m c, run_holds m g, ?_⟩
  refine (θ_run _ _ _).mono (fun r h c => ?_) (Cert.DWukvRefIdeal.Value.run m' g')
  obtain ⟨a0, a1, a2⟩ := hargs c
  obtain ⟨r0, rest⟩ := h c
  refine ⟨r0.trans ?_, rest⟩
  rw [Cert.DWukvRefIdeal.Read.val_main_v4_eq, a0, a2]
  exact ref2_eq m c

theorem reference_frame : Cert.quiescent_DWukvRefIdeal (hDWukvRefIdeal := Cert.DWukvRefIdeal.Gen.facts) := by
  intro m g _
  exact (θ_run _ _ _).mono (fun r h => ⟨fun c => (h c).2, sem_eq_zero_of_no_sems (by decide) r.2⟩) (Cert.DWukvRefIdeal.Value.run m g)

end Cert.DWukvIdeal.Prod

end
-- ==== Proof.DCkvn.lean ====
/- The gradient of the keys' and values' latent rows: block by block the product over the padded columns, which is the reference's over the heads' columns. -/
module

public import proofs.«01_k».proof.Defs
public import proofs.«01_k».proof.Proof.Heads
public import proofs.«01_k».proof.Proof.Gen.DCkvnIdeal.Frame
public import proofs.«01_k».proof.Proof.Gen.DCkvnRefIdeal.Run
public import proofs.«01_k».proof.Proof.Gen.DCkvnRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DCkvnIdeal.Prod

open Cert.DCkvnIdeal Cert.DCkvnIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S1024x256.Idx) : k0_pay1 (F := Ideal) y = 0 := by
  rw [eq_ix2 y]
  pointwise [k0_pay1]

theorem pay2_apply (acc : FVec Ideal S1024x256 .f32) (a : FVec Ideal S1024x2048 .bf16) (b : FVec Ideal S256x2048 .f32) (y : S1024x256.Idx) :
    k0_pay2 (F := Ideal) acc a b y = acc y + ∑ r : Fin 2048, a (ix2 (y 0) r) * b (ix2 (y 1) r) := by
  rw [eq_ix2 y]
  pointwise [k0_pay2, dot_S1024x2048_S256x2048_S1024x256_1_1_0_0_n_n]

theorem pay3_apply (acc : FVec Ideal S1024x256 .f32)  (y : S1024x256.Idx) :
    k0_pay3 (F := Ideal) acc y = acc y := by
  rw [eq_ix2 y]
  pointwise [k0_pay3]

/-! ## The accumulation -/

abbrev blkA (t : Fin cfg0.N) : FVec Ideal S1024x2048 .bf16 := iblk m c 0 t
abbrev blkB (t : Fin cfg0.N) : FVec Ideal S256x2048 .f32 := iblk m c 1 t

theorem out2_eq (t : Fin cfg0.N) (y : S1024x256.Idx) :
    (outsAt0 m c t) y = (∑ r : Fin 2048, blkA m c t (ix2 (y 0) r) * blkB m c t (ix2 (y 1) r)) := by
  unfold outsAt0
  frame_out
  rw [pay3_apply, pay2_apply, pay1_apply, zero_add]

/-! ## The whole arrays -/

abbrev argA : FVec Ideal S4096x2048 .bf16 := V m c main_v11
abbrev argB : FVec Ideal S256x2048 .f32 := V m c main_v23

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

set_option maxHeartbeats 1000000 in
/-- What the launch leaves in the result. -/
theorem final2 : (dats m 0 c).arrAt 2 cfg0.N = fun i => (∑ l : Fin 2048, argA m c (ix2 (i 0) l) * argB m c (ix2 (i 1) l)) := by
  refine (dats m 0 c).arrAt_eq_of_covers 2 _ (by decide +kernel) fun t hf y => ?_
  blk_simp
  rw [after0_2, out2_eq m c t]
  show (_ : EReal) = _
  refine Finset.sum_congr rfl fun r _ => ?_
  refine congrArg₂ (fun u v : EReal => u * v) ?_ ?_
  · show V m c main_v11 _ = V m c main_v11 _
    generalize V m c main_v11 = f
    congr 1
    blk_ext [idx0, idx2]
  · show V m c main_v23 _ = V m c main_v23 _
    generalize V m c main_v23 = f
    congr 1
    blk_ext [idx1, idx2]

/-! ## The heads' layout -/
/-- The operations before the launch. -/
abbrev before : List (HloOp τ sig (Elt Ideal)) := [hostOps0, hostOps0_1, hostOps0_2, hostOps0_3, hostOps0_4, hostOps0_5, hostOps0_6, hostOps0_7, hostOps0_8].flatten

abbrev entA := ent (m ((c : Thread nD τ).loc main_arg2) : FVec Ideal S4096x1024 .bf16)

abbrev entB := ent (m ((c : Thread nD τ).loc main_arg1) : FVec Ideal S256x1024 .f32)

theorem zero_bf16 (k : S_.Idx) : (sitofp .bf16 (constantI S_ 32 0#32) : FVec Ideal S_ .bf16) k = 0 := by
  show ((((0#32 : BitVec 32).toInt : ℤ) : ℝ) : EReal) = 0
  simp

theorem zero_f32 (k : S_.Idx) : (sitofp .f32 (constantI S_ 32 0#32) : FVec Ideal S_ .f32) k = 0 := by
  show ((((0#32 : BitVec 32).toInt : ℤ) : ℝ) : EReal) = 0
  simp

theorem keysA : Cols (StableHlo.upto before (fun b => m (c, b)) 15 (Proc.devRef .tc main_v5) : FVec Ideal S4096x1024 .bf16)
    (wide 0 64 128 (narrow 0 64 128 (entA m c))) := by
  refine Cols.of_eq (y := shapeCast (Mat 4096 1024) (pad (Blk 4096 8 128) ![0, 0, 0] ![0, 0, 64] ![0, 0, 0] (shapeCast (Blk 4096 8 64)
    (shapeCast (Mat 4096 512) (extractStridedSlice (Blk 4096 8 64) ![0, 0, 0] (shapeCast (s := Mat 4096 1024) (Blk 4096 8 128)
      (m ((c : Thread nD τ).loc main_arg2) : FVec Ideal S4096x1024 .bf16) (by decide)) (by decide)) (by decide)) (by decide))
    (sitofp .bf16 (constantI S_ 32 0#32) : FVec Ideal S_ .bf16) (by decide) h_S_) (by decide)) ?_ ?_
  · after_reads_simp
    exact rfl
  · exact Cols.pad (A := 8) (B := 64) (B' := 128) (Cols.unpad (A := 8) (B := 64) (B' := 128) (o := 0) (ent_cols _) rfl rfl (by decide) (by decide) _ _ _) rfl rfl (by decide) (sitofp .bf16 (constantI S_ 32 0#32) : FVec Ideal S_ .bf16) h_S_ zero_bf16 _ _ _

theorem valuesA : Cols (StableHlo.upto before (fun b => m (c, b)) 15 (Proc.devRef .tc main_v10) : FVec Ideal S4096x1024 .bf16)
    (wide 0 64 128 (narrow 64 64 128 (entA m c))) := by
  refine Cols.of_eq (y := shapeCast (Mat 4096 1024) (pad (Blk 4096 8 128) ![0, 0, 0] ![0, 0, 64] ![0, 0, 0] (shapeCast (Blk 4096 8 64)
    (shapeCast (Mat 4096 512) (extractStridedSlice (Blk 4096 8 64) ![0, 0, 64] (shapeCast (s := Mat 4096 1024) (Blk 4096 8 128)
      (m ((c : Thread nD τ).loc main_arg2) : FVec Ideal S4096x1024 .bf16) (by decide)) (by decide)) (by decide)) (by decide))
    (sitofp .bf16 (constantI S_ 32 0#32) : FVec Ideal S_ .bf16) (by decide) h_S_) (by decide)) ?_ ?_
  · after_reads_simp
    exact rfl
  · exact Cols.pad (A := 8) (B := 64) (B' := 128) (Cols.unpad (A := 8) (B := 64) (B' := 128) (o := 64) (ent_cols _) rfl rfl (by decide) (by decide) _ _ _) rfl rfl (by decide) (sitofp .bf16 (constantI S_ 32 0#32) : FVec Ideal S_ .bf16) h_S_ zero_bf16 _ _ _

/-- The padded array at an entry. -/
theorem argA_cols : Cols (argA m c) (parted (entA m c)) := by
  apply Cols.of_eq
  · unfold_abbrev_sides
    after_reads_simp
    exact rfl
  · exact Cols.side (.cons (keysA m c) (.cons (valuesA m c) .nil)) _

theorem keysB : Cols (StableHlo.upto before (fun b => m (c, b)) 31 (Proc.devRef .tc main_v17) : FVec Ideal S256x1024 .f32)
    (wide 0 64 128 (narrow 0 64 128 (entB m c))) := by
  refine Cols.of_eq (y := shapeCast (Mat 256 1024) (pad (Blk 256 8 128) ![0, 0, 0] ![0, 0, 64] ![0, 0, 0] (shapeCast (Blk 256 8 64)
    (shapeCast (Mat 256 512) (extractStridedSlice (Blk 256 8 64) ![0, 0, 0] (shapeCast (s := Mat 256 1024) (Blk 256 8 128)
      (m ((c : Thread nD τ).loc main_arg1) : FVec Ideal S256x1024 .f32) (by decide)) (by decide)) (by decide)) (by decide))
    (sitofp .f32 (constantI S_ 32 0#32) : FVec Ideal S_ .f32) (by decide) h_S_) (by decide)) ?_ ?_
  · after_reads_simp
    exact rfl
  · exact Cols.pad (A := 8) (B := 64) (B' := 128) (Cols.unpad (A := 8) (B := 64) (B' := 128) (o := 0) (ent_cols _) rfl rfl (by decide) (by decide) _ _ _) rfl rfl (by decide) (sitofp .f32 (constantI S_ 32 0#32) : FVec Ideal S_ .f32) h_S_ zero_f32 _ _ _

theorem valuesB : Cols (StableHlo.upto before (fun b => m (c, b)) 31 (Proc.devRef .tc main_v22) : FVec Ideal S256x1024 .f32)
    (wide 0 64 128 (narrow 64 64 128 (entB m c))) := by
  refine Cols.of_eq (y := shapeCast (Mat 256 1024) (pad (Blk 256 8 128) ![0, 0, 0] ![0, 0, 64] ![0, 0, 0] (shapeCast (Blk 256 8 64)
    (shapeCast (Mat 256 512) (extractStridedSlice (Blk 256 8 64) ![0, 0, 64] (shapeCast (s := Mat 256 1024) (Blk 256 8 128)
      (m ((c : Thread nD τ).loc main_arg1) : FVec Ideal S256x1024 .f32) (by decide)) (by decide)) (by decide)) (by decide))
    (sitofp .f32 (constantI S_ 32 0#32) : FVec Ideal S_ .f32) (by decide) h_S_) (by decide)) ?_ ?_
  · after_reads_simp
    exact rfl
  · exact Cols.pad (A := 8) (B := 64) (B' := 128) (Cols.unpad (A := 8) (B := 64) (B' := 128) (o := 64) (ent_cols _) rfl rfl (by decide) (by decide) _ _ _) rfl rfl (by decide) (sitofp .f32 (constantI S_ 32 0#32) : FVec Ideal S_ .f32) h_S_ zero_f32 _ _ _

/-- The padded array at an entry. -/
theorem argB_cols : Cols (argB m c) (parted (entB m c)) := by
  apply Cols.of_eq
  · unfold_abbrev_sides
    after_reads_simp
    exact rfl
  · exact Cols.side (.cons (keysB m c) (.cons (valuesB m c) .nil)) _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v24) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DCkvnRefIdeal.Read.val_main_v4 (F := Ideal) (m ((c : Thread nD τ).loc main_arg1)) (m ((c : Thread nD τ).loc main_arg2)) = (dats m 0 c).arrAt 2 cfg0.N := by
  rw [final2]
  funext i
  show Cert.DCkvnRefIdeal.Read.val_main_v3 (F := Ideal) (m ((c : Thread nD τ).loc main_arg1)) (m ((c : Thread nD τ).loc main_arg2)) i = _
  rw [Cert.DCkvnRefIdeal.Read.val_main_v3_apply]
  refine (Finset.sum_congr rfl fun j _ => ?_).trans ((sum_parted (entA m c) (entB m c) (i 0).val (i 1).val).symm.trans (Finset.sum_congr rfl fun q _ => ?_))
  · refine congrArg₂ (fun u v : EReal => u * v) ?_ ?_
    · refine Eq.trans ?_ (ent_eq _ (i 0) j).symm
      exact congrArg (m ((c : Thread nD τ).loc main_arg2)) ((eq_ix2 _).trans rfl)
    · refine Eq.trans ?_ (ent_eq _ (i 1) j).symm
      exact congrArg (m ((c : Thread nD τ).loc main_arg1)) ((eq_ix2 _).trans rfl)
  · exact congrArg₂ (fun u v : EReal => u * v) ((argA_cols m c (ix2 (i 0) q)).trans rfl).symm ((argB_cols m c (ix2 (i 1) q)).trans rfl).symm

theorem value : Cert.algebraic_DCkvnIdeal_DCkvnRefIdeal (hDCkvnIdeal := Cert.DCkvnIdeal.Gen.facts) (hDCkvnRefIdeal := Cert.DCkvnRefIdeal.Gen.facts) := by
  intro m g m' g' _ hargs
  refine ⟨fun c => (dats m 0 c).arrAt 2 cfg0.N, run_holds m g, ?_⟩
  refine (θ_run _ _ _).mono (fun r h c => ?_) (Cert.DCkvnRefIdeal.Value.run m' g')
  obtain ⟨a0, a1, a2⟩ := hargs c
  obtain ⟨r0, rest⟩ := h c
  refine ⟨r0.trans ?_, rest⟩
  rw [Cert.DCkvnRefIdeal.Read.val_main_v4_eq, a1, a2]
  exact ref2_eq m c

theorem reference_frame : Cert.quiescent_DCkvnRefIdeal (hDCkvnRefIdeal := Cert.DCkvnRefIdeal.Gen.facts) := by
  intro m g _
  exact (θ_run _ _ _).mono (fun r h => ⟨fun c => (h c).2, sem_eq_zero_of_no_sems (by decide) r.2⟩) (Cert.DCkvnRefIdeal.Value.run m g)

end Cert.DCkvnIdeal.Prod

end
-- ==== Proof.Uq.lean ====
/- The queries: block by block the product with the padded weight, whose columns of the heads are the reference's. -/
module

public import proofs.«01_k».proof.Defs
public import proofs.«01_k».proof.Proof.Heads
public import proofs.«01_k».proof.Proof.Gen.UqIdeal.Frame
public import proofs.«01_k».proof.Proof.Gen.UqRefIdeal.Run
public import proofs.«01_k».proof.Proof.Gen.UqRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.UqIdeal.Prod

open Cert.UqIdeal Cert.UqIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x384 .bf16) (b : FVec Ideal S384x1024 .f32) (y : S1024x1024.Idx) :
    k0_pay2 (F := Ideal) acc a b y = acc y + ∑ r : Fin 384, a (ix2 (y 0) r) * b (ix2 r (y 1)) := by
  rw [eq_ix2 y]
  pointwise [k0_pay2, dot_S1024x384_S384x1024_S1024x1024_1_0_0_1_n_n]

/-! ## The accumulation -/

abbrev blkA (t : Fin cfg0.N) : FVec Ideal S1024x384 .bf16 := iblk m c 0 t
abbrev blkB (t : Fin cfg0.N) : FVec Ideal S384x1024 .f32 := iblk m c 1 t

theorem out2_eq (t : Fin cfg0.N) (y : S1024x1024.Idx) :
    (outsAt0 m c t) y = (∑ r : Fin 384, blkA m c t (ix2 (y 0) r) * blkB m c t (ix2 r (y 1))) := by
  unfold outsAt0
  frame_out
  rw [pay2_apply, pay1_apply, zero_add]

/-! ## The whole arrays -/

abbrev argA : FVec Ideal S4096x384 .bf16 := V m c main_arg0
abbrev argB : FVec Ideal S384x1024 .f32 := V m c main_v2

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

set_option maxHeartbeats 1000000 in
/-- What the launch leaves in the result. -/
theorem final2 : (dats m 0 c).arrAt 2 cfg0.N = fun i => (∑ l : Fin 384, argA m c (ix2 (i 0) l) * argB m c (ix2 l (i 1))) := by
  refine (dats m 0 c).arrAt_eq_of_covers 2 _ (by decide +kernel) fun t hf y => ?_
  blk_simp
  rw [after0_2, out2_eq m c t]
  show (_ : EReal) = _
  refine Finset.sum_congr rfl fun r _ => ?_
  refine congrArg₂ (fun u v : EReal => u * v) ?_ ?_
  · show V m c main_arg0 _ = V m c main_arg0 _
    generalize V m c main_arg0 = f
    congr 1
    blk_ext [idx0, idx2]
  · show V m c main_v2 _ = V m c main_v2 _
    generalize V m c main_v2 = f
    congr 1
    blk_ext [idx1, idx2]

/-! ## The heads' layout -/
/-- The operations before the launch. -/
abbrev before : List (HloOp τ sig (Elt Ideal)) := [hostOps0, hostOps0_1, hostOps0_2].flatten

abbrev entB := ent (m ((c : Thread nD τ).loc main_arg1) : FVec Ideal S384x768 .f32)

theorem zero_f32 (k : S_.Idx) : (sitofp .f32 (constantI S_ 32 0#32) : FVec Ideal S_ .f32) k = 0 := by
  show ((((0#32 : BitVec 32).toInt : ℤ) : ℝ) : EReal) = 0
  simp

/-- The padded array at an entry. -/
theorem argB_cols : Cols (argB m c) (wide 0 96 128 (entB m c)) := by
  apply Cols.of_eq
  · unfold_abbrev_sides
    after_reads_simp
    exact rfl
  · exact (ent_cols _).pad (A := 8) (B := 96) (B' := 128) (l := 0) (hi := 32) rfl rfl (by decide) (sitofp .f32 (constantI S_ 32 0#32) : FVec Ideal S_ .f32) h_S_ zero_f32 _ (by decide) _

/-- The buffers when the launch is done. -/
abbrev V1 := Pipeline.withArrays (cfgs 0).spec c (V0 m c) fun w => (dats m 0 c).arrAt w (cfgs 0).N

abbrev whole : FVec Ideal S4096x1024 .f32 := (dats m 0 c).arrAt 2 cfg0.N

theorem V1_whole : (V1 m c (Proc.devRef .tc main_v3) : FVec Ideal S4096x1024 .f32) = whole m c :=
  Pipeline.withArrays_arr (cfgs 0).spec (by decide) c (V0 m c) (fun w => (dats m 0 c).arrAt w (cfgs 0).N) 2

theorem whole_cols : Cols (V1 m c (Proc.devRef .tc main_v3) : FVec Ideal S4096x1024 .f32) (ent (whole m c)) :=
  Cols.of_eq (V1_whole m c) (ent_cols _)

abbrev result : FVec Ideal S4096x768 .f32 := Pipeline.afterTail₀ cfgs (dats m) 0 (V0 m) [hostOps1] c main_v6

/-- The result at an entry, from the array the launch leaves. -/
theorem result_cols : Cols (result m c) (narrow 0 96 128 (ent (whole m c))) := by
  have h := whole_cols m c
  show Cols (StableHlo.after ([hostOps1] : List (List (HloOp τ sig (Elt Ideal)))).flatten (V1 m c) (Proc.devRef .tc main_v6) : FVec Ideal S4096x768 .f32) _
  generalize V1 m c = U at h ⊢
  apply Cols.of_eq
  · after_reads_simp
    exact rfl
  · exact h.unpad (A := 8) (B := 96) (B' := 128) (o := 0) rfl rfl (by decide) (by decide) _ _ _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h.2 c).2 main_v6 (by decide), h.1 c⟩) (θ_run_and (unchanged m ρ) (run_main m ρ))

/-- The reference's result, at the kernel's arguments, is what the kernel leaves. -/
theorem ref2_eq : Cert.UqRefIdeal.Read.val_main_v1 (F := Ideal) (m ((c : Thread nD τ).loc main_arg0)) (m ((c : Thread nD τ).loc main_arg1)) = result m c := by
  funext i
  have hj : (i 1).val < 768 := (i 1).isLt
  have hw := congrFun (final2 m c) (ix2 (i 0) ⟨head 96 128 (i 1).val, (by unfold head; omega)⟩)
  refine Eq.trans ?_ (((result_cols m c i).trans rfl).trans ((ent_eq (whole m c) (i 0) ⟨head 96 128 (i 1).val, (by unfold head; omega)⟩).trans hw)).symm
  rw [Cert.UqRefIdeal.Read.val_main_v1_apply]
  refine Finset.sum_congr rfl fun l _ => ?_
  refine congrArg₂ (fun u v : EReal => u * v) ?_ ?_
  · exact congrArg (m ((c : Thread nD τ).loc main_arg0)) ((eq_ix2 _).trans rfl)
  · refine Eq.trans ?_ (((argB_cols m c (ix2 l ⟨head 96 128 (i 1).val, (by unfold head; omega)⟩)).trans (wide_head (by decide) (by decide) _ _ _)).trans (ent_eq _ l (i 1))).symm
    exact congrArg (m ((c : Thread nD τ).loc main_arg1)) ((eq_ix2 _).trans rfl)

theorem value : Cert.algebraic_UqIdeal_UqRefIdeal (hUqIdeal := Cert.UqIdeal.Gen.facts) (hUqRefIdeal := Cert.UqRefIdeal.Gen.facts) := by
  intro m g m' g' _ hargs
  refine ⟨fun c => result m c, run_holds m g, ?_⟩
  refine (θ_run _ _ _).mono (fun r h c => ?_) (Cert.UqRefIdeal.Value.run m' g')
  obtain ⟨a0, a1⟩ := hargs c
  obtain ⟨r0, rest⟩ := h c
  refine ⟨r0.trans ?_, rest⟩
  rw [Cert.UqRefIdeal.Read.val_main_v1_eq, a0, a1]
  exact ref2_eq m c

theorem reference_frame : Cert.quiescent_UqRefIdeal (hUqRefIdeal := Cert.UqRefIdeal.Gen.facts) := by
  intro m g _
  exact (θ_run _ _ _).mono (fun r h => ⟨fun c => (h c).2, sem_eq_zero_of_no_sems (by decide) r.2⟩) (Cert.UqRefIdeal.Value.run m g)

end Cert.UqIdeal.Prod

end
-- ==== Proof.Ukv.lean ====
/- The keys and values: block by block the product with the padded weight, whose columns of the heads are the reference's. -/
module

public import proofs.«01_k».proof.Defs
public import proofs.«01_k».proof.Proof.Heads
public import proofs.«01_k».proof.Proof.Gen.UkvIdeal.Frame
public import proofs.«01_k».proof.Proof.Gen.UkvRefIdeal.Run
public import proofs.«01_k».proof.Proof.Gen.UkvRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.UkvIdeal.Prod

open Cert.UkvIdeal Cert.UkvIdeal.Gen Idealize.ShloMosaic Idealize.ShloMosaic.TcCoe Idealize.SL.Sem Cert.Layout

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x256 .bf16) (b : FVec Ideal S256x1024 .f32) (y : S1024x1024.Idx) :
    k0_pay2 (F := Ideal) acc a b y = acc y + ∑ r : Fin 256, a (ix2 (y 0) r) * b (ix2 r (y 1)) := by
  rw [eq_ix2 y]
  pointwise [k0_pay2, dot_S1024x256_S256x1024_S1024x1024_1_0_0_1_n_n]

/-! ## The accumulation -/

abbrev blkA (t : Fin cfg0.N) : FVec Ideal S1024x256 .bf16 := iblk m c 0 t
abbrev blkB (t : Fin cfg0.N) : FVec Ideal S256x1024 .f32 := iblk m c 1 t

theorem out2_eq (t : Fin cfg0.N) (y : S1024x1024.Idx) :
    (outsAt0 m c t) y = (∑ r : Fin 256, blkA m c t (ix2 (y 0) r) * blkB m c t (ix2 r (y 1))) := by
  unfold outsAt0
  frame_out
  rw [pay2_apply, pay1_apply, zero_add]

/-! ## The whole arrays -/

abbrev argA : FVec Ideal S4096x256 .bf16 := V m c main_arg0
abbrev argB : FVec Ideal S256x2048 .f32 := V m c main_v11

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

set_option maxHeartbeats 1000000 in
/-- What the launch leaves in the result. -/
theorem final2 : (dats m 0 c).arrAt 2 cfg0.N = fun i => (∑ l : Fin 256, argA m c (ix2 (i 0) l) * argB m c (ix2 l (i 1))) := by
  refine (dats m 0 c).arrAt_eq_of_covers 2 _ (by decide +kernel) fun t hf y => ?_
  blk_simp
  rw [after0_2, out2_eq m c t]
  show (_ : EReal) = _
  refine Finset.sum_congr rfl fun r _ => ?_
  refine congrArg₂ (fun u v : EReal => u * v) ?_ ?_
  · show V m c main_arg0 _ = V m c main_arg0 _
    generalize V m c main_arg0 = f
    congr 1
    blk_ext [idx0, idx2]
  · show V m c main_v11 _ = V m c main_v11 _
    generalize V m c main_v11 = f
    congr 1
    blk_ext [idx1, idx2]

/-! ## The heads' layout -/
/-- The operations before the launch. -/
abbrev before : List (HloOp τ sig (Elt Ideal)) := [hostOps0, hostOps0_1, hostOps0_2, hostOps0_3, hostOps0_4].flatten

abbrev entB := ent (m ((c : Thread nD τ).loc main_arg1) : FVec Ideal S256x1024 .f32)

theorem zero_f32 (k : S_.Idx) : (sitofp .f32 (constantI S_ 32 0#32) : FVec Ideal S_ .f32) k = 0 := by
  show ((((0#32 : BitVec 32).toInt : ℤ) : ℝ) : EReal) = 0
  simp

theorem keys : Cols (StableHlo.upto before (fun b => m (c, b)) 15 (Proc.devRef .tc main_v5) : FVec Ideal S256x1024 .f32)
    (wide 0 64 128 (narrow 0 64 128 (entB m c))) := by
  refine Cols.of_eq (y := shapeCast (Mat 256 1024) (pad (Blk 256 8 128) ![0, 0, 0] ![0, 0, 64] ![0, 0, 0] (shapeCast (Blk 256 8 64)
    (shapeCast (Mat 256 512) (extractStridedSlice (Blk 256 8 64) ![0, 0, 0] (shapeCast (s := Mat 256 1024) (Blk 256 8 128)
      (m ((c : Thread nD τ).loc main_arg1) : FVec Ideal S256x1024 .f32) (by decide)) (by decide)) (by decide)) (by decide))
    (sitofp .f32 (constantI S_ 32 0#32) : FVec Ideal S_ .f32) (by decide) h_S_) (by decide)) ?_ ?_
  · after_reads_simp
    exact rfl
  · exact Cols.pad (A := 8) (B := 64) (B' := 128) (Cols.unpad (A := 8) (B := 64) (B' := 128) (o := 0) (ent_cols _) rfl rfl (by decide) (by decide) _ _ _) rfl rfl (by decide) (sitofp .f32 (constantI S_ 32 0#32) : FVec Ideal S_ .f32) h_S_ zero_f32 _ _ _

theorem values : Cols (StableHlo.upto before (fun b => m (c, b)) 15 (Proc.devRef .tc main_v10) : FVec Ideal S256x1024 .f32)
    (wide 0 64 128 (narrow 64 64 128 (entB m c))) := by
  refine Cols.of_eq (y := shapeCast (Mat 256 1024) (pad (Blk 256 8 128) ![0, 0, 0] ![0, 0, 64] ![0, 0, 0] (shapeCast (Blk 256 8 64)
    (shapeCast (Mat 256 512) (extractStridedSlice (Blk 256 8 64) ![0, 0, 64] (shapeCast (s := Mat 256 1024) (Blk 256 8 128)
      (m ((c : Thread nD τ).loc main_arg1) : FVec Ideal S256x1024 .f32) (by decide)) (by decide)) (by decide)) (by decide))
    (sitofp .f32 (constantI S_ 32 0#32) : FVec Ideal S_ .f32) (by decide) h_S_) (by decide)) ?_ ?_
  · after_reads_simp
    exact rfl
  · exact Cols.pad (A := 8) (B := 64) (B' := 128) (Cols.unpad (A := 8) (B := 64) (B' := 128) (o := 64) (ent_cols _) rfl rfl (by decide) (by decide) _ _ _) rfl rfl (by decide) (sitofp .f32 (constantI S_ 32 0#32) : FVec Ideal S_ .f32) h_S_ zero_f32 _ _ _

/-- The padded array at an entry. -/
theorem argB_cols : Cols (argB m c) (parted (entB m c)) := by
  apply Cols.of_eq
  · unfold_abbrev_sides
    after_reads_simp
    exact rfl
  · exact Cols.side (.cons (keys m c) (.cons (values m c) .nil)) _

/-- The buffers when the launch is done. -/
abbrev V1 := Pipeline.withArrays (cfgs 0).spec c (V0 m c) fun w => (dats m 0 c).arrAt w (cfgs 0).N

abbrev whole : FVec Ideal S4096x2048 .f32 := (dats m 0 c).arrAt 2 cfg0.N

theorem V1_whole : (V1 m c (Proc.devRef .tc main_v12) : FVec Ideal S4096x2048 .f32) = whole m c :=
  Pipeline.withArrays_arr (cfgs 0).spec (by decide) c (V0 m c) (fun w => (dats m 0 c).arrAt w (cfgs 0).N) 2

theorem whole_cols : Cols (V1 m c (Proc.devRef .tc main_v12) : FVec Ideal S4096x2048 .f32) (ent (whole m c)) :=
  Cols.of_eq (V1_whole m c) (ent_cols _)

theorem someKeys : Blocks (StableHlo.upto ([hostOps1] : List (List (HloOp τ sig (Elt Ideal)))).flatten (V1 m c) 10 (Proc.devRef .tc main_v17) : FVec Ideal S4096x8x64 .f32)
    (narrow 0 64 128 (shift 0 (ent (whole m c)))) := by
  have h := whole_cols m c
  generalize V1 m c = U at h ⊢
  apply Blocks.of_eq
  · after_reads_simp
    exact rfl
  · exact ((h.slice _).unpad (A := 8) (B := 64) (B' := 128) (o := 0) rfl rfl (by decide) (by decide) _ _ _).blocks rfl _

theorem someValues : Blocks (StableHlo.upto ([hostOps1] : List (List (HloOp τ sig (Elt Ideal)))).flatten (V1 m c) 10 (Proc.devRef .tc main_v22) : FVec Ideal S4096x8x64 .f32)
    (narrow 0 64 128 (shift 1024 (ent (whole m c)))) := by
  have h := whole_cols m c
  generalize V1 m c = U at h ⊢
  apply Blocks.of_eq
  · after_reads_simp
    exact rfl
  · exact ((h.slice _).unpad (A := 8) (B := 64) (B' := 128) (o := 0) rfl rfl (by decide) (by decide) _ _ _).blocks rfl _

abbrev result : FVec Ideal S4096x1024 .f32 := Pipeline.afterTail₀ cfgs (dats m) 0 (V0 m) [hostOps1] c main_v24

/-- The result at an entry, from the array the launch leaves. -/
theorem result_cols : Cols (result m c) (rejoined (ent (whole m c))) := by
  apply Cols.of_eq
  · show StableHlo.after ([hostOps1] : List (List (HloOp τ sig (Elt Ideal)))).flatten (V1 m c) (Proc.devRef .tc main_v24) = _
    after_reads_simp
    exact rfl
  · exact Blocks.both (someKeys m c) (someValues m c) (A := 8) (B := 64) (B' := 128) rfl rfl (by decide) _ _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h.2 c).2 main_v24 (by decide), h.1 c⟩) (θ_run_and (unchanged m ρ) (run_main m ρ))

/-- The reference's result, at the kernel's arguments, is what the kernel leaves. -/
theorem ref2_eq : Cert.UkvRefIdeal.Read.val_main_v1 (F := Ideal) (m ((c : Thread nD τ).loc main_arg0)) (m ((c : Thread nD τ).loc main_arg1)) = result m c := by
  funext i
  have hj : (i 1).val < 1024 := (i 1).isLt
  have hw := congrFun (final2 m c) (ix2 (i 0) ⟨spot (i 1).val, spot_lt _ hj⟩)
  refine Eq.trans ?_ (((result_cols m c i).trans (rejoined_eq _ _ _ hj)).trans ((ent_eq (whole m c) (i 0) ⟨spot (i 1).val, spot_lt _ hj⟩).trans hw)).symm
  rw [Cert.UkvRefIdeal.Read.val_main_v1_apply]
  refine Finset.sum_congr rfl fun l _ => ?_
  refine congrArg₂ (fun u v : EReal => u * v) ?_ ?_
  · exact congrArg (m ((c : Thread nD τ).loc main_arg0)) ((eq_ix2 _).trans rfl)
  · refine Eq.trans ?_ (((argB_cols m c (ix2 l ⟨spot (i 1).val, spot_lt _ hj⟩)).trans (parted_spot _ _ _ hj)).trans (ent_eq _ l (i 1))).symm
    exact congrArg (m ((c : Thread nD τ).loc main_arg1)) ((eq_ix2 _).trans rfl)

theorem value : Cert.algebraic_UkvIdeal_UkvRefIdeal (hUkvIdeal := Cert.UkvIdeal.Gen.facts) (hUkvRefIdeal := Cert.UkvRefIdeal.Gen.facts) := by
  intro m g m' g' _ hargs
  refine ⟨fun c => result m c, run_holds m g, ?_⟩
  refine (θ_run _ _ _).mono (fun r h c => ?_) (Cert.UkvRefIdeal.Value.run m' g')
  obtain ⟨a0, a1⟩ := hargs c
  obtain ⟨r0, rest⟩ := h c
  refine ⟨r0.trans ?_, rest⟩
  rw [Cert.UkvRefIdeal.Read.val_main_v1_eq, a0, a1]
  exact ref2_eq m c

theorem reference_frame : Cert.quiescent_UkvRefIdeal (hUkvRefIdeal := Cert.UkvRefIdeal.Gen.facts) := by
  intro m g _
  exact (θ_run _ _ _).mono (fun r h => ⟨fun c => (h c).2, sem_eq_zero_of_no_sems (by decide) r.2⟩) (Cert.UkvRefIdeal.Value.run m g)

end Cert.UkvIdeal.Prod

end
-- ==== Proof.BranchMerge.lean ====
/- The merge of the branches: block by block the gated products the reference adds up; the padded columns of two branches add nothing. -/
module

public import proofs.«01_k».proof.Defs
public import proofs.«01_k».proof.Proof.Heads
public import proofs.«01_k».proof.Proof.Gen.BranchMergeIdeal.Frame
public import proofs.«01_k».proof.Proof.Gen.BranchMergeRefIdeal.Run
public import proofs.«01_k».proof.Proof.Gen.BranchMergeRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.BranchMergeIdeal.Prod

open Cert.BranchMergeIdeal Cert.BranchMergeIdeal.Gen Idealize.ShloMosaic Idealize.ShloMosaic.TcCoe Idealize.SL.Sem Cert.Layout

variable (m : (ℓ : Loc nD τ sig) → Buf (Elt Ideal) ℓ) (c : Dev nD)

/-! ## The step's operations at one entry -/

/-- The gate's weight, as the kernel computes it. -/
def gate (x : EReal) : EReal := Ideal.div 1 (1 + Ideal.exp (0 - x))

theorem pay2_apply (a : FVec Ideal S512x1024 .bf16) (b : FVec Ideal S1024x512 .f32) (y : S512x512.Idx) :
    k0_pay2 (F := Ideal) a b y = ∑ r : Fin 1024, a (ix2 (y 0) r) * b (ix2 r (y 1)) := by
  rw [eq_ix2 y]
  pointwise [k0_pay2, dot_S512x1024_S1024x512_S512x512_1_0_0_1_n_n]

theorem pay5_apply (a : FVec Ideal S512x512 .bf16) (b : FVec Ideal S512x512 .f32) (y : S512x512.Idx) :
    k0_pay5 (F := Ideal) a b y = ∑ r : Fin 512, a (ix2 (y 0) r) * b (ix2 r (y 1)) := by
  rw [eq_ix2 y]
  pointwise [k0_pay5, dot_S512x512_S512x512_S512x512_1_0_0_1_n_n]

theorem pay8_apply (a : FVec Ideal S512x1024 .bf16) (b : FVec Ideal S1024x512 .f32) (y : S512x512.Idx) :
    k0_pay8 (F := Ideal) a b y = ∑ r : Fin 1024, a (ix2 (y 0) r) * b (ix2 r (y 1)) := by
  rw [eq_ix2 y]
  pointwise [k0_pay8, dot_S512x1024_S1024x512_S512x512_1_0_0_1_n_n]

theorem pay11_apply (a : FVec Ideal S512x512 .f32) (b : FVec Ideal S512x512 .f32) (y : S512x512.Idx) :
    k0_pay11 (F := Ideal) a b y = ∑ r : Fin 512, a (ix2 (y 0) r) * b (ix2 r (y 1)) := by
  rw [eq_ix2 y]
  pointwise [k0_pay11, dot_S512x512_S512x512_S512x512_1_0_0_1_n_n]

theorem pay4_apply (a : FVec Ideal S512x1024 .bf16) (b : FVec Ideal S1024x512 .f32) (g : FVec Ideal S512x512 .f32) (y : S512x512.Idx) :
    k0_pay4 (F := Ideal) a b g y = gate (g y) * k0_pay2 (F := Ideal) a b y := by
  rw [eq_ix2 y]
  unfold gate
  pointwise [k0_pay4]

theorem pay7_apply (g : FVec Ideal S512x512 .f32) (y : S512x512.Idx) :
    k0_pay7 (F := Ideal) g y = 1 + Ideal.exp (0 - g y) := by
  rw [eq_ix2 y]
  pointwise [k0_pay7]

theorem pay13_apply (g : FVec Ideal S512x512 .f32) (y : S512x512.Idx) :
    k0_pay13 (F := Ideal) g y = Ideal.exp (0 - g y) := by
  rw [eq_ix2 y]
  pointwise [k0_pay13]

theorem pay10_apply (u v d : FVec Ideal S512x512 .f32) (e : Ideal .f32) (a : FVec Ideal S512x1024 .bf16) (b : FVec Ideal S1024x512 .f32) (g : FVec Ideal S512x512 .f32) (y : S512x512.Idx) :
    k0_pay10 (F := Ideal) u v d e a b g y = u y + Ideal.div e (d y) * v y + gate (g y) * k0_pay8 (F := Ideal) a b y := by
  rw [eq_ix2 y]
  unfold gate
  pointwise [k0_pay10]

theorem pay1_apply (u v d : FVec Ideal S512x512 .f32) (y : S512x512.Idx) :
    k0_pay1 (F := Ideal) u v d y = u y + Ideal.div 1 (1 + d y) * v y := by
  rw [eq_ix2 y]
  pointwise [k0_pay1]

theorem pay3_apply (a : FVec Ideal S512x1024 .bf16) (b : FVec Ideal S1024x512 .f32) (y : S512x512.Idx) :
    k0_pay3 (F := Ideal) a b y = k0_pay2 (F := Ideal) a b y := by
  rw [eq_ix2 y]
  pointwise [k0_pay3]

theorem pay6_apply (a : FVec Ideal S512x512 .bf16) (b : FVec Ideal S512x512 .f32) (y : S512x512.Idx) :
    k0_pay6 (F := Ideal) a b y = k0_pay5 (F := Ideal) a b y := by
  rw [eq_ix2 y]
  pointwise [k0_pay6]

theorem pay9_apply (a : FVec Ideal S512x1024 .bf16) (b : FVec Ideal S1024x512 .f32) (y : S512x512.Idx) :
    k0_pay9 (F := Ideal) a b y = k0_pay8 (F := Ideal) a b y := by
  rw [eq_ix2 y]
  pointwise [k0_pay9]

theorem pay12_apply (a : FVec Ideal S512x512 .f32) (b : FVec Ideal S512x512 .f32) (y : S512x512.Idx) :
    k0_pay12 (F := Ideal) a b y = k0_pay11 (F := Ideal) a b y := by
  rw [eq_ix2 y]
  pointwise [k0_pay12]

/-! ## A step's blocks -/

theorem out12_eq (x0 : FVec Ideal S512x1024 .bf16) (x1 : FVec Ideal S512x512 .bf16) (x2 : FVec Ideal S512x1024 .bf16) (x3 : FVec Ideal S512x512 .f32) (x4 : FVec Ideal S1024x512 .f32) (x5 : FVec Ideal S512x512 .f32) (x6 : FVec Ideal S1024x512 .f32) (x7 : FVec Ideal S512x512 .f32) (x8 : FVec Ideal S512x512 .f32) (x9 : FVec Ideal S512x512 .f32) (x10 : FVec Ideal S512x512 .f32) (x11 : FVec Ideal S512x512 .f32) (y : S512x512.Idx) :
    out0_12 (F := Ideal) x0 x1 x2 x3 x4 x5 x6 x7 x8 x9 x10 x11 y = gate (x8 y) * (∑ r : Fin 1024, x0 (ix2 (y 0) r) * x4 (ix2 r (y 1))) + gate (x9 y) * (∑ r : Fin 512, x1 (ix2 (y 0) r) * x5 (ix2 r (y 1))) + gate (x10 y) * (∑ r : Fin 1024, x2 (ix2 (y 0) r) * x6 (ix2 r (y 1))) + gate (x11 y) * (∑ r : Fin 512, x3 (ix2 (y 0) r) * x7 (ix2 r (y 1))) := by
  unfold out0_12
  frame_out
  rw [pay1_apply, pay10_apply, pay4_apply, pay13_apply, pay7_apply, pay2_apply, pay5_apply, pay8_apply, pay11_apply]
  unfold gate
  rw [show (Scalar.ofBits (F := Ideal) .f32 0x3F800000#32 : EReal) = 1 from Ideal.ofBits_one_f32]

theorem out13_eq (x0 : FVec Ideal S512x1024 .bf16) (x1 : FVec Ideal S512x512 .bf16) (x2 : FVec Ideal S512x1024 .bf16) (x3 : FVec Ideal S512x512 .f32) (x4 : FVec Ideal S1024x512 .f32) (x5 : FVec Ideal S512x512 .f32) (x6 : FVec Ideal S1024x512 .f32) (x7 : FVec Ideal S512x512 .f32) (x8 : FVec Ideal S512x512 .f32) (x9 : FVec Ideal S512x512 .f32) (x10 : FVec Ideal S512x512 .f32) (x11 : FVec Ideal S512x512 .f32) (y : S512x512.Idx) :
    out0_13 (F := Ideal) x0 x1 x2 x3 x4 x5 x6 x7 x8 x9 x10 x11 y = (∑ r : Fin 1024, x0 (ix2 (y 0) r) * x4 (ix2 r (y 1))) := by
  unfold out0_13
  frame_out
  rw [pay3_apply, pay2_apply]

theorem out14_eq (x0 : FVec Ideal S512x1024 .bf16) (x1 : FVec Ideal S512x512 .bf16) (x2 : FVec Ideal S512x1024 .bf16) (x3 : FVec Ideal S512x512 .f32) (x4 : FVec Ideal S1024x512 .f32) (x5 : FVec Ideal S512x512 .f32) (x6 : FVec Ideal S1024x512 .f32) (x7 : FVec Ideal S512x512 .f32) (x8 : FVec Ideal S512x512 .f32) (x9 : FVec Ideal S512x512 .f32) (x10 : FVec Ideal S512x512 .f32) (x11 : FVec Ideal S512x512 .f32) (y : S512x512.Idx) :
    out0_14 (F := Ideal) x0 x1 x2 x3 x4 x5 x6 x7 x8 x9 x10 x11 y = (∑ r : Fin 512, x1 (ix2 (y 0) r) * x5 (ix2 r (y 1))) := by
  unfold out0_14
  frame_out
  rw [pay6_apply, pay5_apply]

theorem out15_eq (x0 : FVec Ideal S512x1024 .bf16) (x1 : FVec Ideal S512x512 .bf16) (x2 : FVec Ideal S512x1024 .bf16) (x3 : FVec Ideal S512x512 .f32) (x4 : FVec Ideal S1024x512 .f32) (x5 : FVec Ideal S512x512 .f32) (x6 : FVec Ideal S1024x512 .f32) (x7 : FVec Ideal S512x512 .f32) (x8 : FVec Ideal S512x512 .f32) (x9 : FVec Ideal S512x512 .f32) (x10 : FVec Ideal S512x512 .f32) (x11 : FVec Ideal S512x512 .f32) (y : S512x512.Idx) :
    out0_15 (F := Ideal) x0 x1 x2 x3 x4 x5 x6 x7 x8 x9 x10 x11 y = (∑ r : Fin 1024, x2 (ix2 (y 0) r) * x6 (ix2 r (y 1))) := by
  unfold out0_15
  frame_out
  rw [pay9_apply, pay8_apply]

theorem out16_eq (x0 : FVec Ideal S512x1024 .bf16) (x1 : FVec Ideal S512x512 .bf16) (x2 : FVec Ideal S512x1024 .bf16) (x3 : FVec Ideal S512x512 .f32) (x4 : FVec Ideal S1024x512 .f32) (x5 : FVec Ideal S512x512 .f32) (x6 : FVec Ideal S1024x512 .f32) (x7 : FVec Ideal S512x512 .f32) (x8 : FVec Ideal S512x512 .f32) (x9 : FVec Ideal S512x512 .f32) (x10 : FVec Ideal S512x512 .f32) (x11 : FVec Ideal S512x512 .f32) (y : S512x512.Idx) :
    out0_16 (F := Ideal) x0 x1 x2 x3 x4 x5 x6 x7 x8 x9 x10 x11 y = (∑ r : Fin 512, x3 (ix2 (y 0) r) * x7 (ix2 r (y 1))) := by
  unfold out0_16
  frame_out
  rw [pay12_apply, pay11_apply]

/-! ## The whole arrays -/

abbrev argY0 : FVec Ideal S4096x1024 .bf16 := V m c main_v16
abbrev argW0 : FVec Ideal S1024x1024 .f32 := V m c main_v4
abbrev argY1 : FVec Ideal S4096x512 .bf16 := V m c main_arg1
abbrev argW1 : FVec Ideal S512x1024 .f32 := V m c main_v6
abbrev argY2 : FVec Ideal S4096x1024 .bf16 := V m c main_v19
abbrev argW2 : FVec Ideal S1024x1024 .f32 := V m c main_v11
abbrev argY3 : FVec Ideal S4096x512 .f32 := V m c main_arg3
abbrev argW3 : FVec Ideal S512x1024 .f32 := V m c main_v13
abbrev argU : FVec Ideal S4096x9728 .f32 := V m c main_v55

/-- Where a branch's gate of an entry of the result lies. -/
def gateAt (b : Fin 4) (i : S4096x1024.Idx) : S4096x9728.Idx :=
  ix2 (i 0) ⟨b.val * 1024 + (i 1).val, by have := b.isLt; have h : (i 1).val < 1024 := (i 1).isLt; omega⟩

theorem idx0 : ∀ t : Fin cfg0.N, win0_0.index t = ![t.val / 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![0, t.val % 2] := (by decide +kernel : ∀ t : Fin grid0.N, _)
theorem idx6 : ∀ t : Fin cfg0.N, win0_6.index t = ![0, t.val % 2] := (by decide +kernel : ∀ t : Fin grid0.N, _)
theorem idx7 : ∀ t : Fin cfg0.N, win0_7.index t = ![0, t.val % 2] := (by decide +kernel : ∀ t : Fin grid0.N, _)
theorem idx8 : ∀ t : Fin cfg0.N, win0_8.index t = ![t.val / 2, t.val % 2] := (by decide +kernel : ∀ t : Fin grid0.N, _)
theorem idx9 : ∀ t : Fin cfg0.N, win0_9.index t = ![t.val / 2, t.val % 2 + 2] := (by decide +kernel : ∀ t : Fin grid0.N, _)
theorem idx10 : ∀ t : Fin cfg0.N, win0_10.index t = ![t.val / 2, t.val % 2 + 4] := (by decide +kernel : ∀ t : Fin grid0.N, _)
theorem idx11 : ∀ t : Fin cfg0.N, win0_11.index t = ![t.val / 2, t.val % 2 + 6] := (by decide +kernel : ∀ t : Fin grid0.N, _)
theorem idx12 : ∀ t : Fin cfg0.N, win0_12.index t = ![t.val / 2, t.val % 2] := (by decide +kernel : ∀ t : Fin grid0.N, _)
theorem idx13 : ∀ t : Fin cfg0.N, win0_13.index t = ![t.val / 2, t.val % 2] := (by decide +kernel : ∀ t : Fin grid0.N, _)
theorem idx14 : ∀ t : Fin cfg0.N, win0_14.index t = ![t.val / 2, t.val % 2] := (by decide +kernel : ∀ t : Fin grid0.N, _)
theorem idx15 : ∀ t : Fin cfg0.N, win0_15.index t = ![t.val / 2, t.val % 2] := (by decide +kernel : ∀ t : Fin grid0.N, _)
theorem idx16 : ∀ t : Fin cfg0.N, win0_16.index t = ![t.val / 2, t.val % 2] := (by decide +kernel : ∀ t : Fin grid0.N, _)

set_option maxHeartbeats 2000000 in
/-- What the launch leaves in the merged array. -/
theorem final12 : (dats m 0 c).arrAt 12 cfg0.N = fun i => gate (argU m c (gateAt 0 i)) * (∑ l : Fin 1024, argY0 m c (ix2 (i 0) l) * argW0 m c (ix2 l (i 1))) + gate (argU m c (gateAt 1 i)) * (∑ l : Fin 512, argY1 m c (ix2 (i 0) l) * argW1 m c (ix2 l (i 1))) + gate (argU m c (gateAt 2 i)) * (∑ l : Fin 1024, argY2 m c (ix2 (i 0) l) * argW2 m c (ix2 l (i 1))) + gate (argU m c (gateAt 3 i)) * (∑ l : Fin 512, argY3 m c (ix2 (i 0) l) * argW3 m c (ix2 l (i 1))) := by
  refine (dats m 0 c).arrAt_eq_of_covers 12 _ (by decide +kernel) fun t hf y => ?_
  blk_simp
  rw [after0_12, out12_eq]
  refine congrArg₂ (fun u v : EReal => u + v) (congrArg₂ (fun u v : EReal => u + v) (congrArg₂ (fun u v : EReal => u + v) (congrArg₂ (fun u v : EReal => u * v) ?_ ?_) (congrArg₂ (fun u v : EReal => u * v) ?_ ?_)) (congrArg₂ (fun u v : EReal => u * v) ?_ ?_)) (congrArg₂ (fun u v : EReal => u * v) ?_ ?_)
  · show gate (V m c main_v55 _) = gate (V m c main_v55 (gateAt 0 _))
    unfold gateAt
    generalize V m c main_v55 = f
    refine congrArg gate ?_
    congr 1
    blk_ext [idx8, idx12]
  · show (_ : EReal) = _
    refine Finset.sum_congr rfl fun r _ => ?_
    refine congrArg₂ (fun u v : EReal => u * v) ?_ ?_
    · show V m c main_v16 _ = V m c main_v16 _
      generalize V m c main_v16 = f
      congr 1
      blk_ext [idx0, idx12]
    · show V m c main_v4 _ = V m c main_v4 _
      generalize V m c main_v4 = f
      congr 1
      blk_ext [idx4, idx12]
  · show gate (V m c main_v55 _) = gate (V m c main_v55 (gateAt 1 _))
    unfold gateAt
    generalize V m c main_v55 = f
    refine congrArg gate ?_
    congr 1
    blk_ext [idx9, idx12]
  · show (_ : EReal) = _
    refine Finset.sum_congr rfl fun r _ => ?_
    refine congrArg₂ (fun u v : EReal => u * v) ?_ ?_
    · show V m c main_arg1 _ = V m c main_arg1 _
      generalize V m c main_arg1 = f
      congr 1
      blk_ext [idx1, idx12]
    · show V m c main_v6 _ = V m c main_v6 _
      generalize V m c main_v6 = f
      congr 1
      blk_ext [idx5, idx12]
  · show gate (V m c main_v55 _) = gate (V m c main_v55 (gateAt 2 _))
    unfold gateAt
    generalize V m c main_v55 = f
    refine congrArg gate ?_
    congr 1
    blk_ext [idx10, idx12]
  · show (_ : EReal) = _
    refine Finset.sum_congr rfl fun r _ => ?_
    refine congrArg₂ (fun u v : EReal => u * v) ?_ ?_
    · show V m c main_v19 _ = V m c main_v19 _
      generalize V m c main_v19 = f
      congr 1
      blk_ext [idx2, idx12]
    · show V m c main_v11 _ = V m c main_v11 _
      generalize V m c main_v11 = f
      congr 1
      blk_ext [idx6, idx12]
  · show gate (V m c main_v55 _) = gate (V m c main_v55 (gateAt 3 _))
    unfold gateAt
    generalize V m c main_v55 = f
    refine congrArg gate ?_
    congr 1
    blk_ext [idx11, idx12]
  · show (_ : EReal) = _
    refine Finset.sum_congr rfl fun r _ => ?_
    refine congrArg₂ (fun u v : EReal => u * v) ?_ ?_
    · show V m c main_arg3 _ = V m c main_arg3 _
      generalize V m c main_arg3 = f
      congr 1
      blk_ext [idx3, idx12]
    · show V m c main_v13 _ = V m c main_v13 _
      generalize V m c main_v13 = f
      congr 1
      blk_ext [idx7, idx12]

set_option maxHeartbeats 1000000 in
/-- What the launch leaves in a branch's product. -/
theorem final13 : (dats m 0 c).arrAt 13 cfg0.N = fun i => (∑ l : Fin 1024, argY0 m c (ix2 (i 0) l) * argW0 m c (ix2 l (i 1))) := by
  refine (dats m 0 c).arrAt_eq_of_covers 13 _ (by decide +kernel) fun t hf y => ?_
  blk_simp
  rw [after0_13, out13_eq]
  show (_ : EReal) = _
  refine Finset.sum_congr rfl fun r _ => ?_
  refine congrArg₂ (fun u v : EReal => u * v) ?_ ?_
  · show V m c main_v16 _ = V m c main_v16 _
    generalize V m c main_v16 = f
    congr 1
    blk_ext [idx0, idx13]
  · show V m c main_v4 _ = V m c main_v4 _
    generalize V m c main_v4 = f
    congr 1
    blk_ext [idx4, idx13]

set_option maxHeartbeats 1000000 in
/-- What the launch leaves in a branch's product. -/
theorem final14 : (dats m 0 c).arrAt 14 cfg0.N = fun i => (∑ l : Fin 512, argY1 m c (ix2 (i 0) l) * argW1 m c (ix2 l (i 1))) := by
  refine (dats m 0 c).arrAt_eq_of_covers 14 _ (by decide +kernel) fun t hf y => ?_
  blk_simp
  rw [after0_14, out14_eq]
  show (_ : EReal) = _
  refine Finset.sum_congr rfl fun r _ => ?_
  refine congrArg₂ (fun u v : EReal => u * v) ?_ ?_
  · show V m c main_arg1 _ = V m c main_arg1 _
    generalize V m c main_arg1 = f
    congr 1
    blk_ext [idx1, idx14]
  · show V m c main_v6 _ = V m c main_v6 _
    generalize V m c main_v6 = f
    congr 1
    blk_ext [idx5, idx14]

set_option maxHeartbeats 1000000 in
/-- What the launch leaves in a branch's product. -/
theorem final15 : (dats m 0 c).arrAt 15 cfg0.N = fun i => (∑ l : Fin 1024, argY2 m c (ix2 (i 0) l) * argW2 m c (ix2 l (i 1))) := by
  refine (dats m 0 c).arrAt_eq_of_covers 15 _ (by decide +kernel) fun t hf y => ?_
  blk_simp
  rw [after0_15, out15_eq]
  show (_ : EReal) = _
  refine Finset.sum_congr rfl fun r _ => ?_
  refine congrArg₂ (fun u v : EReal => u * v) ?_ ?_
  · show V m c main_v19 _ = V m c main_v19 _
    generalize V m c main_v19 = f
    congr 1
    blk_ext [idx2, idx15]
  · show V m c main_v11 _ = V m c main_v11 _
    generalize V m c main_v11 = f
    congr 1
    blk_ext [idx6, idx15]

set_option maxHeartbeats 1000000 in
/-- What the launch leaves in a branch's product. -/
theorem final16 : (dats m 0 c).arrAt 16 cfg0.N = fun i => (∑ l : Fin 512, argY3 m c (ix2 (i 0) l) * argW3 m c (ix2 l (i 1))) := by
  refine (dats m 0 c).arrAt_eq_of_covers 16 _ (by decide +kernel) fun t hf y => ?_
  blk_simp
  rw [after0_16, out16_eq]
  show (_ : EReal) = _
  refine Finset.sum_congr rfl fun r _ => ?_
  refine congrArg₂ (fun u v : EReal => u * v) ?_ ?_
  · show V m c main_arg3 _ = V m c main_arg3 _
    generalize V m c main_arg3 = f
    congr 1
    blk_ext [idx3, idx16]
  · show V m c main_v13 _ = V m c main_v13 _
    generalize V m c main_v13 = f
    congr 1
    blk_ext [idx7, idx16]

/-! ## The layouts -/

/-- The operations before the launch. -/
abbrev before : List (HloOp τ sig (Elt Ideal)) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20].flatten

abbrev entU := ent (m ((c : Thread nD τ).loc main_arg5) : FVec Ideal S4096x7592 .f32)
abbrev entA := ent (m ((c : Thread nD τ).loc main_arg0) : FVec Ideal S4096x512 .bf16)
abbrev entC := ent (m ((c : Thread nD τ).loc main_arg2) : FVec Ideal S4096x512 .bf16)

/-- A branch's rows. -/
abbrev rows0 : FVec Ideal S4096x512 .bf16 := m ((c : Thread nD τ).loc main_arg0)

/-- A branch's weight. -/
abbrev weight0 : FVec Ideal S512x1024 .f32 := Cert.BranchMergeRefIdeal.Read.val_main_v10 (F := Ideal) (m ((c : Thread nD τ).loc main_arg4))

/-- A branch's rows. -/
abbrev rows1 : FVec Ideal S4096x512 .bf16 := m ((c : Thread nD τ).loc main_arg1)

/-- A branch's weight. -/
abbrev weight1 : FVec Ideal S512x1024 .f32 := Cert.BranchMergeRefIdeal.Read.val_main_v14 (F := Ideal) (m ((c : Thread nD τ).loc main_arg4))

/-- A branch's rows. -/
abbrev rows2 : FVec Ideal S4096x512 .bf16 := m ((c : Thread nD τ).loc main_arg2)

/-- A branch's weight. -/
abbrev weight2 : FVec Ideal S512x1024 .f32 := Cert.BranchMergeRefIdeal.Read.val_main_v18 (F := Ideal) (m ((c : Thread nD τ).loc main_arg4))

/-- A branch's rows. -/
abbrev rows3 : FVec Ideal S4096x512 .f32 := m ((c : Thread nD τ).loc main_arg3)

/-- A branch's weight. -/
abbrev weight3 : FVec Ideal S512x1024 .f32 := Cert.BranchMergeRefIdeal.Read.val_main_v21 (F := Ideal) (m ((c : Thread nD τ).loc main_arg4))

theorem zero_f32 (k : S_.Idx) : (sitofp .f32 (constantI S_ 32 0#32) : FVec Ideal S_ .f32) k = 0 := by
  show ((((0#32 : BitVec 32).toInt : ℤ) : ℝ) : EReal) = 0
  simp

theorem zero_bf16 (k : S_.Idx) : (sitofp .bf16 (constantI S_ 32 0#32) : FVec Ideal S_ .bf16) k = 0 := by
  show ((((0#32 : BitVec 32).toInt : ℤ) : ℝ) : EReal) = 0
  simp

/-- The padded array at an entry. -/
theorem argY0_cols : Cols (argY0 m c) (wide 0 64 128 (entA m c)) := by
  apply Cols.of_eq
  · unfold_abbrev_sides
    after_reads_simp
    exact rfl
  · exact (ent_cols _).pad (A := 8) (B := 64) (B' := 128) (l := 0) (hi := 64) rfl rfl (by decide) (sitofp .bf16 (constantI S_ 32 0#32) : FVec Ideal S_ .bf16) h_S_ zero_bf16 _ (by decide) _

/-- The padded array at an entry. -/
theorem argY2_cols : Cols (argY2 m c) (wide 0 64 128 (entC m c)) := by
  apply Cols.of_eq
  · unfold_abbrev_sides
    after_reads_simp
    exact rfl
  · exact (ent_cols _).pad (A := 8) (B := 64) (B' := 128) (l := 0) (hi := 64) rfl rfl (by decide) (sitofp .bf16 (constantI S_ 32 0#32) : FVec Ideal S_ .bf16) h_S_ zero_bf16 _ (by decide) _

/-- The padded array at an entry. -/
theorem argW0_cols : Cols (argW0 m c) (tall 0 64 128 (ent (weight0 m c))) := by
  apply Cols.of_eq
  · unfold_abbrev_sides
    after_reads_simp
    exact rfl
  · exact (ent_cols (weight0 m c)).padRows (A := 8) (B := 64) (B' := 128) (l := 0) (hi := 64) rfl rfl (by decide) (sitofp .f32 (constantI S_ 32 0#32) : FVec Ideal S_ .f32) h_S_ zero_f32 _ (by decide) _

/-- The padded array at an entry. -/
theorem argW2_cols : Cols (argW2 m c) (tall 0 64 128 (ent (weight2 m c))) := by
  apply Cols.of_eq
  · unfold_abbrev_sides
    after_reads_simp
    exact rfl
  · exact (ent_cols (weight2 m c)).padRows (A := 8) (B := 64) (B' := 128) (l := 0) (hi := 64) rfl rfl (by decide) (sitofp .f32 (constantI S_ 32 0#32) : FVec Ideal S_ .f32) h_S_ zero_f32 _ (by decide) _

theorem argW1_eq : argW1 m c = weight1 m c := by
  unfold_abbrev_sides
  after_reads_simp
  exact rfl

theorem argW3_eq : argW3 m c = weight3 m c := by
  unfold_abbrev_sides
  after_reads_simp
  exact rfl

theorem gates : Cols (StableHlo.upto before (fun b => m (c, b)) 78 (Proc.devRef .tc main_v51) : FVec Ideal S4096x4096 .f32)
    (shift 3496 (entU m c)) := by
  apply Cols.of_eq
  · after_reads_simp
    exact rfl
  · exact (ent_cols _).slice _

theorem pool : Cols (StableHlo.upto before (fun b => m (c, b)) 78 (Proc.devRef .tc main_v40) : FVec Ideal S4096x512 .f32)
    (shift 672 (entU m c)) := by
  apply Cols.of_eq
  · after_reads_simp
    exact rfl
  · exact (ent_cols _).slice _

theorem lruG : Cols (StableHlo.upto before (fun b => m (c, b)) 78 (Proc.devRef .tc main_v49) : FVec Ideal S4096x512 .f32)
    (shift 2472 (entU m c)) := by
  apply Cols.of_eq
  · after_reads_simp
    exact rfl
  · exact (ent_cols _).slice _

theorem lruX : Cols (StableHlo.upto before (fun b => m (c, b)) 78 (Proc.devRef .tc main_v50) : FVec Ideal S4096x512 .f32)
    (shift 2984 (entU m c)) := by
  apply Cols.of_eq
  · after_reads_simp
    exact rfl
  · exact (ent_cols _).slice _

theorem cq : Cols (StableHlo.upto before (fun b => m (c, b)) 78 (Proc.devRef .tc main_v34) : FVec Ideal S4096x384 .f32)
    (shift 0 (entU m c)) := by
  apply Cols.of_eq
  · after_reads_simp
    exact rfl
  · exact (ent_cols _).slice _

theorem ckv : Cols (StableHlo.upto before (fun b => m (c, b)) 78 (Proc.devRef .tc main_v35) : FVec Ideal S4096x256 .f32)
    (shift 384 (entU m c)) := by
  apply Cols.of_eq
  · after_reads_simp
    exact rfl
  · exact (ent_cols _).slice _

theorem zgrp : Cols (StableHlo.upto before (fun b => m (c, b)) 78 (Proc.devRef .tc main_v44) : FVec Ideal S4096x1024 .f32)
    (wide 0 64 128 (shift 1184 (entU m c))) := by
  apply Cols.of_eq
  · after_reads_simp
    exact rfl
  · exact ((ent_cols _).slice _).pad (A := 8) (B := 64) (B' := 128) (hi := 64) rfl rfl (by decide) (sitofp .f32 (constantI S_ 32 0#32) : FVec Ideal S_ .f32) h_S_ zero_f32 _ (by decide) _

theorem kr : Cols (StableHlo.upto before (fun b => m (c, b)) 78 (Proc.devRef .tc main_v39) : FVec Ideal S4096x128 .f32)
    (wide 64 32 128 (shift 640 (entU m c))) := by
  apply Cols.of_eq
  · after_reads_simp
    exact rfl
  · exact ((ent_cols _).slice _).pad (A := 1) (B := 32) (B' := 128) (hi := 32) rfl rfl (by decide) (sitofp .f32 (constantI S_ 32 0#32) : FVec Ideal S_ .f32) h_S_ zero_f32 _ (by decide) _

theorem dt : Cols (StableHlo.upto before (fun b => m (c, b)) 78 (Proc.devRef .tc main_v48) : FVec Ideal S4096x128 .f32)
    (wide 0 8 128 (shift 2464 (entU m c))) := by
  apply Cols.of_eq
  · after_reads_simp
    exact rfl
  · exact ((ent_cols _).slice _).pad (A := 1) (B := 8) (B' := 128) (hi := 120) rfl rfl (by decide) (sitofp .f32 (constantI S_ 32 0#32) : FVec Ideal S_ .f32) h_S_ zero_f32 _ (by decide) _

theorem zeroA : Cols (StableHlo.upto before (fun b => m (c, b)) 78 (Proc.devRef .tc main_v52) : FVec Ideal S4096x256 .f32)
    (fun _ _ => 0) := by
  apply Cols.of_eq
  · after_reads_simp
    exact rfl
  · exact Cols.const fun _ => Ideal.ofBits_zero_f32

theorem zeroB : Cols (StableHlo.upto before (fun b => m (c, b)) 78 (Proc.devRef .tc main_v53) : FVec Ideal S4096x128 .f32)
    (fun _ _ => 0) := by
  apply Cols.of_eq
  · after_reads_simp
    exact rfl
  · exact Cols.const fun _ => Ideal.ofBits_zero_f32

theorem zeroC : Cols (StableHlo.upto before (fun b => m (c, b)) 78 (Proc.devRef .tc main_v54) : FVec Ideal S4096x256 .f32)
    (fun _ _ => 0) := by
  apply Cols.of_eq
  · after_reads_simp
    exact rfl
  · exact Cols.const fun _ => Ideal.ofBits_zero_f32

theorem x0 : Cols (StableHlo.upto before (fun b => m (c, b)) 47 (Proc.devRef .tc main_v24) : FVec Ideal S4096x1024 .f32)
    (wide 0 64 128 (shift 0 (shift 1696 (entU m c)))) := by
  apply Cols.of_eq
  · after_reads_simp
    exact rfl
  · exact (((ent_cols _).slice _).slice _).pad (A := 8) (B := 64) (B' := 128) (hi := 64) rfl rfl (by decide) (sitofp .f32 (constantI S_ 32 0#32) : FVec Ideal S_ .f32) h_S_ zero_f32 _ (by decide) _

theorem x1 : Cols (StableHlo.upto before (fun b => m (c, b)) 47 (Proc.devRef .tc main_v28) : FVec Ideal S4096x256 .f32)
    (wide 0 64 128 (shift 512 (shift 1696 (entU m c)))) := by
  apply Cols.of_eq
  · after_reads_simp
    exact rfl
  · exact (((ent_cols _).slice _).slice _).pad (A := 2) (B := 64) (B' := 128) (hi := 64) rfl rfl (by decide) (sitofp .f32 (constantI S_ 32 0#32) : FVec Ideal S_ .f32) h_S_ zero_f32 _ (by decide) _

theorem x2 : Cols (StableHlo.upto before (fun b => m (c, b)) 47 (Proc.devRef .tc main_v32) : FVec Ideal S4096x256 .f32)
    (wide 0 64 128 (shift 640 (shift 1696 (entU m c)))) := by
  apply Cols.of_eq
  · after_reads_simp
    exact rfl
  · exact (((ent_cols _).slice _).slice _).pad (A := 2) (B := 64) (B' := 128) (hi := 64) rfl rfl (by decide) (sitofp .f32 (constantI S_ 32 0#32) : FVec Ideal S_ .f32) h_S_ zero_f32 _ (by decide) _

theorem xbc : Cols (StableHlo.upto before (fun b => m (c, b)) 78 (Proc.devRef .tc main_v33) : FVec Ideal S4096x1536 .f32)
    (side [(1024, wide 0 64 128 (shift 0 (shift 1696 (entU m c)))), (256, wide 0 64 128 (shift 512 (shift 1696 (entU m c)))), (256, wide 0 64 128 (shift 640 (shift 1696 (entU m c))))]) := by
  apply Cols.of_eq
  · after_reads_simp
    exact rfl
  · exact Cols.side (.cons (x0 m c) (.cons (x1 m c) (.cons (x2 m c) .nil))) _

/-- The padded array at an entry. -/
theorem argU_cols : Cols (argU m c) (fused (entU m c)) := by
  apply Cols.of_eq
  · unfold_abbrev_sides
    after_reads_simp
    exact rfl
  · exact Cols.side (.cons (gates m c) (.cons (zgrp m c) (.cons (pool m c) (.cons (lruG m c) (.cons (lruX m c) (.cons (zeroA m c) (.cons (cq m c) (.cons (zeroB m c) (.cons (ckv m c) (.cons (xbc m c) (.cons (kr m c) (.cons (dt m c) (.cons (zeroC m c) .nil))))))))))))) _

/-- A gate's argument, from the array given. -/
theorem argU_gate (b : Fin 4) (i : S4096x1024.Idx) (h : 3496 + (b.val * 1024 + (i 1).val) < 7592) :
    argU m c (gateAt b i) = (m ((c : Thread nD τ).loc main_arg5) : FVec Ideal S4096x7592 .f32) (ix2 (i 0) ⟨3496 + (b.val * 1024 + (i 1).val), h⟩) := by
  have hp : place (3496 + (b.val * 1024 + (i 1).val)) = b.val * 1024 + (i 1).val := by
    unfold place
    repeat rw [if_neg (by omega)]
    omega
  refine (argU_cols m c _).trans ?_
  show fused (entU m c) (i 0).val (b.val * 1024 + (i 1).val) = _
  refine (congrArg (fused (entU m c) (i 0).val) hp.symm).trans ((fused_place _ _ _ h).trans ?_)
  exact ent_eq (m ((c : Thread nD τ).loc main_arg5) : FVec Ideal S4096x7592 .f32) (i 0) ⟨_, h⟩

/-- The padded columns add nothing. -/
theorem sum0 (i : S4096x1024.Idx) : (∑ l : Fin 1024, argY0 m c (ix2 (i 0) l) * argW0 m c (ix2 l (i 1)))
    = ∑ l : Fin 512, rows0 m c (ix2 (i 0) l) * weight0 m c (ix2 l (i 1)) := by
  refine Eq.trans ?_ ((sum_spread 8 64 128 rfl rfl (by decide) (by decide) (fun q => entA m c (i 0).val q) (fun q => ent (weight0 m c) q (i 1).val)).trans ?_)
  · refine Finset.sum_congr rfl fun q _ => ?_
    refine congrArg₂ (fun u v : EReal => u * v) ?_ ?_
    · exact (argY0_cols m c _).trans (wide_eq 64 128 (entA m c) (i 0).val q.val)
    · exact (argW0_cols m c _).trans (tall_eq 64 128 (ent (weight0 m c)) q.val (i 1).val)
  · refine Finset.sum_congr rfl fun l _ => ?_
    refine congrArg₂ (fun u v : EReal => u * v) ?_ ?_
    · exact ent_eq (m ((c : Thread nD τ).loc main_arg0) : FVec Ideal S4096x512 .bf16) (i 0) l
    · exact ent_eq (weight0 m c) l (i 1)

/-- The padded columns add nothing. -/
theorem sum2 (i : S4096x1024.Idx) : (∑ l : Fin 1024, argY2 m c (ix2 (i 0) l) * argW2 m c (ix2 l (i 1)))
    = ∑ l : Fin 512, rows2 m c (ix2 (i 0) l) * weight2 m c (ix2 l (i 1)) := by
  refine Eq.trans ?_ ((sum_spread 8 64 128 rfl rfl (by decide) (by decide) (fun q => entC m c (i 0).val q) (fun q => ent (weight2 m c) q (i 1).val)).trans ?_)
  · refine Finset.sum_congr rfl fun q _ => ?_
    refine congrArg₂ (fun u v : EReal => u * v) ?_ ?_
    · exact (argY2_cols m c _).trans (wide_eq 64 128 (entC m c) (i 0).val q.val)
    · exact (argW2_cols m c _).trans (tall_eq 64 128 (ent (weight2 m c)) q.val (i 1).val)
  · refine Finset.sum_congr rfl fun l _ => ?_
    refine congrArg₂ (fun u v : EReal => u * v) ?_ ?_
    · exact ent_eq (m ((c : Thread nD τ).loc main_arg2) : FVec Ideal S4096x512 .bf16) (i 0) l
    · exact ent_eq (weight2 m c) l (i 1)

theorem sum1 (i : S4096x1024.Idx) : (∑ l : Fin 512, argY1 m c (ix2 (i 0) l) * argW1 m c (ix2 l (i 1)))
    = ∑ l : Fin 512, rows1 m c (ix2 (i 0) l) * weight1 m c (ix2 l (i 1)) := by
  rw [argW1_eq, show argY1 m c = m ((c : Thread nD τ).loc main_arg1) from V_main_arg1 m c]

theorem sum3 (i : S4096x1024.Idx) : (∑ l : Fin 512, argY3 m c (ix2 (i 0) l) * argW3 m c (ix2 l (i 1)))
    = ∑ l : Fin 512, rows3 m c (ix2 (i 0) l) * weight3 m c (ix2 l (i 1)) := by
  rw [argW3_eq, show argY3 m c = m ((c : Thread nD τ).loc main_arg3) from V_main_arg3 m c]

/-! ## The reference -/

theorem refgate0 (u : FVec Ideal S4096x7592 .f32) (i : S4096x1024.Idx) (h : 3496 + (0 * 1024 + (i 1).val) < 7592) :
    Cert.BranchMergeRefIdeal.Read.val_main_v24 (F := Ideal) u i = gate (u (ix2 (i 0) ⟨3496 + (0 * 1024 + (i 1).val), h⟩)) := by
  have h0 : (i 0).val < 4096 := (i 0).isLt
  have h1 : (i 1).val < 1024 := (i 1).isLt
  rw [Cert.BranchMergeRefIdeal.Read.val_main_v24_apply, Cert.BranchMergeRefIdeal.Read.val_main_v23_apply]
  show Ideal.div (Ideal.ofBits .f32 0x3F800000#32) (Ideal.ofBits .f32 0x3F800000#32
    + Ideal.exp (-(Cert.BranchMergeRefIdeal.Read.val_main_v1 (F := Ideal) u _))) = _
  rw [Ideal.ofBits_one_f32, Cert.BranchMergeRefIdeal.Read.val_main_v1_apply, Cert.BranchMergeRefIdeal.Read.val_main_v0_apply]
  unfold gate
  rw [zero_sub]
  refine congrArg (fun s : EReal => Ideal.div 1 (1 + Ideal.exp (-s))) (congrArg u ?_)
  funext a
  match a with
  | ⟨0, _⟩ =>
    refine Fin.ext ?_
    show ((((i 0).val * 1024 + (i 1).val) / 1024 * 4 + 0) * 1024 + ((i 0).val * 1024 + (i 1).val) % 1024) / 4096 = (i 0).val
    omega
  | ⟨1, _⟩ =>
    refine Fin.ext ?_
    show 3496 + ((((i 0).val * 1024 + (i 1).val) / 1024 * 4 + 0) * 1024 + ((i 0).val * 1024 + (i 1).val) % 1024) % 4096 = 3496 + (0 * 1024 + (i 1).val)
    omega

theorem refprod0 (i : S4096x1024.Idx) : Cert.BranchMergeRefIdeal.Read.val_main_v11 (F := Ideal) (m ((c : Thread nD τ).loc main_arg0)) (m ((c : Thread nD τ).loc main_arg4)) i = (∑ l : Fin 1024, argY0 m c (ix2 (i 0) l) * argW0 m c (ix2 l (i 1))) := by
  rw [sum0, Cert.BranchMergeRefIdeal.Read.val_main_v11_apply]
  refine Finset.sum_congr rfl fun l _ => ?_
  refine congrArg₂ (fun u v : EReal => u * v) ?_ ?_
  · exact congrArg (rows0 m c) ((eq_ix2 _).trans rfl)
  · exact congrArg (weight0 m c) ((eq_ix2 _).trans rfl)

theorem refterm0 (i : S4096x1024.Idx) : Cert.BranchMergeRefIdeal.Read.val_main_v24 (F := Ideal) (m ((c : Thread nD τ).loc main_arg5)) i * Cert.BranchMergeRefIdeal.Read.val_main_v11 (F := Ideal) (m ((c : Thread nD τ).loc main_arg0)) (m ((c : Thread nD τ).loc main_arg4)) i
    = gate (argU m c (gateAt 0 i)) * (∑ l : Fin 1024, argY0 m c (ix2 (i 0) l) * argW0 m c (ix2 l (i 1))) := by
  have h1 : (i 1).val < 1024 := (i 1).isLt
  exact congrArg₂ (fun u v : EReal => u * v) ((refgate0 _ i (by omega)).trans (congrArg gate (argU_gate m c 0 i (by show 3496 + (0 * 1024 + (i 1).val) < 7592; omega)).symm)) (refprod0 m c i)

theorem refgate1 (u : FVec Ideal S4096x7592 .f32) (i : S4096x1024.Idx) (h : 3496 + (1 * 1024 + (i 1).val) < 7592) :
    Cert.BranchMergeRefIdeal.Read.val_main_v27 (F := Ideal) u i = gate (u (ix2 (i 0) ⟨3496 + (1 * 1024 + (i 1).val), h⟩)) := by
  have h0 : (i 0).val < 4096 := (i 0).isLt
  have h1 : (i 1).val < 1024 := (i 1).isLt
  rw [Cert.BranchMergeRefIdeal.Read.val_main_v27_apply, Cert.BranchMergeRefIdeal.Read.val_main_v26_apply]
  show Ideal.div (Ideal.ofBits .f32 0x3F800000#32) (Ideal.ofBits .f32 0x3F800000#32
    + Ideal.exp (-(Cert.BranchMergeRefIdeal.Read.val_main_v1 (F := Ideal) u _))) = _
  rw [Ideal.ofBits_one_f32, Cert.BranchMergeRefIdeal.Read.val_main_v1_apply, Cert.BranchMergeRefIdeal.Read.val_main_v0_apply]
  unfold gate
  rw [zero_sub]
  refine congrArg (fun s : EReal => Ideal.div 1 (1 + Ideal.exp (-s))) (congrArg u ?_)
  funext a
  match a with
  | ⟨0, _⟩ =>
    refine Fin.ext ?_
    show ((((i 0).val * 1024 + (i 1).val) / 1024 * 4 + (1 + 0)) * 1024 + ((i 0).val * 1024 + (i 1).val) % 1024) / 4096 = (i 0).val
    omega
  | ⟨1, _⟩ =>
    refine Fin.ext ?_
    show 3496 + ((((i 0).val * 1024 + (i 1).val) / 1024 * 4 + (1 + 0)) * 1024 + ((i 0).val * 1024 + (i 1).val) % 1024) % 4096 = 3496 + (1 * 1024 + (i 1).val)
    omega

theorem refprod1 (i : S4096x1024.Idx) : Cert.BranchMergeRefIdeal.Read.val_main_v15 (F := Ideal) (m ((c : Thread nD τ).loc main_arg1)) (m ((c : Thread nD τ).loc main_arg4)) i = (∑ l : Fin 512, argY1 m c (ix2 (i 0) l) * argW1 m c (ix2 l (i 1))) := by
  rw [sum1, Cert.BranchMergeRefIdeal.Read.val_main_v15_apply]
  refine Finset.sum_congr rfl fun l _ => ?_
  refine congrArg₂ (fun u v : EReal => u * v) ?_ ?_
  · exact congrArg (rows1 m c) ((eq_ix2 _).trans rfl)
  · exact congrArg (weight1 m c) ((eq_ix2 _).trans rfl)

theorem refterm1 (i : S4096x1024.Idx) : Cert.BranchMergeRefIdeal.Read.val_main_v27 (F := Ideal) (m ((c : Thread nD τ).loc main_arg5)) i * Cert.BranchMergeRefIdeal.Read.val_main_v15 (F := Ideal) (m ((c : Thread nD τ).loc main_arg1)) (m ((c : Thread nD τ).loc main_arg4)) i
    = gate (argU m c (gateAt 1 i)) * (∑ l : Fin 512, argY1 m c (ix2 (i 0) l) * argW1 m c (ix2 l (i 1))) := by
  have h1 : (i 1).val < 1024 := (i 1).isLt
  exact congrArg₂ (fun u v : EReal => u * v) ((refgate1 _ i (by omega)).trans (congrArg gate (argU_gate m c 1 i (by show 3496 + (1 * 1024 + (i 1).val) < 7592; omega)).symm)) (refprod1 m c i)

theorem refgate2 (u : FVec Ideal S4096x7592 .f32) (i : S4096x1024.Idx) (h : 3496 + (2 * 1024 + (i 1).val) < 7592) :
    Cert.BranchMergeRefIdeal.Read.val_main_v31 (F := Ideal) u i = gate (u (ix2 (i 0) ⟨3496 + (2 * 1024 + (i 1).val), h⟩)) := by
  have h0 : (i 0).val < 4096 := (i 0).isLt
  have h1 : (i 1).val < 1024 := (i 1).isLt
  rw [Cert.BranchMergeRefIdeal.Read.val_main_v31_apply, Cert.BranchMergeRefIdeal.Read.val_main_v30_apply]
  show Ideal.div (Ideal.ofBits .f32 0x3F800000#32) (Ideal.ofBits .f32 0x3F800000#32
    + Ideal.exp (-(Cert.BranchMergeRefIdeal.Read.val_main_v1 (F := Ideal) u _))) = _
  rw [Ideal.ofBits_one_f32, Cert.BranchMergeRefIdeal.Read.val_main_v1_apply, Cert.BranchMergeRefIdeal.Read.val_main_v0_apply]
  unfold gate
  rw [zero_sub]
  refine congrArg (fun s : EReal => Ideal.div 1 (1 + Ideal.exp (-s))) (congrArg u ?_)
  funext a
  match a with
  | ⟨0, _⟩ =>
    refine Fin.ext ?_
    show ((((i 0).val * 1024 + (i 1).val) / 1024 * 4 + (2 + 0)) * 1024 + ((i 0).val * 1024 + (i 1).val) % 1024) / 4096 = (i 0).val
    omega
  | ⟨1, _⟩ =>
    refine Fin.ext ?_
    show 3496 + ((((i 0).val * 1024 + (i 1).val) / 1024 * 4 + (2 + 0)) * 1024 + ((i 0).val * 1024 + (i 1).val) % 1024) % 4096 = 3496 + (2 * 1024 + (i 1).val)
    omega

theorem refprod2 (i : S4096x1024.Idx) : Cert.BranchMergeRefIdeal.Read.val_main_v19 (F := Ideal) (m ((c : Thread nD τ).loc main_arg2)) (m ((c : Thread nD τ).loc main_arg4)) i = (∑ l : Fin 1024, argY2 m c (ix2 (i 0) l) * argW2 m c (ix2 l (i 1))) := by
  rw [sum2, Cert.BranchMergeRefIdeal.Read.val_main_v19_apply]
  refine Finset.sum_congr rfl fun l _ => ?_
  refine congrArg₂ (fun u v : EReal => u * v) ?_ ?_
  · exact congrArg (rows2 m c) ((eq_ix2 _).trans rfl)
  · exact congrArg (weight2 m c) ((eq_ix2 _).trans rfl)

theorem refterm2 (i : S4096x1024.Idx) : Cert.BranchMergeRefIdeal.Read.val_main_v31 (F := Ideal) (m ((c : Thread nD τ).loc main_arg5)) i * Cert.BranchMergeRefIdeal.Read.val_main_v19 (F := Ideal) (m ((c : Thread nD τ).loc main_arg2)) (m ((c : Thread nD τ).loc main_arg4)) i
    = gate (argU m c (gateAt 2 i)) * (∑ l : Fin 1024, argY2 m c (ix2 (i 0) l) * argW2 m c (ix2 l (i 1))) := by
  have h1 : (i 1).val < 1024 := (i 1).isLt
  exact congrArg₂ (fun u v : EReal => u * v) ((refgate2 _ i (by omega)).trans (congrArg gate (argU_gate m c 2 i (by show 3496 + (2 * 1024 + (i 1).val) < 7592; omega)).symm)) (refprod2 m c i)

theorem refgate3 (u : FVec Ideal S4096x7592 .f32) (i : S4096x1024.Idx) (h : 3496 + (3 * 1024 + (i 1).val) < 7592) :
    Cert.BranchMergeRefIdeal.Read.val_main_v35 (F := Ideal) u i = gate (u (ix2 (i 0) ⟨3496 + (3 * 1024 + (i 1).val), h⟩)) := by
  have h0 : (i 0).val < 4096 := (i 0).isLt
  have h1 : (i 1).val < 1024 := (i 1).isLt
  rw [Cert.BranchMergeRefIdeal.Read.val_main_v35_apply, Cert.BranchMergeRefIdeal.Read.val_main_v34_apply]
  show Ideal.div (Ideal.ofBits .f32 0x3F800000#32) (Ideal.ofBits .f32 0x3F800000#32
    + Ideal.exp (-(Cert.BranchMergeRefIdeal.Read.val_main_v1 (F := Ideal) u _))) = _
  rw [Ideal.ofBits_one_f32, Cert.BranchMergeRefIdeal.Read.val_main_v1_apply, Cert.BranchMergeRefIdeal.Read.val_main_v0_apply]
  unfold gate
  rw [zero_sub]
  refine congrArg (fun s : EReal => Ideal.div 1 (1 + Ideal.exp (-s))) (congrArg u ?_)
  funext a
  match a with
  | ⟨0, _⟩ =>
    refine Fin.ext ?_
    show ((((i 0).val * 1024 + (i 1).val) / 1024 * 4 + (3 + 0)) * 1024 + ((i 0).val * 1024 + (i 1).val) % 1024) / 4096 = (i 0).val
    omega
  | ⟨1, _⟩ =>
    refine Fin.ext ?_
    show 3496 + ((((i 0).val * 1024 + (i 1).val) / 1024 * 4 + (3 + 0)) * 1024 + ((i 0).val * 1024 + (i 1).val) % 1024) % 4096 = 3496 + (3 * 1024 + (i 1).val)
    omega

theorem refprod3 (i : S4096x1024.Idx) : Cert.BranchMergeRefIdeal.Read.val_main_v22 (F := Ideal) (m ((c : Thread nD τ).loc main_arg3)) (m ((c : Thread nD τ).loc main_arg4)) i = (∑ l : Fin 512, argY3 m c (ix2 (i 0) l) * argW3 m c (ix2 l (i 1))) := by
  rw [sum3, Cert.BranchMergeRefIdeal.Read.val_main_v22_apply]
  refine Finset.sum_congr rfl fun l _ => ?_
  refine congrArg₂ (fun u v : EReal => u * v) ?_ ?_
  · exact congrArg (rows3 m c) ((eq_ix2 _).trans rfl)
  · exact congrArg (weight3 m c) ((eq_ix2 _).trans rfl)

theorem refterm3 (i : S4096x1024.Idx) : Cert.BranchMergeRefIdeal.Read.val_main_v35 (F := Ideal) (m ((c : Thread nD τ).loc main_arg5)) i * Cert.BranchMergeRefIdeal.Read.val_main_v22 (F := Ideal) (m ((c : Thread nD τ).loc main_arg3)) (m ((c : Thread nD τ).loc main_arg4)) i
    = gate (argU m c (gateAt 3 i)) * (∑ l : Fin 512, argY3 m c (ix2 (i 0) l) * argW3 m c (ix2 l (i 1))) := by
  have h1 : (i 1).val < 1024 := (i 1).isLt
  exact congrArg₂ (fun u v : EReal => u * v) ((refgate3 _ i (by omega)).trans (congrArg gate (argU_gate m c 3 i (by show 3496 + (3 * 1024 + (i 1).val) < 7592; omega)).symm)) (refprod3 m c i)

/-- The reference's result, at the kernel's arguments, is what the kernel leaves. -/
theorem ref12_eq : Cert.BranchMergeRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 12 cfg0.N := by
  rw [final12]
  funext i
  exact congrArg₂ (fun u v : EReal => u + v) (congrArg₂ (fun u v : EReal => u + v) (congrArg₂ (fun u v : EReal => u + v) (refterm0 m c i) (refterm1 m c i)) (refterm2 m c i)) (refterm3 m c i)

/-- The reference's result, at the kernel's arguments, is what the kernel leaves. -/
theorem ref13_eq : Cert.BranchMergeRefIdeal.Read.val_main_v38 (F := Ideal) (m ((c : Thread nD τ).loc main_arg0)) (m ((c : Thread nD τ).loc main_arg4)) = (dats m 0 c).arrAt 13 cfg0.N := by
  rw [final13]
  funext i
  exact refprod0 m c i

/-- The reference's result, at the kernel's arguments, is what the kernel leaves. -/
theorem ref14_eq : Cert.BranchMergeRefIdeal.Read.val_main_v39 (F := Ideal) (m ((c : Thread nD τ).loc main_arg1)) (m ((c : Thread nD τ).loc main_arg4)) = (dats m 0 c).arrAt 14 cfg0.N := by
  rw [final14]
  funext i
  exact refprod1 m c i

/-- The reference's result, at the kernel's arguments, is what the kernel leaves. -/
theorem ref15_eq : Cert.BranchMergeRefIdeal.Read.val_main_v40 (F := Ideal) (m ((c : Thread nD τ).loc main_arg2)) (m ((c : Thread nD τ).loc main_arg4)) = (dats m 0 c).arrAt 15 cfg0.N := by
  rw [final15]
  funext i
  exact refprod2 m c i

/-- The reference's result, at the kernel's arguments, is what the kernel leaves. -/
theorem ref16_eq : Cert.BranchMergeRefIdeal.Read.val_main_v41 (F := Ideal) (m ((c : Thread nD τ).loc main_arg3)) (m ((c : Thread nD τ).loc main_arg4)) = (dats m 0 c).arrAt 16 cfg0.N := by
  rw [final16]
  funext i
  exact refprod3 m c i

set_option maxHeartbeats 2000000 in
/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v56_0) = (dats m 0 c).arrAt 12 cfg0.N
      ∧ r.2.mem ((c : Thread nD τ).loc main_v56_1) = (dats m 0 c).arrAt 13 cfg0.N
      ∧ r.2.mem ((c : Thread nD τ).loc main_v56_2) = (dats m 0 c).arrAt 14 cfg0.N
      ∧ r.2.mem ((c : Thread nD τ).loc main_v56_3) = (dats m 0 c).arrAt 15 cfg0.N
      ∧ r.2.mem ((c : Thread nD τ).loc main_v56_4) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨(h.2 c).1 12, (h.2 c).1 13, (h.2 c).1 14, (h.2 c).1 15, (h.2 c).1 16, h.1 c⟩) (θ_run_and (unchanged m ρ) (run_main m ρ))

set_option maxHeartbeats 4000000 in
theorem value : Cert.algebraic_BranchMergeIdeal_BranchMergeRefIdeal (hBranchMergeIdeal := Cert.BranchMergeIdeal.Gen.facts) (hBranchMergeRefIdeal := Cert.BranchMergeRefIdeal.Gen.facts) := by
  intro m g m' g' _ hargs
  refine ⟨fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, run_holds m g, ?_⟩
  refine (θ_run _ _ _).mono (fun r h c => ?_) (Cert.BranchMergeRefIdeal.Value.run m' g')
  obtain ⟨a0, a1, a2, a3, a4, a5⟩ := hargs c
  obtain ⟨r0, r1, r2, r3, r4, rest⟩ := h c
  refine ⟨r0.trans ?_, r1.trans ?_, r2.trans ?_, r3.trans ?_, r4.trans ?_, rest⟩
  · rw [Cert.BranchMergeRefIdeal.Read.val_main_v37_eq, a0, a1, a2, a3, a4, a5]
    exact ref12_eq m c
  · rw [Cert.BranchMergeRefIdeal.Read.val_main_v38_eq, a0, a4]
    exact ref13_eq m c
  · rw [Cert.BranchMergeRefIdeal.Read.val_main_v39_eq, a1, a4]
    exact ref14_eq m c
  · rw [Cert.BranchMergeRefIdeal.Read.val_main_v40_eq, a2, a4]
    exact ref15_eq m c
  · rw [Cert.BranchMergeRefIdeal.Read.val_main_v41_eq, a3, a4]
    exact ref16_eq m c

theorem reference_frame : Cert.quiescent_BranchMergeRefIdeal (hBranchMergeRefIdeal := Cert.BranchMergeRefIdeal.Gen.facts) := by
  intro m g _
  exact (θ_run _ _ _).mono (fun r h => ⟨fun c => (h c).2.2.2.2.2, sem_eq_zero_of_no_sems (by decide) r.2⟩) (Cert.BranchMergeRefIdeal.Value.run m g)

end Cert.BranchMergeIdeal.Prod

end
-- ==== Proof.Diag.lean ====
/- The blocks on the diagonal of a square matrix: taken out and stacked, what the stack holds at one entry; and blocks set on
   the diagonal of a matrix that is zero elsewhere, what it holds at one entry, and sums along its rows and columns. -/
module

public import proofs.«01_k».proof.Proof.Heads

@[expose] public section

noncomputable section

namespace Cert.Layout

open Idealize.ShloMosaic

/-- A matrix whose rows and columns come in `A` blocks of `B`. -/
abbrev Quad (A B : ℕ) : Shape := ⟨4, ![A, B, A, B]⟩

/-- One block of such a matrix. -/
abbrev One (B : ℕ) : Shape := ⟨4, ![1, B, 1, B]⟩

/-- The blocks on the diagonal, one above the other. -/
def diagonal (B : ℕ) (F : ℕ → ℕ → EReal) (g a b : ℕ) : EReal := F (g * B + a) (g * B + b)

/-- Block `o` of the diagonal, as a stack of one. -/
theorem Cols.block {N A B o : ℕ} {x : (Mat N N).Idx → EReal} {F : ℕ → ℕ → EReal} (hx : Cols x F) (hN : N = A * B) (ho : o < A)
    (h₁ : (Mat N N).ShapeCasts (Quad A B)) (h₂ : (Quad A B).Slices ![o, 0, o, 0] (One B)) (h₃ : (One B).ShapeCasts (Mat B B))
    (h₄ : (Mat B B).BroadcastsInDim (Blk 1 B B) ![1, 2]) (k : (Blk 1 B B).Idx) :
    broadcastInDim (Blk 1 B B) ![1, 2] h₄ (shapeCast (Mat B B) (extractStridedSlice (One B) ![o, 0, o, 0] (shapeCast (Quad A B) x h₁) h₂) h₃) k
      = diagonal B F o (k 1).val (k 2).val := by
  have k1 : (k 1).val < B := (k 1).isLt
  have k2 : (k 2).val < B := (k 2).isLt
  rw [broadcastInDim_apply _ h₄ _ k (ix2 ⟨(k 1).val, k1⟩ ⟨(k 2).val, k2⟩) (by
      intro a
      fin_cases a
      · show (k 1).val = if B = 1 then 0 else (k 1).val
        split <;> omega
      · show (k 2).val = if B = 1 then 0 else (k 2).val
        split <;> omega),
    shapeCast_apply (t := Mat B B) (s := One B) _ h₃ _ (ix4 ⟨0, Nat.one_pos⟩ ⟨(k 1).val, k1⟩ ⟨0, Nat.one_pos⟩ ⟨(k 2).val, k2⟩) (by
      rw [Shape.rowMajor_val_four, Shape.rowMajor_val_two]
      show ((0 * B + (k 1).val) * 1 + 0) * B + (k 2).val = (k 1).val * B + (k 2).val
      simp),
    extractStridedSlice_apply _ _ h₂ _ (ix4 ⟨o, ho⟩ ⟨(k 1).val, k1⟩ ⟨o, ho⟩ ⟨(k 2).val, k2⟩) (by
      intro a
      fin_cases a
      · rfl
      · show (k 1).val = 0 + (k 1).val; omega
      · rfl
      · show (k 2).val = 0 + (k 2).val; omega),
    shapeCast_apply (t := Quad A B) (s := Mat N N) x h₁ _ (ix2 ⟨o * B + (k 1).val, blk_lt hN ho k1⟩ ⟨o * B + (k 2).val, blk_lt hN ho k2⟩) (by
      rw [Shape.rowMajor_val_four, Shape.rowMajor_val_two]
      show (o * B + (k 1).val) * N + (o * B + (k 2).val) = ((o * B + (k 1).val) * A + o) * B + (k 2).val
      exact (pos_eq hN _ _ _).symm)]
  exact hx _

/-- The pieces of a stack, from layer `o` on. -/
inductive Layers (B : ℕ) (G : ℕ → ℕ → ℕ → EReal) : ℕ → List ((s : Shape) × (s.Idx → EReal)) → Prop
  | nil (o : ℕ) : Layers B G o []
  | cons {o : ℕ} {x : (Blk 1 B B).Idx → EReal} {xs} (hx : ∀ k, x k = G o (k 1).val (k 2).val) (h : Layers B G (o + 1) xs) :
      Layers B G o (⟨Blk 1 B B, x⟩ :: xs)

theorem layer_at {A B : ℕ} {G : ℕ → ℕ → ℕ → EReal} (j : (Blk A B B).Idx) {o xs} (hp : Layers B G o xs) :
    ∀ (hs : ∀ s ∈ xs.map (·.1), s.FitsOff (Blk A B B) 0) (q : ℕ) (hq : q < (axisSizes (Blk A B B) 0 xs).sum),
      concatenateAt (Blk A B B) 0 j xs hs q hq = G (o + q) (j 1).val (j 2).val := by
  induction hp with
  | nil => intro hs q hq; exact absurd hq (Nat.not_lt_zero _)
  | @cons o x xs hx h ih =>
    intro hs q hq
    cases h with
    | nil =>
      have h0 : q = 0 := by
        rw [axisSizes_cons (Blk A B B) 0 ⟨Blk 1 B B, x⟩ [] (hs _ List.mem_cons_self)] at hq
        have h1 : q < 1 + 0 := hq
        omega
      subst h0
      rw [concatenateAt_singleton]
      exact (hx _).trans rfl
    | cons hx' h' =>
      rw [concatenateAt_cons]
      split
      · rename_i hlt
        have h0 : q = 0 := Nat.lt_one_iff.mp hlt
        subst h0
        exact (hx _).trans rfl
      · rename_i hlt
        have h1 : ¬ q < 1 := hlt
        refine (ih _ _ _).trans ?_
        show G (o + 1 + (q - 1)) _ _ = G (o + q) _ _
        congr 1
        omega

/-- The stack at one entry. -/
theorem Layers.stack {A B : ℕ} {G : ℕ → ℕ → ℕ → EReal} {xs} (hp : Layers B G 0 xs) (h : Shape.Concatenates (xs.map (·.1)) (Blk A B B) 0)
    (i : (Blk A B B).Idx) : concatenate (Blk A B B) 0 xs h i = G (i 0).val (i 1).val (i 2).val := by
  rw [concatenate_apply]
  refine (layer_at i hp _ _ _).trans ?_
  rw [Nat.zero_add]

/-! ## Blocks set on the diagonal -/

/-- Blocks on the diagonal, zero elsewhere. -/
def onDiagonal (B : ℕ) (G : ℕ → ℕ → ℕ → EReal) (r q : ℕ) : EReal := if r / B = q / B then G (r / B) (r % B) (q % B) else 0

theorem mulf_at {s : Shape} (x y : FVec Ideal s .f32) (i : s.Idx) : mulf x y i = (x i * y i : EReal) := rfl

/-- A coordinate that is kept, whether or not its axis has one entry only. -/
theorem keep {n x : ℕ} (h : x < n) : x = if n = 1 then 0 else x := by split <;> omega

theorem Cols.onDiagonal {N A B : ℕ} {e : FVec Ideal (Mat A A) .f32} {w : FVec Ideal (Blk A B B) .f32} {G : ℕ → ℕ → ℕ → EReal}
    (he : ∀ k, e k = if (k 0).val = (k 1).val then (1 : EReal) else 0) (hw : ∀ k, w k = G (k 0).val (k 1).val (k 2).val)
    (hN : N = A * B) (hB : 0 < B)
    (h₁ : (Mat A A).BroadcastsInDim (⟨4, ![A, 1, A, 1]⟩ : Shape) ![0, 2])
    (h₂ : (⟨4, ![A, 1, A, 1]⟩ : Shape).BroadcastsInDim (Quad A B) ![0, 1, 2, 3])
    (h₃ : (Blk A B B).BroadcastsInDim (⟨4, ![A, B, 1, B]⟩ : Shape) ![0, 1, 3])
    (h₄ : (⟨4, ![A, B, 1, B]⟩ : Shape).BroadcastsInDim (Quad A B) ![0, 1, 2, 3])
    (h₅ : (Quad A B).ShapeCasts (Mat N N)) :
    Cols (shapeCast (Mat N N) (mulf (F := Ideal) (φ := .f32) (broadcastInDim (Quad A B) ![0, 1, 2, 3] h₂ (broadcastInDim (⟨4, ![A, 1, A, 1]⟩ : Shape) ![0, 2] h₁ e))
      (broadcastInDim (Quad A B) ![0, 1, 2, 3] h₄ (broadcastInDim (⟨4, ![A, B, 1, B]⟩ : Shape) ![0, 1, 3] h₃ w))) h₅)
      (Cert.Layout.onDiagonal B G) := fun i => by
  have i0 : (i 0).val < A * B := hN ▸ (i 0).isLt
  have i1 : (i 1).val < A * B := hN ▸ (i 1).isLt
  have a0 : (i 0).val / B < A := Nat.div_lt_of_lt_mul (by rwa [Nat.mul_comm])
  have a1 : (i 1).val / B < A := Nat.div_lt_of_lt_mul (by rwa [Nat.mul_comm])
  have b0 : (i 0).val % B < B := Nat.mod_lt _ hB
  have b1 : (i 1).val % B < B := Nat.mod_lt _ hB
  rw [shapeCast_apply (t := Mat N N) (s := Quad A B) _ h₅ i (ix4 ⟨(i 0).val / B, a0⟩ ⟨(i 0).val % B, b0⟩ ⟨(i 1).val / B, a1⟩ ⟨(i 1).val % B, b1⟩) (by
    rw [Shape.rowMajor_val_four, Shape.rowMajor_val_two]
    show (((i 0).val / B * B + (i 0).val % B) * A + (i 1).val / B) * B + (i 1).val % B = (i 0).val * N + (i 1).val
    rw [pos_eq hN, Nat.div_add_mod', Nat.div_add_mod'])]
  rw [mulf_at]
  rw [broadcastInDim_apply _ h₂ _ _ (ix4 ⟨(i 0).val / B, a0⟩ ⟨0, Nat.one_pos⟩ ⟨(i 1).val / B, a1⟩ ⟨0, Nat.one_pos⟩) (by
      intro a
      fin_cases a
      · exact keep a0
      · rfl
      · exact keep a1
      · rfl),
    broadcastInDim_apply _ h₁ _ _ (ix2 ⟨(i 0).val / B, a0⟩ ⟨(i 1).val / B, a1⟩) (by
      intro a
      fin_cases a
      · exact keep a0
      · exact keep a1),
    broadcastInDim_apply _ h₄ _ _ (ix4 ⟨(i 0).val / B, a0⟩ ⟨(i 0).val % B, b0⟩ ⟨0, Nat.one_pos⟩ ⟨(i 1).val % B, b1⟩) (by
      intro a
      fin_cases a
      · exact keep a0
      · exact keep b0
      · rfl
      · exact keep b1),
    broadcastInDim_apply _ h₃ _ _ (ix3 ⟨(i 0).val / B, a0⟩ ⟨(i 0).val % B, b0⟩ ⟨(i 1).val % B, b1⟩) (by
      intro a
      fin_cases a
      · exact keep a0
      · exact keep b0
      · exact keep b1)]
  rw [he, hw]
  show (if (i 0).val / B = (i 1).val / B then (1 : EReal) else 0) * G ((i 0).val / B) ((i 0).val % B) ((i 1).val % B) = _
  unfold Cert.Layout.onDiagonal
  split
  · rw [one_mul]
  · rw [zero_mul]

/-- A column's sum has only the terms of its own block. -/
theorem sum_onDiagonal {N : ℕ} (A B : ℕ) (hN : N = A * B) (hB : 0 < B) (f : ℕ → EReal) (G : ℕ → ℕ → ℕ → EReal) (q : ℕ) (hq : q < N) :
    ∑ l : Fin N, f l.val * onDiagonal B G l.val q = ∑ b : Fin B, f (q / B * B + b.val) * G (q / B) b.val (q % B) := by
  have ha : q / B < A := Nat.div_lt_of_lt_mul (by rw [Nat.mul_comm]; exact hN ▸ hq)
  have dv (b : Fin B) : (q / B * B + b.val) / B = q / B := by
    rw [Nat.mul_comm, Nat.mul_add_div hB, Nat.div_eq_of_lt b.isLt, Nat.add_zero]
  have md (b : Fin B) : (q / B * B + b.val) % B = b.val := by
    rw [Nat.mul_comm, Nat.mul_add_mod, Nat.mod_eq_of_lt b.isLt]
  refine (Fintype.sum_of_injective (fun b : Fin B => (⟨q / B * B + b.val, blk_lt hN ha b.isLt⟩ : Fin N)) (fun b b' h => ?_) _ _ (fun l hl => ?_) fun b => ?_).symm
  · have h' : q / B * B + b.val = q / B * B + b'.val := congrArg Fin.val h
    exact Fin.ext (by omega)
  · unfold onDiagonal
    by_cases hr : l.val / B = q / B
    · refine absurd ⟨⟨l.val % B, Nat.mod_lt _ hB⟩, Fin.ext ?_⟩ hl
      show q / B * B + l.val % B = l.val
      rw [← hr, Nat.div_add_mod']
    · rw [if_neg hr, mul_zero]
  · show _ = f (q / B * B + b.val) * onDiagonal B G (q / B * B + b.val) q
    unfold onDiagonal
    rw [dv, md, if_pos rfl]

theorem onDiagonal_swap (B : ℕ) (G : ℕ → ℕ → ℕ → EReal) (r q : ℕ) : onDiagonal B G r q = onDiagonal B (fun g a b => G g b a) q r := by
  unfold onDiagonal
  by_cases h : r / B = q / B
  · rw [if_pos h, if_pos h.symm, h]
  · rw [if_neg h, if_neg (Ne.symm h)]

/-- A row's sum has only the terms of its own block. -/
theorem sum_onDiagonal_row {N : ℕ} (A B : ℕ) (hN : N = A * B) (hB : 0 < B) (f : ℕ → EReal) (G : ℕ → ℕ → ℕ → EReal) (q : ℕ) (hq : q < N) :
    ∑ l : Fin N, f l.val * onDiagonal B G q l.val = ∑ b : Fin B, f (q / B * B + b.val) * G (q / B) (q % B) b.val := by
  simp only [fun l => onDiagonal_swap B G q l]
  exact sum_onDiagonal A B hN hB f _ q hq

/-- A sum over two halves. -/
theorem sum_halves {N N' : ℕ} (h : N' = N + N) (f : ℕ → EReal) : ∑ l : Fin N', f l.val = ∑ l : Fin N, f l.val + ∑ l : Fin N, f (N + l.val) := by
  subst h
  exact Fin.sum_univ_add _

/-- A stack's entry, zero outside it. -/
def ent3 {A B C : ℕ} (x : (⟨3, ![A, B, C]⟩ : Shape).Idx → EReal) (g a b : ℕ) : EReal :=
  if h : g < A ∧ a < B ∧ b < C then x (ix3 ⟨g, h.1⟩ ⟨a, h.2.1⟩ ⟨b, h.2.2⟩) else 0

theorem ent3_eq {A B C : ℕ} (x : (⟨3, ![A, B, C]⟩ : Shape).Idx → EReal) (g : Fin A) (a : Fin B) (b : Fin C) : ent3 x g.val a.val b.val = x (ix3 g a b) := by
  unfold ent3
  rw [dif_pos ⟨g.isLt, a.isLt, b.isLt⟩]

theorem ent3_at {A B C : ℕ} (x : (⟨3, ![A, B, C]⟩ : Shape).Idx → EReal) (k : (⟨3, ![A, B, C]⟩ : Shape).Idx) : x k = ent3 x (k 0).val (k 1).val (k 2).val :=
  (congrArg x (eq_ix3 k)).trans (ent3_eq x (k 0) (k 1) (k 2)).symm

/-- One where row and column are equal, zero elsewhere. -/
abbrev eye (A : ℕ) (h : (⟨0, ![]⟩ : Shape).BroadcastsInDim (Mat A A) ![]) : FVec Ideal (Mat A A) .f32 :=
  uitofp .f32 (cmpi .eq (addi (iotaInDim (Mat A A) 32 0) (broadcastInDim (Mat A A) ![] h (constantI (⟨0, ![]⟩ : Shape) 32 0#32))) (iotaInDim (Mat A A) 32 1))

theorem eye_apply {A : ℕ} (hA : A < 2 ^ 32) (h) (k : (Mat A A).Idx) : eye A h k = if (k 0).val = (k 1).val then (1 : EReal) else 0 := by
  have k0 : (k 0).val < 2 ^ 32 := lt_trans (k 0).isLt hA
  have k1 : (k 1).val < 2 ^ 32 := lt_trans (k 1).isLt hA
  show ((((cmpi .eq (addi (iotaInDim (Mat A A) 32 0) (broadcastInDim (Mat A A) ![] h (constantI (⟨0, ![]⟩ : Shape) 32 0#32))) (iotaInDim (Mat A A) 32 1) k).toNat : ℕ) : ℝ) : EReal) = _
  have hk : cmpi .eq (addi (iotaInDim (Mat A A) 32 0) (broadcastInDim (Mat A A) ![] h (constantI (⟨0, ![]⟩ : Shape) 32 0#32))) (iotaInDim (Mat A A) 32 1) k
      = BitVec.ofBool (BitVec.ofNat 32 (k 0).val + 0#32 == BitVec.ofNat 32 (k 1).val) := rfl
  rw [hk, BitVec.add_zero]
  by_cases e : (k 0).val = (k 1).val
  · rw [if_pos e, e]
    simp
  · rw [if_neg e, show (BitVec.ofNat 32 (k 0).val == BitVec.ofNat 32 (k 1).val) = false from by
      rw [beq_eq_false_iff_ne]
      intro hb
      have hb' := congrArg BitVec.toNat hb
      rw [BitVec.toNat_ofNat, BitVec.toNat_ofNat, Nat.mod_eq_of_lt k0, Nat.mod_eq_of_lt k1] at hb'
      exact e hb']
    simp

end Cert.Layout

end
-- ==== Proof.DWpool.lean ====
/- The gradient of the pooling mixer's weight: the steps' sums make one product of all columns, whose blocks on the diagonal
   are the reference's gradient. -/
module

public import proofs.«01_k».proof.Defs
public import proofs.«01_k».proof.Proof.Gen.DWpoolIdeal.Frame
public import proofs.«01_k».proof.Proof.Gen.DWpoolRefIdeal.Run
public import proofs.«01_k».proof.Proof.Gen.DWpoolRefIdeal.Read
public import proofs.«01_k».proof.Proof.Diag
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DWpoolIdeal.Prod

open Cert.DWpoolIdeal Cert.DWpoolIdeal.Gen Cert.Layout Idealize.ShloMosaic Idealize.ShloMosaic.TcCoe Idealize.SL.Sem

variable (m : (ℓ : Loc nD τ sig) → Buf (Elt Ideal) ℓ) (c : Dev nD)

/-! ## The step's operations at one entry -/

theorem pay1_apply (y : S512x512.Idx) : k0_pay1 (F := Ideal) y = 0 := by
  rw [eq_ix2 y]
  pointwise [k0_pay1]

theorem pay2_apply (acc : FVec Ideal S512x512 .f32) (a : FVec Ideal S2048x512 .f32) (b : FVec Ideal S2048x512 .bf16) (y : S512x512.Idx) :
    k0_pay2 (F := Ideal) acc a b y = acc y + ∑ r : Fin 2048, a (ix2 r (y 0)) * b (ix2 r (y 1)) := by
  rw [eq_ix2 y]
  pointwise [k0_pay2, dot_S2048x512_S2048x512_S512x512_0_0_1_1_n_n]

/-! ## The accumulation -/

abbrev blkA (t : Fin cfg0.N) : FVec Ideal S2048x512 .f32 := iblk m c 0 t
abbrev blkB (t : Fin cfg0.N) : FVec Ideal S2048x512 .bf16 := iblk m c 1 t

/-- At the last step of a run the accumulator holds the sum of the run's block products. -/
theorem acc_eq (t : Fin cfg0.N) (hr : t.val % 2 = 2 - 1) (y : S512x512.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S512x512.Idx) :
    (outsAt0 m c t.val t.isLt).1 y = (outsAt0 m c t.val t.isLt).2 y := by
  rw [outsAt0_B m c t (by omega) hr]
  frame_out

/-! ## The whole arrays -/

abbrev argA : FVec Ideal S4096x512 .f32 := V m c main_arg0
abbrev argB : FVec Ideal S4096x512 .bf16 := V m c main_arg2

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  congr 1
  · show V m c main_arg0 _ = V m c main_arg0 _
    congr 1
    blk_ext [idx0, idx2]
  · show V m c main_arg2 _ = V m c main_arg2 _
    congr 1
    blk_ext [idx1, idx2]

/-! ## The blocks on the diagonal -/

/-- The buffers when the launch is done. -/
abbrev V1 := Pipeline.withArrays (cfgs 0).spec c (V0 m c) fun w => (dats m 0 c).arrAt w (cfgs 0).N

abbrev whole : FVec Ideal S512x512 .f32 := (dats m 0 c).arrAt 2 cfg0.N

theorem V1_whole : (V1 m c (Proc.devRef .tc main_v0) : FVec Ideal S512x512 .f32) = whole m c :=
  Pipeline.withArrays_arr (cfgs 0).spec (by decide) c (V0 m c) (fun w => (dats m 0 c).arrAt w (cfgs 0).N) 2

theorem whole_cols : Cols (V1 m c (Proc.devRef .tc main_v0) : FVec Ideal S512x512 .f32) (ent (whole m c)) :=
  Cols.of_eq (V1_whole m c) (ent_cols _)

abbrev result : FVec Ideal S4x128x128 .f32 := Pipeline.afterTail₀ cfgs (dats m) 0 (V0 m) [hostOps1] c main_v14

theorem eq_at {s : Shape} {x y : s.Idx → EReal} {f : s.Idx → EReal} (h : x = y) (hy : ∀ i, y i = f i) : ∀ i, x i = f i := h ▸ hy

/-- The result at an entry, from the array the launch leaves. -/
theorem result_at : ∀ i : S4x128x128.Idx, result m c i = diagonal 128 (ent (whole m c)) (i 0).val (i 1).val (i 2).val := by
  have h := whole_cols m c
  show ∀ i : S4x128x128.Idx, (StableHlo.after ([hostOps1] : List (List (HloOp τ sig (Elt Ideal)))).flatten (V1 m c) (Proc.devRef .tc main_v14) : FVec Ideal S4x128x128 .f32) i = _
  generalize V1 m c = U at h ⊢
  apply eq_at
  · after_reads_simp
    exact rfl
  · exact Layers.stack (.cons (h.block (A := 4) rfl (by decide) _ (by decide) _ (by decide)) (.cons (h.block (A := 4) rfl (by decide) _ (by decide) _ (by decide))
      (.cons (h.block (A := 4) rfl (by decide) _ (by decide) _ (by decide)) (.cons (h.block (A := 4) rfl (by decide) _ (by decide) _ (by decide)) (.nil _))))) _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).2 main_v14 (by decide), h.1 c⟩) (θ_run_and (unchanged m ρ) (run_main m ρ))

/-- The reference's result, at the kernel's arguments, is what the kernel leaves. -/
theorem ref2_eq : Cert.DWpoolRefIdeal.Read.val_main_v8 (F := Ideal) (m ((c : Thread nD τ).loc main_arg0)) (m ((c : Thread nD τ).loc main_arg2)) = result m c := by
  funext i
  have h0 : (i 0).val < 4 := (i 0).isLt
  have h1 : (i 1).val < 128 := (i 1).isLt
  have h2 : (i 2).val < 128 := (i 2).isLt
  have hw := congrFun (final2 m c) (ix2 ⟨(i 0).val * 128 + (i 1).val, by omega⟩ ⟨(i 0).val * 128 + (i 2).val, by omega⟩)
  refine Eq.trans ?_ ((result_at m c i).trans ((ent_eq (whole m c) ⟨(i 0).val * 128 + (i 1).val, by omega⟩ ⟨(i 0).val * 128 + (i 2).val, by omega⟩).trans hw)).symm
  rw [show argA m c = m ((c : Thread nD τ).loc main_arg0) from V_main_arg0 m c, show argB m c = m ((c : Thread nD τ).loc main_arg2) from V_main_arg2 m c]
  rw [Cert.DWpoolRefIdeal.Read.val_main_v8_apply, Cert.DWpoolRefIdeal.Read.val_main_v7_apply]
  refine Finset.sum_congr rfl fun l _ => ?_
  rw [mul_comm, Cert.DWpoolRefIdeal.Read.val_main_v0_apply, Cert.DWpoolRefIdeal.Read.val_main_v6_apply, Cert.DWpoolRefIdeal.Read.val_main_v5_apply]
  refine congrArg₂ (fun u v : EReal => u * v) ?_ ?_
  · refine congrArg (m ((c : Thread nD τ).loc main_arg0)) ((eq_ix2 _).trans ?_)
    congr 1 <;> apply Fin.ext
    · show _ = l.val
      simp <;> omega
    · show _ = (i 0).val * 128 + (i 1).val
      simp <;> omega
  · refine congrArg (m ((c : Thread nD τ).loc main_arg2)) ((eq_ix2 _).trans ?_)
    congr 1 <;> apply Fin.ext
    · show _ = l.val
      simp <;> omega
    · show _ = (i 0).val * 128 + (i 2).val
      simp <;> omega

theorem value : Cert.algebraic_DWpoolIdeal_DWpoolRefIdeal (hDWpoolIdeal := Cert.DWpoolIdeal.Gen.facts) (hDWpoolRefIdeal := Cert.DWpoolRefIdeal.Gen.facts) := by
  intro m g m' g' _ hargs
  refine ⟨fun c => result m c, run_holds m g, ?_⟩
  refine (θ_run _ _ _).mono (fun r h c => ?_) (Cert.DWpoolRefIdeal.Value.run m' g')
  obtain ⟨a0, a1, a2⟩ := hargs c
  obtain ⟨r0, rest⟩ := h c
  refine ⟨r0.trans ?_, rest⟩
  rw [Cert.DWpoolRefIdeal.Read.val_main_v8_eq, a0, a2]
  exact ref2_eq m c

theorem reference_frame : Cert.quiescent_DWpoolRefIdeal (hDWpoolRefIdeal := Cert.DWpoolRefIdeal.Gen.facts) := by
  intro m g _
  exact (θ_run _ _ _).mono (fun r h => ⟨fun c => (h c).2, sem_eq_zero_of_no_sems (by decide) r.2⟩) (Cert.DWpoolRefIdeal.Value.run m g)

end Cert.DWpoolIdeal.Prod

end
-- ==== Proof.DPoolD.lean ====
/- The gradient of the pooling mixer's differences: the weight's blocks stand on the diagonal of a matrix that is zero elsewhere,
   so each sum has the terms of one block only, which is the reference's product. -/
module

public import proofs.«01_k».proof.Defs
public import proofs.«01_k».proof.Proof.Gen.DPoolDIdeal.Frame
public import proofs.«01_k».proof.Proof.Gen.DPoolDRefIdeal.Run
public import proofs.«01_k».proof.Proof.Gen.DPoolDRefIdeal.Read
public import proofs.«01_k».proof.Proof.Diag
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DPoolDIdeal.Prod

open Cert.DPoolDIdeal Cert.DPoolDIdeal.Gen Cert.Layout Idealize.ShloMosaic Idealize.ShloMosaic.TcCoe Idealize.SL.Sem

variable (m : (ℓ : Loc nD τ sig) → Buf (Elt Ideal) ℓ) (c : Dev nD)

/-! ## The step's operations at one entry -/

theorem pay1_apply (y : S1024x512.Idx) : k0_pay1 (F := Ideal) y = 0 := by
  rw [eq_ix2 y]
  pointwise [k0_pay1]

theorem pay2_apply (acc : FVec Ideal S1024x512 .f32) (a : FVec Ideal S1024x512 .bf16) (b : FVec Ideal S512x512 .f32) (y : S1024x512.Idx) :
    k0_pay2 (F := Ideal) acc a b y = acc y + ∑ r : Fin 512, a (ix2 (y 0) r) * b (ix2 (y 1) r) := by
  rw [eq_ix2 y]
  pointwise [k0_pay2, dot_S1024x512_S512x512_S1024x512_1_1_0_0_n_n]

/-! ## The accumulation -/

abbrev blkA (t : Fin cfg0.N) : FVec Ideal S1024x512 .bf16 := iblk m c 0 t
abbrev blkB (t : Fin cfg0.N) : FVec Ideal S512x512 .f32 := iblk m c 1 t

theorem out2_eq (t : Fin cfg0.N) (y : S1024x512.Idx) :
    (outsAt0 m c t) y = (∑ r : Fin 512, blkA m c t (ix2 (y 0) r) * blkB m c t (ix2 (y 1) r)) := by
  unfold outsAt0
  frame_out
  rw [pay2_apply, pay1_apply, zero_add]

/-! ## The whole arrays -/

abbrev argA : FVec Ideal S4096x512 .bf16 := V m c main_arg2
abbrev argB : FVec Ideal S512x512 .f32 := V m c main_v11

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

set_option maxHeartbeats 1000000 in
/-- What the launch leaves in the result. -/
theorem final2 : (dats m 0 c).arrAt 2 cfg0.N = fun i => (∑ l : Fin 512, argA m c (ix2 (i 0) l) * argB m c (ix2 (i 1) l)) := by
  refine (dats m 0 c).arrAt_eq_of_covers 2 _ (by decide +kernel) fun t hf y => ?_
  blk_simp
  rw [after0_2, out2_eq m c t]
  show (_ : EReal) = _
  refine Finset.sum_congr rfl fun r _ => ?_
  refine congrArg₂ (fun u v : EReal => u * v) ?_ ?_
  · show V m c main_arg2 _ = V m c main_arg2 _
    generalize V m c main_arg2 = f
    congr 1
    blk_ext [idx0, idx2]
  · show V m c main_v11 _ = V m c main_v11 _
    generalize V m c main_v11 = f
    congr 1
    blk_ext [idx1, idx2]

/-! ## The weight's blocks on the diagonal -/

/-- The operations before the launch. -/
abbrev before : List (HloOp τ sig (Elt Ideal)) := [hostOps0].flatten

abbrev weight := (m ((c : Thread nD τ).loc main_arg1) : FVec Ideal S4x128x128 .f32)

theorem argB_cols : Cols (argB m c) (onDiagonal 128 (ent3 (weight m c))) := by
  apply Cols.of_eq
  · unfold_abbrev_sides
    after_reads_simp
    exact rfl
  · exact Cols.onDiagonal (A := 4) (eye_apply (by decide) bcast_S_S4x4) (ent3_at (weight m c)) rfl (by decide) (by decide) (by decide) (by decide) (by decide) _

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v12) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 2, h.1 c⟩) (θ_run_and (unchanged m ρ) (run_main m ρ))

/-- The reference's result, at the kernel's arguments, is what the kernel leaves. -/
theorem ref2_eq : Cert.DPoolDRefIdeal.Read.val_main_v9 (F := Ideal) (m ((c : Thread nD τ).loc main_arg1)) (m ((c : Thread nD τ).loc main_arg2)) = (dats m 0 c).arrAt 2 cfg0.N := by
  rw [final2, show argA m c = m ((c : Thread nD τ).loc main_arg2) from V_main_arg2 m c]
  funext i
  have h0 : (i 0).val < 4096 := (i 0).isLt
  have h1 : (i 1).val < 512 := (i 1).isLt
  refine Eq.trans ?_ ((Finset.sum_congr rfl fun l _ => congrArg₂ (fun u v : EReal => u * v)
    (ent_eq (m ((c : Thread nD τ).loc main_arg2) : FVec Ideal S4096x512 .bf16) (i 0) l).symm (argB_cols m c (ix2 (i 1) l))).trans
    (sum_onDiagonal_row 4 128 rfl (by decide) (ent (m ((c : Thread nD τ).loc main_arg2) : FVec Ideal S4096x512 .bf16) (i 0).val) (ent3 (weight m c)) (i 1).val h1)).symm
  rw [Cert.DPoolDRefIdeal.Read.val_main_v9_apply, Cert.DPoolDRefIdeal.Read.val_main_v8_apply, Cert.DPoolDRefIdeal.Read.val_main_v7_apply]
  refine Finset.sum_congr rfl fun l _ => ?_
  have hl := l.isLt
  rw [Cert.DPoolDRefIdeal.Read.val_main_v6_apply, Cert.DPoolDRefIdeal.Read.val_main_v5_apply]
  refine congrArg₂ (fun u v : EReal => u * v) ?_ ?_
  · refine Eq.trans ?_ (ent_eq (m ((c : Thread nD τ).loc main_arg2) : FVec Ideal S4096x512 .bf16) (i 0) ⟨(i 1).val / 128 * 128 + l.val, by omega⟩).symm
    refine congrArg (m ((c : Thread nD τ).loc main_arg2)) ((eq_ix2 _).trans ?_)
    congr 1 <;> apply Fin.ext
    · show _ = (i 0).val
      simp <;> omega
    · show _ = (i 1).val / 128 * 128 + l.val
      simp <;> omega
  · refine Eq.trans ?_ (ent3_eq (weight m c) ⟨(i 1).val / 128, by omega⟩ ⟨(i 1).val % 128, by omega⟩ l).symm
    refine congrArg (weight m c) ((eq_ix3 _).trans ?_)
    congr 1 <;> apply Fin.ext
    · show _ = (i 1).val / 128
      simp <;> omega
    · show _ = (i 1).val % 128
      simp <;> omega

theorem value : Cert.algebraic_DPoolDIdeal_DPoolDRefIdeal (hDPoolDIdeal := Cert.DPoolDIdeal.Gen.facts) (hDPoolDRefIdeal := Cert.DPoolDRefIdeal.Gen.facts) := by
  intro m g m' g' _ hargs
  refine ⟨fun c => (dats m 0 c).arrAt 2 cfg0.N, run_holds m g, ?_⟩
  refine (θ_run _ _ _).mono (fun r h c => ?_) (Cert.DPoolDRefIdeal.Value.run m' g')
  obtain ⟨a0, a1, a2⟩ := hargs c
  obtain ⟨r0, rest⟩ := h c
  refine ⟨r0.trans ?_, rest⟩
  rw [Cert.DPoolDRefIdeal.Read.val_main_v9_eq, a1, a2]
  exact ref2_eq m c

theorem reference_frame : Cert.quiescent_DPoolDRefIdeal (hDPoolDRefIdeal := Cert.DPoolDRefIdeal.Gen.facts) := by
  intro m g _
  exact (θ_run _ _ _).mono (fun r h => ⟨fun c => (h c).2, sem_eq_zero_of_no_sems (by decide) r.2⟩) (Cert.DPoolDRefIdeal.Value.run m g)

end Cert.DPoolDIdeal.Prod

end
-- ==== Proof.DLruW.lean ====
/- The gradients of the recurrence's two gate weights: the two gates' gradients side by side, the steps' sums make one product
   of all columns; the blocks on the diagonals of its two halves are the reference's gradients. -/
module

public import proofs.«01_k».proof.Defs
public import proofs.«01_k».proof.Proof.Gen.DLruWIdeal.Frame
public import proofs.«01_k».proof.Proof.Gen.DLruWRefIdeal.Run
public import proofs.«01_k».proof.Proof.Gen.DLruWRefIdeal.Read
public import proofs.«01_k».proof.Proof.Diag
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DLruWIdeal.Prod

open Cert.DLruWIdeal Cert.DLruWIdeal.Gen Cert.Layout Idealize.ShloMosaic Idealize.ShloMosaic.TcCoe Idealize.SL.Sem

variable (m : (ℓ : Loc nD τ sig) → Buf (Elt Ideal) ℓ) (c : Dev nD)

/-! ## The step's operations at one entry -/

theorem pay1_apply (y : S512x1024.Idx) : k0_pay1 (F := Ideal) y = 0 := by
  rw [eq_ix2 y]
  pointwise [k0_pay1]

theorem pay2_apply (acc : FVec Ideal S512x1024 .f32) (a : FVec Ideal S2048x512 .f32) (b : FVec Ideal S2048x1024 .f32) (y : S512x1024.Idx) :
    k0_pay2 (F := Ideal) acc a b y = acc y + ∑ r : Fin 2048, a (ix2 r (y 0)) * b (ix2 r (y 1)) := by
  rw [eq_ix2 y]
  pointwise [k0_pay2, dot_S2048x512_S2048x1024_S512x1024_0_0_1_1_n_n]

/-! ## The accumulation -/

abbrev blkA (t : Fin cfg0.N) : FVec Ideal S2048x512 .f32 := iblk m c 0 t
abbrev blkB (t : Fin cfg0.N) : FVec Ideal S2048x1024 .f32 := iblk m c 1 t

/-- At the last step of a run the accumulator holds the sum of the run's block products. -/
theorem acc_eq (t : Fin cfg0.N) (hr : t.val % 2 = 2 - 1) (y : S512x1024.Idx) :
    (outsAt0 m c t.val t.isLt).2 y = 0 + ∑ s : Fin 2, ∑ r : Fin 2048,
      blkA m c ⟨2 * (t.val / 2) + s.val, Pipeline.run_point_lt_of_flush t hr s⟩ (ix2 r (y 0)) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out2_eq (t : Fin cfg0.N) (hr : t.val % 2 = 1) (y : S512x1024.Idx) :
    (outsAt0 m c t.val t.isLt).1 y = (outsAt0 m c t.val t.isLt).2 y := by
  rw [outsAt0_B m c t (by omega) hr]
  frame_out

/-! ## The whole arrays -/

abbrev argA : FVec Ideal S4096x512 .f32 := V m c main_arg0
abbrev argB : FVec Ideal S4096x1024 .f32 := V m c main_v0

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

set_option maxHeartbeats 1000000 in
/-- What the launch leaves in the result. -/
theorem final2 : (dats m 0 c).arrAt 2 cfg0.N = fun i => (∑ l : Fin 4096, argA m c (ix2 l (i 0)) * argB m c (ix2 l (i 1))) := by
  refine (dats m 0 c).arrAt_eq_of_covers 2 _ (by decide +kernel) fun t hf y => ?_
  have hr := (flush0_2 t).mp hf
  blk_simp
  rw [after0_2, out2_eq m c t hr, acc_eq m c t hr, zero_add]
  refine Fin.sum_mul_add_congr fun s r hl => ?_
  have hs := s.isLt
  refine congrArg₂ (fun u v : EReal => u * v) ?_ ?_
  · show V m c main_arg0 _ = V m c main_arg0 _
    generalize V m c main_arg0 = f
    congr 1
    blk_ext [idx0, idx2]
  · show V m c main_v0 _ = V m c main_v0 _
    generalize V m c main_v0 = f
    congr 1
    blk_ext [idx1, idx2]

/-! ## The gates' gradients side by side -/

/-- The operations before the launch. -/
abbrev before : List (HloOp τ sig (Elt Ideal)) := [hostOps0].flatten

abbrev entP := ent (m ((c : Thread nD τ).loc main_arg3) : FVec Ideal S4096x512 .f32)
abbrev entI := ent (m ((c : Thread nD τ).loc main_arg4) : FVec Ideal S4096x512 .f32)

theorem argB_cols : Cols (argB m c) (side [(512, entP m c), (512, entI m c)]) := by
  apply Cols.of_eq
  · unfold_abbrev_sides
    after_reads_simp
    exact rfl
  · exact Cols.side (.cons (ent_cols _) (.cons (ent_cols _) .nil)) _

theorem argB_resultA (l : Fin 4096) (q : ℕ) (hq : q < 512) :
    argB m c (ix2 l ⟨0 + q, by omega⟩) = (m ((c : Thread nD τ).loc main_arg3) : FVec Ideal S4096x512 .f32) (ix2 l ⟨q, hq⟩) := by
  refine (argB_cols m c _).trans ?_
  show side [(512, entP m c), (512, entI m c)] l.val (0 + q) = _
  rw [Nat.zero_add, side_lt hq]
  exact ent_eq _ l ⟨q, hq⟩

theorem argB_resultI (l : Fin 4096) (q : ℕ) (hq : q < 512) :
    argB m c (ix2 l ⟨512 + q, by omega⟩) = (m ((c : Thread nD τ).loc main_arg4) : FVec Ideal S4096x512 .f32) (ix2 l ⟨q, hq⟩) := by
  refine (argB_cols m c _).trans ?_
  show side [(512, entP m c), (512, entI m c)] l.val (512 + q) = _
  rw [side_ge (Nat.le_add_right _ _), Nat.add_sub_cancel_left]
  exact ent_eq _ l ⟨q, hq⟩

/-! ## The blocks on the diagonals -/

/-- The buffers when the launch is done. -/
abbrev V1 := Pipeline.withArrays (cfgs 0).spec c (V0 m c) fun w => (dats m 0 c).arrAt w (cfgs 0).N

abbrev whole : FVec Ideal S512x1024 .f32 := (dats m 0 c).arrAt 2 cfg0.N

theorem V1_whole : (V1 m c (Proc.devRef .tc main_v1) : FVec Ideal S512x1024 .f32) = whole m c :=
  Pipeline.withArrays_arr (cfgs 0).spec (by decide) c (V0 m c) (fun w => (dats m 0 c).arrAt w (cfgs 0).N) 2

theorem whole_cols : Cols (V1 m c (Proc.devRef .tc main_v1) : FVec Ideal S512x1024 .f32) (ent (whole m c)) :=
  Cols.of_eq (V1_whole m c) (ent_cols _)

theorem eq_at {s : Shape} {x y : s.Idx → EReal} {f : s.Idx → EReal} (h : x = y) (hy : ∀ i, y i = f i) : ∀ i, x i = f i := h ▸ hy

abbrev resultA : FVec Ideal S8x64x64 .f32 := Pipeline.afterTail₀ cfgs (dats m) 0 (V0 m) [hostOps1] c main_v28

set_option maxHeartbeats 1000000 in
/-- The first gate's gradient at an entry, from the array the launch leaves. -/
theorem resultA_at : ∀ i : S8x64x64.Idx, resultA m c i = diagonal 64 (shift 0 (ent (whole m c))) (i 0).val (i 1).val (i 2).val := by
  have h := whole_cols m c
  show ∀ i : S8x64x64.Idx, (StableHlo.after ([hostOps1] : List (List (HloOp τ sig (Elt Ideal)))).flatten (V1 m c) (Proc.devRef .tc main_v28) : FVec Ideal S8x64x64 .f32) i = _
  generalize V1 m c = U at h ⊢
  have hd := h.slice (N' := 512) (o := 0) (by decide)
  apply eq_at
  · after_reads_simp
    exact rfl
  · exact Layers.stack
      (.cons (hd.block (A := 8) rfl (by decide) _ (by decide) _ (by decide))
      (.cons (hd.block (A := 8) rfl (by decide) _ (by decide) _ (by decide))
      (.cons (hd.block (A := 8) rfl (by decide) _ (by decide) _ (by decide))
      (.cons (hd.block (A := 8) rfl (by decide) _ (by decide) _ (by decide))
      (.cons (hd.block (A := 8) rfl (by decide) _ (by decide) _ (by decide))
      (.cons (hd.block (A := 8) rfl (by decide) _ (by decide) _ (by decide))
      (.cons (hd.block (A := 8) rfl (by decide) _ (by decide) _ (by decide))
      (.cons (hd.block (A := 8) rfl (by decide) _ (by decide) _ (by decide)) (.nil _))))))))) _

abbrev resultI : FVec Ideal S8x64x64 .f32 := Pipeline.afterTail₀ cfgs (dats m) 0 (V0 m) [hostOps1] c main_v55

set_option maxHeartbeats 1000000 in
/-- The second gate's gradient at an entry, from the array the launch leaves. -/
theorem resultI_at : ∀ i : S8x64x64.Idx, resultI m c i = diagonal 64 (shift 512 (ent (whole m c))) (i 0).val (i 1).val (i 2).val := by
  have h := whole_cols m c
  show ∀ i : S8x64x64.Idx, (StableHlo.after ([hostOps1] : List (List (HloOp τ sig (Elt Ideal)))).flatten (V1 m c) (Proc.devRef .tc main_v55) : FVec Ideal S8x64x64 .f32) i = _
  generalize V1 m c = U at h ⊢
  have hd := h.slice (N' := 512) (o := 512) (by decide)
  apply eq_at
  · after_reads_simp
    exact rfl
  · exact Layers.stack
      (.cons (hd.block (A := 8) rfl (by decide) _ (by decide) _ (by decide))
      (.cons (hd.block (A := 8) rfl (by decide) _ (by decide) _ (by decide))
      (.cons (hd.block (A := 8) rfl (by decide) _ (by decide) _ (by decide))
      (.cons (hd.block (A := 8) rfl (by decide) _ (by decide) _ (by decide))
      (.cons (hd.block (A := 8) rfl (by decide) _ (by decide) _ (by decide))
      (.cons (hd.block (A := 8) rfl (by decide) _ (by decide) _ (by decide))
      (.cons (hd.block (A := 8) rfl (by decide) _ (by decide) _ (by decide))
      (.cons (hd.block (A := 8) rfl (by decide) _ (by decide) _ (by decide)) (.nil _))))))))) _

/-- The kernel runs to its end, its results the blocks on the diagonals and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v28) = resultA m c
      ∧ r.2.mem ((c : Thread nD τ).loc main_v55) = resultI m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => ⟨(h.2 c).2 main_v28 (by decide), (h.2 c).2 main_v55 (by decide), h.1 c⟩) (θ_run_and (unchanged m ρ) (run_main m ρ))

/-- The reference's gradient, at the kernel's arguments, is what the kernel leaves. -/
theorem refA_eq : Cert.DLruWRefIdeal.Read.val_main_v14 (F := Ideal) (m ((c : Thread nD τ).loc main_arg0)) (m ((c : Thread nD τ).loc main_arg3)) = resultA m c := by
  funext i
  have h0 : (i 0).val < 8 := (i 0).isLt
  have h1 : (i 1).val < 64 := (i 1).isLt
  have h2 : (i 2).val < 64 := (i 2).isLt
  have hw := congrFun (final2 m c) (ix2 ⟨(i 0).val * 64 + (i 1).val, by omega⟩ ⟨0 + ((i 0).val * 64 + (i 2).val), by omega⟩)
  refine Eq.trans ?_ ((resultA_at m c i).trans ((ent_eq (whole m c) ⟨(i 0).val * 64 + (i 1).val, by omega⟩ ⟨0 + ((i 0).val * 64 + (i 2).val), by omega⟩).trans hw)).symm
  rw [show argA m c = m ((c : Thread nD τ).loc main_arg0) from V_main_arg0 m c]
  rw [Cert.DLruWRefIdeal.Read.val_main_v14_apply, Cert.DLruWRefIdeal.Read.val_main_v13_apply]
  refine Finset.sum_congr rfl fun l _ => ?_
  rw [mul_comm, Cert.DLruWRefIdeal.Read.val_main_v0_apply, Cert.DLruWRefIdeal.Read.val_main_v12_apply, Cert.DLruWRefIdeal.Read.val_main_v11_apply]
  refine congrArg₂ (fun u v : EReal => u * v) ?_ ?_
  · refine congrArg (m ((c : Thread nD τ).loc main_arg0)) ((eq_ix2 _).trans ?_)
    congr 1 <;> apply Fin.ext
    · show _ = l.val
      simp <;> omega
    · show _ = (i 0).val * 64 + (i 1).val
      simp <;> omega
  · refine Eq.trans ?_ ((argB_resultA m c l ((i 0).val * 64 + (i 2).val) (by omega)).symm)
    refine congrArg (m ((c : Thread nD τ).loc main_arg3)) ((eq_ix2 _).trans ?_)
    congr 1 <;> apply Fin.ext
    · show _ = l.val
      simp <;> omega
    · show _ = (i 0).val * 64 + (i 2).val
      simp <;> omega

/-- The reference's gradient, at the kernel's arguments, is what the kernel leaves. -/
theorem refI_eq : Cert.DLruWRefIdeal.Read.val_main_v10 (F := Ideal) (m ((c : Thread nD τ).loc main_arg0)) (m ((c : Thread nD τ).loc main_arg4)) = resultI m c := by
  funext i
  have h0 : (i 0).val < 8 := (i 0).isLt
  have h1 : (i 1).val < 64 := (i 1).isLt
  have h2 : (i 2).val < 64 := (i 2).isLt
  have hw := congrFun (final2 m c) (ix2 ⟨(i 0).val * 64 + (i 1).val, by omega⟩ ⟨512 + ((i 0).val * 64 + (i 2).val), by omega⟩)
  refine Eq.trans ?_ ((resultI_at m c i).trans ((ent_eq (whole m c) ⟨(i 0).val * 64 + (i 1).val, by omega⟩ ⟨512 + ((i 0).val * 64 + (i 2).val), by omega⟩).trans hw)).symm
  rw [show argA m c = m ((c : Thread nD τ).loc main_arg0) from V_main_arg0 m c]
  rw [Cert.DLruWRefIdeal.Read.val_main_v10_apply, Cert.DLruWRefIdeal.Read.val_main_v9_apply]
  refine Finset.sum_congr rfl fun l _ => ?_
  rw [mul_comm, Cert.DLruWRefIdeal.Read.val_main_v0_apply, Cert.DLruWRefIdeal.Read.val_main_v8_apply, Cert.DLruWRefIdeal.Read.val_main_v7_apply]
  refine congrArg₂ (fun u v : EReal => u * v) ?_ ?_
  · refine congrArg (m ((c : Thread nD τ).loc main_arg0)) ((eq_ix2 _).trans ?_)
    congr 1 <;> apply Fin.ext
    · show _ = l.val
      simp <;> omega
    · show _ = (i 0).val * 64 + (i 1).val
      simp <;> omega
  · refine Eq.trans ?_ ((argB_resultI m c l ((i 0).val * 64 + (i 2).val) (by omega)).symm)
    refine congrArg (m ((c : Thread nD τ).loc main_arg4)) ((eq_ix2 _).trans ?_)
    congr 1 <;> apply Fin.ext
    · show _ = l.val
      simp <;> omega
    · show _ = (i 0).val * 64 + (i 2).val
      simp <;> omega

theorem value : Cert.algebraic_DLruWIdeal_DLruWRefIdeal (hDLruWIdeal := Cert.DLruWIdeal.Gen.facts) (hDLruWRefIdeal := Cert.DLruWRefIdeal.Gen.facts) := by
  intro m g m' g' _ hargs
  refine ⟨fun c => resultA m c, fun c => resultI m c, run_holds m g, ?_⟩
  refine (θ_run _ _ _).mono (fun r h c => ?_) (Cert.DLruWRefIdeal.Value.run m' g')
  obtain ⟨a0, a1, a2, a3, a4⟩ := hargs c
  obtain ⟨r0, r1, rest⟩ := h c
  refine ⟨r0.trans ?_, r1.trans ?_, rest⟩
  · rw [Cert.DLruWRefIdeal.Read.val_main_v14_eq, a0, a3]
    exact refA_eq m c
  · rw [Cert.DLruWRefIdeal.Read.val_main_v10_eq, a0, a4]
    exact refI_eq m c

theorem reference_frame : Cert.quiescent_DLruWRefIdeal (hDLruWRefIdeal := Cert.DLruWRefIdeal.Gen.facts) := by
  intro m g _
  exact (θ_run _ _ _).mono (fun r h => ⟨fun c => (h c).2.2, sem_eq_zero_of_no_sems (by decide) r.2⟩) (Cert.DLruWRefIdeal.Value.run m g)

end Cert.DLruWIdeal.Prod

end
-- ==== Proof.PoolMm.lean ====
/- The pooling mixer's product and its scaled form: the weight's blocks stand on the diagonal of a matrix that is zero elsewhere,
   so each column's sum has the terms of its own block only, which is the reference's product. -/
module

public import proofs.«01_k».proof.Defs
public import proofs.«01_k».proof.Proof.Gen.PoolMmIdeal.Frame
public import proofs.«01_k».proof.Proof.Gen.PoolMmRefIdeal.Run
public import proofs.«01_k».proof.Proof.Gen.PoolMmRefIdeal.Read
public import proofs.«01_k».proof.Proof.Diag
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.PoolMmIdeal.Prod

open Cert.PoolMmIdeal Cert.PoolMmIdeal.Gen Cert.Layout Idealize.ShloMosaic Idealize.ShloMosaic.TcCoe Idealize.SL.Sem

variable (m : (ℓ : Loc nD τ sig) → Buf (Elt Ideal) ℓ) (c : Dev nD)

/-! ## The step's operations at one entry -/

theorem pay1_apply (y : S1024x512.Idx) : k0_pay1 (F := Ideal) y = 0 := by
  rw [eq_ix2 y]
  pointwise [k0_pay1]

theorem pay2_apply (acc : FVec Ideal S1024x512 .f32) (a : FVec Ideal S1024x512 .f32) (b : FVec Ideal S512x512 .f32) (y : S1024x512.Idx) :
    k0_pay2 (F := Ideal) acc a b y = acc y + ∑ r : Fin 512, a (ix2 (y 0) r) * b (ix2 r (y 1)) := by
  rw [eq_ix2 y]
  pointwise [k0_pay2, dot_S1024x512_S512x512_S1024x512_1_0_0_1_n_n]

theorem pay3_apply (acc : FVec Ideal S1024x512 .f32) (x : FVec Ideal S1x512 .f32) (y : S1024x512.Idx) :
    k0_pay3 (F := Ideal) acc x y = acc y * x (ix2 ⟨0, Nat.one_pos⟩ (y 1)) := by
  rw [eq_ix2 y]
  pointwise [k0_pay3]

abbrev blkA (t : Fin cfg0.N) : FVec Ideal S1024x512 .f32 := iblk m c 0 t
abbrev blkB (t : Fin cfg0.N) : FVec Ideal S512x512 .f32 := iblk m c 1 t
abbrev blkX (t : Fin cfg0.N) : FVec Ideal S1x512 .f32 := iblk m c 2 t

theorem out3_eq (t : Fin cfg0.N) (y : S1024x512.Idx) :
    (outsAt0 m c t).1 y = ∑ r : Fin 512, blkA m c t (ix2 (y 0) r) * blkB m c t (ix2 r (y 1)) := by
  unfold outsAt0
  frame_out
  rw [pay2_apply, pay1_apply, zero_add]

theorem out4_eq (t : Fin cfg0.N) (y : S1024x512.Idx) :
    (outsAt0 m c t).2 y = (∑ r : Fin 512, blkA m c t (ix2 (y 0) r) * blkB m c t (ix2 r (y 1))) * blkX m c t (ix2 ⟨0, Nat.one_pos⟩ (y 1)) := by
  unfold outsAt0
  frame_out
  rw [pay3_apply, pay2_apply, pay1_apply, zero_add]

/-! ## The whole arrays -/

abbrev argA : FVec Ideal S4096x512 .f32 := V m c main_arg0
abbrev argB : FVec Ideal S512x512 .f32 := V m c main_v11
abbrev argX : FVec Ideal S1x512 .f32 := V m c main_v12

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

set_option maxHeartbeats 1000000 in
/-- What the launch leaves in the first result. -/
theorem final3 : (dats m 0 c).arrAt 3 cfg0.N = fun i => (∑ l : Fin 512, argA m c (ix2 (i 0) l) * argB m c (ix2 l (i 1))) := by
  refine (dats m 0 c).arrAt_eq_of_covers 3 _ (by decide +kernel) fun t hf y => ?_
  blk_simp
  rw [after0_3, out3_eq m c t]
  show (_ : EReal) = _
  refine Finset.sum_congr rfl fun r _ => ?_
  refine congrArg₂ (fun u v : EReal => u * v) ?_ ?_
  · show V m c main_arg0 _ = V m c main_arg0 _
    generalize V m c main_arg0 = f
    congr 1
    blk_ext [idx0, idx3]
  · show V m c main_v11 _ = V m c main_v11 _
    generalize V m c main_v11 = f
    congr 1
    blk_ext [idx1, idx3]

set_option maxHeartbeats 1000000 in
/-- What the launch leaves in the second result. -/
theorem final4 : (dats m 0 c).arrAt 4 cfg0.N = fun i => (∑ l : Fin 512, argA m c (ix2 (i 0) l) * argB m c (ix2 l (i 1))) * argX m c (ix2 ⟨0, Nat.one_pos⟩ (i 1)) := by
  refine (dats m 0 c).arrAt_eq_of_covers 4 _ (by decide +kernel) fun t hf y => ?_
  blk_simp
  rw [after0_4, out4_eq m c t]
  refine congrArg₂ (fun u v : EReal => u * v) ?_ ?_
  · refine Finset.sum_congr rfl fun r _ => ?_
    refine congrArg₂ (fun u v : EReal => u * v) ?_ ?_
    · show V m c main_arg0 _ = V m c main_arg0 _
      generalize V m c main_arg0 = f
      congr 1
      blk_ext [idx0, idx4]
    · show V m c main_v11 _ = V m c main_v11 _
      generalize V m c main_v11 = f
      congr 1
      blk_ext [idx1, idx4]
  · show V m c main_v12 _ = V m c main_v12 _
    generalize V m c main_v12 = f
    congr 1
    blk_ext [idx2, idx4]

/-! ## The weight's blocks on the diagonal and the scale as a row -/

/-- The operations before the launch. -/
abbrev before : List (HloOp τ sig (Elt Ideal)) := [hostOps0].flatten

abbrev weight := (m ((c : Thread nD τ).loc main_arg1) : FVec Ideal S4x128x128 .f32)
abbrev scale := (m ((c : Thread nD τ).loc main_arg2) : FVec Ideal S512 .f32)

theorem argB_cols : Cols (argB m c) (onDiagonal 128 (ent3 (weight m c))) := by
  apply Cols.of_eq
  · unfold_abbrev_sides
    after_reads_simp
    exact rfl
  · exact Cols.onDiagonal (A := 4) (eye_apply (by decide) bcast_S_S4x4) (ent3_at (weight m c)) rfl (by decide) (by decide) (by decide) (by decide) (by decide) _

theorem argX_eq : argX m c = shapeCast S1x512 (scale m c) shapeCasts_S512_S1x512 := by
  unfold_abbrev_sides
  after_reads_simp
  exact rfl

theorem argX_at (q : Fin 512) : argX m c (ix2 ⟨0, Nat.one_pos⟩ q) = scale m c (ix1 q) := by
  rw [argX_eq]
  exact shapeCast_apply (t := S1x512) (s := S512) (scale m c) shapeCasts_S512_S1x512 _ _ (by
    rw [Shape.rowMajor_val_one, Shape.rowMajor_val_two]
    show q.val = 0 * 512 + q.val
    omega)

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v13_0) = (dats m 0 c).arrAt 3 cfg0.N
      ∧ r.2.mem ((c : Thread nD τ).loc main_v13_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 3, (h.2 c).1 4, h.1 c⟩) (θ_run_and (unchanged m ρ) (run_main m ρ))

/-- The launch's sum is the reference's product. -/
theorem sum_eq (i : S4096x512.Idx) : Cert.PoolMmRefIdeal.Read.val_main_v3 (F := Ideal) (m ((c : Thread nD τ).loc main_arg0)) (m ((c : Thread nD τ).loc main_arg1)) i = ∑ l : Fin 512, argA m c (ix2 (i 0) l) * argB m c (ix2 l (i 1)) := by
  have h0 : (i 0).val < 4096 := (i 0).isLt
  have h1 : (i 1).val < 512 := (i 1).isLt
  refine Eq.trans ?_ ((Finset.sum_congr rfl fun l _ => congrArg₂ (fun u v : EReal => u * v)
    ((congrFun (V_main_arg0 m c) _).trans (ent_eq (m ((c : Thread nD τ).loc main_arg0) : FVec Ideal S4096x512 .f32) (i 0) l).symm) (argB_cols m c (ix2 l (i 1)))).trans
    (sum_onDiagonal 4 128 rfl (by decide) (ent (m ((c : Thread nD τ).loc main_arg0) : FVec Ideal S4096x512 .f32) (i 0).val) (ent3 (weight m c)) (i 1).val h1)).symm
  rw [Cert.PoolMmRefIdeal.Read.val_main_v3_apply, Cert.PoolMmRefIdeal.Read.val_main_v2_apply, Cert.PoolMmRefIdeal.Read.val_main_v1_apply]
  refine Finset.sum_congr rfl fun l _ => ?_
  have hl := l.isLt
  rw [mul_comm, Cert.PoolMmRefIdeal.Read.val_main_v0_apply]
  refine congrArg₂ (fun u v : EReal => u * v) ?_ ?_
  · refine Eq.trans ?_ (ent_eq (m ((c : Thread nD τ).loc main_arg0) : FVec Ideal S4096x512 .f32) (i 0) ⟨(i 1).val / 128 * 128 + l.val, by omega⟩).symm
    refine congrArg (m ((c : Thread nD τ).loc main_arg0)) ((eq_ix2 _).trans ?_)
    congr 1 <;> apply Fin.ext
    · show _ = (i 0).val
      simp <;> omega
    · show _ = (i 1).val / 128 * 128 + l.val
      simp <;> omega
  · refine Eq.trans ?_ (ent3_eq (weight m c) ⟨(i 1).val / 128, by omega⟩ l ⟨(i 1).val % 128, by omega⟩).symm
    refine congrArg (weight m c) ((eq_ix3 _).trans ?_)
    congr 1 <;> apply Fin.ext
    · show _ = (i 1).val / 128
      simp <;> omega
    · show _ = (i 1).val % 128
      simp <;> omega

/-- The reference's first result, at the kernel's arguments, is what the kernel leaves. -/
theorem ref3_eq : Cert.PoolMmRefIdeal.Read.val_main_v3 (F := Ideal) (m ((c : Thread nD τ).loc main_arg0)) (m ((c : Thread nD τ).loc main_arg1)) = (dats m 0 c).arrAt 3 cfg0.N := by
  rw [final3]
  funext i
  exact sum_eq m c i

/-- The reference's second result, at the kernel's arguments, is what the kernel leaves. -/
theorem ref4_eq : Cert.PoolMmRefIdeal.Read.val_main_v7 (F := Ideal) (m ((c : Thread nD τ).loc main_arg0)) (m ((c : Thread nD τ).loc main_arg1)) (m ((c : Thread nD τ).loc main_arg2)) = (dats m 0 c).arrAt 4 cfg0.N := by
  rw [final4]
  funext i
  rw [Cert.PoolMmRefIdeal.Read.val_main_v7_apply, Cert.PoolMmRefIdeal.Read.val_main_v6_apply, Cert.PoolMmRefIdeal.Read.val_main_v5_apply, Cert.PoolMmRefIdeal.Read.val_main_v4_apply, sum_eq m c i]
  refine congrArg₂ (fun u v : EReal => u * v) rfl ?_
  refine Eq.trans ?_ (argX_at m c (i 1)).symm
  refine congrArg (scale m c) ?_
  funext a
  fin_cases a
  apply Fin.ext
  show _ = (i 1).val
  simp

theorem value : Cert.algebraic_PoolMmIdeal_PoolMmRefIdeal (hPoolMmIdeal := Cert.PoolMmIdeal.Gen.facts) (hPoolMmRefIdeal := Cert.PoolMmRefIdeal.Gen.facts) := by
  intro m g m' g' _ hargs
  refine ⟨fun c => (dats m 0 c).arrAt 3 cfg0.N, fun c => (dats m 0 c).arrAt 4 cfg0.N, run_holds m g, ?_⟩
  refine (θ_run _ _ _).mono (fun r h c => ?_) (Cert.PoolMmRefIdeal.Value.run m' g')
  obtain ⟨a0, a1, a2⟩ := hargs c
  obtain ⟨r0, r1, rest⟩ := h c
  refine ⟨r0.trans ?_, r1.trans ?_, rest⟩
  · rw [Cert.PoolMmRefIdeal.Read.val_main_v3_eq, a0, a1]
    exact ref3_eq m c
  · rw [Cert.PoolMmRefIdeal.Read.val_main_v7_eq, a0, a1, a2]
    exact ref4_eq m c

theorem reference_frame : Cert.quiescent_PoolMmRefIdeal (hPoolMmRefIdeal := Cert.PoolMmRefIdeal.Gen.facts) := by
  intro m g _
  exact (θ_run _ _ _).mono (fun r h => ⟨fun c => (h c).2.2, sem_eq_zero_of_no_sems (by decide) r.2⟩) (Cert.PoolMmRefIdeal.Value.run m g)

end Cert.PoolMmIdeal.Prod

end
-- ==== Proof.LruMm.lean ====
/- The product before the recurrence's two gates: the weights' blocks stand on the diagonals of a matrix that is zero elsewhere, so
   each column's sum has the terms of its own block only, which is the reference's product. -/
module

public import proofs.«01_k».proof.Defs
public import proofs.«01_k».proof.Proof.Gen.LruMmIdeal.Frame
public import proofs.«01_k».proof.Proof.Gen.LruMmRefIdeal.Run
public import proofs.«01_k».proof.Proof.Gen.LruMmRefIdeal.Read
public import proofs.«01_k».proof.Proof.Diag
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.LruMmIdeal.Prod

open Cert.LruMmIdeal Cert.LruMmIdeal.Gen Cert.Layout Idealize.ShloMosaic Idealize.ShloMosaic.TcCoe Idealize.SL.Sem

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x512 .f32) (b : FVec Ideal S512x1024 .f32) (y : S1024x1024.Idx) :
    k0_pay2 (F := Ideal) acc a b y = acc y + ∑ r : Fin 512, a (ix2 (y 0) r) * b (ix2 r (y 1)) := by
  rw [eq_ix2 y]
  pointwise [k0_pay2, dot_S1024x512_S512x1024_S1024x1024_1_0_0_1_n_n]

abbrev blkA (t : Fin cfg0.N) : FVec Ideal S1024x512 .f32 := iblk m c 0 t
abbrev blkB (t : Fin cfg0.N) : FVec Ideal S512x1024 .f32 := iblk m c 1 t

theorem out2_eq (t : Fin cfg0.N) (y : S1024x1024.Idx) :
    (outsAt0 m c t) y = (∑ r : Fin 512, blkA m c t (ix2 (y 0) r) * blkB m c t (ix2 r (y 1))) := by
  unfold outsAt0
  frame_out
  rw [pay2_apply, pay1_apply, zero_add]

/-! ## The whole arrays -/

abbrev argA : FVec Ideal S4096x512 .f32 := V m c main_arg0
abbrev argB : FVec Ideal S512x1024 .f32 := V m c main_v24

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

set_option maxHeartbeats 1000000 in
/-- What the launch leaves in the result. -/
theorem final2 : (dats m 0 c).arrAt 2 cfg0.N = fun i => (∑ l : Fin 512, argA m c (ix2 (i 0) l) * argB m c (ix2 l (i 1))) := by
  refine (dats m 0 c).arrAt_eq_of_covers 2 _ (by decide +kernel) fun t hf y => ?_
  blk_simp
  rw [after0_2, out2_eq m c t]
  show (_ : EReal) = _
  refine Finset.sum_congr rfl fun r _ => ?_
  refine congrArg₂ (fun u v : EReal => u * v) ?_ ?_
  · show V m c main_arg0 _ = V m c main_arg0 _
    generalize V m c main_arg0 = f
    congr 1
    blk_ext [idx0, idx2]
  · show V m c main_v24 _ = V m c main_v24 _
    generalize V m c main_v24 = f
    congr 1
    blk_ext [idx1, idx2]

/-! ## The weights' blocks on the diagonals -/

/-- The operations before the launch. -/
abbrev before : List (HloOp τ sig (Elt Ideal)) := [hostOps0].flatten

abbrev weightA := (m ((c : Thread nD τ).loc main_arg1) : FVec Ideal S8x64x64 .f32)
abbrev weightI := (m ((c : Thread nD τ).loc main_arg2) : FVec Ideal S8x64x64 .f32)

theorem argB_cols : Cols (argB m c) (side [(512, onDiagonal 64 (ent3 (weightA m c))), (512, onDiagonal 64 (ent3 (weightI m c)))]) := by
  apply Cols.of_eq
  · unfold_abbrev_sides
    after_reads_simp
    exact rfl
  · exact Cols.side (.cons (Cols.onDiagonal (A := 8) (eye_apply (by decide) bcast_S_S8x8) (ent3_at (weightA m c)) rfl (by decide) (by decide) (by decide) (by decide) (by decide) (by decide))
      (.cons (Cols.onDiagonal (A := 8) (eye_apply (by decide) bcast_S_S8x8) (ent3_at (weightI m c)) rfl (by decide) (by decide) (by decide) (by decide) (by decide) (by decide)) .nil)) _

/-! ## The two gates' halves -/

/-- The buffers when the launch is done. -/
abbrev V1 := Pipeline.withArrays (cfgs 0).spec c (V0 m c) fun w => (dats m 0 c).arrAt w (cfgs 0).N

abbrev whole : FVec Ideal S4096x1024 .f32 := (dats m 0 c).arrAt 2 cfg0.N

theorem V1_whole : (V1 m c (Proc.devRef .tc main_v25) : FVec Ideal S4096x1024 .f32) = whole m c :=
  Pipeline.withArrays_arr (cfgs 0).spec (by decide) c (V0 m c) (fun w => (dats m 0 c).arrAt w (cfgs 0).N) 2

theorem whole_cols : Cols (V1 m c (Proc.devRef .tc main_v25) : FVec Ideal S4096x1024 .f32) (ent (whole m c)) :=
  Cols.of_eq (V1_whole m c) (ent_cols _)

abbrev resultA : FVec Ideal S4096x512 .f32 := Pipeline.afterTail₀ cfgs (dats m) 0 (V0 m) [hostOps1] c main_v26

theorem resultA_cols : Cols (resultA m c) (shift 0 (ent (whole m c))) := by
  have h := whole_cols m c
  show Cols (StableHlo.after ([hostOps1] : List (List (HloOp τ sig (Elt Ideal)))).flatten (V1 m c) (Proc.devRef .tc main_v26) : FVec Ideal S4096x512 .f32) _
  generalize V1 m c = U at h ⊢
  apply Cols.of_eq
  · after_reads_simp
    exact rfl
  · exact h.slice (N' := 512) (o := 0) _

abbrev resultI : FVec Ideal S4096x512 .f32 := Pipeline.afterTail₀ cfgs (dats m) 0 (V0 m) [hostOps1] c main_v27

theorem resultI_cols : Cols (resultI m c) (shift 512 (ent (whole m c))) := by
  have h := whole_cols m c
  show Cols (StableHlo.after ([hostOps1] : List (List (HloOp τ sig (Elt Ideal)))).flatten (V1 m c) (Proc.devRef .tc main_v27) : FVec Ideal S4096x512 .f32) _
  generalize V1 m c = U at h ⊢
  apply Cols.of_eq
  · after_reads_simp
    exact rfl
  · exact h.slice (N' := 512) (o := 512) _

/-- The kernel runs to its end, its results the two halves and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v26) = resultA m c
      ∧ r.2.mem ((c : Thread nD τ).loc main_v27) = resultI m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).2 main_v26 (by decide), (h.2 c).2 main_v27 (by decide), h.1 c⟩) (θ_run_and (unchanged m ρ) (run_main m ρ))

/-- The reference's result, at the kernel's arguments, is what the kernel leaves. -/
theorem refA_eq : Cert.LruMmRefIdeal.Read.val_main_v3 (F := Ideal) (m ((c : Thread nD τ).loc main_arg0)) (m ((c : Thread nD τ).loc main_arg1)) = resultA m c := by
  funext i
  have h0 : (i 0).val < 4096 := (i 0).isLt
  have h1 : (i 1).val < 512 := (i 1).isLt
  have hw := congrFun (final2 m c) (ix2 (i 0) ⟨0 + (i 1).val, by omega⟩)
  have hb : ∀ l : Fin 512, argB m c (ix2 l ⟨0 + (i 1).val, by omega⟩) = onDiagonal 64 (ent3 (weightA m c)) l.val (i 1).val := fun l => by
    refine (argB_cols m c _).trans ?_
    show side [(512, onDiagonal 64 (ent3 (weightA m c))), (512, onDiagonal 64 (ent3 (weightI m c)))] l.val (0 + (i 1).val) = _
    rw [Nat.zero_add, side_lt h1]
  refine Eq.trans ?_ ((resultA_cols m c i).trans ((ent_eq (whole m c) (i 0) ⟨0 + (i 1).val, by omega⟩).trans (hw.trans ((Finset.sum_congr rfl fun l _ => congrArg₂ (fun u v : EReal => u * v)
    ((congrFun (V_main_arg0 m c) _).trans (ent_eq (m ((c : Thread nD τ).loc main_arg0) : FVec Ideal S4096x512 .f32) (i 0) l).symm) (hb l)).trans
    (sum_onDiagonal 8 64 rfl (by decide) (ent (m ((c : Thread nD τ).loc main_arg0) : FVec Ideal S4096x512 .f32) (i 0).val) (ent3 (weightA m c)) (i 1).val h1))))).symm
  rw [Cert.LruMmRefIdeal.Read.val_main_v3_apply, Cert.LruMmRefIdeal.Read.val_main_v2_apply, Cert.LruMmRefIdeal.Read.val_main_v1_apply]
  refine Finset.sum_congr rfl fun l _ => ?_
  have hl := l.isLt
  rw [mul_comm, Cert.LruMmRefIdeal.Read.val_main_v0_apply]
  refine congrArg₂ (fun u v : EReal => u * v) ?_ ?_
  · refine Eq.trans ?_ (ent_eq (m ((c : Thread nD τ).loc main_arg0) : FVec Ideal S4096x512 .f32) (i 0) ⟨(i 1).val / 64 * 64 + l.val, by omega⟩).symm
    refine congrArg (m ((c : Thread nD τ).loc main_arg0)) ((eq_ix2 _).trans ?_)
    congr 1 <;> apply Fin.ext
    · show _ = (i 0).val
      simp <;> omega
    · show _ = (i 1).val / 64 * 64 + l.val
      simp <;> omega
  · refine Eq.trans ?_ (ent3_eq (weightA m c) ⟨(i 1).val / 64, by omega⟩ l ⟨(i 1).val % 64, by omega⟩).symm
    refine congrArg (weightA m c) ((eq_ix3 _).trans ?_)
    congr 1 <;> apply Fin.ext
    · show _ = (i 1).val / 64
      simp <;> omega
    · show _ = (i 1).val % 64
      simp <;> omega

/-- The reference's result, at the kernel's arguments, is what the kernel leaves. -/
theorem refI_eq : Cert.LruMmRefIdeal.Read.val_main_v6 (F := Ideal) (m ((c : Thread nD τ).loc main_arg0)) (m ((c : Thread nD τ).loc main_arg2)) = resultI m c := by
  funext i
  have h0 : (i 0).val < 4096 := (i 0).isLt
  have h1 : (i 1).val < 512 := (i 1).isLt
  have hw := congrFun (final2 m c) (ix2 (i 0) ⟨512 + (i 1).val, by omega⟩)
  have hb : ∀ l : Fin 512, argB m c (ix2 l ⟨512 + (i 1).val, by omega⟩) = onDiagonal 64 (ent3 (weightI m c)) l.val (i 1).val := fun l => by
    refine (argB_cols m c _).trans ?_
    show side [(512, onDiagonal 64 (ent3 (weightA m c))), (512, onDiagonal 64 (ent3 (weightI m c)))] l.val (512 + (i 1).val) = _
    rw [side_ge (Nat.le_add_right _ _), Nat.add_sub_cancel_left]
    rfl
  refine Eq.trans ?_ ((resultI_cols m c i).trans ((ent_eq (whole m c) (i 0) ⟨512 + (i 1).val, by omega⟩).trans (hw.trans ((Finset.sum_congr rfl fun l _ => congrArg₂ (fun u v : EReal => u * v)
    ((congrFun (V_main_arg0 m c) _).trans (ent_eq (m ((c : Thread nD τ).loc main_arg0) : FVec Ideal S4096x512 .f32) (i 0) l).symm) (hb l)).trans
    (sum_onDiagonal 8 64 rfl (by decide) (ent (m ((c : Thread nD τ).loc main_arg0) : FVec Ideal S4096x512 .f32) (i 0).val) (ent3 (weightI m c)) (i 1).val h1))))).symm
  rw [Cert.LruMmRefIdeal.Read.val_main_v6_apply, Cert.LruMmRefIdeal.Read.val_main_v5_apply, Cert.LruMmRefIdeal.Read.val_main_v4_apply]
  refine Finset.sum_congr rfl fun l _ => ?_
  have hl := l.isLt
  rw [mul_comm, Cert.LruMmRefIdeal.Read.val_main_v0_apply]
  refine congrArg₂ (fun u v : EReal => u * v) ?_ ?_
  · refine Eq.trans ?_ (ent_eq (m ((c : Thread nD τ).loc main_arg0) : FVec Ideal S4096x512 .f32) (i 0) ⟨(i 1).val / 64 * 64 + l.val, by omega⟩).symm
    refine congrArg (m ((c : Thread nD τ).loc main_arg0)) ((eq_ix2 _).trans ?_)
    congr 1 <;> apply Fin.ext
    · show _ = (i 0).val
      simp <;> omega
    · show _ = (i 1).val / 64 * 64 + l.val
      simp <;> omega
  · refine Eq.trans ?_ (ent3_eq (weightI m c) ⟨(i 1).val / 64, by omega⟩ l ⟨(i 1).val % 64, by omega⟩).symm
    refine congrArg (weightI m c) ((eq_ix3 _).trans ?_)
    congr 1 <;> apply Fin.ext
    · show _ = (i 1).val / 64
      simp <;> omega
    · show _ = (i 1).val % 64
      simp <;> omega

theorem value : Cert.algebraic_LruMmIdeal_LruMmRefIdeal (hLruMmIdeal := Cert.LruMmIdeal.Gen.facts) (hLruMmRefIdeal := Cert.LruMmRefIdeal.Gen.facts) := by
  intro m g m' g' _ hargs
  refine ⟨fun c => resultA m c, fun c => resultI m c, run_holds m g, ?_⟩
  refine (θ_run _ _ _).mono (fun r h c => ?_) (Cert.LruMmRefIdeal.Value.run m' g')
  obtain ⟨a0, a1, a2⟩ := hargs c
  obtain ⟨r0, r1, rest⟩ := h c
  refine ⟨r0.trans ?_, r1.trans ?_, rest⟩
  · rw [Cert.LruMmRefIdeal.Read.val_main_v3_eq, a0, a1]
    exact refA_eq m c
  · rw [Cert.LruMmRefIdeal.Read.val_main_v6_eq, a0, a2]
    exact refI_eq m c

theorem reference_frame : Cert.quiescent_LruMmRefIdeal (hLruMmRefIdeal := Cert.LruMmRefIdeal.Gen.facts) := by
  intro m g _
  exact (θ_run _ _ _).mono (fun r h => ⟨fun c => (h c).2.2, sem_eq_zero_of_no_sems (by decide) r.2⟩) (Cert.LruMmRefIdeal.Value.run m g)

end Cert.LruMmIdeal.Prod

end
-- ==== Proof.DXc.lean ====
/- The gradient of the rows before the recurrence's two gates: the weights' blocks stand on the diagonals of a matrix that is zero
   elsewhere, so each half of a sum has the terms of one block only, which is the reference's product. -/
module

public import proofs.«01_k».proof.Defs
public import proofs.«01_k».proof.Proof.Gen.DXcIdeal.Frame
public import proofs.«01_k».proof.Proof.Gen.DXcRefIdeal.Run
public import proofs.«01_k».proof.Proof.Gen.DXcRefIdeal.Read
public import proofs.«01_k».proof.Proof.Diag
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.DXcIdeal.Prod

open Cert.DXcIdeal Cert.DXcIdeal.Gen Cert.Layout Idealize.ShloMosaic Idealize.ShloMosaic.TcCoe Idealize.SL.Sem

variable (m : (ℓ : Loc nD τ sig) → Buf (Elt Ideal) ℓ) (c : Dev nD)

/-! ## The step's operations at one entry -/

theorem pay1_apply (y : S1024x512.Idx) : k0_pay1 (F := Ideal) y = 0 := by
  rw [eq_ix2 y]
  pointwise [k0_pay1]

theorem pay2_apply (acc : FVec Ideal S1024x512 .f32) (a : FVec Ideal S1024x1024 .f32) (b : FVec Ideal S512x1024 .f32) (y : S1024x512.Idx) :
    k0_pay2 (F := Ideal) acc a b y = acc y + ∑ r : Fin 1024, a (ix2 (y 0) r) * b (ix2 (y 1) r) := by
  rw [eq_ix2 y]
  pointwise [k0_pay2, dot_S1024x1024_S512x1024_S1024x512_1_1_0_0_n_n]

theorem pay3_apply (acc x : FVec Ideal S1024x512 .f32) (y : S1024x512.Idx) : k0_pay3 (F := Ideal) acc x y = acc y + x y := by
  rw [eq_ix2 y]
  pointwise [k0_pay3]

abbrev blkA (t : Fin cfg0.N) : FVec Ideal S1024x1024 .f32 := iblk m c 0 t
abbrev blkB (t : Fin cfg0.N) : FVec Ideal S512x1024 .f32 := iblk m c 1 t
abbrev blkX (t : Fin cfg0.N) : FVec Ideal S1024x512 .f32 := iblk m c 2 t

theorem out3_eq (t : Fin cfg0.N) (y : S1024x512.Idx) :
    (outsAt0 m c t) y = (∑ r : Fin 1024, blkA m c t (ix2 (y 0) r) * blkB m c t (ix2 (y 1) r)) + blkX m c t y := by
  unfold outsAt0
  frame_out
  rw [pay3_apply, pay2_apply, pay1_apply, zero_add]

/-! ## The whole arrays -/

abbrev argA : FVec Ideal S4096x1024 .f32 := V m c main_v0
abbrev argB : FVec Ideal S512x1024 .f32 := V m c main_v25
abbrev argX : FVec Ideal S4096x512 .f32 := V m c main_arg5

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

set_option maxHeartbeats 1000000 in
/-- What the launch leaves in the result. -/
theorem final3 : (dats m 0 c).arrAt 3 cfg0.N = fun i => (∑ l : Fin 1024, argA m c (ix2 (i 0) l) * argB m c (ix2 (i 1) l)) + argX m c i := by
  refine (dats m 0 c).arrAt_eq_of_covers 3 _ (by decide +kernel) fun t hf y => ?_
  blk_simp
  rw [after0_3, out3_eq m c t]
  refine congrArg₂ (fun u v : EReal => u + v) ?_ ?_
  · refine Finset.sum_congr rfl fun r _ => ?_
    refine congrArg₂ (fun u v : EReal => u * v) ?_ ?_
    · show V m c main_v0 _ = V m c main_v0 _
      generalize V m c main_v0 = f
      congr 1
      blk_ext [idx0, idx3]
    · show V m c main_v25 _ = V m c main_v25 _
      generalize V m c main_v25 = f
      congr 1
      blk_ext [idx1, idx3]
  · show V m c main_arg5 _ = V m c main_arg5 _
    generalize V m c main_arg5 = f
    congr 1
    blk_ext [idx2, idx3]

/-! ## The gates' gradients side by side -/

/-- The operations before the launch. -/
abbrev before : List (HloOp τ sig (Elt Ideal)) := [hostOps0].flatten

abbrev entP := ent (m ((c : Thread nD τ).loc main_arg3) : FVec Ideal S4096x512 .f32)
abbrev entI := ent (m ((c : Thread nD τ).loc main_arg4) : FVec Ideal S4096x512 .f32)

theorem argA_cols : Cols (argA m c) (side [(512, entP m c), (512, entI m c)]) := by
  apply Cols.of_eq
  · unfold_abbrev_sides
    after_reads_simp
    exact rfl
  · exact Cols.side (.cons (ent_cols _) (.cons (ent_cols _) .nil)) _

/-! ## The weights' blocks on the diagonals -/

abbrev weightA := (m ((c : Thread nD τ).loc main_arg1) : FVec Ideal S8x64x64 .f32)
abbrev weightI := (m ((c : Thread nD τ).loc main_arg2) : FVec Ideal S8x64x64 .f32)

theorem argB_cols : Cols (argB m c) (side [(512, onDiagonal 64 (ent3 (weightA m c))), (512, onDiagonal 64 (ent3 (weightI m c)))]) := by
  apply Cols.of_eq
  · unfold_abbrev_sides
    after_reads_simp
    exact rfl
  · exact Cols.side (.cons (Cols.onDiagonal (A := 8) (eye_apply (by decide) bcast_S_S8x8) (ent3_at (weightA m c)) rfl (by decide) (by decide) (by decide) (by decide) (by decide) (by decide))
      (.cons (Cols.onDiagonal (A := 8) (eye_apply (by decide) bcast_S_S8x8) (ent3_at (weightI m c)) rfl (by decide) (by decide) (by decide) (by decide) (by decide) (by decide)) .nil)) _

/-- The kernel runs to its end, its result at the launch's array and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v26) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨(h.2 c).1 3, h.1 c⟩) (θ_run_and (unchanged m ρ) (run_main m ρ))

/-- The launch's sum, the two gates' blocks apart. -/
theorem sum_eq (i : S4096x512.Idx) : (∑ l : Fin 1024, argA m c (ix2 (i 0) l) * argB m c (ix2 (i 1) l))
    = (∑ b : Fin 64, entP m c (i 0).val ((i 1).val / 64 * 64 + b.val) * ent3 (weightA m c) ((i 1).val / 64) ((i 1).val % 64) b.val)
      + ∑ b : Fin 64, entI m c (i 0).val ((i 1).val / 64 * 64 + b.val) * ent3 (weightI m c) ((i 1).val / 64) ((i 1).val % 64) b.val := by
  have h1 : (i 1).val < 512 := (i 1).isLt
  refine (Finset.sum_congr rfl fun l _ => congrArg₂ (fun u v : EReal => u * v) (argA_cols m c (ix2 (i 0) l)) (argB_cols m c (ix2 (i 1) l))).trans ?_
  refine (sum_halves (N := 512) (N' := 1024) rfl fun l => side [(512, entP m c), (512, entI m c)] (i 0).val l
    * side [(512, onDiagonal 64 (ent3 (weightA m c))), (512, onDiagonal 64 (ent3 (weightI m c)))] (i 1).val l).trans ?_
  refine congrArg₂ (fun u v : EReal => u + v) ?_ ?_
  · refine (Finset.sum_congr rfl fun l _ => ?_).trans (sum_onDiagonal_row 8 64 rfl (by decide) (entP m c (i 0).val) (ent3 (weightA m c)) (i 1).val h1)
    rw [side_lt l.isLt, side_lt l.isLt]
  · refine (Finset.sum_congr rfl fun l _ => ?_).trans (sum_onDiagonal_row 8 64 rfl (by decide) (entI m c (i 0).val) (ent3 (weightI m c)) (i 1).val h1)
    rw [side_ge (Nat.le_add_right _ _), side_ge (Nat.le_add_right _ _), Nat.add_sub_cancel_left]
    rfl

/-- One gate's part of the reference's gradient. -/
theorem partA (i : S4096x512.Idx) : Cert.DXcRefIdeal.Read.val_main_v14 (F := Ideal) (m ((c : Thread nD τ).loc main_arg1)) (m ((c : Thread nD τ).loc main_arg3)) (Cert.DXcRefIdeal.Read.idx_main_v16 i)
    = ∑ b : Fin 64, ent (m ((c : Thread nD τ).loc main_arg3) : FVec Ideal S4096x512 .f32) (i 0).val ((i 1).val / 64 * 64 + b.val) * ent3 (weightA m c) ((i 1).val / 64) ((i 1).val % 64) b.val := by
  have h0 : (i 0).val < 4096 := (i 0).isLt
  have h1 : (i 1).val < 512 := (i 1).isLt
  rw [Cert.DXcRefIdeal.Read.val_main_v14_apply, Cert.DXcRefIdeal.Read.val_main_v13_apply]
  refine Finset.sum_congr rfl fun l _ => ?_
  have hl := l.isLt
  rw [Cert.DXcRefIdeal.Read.val_main_v12_apply, Cert.DXcRefIdeal.Read.val_main_v11_apply]
  refine congrArg₂ (fun u v : EReal => u * v) ?_ ?_
  · refine Eq.trans ?_ (ent_eq (m ((c : Thread nD τ).loc main_arg3) : FVec Ideal S4096x512 .f32) (i 0) ⟨(i 1).val / 64 * 64 + l.val, by omega⟩).symm
    refine congrArg (m ((c : Thread nD τ).loc main_arg3)) ((eq_ix2 _).trans ?_)
    congr 1 <;> apply Fin.ext
    · show _ = (i 0).val
      simp <;> omega
    · show _ = (i 1).val / 64 * 64 + l.val
      simp <;> omega
  · refine Eq.trans ?_ (ent3_eq (weightA m c) ⟨(i 1).val / 64, by omega⟩ ⟨(i 1).val % 64, by omega⟩ l).symm
    refine congrArg (weightA m c) ((eq_ix3 _).trans ?_)
    congr 1 <;> apply Fin.ext
    · show _ = (i 1).val / 64
      simp <;> omega
    · show _ = (i 1).val % 64
      simp <;> omega

/-- One gate's part of the reference's gradient. -/
theorem partI (i : S4096x512.Idx) : Cert.DXcRefIdeal.Read.val_main_v10 (F := Ideal) (m ((c : Thread nD τ).loc main_arg2)) (m ((c : Thread nD τ).loc main_arg4)) (Cert.DXcRefIdeal.Read.idx_main_v16 i)
    = ∑ b : Fin 64, ent (m ((c : Thread nD τ).loc main_arg4) : FVec Ideal S4096x512 .f32) (i 0).val ((i 1).val / 64 * 64 + b.val) * ent3 (weightI m c) ((i 1).val / 64) ((i 1).val % 64) b.val := by
  have h0 : (i 0).val < 4096 := (i 0).isLt
  have h1 : (i 1).val < 512 := (i 1).isLt
  rw [Cert.DXcRefIdeal.Read.val_main_v10_apply, Cert.DXcRefIdeal.Read.val_main_v9_apply]
  refine Finset.sum_congr rfl fun l _ => ?_
  have hl := l.isLt
  rw [Cert.DXcRefIdeal.Read.val_main_v8_apply, Cert.DXcRefIdeal.Read.val_main_v7_apply]
  refine congrArg₂ (fun u v : EReal => u * v) ?_ ?_
  · refine Eq.trans ?_ (ent_eq (m ((c : Thread nD τ).loc main_arg4) : FVec Ideal S4096x512 .f32) (i 0) ⟨(i 1).val / 64 * 64 + l.val, by omega⟩).symm
    refine congrArg (m ((c : Thread nD τ).loc main_arg4)) ((eq_ix2 _).trans ?_)
    congr 1 <;> apply Fin.ext
    · show _ = (i 0).val
      simp <;> omega
    · show _ = (i 1).val / 64 * 64 + l.val
      simp <;> omega
  · refine Eq.trans ?_ (ent3_eq (weightI m c) ⟨(i 1).val / 64, by omega⟩ ⟨(i 1).val % 64, by omega⟩ l).symm
    refine congrArg (weightI m c) ((eq_ix3 _).trans ?_)
    congr 1 <;> apply Fin.ext
    · show _ = (i 1).val / 64
      simp <;> omega
    · show _ = (i 1).val % 64
      simp <;> omega

/-- The reference's result, at the kernel's arguments, is what the kernel leaves. -/
theorem ref3_eq : Cert.DXcRefIdeal.Read.val_main_v17 (F := Ideal) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 3 cfg0.N := by
  rw [final3, show argX m c = (m ((c : Thread nD τ).loc main_arg5)) from V_main_arg5 m c]
  funext i
  rw [sum_eq, Cert.DXcRefIdeal.Read.val_main_v17_apply, Cert.DXcRefIdeal.Read.val_main_v16_apply, Cert.DXcRefIdeal.Read.val_main_v15_apply, partA, partI]
  exact congrArg (fun u : EReal => u + (m ((c : Thread nD τ).loc main_arg5)) i) (add_comm _ _)

theorem value : Cert.algebraic_DXcIdeal_DXcRefIdeal (hDXcIdeal := Cert.DXcIdeal.Gen.facts) (hDXcRefIdeal := Cert.DXcRefIdeal.Gen.facts) := by
  intro m g m' g' _ hargs
  refine ⟨fun c => (dats m 0 c).arrAt 3 cfg0.N, run_holds m g, ?_⟩
  refine (θ_run _ _ _).mono (fun r h c => ?_) (Cert.DXcRefIdeal.Value.run m' g')
  obtain ⟨a0, a1, a2, a3, a4, a5⟩ := hargs c
  obtain ⟨r0, rest⟩ := h c
  refine ⟨r0.trans ?_, rest⟩
  · rw [Cert.DXcRefIdeal.Read.val_main_v17_eq, a1, a2, a3, a4, a5]
    exact ref3_eq m c

theorem reference_frame : Cert.quiescent_DXcRefIdeal (hDXcRefIdeal := Cert.DXcRefIdeal.Gen.facts) := by
  intro m g _
  exact (θ_run _ _ _).mono (fun r h => ⟨fun c => (h c).2, sem_eq_zero_of_no_sems (by decide) r.2⟩) (Cert.DXcRefIdeal.Value.run m g)

end Cert.DXcIdeal.Prod

end
-- ==== Proof.FlashPay.lean ====
/- The operations of one step of the attention's forward pass, at one entry. -/
module

public import proofs.«01_k».proof.Proof.Gen.FlashFwdIdeal.Skeleton
public import proofs.«01_k».proof.Proof.Ref
public import Idealize.ShloMosaic.Lib.Pointwise

@[expose] public section

noncomputable section

namespace Cert.FlashFwdIdeal.Online

open Cert.FlashFwdIdeal Cert.FlashFwdIdeal.Gen Idealize.ShloMosaic

variable (q x w : FVec Ideal S512x128 .bf16) (mo lo : FVec Ideal S512x1 .f32) (ao : FVec Ideal S512x128 .f32)

/-- The scores of a block of keys. -/
theorem pay7_apply (y : S512x512.Idx) : k0_pay7 (F := Ideal) q x y = ∑ d : Fin 128, q (ix2 (y 0) d) * x (ix2 (y 1) d) := by
  rw [eq_ix2 y]
  pointwise [k0_pay7, k0_pay3, dot_S512x128_S512x128_S512x512_1_1_0_0_n_n]

theorem pay8_apply (y : S512x1.Idx) : k0_pay8 (F := Ideal) q mo x y = max (mo y) (Finset.univ.fold max ⊥ fun a : Fin 512 => k0_pay7 (F := Ideal) q x (ix2 (y 0) a)) := by
  rw [eq_ix2 y]
  pointwise [k0_pay8]
  rw [Cert.Attn.bot_eq]

theorem pay9_apply (y : S512x1.Idx) : k0_pay9 (F := Ideal) q mo x y = Ideal.exp (mo y - k0_pay8 (F := Ideal) q mo x y) := by
  rw [eq_ix2 y]
  pointwise [k0_pay9]

theorem pay10_apply (y : S512x512.Idx) : k0_pay10 (F := Ideal) q mo x y = Ideal.exp (k0_pay7 (F := Ideal) q x y - k0_pay8 (F := Ideal) q mo x (ix2 (y 0) 0)) := by
  rw [eq_ix2 y]
  pointwise [k0_pay10]

theorem pay11_apply (y : S512x1.Idx) : k0_pay11 (F := Ideal) q mo lo x y
    = k0_pay9 (F := Ideal) q mo x y * lo y + ∑ a : Fin 512, k0_pay10 (F := Ideal) q mo x (ix2 (y 0) a) := by
  rw [eq_ix2 y]
  pointwise [k0_pay11]

theorem pay12_apply (y : S512x128.Idx) : k0_pay12 (F := Ideal) q mo ao x w y
    = k0_pay9 (F := Ideal) q mo x (ix2 (y 0) 0) * ao y + ∑ a : Fin 512, k0_pay10 (F := Ideal) q mo x (ix2 (y 0) a) * w (ix2 a (y 1)) := by
  rw [eq_ix2 y]
  pointwise [k0_pay12, dot_S512x512_S512x128_S512x128_1_0_0_1_n_n]

theorem pay19_apply (y : S512x512.Idx) : k0_pay19 (F := Ideal) q x y = if (y 1).val ≤ (y 0).val then ∑ d : Fin 128, q (ix2 (y 0) d) * x (ix2 (y 1) d) else ⊥ := by
  rw [eq_ix2 y]
  pointwise [k0_pay19, k0_pay3, dot_S512x128_S512x128_S512x512_1_1_0_0_n_n]
  rw [Cert.Attn.bot_eq]
  have h0 : (y 0).val < 512 := (y 0).isLt
  have h1 : (y 1).val < 512 := (y 1).isLt
  exact if_congr (WordCmp.cmpi_sle_ofNat_eq_one_iff (by omega) (by omega)) rfl rfl

theorem pay20_apply (y : S512x1.Idx) : k0_pay20 (F := Ideal) q mo x y = max (mo y) (Finset.univ.fold max ⊥ fun a : Fin 512 => k0_pay19 (F := Ideal) q x (ix2 (y 0) a)) := by
  rw [eq_ix2 y]
  pointwise [k0_pay20]
  rw [Cert.Attn.bot_eq]

theorem pay21_apply (y : S512x1.Idx) : k0_pay21 (F := Ideal) q mo x y = Ideal.exp (mo y - k0_pay20 (F := Ideal) q mo x y) := by
  rw [eq_ix2 y]
  pointwise [k0_pay21]

theorem pay22_apply (y : S512x512.Idx) : k0_pay22 (F := Ideal) q mo x y = Ideal.exp (k0_pay19 (F := Ideal) q x y - k0_pay20 (F := Ideal) q mo x (ix2 (y 0) 0)) := by
  rw [eq_ix2 y]
  pointwise [k0_pay22]

theorem pay23_apply (y : S512x1.Idx) : k0_pay23 (F := Ideal) q mo lo x y
    = k0_pay21 (F := Ideal) q mo x y * lo y + ∑ a : Fin 512, k0_pay22 (F := Ideal) q mo x (ix2 (y 0) a) := by
  rw [eq_ix2 y]
  pointwise [k0_pay23]

theorem pay24_apply (y : S512x128.Idx) : k0_pay24 (F := Ideal) q mo ao x y = k0_pay21 (F := Ideal) q mo x (ix2 (y 0) 0) * ao y := by
  rw [eq_ix2 y]
  pointwise [k0_pay24]

theorem pay25_apply (y : S512x512.Idx) : k0_pay25 (F := Ideal) q mo x y = k0_pay22 (F := Ideal) q mo x y := by
  rw [eq_ix2 y]
  pointwise [k0_pay25]

/-- The block of the result. -/
theorem pay1_apply (l : FVec Ideal S512x1 .f32) (p : FVec Ideal S512x512 .bf16) (y : S512x128.Idx) :
    k0_pay1 (F := Ideal) l ao w p y = Ideal.div (ao y + ∑ a : Fin 512, p (ix2 (y 0) a) * w (ix2 a (y 1))) (l (ix2 (y 0) 0)) := by
  rw [eq_ix2 y]
  pointwise [k0_pay1, dot_S512x512_S512x128_S512x128_1_0_0_1_n_n]

/-- The block of the logarithms. -/
theorem pay2_apply (b : Fin 512) : k0_pay2 (F := Ideal) mo lo (ix3 0 0 b) = mo (ix2 b 0) + Ideal.log (lo (ix2 b 0)) := by
  pointwise [k0_pay2]

end Cert.FlashFwdIdeal.Online

end
-- ==== Proof.Online.lean ====
/-
  A softmax taken block by block. A row is read in blocks of keys; what is kept is a real number the scores are lessened
  by, the sum of the exponentials and the weighted sum of the values. Neither quotient nor logarithm depends on that number.
-/
module

public import proofs.«01_k».proof.Proof.Reals

@[expose] public section

noncomputable section

namespace Cert.Online

open Idealize.ShloMosaic Cert.Attn

/-- A nonnegative real number times a finite sum of extended real numbers. -/
theorem coe_mul_sum {α : Type} (s : Finset α) {r : ℝ} (hr : 0 ≤ r) (f : α → EReal) : (r : EReal) * ∑ a ∈ s, f a = ∑ a ∈ s, (r : EReal) * f a := by
  classical
  induction s using Finset.induction_on with
  | empty => simp
  | insert a s ha ih => rw [Finset.sum_insert ha, Finset.sum_insert ha, EReal.left_distrib_of_nonneg_of_ne_top (EReal.coe_nonneg.2 hr) (EReal.coe_ne_top r), ih]

variable (C : ℕ → Prop) [DecidablePred C] (S : ℕ → ℝ) (V : Fin 128 → ℕ → EReal)

/-- The score of key `K`, where the row sees it. -/
def score (K : ℕ) : EReal := if C K then (S K : EReal) else ⊥
/-- Its exponential, less `μ`. -/
def wgt (μ : ℝ) (K : ℕ) : ℝ := if C K then Real.exp (S K - μ) else 0

theorem wgt_nonneg (μ : ℝ) (K : ℕ) : 0 ≤ wgt C S μ K := by
  unfold wgt; split
  · exact (Real.exp_pos _).le
  · exact le_rfl

theorem exp_score (μ : ℝ) (K : ℕ) : Ideal.exp (score C S K - (μ : EReal)) = (wgt C S μ K : EReal) := by
  unfold score wgt
  split
  · rw [← EReal.coe_sub]; rfl
  · rw [EReal.bot_sub]; rfl

theorem wgt_shift (μ ν : ℝ) (K : ℕ) : Real.exp (μ - ν) * wgt C S μ K = wgt C S ν K := by
  unfold wgt
  split
  · rw [← Real.exp_add]; congr 1; ring
  · rw [mul_zero]

/-- What is kept of a row after its first `n` keys. -/
def Row (n : ℕ) (m l : EReal) (a : Fin 128 → EReal) : Prop :=
  (n = 0 ∧ m = ⊥ ∧ l = 0 ∧ ∀ d, a d = 0)
    ∨ ∃ μ : ℝ, m = (μ : EReal) ∧ l = ((∑ K ∈ Finset.range n, wgt C S μ K : ℝ) : EReal) ∧ ∀ d, a d = ∑ K ∈ Finset.range n, (wgt C S μ K : EReal) * V d K

theorem sum_more (f : ℕ → EReal) (n : ℕ) : ∑ K ∈ Finset.range (n + 512), f K = ∑ K ∈ Finset.range n, f K + ∑ j : Fin 512, f (n + j.val) := by
  rw [Finset.sum_range_add, Finset.sum_range (fun j => f (n + j))]

/-- One block more. -/
theorem Row.step {n : ℕ} {m l : EReal} {a : Fin 128 → EReal} (h : Row C S V n m l a) (hC : C n)
    {x : Fin 512 → EReal} (hx : ∀ j, x j = score C S (n + j.val)) {w : Fin 512 → Fin 128 → EReal} (hw : ∀ j d, w j d = V d (n + j.val))
    {M : EReal} (hM : M = max m (Finset.univ.fold max ⊥ x)) :
    Row C S V (n + 512) M (Ideal.exp (m - M) * l + ∑ j, Ideal.exp (x j - M)) (fun d => Ideal.exp (m - M) * a d + ∑ j, Ideal.exp (x j - M) * w j d) := by
  have hlt : M ≠ ⊤ := by
    have h1 : m < ⊤ := by
      rcases h with ⟨-, h, -⟩ | ⟨μ, h, -⟩ <;> rw [h]
      · exact bot_lt_top
      · exact EReal.coe_lt_top _
    rw [hM]
    refine ne_of_lt (max_lt h1 ((Finset.fold_max_lt _).2 ⟨bot_lt_top, fun j _ => ?_⟩))
    rw [hx]; unfold score; split
    · exact EReal.coe_lt_top _
    · exact bot_lt_top
  have hgt : M ≠ ⊥ := by
    have h1 : x 0 ≤ M := by
      rw [hM]
      exact le_max_of_le_right ((Finset.le_fold_max _).2 (Or.inr ⟨0, Finset.mem_univ _, le_rfl⟩))
    intro hb
    rw [hb, hx] at h1
    unfold score at h1
    rw [if_pos (show C (n + (0 : Fin 512).val) from hC)] at h1
    exact absurd h1 (not_le.2 (EReal.bot_lt_coe _))
  obtain ⟨ν, hν⟩ : ∃ ν : ℝ, M = (ν : EReal) := ⟨M.toReal, (EReal.coe_toReal hlt hgt).symm⟩
  rw [hν]
  have hb : ∀ j, Ideal.exp (x j - (ν : EReal)) = (wgt C S ν (n + j.val) : EReal) := fun j => by rw [hx, exp_score]
  refine Or.inr ⟨ν, rfl, ?_, fun d => ?_⟩
  · rw [coe_sum, sum_more, Finset.sum_congr rfl fun j _ => hb j]
    refine congrArg (· + _) ?_
    rcases h with ⟨h0, hm, hl, -⟩ | ⟨μ, hm, hl, -⟩
    · subst h0; rw [hl, mul_zero]; rfl
    · rw [hm, hl, ← EReal.coe_sub]
      show ((Real.exp (μ - ν) : ℝ) : EReal) * _ = _
      rw [← EReal.coe_mul, Finset.mul_sum, coe_sum]
      exact Finset.sum_congr rfl fun K _ => congrArg _ (wgt_shift C S μ ν K)
  · rw [sum_more]
    refine congrArg₂ (· + ·) ?_ (Finset.sum_congr rfl fun j _ => by rw [hb, hw])
    rcases h with ⟨h0, hm, -, ha⟩ | ⟨μ, hm, -, ha⟩
    · subst h0; rw [ha, mul_zero]; rfl
    · rw [hm, ha, ← EReal.coe_sub]
      show ((Real.exp (μ - ν) : ℝ) : EReal) * _ = _
      rw [coe_mul_sum _ (Real.exp_pos _).le]
      exact Finset.sum_congr rfl fun K _ => by rw [← mul_assoc, ← EReal.coe_mul, wgt_shift]

theorem total_pos {n R : ℕ} (hR : R < n) (hC : C R) (μ : ℝ) : 0 < ∑ K ∈ Finset.range n, wgt C S μ K :=
  Finset.sum_pos' (fun K _ => wgt_nonneg C S μ K) ⟨R, Finset.mem_range.2 hR, by unfold wgt; rw [if_pos hC]; exact Real.exp_pos _⟩

theorem total_shift (n : ℕ) (μ ν : ℝ) : Real.exp (μ - ν) * ∑ K ∈ Finset.range n, wgt C S μ K = ∑ K ∈ Finset.range n, wgt C S ν K := by
  rw [Finset.mul_sum]; exact Finset.sum_congr rfl fun K _ => wgt_shift C S μ ν K

/-- The logarithm of the sum of exponentials. -/
theorem Row.log_eq {n R : ℕ} {m l : EReal} {a : Fin 128 → EReal} (h : Row C S V n m l a) (hR : R < n) (hC : C R) (ν : ℝ) :
    m + Ideal.log l = ((ν + Real.log (∑ K ∈ Finset.range n, wgt C S ν K) : ℝ) : EReal) := by
  rcases h with ⟨h0, -⟩ | ⟨μ, hm, hl, -⟩
  · omega
  · have hp := total_pos C S hR hC μ
    rw [hm, hl]
    have hlog : Ideal.log ((∑ K ∈ Finset.range n, wgt C S μ K : ℝ) : EReal) = ((Real.log (∑ K ∈ Finset.range n, wgt C S μ K) : ℝ) : EReal) :=
      if_neg (not_le.2 hp)
    rw [hlog, ← EReal.coe_add, ← total_shift C S n μ ν, Real.log_mul (Real.exp_pos _).ne' hp.ne', Real.log_exp]
    congr 1; ring

/-- The weighted mean of the values. -/
theorem Row.mean_eq {n R : ℕ} {m l : EReal} {a : Fin 128 → EReal} (h : Row C S V n m l a) (hR : R < n) (hC : C R) (ν : ℝ) (d : Fin 128) :
    Ideal.div (a d) l = ∑ K ∈ Finset.range n, ((wgt C S ν K / ∑ J ∈ Finset.range n, wgt C S ν J : ℝ) : EReal) * V d K := by
  rcases h with ⟨h0, -⟩ | ⟨μ, -, hl, ha⟩
  · omega
  · have hp := total_pos C S hR hC μ
    rw [hl, ha, Ideal.div_coe hp.ne', mul_comm, coe_mul_sum _ (one_div_nonneg.2 hp.le)]
    refine Finset.sum_congr rfl fun K _ => ?_
    rw [← mul_assoc, ← EReal.coe_mul]
    refine congrArg (fun z : ℝ => (z : EReal) * _) ?_
    rw [← total_shift C S n μ ν, ← wgt_shift C S μ ν K, mul_div_mul_left _ _ (Real.exp_pos _).ne']
    ring

end Cert.Online

end
-- ==== Proof.FlashStep.lean ====
/- What one step of the attention's forward pass leaves: the loop over the blocks of keys before the diagonal, then the diagonal's own. -/
module

public import proofs.«01_k».proof.Proof.FlashPay
public import proofs.«01_k».proof.Proof.Online
public import proofs.«01_k».proof.Proof.Gen.FlashFwdIdeal.Frame
public import Idealize.ShloMosaic.Lib.Pipeline.ValueKit.Acc
public import Idealize.ShloMosaic.Lib.Pipeline.ValueKit.Geometry

@[expose] public section

noncomputable section

namespace Cert.FlashFwdIdeal.Online

open Cert.FlashFwdIdeal Cert.FlashFwdIdeal.Gen Idealize.ShloMosaic Idealize.ShloMosaic.TcCoe Cert.Online
open Cert.KernelIdeal.Sweep (row ext ext_val ld_rows)

theorem trips_eq : ∀ i : grid0.Coords, (k0_t1_loop i).trips = (i 1).val := by decide +kernel
theorem trips2_eq : ∀ i : grid0.Coords, (k0_t2_loop i).trips = 0 := by decide +kernel
theorem off1_eq : ∀ (i : grid0.Coords) (k : Fin (k0_t1_loop i).trips), k0_off1 i k = ![512 * k.val, 0] := by decide +kernel
theorem off3_eq : ∀ i : grid0.Coords, k0_off3 i = ![512 * (i 1).val, 0] := by decide +kernel
theorem blk_lt (i : grid0.Coords) : (i 1).val < 8 := (i 1).isLt

variable (c : Dev nD) (i : grid0.Coords)
  (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S512x128 .bf16) (harg5 : arg5.IsWhole)
  (arg6 : Memref sig .tc .vmem S1x1x512 .f32) (harg6 : arg6.IsWhole)

theorem tripR_eq (v0 : Vec Ideal S512x128 .bf16) (X3 : BufTy.Contents (Elt Ideal) arg3.view.ty) (X4 : BufTy.Contents (Elt Ideal) arg4.view.ty)
    (k : Fin (k0_t1_loop i).trips) (a : FVec Ideal S512x1 .f32 × FVec Ideal S512x1 .f32 × FVec Ideal S512x128 .f32) :
    tripR_k0_t1 (F := Ideal) Variants.none c none i arg2 harg2 arg3 harg3 arg4 harg4 arg5 harg5 arg6 harg6 v0 X3 X4 k a
      = (k0_pay8 v0 a.1 (arg3.view.readAt (Elt Ideal) (Rect.unit (s := S4096x128) (k0_off1 i k) S512x128.size (k0_off1_inb i k)) X3),
        k0_pay11 v0 a.1 a.2.1 (arg3.view.readAt (Elt Ideal) (Rect.unit (s := S4096x128) (k0_off1 i k) S512x128.size (k0_off1_inb i k)) X3),
        k0_pay12 v0 a.1 a.2.2 (arg3.view.readAt (Elt Ideal) (Rect.unit (s := S4096x128) (k0_off1 i k) S512x128.size (k0_off1_inb i k)) X3)
          (arg4.view.readAt (Elt Ideal) (Rect.unit (s := S4096x128) (k0_off1 i k) S512x128.size (k0_off1_inb i k)) X4)) := by
  unfold tripR_k0_t1 trip_k0_t1; rfl

variable (x0 : Vec Ideal S512x128 .bf16) (x1 x2 : Vec Ideal S4096x128 .bf16)

/-- What the loop carries before trip `n`. -/
abbrev st (n : ℕ) := st_k0_t1 (F := Ideal) Variants.none c none i arg2 harg2 arg3 harg3 arg4 harg4 arg5 harg5 arg6 harg6 x0 (harg3.unread x1) (harg4.unread x2) (k0_pay4, k0_pay5, k0_pay6) n

/-- The diagonal's keys. -/
abbrev keys : Vec Ideal S512x128 .bf16 := View.ld (Val := Elt Ideal) x1 (Rect.unit (s := S4096x128) (k0_off3 i) S512x128.size (k0_off3_inb i))

theorem out3_eq (y : S512x128.Idx) : out0_A_3 (F := Ideal) c i arg2 harg2 arg3 harg3 arg4 harg4 arg5 harg5 arg6 harg6 x0 x1 x2 y
    = k0_pay1 (F := Ideal) (k0_pay23 x0 (st c i arg2 harg2 arg3 harg3 arg4 harg4 arg5 harg5 arg6 harg6 x0 x1 x2 (i 1).val).1 (st c i arg2 harg2 arg3 harg3 arg4 harg4 arg5 harg5 arg6 harg6 x0 x1 x2 (i 1).val).2.1 (keys i x1))
        (k0_pay24 x0 (st c i arg2 harg2 arg3 harg3 arg4 harg4 arg5 harg5 arg6 harg6 x0 x1 x2 (i 1).val).1 (st c i arg2 harg2 arg3 harg3 arg4 harg4 arg5 harg5 arg6 harg6 x0 x1 x2 (i 1).val).2.2 (keys i x1))
        (keys i x2) (k0_pay25 x0 (st c i arg2 harg2 arg3 harg3 arg4 harg4 arg5 harg5 arg6 harg6 x0 x1 x2 (i 1).val).1 (keys i x1)) y := by
  have e1 := trips_eq i
  have e2 := trips2_eq i
  unfold out0_A_3 kernelRun0_A
  dsimp only
  frame_out
  dsimp only [k0_t1_loop, k0_t2_loop, Scf.Loop.trips] at e1 e2
  simp only [e1, e2, st_k0_t2_zero]

theorem out4_eq (y : S1x1x512.Idx) : out0_A_4 (F := Ideal) c i arg2 harg2 arg3 harg3 arg4 harg4 arg5 harg5 arg6 harg6 x0 x1 x2 y
    = k0_pay2 (F := Ideal) (k0_pay20 x0 (st c i arg2 harg2 arg3 harg3 arg4 harg4 arg5 harg5 arg6 harg6 x0 x1 x2 (i 1).val).1 (keys i x1))
        (k0_pay23 x0 (st c i arg2 harg2 arg3 harg3 arg4 harg4 arg5 harg5 arg6 harg6 x0 x1 x2 (i 1).val).1 (st c i arg2 harg2 arg3 harg3 arg4 harg4 arg5 harg5 arg6 harg6 x0 x1 x2 (i 1).val).2.1 (keys i x1)) y := by
  have e1 := trips_eq i
  have e2 := trips2_eq i
  unfold out0_A_4 kernelRun0_A
  dsimp only
  frame_out
  dsimp only [k0_t1_loop, k0_t2_loop, Scf.Loop.trips] at e1 e2
  simp only [e1, e2, st_k0_t2_zero]

section Spec

variable (b : Fin 512) (S : ℕ → ℝ) (hS : ∀ K : Fin 4096, (∑ d : Fin 128, x0 (ix2 b d) * x1 (ix2 K d) : EReal) = (S K.val : EReal))

/-- The values of a lane, key by key. -/
abbrev vals (d : Fin 128) : ℕ → EReal := ext fun K => x2 (ix2 K d)

include hS in
theorem st_spec (n : ℕ) (hn : n ≤ (i 1).val) :
    Row (fun K => K ≤ 512 * (i 1).val + b.val) S (vals x2) (512 * n)
      ((st c i arg2 harg2 arg3 harg3 arg4 harg4 arg5 harg5 arg6 harg6 x0 x1 x2 n).1 (ix2 b 0))
      ((st c i arg2 harg2 arg3 harg3 arg4 harg4 arg5 harg5 arg6 harg6 x0 x1 x2 n).2.1 (ix2 b 0))
      (fun d => (st c i arg2 harg2 arg3 harg3 arg4 harg4 arg5 harg5 arg6 harg6 x0 x1 x2 n).2.2 (ix2 b d)) := by
  induction n with
  | zero => exact Or.inl ⟨rfl, Cert.Attn.bot_eq, Cert.Attn.zero_bits, fun d => Cert.Attn.zero_bits⟩
  | succ n ih =>
    have hk : n < (k0_t1_loop i).trips := by rw [trips_eq]; omega
    have hb : n < 8 := by have := blk_lt i; omega
    have e := st_k0_t1_succ (F := Ideal) Variants.none c none i arg2 harg2 arg3 harg3 arg4 harg4 arg5 harg5 arg6 harg6 x0 (harg3.unread x1) (harg4.unread x2) (k0_pay4, k0_pay5, k0_pay6) ⟨n, hk⟩
    rw [tripR_eq] at e
    simp only [View.readAt_eq_ld, harg3.read_unread, harg4.read_unread] at e
    have o1 : k0_off1 i ⟨n, hk⟩ = ![512 * n, 0] := off1_eq i ⟨n, hk⟩
    unfold st
    rw [e]
    dsimp only
    rw [show 512 * (n + 1) = 512 * n + 512 by omega, pay8_apply, pay11_apply]
    simp only [pay12_apply, pay9_apply, pay10_apply, pay8_apply, pay7_apply]
    refine Row.step _ S _ (ih (by omega)) (by show 512 * n ≤ _; omega) (fun j => ?_) (fun j d => ?_) rfl
    · unfold score
      rw [if_pos (show 512 * n + j.val ≤ 512 * (i 1).val + b.val by have := j.isLt; omega)]
      refine Eq.trans ?_ (hS (row n hb j))
      exact Finset.sum_congr rfl fun d _ => congrArg (_ * ·) (ld_rows (F := Ideal) hb x1 _ o1 j d)
    · refine (ld_rows (F := Ideal) hb x2 _ o1 j d).trans ?_
      exact (ext_val (fun K => x2 (ix2 K d)) (row n hb j)).symm

include hS in
/-- After the diagonal's block. -/
theorem diag_spec :
    Row (fun K => K ≤ 512 * (i 1).val + b.val) S (vals x2) (512 * (i 1).val + 512)
      (k0_pay20 (F := Ideal) x0 (st c i arg2 harg2 arg3 harg3 arg4 harg4 arg5 harg5 arg6 harg6 x0 x1 x2 (i 1).val).1 (keys i x1) (ix2 b 0))
      (k0_pay23 (F := Ideal) x0 (st c i arg2 harg2 arg3 harg3 arg4 harg4 arg5 harg5 arg6 harg6 x0 x1 x2 (i 1).val).1 (st c i arg2 harg2 arg3 harg3 arg4 harg4 arg5 harg5 arg6 harg6 x0 x1 x2 (i 1).val).2.1 (keys i x1) (ix2 b 0))
      (fun d => k0_pay24 (F := Ideal) x0 (st c i arg2 harg2 arg3 harg3 arg4 harg4 arg5 harg5 arg6 harg6 x0 x1 x2 (i 1).val).1 (st c i arg2 harg2 arg3 harg3 arg4 harg4 arg5 harg5 arg6 harg6 x0 x1 x2 (i 1).val).2.2 (keys i x1) (ix2 b d)
        + ∑ a : Fin 512, k0_pay25 (F := Ideal) x0 (st c i arg2 harg2 arg3 harg3 arg4 harg4 arg5 harg5 arg6 harg6 x0 x1 x2 (i 1).val).1 (keys i x1) (ix2 b a) * keys i x2 (ix2 a d)) := by
  have h := st_spec c i arg2 harg2 arg3 harg3 arg4 harg4 arg5 harg5 arg6 harg6 x0 x1 x2 b S hS (i 1).val le_rfl
  have hb := blk_lt i
  have o3 := off3_eq i
  rw [pay20_apply, pay23_apply]
  simp only [pay24_apply, pay25_apply, pay21_apply, pay22_apply, pay20_apply]
  refine Row.step _ S _ h (by show 512 * (i 1).val ≤ _; omega) (fun j => ?_) (fun j d => ?_) rfl
  · refine (pay19_apply _ _ _).trans ?_
    unfold score
    refine if_congr (show j.val ≤ b.val ↔ 512 * (i 1).val + j.val ≤ 512 * (i 1).val + b.val by omega) ?_ rfl
    refine Eq.trans ?_ (hS (row (i 1).val hb j))
    exact Finset.sum_congr rfl fun d _ => congrArg (_ * ·) (ld_rows (F := Ideal) hb x1 _ o3 j d)
  · refine (ld_rows (F := Ideal) hb x2 _ o3 j d).trans ?_
    exact (ext_val (fun K => x2 (ix2 K d)) (row (i 1).val hb j)).symm

include hS in
theorem out3_apply (ν : ℝ) (d : Fin 128) : out0_A_3 (F := Ideal) c i arg2 harg2 arg3 harg3 arg4 harg4 arg5 harg5 arg6 harg6 x0 x1 x2 (ix2 b d)
    = ∑ K ∈ Finset.range (512 * (i 1).val + 512), ((wgt (fun K => K ≤ 512 * (i 1).val + b.val) S ν K / ∑ J ∈ Finset.range (512 * (i 1).val + 512), wgt (fun K => K ≤ 512 * (i 1).val + b.val) S ν J : ℝ) : EReal) * vals x2 d K := by
  rw [out3_eq, pay1_apply]
  exact (diag_spec c i arg2 harg2 arg3 harg3 arg4 harg4 arg5 harg5 arg6 harg6 x0 x1 x2 b S hS).mean_eq _ S _ (R := 512 * (i 1).val + b.val) (by have := b.isLt; omega) le_rfl ν d

include hS in
theorem out4_apply (ν : ℝ) : out0_A_4 (F := Ideal) c i arg2 harg2 arg3 harg3 arg4 harg4 arg5 harg5 arg6 harg6 x0 x1 x2 (ix3 0 0 b)
    = ((ν + Real.log (∑ K ∈ Finset.range (512 * (i 1).val + 512), wgt (fun K => K ≤ 512 * (i 1).val + b.val) S ν K) : ℝ) : EReal) := by
  rw [out4_eq, pay2_apply]
  exact (diag_spec c i arg2 harg2 arg3 harg3 arg4 harg4 arg5 harg5 arg6 harg6 x0 x1 x2 b S hS).log_eq _ S _ (R := 512 * (i 1).val + b.val) (by have := b.isLt; omega) le_rfl ν

end Spec

end Cert.FlashFwdIdeal.Online

end
-- ==== Proof.FlashFwd.lean ====
/-
  The attention's forward pass: the output and the log of each row's sum of exponentials are the reference's wherever q and k
  are real numbers.
-/
module

public import proofs.«01_k».proof.Proof.FlashStep
public import proofs.«01_k».proof.Proof.Finite
public import proofs.«01_k».proof.Proof.Gen.FlashFwdRefIdeal.Read
public import proofs.«01_k».proof.Proof.Gen.Pre_finite_scores
public import proofs.«01_k».proof.Defs
public import Idealize.ShloMosaic.Lib.StableHlo.RunRead
public import Idealize.ShloMosaic.Lib.Claim

@[expose] public section

noncomputable section

namespace Cert.FlashFwdIdeal.Prod

open Cert.FlashFwdIdeal Cert.FlashFwdIdeal.Gen Cert.FlashFwdIdeal.Online Idealize.ShloMosaic Idealize.ShloMosaic.TcCoe Idealize.SL.Sem Idealize.ShloMosaic.StableHlo
open Idealize.ShloMosaic.Pipeline (Dat)
open Cert.KernelIdeal.Sweep (row ext ext_val lane headOf headOf_lane scale)
open Cert.Attn (s e l p sc scale_eq sum_real Holds HoldsMax)
open Cert.Online (wgt)

/-! ## Sums over the keys up to the diagonal -/

theorem sum_upto {α : Type} [AddCommMonoid α] (f : ℕ → α) {N : ℕ} (hN : N ≤ 4096) (h : ∀ K, N ≤ K → f K = 0) :
    ∑ K ∈ Finset.range N, f K = ∑ K : Fin 4096, f K.val := by
  rw [← Finset.sum_range f]
  exact Finset.sum_subset (Finset.range_subset_range.2 hN) fun K _ hK => h K (by simpa using hK)

variable (q k : Fin 4096 → Fin 1024 → ℝ) (ν : Fin 8 → Fin 4096 → ℝ)

/-- A row's scores, key by key. -/
def scores (h : Fin 8) (R : Fin 4096) (K : ℕ) : ℝ := if hK : K < 4096 then s q k h R ⟨K, hK⟩ else 0

theorem scores_val (h : Fin 8) (R K : Fin 4096) : scores q k h R K.val = s q k h R K := dif_pos K.isLt

theorem wgt_val (h : Fin 8) (R : Fin 4096) {r : ℕ} (hr : r = R.val) (K : Fin 4096) :
    wgt (fun K => K ≤ r) (scores q k h R) (ν h R) K.val = e q k ν h R K := by
  subst hr
  unfold wgt e
  rw [scores_val]

theorem wgt_later (S : ℕ → ℝ) (μ : ℝ) {r K : ℕ} (h : r < K) : wgt (fun K => K ≤ r) S μ K = 0 := if_neg (Nat.not_le.2 h)

theorem sum_wgt (h : Fin 8) (R : Fin 4096) {r N : ℕ} (hr : r = R.val) (hN : N ≤ 4096) (hrN : r < N) :
    ∑ K ∈ Finset.range N, wgt (fun K => K ≤ r) (scores q k h R) (ν h R) K = l q k ν h R := by
  rw [sum_upto _ hN fun K hK => wgt_later _ _ (by omega)]
  exact Finset.sum_congr rfl fun K _ => wgt_val q k ν h R hr K

/-! ## The results -/

/-- The output: each row's weighted mean of the values. -/
def outO (v : FVec Ideal S4096x1024 .bf16) : FVec Ideal S4096x1024 .bf16 := fun i =>
  ∑ K : Fin 4096, ((p q k ν (headOf (i 1)) (i 0) K : ℝ) : EReal) * v (ix2 K (i 1))

/-- The log of each row's sum of exponentials. -/
def outL : FVec Ideal S8x1x4096 .f32 := fun i => ((ν (i 0) (i 2) + Real.log (l q k ν (i 0) (i 2)) : ℝ) : EReal)

variable (m : (ℓ : Loc nD τ sig) → Buf (Elt Ideal) ℓ) (c : Dev nD)

/-- The call's arguments. -/
abbrev argQ : FVec Ideal S4096x1024 .f32 := m ((c : Thread nD τ).loc main_arg0)
abbrev argK : FVec Ideal S4096x1024 .bf16 := m ((c : Thread nD τ).loc main_arg1)
abbrev argV : FVec Ideal S4096x1024 .bf16 := m ((c : Thread nD τ).loc main_arg2)

theorem V_main_v2 : (V m c main_v2 : FVec Ideal S4096x1024 .bf16)
    = truncf .bf16 (mulf (argQ m c) (broadcastInDim S4096x1024 ![] bcast_S_S4096x1024 (constant (F := Ideal) S_ .f32 0x3DD105EC#32))) bitsLt_bf16_f32 := by
  unfold_abbrev_sides
  after_reads_simp

theorem idx0 : ∀ t : Fin cfg0.N, win0_0.index t = ![t.val % 8, t.val / 8] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![0, t.val / 8] := (by decide +kernel : ∀ t : Fin grid0.N, _)
theorem idx3 : ∀ t : Fin cfg0.N, win0_3.index t = ![t.val % 8, t.val / 8] := (by decide +kernel : ∀ t : Fin grid0.N, _)
theorem idx4 : ∀ t : Fin cfg0.N, win0_4.index t = ![t.val / 8, 0, t.val % 8] := (by decide +kernel : ∀ t : Fin grid0.N, _)

theorem coords1 (t : Fin cfg0.N) : (grid0.coords t 1).val = t.val % 8 := by
  have e1 : (grid0.coords t 1).val = t.val / 1 % 8 := Pipeline.Grid.coords_val t 1 (by decide) rfl
  omega

/-- The head of a point. -/
def hd (t : Fin cfg0.N) : Fin 8 := ⟨t.val / 8, by have : t.val < 64 := Nat.lt_of_lt_of_eq t.isLt N_0; omega⟩
/-- The row of a point's block. -/
def rowAt (t : Fin cfg0.N) (b : Fin 512) : Fin 4096 := row (t.val % 8) (Nat.mod_lt _ (by decide)) b

/-- A point's rows of q, and its head's keys and values. -/
abbrev bq (t : Fin cfg0.N) : Vec Ideal S512x128 .bf16 := iblk m c 0 t
abbrev bk (t : Fin cfg0.N) : Vec Ideal S4096x128 .bf16 := iblk m c 1 t
abbrev bv (t : Fin cfg0.N) : Vec Ideal S4096x128 .bf16 := iblk m c 2 t

theorem iblk_0 (t : Fin cfg0.N) (b : Fin 512) (d : Fin 128) :
    bq m c t (ix2 b d) = (V m c main_v2 : FVec Ideal S4096x1024 .bf16) (ix2 (rowAt t b) (lane (hd t) d)) := by
  show V m c main_v2 _ = V m c main_v2 _
  generalize V m c main_v2 = f
  congr 1
  funext a
  apply Fin.ext
  have hi := idx0 t
  match a with
  | ⟨0, _⟩ => show win0_0.index t 0 * 512 + 1 * b.val = 512 * (t.val % 8) + b.val; rw [hi]; show t.val % 8 * 512 + _ = _; omega
  | ⟨1, _⟩ => show win0_0.index t 1 * 128 + 1 * d.val = 128 * (t.val / 8) + d.val; rw [hi]; show t.val / 8 * 128 + _ = _; omega

theorem iblk_1 (t : Fin cfg0.N) (K : Fin 4096) (d : Fin 128) :
    bk m c t (ix2 K d) = (V m c main_arg1 : FVec Ideal S4096x1024 .bf16) (ix2 K (lane (hd t) d)) := by
  show V m c main_arg1 _ = V m c main_arg1 _
  generalize V m c main_arg1 = f
  congr 1
  funext a
  apply Fin.ext
  have hi := idx1 t
  match a with
  | ⟨0, _⟩ => show win0_1.index t 0 * 4096 + 1 * K.val = K.val; rw [hi]; show 0 * 4096 + _ = _; omega
  | ⟨1, _⟩ => show win0_1.index t 1 * 128 + 1 * d.val = 128 * (t.val / 8) + d.val; rw [hi]; show t.val / 8 * 128 + _ = _; omega

theorem iblk_2 (t : Fin cfg0.N) (K : Fin 4096) (d : Fin 128) :
    bv m c t (ix2 K d) = (V m c main_arg2 : FVec Ideal S4096x1024 .bf16) (ix2 K (lane (hd t) d)) := by
  show V m c main_arg2 _ = V m c main_arg2 _
  generalize V m c main_arg2 = f
  congr 1
  funext a
  apply Fin.ext
  have hi := idx2 t
  match a with
  | ⟨0, _⟩ => show win0_2.index t 0 * 4096 + 1 * K.val = K.val; rw [hi]; show 0 * 4096 + _ = _; omega
  | ⟨1, _⟩ => show win0_2.index t 1 * 128 + 1 * d.val = 128 * (t.val / 8) + d.val; rw [hi]; show t.val / 8 * 128 + _ = _; omega

variable (h0 : Holds (argQ m c) q) (h1 : Holds (argK m c) k)

include h0 h1 in
/-- The scores a point computes. -/
theorem score_at (t : Fin cfg0.N) (b : Fin 512) (K : Fin 4096) :
    (∑ d : Fin 128, bq m c t (ix2 b d) * bk m c t (ix2 K d) : EReal) = (scores q k (hd t) (rowAt t b) K.val : EReal) := by
  rw [scores_val]
  unfold s
  rw [Finset.sum_mul]
  refine sum_real fun d => ?_
  rw [iblk_0, iblk_1, V_main_v2, V_main_arg1]
  show (argQ m c (ix2 (rowAt t b) (lane (hd t) d)) * scale * argK m c (ix2 K (lane (hd t) d)) : EReal) = _
  rw [h0, h1, scale_eq, ← EReal.coe_mul, ← EReal.coe_mul]
  congr 1
  ring

include h0 h1 in
theorem out3_at (t : Fin cfg0.N) (b : Fin 512) (d : Fin 128) :
    (outsAt0 m c t).1 (ix2 b d) = outO q k ν (argV m c) (ix2 (rowAt t b) (lane (hd t) d)) := by
  have hr : 512 * (grid0.coords t 1).val + b.val = (rowAt t b).val := by rw [coords1]; rfl
  have hb : 512 * (grid0.coords t 1).val + 512 ≤ 4096 := by have := Online.blk_lt (grid0.coords t); omega
  unfold outsAt0
  dsimp only
  have hsc := score_at q k m c h0 h1 t b
  have e := Online.out3_apply c (grid0.coords t) (ms0_0 t) (hs0_0 t) (ms0_1 t) (hs0_1 t) (ms0_2 t) (hs0_2 t) (ms0_3 t) (hs0_3 t) (ms0_4 t) (hs0_4 t)
    (bq m c t) (bk m c t) (bv m c t) b (scores q k (hd t) (rowAt t b)) hsc (ν (hd t) (rowAt t b)) d
  refine e.trans ?_
  rw [sum_wgt q k ν (hd t) (rowAt t b) hr hb (by have := b.isLt; omega),
    sum_upto _ hb fun K hK => by rw [wgt_later _ _ (by have := b.isLt; omega), zero_div, EReal.coe_zero, zero_mul]]
  show _ = ∑ K : Fin 4096, ((p q k ν (headOf (lane (hd t) d)) (rowAt t b) K : ℝ) : EReal) * _
  refine Finset.sum_congr rfl fun K _ => ?_
  rw [wgt_val q k ν (hd t) (rowAt t b) hr K, headOf_lane]
  refine congrArg (_ * ·) ?_
  refine (ext_val (fun K => bv m c t (ix2 K d)) K).trans ?_
  rw [iblk_2, V_main_arg2]
  rfl

include h0 h1 in
theorem out4_at (t : Fin cfg0.N) (b : Fin 512) :
    (outsAt0 m c t).2 (ix3 0 0 b) = outL q k ν (ix3 (hd t) 0 (rowAt t b)) := by
  have hr : 512 * (grid0.coords t 1).val + b.val = (rowAt t b).val := by rw [coords1]; rfl
  have hb : 512 * (grid0.coords t 1).val + 512 ≤ 4096 := by have := Online.blk_lt (grid0.coords t); omega
  unfold outsAt0
  dsimp only
  have hsc := score_at q k m c h0 h1 t b
  have e := Online.out4_apply c (grid0.coords t) (ms0_0 t) (hs0_0 t) (ms0_1 t) (hs0_1 t) (ms0_2 t) (hs0_2 t) (ms0_3 t) (hs0_3 t) (ms0_4 t) (hs0_4 t)
    (bq m c t) (bk m c t) (bv m c t) b (scores q k (hd t) (rowAt t b)) hsc (ν (hd t) (rowAt t b))
  refine e.trans ?_
  rw [sum_wgt q k ν (hd t) (rowAt t b) hr hb (by have := b.isLt; omega)]
  rfl

include h0 h1 in
/-- What the launch leaves in the output. -/
theorem final3 : (dats m 0 c).arrAt 3 cfg0.N = outO q k ν (argV m c) := by
  refine (dats m 0 c).arrAt_eq_of_covers 3 _ (by decide +kernel) fun t hf y => ?_
  blk_simp
  rw [after0_3]
  obtain ⟨b, d, rfl⟩ : ∃ (b : Fin 512) (d : Fin 128), y = ix2 b d := ⟨y 0, y 1, (ix2_eta y).symm⟩
  refine (out3_at q k ν m c h0 h1 t b d).trans ?_
  generalize outO q k ν (argV m c) = f
  refine congrArg f ?_
  funext a
  apply Fin.ext
  have hi := idx3 t
  match a with
  | ⟨0, _⟩ => show 512 * (t.val % 8) + b.val = win0_3.index t 0 * 512 + 1 * b.val; rw [hi]; show _ = t.val % 8 * 512 + _; omega
  | ⟨1, _⟩ => show 128 * (t.val / 8) + d.val = win0_3.index t 1 * 128 + 1 * d.val; rw [hi]; show _ = t.val / 8 * 128 + _; omega

include h0 h1 in
/-- What the launch leaves in the log of the sums. -/
theorem final4 : (dats m 0 c).arrAt 4 cfg0.N = outL q k ν := by
  refine (dats m 0 c).arrAt_eq_of_covers 4 _ (by decide +kernel) fun t hf y => ?_
  blk_simp
  rw [after0_4]
  obtain ⟨b, rfl⟩ : ∃ b : Fin 512, y = ix3 0 0 b := ⟨y 2, by
    funext a
    match a with
    | ⟨0, _⟩ => exact Subsingleton.elim (α := Fin 1) _ _
    | ⟨1, _⟩ => exact Subsingleton.elim (α := Fin 1) _ _
    | ⟨2, _⟩ => rfl⟩
  refine (out4_at q k ν m c h0 h1 t b).trans ?_
  generalize outL q k ν = f
  refine congrArg f ?_
  funext a
  apply Fin.ext
  have hi := idx4 t
  match a with
  | ⟨0, _⟩ => show t.val / 8 = win0_4.index t 0 * 1 + 1 * 0; rw [hi]; show _ = t.val / 8 * 1 + _; omega
  | ⟨1, _⟩ => show 0 = win0_4.index t 1 * 1 + 1 * 0; rw [hi]; rfl
  | ⟨2, _⟩ => show 512 * (t.val % 8) + b.val = win0_4.index t 2 * 512 + 1 * b.val; rw [hi]; show _ = t.val % 8 * 512 + _; omega

/-! ## The reference -/

section Reference

open Cert.FlashFwdRefIdeal.Read

variable {q k : Fin 4096 → Fin 1024 → ℝ} {ν : Fin 8 → Fin 4096 → ℝ} {x0 : FVec Ideal S4096x1024 .f32} {x1 x2 : FVec Ideal S4096x1024 .bf16}

theorem ref_scores : val_main_v13 (F := Ideal) x0 x1 = Cert.ReferenceIdeal.Read.val_main_v14_0 (F := Ideal) x0 x1 := rfl
theorem ref_max : val_main_v14 (F := Ideal) x0 x1 = Cert.ReferenceIdeal.Read.val_main_v15 (F := Ideal) x0 x1 := rfl
theorem ref_p : val_main_v48 (F := Ideal) x0 x1 = Cert.ReferenceIdeal.Read.val_main_v39 (F := Ideal) x0 x1 := rfl
theorem ref_v : val_main_v49 (F := Ideal) x2 = Cert.ReferenceIdeal.Read.val_main_v43 (F := Ideal) x2 := rfl

theorem sum_at (r0 : Holds x0 q) (r1 : Holds x1 k) (hm : HoldsMax x0 x1 ν) (h : Fin 8) (R : Fin 4096) :
    val_main_v19 (F := Ideal) x0 x1 (ix2 h R) = (l q k ν h R : EReal) := by
  rw [val_main_v19_apply]
  show (Ideal.ofBits .f32 0x00000000#32 : EReal) + _ = _
  rw [Cert.Attn.zero_bits, zero_add]
  refine sum_real fun K => ?_
  have ei : idx_main_v19 (ix2 h R) K = ix3 h R K := funext fun a => by match a with | ⟨0, _⟩ => rfl | ⟨1, _⟩ => rfl | ⟨2, _⟩ => rfl
  have ej : idx_main_v15 (idx_main_v16 (ix3 h R K)) = ix2 h R := funext fun a => by match a with | ⟨0, _⟩ => rfl | ⟨1, _⟩ => rfl
  rw [ei, val_main_v18_apply, val_main_v17_apply, val_main_v16_apply, val_main_v15_apply, ej, ref_scores, ref_max, Cert.Attn.v14_at r0 r1, hm h R]
  exact Cert.Attn.exp_at h R K

/-- The reference's log of the sums. -/
theorem refL (r0 : Holds x0 q) (r1 : Holds x1 k) (hm : HoldsMax x0 x1 ν) : val_main_v54 (F := Ideal) x0 x1 = outL q k ν := by
  funext i
  obtain ⟨h, z, R, rfl⟩ : ∃ (h : Fin 8) (z : Fin 1) (R : Fin 4096), i = ix3 h z R := ⟨i 0, i 1, i 2, (ix3_eta i).symm⟩
  have ei : idx_main_v54 (ix3 h z R) = ix3 h R 0 := funext fun a => Fin.ext (by
    have := h.isLt; have := z.isLt; have := R.isLt
    match a with
    | ⟨0, _⟩ => show ((h.val * 1 + z.val) * 4096 + R.val) / 4096 = h.val; omega
    | ⟨1, _⟩ => show ((h.val * 1 + z.val) * 4096 + R.val) / 1 % 4096 = R.val; omega
    | ⟨2, _⟩ => rfl)
  have e1 : idx_main_v15 (ix3 h R 0) = ix2 h R := funext fun a => by match a with | ⟨0, _⟩ => rfl | ⟨1, _⟩ => rfl
  have e2 : idx_main_v20 (ix3 h R 0) = ix2 h R := funext fun a => by match a with | ⟨0, _⟩ => rfl | ⟨1, _⟩ => rfl
  rw [val_main_v54_apply, ei, val_main_v22_apply, val_main_v21_apply, val_main_v20_apply, val_main_v15_apply, e1, e2, ref_max, hm h R, sum_at r0 r1 hm]
  show (ν h R : EReal) + Ideal.log (l q k ν h R : EReal) = ((ν h R + Real.log (l q k ν h R) : ℝ) : EReal)
  rw [Ideal.log_coe, if_neg (not_le.2 (Cert.Attn.l_pos q k ν h R)), EReal.coe_add]

/-- The reference's output. -/
theorem refO (r0 : Holds x0 q) (r1 : Holds x1 k) (hm : HoldsMax x0 x1 ν) : val_main_v53 (F := Ideal) x0 x1 x2 = outO q k ν x2 := by
  funext i
  obtain ⟨R, C, rfl⟩ : ∃ (R : Fin 4096) (C : Fin 1024), i = ix2 R C := ⟨i 0, i 1, (ix2_eta i).symm⟩
  have hC : lane (headOf C) ⟨C.val % 128, Nat.mod_lt _ (by decide)⟩ = C := Fin.ext (by show 128 * (C.val / 128) + C.val % 128 = C.val; omega)
  rw [val_main_v53_apply]
  show val_main_v52 (F := Ideal) x0 x1 x2 (ix2 R C) = _
  rw [val_main_v52_apply, val_main_v51_apply]
  have ei : idx_main_v51 (idx_main_v52 (ix2 R C)) = ix3 (headOf C) ⟨C.val % 128, Nat.mod_lt _ (by decide)⟩ R := funext fun a => Fin.ext (by
    have := R.isLt; have := C.isLt
    match a with
    | ⟨0, _⟩ => show (R.val * 1024 + C.val) / 128 % 8 = C.val / 128; omega
    | ⟨1, _⟩ => show (R.val * 1024 + C.val) % 128 = C.val % 128; omega
    | ⟨2, _⟩ => show (R.val * 1024 + C.val) / 1024 = R.val; omega)
  rw [ei, val_main_v50_apply, ref_p, ref_v]
  show _ = ∑ K : Fin 4096, ((p q k ν (headOf C) R K : ℝ) : EReal) * x2 (ix2 K C)
  refine Finset.sum_congr rfl fun K _ => ?_
  have e1 : ∀ d : Fin 128, lidx_main_v50 (ix3 (headOf C) d R) K = ix3 K (headOf C) d := fun d => funext fun a => by match a with | ⟨0, _⟩ => rfl | ⟨1, _⟩ => rfl | ⟨2, _⟩ => rfl
  have e2 : ∀ d : Fin 128, ridx_main_v50 (ix3 (headOf C) d R) K = ix3 (headOf C) R K := fun d => funext fun a => by match a with | ⟨0, _⟩ => rfl | ⟨1, _⟩ => rfl | ⟨2, _⟩ => rfl
  rw [e1, e2, Cert.Attn.v39_at r0 r1 hm, Cert.ReferenceIdeal.Read.val_main_v43_apply]
  show x2 (Cert.ReferenceIdeal.Read.idx_main_v2 (ix3 K (headOf C) ⟨C.val % 128, _⟩)) * _ = _
  rw [Cert.Attn.heads_idx, hC]
  exact mul_comm _ _

end Reference

/-- The precondition read: every entry of q and k is a real number. -/
theorem holds_of_scores {x0 : FVec Ideal S4096x1024 .f32} {x1 x2 : FVec Ideal S4096x1024 .bf16} (h : Cert.Pre_finite_scores.fn (F := Ideal) x0 x1 x2 = fun _ => 1#1) :
    (Holds x0 fun R C => (x0 (ix2 R C) : EReal).toReal) ∧ (Holds x1 fun R C => (x1 (ix2 R C) : EReal).toReal) := by
  have h' := congrFun h fun a => a.elim0
  unfold Cert.Pre_finite_scores.fn at h'
  obtain ⟨r0, r1⟩ := IntOp.andi_eq_one.1 h'
  exact ⟨Cert.Attn.holds_of_all x0 r0, Cert.Attn.holds_of_all x1 r1⟩

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v3_0) = (dats m 0 c).arrAt 3 cfg0.N
      ∧ r.2.mem ((c : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 3, (h.2 c).1 4, h.1 c⟩) (θ_run_and (unchanged m ρ) (run_main m ρ))

theorem value : Cert.algebraic_FlashFwdIdeal_FlashFwdRefIdeal_pre_finite_scores (hFlashFwdIdeal := Cert.FlashFwdIdeal.Gen.facts) (hFlashFwdRefIdeal := Cert.FlashFwdRefIdeal.Gen.facts) (hPre_finite_scores := Cert.Pre_finite_scores.Gen.facts) := by
  intro m g m' g' hpre hargs
  refine ⟨fun c => (dats m 0 c).arrAt 3 cfg0.N, fun c => (dats m 0 c).arrAt 4 cfg0.N, run_holds m g, ?_⟩
  refine (θ_run _ _ _).mono (fun r h c => ?_) (Cert.FlashFwdRefIdeal.Value.run m' g')
  obtain ⟨a0, a1, a2⟩ := hargs c
  obtain ⟨h0, h1⟩ := holds_of_scores (hpre c)
  have hm : HoldsMax _ _ fun hh R => (Cert.Attn.v15_real h0 h1 hh R).choose := fun hh R => (Cert.Attn.v15_real h0 h1 hh R).choose_spec
  obtain ⟨r0, r1, rest⟩ := h c
  refine ⟨r0.trans ?_, r1.trans ?_, rest⟩
  · rw [Cert.FlashFwdRefIdeal.Read.val_main_v53_eq, a0, a1, a2]
    exact (refO h0 h1 hm).trans (final3 _ _ _ m c h0 h1).symm
  · rw [Cert.FlashFwdRefIdeal.Read.val_main_v54_eq, a0, a1]
    exact (refL h0 h1 hm).trans (final4 _ _ _ m c h0 h1).symm

theorem reference_frame (m : (ℓ : Loc Cert.FlashFwdRefIdeal.nD Cert.FlashFwdRefIdeal.τ Cert.FlashFwdRefIdeal.sig) → Buf (Elt Ideal) ℓ) (g : Dev Cert.FlashFwdRefIdeal.nD → PrngReg) :
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0) :=
  (θ_run _ _ _).mono (fun r h => ⟨fun c => (h c).2.2, sem_eq_zero_of_no_sems (by decide) r.2⟩) (Cert.FlashFwdRefIdeal.Value.run m g)

end Cert.FlashFwdIdeal.Prod

end
-- ==== Proof.Ff1.lean ====
/- The feed-forward's first half, before and after its activation: block by block what the reference computes. -/
module

public import proofs.«01_k».proof.Defs
public import proofs.«01_k».proof.Proof.Gen.Ff1Ideal.Frame
public import proofs.«01_k».proof.Proof.Gen.Ff1RefIdeal.Run
public import proofs.«01_k».proof.Proof.Gen.Ff1RefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.Ff1Ideal.Prod

open Cert.Ff1Ideal Cert.Ff1Ideal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x1024 .bf16) (b : FVec Ideal S1024x1024 .f32) (y : S1024x1024.Idx) :
    k0_pay2 (F := Ideal) acc a b y = acc y + ∑ r : Fin 1024, a (ix2 (y 0) r) * b (ix2 r (y 1)) := by
  rw [eq_ix2 y]
  pointwise [k0_pay2, dot_S1024x1024_S1024x1024_S1024x1024_1_0_0_1_n_n]

theorem pay3_apply (acc : FVec Ideal S1024x1024 .f32)  (y : S1024x1024.Idx) :
    k0_pay3 (F := Ideal) acc y = acc y := by
  rw [eq_ix2 y]
  pointwise [k0_pay3]

theorem pay4_apply (acc : FVec Ideal S1024x1024 .f32)  (y : S1024x1024.Idx) :
    k0_pay4 (F := Ideal) acc y = max (acc y) 0 * max (acc y) 0 := by
  rw [eq_ix2 y]
  pointwise [k0_pay4]

/-! ## The accumulation -/

abbrev blkA (t : Fin cfg0.N) : FVec Ideal S1024x1024 .bf16 := iblk m c 0 t
abbrev blkB (t : Fin cfg0.N) : FVec Ideal S1024x1024 .f32 := iblk m c 1 t

theorem out2_eq (t : Fin cfg0.N) (y : S1024x1024.Idx) :
    (outsAt0 m c t).1 y = (∑ r : Fin 1024, blkA m c t (ix2 (y 0) r) * blkB m c t (ix2 r (y 1))) := by
  unfold outsAt0
  frame_out
  rw [pay3_apply, pay2_apply, pay1_apply, zero_add]

theorem out3_eq (t : Fin cfg0.N) (y : S1024x1024.Idx) :
    (outsAt0 m c t).2 y = max ((∑ r : Fin 1024, blkA m c t (ix2 (y 0) r) * blkB m c t (ix2 r (y 1)))) 0 * max ((∑ r : Fin 1024, blkA m c t (ix2 (y 0) r) * blkB m c t (ix2 r (y 1)))) 0 := by
  unfold outsAt0
  frame_out
  rw [pay4_apply, pay2_apply, pay1_apply, zero_add]

/-! ## The whole arrays -/

abbrev argA : FVec Ideal S4096x1024 .bf16 := V m c main_arg0
abbrev argB : FVec Ideal S1024x4096 .f32 := V m c main_arg1

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

/-- What the launch leaves in the result. -/
theorem final2 : (dats m 0 c).arrAt 2 cfg0.N = fun i => (∑ l : Fin 1024, argA m c (ix2 (i 0) l) * argB m c (ix2 l (i 1))) := by
  refine (dats m 0 c).arrAt_eq_of_covers 2 _ (by decide +kernel) fun t hf y => ?_
  blk_simp
  rw [after0_2, out2_eq m c t]
  show (_ : EReal) = _
  refine Finset.sum_congr rfl fun r _ => ?_
  congr 1
  · show V m c main_arg0 _ = V m c main_arg0 _
    congr 1
    blk_ext [idx0, idx2]
  · show V m c main_arg1 _ = V m c main_arg1 _
    congr 1
    blk_ext [idx1, idx2]

/-- What the launch leaves in the result. -/
theorem final3 : (dats m 0 c).arrAt 3 cfg0.N = fun i => max ((∑ l : Fin 1024, argA m c (ix2 (i 0) l) * argB m c (ix2 l (i 1)))) 0 * max ((∑ l : Fin 1024, argA m c (ix2 (i 0) l) * argB m c (ix2 l (i 1)))) 0 := by
  refine (dats m 0 c).arrAt_eq_of_covers 3 _ (by decide +kernel) fun t hf y => ?_
  blk_simp
  rw [after0_3, out3_eq m c t]
  refine congrArg (fun s : EReal => max s 0 * max s 0) ?_
  show (_ : EReal) = _
  refine Finset.sum_congr rfl fun r _ => ?_
  congr 1
  · show V m c main_arg0 _ = V m c main_arg0 _
    congr 1
    blk_ext [idx0, idx3]
  · show V m c main_arg1 _ = V m c main_arg1 _
    congr 1
    blk_ext [idx1, idx3]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0_0) = (dats m 0 c).arrAt 2 cfg0.N
      ∧ r.2.mem ((c : Thread nD τ).loc main_v0_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h.2 c).1 2, (h.2 c).1 3, h.1 c⟩) (θ_run_and (unchanged m ρ) (run_main m ρ))

/-- The reference's result, at the kernel's arguments, is what the kernel leaves. -/
theorem ref2_eq : Cert.Ff1RefIdeal.Read.val_main_v2 (F := Ideal) (m ((c : Thread nD τ).loc main_arg0)) (m ((c : Thread nD τ).loc main_arg1)) = (dats m 0 c).arrAt 2 cfg0.N := by
  rw [final2, show argA m c = m ((c : Thread nD τ).loc main_arg0) from V_main_arg0 m c, show argB m c = m ((c : Thread nD τ).loc main_arg1) from V_main_arg1 m c]
  funext i
  show Cert.Ff1RefIdeal.Read.val_main_v1 (F := Ideal) (m ((c : Thread nD τ).loc main_arg0)) (m ((c : Thread nD τ).loc main_arg1)) i = _
  rw [Cert.Ff1RefIdeal.Read.val_main_v1_apply]
  refine Finset.sum_congr rfl fun l _ => ?_
  refine congrArg₂ (fun u v : EReal => u * v) ?_ ?_
  · exact congrArg (m ((c : Thread nD τ).loc main_arg0)) ((eq_ix2 _).trans rfl)
  · exact congrArg (m ((c : Thread nD τ).loc main_arg1)) ((eq_ix2 _).trans rfl)

/-- The reference's result, at the kernel's arguments, is what the kernel leaves. -/
theorem ref3_eq : Cert.Ff1RefIdeal.Read.val_main_v5 (F := Ideal) (m ((c : Thread nD τ).loc main_arg0)) (m ((c : Thread nD τ).loc main_arg1)) = (dats m 0 c).arrAt 3 cfg0.N := by
  rw [final3, show argA m c = m ((c : Thread nD τ).loc main_arg0) from V_main_arg0 m c, show argB m c = m ((c : Thread nD τ).loc main_arg1) from V_main_arg1 m c]
  funext i
  show max (Cert.Ff1RefIdeal.Read.val_main_v1 (F := Ideal) (m ((c : Thread nD τ).loc main_arg0)) (m ((c : Thread nD τ).loc main_arg1)) i) (Ideal.ofBits .f32 0x00000000#32)
    * max (Cert.Ff1RefIdeal.Read.val_main_v1 (F := Ideal) (m ((c : Thread nD τ).loc main_arg0)) (m ((c : Thread nD τ).loc main_arg1)) i) (Ideal.ofBits .f32 0x00000000#32) = _
  rw [Ideal.ofBits_zero_f32, Cert.Ff1RefIdeal.Read.val_main_v1_apply]
  refine congrArg (fun s : EReal => max s 0 * max s 0) ?_
  refine Finset.sum_congr rfl fun l _ => ?_
  refine congrArg₂ (fun u v : EReal => u * v) ?_ ?_
  · exact congrArg (m ((c : Thread nD τ).loc main_arg0)) ((eq_ix2 _).trans rfl)
  · exact congrArg (m ((c : Thread nD τ).loc main_arg1)) ((eq_ix2 _).trans rfl)

theorem value : Cert.algebraic_Ff1Ideal_Ff1RefIdeal (hFf1Ideal := Cert.Ff1Ideal.Gen.facts) (hFf1RefIdeal := Cert.Ff1RefIdeal.Gen.facts) := by
  intro m g m' g' _ hargs
  refine ⟨fun c => (dats m 0 c).arrAt 2 cfg0.N, fun c => (dats m 0 c).arrAt 3 cfg0.N, run_holds m g, ?_⟩
  refine (θ_run _ _ _).mono (fun r h c => ?_) (Cert.Ff1RefIdeal.Value.run m' g')
  obtain ⟨a0, a1⟩ := hargs c
  obtain ⟨r0, r1, rest⟩ := h c
  refine ⟨r0.trans ?_, r1.trans ?_, rest⟩
  · rw [Cert.Ff1RefIdeal.Read.val_main_v2_eq, a0, a1]
    exact ref2_eq m c
  · rw [Cert.Ff1RefIdeal.Read.val_main_v5_eq, a0, a1]
    exact ref3_eq m c

theorem reference_frame : Cert.quiescent_Ff1RefIdeal (hFf1RefIdeal := Cert.Ff1RefIdeal.Gen.facts) := by
  intro m g _
  exact (θ_run _ _ _).mono (fun r h => ⟨fun c => (h c).2.2, sem_eq_zero_of_no_sems (by decide) r.2⟩) (Cert.Ff1RefIdeal.Value.run m g)

end Cert.Ff1Ideal.Prod

end
-- ==== Proof.Ff2.lean ====
/- The feed-forward's second half: its steps' sums make one product, added to the residual stream as in the reference. -/
module

public import proofs.«01_k».proof.Defs
public import proofs.«01_k».proof.Proof.Gen.Ff2Ideal.Frame
public import proofs.«01_k».proof.Proof.Gen.Ff2RefIdeal.Run
public import proofs.«01_k».proof.Proof.Gen.Ff2RefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.Ff2Ideal.Prod

open Cert.Ff2Ideal Cert.Ff2Ideal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x512.Idx) : k0_pay1 (F := Ideal) y = 0 := by
  rw [eq_ix2 y]
  pointwise [k0_pay1]

theorem pay2_apply (acc : FVec Ideal S1024x512 .f32) (a : FVec Ideal S1024x2048 .bf16) (b : FVec Ideal S2048x512 .f32) (y : S1024x512.Idx) :
    k0_pay2 (F := Ideal) acc a b y = acc y + ∑ r : Fin 2048, a (ix2 (y 0) r) * b (ix2 r (y 1)) := by
  rw [eq_ix2 y]
  pointwise [k0_pay2, dot_S1024x2048_S2048x512_S1024x512_1_0_0_1_n_n]

theorem pay3_apply (acc : FVec Ideal S1024x512 .f32) (x0 : FVec Ideal S1024x512 .f32) (y : S1024x512.Idx) :
    k0_pay3 (F := Ideal) acc x0 y = acc y + x0 y := by
  rw [eq_ix2 y]
  pointwise [k0_pay3]

/-! ## The accumulation -/

abbrev blkA (t : Fin cfg0.N) : FVec Ideal S1024x2048 .bf16 := iblk m c 0 t
abbrev blkB (t : Fin cfg0.N) : FVec Ideal S2048x512 .f32 := iblk m c 1 t

abbrev blkT0 (t : Fin cfg0.N) : FVec Ideal S1024x512 .f32 := iblk m c 2 t

/-- At the last step of a run the accumulator holds the sum of the run's block products. -/
theorem acc_eq (t : Fin cfg0.N) (hr : t.val % 2 = 2 - 1) (y : S1024x512.Idx) :
    (outsAt0 m c t.val t.isLt).2 y = 0 + ∑ s : Fin 2, ∑ r : Fin 2048,
      blkA m c ⟨2 * (t.val / 2) + s.val, Pipeline.run_point_lt_of_flush t hr s⟩ (ix2 (y 0) r) * blkB m c ⟨2 * (t.val / 2) + s.val, Pipeline.run_point_lt_of_flush t hr s⟩ (ix2 r (y 1)) := by
  rw [Pipeline.eq_sum_fin_of_reset_step_apply_of_flush (fun n h => (outsAt0 m c n h).2) 2 (fun _ => 0) _
      (fun t h j => by rw [outsAt0_A m c t h (by omega)]; frame_out; rw [pay2_apply, pay1_apply])
      (fun t h j => by
        rw [outsAt0_B m c t h (by omega)]; frame_out; rw [pay2_apply, (Memref.isWhole_whole _).read_unread]) t hr y]

theorem out3_eq (t : Fin cfg0.N) (hr : t.val % 2 = 1) (y : S1024x512.Idx) :
    (outsAt0 m c t.val t.isLt).1 y = (outsAt0 m c t.val t.isLt).2 y + blkT0 m c t y := by
  rw [outsAt0_B m c t (by omega) hr]
  frame_out
  rw [pay3_apply]

/-! ## The whole arrays -/

abbrev argA : FVec Ideal S4096x4096 .bf16 := V m c main_arg0
abbrev argB : FVec Ideal S4096x1024 .f32 := V m c main_arg1
abbrev argT0 : FVec Ideal S4096x1024 .f32 := V m c main_arg2

theorem idx0 : ∀ t : Fin cfg0.N, win0_0.index t = ![t.val / 4, t.val % 2] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 4, t.val / 2 % 2] := (by decide +kernel : ∀ t : Fin grid0.N, _)
theorem idx3 : ∀ t : Fin cfg0.N, win0_3.index t = ![t.val / 4, t.val / 2 % 2] := (by decide +kernel : ∀ t : Fin grid0.N, _)

/-- What the launch leaves in the result. -/
theorem final3 : (dats m 0 c).arrAt 3 cfg0.N = fun i => (∑ l : Fin 4096, argA m c (ix2 (i 0) l) * argB m c (ix2 l (i 1))) + argT0 m c i := by
  refine (dats m 0 c).arrAt_eq_of_covers 3 _ (by decide +kernel) fun t hf y => ?_
  have hr := (flush0_3 t).mp hf
  blk_simp
  rw [after0_3, out3_eq m c t hr, acc_eq m c t hr, zero_add]
  refine congrArg₂ (fun u v : EReal => u + v) ?_ ?_
  · refine Fin.sum_mul_add_congr fun s r hl => ?_
    have hs := s.isLt
    congr 1
    · show V m c main_arg0 _ = V m c main_arg0 _
      congr 1
      blk_ext [idx0, idx3]
    · show V m c main_arg1 _ = V m c main_arg1 _
      congr 1
      blk_ext [idx1, idx3]
  · show V m c main_arg2 _ = V m c main_arg2 _
    congr 1
    blk_ext [idx2, idx3]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 3, h.1 c⟩) (θ_run_and (unchanged m ρ) (run_main m ρ))

/-- The reference's result, at the kernel's arguments, is what the kernel leaves. -/
theorem ref3_eq : Cert.Ff2RefIdeal.Read.val_main_v2 (F := Ideal) (m ((c : Thread nD τ).loc main_arg0)) (m ((c : Thread nD τ).loc main_arg1)) (m ((c : Thread nD τ).loc main_arg2)) = (dats m 0 c).arrAt 3 cfg0.N := by
  rw [final3, show argA m c = m ((c : Thread nD τ).loc main_arg0) from V_main_arg0 m c, show argB m c = m ((c : Thread nD τ).loc main_arg1) from V_main_arg1 m c, show argT0 m c = m ((c : Thread nD τ).loc main_arg2) from V_main_arg2 m c]
  funext i
  rw [Cert.Ff2RefIdeal.Read.val_main_v2_apply, Cert.Ff2RefIdeal.Read.val_main_v1_apply]
  refine (add_comm _ _).trans (congrArg₂ (fun u v : EReal => u + v) ?_ rfl)
  · refine Finset.sum_congr rfl fun l _ => ?_
    refine congrArg₂ (fun u v : EReal => u * v) ?_ ?_
    · exact congrArg (m ((c : Thread nD τ).loc main_arg0)) ((eq_ix2 _).trans rfl)
    · exact congrArg (m ((c : Thread nD τ).loc main_arg1)) ((eq_ix2 _).trans rfl)

theorem value : Cert.algebraic_Ff2Ideal_Ff2RefIdeal (hFf2Ideal := Cert.Ff2Ideal.Gen.facts) (hFf2RefIdeal := Cert.Ff2RefIdeal.Gen.facts) := by
  intro m g m' g' _ hargs
  refine ⟨fun c => (dats m 0 c).arrAt 3 cfg0.N, run_holds m g, ?_⟩
  refine (θ_run _ _ _).mono (fun r h c => ?_) (Cert.Ff2RefIdeal.Value.run m' g')
  obtain ⟨a0, a1, a2⟩ := hargs c
  obtain ⟨r0, rest⟩ := h c
  refine ⟨r0.trans ?_, rest⟩
  rw [Cert.Ff2RefIdeal.Read.val_main_v2_eq, a0, a1, a2]
  exact ref3_eq m c

theorem reference_frame : Cert.quiescent_Ff2RefIdeal (hFf2RefIdeal := Cert.Ff2RefIdeal.Gen.facts) := by
  intro m g _
  exact (θ_run _ _ _).mono (fun r h => ⟨fun c => (h c).2, sem_eq_zero_of_no_sems (by decide) r.2⟩) (Cert.Ff2RefIdeal.Value.run m g)

end Cert.Ff2Ideal.Prod

end
-- ==== Proof.OutProj.lean ====
/- The output projection: block by block the reference's product, added to the residual stream. -/
module

public import proofs.«01_k».proof.Defs
public import proofs.«01_k».proof.Proof.Gen.OutProjIdeal.Frame
public import proofs.«01_k».proof.Proof.Gen.OutProjRefIdeal.Run
public import proofs.«01_k».proof.Proof.Gen.OutProjRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.OutProjIdeal.Prod

open Cert.OutProjIdeal Cert.OutProjIdeal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x512.Idx) : k0_pay1 (F := Ideal) y = 0 := by
  rw [eq_ix2 y]
  pointwise [k0_pay1]

theorem pay2_apply (acc : FVec Ideal S1024x512 .f32) (a : FVec Ideal S1024x1024 .f32) (b : FVec Ideal S1024x512 .f32) (y : S1024x512.Idx) :
    k0_pay2 (F := Ideal) acc a b y = acc y + ∑ r : Fin 1024, a (ix2 (y 0) r) * b (ix2 r (y 1)) := by
  rw [eq_ix2 y]
  pointwise [k0_pay2, dot_S1024x1024_S1024x512_S1024x512_1_0_0_1_n_n]

theorem pay3_apply (acc : FVec Ideal S1024x512 .f32) (x0 : FVec Ideal S1024x512 .f32) (y : S1024x512.Idx) :
    k0_pay3 (F := Ideal) acc x0 y = acc y + x0 y := by
  rw [eq_ix2 y]
  pointwise [k0_pay3]

/-! ## The accumulation -/

abbrev blkA (t : Fin cfg0.N) : FVec Ideal S1024x1024 .f32 := iblk m c 0 t
abbrev blkB (t : Fin cfg0.N) : FVec Ideal S1024x512 .f32 := iblk m c 1 t

abbrev blkT0 (t : Fin cfg0.N) : FVec Ideal S1024x512 .f32 := iblk m c 2 t

theorem out3_eq (t : Fin cfg0.N) (y : S1024x512.Idx) :
    (outsAt0 m c t) y = (∑ r : Fin 1024, blkA m c t (ix2 (y 0) r) * blkB m c t (ix2 r (y 1))) + blkT0 m c t y := by
  unfold outsAt0
  frame_out
  rw [pay3_apply, pay2_apply, pay1_apply, zero_add]

/-! ## The whole arrays -/

abbrev argA : FVec Ideal S4096x1024 .f32 := V m c main_arg0
abbrev argB : FVec Ideal S1024x1024 .f32 := V m c main_arg1
abbrev argT0 : FVec Ideal S4096x1024 .f32 := V m c main_arg2

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)

/-- What the launch leaves in the result. -/
theorem final3 : (dats m 0 c).arrAt 3 cfg0.N = fun i => (∑ l : Fin 1024, argA m c (ix2 (i 0) l) * argB m c (ix2 l (i 1))) + argT0 m c i := by
  refine (dats m 0 c).arrAt_eq_of_covers 3 _ (by decide +kernel) fun t hf y => ?_
  blk_simp
  rw [after0_3, out3_eq m c t]
  refine congrArg₂ (fun u v : EReal => u + v) ?_ ?_
  · show (_ : EReal) = _
    refine Finset.sum_congr rfl fun r _ => ?_
    congr 1
    · show V m c main_arg0 _ = V m c main_arg0 _
      congr 1
      blk_ext [idx0, idx3]
    · show V m c main_arg1 _ = V m c main_arg1 _
      congr 1
      blk_ext [idx1, idx3]
  · show V m c main_arg2 _ = V m c main_arg2 _
    congr 1
    blk_ext [idx2, idx3]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h.2 c).1 3, h.1 c⟩) (θ_run_and (unchanged m ρ) (run_main m ρ))

/-- The reference's result, at the kernel's arguments, is what the kernel leaves. -/
theorem ref3_eq : Cert.OutProjRefIdeal.Read.val_main_v1 (F := Ideal) (m ((c : Thread nD τ).loc main_arg0)) (m ((c : Thread nD τ).loc main_arg1)) (m ((c : Thread nD τ).loc main_arg2)) = (dats m 0 c).arrAt 3 cfg0.N := by
  rw [final3, show argA m c = m ((c : Thread nD τ).loc main_arg0) from V_main_arg0 m c, show argB m c = m ((c : Thread nD τ).loc main_arg1) from V_main_arg1 m c, show argT0 m c = m ((c : Thread nD τ).loc main_arg2) from V_main_arg2 m c]
  funext i
  rw [Cert.OutProjRefIdeal.Read.val_main_v1_apply, Cert.OutProjRefIdeal.Read.val_main_v0_apply]
  refine (add_comm _ _).trans (congrArg₂ (fun u v : EReal => u + v) ?_ rfl)
  · refine Finset.sum_congr rfl fun l _ => ?_
    refine congrArg₂ (fun u v : EReal => u * v) ?_ ?_
    · exact congrArg (m ((c : Thread nD τ).loc main_arg0)) ((eq_ix2 _).trans rfl)
    · exact congrArg (m ((c : Thread nD τ).loc main_arg1)) ((eq_ix2 _).trans rfl)

theorem value : Cert.algebraic_OutProjIdeal_OutProjRefIdeal (hOutProjIdeal := Cert.OutProjIdeal.Gen.facts) (hOutProjRefIdeal := Cert.OutProjRefIdeal.Gen.facts) := by
  intro m g m' g' _ hargs
  refine ⟨fun c => (dats m 0 c).arrAt 3 cfg0.N, run_holds m g, ?_⟩
  refine (θ_run _ _ _).mono (fun r h c => ?_) (Cert.OutProjRefIdeal.Value.run m' g')
  obtain ⟨a0, a1, a2⟩ := hargs c
  obtain ⟨r0, rest⟩ := h c
  refine ⟨r0.trans ?_, rest⟩
  rw [Cert.OutProjRefIdeal.Read.val_main_v1_eq, a0, a1, a2]
  exact ref3_eq m c

theorem reference_frame : Cert.quiescent_OutProjRefIdeal (hOutProjRefIdeal := Cert.OutProjRefIdeal.Gen.facts) := by
  intro m g _
  exact (θ_run _ _ _).mono (fun r h => ⟨fun c => (h c).2, sem_eq_zero_of_no_sems (by decide) r.2⟩) (Cert.OutProjRefIdeal.Value.run m g)

end Cert.OutProjIdeal.Prod

end
-- ==== Proof.PleEmb.lean ====
/- The layer embedding's projection: block by block the reference's product. -/
module

public import proofs.«01_k».proof.Defs
public import proofs.«01_k».proof.Proof.Gen.PleEmbIdeal.Frame
public import proofs.«01_k».proof.Proof.Gen.PleEmbRefIdeal.Run
public import proofs.«01_k».proof.Proof.Gen.PleEmbRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.PleEmbIdeal.Prod

open Cert.PleEmbIdeal Cert.PleEmbIdeal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x1024.Idx) : k0_pay1 (F := Ideal) y = 0 := by
  rw [eq_ix2 y]
  pointwise [k0_pay1]

theorem pay2_apply (acc : FVec Ideal S1024x1024 .f32) (a : FVec Ideal S1024x256 .f32) (b : FVec Ideal S256x1024 .f32) (y : S1024x1024.Idx) :
    k0_pay2 (F := Ideal) acc a b y = acc y + ∑ r : Fin 256, a (ix2 (y 0) r) * b (ix2 r (y 1)) := by
  rw [eq_ix2 y]
  pointwise [k0_pay2, dot_S1024x256_S256x1024_S1024x1024_1_0_0_1_n_n]

/-! ## The accumulation -/

abbrev blkA (t : Fin cfg0.N) : FVec Ideal S1024x256 .f32 := iblk m c 0 t
abbrev blkB (t : Fin cfg0.N) : FVec Ideal S256x1024 .f32 := iblk m c 1 t

theorem out2_eq (t : Fin cfg0.N) (y : S1024x1024.Idx) :
    (outsAt0 m c t) y = (∑ r : Fin 256, blkA m c t (ix2 (y 0) r) * blkB m c t (ix2 r (y 1))) := by
  unfold outsAt0
  frame_out
  rw [pay2_apply, pay1_apply, zero_add]

/-! ## The whole arrays -/

abbrev argA : FVec Ideal S4096x256 .f32 := V m c main_arg0
abbrev argB : FVec Ideal S256x1024 .f32 := V m c main_arg1

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- What the launch leaves in the result. -/
theorem final2 : (dats m 0 c).arrAt 2 cfg0.N = fun i => (∑ l : Fin 256, argA m c (ix2 (i 0) l) * argB m c (ix2 l (i 1))) := by
  refine (dats m 0 c).arrAt_eq_of_covers 2 _ (by decide +kernel) fun t hf y => ?_
  blk_simp
  rw [after0_2, out2_eq m c t]
  show (_ : EReal) = _
  refine Finset.sum_congr rfl fun r _ => ?_
  congr 1
  · show V m c main_arg0 _ = V m c main_arg0 _
    congr 1
    blk_ext [idx0, idx2]
  · show V m c main_arg1 _ = V m c main_arg1 _
    congr 1
    blk_ext [idx1, idx2]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h.2 c).1 2, h.1 c⟩) (θ_run_and (unchanged m ρ) (run_main m ρ))

/-- The reference's result, at the kernel's arguments, is what the kernel leaves. -/
theorem ref2_eq : Cert.PleEmbRefIdeal.Read.val_main_v0 (F := Ideal) (m ((c : Thread nD τ).loc main_arg0)) (m ((c : Thread nD τ).loc main_arg1)) = (dats m 0 c).arrAt 2 cfg0.N := by
  rw [final2, show argA m c = m ((c : Thread nD τ).loc main_arg0) from V_main_arg0 m c, show argB m c = m ((c : Thread nD τ).loc main_arg1) from V_main_arg1 m c]
  funext i
  rw [Cert.PleEmbRefIdeal.Read.val_main_v0_apply]
  refine Finset.sum_congr rfl fun l _ => ?_
  refine congrArg₂ (fun u v : EReal => u * v) ?_ ?_
  · exact congrArg (m ((c : Thread nD τ).loc main_arg0)) ((eq_ix2 _).trans rfl)
  · exact congrArg (m ((c : Thread nD τ).loc main_arg1)) ((eq_ix2 _).trans rfl)

theorem value : Cert.algebraic_PleEmbIdeal_PleEmbRefIdeal (hPleEmbIdeal := Cert.PleEmbIdeal.Gen.facts) (hPleEmbRefIdeal := Cert.PleEmbRefIdeal.Gen.facts) := by
  intro m g m' g' _ hargs
  refine ⟨fun c => (dats m 0 c).arrAt 2 cfg0.N, run_holds m g, ?_⟩
  refine (θ_run _ _ _).mono (fun r h c => ?_) (Cert.PleEmbRefIdeal.Value.run m' g')
  obtain ⟨a0, a1⟩ := hargs c
  obtain ⟨r0, rest⟩ := h c
  refine ⟨r0.trans ?_, rest⟩
  rw [Cert.PleEmbRefIdeal.Read.val_main_v0_eq, a0, a1]
  exact ref2_eq m c

theorem reference_frame : Cert.quiescent_PleEmbRefIdeal (hPleEmbRefIdeal := Cert.PleEmbRefIdeal.Gen.facts) := by
  intro m g _
  exact (θ_run _ _ _).mono (fun r h => ⟨fun c => (h c).2, sem_eq_zero_of_no_sems (by decide) r.2⟩) (Cert.PleEmbRefIdeal.Value.run m g)

end Cert.PleEmbIdeal.Prod

end
-- ==== Proof.PleGate.lean ====
/- The layer embedding's gate: block by block what the reference computes. -/
module

public import proofs.«01_k».proof.Defs
public import proofs.«01_k».proof.Proof.Gen.PleGateIdeal.Frame
public import proofs.«01_k».proof.Proof.Gen.PleGateRefIdeal.Run
public import proofs.«01_k».proof.Proof.Gen.PleGateRefIdeal.Read
public import Idealize.ShloMosaic.Lib.StableHlo.RunRead
public import Idealize.ShloMosaic.Lib.Claim
public import Idealize.ShloMosaic.Lib.Pointwise
public import Idealize.ShloMosaic.Lib.Pipeline.ValueKit.Acc
public import Idealize.ShloMosaic.Lib.Pipeline.ValueKit.Geometry

@[expose] public section

noncomputable section

namespace Cert.PleGateIdeal.Prod

open Cert.PleGateIdeal Cert.PleGateIdeal.Gen Idealize.ShloMosaic Idealize.ShloMosaic.TcCoe Idealize.SL.Sem

variable (m : (ℓ : Loc nD τ sig) → Buf (Elt Ideal) ℓ) (c : Dev nD)

/-! ## The step's operations at one entry -/

theorem pay1_apply (y : S1024x512.Idx) : k0_pay1 (F := Ideal) y = 0 := by
  rw [eq_ix2 y]
  pointwise [k0_pay1]

theorem pay2_apply (acc : FVec Ideal S1024x512 .f32) (a : FVec Ideal S1024x1024 .bf16) (b : FVec Ideal S1024x512 .f32) (y : S1024x512.Idx) :
    k0_pay2 (F := Ideal) acc a b y = acc y + ∑ r : Fin 1024, a (ix2 (y 0) r) * b (ix2 r (y 1)) := by
  rw [eq_ix2 y]
  pointwise [k0_pay2, dot_S1024x1024_S1024x512_S1024x512_1_0_0_1_n_n]

theorem pay3_apply (acc : FVec Ideal S1024x512 .f32) (x0 : FVec Ideal S1024x512 .f32) (x1 : FVec Ideal S1024x512 .f32) (y : S1024x512.Idx) :
    k0_pay3 (F := Ideal) acc x0 x1 y = x1 y + x0 y * Ideal.div 1 (1 + Ideal.exp (0 - acc y)) := by
  rw [eq_ix2 y]
  pointwise [k0_pay3]

theorem pay4_apply (acc : FVec Ideal S1024x512 .f32)  (y : S1024x512.Idx) :
    k0_pay4 (F := Ideal) acc y = Ideal.div 1 (1 + Ideal.exp (0 - acc y)) := by
  rw [eq_ix2 y]
  pointwise [k0_pay4]

/-! ## The accumulation -/

abbrev blkA (t : Fin cfg0.N) : FVec Ideal S1024x1024 .bf16 := iblk m c 0 t
abbrev blkB (t : Fin cfg0.N) : FVec Ideal S1024x512 .f32 := iblk m c 1 t

abbrev blkT0 (t : Fin cfg0.N) : FVec Ideal S1024x512 .f32 := iblk m c 2 t

abbrev blkT1 (t : Fin cfg0.N) : FVec Ideal S1024x512 .f32 := iblk m c 3 t

theorem out4_eq (t : Fin cfg0.N) (y : S1024x512.Idx) :
    (outsAt0 m c t).1 y = blkT1 m c t y + blkT0 m c t y * Ideal.div 1 (1 + Ideal.exp (0 - (∑ r : Fin 1024, blkA m c t (ix2 (y 0) r) * blkB m c t (ix2 r (y 1))))) := by
  unfold outsAt0
  frame_out
  rw [pay3_apply, pay2_apply, pay1_apply, zero_add]

theorem out5_eq (t : Fin cfg0.N) (y : S1024x512.Idx) :
    (outsAt0 m c t).2 y = Ideal.div 1 (1 + Ideal.exp (0 - (∑ r : Fin 1024, blkA m c t (ix2 (y 0) r) * blkB m c t (ix2 r (y 1))))) := by
  unfold outsAt0
  frame_out
  rw [pay4_apply, pay2_apply, pay1_apply, zero_add]

/-! ## The whole arrays -/

abbrev argA : FVec Ideal S4096x1024 .bf16 := V m c main_arg0
abbrev argB : FVec Ideal S1024x1024 .f32 := V m c main_arg1
abbrev argT0 : FVec Ideal S4096x1024 .f32 := V m c main_arg2
abbrev argT1 : FVec Ideal S4096x1024 .f32 := V m c main_arg3

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)
theorem idx4 : ∀ t : Fin cfg0.N, win0_4.index t = ![t.val / 2, t.val % 2] := (by decide +kernel : ∀ t : Fin grid0.N, _)
theorem idx5 : ∀ t : Fin cfg0.N, win0_5.index t = ![t.val / 2, t.val % 2] := (by decide +kernel : ∀ t : Fin grid0.N, _)

/-- What the launch leaves in the result. -/
theorem final4 : (dats m 0 c).arrAt 4 cfg0.N = fun i => argT1 m c i + argT0 m c i * Ideal.div 1 (1 + Ideal.exp (0 - (∑ l : Fin 1024, argA m c (ix2 (i 0) l) * argB m c (ix2 l (i 1))))) := by
  refine (dats m 0 c).arrAt_eq_of_covers 4 _ (by decide +kernel) fun t hf y => ?_
  blk_simp
  rw [after0_4, out4_eq m c t]
  refine congrArg₂ (fun u v : EReal => u + v) ?_ (congrArg₂ (fun u v : EReal => u * v) ?_ (congrArg (fun s : EReal => Ideal.div 1 (1 + Ideal.exp (0 - s))) ?_))
  · show V m c main_arg3 _ = V m c main_arg3 _
    congr 1
    blk_ext [idx3, idx4]
  · show V m c main_arg2 _ = V m c main_arg2 _
    congr 1
    blk_ext [idx2, idx4]
  · show (_ : EReal) = _
    refine Finset.sum_congr rfl fun r _ => ?_
    congr 1
    · show V m c main_arg0 _ = V m c main_arg0 _
      congr 1
      blk_ext [idx0, idx4]
    · show V m c main_arg1 _ = V m c main_arg1 _
      congr 1
      blk_ext [idx1, idx4]

/-- What the launch leaves in the result. -/
theorem final5 : (dats m 0 c).arrAt 5 cfg0.N = fun i => Ideal.div 1 (1 + Ideal.exp (0 - (∑ l : Fin 1024, argA m c (ix2 (i 0) l) * argB m c (ix2 l (i 1))))) := by
  refine (dats m 0 c).arrAt_eq_of_covers 5 _ (by decide +kernel) fun t hf y => ?_
  blk_simp
  rw [after0_5, out5_eq m c t]
  refine congrArg (fun s : EReal => Ideal.div 1 (1 + Ideal.exp (0 - s))) ?_
  show (_ : EReal) = _
  refine Finset.sum_congr rfl fun r _ => ?_
  congr 1
  · show V m c main_arg0 _ = V m c main_arg0 _
    congr 1
    blk_ext [idx0, idx5]
  · show V m c main_arg1 _ = V m c main_arg1 _
    congr 1
    blk_ext [idx1, idx5]

/-- The kernel runs to its end, its results at the launch's arrays and its arguments unchanged. -/
theorem run_holds (ρ : Dev nD → PrngReg) : θ_run (defs (F := Ideal)) (onTc (τ := τ) (main (F := Ideal))) ⟨m, fun _ => 0, ρ⟩ (fun r => ∀ c : Dev nD,
    r.2.mem ((c : Thread nD τ).loc main_v0_0) = (dats m 0 c).arrAt 4 cfg0.N
      ∧ r.2.mem ((c : Thread nD τ).loc main_v0_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨(h.2 c).1 4, (h.2 c).1 5, h.1 c⟩) (θ_run_and (unchanged m ρ) (run_main m ρ))

/-- The reference's gate at one entry. -/
theorem gate_eq (x : FVec Ideal S4096x1024 .bf16) (w : FVec Ideal S1024x1024 .f32) (i : S4096x1024.Idx) :
    Cert.PleGateRefIdeal.Read.val_main_v7 (F := Ideal) x w i
      = Ideal.div 1 (1 + Ideal.exp (0 - ∑ l : Fin 1024, x (ix2 (i 0) l) * w (ix2 l (i 1)))) := by
  show Ideal.div (Ideal.ofBits .f32 0x3F800000#32) (Ideal.ofBits .f32 0x3F800000#32
    + Ideal.exp (-(Cert.PleGateRefIdeal.Read.val_main_v1 (F := Ideal) x w i))) = _
  rw [Ideal.ofBits_one_f32, zero_sub, Cert.PleGateRefIdeal.Read.val_main_v1_apply]
  refine congrArg (fun s : EReal => Ideal.div 1 (1 + Ideal.exp (-s))) ?_
  refine Finset.sum_congr rfl fun l _ => ?_
  refine congrArg₂ (fun u v : EReal => u * v) ?_ ?_
  · exact congrArg x ((eq_ix2 _).trans rfl)
  · exact congrArg w ((eq_ix2 _).trans rfl)

/-- The reference's result, at the kernel's arguments, is what the kernel leaves. -/
theorem ref4_eq : Cert.PleGateRefIdeal.Read.val_main_v9 (F := Ideal) (m ((c : Thread nD τ).loc main_arg0)) (m ((c : Thread nD τ).loc main_arg1)) (m ((c : Thread nD τ).loc main_arg2)) (m ((c : Thread nD τ).loc main_arg3)) = (dats m 0 c).arrAt 4 cfg0.N := by
  rw [final4, show argA m c = m ((c : Thread nD τ).loc main_arg0) from V_main_arg0 m c, show argB m c = m ((c : Thread nD τ).loc main_arg1) from V_main_arg1 m c, show argT0 m c = m ((c : Thread nD τ).loc main_arg2) from V_main_arg2 m c, show argT1 m c = m ((c : Thread nD τ).loc main_arg3) from V_main_arg3 m c]
  funext i
  exact congrArg₂ (fun u v : EReal => u + v) rfl (congrArg₂ (fun u v : EReal => u * v) rfl (gate_eq _ _ i))

/-- The reference's result, at the kernel's arguments, is what the kernel leaves. -/
theorem ref5_eq : Cert.PleGateRefIdeal.Read.val_main_v7 (F := Ideal) (m ((c : Thread nD τ).loc main_arg0)) (m ((c : Thread nD τ).loc main_arg1)) = (dats m 0 c).arrAt 5 cfg0.N := by
  rw [final5, show argA m c = m ((c : Thread nD τ).loc main_arg0) from V_main_arg0 m c, show argB m c = m ((c : Thread nD τ).loc main_arg1) from V_main_arg1 m c]
  funext i
  exact gate_eq _ _ i

theorem value : Cert.algebraic_PleGateIdeal_PleGateRefIdeal (hPleGateIdeal := Cert.PleGateIdeal.Gen.facts) (hPleGateRefIdeal := Cert.PleGateRefIdeal.Gen.facts) := by
  intro m g m' g' _ hargs
  refine ⟨fun c => (dats m 0 c).arrAt 4 cfg0.N, fun c => (dats m 0 c).arrAt 5 cfg0.N, run_holds m g, ?_⟩
  refine (θ_run _ _ _).mono (fun r h c => ?_) (Cert.PleGateRefIdeal.Value.run m' g')
  obtain ⟨a0, a1, a2, a3⟩ := hargs c
  obtain ⟨r0, r1, rest⟩ := h c
  refine ⟨r0.trans ?_, r1.trans ?_, rest⟩
  · rw [Cert.PleGateRefIdeal.Read.val_main_v9_eq, a0, a1, a2, a3]
    exact ref4_eq m c
  · rw [Cert.PleGateRefIdeal.Read.val_main_v7_eq, a0, a1]
    exact ref5_eq m c

theorem reference_frame : Cert.quiescent_PleGateRefIdeal (hPleGateRefIdeal := Cert.PleGateRefIdeal.Gen.facts) := by
  intro m g _
  exact (θ_run _ _ _).mono (fun r h => ⟨fun c => (h c).2.2, sem_eq_zero_of_no_sems (by decide) r.2⟩) (Cert.PleGateRefIdeal.Value.run m g)

end Cert.PleGateIdeal.Prod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_scores
public import proofs.«01_k».proof.Proof.Frames
public import proofs.«01_k».proof.Proof.Result
public import proofs.«01_k».proof.Proof.Join
public import proofs.«01_k».proof.Proof.Finite
public import Idealize.ShloMosaic.Adequacy
public import Idealize.ShloMosaic.Init
public import proofs.«01_k».proof.Proof.Gen.DWff2
public import proofs.«01_k».proof.Proof.Gen.DWff2.Frame
public import proofs.«01_k».proof.Proof.Gen.DWff2Ideal
public import proofs.«01_k».proof.Proof.Gen.DWff2Ideal.Frame
public import proofs.«01_k».proof.Proof.Gen.DWff2RefIdeal
public import proofs.«01_k».proof.Proof.Gen.DWff2RefIdeal.Run
public import proofs.«01_k».proof.Proof.Gen.DWff2RefIdeal.Read
public import proofs.«01_k».proof.Proof.Gen.DAff
public import proofs.«01_k».proof.Proof.Gen.DAff.Frame
public import proofs.«01_k».proof.Proof.Gen.DAffIdeal
public import proofs.«01_k».proof.Proof.Gen.DAffIdeal.Frame
public import proofs.«01_k».proof.Proof.Gen.DAffRefIdeal
public import proofs.«01_k».proof.Proof.Gen.DAffRefIdeal.Run
public import proofs.«01_k».proof.Proof.Gen.DAffRefIdeal.Read
public import proofs.«01_k».proof.Proof.Gen.DWff1
public import proofs.«01_k».proof.Proof.Gen.DWff1.Frame
public import proofs.«01_k».proof.Proof.Gen.DWff1Ideal
public import proofs.«01_k».proof.Proof.Gen.DWff1Ideal.Frame
public import proofs.«01_k».proof.Proof.Gen.DWff1RefIdeal
public import proofs.«01_k».proof.Proof.Gen.DWff1RefIdeal.Run
public import proofs.«01_k».proof.Proof.Gen.DWff1RefIdeal.Read
public import proofs.«01_k».proof.Proof.Gen.DH2
public import proofs.«01_k».proof.Proof.Gen.DH2.Frame
public import proofs.«01_k».proof.Proof.Gen.DH2Ideal
public import proofs.«01_k».proof.Proof.Gen.DH2Ideal.Frame
public import proofs.«01_k».proof.Proof.Gen.DH2RefIdeal
public import proofs.«01_k».proof.Proof.Gen.DH2RefIdeal.Run
public import proofs.«01_k».proof.Proof.Gen.DH2RefIdeal.Read
public import proofs.«01_k».proof.Proof.Gen.DWout
public import proofs.«01_k».proof.Proof.Gen.DWout.Frame
public import proofs.«01_k».proof.Proof.Gen.DWoutIdeal
public import proofs.«01_k».proof.Proof.Gen.DWoutIdeal.Frame
public import proofs.«01_k».proof.Proof.Gen.DWoutRefIdeal
public import proofs.«01_k».proof.Proof.Gen.DWoutRefIdeal.Run
public import proofs.«01_k».proof.Proof.Gen.DWoutRefIdeal.Read
public import proofs.«01_k».proof.Proof.Gen.DMerged
public import proofs.«01_k».proof.Proof.Gen.DMerged.Frame
public import proofs.«01_k».proof.Proof.Gen.DMergedIdeal
public import proofs.«01_k».proof.Proof.Gen.DMergedIdeal.Frame
public import proofs.«01_k».proof.Proof.Gen.DMergedRefIdeal
public import proofs.«01_k».proof.Proof.Gen.DMergedRefIdeal.Run
public import proofs.«01_k».proof.Proof.Gen.DMergedRefIdeal.Read
public import proofs.«01_k».proof.Proof.Gen.DWpleGate
public import proofs.«01_k».proof.Proof.Gen.DWpleGate.Frame
public import proofs.«01_k».proof.Proof.Gen.DWpleGateIdeal
public import proofs.«01_k».proof.Proof.Gen.DWpleGateIdeal.Frame
public import proofs.«01_k».proof.Proof.Gen.DWpleGateRefIdeal
public import proofs.«01_k».proof.Proof.Gen.DWpleGateRefIdeal.Run
public import proofs.«01_k».proof.Proof.Gen.DWpleGateRefIdeal.Read
public import proofs.«01_k».proof.Proof.Gen.DH3
public import proofs.«01_k».proof.Proof.Gen.DH3.Frame
public import proofs.«01_k».proof.Proof.Gen.DH3Ideal
public import proofs.«01_k».proof.Proof.Gen.DH3Ideal.Frame
public import proofs.«01_k».proof.Proof.Gen.DH3RefIdeal
public import proofs.«01_k».proof.Proof.Gen.DH3RefIdeal.Run
public import proofs.«01_k».proof.Proof.Gen.DH3RefIdeal.Read
public import proofs.«01_k».proof.Proof.Gen.DWple
public import proofs.«01_k».proof.Proof.Gen.DWple.Frame
public import proofs.«01_k».proof.Proof.Gen.DWpleIdeal
public import proofs.«01_k».proof.Proof.Gen.DWpleIdeal.Frame
public import proofs.«01_k».proof.Proof.Gen.DWpleRefIdeal
public import proofs.«01_k».proof.Proof.Gen.DWpleRefIdeal.Run
public import proofs.«01_k».proof.Proof.Gen.DWpleRefIdeal.Read
public import proofs.«01_k».proof.Proof.Gen.DWbranch
public import proofs.«01_k».proof.Proof.Gen.DWbranch.Frame
public import proofs.«01_k».proof.Proof.Gen.DWbranchIdeal
public import proofs.«01_k».proof.Proof.Gen.DWbranchIdeal.Frame
public import proofs.«01_k».proof.Proof.Gen.DWbranchRefIdeal
public import proofs.«01_k».proof.Proof.Gen.DWbranchRefIdeal.Run
public import proofs.«01_k».proof.Proof.Gen.DWbranchRefIdeal.Read
public import proofs.«01_k».proof.Proof.Gen.DWbranch3
public import proofs.«01_k».proof.Proof.Gen.DWbranch3.Frame
public import proofs.«01_k».proof.Proof.Gen.DWbranch3Ideal
public import proofs.«01_k».proof.Proof.Gen.DWbranch3Ideal.Frame
public import proofs.«01_k».proof.Proof.Gen.DWbranch3RefIdeal
public import proofs.«01_k».proof.Proof.Gen.DWbranch3RefIdeal.Run
public import proofs.«01_k».proof.Proof.Gen.DWbranch3RefIdeal.Read
public import proofs.«01_k».proof.Proof.Gen.PoolMm
public import proofs.«01_k».proof.Proof.Gen.PoolMm.Frame
public import proofs.«01_k».proof.Proof.Gen.PoolMmIdeal
public import proofs.«01_k».proof.Proof.Gen.PoolMmIdeal.Frame
public import proofs.«01_k».proof.Proof.Gen.PoolMmRefIdeal
public import proofs.«01_k».proof.Proof.Gen.PoolMmRefIdeal.Run
public import proofs.«01_k».proof.Proof.Gen.PoolMmRefIdeal.Read
public import proofs.«01_k».proof.Proof.Gen.LruMm
public import proofs.«01_k».proof.Proof.Gen.LruMm.Frame
public import proofs.«01_k».proof.Proof.Gen.LruMmIdeal
public import proofs.«01_k».proof.Proof.Gen.LruMmIdeal.Frame
public import proofs.«01_k».proof.Proof.Gen.LruMmRefIdeal
public import proofs.«01_k».proof.Proof.Gen.LruMmRefIdeal.Run
public import proofs.«01_k».proof.Proof.Gen.LruMmRefIdeal.Read
public import proofs.«01_k».proof.Proof.Gen.DXc
public import proofs.«01_k».proof.Proof.Gen.DXc.Frame
public import proofs.«01_k».proof.Proof.Gen.DXcIdeal
public import proofs.«01_k».proof.Proof.Gen.DXcIdeal.Frame
public import proofs.«01_k».proof.Proof.Gen.DXcRefIdeal
public import proofs.«01_k».proof.Proof.Gen.DXcRefIdeal.Run
public import proofs.«01_k».proof.Proof.Gen.DXcRefIdeal.Read
public import proofs.«01_k».proof.Proof.Gen.DWpool
public import proofs.«01_k».proof.Proof.Gen.DWpool.Frame
public import proofs.«01_k».proof.Proof.Gen.DWpoolIdeal
public import proofs.«01_k».proof.Proof.Gen.DWpoolIdeal.Frame
public import proofs.«01_k».proof.Proof.Gen.DWpoolRefIdeal
public import proofs.«01_k».proof.Proof.Gen.DWpoolRefIdeal.Run
public import proofs.«01_k».proof.Proof.Gen.DWpoolRefIdeal.Read
public import proofs.«01_k».proof.Proof.Gen.DPoolD
public import proofs.«01_k».proof.Proof.Gen.DPoolD.Frame
public import proofs.«01_k».proof.Proof.Gen.DPoolDIdeal
public import proofs.«01_k».proof.Proof.Gen.DPoolDIdeal.Frame
public import proofs.«01_k».proof.Proof.Gen.DPoolDRefIdeal
public import proofs.«01_k».proof.Proof.Gen.DPoolDRefIdeal.Run
public import proofs.«01_k».proof.Proof.Gen.DPoolDRefIdeal.Read
public import proofs.«01_k».proof.Proof.Gen.DLruW
public import proofs.«01_k».proof.Proof.Gen.DLruW.Frame
public import proofs.«01_k».proof.Proof.Gen.DLruWIdeal
public import proofs.«01_k».proof.Proof.Gen.DLruWIdeal.Frame
public import proofs.«01_k».proof.Proof.Gen.DLruWRefIdeal
public import proofs.«01_k».proof.Proof.Gen.DLruWRefIdeal.Run
public import proofs.«01_k».proof.Proof.Gen.DLruWRefIdeal.Read
public import proofs.«01_k».proof.Proof.Gen.DWbranch0
public import proofs.«01_k».proof.Proof.Gen.DWbranch0.Frame
public import proofs.«01_k».proof.Proof.Gen.DWbranch0Ideal
public import proofs.«01_k».proof.Proof.Gen.DWbranch0Ideal.Frame
public import proofs.«01_k».proof.Proof.Gen.DWbranch0RefIdeal
public import proofs.«01_k».proof.Proof.Gen.DWbranch0RefIdeal.Run
public import proofs.«01_k».proof.Proof.Gen.DWbranch0RefIdeal.Read
public import proofs.«01_k».proof.Proof.Gen.DYa
public import proofs.«01_k».proof.Proof.Gen.DYa.Frame
public import proofs.«01_k».proof.Proof.Gen.DYaIdeal
public import proofs.«01_k».proof.Proof.Gen.DYaIdeal.Frame
public import proofs.«01_k».proof.Proof.Gen.DYaRefIdeal
public import proofs.«01_k».proof.Proof.Gen.DYaRefIdeal.Run
public import proofs.«01_k».proof.Proof.Gen.DYaRefIdeal.Read
public import proofs.«01_k».proof.Proof.Gen.DYc
public import proofs.«01_k».proof.Proof.Gen.DYc.Frame
public import proofs.«01_k».proof.Proof.Gen.DYcIdeal
public import proofs.«01_k».proof.Proof.Gen.DYcIdeal.Frame
public import proofs.«01_k».proof.Proof.Gen.DYcRefIdeal
public import proofs.«01_k».proof.Proof.Gen.DYcRefIdeal.Run
public import proofs.«01_k».proof.Proof.Gen.DYcRefIdeal.Read
public import proofs.«01_k».proof.Proof.Gen.DYb
public import proofs.«01_k».proof.Proof.Gen.DYb.Frame
public import proofs.«01_k».proof.Proof.Gen.DYbIdeal
public import proofs.«01_k».proof.Proof.Gen.DYbIdeal.Frame
public import proofs.«01_k».proof.Proof.Gen.DYbRefIdeal
public import proofs.«01_k».proof.Proof.Gen.DYbRefIdeal.Run
public import proofs.«01_k».proof.Proof.Gen.DYbRefIdeal.Read
public import proofs.«01_k».proof.Proof.Gen.DWin
public import proofs.«01_k».proof.Proof.Gen.DWin.Frame
public import proofs.«01_k».proof.Proof.Gen.DWinIdeal
public import proofs.«01_k».proof.Proof.Gen.DWinIdeal.Frame
public import proofs.«01_k».proof.Proof.Gen.DWinRefIdeal
public import proofs.«01_k».proof.Proof.Gen.DWinRefIdeal.Run
public import proofs.«01_k».proof.Proof.Gen.DWinRefIdeal.Read
public import proofs.«01_k».proof.Proof.Gen.DH
public import proofs.«01_k».proof.Proof.Gen.DH.Frame
public import proofs.«01_k».proof.Proof.Gen.DHIdeal
public import proofs.«01_k».proof.Proof.Gen.DHIdeal.Frame
public import proofs.«01_k».proof.Proof.Gen.DHRefIdeal
public import proofs.«01_k».proof.Proof.Gen.DHRefIdeal.Run
public import proofs.«01_k».proof.Proof.Gen.DHRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.DWuq
public import proofs.«01_k».proof.Proof.Gen.DWuq.Frame
public import proofs.«01_k».proof.Proof.Gen.DWuqIdeal
public import proofs.«01_k».proof.Proof.Gen.DWuqIdeal.Frame
public import proofs.«01_k».proof.Proof.Gen.DWuqRefIdeal
public import proofs.«01_k».proof.Proof.Gen.DWuqRefIdeal.Run
public import proofs.«01_k».proof.Proof.Gen.DWuqRefIdeal.Read
public import proofs.«01_k».proof.Proof.Gen.DCqn
public import proofs.«01_k».proof.Proof.Gen.DCqn.Frame
public import proofs.«01_k».proof.Proof.Gen.DCqnIdeal
public import proofs.«01_k».proof.Proof.Gen.DCqnIdeal.Frame
public import proofs.«01_k».proof.Proof.Gen.DCqnRefIdeal
public import proofs.«01_k».proof.Proof.Gen.DCqnRefIdeal.Run
public import proofs.«01_k».proof.Proof.Gen.DCqnRefIdeal.Read
public import proofs.«01_k».proof.Proof.Gen.DWukv
public import proofs.«01_k».proof.Proof.Gen.DWukv.Frame
public import proofs.«01_k».proof.Proof.Gen.DWukvIdeal
public import proofs.«01_k».proof.Proof.Gen.DWukvIdeal.Frame
public import proofs.«01_k».proof.Proof.Gen.DWukvRefIdeal
public import proofs.«01_k».proof.Proof.Gen.DWukvRefIdeal.Run
public import proofs.«01_k».proof.Proof.Gen.DWukvRefIdeal.Read
public import proofs.«01_k».proof.Proof.Gen.DCkvn
public import proofs.«01_k».proof.Proof.Gen.DCkvn.Frame
public import proofs.«01_k».proof.Proof.Gen.DCkvnIdeal
public import proofs.«01_k».proof.Proof.Gen.DCkvnIdeal.Frame
public import proofs.«01_k».proof.Proof.Gen.DCkvnRefIdeal
public import proofs.«01_k».proof.Proof.Gen.DCkvnRefIdeal.Run
public import proofs.«01_k».proof.Proof.Gen.DCkvnRefIdeal.Read
public import proofs.«01_k».proof.Proof.Gen.Uq
public import proofs.«01_k».proof.Proof.Gen.Uq.Frame
public import proofs.«01_k».proof.Proof.Gen.UqIdeal
public import proofs.«01_k».proof.Proof.Gen.UqIdeal.Frame
public import proofs.«01_k».proof.Proof.Gen.UqRefIdeal
public import proofs.«01_k».proof.Proof.Gen.UqRefIdeal.Run
public import proofs.«01_k».proof.Proof.Gen.UqRefIdeal.Read
public import proofs.«01_k».proof.Proof.Gen.Ukv
public import proofs.«01_k».proof.Proof.Gen.Ukv.Frame
public import proofs.«01_k».proof.Proof.Gen.UkvIdeal
public import proofs.«01_k».proof.Proof.Gen.UkvIdeal.Frame
public import proofs.«01_k».proof.Proof.Gen.UkvRefIdeal
public import proofs.«01_k».proof.Proof.Gen.UkvRefIdeal.Run
public import proofs.«01_k».proof.Proof.Gen.UkvRefIdeal.Read
public import proofs.«01_k».proof.Proof.Gen.BranchMerge
public import proofs.«01_k».proof.Proof.Gen.BranchMerge.Frame
public import proofs.«01_k».proof.Proof.Gen.BranchMergeIdeal
public import proofs.«01_k».proof.Proof.Gen.BranchMergeIdeal.Frame
public import proofs.«01_k».proof.Proof.Gen.BranchMergeRefIdeal
public import proofs.«01_k».proof.Proof.Gen.BranchMergeRefIdeal.Run
public import proofs.«01_k».proof.Proof.Gen.BranchMergeRefIdeal.Read
public import proofs.«01_k».proof.Proof.Gen.FlashFwd
public import proofs.«01_k».proof.Proof.Gen.FlashFwd.Frame
public import proofs.«01_k».proof.Proof.Gen.FlashFwdIdeal
public import proofs.«01_k».proof.Proof.Gen.FlashFwdIdeal.Frame
public import proofs.«01_k».proof.Proof.Gen.FlashFwdRefIdeal
public import proofs.«01_k».proof.Proof.Gen.FlashFwdRefIdeal.Run
public import proofs.«01_k».proof.Proof.Gen.FlashFwdRefIdeal.Read
public import proofs.«01_k».proof.Proof.Gen.Ff1
public import proofs.«01_k».proof.Proof.Gen.Ff1.Frame
public import proofs.«01_k».proof.Proof.Gen.Ff1Ideal
public import proofs.«01_k».proof.Proof.Gen.Ff1Ideal.Frame
public import proofs.«01_k».proof.Proof.Gen.Ff1RefIdeal
public import proofs.«01_k».proof.Proof.Gen.Ff1RefIdeal.Run
public import proofs.«01_k».proof.Proof.Gen.Ff1RefIdeal.Read
public import proofs.«01_k».proof.Proof.Gen.Ff2
public import proofs.«01_k».proof.Proof.Gen.Ff2.Frame
public import proofs.«01_k».proof.Proof.Gen.Ff2Ideal
public import proofs.«01_k».proof.Proof.Gen.Ff2Ideal.Frame
public import proofs.«01_k».proof.Proof.Gen.Ff2RefIdeal
public import proofs.«01_k».proof.Proof.Gen.Ff2RefIdeal.Run
public import proofs.«01_k».proof.Proof.Gen.Ff2RefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.PleEmb
public import proofs.«01_k».proof.Proof.Gen.PleEmb.Frame
public import proofs.«01_k».proof.Proof.Gen.PleEmbIdeal
public import proofs.«01_k».proof.Proof.Gen.PleEmbIdeal.Frame
public import proofs.«01_k».proof.Proof.Gen.PleEmbRefIdeal
public import proofs.«01_k».proof.Proof.Gen.PleEmbRefIdeal.Run
public import proofs.«01_k».proof.Proof.Gen.PleEmbRefIdeal.Read
public import proofs.«01_k».proof.Proof.Gen.PleGate
public import proofs.«01_k».proof.Proof.Gen.PleGate.Frame
public import proofs.«01_k».proof.Proof.Gen.PleGateIdeal
public import proofs.«01_k».proof.Proof.Gen.PleGateIdeal.Frame
public import proofs.«01_k».proof.Proof.Gen.PleGateRefIdeal
public import proofs.«01_k».proof.Proof.Gen.PleGateRefIdeal.Run
public import proofs.«01_k».proof.Proof.Gen.PleGateRefIdeal.Read
public import proofs.«01_k».proof.Proof.DWff2
public import proofs.«01_k».proof.Proof.DAff
public import proofs.«01_k».proof.Proof.DWff1
public import proofs.«01_k».proof.Proof.DH2
public import proofs.«01_k».proof.Proof.DWout
public import proofs.«01_k».proof.Proof.DMerged
public import proofs.«01_k».proof.Proof.DWpleGate
public import proofs.«01_k».proof.Proof.DH3
public import proofs.«01_k».proof.Proof.DWple
public import proofs.«01_k».proof.Proof.DWbranch
public import proofs.«01_k».proof.Proof.DWbranch3
public import proofs.«01_k».proof.Proof.DWbranch0
public import proofs.«01_k».proof.Proof.DYa
public import proofs.«01_k».proof.Proof.DYc
public import proofs.«01_k».proof.Proof.DYb
public import proofs.«01_k».proof.Proof.DWin
public import proofs.«01_k».proof.Proof.DH
public import proofs.«01_k».proof.Proof.InProj
public import proofs.«01_k».proof.Proof.DWuq
public import proofs.«01_k».proof.Proof.DCqn
public import proofs.«01_k».proof.Proof.DWukv
public import proofs.«01_k».proof.Proof.DCkvn
public import proofs.«01_k».proof.Proof.Uq
public import proofs.«01_k».proof.Proof.Ukv
public import proofs.«01_k».proof.Proof.BranchMerge
public import proofs.«01_k».proof.Proof.DWpool
public import proofs.«01_k».proof.Proof.DPoolD
public import proofs.«01_k».proof.Proof.DLruW
public import proofs.«01_k».proof.Proof.PoolMm
public import proofs.«01_k».proof.Proof.LruMm
public import proofs.«01_k».proof.Proof.DXc
public import proofs.«01_k».proof.Proof.FlashFwd
public import proofs.«01_k».proof.Proof.Ff1
public import proofs.«01_k».proof.Proof.Ff2
public import proofs.«01_k».proof.Proof.OutProj
public import proofs.«01_k».proof.Proof.PleEmb
public import proofs.«01_k».proof.Proof.PleGate

@[expose] public section

noncomputable section

namespace Cert.Proof

open Idealize.ShloMosaic Idealize.SL.Sem Cert.Kernel

/-- The reference runs to its composed terms, leaves the arguments alone, and every counter is zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, sem_eq_zero_of_no_sems (by decide) r.2⟩) (Cert.ReferenceIdeal.Value.run m g)

/-- The kernel's gradients are the reference's. -/
theorem value : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hargs
  refine ⟨Cert.KernelIdeal.Sweep.res0 m, Cert.KernelIdeal.Sweep.res1 m, Cert.KernelIdeal.Sweep.res2 m, Cert.KernelIdeal.Sweep.run_holds m g, ?_⟩
  refine (θ_run _ _ _).mono (fun r h c => ?_) (Cert.ReferenceIdeal.Value.run m' g')
  obtain ⟨a0, a1, a2, a3⟩ := hargs c
  obtain ⟨h0, h1, h2, h3⟩ := Cert.Attn.holds_of_fn (hpre c)
  have hm : Cert.Attn.HoldsMax _ _ fun hh R => (Cert.Attn.v15_real h0 h1 hh R).choose := fun hh R => (Cert.Attn.v15_real h0 h1 hh R).choose_spec
  obtain ⟨r0, r1, r2, rest⟩ := h c
  refine ⟨r0.trans ?_, r1.trans ?_, r2.trans ?_, rest⟩
  · rw [Cert.ReferenceIdeal.Read.val_main_v74_eq, a0, a1, a2, a3]
    unfold Cert.KernelIdeal.Sweep.res0 Cert.KernelIdeal.Sweep.aQ Cert.KernelIdeal.Sweep.aK Cert.KernelIdeal.Sweep.aV Cert.KernelIdeal.Sweep.aO Cert.KernelIdeal.Sweep.aL Cert.KernelIdeal.Sweep.aD
    rw [Cert.KernelIdeal.Sweep.V_main_v35, Cert.KernelIdeal.Sweep.V_main_v36, Cert.KernelIdeal.Sweep.V_main_v38, Cert.KernelIdeal.Gen.V_main_arg1, Cert.KernelIdeal.Gen.V_main_arg2, Cert.KernelIdeal.Gen.V_main_arg3]
    exact (Cert.Attn.dq_eq h0 h1 hm h2 h3).symm
  · rw [Cert.ReferenceIdeal.Read.val_main_v73_eq, a0, a1, a2, a3]
    unfold Cert.KernelIdeal.Sweep.res1 Cert.KernelIdeal.Sweep.aQ Cert.KernelIdeal.Sweep.aK Cert.KernelIdeal.Sweep.aV Cert.KernelIdeal.Sweep.aO Cert.KernelIdeal.Sweep.aL Cert.KernelIdeal.Sweep.aD
    rw [Cert.KernelIdeal.Sweep.V_main_v35, Cert.KernelIdeal.Sweep.V_main_v36, Cert.KernelIdeal.Sweep.V_main_v38, Cert.KernelIdeal.Gen.V_main_arg1, Cert.KernelIdeal.Gen.V_main_arg2, Cert.KernelIdeal.Gen.V_main_arg3]
    exact (Cert.Attn.dk_eq h0 h1 hm h2 h3).symm
  · rw [Cert.ReferenceIdeal.Read.val_main_v53_eq, a0, a1, a3]
    unfold Cert.KernelIdeal.Sweep.res2 Cert.KernelIdeal.Sweep.aQ Cert.KernelIdeal.Sweep.aK Cert.KernelIdeal.Sweep.aO Cert.KernelIdeal.Sweep.aL
    rw [Cert.KernelIdeal.Sweep.V_main_v35, Cert.KernelIdeal.Sweep.V_main_v36, Cert.KernelIdeal.Gen.V_main_arg1, Cert.KernelIdeal.Gen.V_main_arg3]
    exact (Cert.Attn.dv_eq h0 h1 hm h3).symm

theorem claim : Cert.Claim :=
  ⟨Cert.Kernel.Gen.facts, Cert.KernelIdeal.Gen.facts, Cert.ReferenceIdeal.Gen.facts,
    Cert.DWff2.Gen.facts, Cert.DWff2Ideal.Gen.facts, Cert.DWff2RefIdeal.Gen.facts,
    Cert.DAff.Gen.facts, Cert.DAffIdeal.Gen.facts, Cert.DAffRefIdeal.Gen.facts,
    Cert.DWff1.Gen.facts, Cert.DWff1Ideal.Gen.facts, Cert.DWff1RefIdeal.Gen.facts,
    Cert.DH2.Gen.facts, Cert.DH2Ideal.Gen.facts, Cert.DH2RefIdeal.Gen.facts,
    Cert.DWout.Gen.facts, Cert.DWoutIdeal.Gen.facts, Cert.DWoutRefIdeal.Gen.facts,
    Cert.DMerged.Gen.facts, Cert.DMergedIdeal.Gen.facts, Cert.DMergedRefIdeal.Gen.facts,
    Cert.DWpleGate.Gen.facts, Cert.DWpleGateIdeal.Gen.facts, Cert.DWpleGateRefIdeal.Gen.facts,
    Cert.DH3.Gen.facts, Cert.DH3Ideal.Gen.facts, Cert.DH3RefIdeal.Gen.facts,
    Cert.DWple.Gen.facts, Cert.DWpleIdeal.Gen.facts, Cert.DWpleRefIdeal.Gen.facts,
    Cert.DWbranch.Gen.facts, Cert.DWbranchIdeal.Gen.facts, Cert.DWbranchRefIdeal.Gen.facts,
    Cert.DWbranch3.Gen.facts, Cert.DWbranch3Ideal.Gen.facts, Cert.DWbranch3RefIdeal.Gen.facts,
    Cert.DWbranch0.Gen.facts, Cert.DWbranch0Ideal.Gen.facts, Cert.DWbranch0RefIdeal.Gen.facts,
    Cert.DYa.Gen.facts, Cert.DYaIdeal.Gen.facts, Cert.DYaRefIdeal.Gen.facts,
    Cert.DYc.Gen.facts, Cert.DYcIdeal.Gen.facts, Cert.DYcRefIdeal.Gen.facts,
    Cert.DYb.Gen.facts, Cert.DYbIdeal.Gen.facts, Cert.DYbRefIdeal.Gen.facts,
    Cert.DWin.Gen.facts, Cert.DWinIdeal.Gen.facts, Cert.DWinRefIdeal.Gen.facts,
    Cert.DH.Gen.facts, Cert.DHIdeal.Gen.facts, Cert.DHRefIdeal.Gen.facts,
    Cert.InProj.Gen.facts, Cert.InProjIdeal.Gen.facts, Cert.InProjRefIdeal.Gen.facts,
    Cert.DWuq.Gen.facts, Cert.DWuqIdeal.Gen.facts, Cert.DWuqRefIdeal.Gen.facts,
    Cert.DCqn.Gen.facts, Cert.DCqnIdeal.Gen.facts, Cert.DCqnRefIdeal.Gen.facts,
    Cert.DWukv.Gen.facts, Cert.DWukvIdeal.Gen.facts, Cert.DWukvRefIdeal.Gen.facts,
    Cert.DCkvn.Gen.facts, Cert.DCkvnIdeal.Gen.facts, Cert.DCkvnRefIdeal.Gen.facts,
    Cert.Uq.Gen.facts, Cert.UqIdeal.Gen.facts, Cert.UqRefIdeal.Gen.facts,
    Cert.Ukv.Gen.facts, Cert.UkvIdeal.Gen.facts, Cert.UkvRefIdeal.Gen.facts,
    Cert.BranchMerge.Gen.facts, Cert.BranchMergeIdeal.Gen.facts, Cert.BranchMergeRefIdeal.Gen.facts,
    Cert.DWpool.Gen.facts, Cert.DWpoolIdeal.Gen.facts, Cert.DWpoolRefIdeal.Gen.facts,
    Cert.DPoolD.Gen.facts, Cert.DPoolDIdeal.Gen.facts, Cert.DPoolDRefIdeal.Gen.facts,
    Cert.DLruW.Gen.facts, Cert.DLruWIdeal.Gen.facts, Cert.DLruWRefIdeal.Gen.facts,
    Cert.PoolMm.Gen.facts, Cert.PoolMmIdeal.Gen.facts, Cert.PoolMmRefIdeal.Gen.facts,
    Cert.LruMm.Gen.facts, Cert.LruMmIdeal.Gen.facts, Cert.LruMmRefIdeal.Gen.facts,
    Cert.DXc.Gen.facts, Cert.DXcIdeal.Gen.facts, Cert.DXcRefIdeal.Gen.facts,
    Cert.FlashFwd.Gen.facts, Cert.FlashFwdIdeal.Gen.facts, Cert.FlashFwdRefIdeal.Gen.facts,
    Cert.Ff1.Gen.facts, Cert.Ff1Ideal.Gen.facts, Cert.Ff1RefIdeal.Gen.facts,
    Cert.Ff2.Gen.facts, Cert.Ff2Ideal.Gen.facts, Cert.Ff2RefIdeal.Gen.facts,
    Cert.OutProj.Gen.facts, Cert.OutProjIdeal.Gen.facts, Cert.OutProjRefIdeal.Gen.facts,
    Cert.PleEmb.Gen.facts, Cert.PleEmbIdeal.Gen.facts, Cert.PleEmbRefIdeal.Gen.facts,
    Cert.PleGate.Gen.facts, Cert.PleGateIdeal.Gen.facts, Cert.PleGateRefIdeal.Gen.facts,
    Cert.Pre_finite.Gen.facts, Cert.Pre_finite_scores.Gen.facts,
    fun m g _ => Cert.Kernel.Sweep.frame_holds (F := Bits) m g, fun m g _ => Cert.KernelIdeal.Sweep.frame_holds m g, fun m g _ => Cert.KernelIdeal.Sweep.frame_holds m g,
    fun m g _ => reference_frame m g, fun m g _ => reference_frame m g,
    fun m g _ => Cert.DWff2.Gen.frame (F := Bits) m g, fun m g _ => Cert.DWff2Ideal.Gen.frame m g, Cert.DWff2Ideal.Prod.reference_frame,
    fun m g _ => Cert.DAff.Gen.frame (F := Bits) m g, fun m g _ => Cert.DAffIdeal.Gen.frame m g, Cert.DAffIdeal.Prod.reference_frame,
    fun m g _ => Cert.DWff1.Gen.frame (F := Bits) m g, fun m g _ => Cert.DWff1Ideal.Gen.frame m g, Cert.DWff1Ideal.Prod.reference_frame,
    fun m g _ => Cert.DH2.Gen.frame (F := Bits) m g, fun m g _ => Cert.DH2Ideal.Gen.frame m g, Cert.DH2Ideal.Prod.reference_frame,
    fun m g _ => Cert.DWout.Gen.frame (F := Bits) m g, fun m g _ => Cert.DWoutIdeal.Gen.frame m g, Cert.DWoutIdeal.Prod.reference_frame,
    fun m g _ => Cert.DMerged.Gen.frame (F := Bits) m g, fun m g _ => Cert.DMergedIdeal.Gen.frame m g, Cert.DMergedIdeal.Prod.reference_frame,
    fun m g _ => Cert.DWpleGate.Gen.frame (F := Bits) m g, fun m g _ => Cert.DWpleGateIdeal.Gen.frame m g, Cert.DWpleGateIdeal.Prod.reference_frame,
    fun m g _ => Cert.DH3.Gen.frame (F := Bits) m g, fun m g _ => Cert.DH3Ideal.Gen.frame m g, Cert.DH3Ideal.Prod.reference_frame,
    fun m g _ => Cert.DWple.Gen.frame (F := Bits) m g, fun m g _ => Cert.DWpleIdeal.Gen.frame m g, Cert.DWpleIdeal.Prod.reference_frame,
    fun m g _ => Cert.DWbranch.Gen.frame (F := Bits) m g, fun m g _ => Cert.DWbranchIdeal.Gen.frame m g, Cert.DWbranchIdeal.Prod.reference_frame,
    fun m g _ => Cert.DWbranch3.Gen.frame (F := Bits) m g, fun m g _ => Cert.DWbranch3Ideal.Gen.frame m g, Cert.DWbranch3Ideal.Prod.reference_frame,
    fun m g _ => Cert.DWbranch0.Gen.frame (F := Bits) m g, fun m g _ => Cert.DWbranch0Ideal.Gen.frame m g, Cert.DWbranch0Ideal.Prod.reference_frame,
    fun m g _ => Cert.DYa.Gen.frame (F := Bits) m g, fun m g _ => Cert.DYaIdeal.Gen.frame m g, Cert.DYaIdeal.Prod.reference_frame,
    fun m g _ => Cert.DYc.Gen.frame (F := Bits) m g, fun m g _ => Cert.DYcIdeal.Gen.frame m g, Cert.DYcIdeal.Prod.reference_frame,
    fun m g _ => Cert.DYb.Gen.frame (F := Bits) m g, fun m g _ => Cert.DYbIdeal.Gen.frame m g, Cert.DYbIdeal.Prod.reference_frame,
    fun m g _ => Cert.DWin.Gen.frame (F := Bits) m g, fun m g _ => Cert.DWinIdeal.Gen.frame m g, Cert.DWinIdeal.Prod.reference_frame,
    fun m g _ => Cert.DH.Gen.frame (F := Bits) m g, fun m g _ => Cert.DHIdeal.Gen.frame m g, Cert.DHIdeal.Prod.reference_frame,
    fun m g _ => Cert.InProj.Gen.frame (F := Bits) m g, fun m g _ => Cert.InProjIdeal.Gen.frame m g, Cert.InProjIdeal.Prod.reference_frame,
    fun m g _ => Cert.DWuq.Gen.frame (F := Bits) m g, fun m g _ => Cert.DWuqIdeal.Gen.frame m g, Cert.DWuqIdeal.Prod.reference_frame,
    fun m g _ => Cert.DCqn.Gen.frame (F := Bits) m g, fun m g _ => Cert.DCqnIdeal.Gen.frame m g, Cert.DCqnIdeal.Prod.reference_frame,
    fun m g _ => Cert.DWukv.Gen.frame (F := Bits) m g, fun m g _ => Cert.DWukvIdeal.Gen.frame m g, Cert.DWukvIdeal.Prod.reference_frame,
    fun m g _ => Cert.DCkvn.Gen.frame (F := Bits) m g, fun m g _ => Cert.DCkvnIdeal.Gen.frame m g, Cert.DCkvnIdeal.Prod.reference_frame,
    fun m g _ => Cert.Uq.Gen.frame (F := Bits) m g, fun m g _ => Cert.UqIdeal.Gen.frame m g, Cert.UqIdeal.Prod.reference_frame,
    fun m g _ => Cert.Ukv.Gen.frame (F := Bits) m g, fun m g _ => Cert.UkvIdeal.Gen.frame m g, Cert.UkvIdeal.Prod.reference_frame,
    fun m g _ => Cert.BranchMerge.Gen.frame (F := Bits) m g, fun m g _ => Cert.BranchMergeIdeal.Gen.frame m g, Cert.BranchMergeIdeal.Prod.reference_frame,
    fun m g _ => Cert.DWpool.Gen.frame (F := Bits) m g, fun m g _ => Cert.DWpoolIdeal.Gen.frame m g, Cert.DWpoolIdeal.Prod.reference_frame,
    fun m g _ => Cert.DPoolD.Gen.frame (F := Bits) m g, fun m g _ => Cert.DPoolDIdeal.Gen.frame m g, Cert.DPoolDIdeal.Prod.reference_frame,
    fun m g _ => Cert.DLruW.Gen.frame (F := Bits) m g, fun m g _ => Cert.DLruWIdeal.Gen.frame m g, Cert.DLruWIdeal.Prod.reference_frame,
    fun m g _ => Cert.PoolMm.Gen.frame (F := Bits) m g, fun m g _ => Cert.PoolMmIdeal.Gen.frame m g, Cert.PoolMmIdeal.Prod.reference_frame,
    fun m g _ => Cert.LruMm.Gen.frame (F := Bits) m g, fun m g _ => Cert.LruMmIdeal.Gen.frame m g, Cert.LruMmIdeal.Prod.reference_frame,
    fun m g _ => Cert.DXc.Gen.frame (F := Bits) m g, fun m g _ => Cert.DXcIdeal.Gen.frame m g, Cert.DXcIdeal.Prod.reference_frame,
    fun m g _ => Cert.FlashFwd.Gen.frame (F := Bits) m g, fun m g _ => Cert.FlashFwdIdeal.Gen.frame m g, fun m g _ => Cert.FlashFwdIdeal.Gen.frame m g,
    fun m g _ => Cert.FlashFwdIdeal.Prod.reference_frame m g, fun m g _ => Cert.FlashFwdIdeal.Prod.reference_frame m g,
    fun m g _ => Cert.Ff1.Gen.frame (F := Bits) m g, fun m g _ => Cert.Ff1Ideal.Gen.frame m g, Cert.Ff1Ideal.Prod.reference_frame,
    fun m g _ => Cert.Ff2.Gen.frame (F := Bits) m g, fun m g _ => Cert.Ff2Ideal.Gen.frame m g, Cert.Ff2Ideal.Prod.reference_frame,
    fun m g _ => Cert.OutProj.Gen.frame (F := Bits) m g, fun m g _ => Cert.OutProjIdeal.Gen.frame m g, Cert.OutProjIdeal.Prod.reference_frame,
    fun m g _ => Cert.PleEmb.Gen.frame (F := Bits) m g, fun m g _ => Cert.PleEmbIdeal.Gen.frame m g, Cert.PleEmbIdeal.Prod.reference_frame,
    fun m g _ => Cert.PleGate.Gen.frame (F := Bits) m g, fun m g _ => Cert.PleGateIdeal.Gen.frame m g, Cert.PleGateIdeal.Prod.reference_frame,
    trivial, value,
    trivial, Cert.DWff2Ideal.Prod.value,
    trivial, Cert.DAffIdeal.Prod.value,
    trivial, Cert.DWff1Ideal.Prod.value,
    trivial, Cert.DH2Ideal.Prod.value,
    trivial, Cert.DWoutIdeal.Prod.value,
    trivial, Cert.DMergedIdeal.Prod.value,
    trivial, Cert.DWpleGateIdeal.Prod.value,
    trivial, Cert.DH3Ideal.Prod.value,
    trivial, Cert.DWpleIdeal.Prod.value,
    trivial, Cert.DWbranchIdeal.Prod.value,
    trivial, Cert.DWbranch3Ideal.Prod.value,
    trivial, Cert.DWbranch0Ideal.Prod.value,
    trivial, Cert.DYaIdeal.Prod.value,
    trivial, Cert.DYcIdeal.Prod.value,
    trivial, Cert.DYbIdeal.Prod.value,
    trivial, Cert.DWinIdeal.Prod.value,
    trivial, Cert.DHIdeal.Prod.value,
    trivial, Cert.InProjIdeal.Prod.value,
    trivial, Cert.DWuqIdeal.Prod.value,
    trivial, Cert.DCqnIdeal.Prod.value,
    trivial, Cert.DWukvIdeal.Prod.value,
    trivial, Cert.DCkvnIdeal.Prod.value,
    trivial, Cert.UqIdeal.Prod.value,
    trivial, Cert.UkvIdeal.Prod.value,
    trivial, Cert.BranchMergeIdeal.Prod.value,
    trivial, Cert.DWpoolIdeal.Prod.value,
    trivial, Cert.DPoolDIdeal.Prod.value,
    trivial, Cert.DLruWIdeal.Prod.value,
    trivial, Cert.PoolMmIdeal.Prod.value,
    trivial, Cert.LruMmIdeal.Prod.value,
    trivial, Cert.DXcIdeal.Prod.value,
    trivial, Cert.FlashFwdIdeal.Prod.value,
    trivial, Cert.Ff1Ideal.Prod.value,
    trivial, Cert.Ff2Ideal.Prod.value,
    trivial, Cert.OutProjIdeal.Prod.value,
    trivial, Cert.PleEmbIdeal.Prod.value,
    trivial, Cert.PleGateIdeal.Prod.value⟩

end Cert.Proof

end
